-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def Claim : Prop :=
  ∃ (hKernel : Cert.Kernel.Facts) (hKernelIdeal : Cert.KernelIdeal.Facts) (hReferenceIdeal : Cert.ReferenceIdeal.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ algebraic_DownIdeal_DownReferenceIdeal (hDownIdeal := hDownIdeal) (hDownReferenceIdeal := hDownReferenceIdeal)
-- ==== Kernel.lean ====
abbrev S32x5120 : Shape := ⟨2, ![32, 5120]⟩
abbrev S5120 : Shape := ⟨1, ![5120]⟩
abbrev S13824x160x16 : Shape := ⟨3, ![13824, 160, 16]⟩
abbrev S13824x160 : Shape := ⟨2, ![13824, 160]⟩
abbrev S1x5120 : Shape := ⟨2, ![1, 5120]⟩
abbrev S160x16x13824 : Shape := ⟨3, ![160, 16, 13824]⟩
abbrev S2560x13824 : Shape := ⟨2, ![2560, 13824]⟩
abbrev S160x13824 : Shape := ⟨2, ![160, 13824]⟩
abbrev S32x13824 : Shape := ⟨2, ![32, 13824]⟩
abbrev S2x12x2560x128 : Shape := ⟨4, ![2, 12, 2560, 128]⟩
abbrev S2x12x160x128 : Shape := ⟨4, ![2, 12, 160, 128]⟩
abbrev S12x2x80x128 : Shape := ⟨4, ![12, 2, 80, 128]⟩
abbrev S7 : Shape := ⟨1, ![7]⟩
abbrev S2 : Shape := ⟨1, ![2]⟩
abbrev S1 : Shape := ⟨1, ![1]⟩
abbrev S_ : Shape := ⟨0, ![]⟩
abbrev S1x1x2560x128 : Shape := ⟨4, ![1, 1, 2560, 128]⟩
abbrev S2560x128 : Shape := ⟨2, ![2560, 128]⟩
abbrev S1x1x160x128 : Shape := ⟨4, ![1, 1, 160, 128]⟩
abbrev S160x128 : Shape := ⟨2, ![160, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x128x1 : Shape := ⟨3, ![32, 128, 1]⟩
abbrev S32x256 : Shape := ⟨2, ![32, 256]⟩
abbrev S1x1x16x128 : Shape := ⟨4, ![1, 1, 16, 128]⟩
abbrev S16x128 : Shape := ⟨2, ![16, 128]⟩
abbrev S8x2x128 : Shape := ⟨3, ![8, 2, 128]⟩
abbrev S8x1x128 : Shape := ⟨3, ![8, 1, 128]⟩
abbrev S8x128 : Shape := ⟨2, ![8, 128]⟩
abbrev S1x1x8x128 : Shape := ⟨4, ![1, 1, 8, 128]⟩
abbrev S1x1x32x128 : Shape := ⟨4, ![1, 1, 32, 128]⟩
abbrev S32x1x128 : Shape := ⟨3, ![32, 1, 128]⟩
abbrev S32x2x128 : Shape := ⟨3, ![32, 2, 128]⟩
abbrev S64x128 : Shape := ⟨2, ![64, 128]⟩
abbrev S256x128 : Shape := ⟨2, ![256, 128]⟩
abbrev S256x256 : Shape := ⟨2, ![256, 256]⟩
abbrev S32x432x16x2 : Shape := ⟨4, ![32, 432, 16, 2]⟩
abbrev S32x432x2x16 : Shape := ⟨4, ![32, 432, 2, 16]⟩

abbrev nBuf : Space → Nat
  | .hbm => 17
  | .vmem => 7
  | .smem => 0
  | _ => 0

abbrev bufTy : (tb : Table) → Fin (tcTables nBuf tb) → BufTy
  | .hbm, ⟨0, _⟩ => ⟨S32x5120, .f32⟩
  | .hbm, ⟨1, _⟩ => ⟨S5120, .bf16⟩
  | .hbm, ⟨2, _⟩ => ⟨S13824x160x16, .i8⟩
  | .hbm, ⟨3, _⟩ => ⟨S13824x160, .bf16⟩
  | .hbm, ⟨4, _⟩ => ⟨S13824x160x16, .i8⟩
  | .hbm, ⟨5, _⟩ => ⟨S13824x160, .bf16⟩
  | .hbm, ⟨6, _⟩ => ⟨S1x5120, .bf16⟩
  | .hbm, ⟨7, _⟩ => ⟨S160x16x13824, .i8⟩
  | .hbm, ⟨8, _⟩ => ⟨S2560x13824, .i8⟩
  | .hbm, ⟨9, _⟩ => ⟨S160x13824, .bf16⟩
  | .hbm, ⟨10, _⟩ => ⟨S160x16x13824, .i8⟩
  | .hbm, ⟨11, _⟩ => ⟨S2560x13824, .i8⟩
  | .hbm, ⟨12, _⟩ => ⟨S160x13824, .bf16⟩
  | .hbm, ⟨13, _⟩ => ⟨S32x13824, .bf16⟩
  | .hbm, ⟨14, _⟩ => ⟨S32x432x16x2, .bf16⟩
  | .hbm, ⟨15, _⟩ => ⟨S32x432x2x16, .bf16⟩
  | .hbm, ⟨16, _⟩ => ⟨S32x13824, .bf16⟩
  | .local _ .vmem, ⟨0, _⟩ => ⟨S32x5120, .f32⟩
  | .local _ .vmem, ⟨1, _⟩ => ⟨S32x13824, .bf16⟩
  | .local _ .vmem, ⟨2, _⟩ => ⟨S1x5120, .bf16⟩
  | .local _ .vmem, ⟨3, _⟩ => ⟨S2x12x2560x128, .i8⟩
  | .local _ .vmem, ⟨4, _⟩ => ⟨S2x12x160x128, .bf16⟩
  | .local _ .vmem, ⟨5, _⟩ => ⟨S12x2x80x128, .f32⟩
  | .local _ .vmem, ⟨6, _⟩ => ⟨S32x5120, .bf16⟩
  | _, _ => ⟨S32x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c0_i32_1 : BitVec 32 := 0#32
  c0_i32_1
def k0_mult8 : BitVec 32 :=
  let c128_i32_2 : BitVec 32 := 128#32
  c128_i32_2
def k0_mult9 : BitVec 32 :=
  let c256_i32_3 : BitVec 32 := 256#32
  c256_i32_3
def k0_mult10 : BitVec 32 :=
  let c384_i32_4 : BitVec 32 := 384#32
  c384_i32_4
def k0_mult11 : BitVec 32 :=
  let c512_i32_5 : BitVec 32 := 512#32
  c512_i32_5
def k0_mult12 : BitVec 32 :=
  let c640_i32_6 : BitVec 32 := 640#32
  c640_i32_6
def k0_mult13 : BitVec 32 :=
  let c768_i32 : BitVec 32 := 768#32
  c768_i32
def k0_mult14 : BitVec 32 :=
  let c896_i32 : BitVec 32 := 896#32
  c896_i32
def k0_mult15 : BitVec 32 :=
  let c1024_i32 : BitVec 32 := 1024#32
  c1024_i32
def k0_mult16 : BitVec 32 :=
  let c1152_i32 : BitVec 32 := 1152#32
  c1152_i32
def k0_mult17 : BitVec 32 :=
  let c1280_i32 : BitVec 32 := 1280#32
  c1280_i32
def k0_mult18 : BitVec 32 :=
  let c1408_i32 : BitVec 32 := 1408#32
  c1408_i32
def k0_mult19 : BitVec 32 :=
  let c768_i32_141 : BitVec 32 := 768#32
  c768_i32_141
def k0_mult20 : BitVec 32 :=
  let c896_i32_142 : BitVec 32 := 896#32
  c896_i32_142
def k0_mult21 : BitVec 32 :=
  let c1024_i32_143 : BitVec 32 := 1024#32
  c1024_i32_143
def k0_mult22 : BitVec 32 :=
  let c1152_i32_144 : BitVec 32 := 1152#32
  c1152_i32_144
def k0_mult23 : BitVec 32 :=
  let c1280_i32_145 : BitVec 32 := 1280#32
  c1280_i32_145
def k0_mult24 : BitVec 32 :=
  let c1408_i32_146 : BitVec 32 := 1408#32
  c1408_i32_146
@[reducible] def k0_t1_loop : Scf.Loop 32 :=
  let c0_i32_852 : BitVec 32 := 0#32
  let c18_i32 : BitVec 32 := 18#32
  let v1638 : BitVec 32 := Scalar.addi c0_i32_852 c18_i32
  let c1_i32_853 : BitVec 32 := 1#32
  ⟨c0_i32_852, v1638, c1_i32_853⟩
def k0_mult25 : BitVec 32 :=
  let c0_i32_856 : BitVec 32 := 0#32
  c0_i32_856
def k0_mult26 : BitVec 32 :=
  let c128_i32_857 : BitVec 32 := 128#32
  c128_i32_857
def k0_mult27 : BitVec 32 :=
  let c256_i32_858 : BitVec 32 := 256#32
  c256_i32_858
def k0_mult28 : BitVec 32 :=
  let c384_i32_859 : BitVec 32 := 384#32
  c384_i32_859
def k0_mult29 : BitVec 32 :=
  let c512_i32_860 : BitVec 32 := 512#32
  c512_i32_860
def k0_mult30 : BitVec 32 :=
  let c640_i32_861 : BitVec 32 := 640#32
  c640_i32_861
def k0_mult31 : BitVec 32 :=
  let c0_i32_862 : BitVec 32 := 0#32
  c0_i32_862
def k0_mult32 : BitVec 32 :=
  let c128_i32_863 : BitVec 32 := 128#32
  c128_i32_863
def k0_mult33 : BitVec 32 :=
  let c256_i32_864 : BitVec 32 := 256#32
  c256_i32_864
def k0_mult34 : BitVec 32 :=
  let c384_i32_865 : BitVec 32 := 384#32
  c384_i32_865
def k0_mult35 : BitVec 32 :=
  let c512_i32_866 : BitVec 32 := 512#32
  c512_i32_866
def k0_mult36 : BitVec 32 :=
  let c640_i32_867 : BitVec 32 := 640#32
  c640_i32_867
def k0_off1 (k0_t1 : Fin k0_t1_loop.trips) : Fin 1 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  ![v1639.toNat]
def k0_off2 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c0_i32_868 : BitVec 32 := 0#32
  let c0_i32_869 : BitVec 32 := 0#32
  let c0_i32_870 : BitVec 32 := 0#32
  ![v1639.toNat, 0, 0, 0]
def k0_off3 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c0_i32_872 : BitVec 32 := 0#32
  let c0_i32_873 : BitVec 32 := 0#32
  let c0_i32_874 : BitVec 32 := 0#32
  ![v1639.toNat, 0, 0, 0]
def k0_off4 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c1_i32_876 : BitVec 32 := 1#32
  let c0_i32_877 : BitVec 32 := 0#32
  let c0_i32_878 : BitVec 32 := 0#32
  ![v1639.toNat, 1, 0, 0]
def k0_off5 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c1_i32_880 : BitVec 32 := 1#32
  let c0_i32_881 : BitVec 32 := 0#32
  let c0_i32_882 : BitVec 32 := 0#32
  ![v1639.toNat, 1, 0, 0]
def k0_off6 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c2_i32_884 : BitVec 32 := 2#32
  let c0_i32_885 : BitVec 32 := 0#32
  let c0_i32_886 : BitVec 32 := 0#32
  ![v1639.toNat, 2, 0, 0]
def k0_off7 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c2_i32_888 : BitVec 32 := 2#32
  let c0_i32_889 : BitVec 32 := 0#32
  let c0_i32_890 : BitVec 32 := 0#32
  ![v1639.toNat, 2, 0, 0]
def k0_off8 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c3_i32_892 : BitVec 32 := 3#32
  let c0_i32_893 : BitVec 32 := 0#32
  let c0_i32_894 : BitVec 32 := 0#32
  ![v1639.toNat, 3, 0, 0]
def k0_off9 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c3_i32_896 : BitVec 32 := 3#32
  let c0_i32_897 : BitVec 32 := 0#32
  let c0_i32_898 : BitVec 32 := 0#32
  ![v1639.toNat, 3, 0, 0]
def k0_off10 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c4_i32_900 : BitVec 32 := 4#32
  let c0_i32_901 : BitVec 32 := 0#32
  let c0_i32_902 : BitVec 32 := 0#32
  ![v1639.toNat, 4, 0, 0]
def k0_off11 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c4_i32_904 : BitVec 32 := 4#32
  let c0_i32_905 : BitVec 32 := 0#32
  let c0_i32_906 : BitVec 32 := 0#32
  ![v1639.toNat, 4, 0, 0]
def k0_off12 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c5_i32_908 : BitVec 32 := 5#32
  let c0_i32_909 : BitVec 32 := 0#32
  let c0_i32_910 : BitVec 32 := 0#32
  ![v1639.toNat, 5, 0, 0]
def k0_off13 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c5_i32_912 : BitVec 32 := 5#32
  let c0_i32_913 : BitVec 32 := 0#32
  let c0_i32_914 : BitVec 32 := 0#32
  ![v1639.toNat, 5, 0, 0]
def k0_off14 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c6_i32_916 : BitVec 32 := 6#32
  let c0_i32_917 : BitVec 32 := 0#32
  let c0_i32_918 : BitVec 32 := 0#32
  ![v1639.toNat, 6, 0, 0]
def k0_off15 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c6_i32_920 : BitVec 32 := 6#32
  let c0_i32_921 : BitVec 32 := 0#32
  let c0_i32_922 : BitVec 32 := 0#32
  ![v1639.toNat, 6, 0, 0]
def k0_off16 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c7_i32_924 : BitVec 32 := 7#32
  let c0_i32_925 : BitVec 32 := 0#32
  let c0_i32_926 : BitVec 32 := 0#32
  ![v1639.toNat, 7, 0, 0]
def k0_off17 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c7_i32_928 : BitVec 32 := 7#32
  let c0_i32_929 : BitVec 32 := 0#32
  let c0_i32_930 : BitVec 32 := 0#32
  ![v1639.toNat, 7, 0, 0]
def k0_off18 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c8_i32_932 : BitVec 32 := 8#32
  let c0_i32_933 : BitVec 32 := 0#32
  let c0_i32_934 : BitVec 32 := 0#32
  ![v1639.toNat, 8, 0, 0]
def k0_off19 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c8_i32_936 : BitVec 32 := 8#32
  let c0_i32_937 : BitVec 32 := 0#32
  let c0_i32_938 : BitVec 32 := 0#32
  ![v1639.toNat, 8, 0, 0]
def k0_off20 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c9_i32_940 : BitVec 32 := 9#32
  let c0_i32_941 : BitVec 32 := 0#32
  let c0_i32_942 : BitVec 32 := 0#32
  ![v1639.toNat, 9, 0, 0]
def k0_off21 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c9_i32_944 : BitVec 32 := 9#32
  let c0_i32_945 : BitVec 32 := 0#32
  let c0_i32_946 : BitVec 32 := 0#32
  ![v1639.toNat, 9, 0, 0]
def k0_off22 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c10_i32_948 : BitVec 32 := 10#32
  let c0_i32_949 : BitVec 32 := 0#32
  let c0_i32_950 : BitVec 32 := 0#32
  ![v1639.toNat, 10, 0, 0]
def k0_off23 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c10_i32_952 : BitVec 32 := 10#32
  let c0_i32_953 : BitVec 32 := 0#32
  let c0_i32_954 : BitVec 32 := 0#32
  ![v1639.toNat, 10, 0, 0]
def k0_off24 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c11_i32_956 : BitVec 32 := 11#32
  let c0_i32_957 : BitVec 32 := 0#32
  let c0_i32_958 : BitVec 32 := 0#32
  ![v1639.toNat, 11, 0, 0]
def k0_off25 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c11_i32_960 : BitVec 32 := 11#32
  let c0_i32_961 : BitVec 32 := 0#32
  let c0_i32_962 : BitVec 32 := 0#32
  ![v1639.toNat, 11, 0, 0]
def k0_off26 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1773 : Index := Scalar.indexCast v1639
  let c0_965 : Index := 0#32
  let c0_966 : Index := 0#32
  let c0_967 : Index := 0#32
  ![v1773.toNat, 0, 0, 0]
def k0_off27 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1788 : Index := Scalar.indexCast v1639
  let c1_975 : Index := 1#32
  let c0_976 : Index := 0#32
  let c0_977 : Index := 0#32
  ![v1788.toNat, 1, 0, 0]
def k0_off28 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1803 : Index := Scalar.indexCast v1639
  let c0_986 : Index := 0#32
  let c0_987 : Index := 0#32
  let c0_988 : Index := 0#32
  ![v1803.toNat, 0, 0, 0]
def k0_off29 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1837 : Index := Scalar.indexCast v1639
  let c0_1000 : Index := 0#32
  let c32 : Index := 32#32
  let c0_1001 : Index := 0#32
  ![v1837.toNat, 0, 32, 0]
def k0_off30 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1871 : Index := Scalar.indexCast v1639
  let c0_1014 : Index := 0#32
  let c64 : Index := 64#32
  let c0_1015 : Index := 0#32
  ![v1871.toNat, 0, 64, 0]
def k0_off31 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1905 : Index := Scalar.indexCast v1639
  let c0_1027 : Index := 0#32
  let c96 : Index := 96#32
  let c0_1028 : Index := 0#32
  ![v1905.toNat, 0, 96, 0]
def k0_off32 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1940 : Index := Scalar.indexCast v1639
  let c1_1040 : Index := 1#32
  let c0_1041 : Index := 0#32
  let c0_1042 : Index := 0#32
  ![v1940.toNat, 1, 0, 0]
def k0_off33 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v1974 : Index := Scalar.indexCast v1639
  let c1_1055 : Index := 1#32
  let c32_1056 : Index := 32#32
  let c0_1057 : Index := 0#32
  ![v1974.toNat, 1, 32, 0]
def k0_off34 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2008 : Index := Scalar.indexCast v1639
  let c1_1070 : Index := 1#32
  let c64_1071 : Index := 64#32
  let c0_1072 : Index := 0#32
  ![v2008.toNat, 1, 64, 0]
def k0_off35 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2042 : Index := Scalar.indexCast v1639
  let c1_1085 : Index := 1#32
  let c96_1086 : Index := 96#32
  let c0_1087 : Index := 0#32
  ![v2042.toNat, 1, 96, 0]
def k0_off36 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2081 : Index := Scalar.indexCast v1639
  let c0_1103 : Index := 0#32
  let c128_1104 : Index := 128#32
  let c0_1105 : Index := 0#32
  ![v2081.toNat, 0, 128, 0]
def k0_off37 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2115 : Index := Scalar.indexCast v1639
  let c0_1117 : Index := 0#32
  let c160 : Index := 160#32
  let c0_1118 : Index := 0#32
  ![v2115.toNat, 0, 160, 0]
def k0_off38 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2149 : Index := Scalar.indexCast v1639
  let c0_1130 : Index := 0#32
  let c192 : Index := 192#32
  let c0_1131 : Index := 0#32
  ![v2149.toNat, 0, 192, 0]
def k0_off39 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2183 : Index := Scalar.indexCast v1639
  let c0_1143 : Index := 0#32
  let c224 : Index := 224#32
  let c0_1144 : Index := 0#32
  ![v2183.toNat, 0, 224, 0]
def k0_off40 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2218 : Index := Scalar.indexCast v1639
  let c1_1156 : Index := 1#32
  let c128_1157 : Index := 128#32
  let c0_1158 : Index := 0#32
  ![v2218.toNat, 1, 128, 0]
def k0_off41 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2252 : Index := Scalar.indexCast v1639
  let c1_1171 : Index := 1#32
  let c160_1172 : Index := 160#32
  let c0_1173 : Index := 0#32
  ![v2252.toNat, 1, 160, 0]
def k0_off42 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2286 : Index := Scalar.indexCast v1639
  let c1_1186 : Index := 1#32
  let c192_1187 : Index := 192#32
  let c0_1188 : Index := 0#32
  ![v2286.toNat, 1, 192, 0]
def k0_off43 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2320 : Index := Scalar.indexCast v1639
  let c1_1201 : Index := 1#32
  let c224_1202 : Index := 224#32
  let c0_1203 : Index := 0#32
  ![v2320.toNat, 1, 224, 0]
def k0_off44 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2359 : Index := Scalar.indexCast v1639
  let c0_1219 : Index := 0#32
  let c16 : Index := 16#32
  let c0_1220 : Index := 0#32
  ![v2359.toNat, 0, 16, 0]
def k0_off45 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2374 : Index := Scalar.indexCast v1639
  let c1_1228 : Index := 1#32
  let c16_1229 : Index := 16#32
  let c0_1230 : Index := 0#32
  ![v2374.toNat, 1, 16, 0]
def k0_off46 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2389 : Index := Scalar.indexCast v1639
  let c0_1239 : Index := 0#32
  let c256_1240 : Index := 256#32
  let c0_1241 : Index := 0#32
  ![v2389.toNat, 0, 256, 0]
def k0_off47 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2423 : Index := Scalar.indexCast v1639
  let c0_1254 : Index := 0#32
  let c288 : Index := 288#32
  let c0_1255 : Index := 0#32
  ![v2423.toNat, 0, 288, 0]
def k0_off48 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2457 : Index := Scalar.indexCast v1639
  let c0_1267 : Index := 0#32
  let c320 : Index := 320#32
  let c0_1268 : Index := 0#32
  ![v2457.toNat, 0, 320, 0]
def k0_off49 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2491 : Index := Scalar.indexCast v1639
  let c0_1280 : Index := 0#32
  let c352 : Index := 352#32
  let c0_1281 : Index := 0#32
  ![v2491.toNat, 0, 352, 0]
def k0_off50 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2526 : Index := Scalar.indexCast v1639
  let c1_1293 : Index := 1#32
  let c256_1294 : Index := 256#32
  let c0_1295 : Index := 0#32
  ![v2526.toNat, 1, 256, 0]
def k0_off51 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2560 : Index := Scalar.indexCast v1639
  let c1_1308 : Index := 1#32
  let c288_1309 : Index := 288#32
  let c0_1310 : Index := 0#32
  ![v2560.toNat, 1, 288, 0]
def k0_off52 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2594 : Index := Scalar.indexCast v1639
  let c1_1323 : Index := 1#32
  let c320_1324 : Index := 320#32
  let c0_1325 : Index := 0#32
  ![v2594.toNat, 1, 320, 0]
def k0_off53 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2628 : Index := Scalar.indexCast v1639
  let c1_1338 : Index := 1#32
  let c352_1339 : Index := 352#32
  let c0_1340 : Index := 0#32
  ![v2628.toNat, 1, 352, 0]
def k0_off54 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2667 : Index := Scalar.indexCast v1639
  let c0_1356 : Index := 0#32
  let c384_1357 : Index := 384#32
  let c0_1358 : Index := 0#32
  ![v2667.toNat, 0, 384, 0]
def k0_off55 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2701 : Index := Scalar.indexCast v1639
  let c0_1370 : Index := 0#32
  let c416 : Index := 416#32
  let c0_1371 : Index := 0#32
  ![v2701.toNat, 0, 416, 0]
def k0_off56 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2735 : Index := Scalar.indexCast v1639
  let c0_1383 : Index := 0#32
  let c448 : Index := 448#32
  let c0_1384 : Index := 0#32
  ![v2735.toNat, 0, 448, 0]
def k0_off57 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2769 : Index := Scalar.indexCast v1639
  let c0_1396 : Index := 0#32
  let c480 : Index := 480#32
  let c0_1397 : Index := 0#32
  ![v2769.toNat, 0, 480, 0]
def k0_off58 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2804 : Index := Scalar.indexCast v1639
  let c1_1409 : Index := 1#32
  let c384_1410 : Index := 384#32
  let c0_1411 : Index := 0#32
  ![v2804.toNat, 1, 384, 0]
def k0_off59 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2838 : Index := Scalar.indexCast v1639
  let c1_1424 : Index := 1#32
  let c416_1425 : Index := 416#32
  let c0_1426 : Index := 0#32
  ![v2838.toNat, 1, 416, 0]
def k0_off60 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2872 : Index := Scalar.indexCast v1639
  let c1_1439 : Index := 1#32
  let c448_1440 : Index := 448#32
  let c0_1441 : Index := 0#32
  ![v2872.toNat, 1, 448, 0]
def k0_off61 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2906 : Index := Scalar.indexCast v1639
  let c1_1454 : Index := 1#32
  let c480_1455 : Index := 480#32
  let c0_1456 : Index := 0#32
  ![v2906.toNat, 1, 480, 0]
def k0_off62 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2945 : Index := Scalar.indexCast v1639
  let c0_1472 : Index := 0#32
  let c32_1473 : Index := 32#32
  let c0_1474 : Index := 0#32
  ![v2945.toNat, 0, 32, 0]
def k0_off63 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2960 : Index := Scalar.indexCast v1639
  let c1_1483 : Index := 1#32
  let c32_1484 : Index := 32#32
  let c0_1485 : Index := 0#32
  ![v2960.toNat, 1, 32, 0]
def k0_off64 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v2975 : Index := Scalar.indexCast v1639
  let c0_1494 : Index := 0#32
  let c512_1495 : Index := 512#32
  let c0_1496 : Index := 0#32
  ![v2975.toNat, 0, 512, 0]
def k0_off65 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3009 : Index := Scalar.indexCast v1639
  let c0_1509 : Index := 0#32
  let c544 : Index := 544#32
  let c0_1510 : Index := 0#32
  ![v3009.toNat, 0, 544, 0]
def k0_off66 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3043 : Index := Scalar.indexCast v1639
  let c0_1522 : Index := 0#32
  let c576 : Index := 576#32
  let c0_1523 : Index := 0#32
  ![v3043.toNat, 0, 576, 0]
def k0_off67 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3077 : Index := Scalar.indexCast v1639
  let c0_1535 : Index := 0#32
  let c608 : Index := 608#32
  let c0_1536 : Index := 0#32
  ![v3077.toNat, 0, 608, 0]
def k0_off68 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3112 : Index := Scalar.indexCast v1639
  let c1_1548 : Index := 1#32
  let c512_1549 : Index := 512#32
  let c0_1550 : Index := 0#32
  ![v3112.toNat, 1, 512, 0]
def k0_off69 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3146 : Index := Scalar.indexCast v1639
  let c1_1563 : Index := 1#32
  let c544_1564 : Index := 544#32
  let c0_1565 : Index := 0#32
  ![v3146.toNat, 1, 544, 0]
def k0_off70 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3180 : Index := Scalar.indexCast v1639
  let c1_1578 : Index := 1#32
  let c576_1579 : Index := 576#32
  let c0_1580 : Index := 0#32
  ![v3180.toNat, 1, 576, 0]
def k0_off71 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3214 : Index := Scalar.indexCast v1639
  let c1_1593 : Index := 1#32
  let c608_1594 : Index := 608#32
  let c0_1595 : Index := 0#32
  ![v3214.toNat, 1, 608, 0]
def k0_off72 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3253 : Index := Scalar.indexCast v1639
  let c0_1611 : Index := 0#32
  let c640_1612 : Index := 640#32
  let c0_1613 : Index := 0#32
  ![v3253.toNat, 0, 640, 0]
def k0_off73 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3287 : Index := Scalar.indexCast v1639
  let c0_1625 : Index := 0#32
  let c672 : Index := 672#32
  let c0_1626 : Index := 0#32
  ![v3287.toNat, 0, 672, 0]
def k0_off74 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3321 : Index := Scalar.indexCast v1639
  let c0_1638 : Index := 0#32
  let c704 : Index := 704#32
  let c0_1639 : Index := 0#32
  ![v3321.toNat, 0, 704, 0]
def k0_off75 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3355 : Index := Scalar.indexCast v1639
  let c0_1651 : Index := 0#32
  let c736 : Index := 736#32
  let c0_1652 : Index := 0#32
  ![v3355.toNat, 0, 736, 0]
def k0_off76 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3390 : Index := Scalar.indexCast v1639
  let c1_1664 : Index := 1#32
  let c640_1665 : Index := 640#32
  let c0_1666 : Index := 0#32
  ![v3390.toNat, 1, 640, 0]
def k0_off77 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3424 : Index := Scalar.indexCast v1639
  let c1_1679 : Index := 1#32
  let c672_1680 : Index := 672#32
  let c0_1681 : Index := 0#32
  ![v3424.toNat, 1, 672, 0]
def k0_off78 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3458 : Index := Scalar.indexCast v1639
  let c1_1694 : Index := 1#32
  let c704_1695 : Index := 704#32
  let c0_1696 : Index := 0#32
  ![v3458.toNat, 1, 704, 0]
def k0_off79 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3492 : Index := Scalar.indexCast v1639
  let c1_1709 : Index := 1#32
  let c736_1710 : Index := 736#32
  let c0_1711 : Index := 0#32
  ![v3492.toNat, 1, 736, 0]
def k0_off80 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3531 : Index := Scalar.indexCast v1639
  let c0_1727 : Index := 0#32
  let c48 : Index := 48#32
  let c0_1728 : Index := 0#32
  ![v3531.toNat, 0, 48, 0]
def k0_off81 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3546 : Index := Scalar.indexCast v1639
  let c1_1736 : Index := 1#32
  let c48_1737 : Index := 48#32
  let c0_1738 : Index := 0#32
  ![v3546.toNat, 1, 48, 0]
def k0_off82 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3561 : Index := Scalar.indexCast v1639
  let c0_1747 : Index := 0#32
  let c768_1748 : Index := 768#32
  let c0_1749 : Index := 0#32
  ![v3561.toNat, 0, 768, 0]
def k0_off83 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3595 : Index := Scalar.indexCast v1639
  let c0_1762 : Index := 0#32
  let c800 : Index := 800#32
  let c0_1763 : Index := 0#32
  ![v3595.toNat, 0, 800, 0]
def k0_off84 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3629 : Index := Scalar.indexCast v1639
  let c0_1775 : Index := 0#32
  let c832 : Index := 832#32
  let c0_1776 : Index := 0#32
  ![v3629.toNat, 0, 832, 0]
def k0_off85 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3663 : Index := Scalar.indexCast v1639
  let c0_1788 : Index := 0#32
  let c864 : Index := 864#32
  let c0_1789 : Index := 0#32
  ![v3663.toNat, 0, 864, 0]
def k0_off86 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3698 : Index := Scalar.indexCast v1639
  let c1_1801 : Index := 1#32
  let c768_1802 : Index := 768#32
  let c0_1803 : Index := 0#32
  ![v3698.toNat, 1, 768, 0]
def k0_off87 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3732 : Index := Scalar.indexCast v1639
  let c1_1816 : Index := 1#32
  let c800_1817 : Index := 800#32
  let c0_1818 : Index := 0#32
  ![v3732.toNat, 1, 800, 0]
def k0_off88 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3766 : Index := Scalar.indexCast v1639
  let c1_1831 : Index := 1#32
  let c832_1832 : Index := 832#32
  let c0_1833 : Index := 0#32
  ![v3766.toNat, 1, 832, 0]
def k0_off89 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3800 : Index := Scalar.indexCast v1639
  let c1_1846 : Index := 1#32
  let c864_1847 : Index := 864#32
  let c0_1848 : Index := 0#32
  ![v3800.toNat, 1, 864, 0]
def k0_off90 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3839 : Index := Scalar.indexCast v1639
  let c0_1864 : Index := 0#32
  let c896_1865 : Index := 896#32
  let c0_1866 : Index := 0#32
  ![v3839.toNat, 0, 896, 0]
def k0_off91 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3873 : Index := Scalar.indexCast v1639
  let c0_1878 : Index := 0#32
  let c928 : Index := 928#32
  let c0_1879 : Index := 0#32
  ![v3873.toNat, 0, 928, 0]
def k0_off92 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3907 : Index := Scalar.indexCast v1639
  let c0_1891 : Index := 0#32
  let c960 : Index := 960#32
  let c0_1892 : Index := 0#32
  ![v3907.toNat, 0, 960, 0]
def k0_off93 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3941 : Index := Scalar.indexCast v1639
  let c0_1904 : Index := 0#32
  let c992 : Index := 992#32
  let c0_1905 : Index := 0#32
  ![v3941.toNat, 0, 992, 0]
def k0_off94 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v3976 : Index := Scalar.indexCast v1639
  let c1_1917 : Index := 1#32
  let c896_1918 : Index := 896#32
  let c0_1919 : Index := 0#32
  ![v3976.toNat, 1, 896, 0]
def k0_off95 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4010 : Index := Scalar.indexCast v1639
  let c1_1932 : Index := 1#32
  let c928_1933 : Index := 928#32
  let c0_1934 : Index := 0#32
  ![v4010.toNat, 1, 928, 0]
def k0_off96 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4044 : Index := Scalar.indexCast v1639
  let c1_1947 : Index := 1#32
  let c960_1948 : Index := 960#32
  let c0_1949 : Index := 0#32
  ![v4044.toNat, 1, 960, 0]
def k0_off97 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4078 : Index := Scalar.indexCast v1639
  let c1_1962 : Index := 1#32
  let c992_1963 : Index := 992#32
  let c0_1964 : Index := 0#32
  ![v4078.toNat, 1, 992, 0]
def k0_off98 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4117 : Index := Scalar.indexCast v1639
  let c0_1980 : Index := 0#32
  let c64_1981 : Index := 64#32
  let c0_1982 : Index := 0#32
  ![v4117.toNat, 0, 64, 0]
def k0_off99 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4132 : Index := Scalar.indexCast v1639
  let c1_1991 : Index := 1#32
  let c64_1992 : Index := 64#32
  let c0_1993 : Index := 0#32
  ![v4132.toNat, 1, 64, 0]
def k0_off100 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4147 : Index := Scalar.indexCast v1639
  let c0_2002 : Index := 0#32
  let c1024_2003 : Index := 1024#32
  let c0_2004 : Index := 0#32
  ![v4147.toNat, 0, 1024, 0]
def k0_off101 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4181 : Index := Scalar.indexCast v1639
  let c0_2017 : Index := 0#32
  let c1056 : Index := 1056#32
  let c0_2018 : Index := 0#32
  ![v4181.toNat, 0, 1056, 0]
def k0_off102 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4215 : Index := Scalar.indexCast v1639
  let c0_2030 : Index := 0#32
  let c1088 : Index := 1088#32
  let c0_2031 : Index := 0#32
  ![v4215.toNat, 0, 1088, 0]
def k0_off103 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4249 : Index := Scalar.indexCast v1639
  let c0_2043 : Index := 0#32
  let c1120 : Index := 1120#32
  let c0_2044 : Index := 0#32
  ![v4249.toNat, 0, 1120, 0]
def k0_off104 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4284 : Index := Scalar.indexCast v1639
  let c1_2056 : Index := 1#32
  let c1024_2057 : Index := 1024#32
  let c0_2058 : Index := 0#32
  ![v4284.toNat, 1, 1024, 0]
def k0_off105 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4318 : Index := Scalar.indexCast v1639
  let c1_2071 : Index := 1#32
  let c1056_2072 : Index := 1056#32
  let c0_2073 : Index := 0#32
  ![v4318.toNat, 1, 1056, 0]
def k0_off106 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4352 : Index := Scalar.indexCast v1639
  let c1_2086 : Index := 1#32
  let c1088_2087 : Index := 1088#32
  let c0_2088 : Index := 0#32
  ![v4352.toNat, 1, 1088, 0]
def k0_off107 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4386 : Index := Scalar.indexCast v1639
  let c1_2101 : Index := 1#32
  let c1120_2102 : Index := 1120#32
  let c0_2103 : Index := 0#32
  ![v4386.toNat, 1, 1120, 0]
def k0_off108 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4425 : Index := Scalar.indexCast v1639
  let c0_2119 : Index := 0#32
  let c1152_2120 : Index := 1152#32
  let c0_2121 : Index := 0#32
  ![v4425.toNat, 0, 1152, 0]
def k0_off109 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4459 : Index := Scalar.indexCast v1639
  let c0_2133 : Index := 0#32
  let c1184 : Index := 1184#32
  let c0_2134 : Index := 0#32
  ![v4459.toNat, 0, 1184, 0]
def k0_off110 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4493 : Index := Scalar.indexCast v1639
  let c0_2146 : Index := 0#32
  let c1216 : Index := 1216#32
  let c0_2147 : Index := 0#32
  ![v4493.toNat, 0, 1216, 0]
def k0_off111 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4527 : Index := Scalar.indexCast v1639
  let c0_2159 : Index := 0#32
  let c1248 : Index := 1248#32
  let c0_2160 : Index := 0#32
  ![v4527.toNat, 0, 1248, 0]
def k0_off112 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4562 : Index := Scalar.indexCast v1639
  let c1_2172 : Index := 1#32
  let c1152_2173 : Index := 1152#32
  let c0_2174 : Index := 0#32
  ![v4562.toNat, 1, 1152, 0]
def k0_off113 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4596 : Index := Scalar.indexCast v1639
  let c1_2187 : Index := 1#32
  let c1184_2188 : Index := 1184#32
  let c0_2189 : Index := 0#32
  ![v4596.toNat, 1, 1184, 0]
def k0_off114 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4630 : Index := Scalar.indexCast v1639
  let c1_2202 : Index := 1#32
  let c1216_2203 : Index := 1216#32
  let c0_2204 : Index := 0#32
  ![v4630.toNat, 1, 1216, 0]
def k0_off115 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4664 : Index := Scalar.indexCast v1639
  let c1_2217 : Index := 1#32
  let c1248_2218 : Index := 1248#32
  let c0_2219 : Index := 0#32
  ![v4664.toNat, 1, 1248, 0]
def k0_off116 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4703 : Index := Scalar.indexCast v1639
  let c0_2235 : Index := 0#32
  let c80 : Index := 80#32
  let c0_2236 : Index := 0#32
  ![v4703.toNat, 0, 80, 0]
def k0_off117 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4718 : Index := Scalar.indexCast v1639
  let c1_2244 : Index := 1#32
  let c80_2245 : Index := 80#32
  let c0_2246 : Index := 0#32
  ![v4718.toNat, 1, 80, 0]
def k0_off118 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4733 : Index := Scalar.indexCast v1639
  let c0_2255 : Index := 0#32
  let c1280_2256 : Index := 1280#32
  let c0_2257 : Index := 0#32
  ![v4733.toNat, 0, 1280, 0]
def k0_off119 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4767 : Index := Scalar.indexCast v1639
  let c0_2270 : Index := 0#32
  let c1312 : Index := 1312#32
  let c0_2271 : Index := 0#32
  ![v4767.toNat, 0, 1312, 0]
def k0_off120 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4801 : Index := Scalar.indexCast v1639
  let c0_2283 : Index := 0#32
  let c1344 : Index := 1344#32
  let c0_2284 : Index := 0#32
  ![v4801.toNat, 0, 1344, 0]
def k0_off121 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4835 : Index := Scalar.indexCast v1639
  let c0_2296 : Index := 0#32
  let c1376 : Index := 1376#32
  let c0_2297 : Index := 0#32
  ![v4835.toNat, 0, 1376, 0]
def k0_off122 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4870 : Index := Scalar.indexCast v1639
  let c1_2309 : Index := 1#32
  let c1280_2310 : Index := 1280#32
  let c0_2311 : Index := 0#32
  ![v4870.toNat, 1, 1280, 0]
def k0_off123 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4904 : Index := Scalar.indexCast v1639
  let c1_2324 : Index := 1#32
  let c1312_2325 : Index := 1312#32
  let c0_2326 : Index := 0#32
  ![v4904.toNat, 1, 1312, 0]
def k0_off124 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4938 : Index := Scalar.indexCast v1639
  let c1_2339 : Index := 1#32
  let c1344_2340 : Index := 1344#32
  let c0_2341 : Index := 0#32
  ![v4938.toNat, 1, 1344, 0]
def k0_off125 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v4972 : Index := Scalar.indexCast v1639
  let c1_2354 : Index := 1#32
  let c1376_2355 : Index := 1376#32
  let c0_2356 : Index := 0#32
  ![v4972.toNat, 1, 1376, 0]
def k0_off126 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5011 : Index := Scalar.indexCast v1639
  let c0_2372 : Index := 0#32
  let c1408_2373 : Index := 1408#32
  let c0_2374 : Index := 0#32
  ![v5011.toNat, 0, 1408, 0]
def k0_off127 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5045 : Index := Scalar.indexCast v1639
  let c0_2386 : Index := 0#32
  let c1440 : Index := 1440#32
  let c0_2387 : Index := 0#32
  ![v5045.toNat, 0, 1440, 0]
def k0_off128 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5079 : Index := Scalar.indexCast v1639
  let c0_2399 : Index := 0#32
  let c1472 : Index := 1472#32
  let c0_2400 : Index := 0#32
  ![v5079.toNat, 0, 1472, 0]
def k0_off129 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5113 : Index := Scalar.indexCast v1639
  let c0_2412 : Index := 0#32
  let c1504 : Index := 1504#32
  let c0_2413 : Index := 0#32
  ![v5113.toNat, 0, 1504, 0]
def k0_off130 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5148 : Index := Scalar.indexCast v1639
  let c1_2425 : Index := 1#32
  let c1408_2426 : Index := 1408#32
  let c0_2427 : Index := 0#32
  ![v5148.toNat, 1, 1408, 0]
def k0_off131 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5182 : Index := Scalar.indexCast v1639
  let c1_2440 : Index := 1#32
  let c1440_2441 : Index := 1440#32
  let c0_2442 : Index := 0#32
  ![v5182.toNat, 1, 1440, 0]
def k0_off132 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5216 : Index := Scalar.indexCast v1639
  let c1_2455 : Index := 1#32
  let c1472_2456 : Index := 1472#32
  let c0_2457 : Index := 0#32
  ![v5216.toNat, 1, 1472, 0]
def k0_off133 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5250 : Index := Scalar.indexCast v1639
  let c1_2470 : Index := 1#32
  let c1504_2471 : Index := 1504#32
  let c0_2472 : Index := 0#32
  ![v5250.toNat, 1, 1504, 0]
def k0_off134 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5289 : Index := Scalar.indexCast v1639
  let c0_2488 : Index := 0#32
  let c96_2489 : Index := 96#32
  let c0_2490 : Index := 0#32
  ![v5289.toNat, 0, 96, 0]
def k0_off135 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5304 : Index := Scalar.indexCast v1639
  let c1_2499 : Index := 1#32
  let c96_2500 : Index := 96#32
  let c0_2501 : Index := 0#32
  ![v5304.toNat, 1, 96, 0]
def k0_off136 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5319 : Index := Scalar.indexCast v1639
  let c0_2510 : Index := 0#32
  let c1536_2511 : Index := 1536#32
  let c0_2512 : Index := 0#32
  ![v5319.toNat, 0, 1536, 0]
def k0_off137 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5353 : Index := Scalar.indexCast v1639
  let c0_2525 : Index := 0#32
  let c1568 : Index := 1568#32
  let c0_2526 : Index := 0#32
  ![v5353.toNat, 0, 1568, 0]
def k0_off138 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5387 : Index := Scalar.indexCast v1639
  let c0_2538 : Index := 0#32
  let c1600 : Index := 1600#32
  let c0_2539 : Index := 0#32
  ![v5387.toNat, 0, 1600, 0]
def k0_off139 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5421 : Index := Scalar.indexCast v1639
  let c0_2551 : Index := 0#32
  let c1632 : Index := 1632#32
  let c0_2552 : Index := 0#32
  ![v5421.toNat, 0, 1632, 0]
def k0_off140 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5456 : Index := Scalar.indexCast v1639
  let c1_2564 : Index := 1#32
  let c1536_2565 : Index := 1536#32
  let c0_2566 : Index := 0#32
  ![v5456.toNat, 1, 1536, 0]
def k0_off141 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5490 : Index := Scalar.indexCast v1639
  let c1_2579 : Index := 1#32
  let c1568_2580 : Index := 1568#32
  let c0_2581 : Index := 0#32
  ![v5490.toNat, 1, 1568, 0]
def k0_off142 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5524 : Index := Scalar.indexCast v1639
  let c1_2594 : Index := 1#32
  let c1600_2595 : Index := 1600#32
  let c0_2596 : Index := 0#32
  ![v5524.toNat, 1, 1600, 0]
def k0_off143 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5558 : Index := Scalar.indexCast v1639
  let c1_2609 : Index := 1#32
  let c1632_2610 : Index := 1632#32
  let c0_2611 : Index := 0#32
  ![v5558.toNat, 1, 1632, 0]
def k0_off144 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5597 : Index := Scalar.indexCast v1639
  let c0_2627 : Index := 0#32
  let c1664_2628 : Index := 1664#32
  let c0_2629 : Index := 0#32
  ![v5597.toNat, 0, 1664, 0]
def k0_off145 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5631 : Index := Scalar.indexCast v1639
  let c0_2641 : Index := 0#32
  let c1696 : Index := 1696#32
  let c0_2642 : Index := 0#32
  ![v5631.toNat, 0, 1696, 0]
def k0_off146 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5665 : Index := Scalar.indexCast v1639
  let c0_2654 : Index := 0#32
  let c1728 : Index := 1728#32
  let c0_2655 : Index := 0#32
  ![v5665.toNat, 0, 1728, 0]
def k0_off147 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5699 : Index := Scalar.indexCast v1639
  let c0_2667 : Index := 0#32
  let c1760 : Index := 1760#32
  let c0_2668 : Index := 0#32
  ![v5699.toNat, 0, 1760, 0]
def k0_off148 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5734 : Index := Scalar.indexCast v1639
  let c1_2680 : Index := 1#32
  let c1664_2681 : Index := 1664#32
  let c0_2682 : Index := 0#32
  ![v5734.toNat, 1, 1664, 0]
def k0_off149 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5768 : Index := Scalar.indexCast v1639
  let c1_2695 : Index := 1#32
  let c1696_2696 : Index := 1696#32
  let c0_2697 : Index := 0#32
  ![v5768.toNat, 1, 1696, 0]
def k0_off150 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5802 : Index := Scalar.indexCast v1639
  let c1_2710 : Index := 1#32
  let c1728_2711 : Index := 1728#32
  let c0_2712 : Index := 0#32
  ![v5802.toNat, 1, 1728, 0]
def k0_off151 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5836 : Index := Scalar.indexCast v1639
  let c1_2725 : Index := 1#32
  let c1760_2726 : Index := 1760#32
  let c0_2727 : Index := 0#32
  ![v5836.toNat, 1, 1760, 0]
def k0_off152 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5875 : Index := Scalar.indexCast v1639
  let c0_2743 : Index := 0#32
  let c112 : Index := 112#32
  let c0_2744 : Index := 0#32
  ![v5875.toNat, 0, 112, 0]
def k0_off153 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5890 : Index := Scalar.indexCast v1639
  let c1_2752 : Index := 1#32
  let c112_2753 : Index := 112#32
  let c0_2754 : Index := 0#32
  ![v5890.toNat, 1, 112, 0]
def k0_off154 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5905 : Index := Scalar.indexCast v1639
  let c0_2763 : Index := 0#32
  let c1792_2764 : Index := 1792#32
  let c0_2765 : Index := 0#32
  ![v5905.toNat, 0, 1792, 0]
def k0_off155 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5939 : Index := Scalar.indexCast v1639
  let c0_2778 : Index := 0#32
  let c1824 : Index := 1824#32
  let c0_2779 : Index := 0#32
  ![v5939.toNat, 0, 1824, 0]
def k0_off156 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v5973 : Index := Scalar.indexCast v1639
  let c0_2791 : Index := 0#32
  let c1856 : Index := 1856#32
  let c0_2792 : Index := 0#32
  ![v5973.toNat, 0, 1856, 0]
def k0_off157 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6007 : Index := Scalar.indexCast v1639
  let c0_2804 : Index := 0#32
  let c1888 : Index := 1888#32
  let c0_2805 : Index := 0#32
  ![v6007.toNat, 0, 1888, 0]
def k0_off158 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6042 : Index := Scalar.indexCast v1639
  let c1_2817 : Index := 1#32
  let c1792_2818 : Index := 1792#32
  let c0_2819 : Index := 0#32
  ![v6042.toNat, 1, 1792, 0]
def k0_off159 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6076 : Index := Scalar.indexCast v1639
  let c1_2832 : Index := 1#32
  let c1824_2833 : Index := 1824#32
  let c0_2834 : Index := 0#32
  ![v6076.toNat, 1, 1824, 0]
def k0_off160 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6110 : Index := Scalar.indexCast v1639
  let c1_2847 : Index := 1#32
  let c1856_2848 : Index := 1856#32
  let c0_2849 : Index := 0#32
  ![v6110.toNat, 1, 1856, 0]
def k0_off161 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6144 : Index := Scalar.indexCast v1639
  let c1_2862 : Index := 1#32
  let c1888_2863 : Index := 1888#32
  let c0_2864 : Index := 0#32
  ![v6144.toNat, 1, 1888, 0]
def k0_off162 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6183 : Index := Scalar.indexCast v1639
  let c0_2880 : Index := 0#32
  let c1920_2881 : Index := 1920#32
  let c0_2882 : Index := 0#32
  ![v6183.toNat, 0, 1920, 0]
def k0_off163 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6217 : Index := Scalar.indexCast v1639
  let c0_2894 : Index := 0#32
  let c1952 : Index := 1952#32
  let c0_2895 : Index := 0#32
  ![v6217.toNat, 0, 1952, 0]
def k0_off164 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6251 : Index := Scalar.indexCast v1639
  let c0_2907 : Index := 0#32
  let c1984 : Index := 1984#32
  let c0_2908 : Index := 0#32
  ![v6251.toNat, 0, 1984, 0]
def k0_off165 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6285 : Index := Scalar.indexCast v1639
  let c0_2920 : Index := 0#32
  let c2016 : Index := 2016#32
  let c0_2921 : Index := 0#32
  ![v6285.toNat, 0, 2016, 0]
def k0_off166 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6320 : Index := Scalar.indexCast v1639
  let c1_2933 : Index := 1#32
  let c1920_2934 : Index := 1920#32
  let c0_2935 : Index := 0#32
  ![v6320.toNat, 1, 1920, 0]
def k0_off167 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6354 : Index := Scalar.indexCast v1639
  let c1_2948 : Index := 1#32
  let c1952_2949 : Index := 1952#32
  let c0_2950 : Index := 0#32
  ![v6354.toNat, 1, 1952, 0]
def k0_off168 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6388 : Index := Scalar.indexCast v1639
  let c1_2963 : Index := 1#32
  let c1984_2964 : Index := 1984#32
  let c0_2965 : Index := 0#32
  ![v6388.toNat, 1, 1984, 0]
def k0_off169 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6422 : Index := Scalar.indexCast v1639
  let c1_2978 : Index := 1#32
  let c2016_2979 : Index := 2016#32
  let c0_2980 : Index := 0#32
  ![v6422.toNat, 1, 2016, 0]
def k0_off170 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6461 : Index := Scalar.indexCast v1639
  let c0_2996 : Index := 0#32
  let c128_2997 : Index := 128#32
  let c0_2998 : Index := 0#32
  ![v6461.toNat, 0, 128, 0]
def k0_off171 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6476 : Index := Scalar.indexCast v1639
  let c1_3007 : Index := 1#32
  let c128_3008 : Index := 128#32
  let c0_3009 : Index := 0#32
  ![v6476.toNat, 1, 128, 0]
def k0_off172 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6491 : Index := Scalar.indexCast v1639
  let c0_3018 : Index := 0#32
  let c2048_3019 : Index := 2048#32
  let c0_3020 : Index := 0#32
  ![v6491.toNat, 0, 2048, 0]
def k0_off173 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6525 : Index := Scalar.indexCast v1639
  let c0_3033 : Index := 0#32
  let c2080 : Index := 2080#32
  let c0_3034 : Index := 0#32
  ![v6525.toNat, 0, 2080, 0]
def k0_off174 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6559 : Index := Scalar.indexCast v1639
  let c0_3046 : Index := 0#32
  let c2112 : Index := 2112#32
  let c0_3047 : Index := 0#32
  ![v6559.toNat, 0, 2112, 0]
def k0_off175 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6593 : Index := Scalar.indexCast v1639
  let c0_3059 : Index := 0#32
  let c2144 : Index := 2144#32
  let c0_3060 : Index := 0#32
  ![v6593.toNat, 0, 2144, 0]
def k0_off176 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6628 : Index := Scalar.indexCast v1639
  let c1_3072 : Index := 1#32
  let c2048_3073 : Index := 2048#32
  let c0_3074 : Index := 0#32
  ![v6628.toNat, 1, 2048, 0]
def k0_off177 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6662 : Index := Scalar.indexCast v1639
  let c1_3087 : Index := 1#32
  let c2080_3088 : Index := 2080#32
  let c0_3089 : Index := 0#32
  ![v6662.toNat, 1, 2080, 0]
def k0_off178 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6696 : Index := Scalar.indexCast v1639
  let c1_3102 : Index := 1#32
  let c2112_3103 : Index := 2112#32
  let c0_3104 : Index := 0#32
  ![v6696.toNat, 1, 2112, 0]
def k0_off179 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6730 : Index := Scalar.indexCast v1639
  let c1_3117 : Index := 1#32
  let c2144_3118 : Index := 2144#32
  let c0_3119 : Index := 0#32
  ![v6730.toNat, 1, 2144, 0]
def k0_off180 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6769 : Index := Scalar.indexCast v1639
  let c0_3135 : Index := 0#32
  let c2176_3136 : Index := 2176#32
  let c0_3137 : Index := 0#32
  ![v6769.toNat, 0, 2176, 0]
def k0_off181 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6803 : Index := Scalar.indexCast v1639
  let c0_3149 : Index := 0#32
  let c2208 : Index := 2208#32
  let c0_3150 : Index := 0#32
  ![v6803.toNat, 0, 2208, 0]
def k0_off182 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6837 : Index := Scalar.indexCast v1639
  let c0_3162 : Index := 0#32
  let c2240 : Index := 2240#32
  let c0_3163 : Index := 0#32
  ![v6837.toNat, 0, 2240, 0]
def k0_off183 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6871 : Index := Scalar.indexCast v1639
  let c0_3175 : Index := 0#32
  let c2272 : Index := 2272#32
  let c0_3176 : Index := 0#32
  ![v6871.toNat, 0, 2272, 0]
def k0_off184 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6906 : Index := Scalar.indexCast v1639
  let c1_3188 : Index := 1#32
  let c2176_3189 : Index := 2176#32
  let c0_3190 : Index := 0#32
  ![v6906.toNat, 1, 2176, 0]
def k0_off185 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6940 : Index := Scalar.indexCast v1639
  let c1_3203 : Index := 1#32
  let c2208_3204 : Index := 2208#32
  let c0_3205 : Index := 0#32
  ![v6940.toNat, 1, 2208, 0]
def k0_off186 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v6974 : Index := Scalar.indexCast v1639
  let c1_3218 : Index := 1#32
  let c2240_3219 : Index := 2240#32
  let c0_3220 : Index := 0#32
  ![v6974.toNat, 1, 2240, 0]
def k0_off187 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7008 : Index := Scalar.indexCast v1639
  let c1_3233 : Index := 1#32
  let c2272_3234 : Index := 2272#32
  let c0_3235 : Index := 0#32
  ![v7008.toNat, 1, 2272, 0]
def k0_off188 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7047 : Index := Scalar.indexCast v1639
  let c0_3251 : Index := 0#32
  let c144 : Index := 144#32
  let c0_3252 : Index := 0#32
  ![v7047.toNat, 0, 144, 0]
def k0_off189 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7062 : Index := Scalar.indexCast v1639
  let c1_3260 : Index := 1#32
  let c144_3261 : Index := 144#32
  let c0_3262 : Index := 0#32
  ![v7062.toNat, 1, 144, 0]
def k0_off190 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7077 : Index := Scalar.indexCast v1639
  let c0_3271 : Index := 0#32
  let c2304_3272 : Index := 2304#32
  let c0_3273 : Index := 0#32
  ![v7077.toNat, 0, 2304, 0]
def k0_off191 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7111 : Index := Scalar.indexCast v1639
  let c0_3286 : Index := 0#32
  let c2336 : Index := 2336#32
  let c0_3287 : Index := 0#32
  ![v7111.toNat, 0, 2336, 0]
def k0_off192 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7145 : Index := Scalar.indexCast v1639
  let c0_3299 : Index := 0#32
  let c2368 : Index := 2368#32
  let c0_3300 : Index := 0#32
  ![v7145.toNat, 0, 2368, 0]
def k0_off193 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7179 : Index := Scalar.indexCast v1639
  let c0_3312 : Index := 0#32
  let c2400 : Index := 2400#32
  let c0_3313 : Index := 0#32
  ![v7179.toNat, 0, 2400, 0]
def k0_off194 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7214 : Index := Scalar.indexCast v1639
  let c1_3325 : Index := 1#32
  let c2304_3326 : Index := 2304#32
  let c0_3327 : Index := 0#32
  ![v7214.toNat, 1, 2304, 0]
def k0_off195 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7248 : Index := Scalar.indexCast v1639
  let c1_3340 : Index := 1#32
  let c2336_3341 : Index := 2336#32
  let c0_3342 : Index := 0#32
  ![v7248.toNat, 1, 2336, 0]
def k0_off196 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7282 : Index := Scalar.indexCast v1639
  let c1_3355 : Index := 1#32
  let c2368_3356 : Index := 2368#32
  let c0_3357 : Index := 0#32
  ![v7282.toNat, 1, 2368, 0]
def k0_off197 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7316 : Index := Scalar.indexCast v1639
  let c1_3370 : Index := 1#32
  let c2400_3371 : Index := 2400#32
  let c0_3372 : Index := 0#32
  ![v7316.toNat, 1, 2400, 0]
def k0_off198 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7355 : Index := Scalar.indexCast v1639
  let c0_3388 : Index := 0#32
  let c2432_3389 : Index := 2432#32
  let c0_3390 : Index := 0#32
  ![v7355.toNat, 0, 2432, 0]
def k0_off199 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7389 : Index := Scalar.indexCast v1639
  let c0_3402 : Index := 0#32
  let c2464 : Index := 2464#32
  let c0_3403 : Index := 0#32
  ![v7389.toNat, 0, 2464, 0]
def k0_off200 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7423 : Index := Scalar.indexCast v1639
  let c0_3415 : Index := 0#32
  let c2496 : Index := 2496#32
  let c0_3416 : Index := 0#32
  ![v7423.toNat, 0, 2496, 0]
def k0_off201 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7457 : Index := Scalar.indexCast v1639
  let c0_3428 : Index := 0#32
  let c2528 : Index := 2528#32
  let c0_3429 : Index := 0#32
  ![v7457.toNat, 0, 2528, 0]
def k0_off202 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7492 : Index := Scalar.indexCast v1639
  let c1_3441 : Index := 1#32
  let c2432_3442 : Index := 2432#32
  let c0_3443 : Index := 0#32
  ![v7492.toNat, 1, 2432, 0]
def k0_off203 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7526 : Index := Scalar.indexCast v1639
  let c1_3456 : Index := 1#32
  let c2464_3457 : Index := 2464#32
  let c0_3458 : Index := 0#32
  ![v7526.toNat, 1, 2464, 0]
def k0_off204 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7560 : Index := Scalar.indexCast v1639
  let c1_3471 : Index := 1#32
  let c2496_3472 : Index := 2496#32
  let c0_3473 : Index := 0#32
  ![v7560.toNat, 1, 2496, 0]
def k0_off205 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7594 : Index := Scalar.indexCast v1639
  let c1_3486 : Index := 1#32
  let c2528_3487 : Index := 2528#32
  let c0_3488 : Index := 0#32
  ![v7594.toNat, 1, 2528, 0]
def k0_off206 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7634 : Index := Scalar.indexCast v1639
  let c6_3505 : Index := 6#32
  let c0_3506 : Index := 0#32
  let c0_3507 : Index := 0#32
  ![v7634.toNat, 6, 0, 0]
def k0_off207 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7649 : Index := Scalar.indexCast v1639
  let c7_3516 : Index := 7#32
  let c0_3517 : Index := 0#32
  let c0_3518 : Index := 0#32
  ![v7649.toNat, 7, 0, 0]
def k0_off208 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7664 : Index := Scalar.indexCast v1639
  let c6_3527 : Index := 6#32
  let c0_3528 : Index := 0#32
  let c0_3529 : Index := 0#32
  ![v7664.toNat, 6, 0, 0]
def k0_off209 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7698 : Index := Scalar.indexCast v1639
  let c6_3542 : Index := 6#32
  let c32_3543 : Index := 32#32
  let c0_3544 : Index := 0#32
  ![v7698.toNat, 6, 32, 0]
def k0_off210 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7732 : Index := Scalar.indexCast v1639
  let c6_3557 : Index := 6#32
  let c64_3558 : Index := 64#32
  let c0_3559 : Index := 0#32
  ![v7732.toNat, 6, 64, 0]
def k0_off211 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7766 : Index := Scalar.indexCast v1639
  let c6_3572 : Index := 6#32
  let c96_3573 : Index := 96#32
  let c0_3574 : Index := 0#32
  ![v7766.toNat, 6, 96, 0]
def k0_off212 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7801 : Index := Scalar.indexCast v1639
  let c7_3587 : Index := 7#32
  let c0_3588 : Index := 0#32
  let c0_3589 : Index := 0#32
  ![v7801.toNat, 7, 0, 0]
def k0_off213 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7835 : Index := Scalar.indexCast v1639
  let c7_3602 : Index := 7#32
  let c32_3603 : Index := 32#32
  let c0_3604 : Index := 0#32
  ![v7835.toNat, 7, 32, 0]
def k0_off214 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7869 : Index := Scalar.indexCast v1639
  let c7_3617 : Index := 7#32
  let c64_3618 : Index := 64#32
  let c0_3619 : Index := 0#32
  ![v7869.toNat, 7, 64, 0]
def k0_off215 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7903 : Index := Scalar.indexCast v1639
  let c7_3632 : Index := 7#32
  let c96_3633 : Index := 96#32
  let c0_3634 : Index := 0#32
  ![v7903.toNat, 7, 96, 0]
def k0_off216 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7942 : Index := Scalar.indexCast v1639
  let c6_3650 : Index := 6#32
  let c128_3651 : Index := 128#32
  let c0_3652 : Index := 0#32
  ![v7942.toNat, 6, 128, 0]
def k0_off217 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v7976 : Index := Scalar.indexCast v1639
  let c6_3665 : Index := 6#32
  let c160_3666 : Index := 160#32
  let c0_3667 : Index := 0#32
  ![v7976.toNat, 6, 160, 0]
def k0_off218 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8010 : Index := Scalar.indexCast v1639
  let c6_3680 : Index := 6#32
  let c192_3681 : Index := 192#32
  let c0_3682 : Index := 0#32
  ![v8010.toNat, 6, 192, 0]
def k0_off219 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8044 : Index := Scalar.indexCast v1639
  let c6_3695 : Index := 6#32
  let c224_3696 : Index := 224#32
  let c0_3697 : Index := 0#32
  ![v8044.toNat, 6, 224, 0]
def k0_off220 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8079 : Index := Scalar.indexCast v1639
  let c7_3710 : Index := 7#32
  let c128_3711 : Index := 128#32
  let c0_3712 : Index := 0#32
  ![v8079.toNat, 7, 128, 0]
def k0_off221 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8113 : Index := Scalar.indexCast v1639
  let c7_3725 : Index := 7#32
  let c160_3726 : Index := 160#32
  let c0_3727 : Index := 0#32
  ![v8113.toNat, 7, 160, 0]
def k0_off222 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8147 : Index := Scalar.indexCast v1639
  let c7_3740 : Index := 7#32
  let c192_3741 : Index := 192#32
  let c0_3742 : Index := 0#32
  ![v8147.toNat, 7, 192, 0]
def k0_off223 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8181 : Index := Scalar.indexCast v1639
  let c7_3755 : Index := 7#32
  let c224_3756 : Index := 224#32
  let c0_3757 : Index := 0#32
  ![v8181.toNat, 7, 224, 0]
def k0_off224 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8220 : Index := Scalar.indexCast v1639
  let c6_3773 : Index := 6#32
  let c16_3774 : Index := 16#32
  let c0_3775 : Index := 0#32
  ![v8220.toNat, 6, 16, 0]
def k0_off225 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8235 : Index := Scalar.indexCast v1639
  let c7_3784 : Index := 7#32
  let c16_3785 : Index := 16#32
  let c0_3786 : Index := 0#32
  ![v8235.toNat, 7, 16, 0]
def k0_off226 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8250 : Index := Scalar.indexCast v1639
  let c6_3795 : Index := 6#32
  let c256_3796 : Index := 256#32
  let c0_3797 : Index := 0#32
  ![v8250.toNat, 6, 256, 0]
def k0_off227 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8284 : Index := Scalar.indexCast v1639
  let c6_3810 : Index := 6#32
  let c288_3811 : Index := 288#32
  let c0_3812 : Index := 0#32
  ![v8284.toNat, 6, 288, 0]
def k0_off228 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8318 : Index := Scalar.indexCast v1639
  let c6_3825 : Index := 6#32
  let c320_3826 : Index := 320#32
  let c0_3827 : Index := 0#32
  ![v8318.toNat, 6, 320, 0]
def k0_off229 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8352 : Index := Scalar.indexCast v1639
  let c6_3840 : Index := 6#32
  let c352_3841 : Index := 352#32
  let c0_3842 : Index := 0#32
  ![v8352.toNat, 6, 352, 0]
def k0_off230 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8387 : Index := Scalar.indexCast v1639
  let c7_3855 : Index := 7#32
  let c256_3856 : Index := 256#32
  let c0_3857 : Index := 0#32
  ![v8387.toNat, 7, 256, 0]
def k0_off231 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8421 : Index := Scalar.indexCast v1639
  let c7_3870 : Index := 7#32
  let c288_3871 : Index := 288#32
  let c0_3872 : Index := 0#32
  ![v8421.toNat, 7, 288, 0]
def k0_off232 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8455 : Index := Scalar.indexCast v1639
  let c7_3885 : Index := 7#32
  let c320_3886 : Index := 320#32
  let c0_3887 : Index := 0#32
  ![v8455.toNat, 7, 320, 0]
def k0_off233 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8489 : Index := Scalar.indexCast v1639
  let c7_3900 : Index := 7#32
  let c352_3901 : Index := 352#32
  let c0_3902 : Index := 0#32
  ![v8489.toNat, 7, 352, 0]
def k0_off234 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8528 : Index := Scalar.indexCast v1639
  let c6_3918 : Index := 6#32
  let c384_3919 : Index := 384#32
  let c0_3920 : Index := 0#32
  ![v8528.toNat, 6, 384, 0]
def k0_off235 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8562 : Index := Scalar.indexCast v1639
  let c6_3933 : Index := 6#32
  let c416_3934 : Index := 416#32
  let c0_3935 : Index := 0#32
  ![v8562.toNat, 6, 416, 0]
def k0_off236 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8596 : Index := Scalar.indexCast v1639
  let c6_3948 : Index := 6#32
  let c448_3949 : Index := 448#32
  let c0_3950 : Index := 0#32
  ![v8596.toNat, 6, 448, 0]
def k0_off237 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8630 : Index := Scalar.indexCast v1639
  let c6_3963 : Index := 6#32
  let c480_3964 : Index := 480#32
  let c0_3965 : Index := 0#32
  ![v8630.toNat, 6, 480, 0]
def k0_off238 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8665 : Index := Scalar.indexCast v1639
  let c7_3978 : Index := 7#32
  let c384_3979 : Index := 384#32
  let c0_3980 : Index := 0#32
  ![v8665.toNat, 7, 384, 0]
def k0_off239 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8699 : Index := Scalar.indexCast v1639
  let c7_3993 : Index := 7#32
  let c416_3994 : Index := 416#32
  let c0_3995 : Index := 0#32
  ![v8699.toNat, 7, 416, 0]
def k0_off240 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8733 : Index := Scalar.indexCast v1639
  let c7_4008 : Index := 7#32
  let c448_4009 : Index := 448#32
  let c0_4010 : Index := 0#32
  ![v8733.toNat, 7, 448, 0]
def k0_off241 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8767 : Index := Scalar.indexCast v1639
  let c7_4023 : Index := 7#32
  let c480_4024 : Index := 480#32
  let c0_4025 : Index := 0#32
  ![v8767.toNat, 7, 480, 0]
def k0_off242 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8806 : Index := Scalar.indexCast v1639
  let c6_4041 : Index := 6#32
  let c32_4042 : Index := 32#32
  let c0_4043 : Index := 0#32
  ![v8806.toNat, 6, 32, 0]
def k0_off243 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8821 : Index := Scalar.indexCast v1639
  let c7_4052 : Index := 7#32
  let c32_4053 : Index := 32#32
  let c0_4054 : Index := 0#32
  ![v8821.toNat, 7, 32, 0]
def k0_off244 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8836 : Index := Scalar.indexCast v1639
  let c6_4063 : Index := 6#32
  let c512_4064 : Index := 512#32
  let c0_4065 : Index := 0#32
  ![v8836.toNat, 6, 512, 0]
def k0_off245 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8870 : Index := Scalar.indexCast v1639
  let c6_4078 : Index := 6#32
  let c544_4079 : Index := 544#32
  let c0_4080 : Index := 0#32
  ![v8870.toNat, 6, 544, 0]
def k0_off246 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8904 : Index := Scalar.indexCast v1639
  let c6_4093 : Index := 6#32
  let c576_4094 : Index := 576#32
  let c0_4095 : Index := 0#32
  ![v8904.toNat, 6, 576, 0]
def k0_off247 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8938 : Index := Scalar.indexCast v1639
  let c6_4108 : Index := 6#32
  let c608_4109 : Index := 608#32
  let c0_4110 : Index := 0#32
  ![v8938.toNat, 6, 608, 0]
def k0_off248 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v8973 : Index := Scalar.indexCast v1639
  let c7_4123 : Index := 7#32
  let c512_4124 : Index := 512#32
  let c0_4125 : Index := 0#32
  ![v8973.toNat, 7, 512, 0]
def k0_off249 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9007 : Index := Scalar.indexCast v1639
  let c7_4138 : Index := 7#32
  let c544_4139 : Index := 544#32
  let c0_4140 : Index := 0#32
  ![v9007.toNat, 7, 544, 0]
def k0_off250 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9041 : Index := Scalar.indexCast v1639
  let c7_4153 : Index := 7#32
  let c576_4154 : Index := 576#32
  let c0_4155 : Index := 0#32
  ![v9041.toNat, 7, 576, 0]
def k0_off251 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9075 : Index := Scalar.indexCast v1639
  let c7_4168 : Index := 7#32
  let c608_4169 : Index := 608#32
  let c0_4170 : Index := 0#32
  ![v9075.toNat, 7, 608, 0]
def k0_off252 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9114 : Index := Scalar.indexCast v1639
  let c6_4186 : Index := 6#32
  let c640_4187 : Index := 640#32
  let c0_4188 : Index := 0#32
  ![v9114.toNat, 6, 640, 0]
def k0_off253 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9148 : Index := Scalar.indexCast v1639
  let c6_4201 : Index := 6#32
  let c672_4202 : Index := 672#32
  let c0_4203 : Index := 0#32
  ![v9148.toNat, 6, 672, 0]
def k0_off254 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9182 : Index := Scalar.indexCast v1639
  let c6_4216 : Index := 6#32
  let c704_4217 : Index := 704#32
  let c0_4218 : Index := 0#32
  ![v9182.toNat, 6, 704, 0]
def k0_off255 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9216 : Index := Scalar.indexCast v1639
  let c6_4231 : Index := 6#32
  let c736_4232 : Index := 736#32
  let c0_4233 : Index := 0#32
  ![v9216.toNat, 6, 736, 0]
def k0_off256 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9251 : Index := Scalar.indexCast v1639
  let c7_4246 : Index := 7#32
  let c640_4247 : Index := 640#32
  let c0_4248 : Index := 0#32
  ![v9251.toNat, 7, 640, 0]
def k0_off257 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9285 : Index := Scalar.indexCast v1639
  let c7_4261 : Index := 7#32
  let c672_4262 : Index := 672#32
  let c0_4263 : Index := 0#32
  ![v9285.toNat, 7, 672, 0]
def k0_off258 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9319 : Index := Scalar.indexCast v1639
  let c7_4276 : Index := 7#32
  let c704_4277 : Index := 704#32
  let c0_4278 : Index := 0#32
  ![v9319.toNat, 7, 704, 0]
def k0_off259 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9353 : Index := Scalar.indexCast v1639
  let c7_4291 : Index := 7#32
  let c736_4292 : Index := 736#32
  let c0_4293 : Index := 0#32
  ![v9353.toNat, 7, 736, 0]
def k0_off260 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9392 : Index := Scalar.indexCast v1639
  let c6_4309 : Index := 6#32
  let c48_4310 : Index := 48#32
  let c0_4311 : Index := 0#32
  ![v9392.toNat, 6, 48, 0]
def k0_off261 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9407 : Index := Scalar.indexCast v1639
  let c7_4320 : Index := 7#32
  let c48_4321 : Index := 48#32
  let c0_4322 : Index := 0#32
  ![v9407.toNat, 7, 48, 0]
def k0_off262 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9422 : Index := Scalar.indexCast v1639
  let c6_4331 : Index := 6#32
  let c768_4332 : Index := 768#32
  let c0_4333 : Index := 0#32
  ![v9422.toNat, 6, 768, 0]
def k0_off263 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9456 : Index := Scalar.indexCast v1639
  let c6_4346 : Index := 6#32
  let c800_4347 : Index := 800#32
  let c0_4348 : Index := 0#32
  ![v9456.toNat, 6, 800, 0]
def k0_off264 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9490 : Index := Scalar.indexCast v1639
  let c6_4361 : Index := 6#32
  let c832_4362 : Index := 832#32
  let c0_4363 : Index := 0#32
  ![v9490.toNat, 6, 832, 0]
def k0_off265 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9524 : Index := Scalar.indexCast v1639
  let c6_4376 : Index := 6#32
  let c864_4377 : Index := 864#32
  let c0_4378 : Index := 0#32
  ![v9524.toNat, 6, 864, 0]
def k0_off266 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9559 : Index := Scalar.indexCast v1639
  let c7_4391 : Index := 7#32
  let c768_4392 : Index := 768#32
  let c0_4393 : Index := 0#32
  ![v9559.toNat, 7, 768, 0]
def k0_off267 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9593 : Index := Scalar.indexCast v1639
  let c7_4406 : Index := 7#32
  let c800_4407 : Index := 800#32
  let c0_4408 : Index := 0#32
  ![v9593.toNat, 7, 800, 0]
def k0_off268 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9627 : Index := Scalar.indexCast v1639
  let c7_4421 : Index := 7#32
  let c832_4422 : Index := 832#32
  let c0_4423 : Index := 0#32
  ![v9627.toNat, 7, 832, 0]
def k0_off269 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9661 : Index := Scalar.indexCast v1639
  let c7_4436 : Index := 7#32
  let c864_4437 : Index := 864#32
  let c0_4438 : Index := 0#32
  ![v9661.toNat, 7, 864, 0]
def k0_off270 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9700 : Index := Scalar.indexCast v1639
  let c6_4454 : Index := 6#32
  let c896_4455 : Index := 896#32
  let c0_4456 : Index := 0#32
  ![v9700.toNat, 6, 896, 0]
def k0_off271 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9734 : Index := Scalar.indexCast v1639
  let c6_4469 : Index := 6#32
  let c928_4470 : Index := 928#32
  let c0_4471 : Index := 0#32
  ![v9734.toNat, 6, 928, 0]
def k0_off272 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9768 : Index := Scalar.indexCast v1639
  let c6_4484 : Index := 6#32
  let c960_4485 : Index := 960#32
  let c0_4486 : Index := 0#32
  ![v9768.toNat, 6, 960, 0]
def k0_off273 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9802 : Index := Scalar.indexCast v1639
  let c6_4499 : Index := 6#32
  let c992_4500 : Index := 992#32
  let c0_4501 : Index := 0#32
  ![v9802.toNat, 6, 992, 0]
def k0_off274 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9837 : Index := Scalar.indexCast v1639
  let c7_4514 : Index := 7#32
  let c896_4515 : Index := 896#32
  let c0_4516 : Index := 0#32
  ![v9837.toNat, 7, 896, 0]
def k0_off275 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9871 : Index := Scalar.indexCast v1639
  let c7_4529 : Index := 7#32
  let c928_4530 : Index := 928#32
  let c0_4531 : Index := 0#32
  ![v9871.toNat, 7, 928, 0]
def k0_off276 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9905 : Index := Scalar.indexCast v1639
  let c7_4544 : Index := 7#32
  let c960_4545 : Index := 960#32
  let c0_4546 : Index := 0#32
  ![v9905.toNat, 7, 960, 0]
def k0_off277 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9939 : Index := Scalar.indexCast v1639
  let c7_4559 : Index := 7#32
  let c992_4560 : Index := 992#32
  let c0_4561 : Index := 0#32
  ![v9939.toNat, 7, 992, 0]
def k0_off278 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9978 : Index := Scalar.indexCast v1639
  let c6_4577 : Index := 6#32
  let c64_4578 : Index := 64#32
  let c0_4579 : Index := 0#32
  ![v9978.toNat, 6, 64, 0]
def k0_off279 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v9993 : Index := Scalar.indexCast v1639
  let c7_4588 : Index := 7#32
  let c64_4589 : Index := 64#32
  let c0_4590 : Index := 0#32
  ![v9993.toNat, 7, 64, 0]
def k0_off280 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10008 : Index := Scalar.indexCast v1639
  let c6_4599 : Index := 6#32
  let c1024_4600 : Index := 1024#32
  let c0_4601 : Index := 0#32
  ![v10008.toNat, 6, 1024, 0]
def k0_off281 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10042 : Index := Scalar.indexCast v1639
  let c6_4614 : Index := 6#32
  let c1056_4615 : Index := 1056#32
  let c0_4616 : Index := 0#32
  ![v10042.toNat, 6, 1056, 0]
def k0_off282 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10076 : Index := Scalar.indexCast v1639
  let c6_4629 : Index := 6#32
  let c1088_4630 : Index := 1088#32
  let c0_4631 : Index := 0#32
  ![v10076.toNat, 6, 1088, 0]
def k0_off283 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10110 : Index := Scalar.indexCast v1639
  let c6_4644 : Index := 6#32
  let c1120_4645 : Index := 1120#32
  let c0_4646 : Index := 0#32
  ![v10110.toNat, 6, 1120, 0]
def k0_off284 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10145 : Index := Scalar.indexCast v1639
  let c7_4659 : Index := 7#32
  let c1024_4660 : Index := 1024#32
  let c0_4661 : Index := 0#32
  ![v10145.toNat, 7, 1024, 0]
def k0_off285 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10179 : Index := Scalar.indexCast v1639
  let c7_4674 : Index := 7#32
  let c1056_4675 : Index := 1056#32
  let c0_4676 : Index := 0#32
  ![v10179.toNat, 7, 1056, 0]
def k0_off286 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10213 : Index := Scalar.indexCast v1639
  let c7_4689 : Index := 7#32
  let c1088_4690 : Index := 1088#32
  let c0_4691 : Index := 0#32
  ![v10213.toNat, 7, 1088, 0]
def k0_off287 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10247 : Index := Scalar.indexCast v1639
  let c7_4704 : Index := 7#32
  let c1120_4705 : Index := 1120#32
  let c0_4706 : Index := 0#32
  ![v10247.toNat, 7, 1120, 0]
def k0_off288 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10286 : Index := Scalar.indexCast v1639
  let c6_4722 : Index := 6#32
  let c1152_4723 : Index := 1152#32
  let c0_4724 : Index := 0#32
  ![v10286.toNat, 6, 1152, 0]
def k0_off289 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10320 : Index := Scalar.indexCast v1639
  let c6_4737 : Index := 6#32
  let c1184_4738 : Index := 1184#32
  let c0_4739 : Index := 0#32
  ![v10320.toNat, 6, 1184, 0]
def k0_off290 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10354 : Index := Scalar.indexCast v1639
  let c6_4752 : Index := 6#32
  let c1216_4753 : Index := 1216#32
  let c0_4754 : Index := 0#32
  ![v10354.toNat, 6, 1216, 0]
def k0_off291 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10388 : Index := Scalar.indexCast v1639
  let c6_4767 : Index := 6#32
  let c1248_4768 : Index := 1248#32
  let c0_4769 : Index := 0#32
  ![v10388.toNat, 6, 1248, 0]
def k0_off292 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10423 : Index := Scalar.indexCast v1639
  let c7_4782 : Index := 7#32
  let c1152_4783 : Index := 1152#32
  let c0_4784 : Index := 0#32
  ![v10423.toNat, 7, 1152, 0]
def k0_off293 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10457 : Index := Scalar.indexCast v1639
  let c7_4797 : Index := 7#32
  let c1184_4798 : Index := 1184#32
  let c0_4799 : Index := 0#32
  ![v10457.toNat, 7, 1184, 0]
def k0_off294 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10491 : Index := Scalar.indexCast v1639
  let c7_4812 : Index := 7#32
  let c1216_4813 : Index := 1216#32
  let c0_4814 : Index := 0#32
  ![v10491.toNat, 7, 1216, 0]
def k0_off295 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10525 : Index := Scalar.indexCast v1639
  let c7_4827 : Index := 7#32
  let c1248_4828 : Index := 1248#32
  let c0_4829 : Index := 0#32
  ![v10525.toNat, 7, 1248, 0]
def k0_off296 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10564 : Index := Scalar.indexCast v1639
  let c6_4845 : Index := 6#32
  let c80_4846 : Index := 80#32
  let c0_4847 : Index := 0#32
  ![v10564.toNat, 6, 80, 0]
def k0_off297 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10579 : Index := Scalar.indexCast v1639
  let c7_4856 : Index := 7#32
  let c80_4857 : Index := 80#32
  let c0_4858 : Index := 0#32
  ![v10579.toNat, 7, 80, 0]
def k0_off298 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10594 : Index := Scalar.indexCast v1639
  let c6_4867 : Index := 6#32
  let c1280_4868 : Index := 1280#32
  let c0_4869 : Index := 0#32
  ![v10594.toNat, 6, 1280, 0]
def k0_off299 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10628 : Index := Scalar.indexCast v1639
  let c6_4882 : Index := 6#32
  let c1312_4883 : Index := 1312#32
  let c0_4884 : Index := 0#32
  ![v10628.toNat, 6, 1312, 0]
def k0_off300 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10662 : Index := Scalar.indexCast v1639
  let c6_4897 : Index := 6#32
  let c1344_4898 : Index := 1344#32
  let c0_4899 : Index := 0#32
  ![v10662.toNat, 6, 1344, 0]
def k0_off301 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10696 : Index := Scalar.indexCast v1639
  let c6_4912 : Index := 6#32
  let c1376_4913 : Index := 1376#32
  let c0_4914 : Index := 0#32
  ![v10696.toNat, 6, 1376, 0]
def k0_off302 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10731 : Index := Scalar.indexCast v1639
  let c7_4927 : Index := 7#32
  let c1280_4928 : Index := 1280#32
  let c0_4929 : Index := 0#32
  ![v10731.toNat, 7, 1280, 0]
def k0_off303 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10765 : Index := Scalar.indexCast v1639
  let c7_4942 : Index := 7#32
  let c1312_4943 : Index := 1312#32
  let c0_4944 : Index := 0#32
  ![v10765.toNat, 7, 1312, 0]
def k0_off304 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10799 : Index := Scalar.indexCast v1639
  let c7_4957 : Index := 7#32
  let c1344_4958 : Index := 1344#32
  let c0_4959 : Index := 0#32
  ![v10799.toNat, 7, 1344, 0]
def k0_off305 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10833 : Index := Scalar.indexCast v1639
  let c7_4972 : Index := 7#32
  let c1376_4973 : Index := 1376#32
  let c0_4974 : Index := 0#32
  ![v10833.toNat, 7, 1376, 0]
def k0_off306 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10872 : Index := Scalar.indexCast v1639
  let c6_4990 : Index := 6#32
  let c1408_4991 : Index := 1408#32
  let c0_4992 : Index := 0#32
  ![v10872.toNat, 6, 1408, 0]
def k0_off307 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10906 : Index := Scalar.indexCast v1639
  let c6_5005 : Index := 6#32
  let c1440_5006 : Index := 1440#32
  let c0_5007 : Index := 0#32
  ![v10906.toNat, 6, 1440, 0]
def k0_off308 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10940 : Index := Scalar.indexCast v1639
  let c6_5020 : Index := 6#32
  let c1472_5021 : Index := 1472#32
  let c0_5022 : Index := 0#32
  ![v10940.toNat, 6, 1472, 0]
def k0_off309 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v10974 : Index := Scalar.indexCast v1639
  let c6_5035 : Index := 6#32
  let c1504_5036 : Index := 1504#32
  let c0_5037 : Index := 0#32
  ![v10974.toNat, 6, 1504, 0]
def k0_off310 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11009 : Index := Scalar.indexCast v1639
  let c7_5050 : Index := 7#32
  let c1408_5051 : Index := 1408#32
  let c0_5052 : Index := 0#32
  ![v11009.toNat, 7, 1408, 0]
def k0_off311 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11043 : Index := Scalar.indexCast v1639
  let c7_5065 : Index := 7#32
  let c1440_5066 : Index := 1440#32
  let c0_5067 : Index := 0#32
  ![v11043.toNat, 7, 1440, 0]
def k0_off312 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11077 : Index := Scalar.indexCast v1639
  let c7_5080 : Index := 7#32
  let c1472_5081 : Index := 1472#32
  let c0_5082 : Index := 0#32
  ![v11077.toNat, 7, 1472, 0]
def k0_off313 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11111 : Index := Scalar.indexCast v1639
  let c7_5095 : Index := 7#32
  let c1504_5096 : Index := 1504#32
  let c0_5097 : Index := 0#32
  ![v11111.toNat, 7, 1504, 0]
def k0_off314 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11150 : Index := Scalar.indexCast v1639
  let c6_5113 : Index := 6#32
  let c96_5114 : Index := 96#32
  let c0_5115 : Index := 0#32
  ![v11150.toNat, 6, 96, 0]
def k0_off315 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11165 : Index := Scalar.indexCast v1639
  let c7_5124 : Index := 7#32
  let c96_5125 : Index := 96#32
  let c0_5126 : Index := 0#32
  ![v11165.toNat, 7, 96, 0]
def k0_off316 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11180 : Index := Scalar.indexCast v1639
  let c6_5135 : Index := 6#32
  let c1536_5136 : Index := 1536#32
  let c0_5137 : Index := 0#32
  ![v11180.toNat, 6, 1536, 0]
def k0_off317 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11214 : Index := Scalar.indexCast v1639
  let c6_5150 : Index := 6#32
  let c1568_5151 : Index := 1568#32
  let c0_5152 : Index := 0#32
  ![v11214.toNat, 6, 1568, 0]
def k0_off318 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11248 : Index := Scalar.indexCast v1639
  let c6_5165 : Index := 6#32
  let c1600_5166 : Index := 1600#32
  let c0_5167 : Index := 0#32
  ![v11248.toNat, 6, 1600, 0]
def k0_off319 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11282 : Index := Scalar.indexCast v1639
  let c6_5180 : Index := 6#32
  let c1632_5181 : Index := 1632#32
  let c0_5182 : Index := 0#32
  ![v11282.toNat, 6, 1632, 0]
def k0_off320 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11317 : Index := Scalar.indexCast v1639
  let c7_5195 : Index := 7#32
  let c1536_5196 : Index := 1536#32
  let c0_5197 : Index := 0#32
  ![v11317.toNat, 7, 1536, 0]
def k0_off321 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11351 : Index := Scalar.indexCast v1639
  let c7_5210 : Index := 7#32
  let c1568_5211 : Index := 1568#32
  let c0_5212 : Index := 0#32
  ![v11351.toNat, 7, 1568, 0]
def k0_off322 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11385 : Index := Scalar.indexCast v1639
  let c7_5225 : Index := 7#32
  let c1600_5226 : Index := 1600#32
  let c0_5227 : Index := 0#32
  ![v11385.toNat, 7, 1600, 0]
def k0_off323 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11419 : Index := Scalar.indexCast v1639
  let c7_5240 : Index := 7#32
  let c1632_5241 : Index := 1632#32
  let c0_5242 : Index := 0#32
  ![v11419.toNat, 7, 1632, 0]
def k0_off324 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11458 : Index := Scalar.indexCast v1639
  let c6_5258 : Index := 6#32
  let c1664_5259 : Index := 1664#32
  let c0_5260 : Index := 0#32
  ![v11458.toNat, 6, 1664, 0]
def k0_off325 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11492 : Index := Scalar.indexCast v1639
  let c6_5273 : Index := 6#32
  let c1696_5274 : Index := 1696#32
  let c0_5275 : Index := 0#32
  ![v11492.toNat, 6, 1696, 0]
def k0_off326 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11526 : Index := Scalar.indexCast v1639
  let c6_5288 : Index := 6#32
  let c1728_5289 : Index := 1728#32
  let c0_5290 : Index := 0#32
  ![v11526.toNat, 6, 1728, 0]
def k0_off327 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11560 : Index := Scalar.indexCast v1639
  let c6_5303 : Index := 6#32
  let c1760_5304 : Index := 1760#32
  let c0_5305 : Index := 0#32
  ![v11560.toNat, 6, 1760, 0]
def k0_off328 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11595 : Index := Scalar.indexCast v1639
  let c7_5318 : Index := 7#32
  let c1664_5319 : Index := 1664#32
  let c0_5320 : Index := 0#32
  ![v11595.toNat, 7, 1664, 0]
def k0_off329 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11629 : Index := Scalar.indexCast v1639
  let c7_5333 : Index := 7#32
  let c1696_5334 : Index := 1696#32
  let c0_5335 : Index := 0#32
  ![v11629.toNat, 7, 1696, 0]
def k0_off330 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11663 : Index := Scalar.indexCast v1639
  let c7_5348 : Index := 7#32
  let c1728_5349 : Index := 1728#32
  let c0_5350 : Index := 0#32
  ![v11663.toNat, 7, 1728, 0]
def k0_off331 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11697 : Index := Scalar.indexCast v1639
  let c7_5363 : Index := 7#32
  let c1760_5364 : Index := 1760#32
  let c0_5365 : Index := 0#32
  ![v11697.toNat, 7, 1760, 0]
def k0_off332 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11736 : Index := Scalar.indexCast v1639
  let c6_5381 : Index := 6#32
  let c112_5382 : Index := 112#32
  let c0_5383 : Index := 0#32
  ![v11736.toNat, 6, 112, 0]
def k0_off333 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11751 : Index := Scalar.indexCast v1639
  let c7_5392 : Index := 7#32
  let c112_5393 : Index := 112#32
  let c0_5394 : Index := 0#32
  ![v11751.toNat, 7, 112, 0]
def k0_off334 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11766 : Index := Scalar.indexCast v1639
  let c6_5403 : Index := 6#32
  let c1792_5404 : Index := 1792#32
  let c0_5405 : Index := 0#32
  ![v11766.toNat, 6, 1792, 0]
def k0_off335 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11800 : Index := Scalar.indexCast v1639
  let c6_5418 : Index := 6#32
  let c1824_5419 : Index := 1824#32
  let c0_5420 : Index := 0#32
  ![v11800.toNat, 6, 1824, 0]
def k0_off336 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11834 : Index := Scalar.indexCast v1639
  let c6_5433 : Index := 6#32
  let c1856_5434 : Index := 1856#32
  let c0_5435 : Index := 0#32
  ![v11834.toNat, 6, 1856, 0]
def k0_off337 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11868 : Index := Scalar.indexCast v1639
  let c6_5448 : Index := 6#32
  let c1888_5449 : Index := 1888#32
  let c0_5450 : Index := 0#32
  ![v11868.toNat, 6, 1888, 0]
def k0_off338 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11903 : Index := Scalar.indexCast v1639
  let c7_5463 : Index := 7#32
  let c1792_5464 : Index := 1792#32
  let c0_5465 : Index := 0#32
  ![v11903.toNat, 7, 1792, 0]
def k0_off339 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11937 : Index := Scalar.indexCast v1639
  let c7_5478 : Index := 7#32
  let c1824_5479 : Index := 1824#32
  let c0_5480 : Index := 0#32
  ![v11937.toNat, 7, 1824, 0]
def k0_off340 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v11971 : Index := Scalar.indexCast v1639
  let c7_5493 : Index := 7#32
  let c1856_5494 : Index := 1856#32
  let c0_5495 : Index := 0#32
  ![v11971.toNat, 7, 1856, 0]
def k0_off341 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12005 : Index := Scalar.indexCast v1639
  let c7_5508 : Index := 7#32
  let c1888_5509 : Index := 1888#32
  let c0_5510 : Index := 0#32
  ![v12005.toNat, 7, 1888, 0]
def k0_off342 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12044 : Index := Scalar.indexCast v1639
  let c6_5526 : Index := 6#32
  let c1920_5527 : Index := 1920#32
  let c0_5528 : Index := 0#32
  ![v12044.toNat, 6, 1920, 0]
def k0_off343 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12078 : Index := Scalar.indexCast v1639
  let c6_5541 : Index := 6#32
  let c1952_5542 : Index := 1952#32
  let c0_5543 : Index := 0#32
  ![v12078.toNat, 6, 1952, 0]
def k0_off344 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12112 : Index := Scalar.indexCast v1639
  let c6_5556 : Index := 6#32
  let c1984_5557 : Index := 1984#32
  let c0_5558 : Index := 0#32
  ![v12112.toNat, 6, 1984, 0]
def k0_off345 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12146 : Index := Scalar.indexCast v1639
  let c6_5571 : Index := 6#32
  let c2016_5572 : Index := 2016#32
  let c0_5573 : Index := 0#32
  ![v12146.toNat, 6, 2016, 0]
def k0_off346 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12181 : Index := Scalar.indexCast v1639
  let c7_5586 : Index := 7#32
  let c1920_5587 : Index := 1920#32
  let c0_5588 : Index := 0#32
  ![v12181.toNat, 7, 1920, 0]
def k0_off347 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12215 : Index := Scalar.indexCast v1639
  let c7_5601 : Index := 7#32
  let c1952_5602 : Index := 1952#32
  let c0_5603 : Index := 0#32
  ![v12215.toNat, 7, 1952, 0]
def k0_off348 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12249 : Index := Scalar.indexCast v1639
  let c7_5616 : Index := 7#32
  let c1984_5617 : Index := 1984#32
  let c0_5618 : Index := 0#32
  ![v12249.toNat, 7, 1984, 0]
def k0_off349 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12283 : Index := Scalar.indexCast v1639
  let c7_5631 : Index := 7#32
  let c2016_5632 : Index := 2016#32
  let c0_5633 : Index := 0#32
  ![v12283.toNat, 7, 2016, 0]
def k0_off350 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12322 : Index := Scalar.indexCast v1639
  let c6_5649 : Index := 6#32
  let c128_5650 : Index := 128#32
  let c0_5651 : Index := 0#32
  ![v12322.toNat, 6, 128, 0]
def k0_off351 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12337 : Index := Scalar.indexCast v1639
  let c7_5660 : Index := 7#32
  let c128_5661 : Index := 128#32
  let c0_5662 : Index := 0#32
  ![v12337.toNat, 7, 128, 0]
def k0_off352 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12352 : Index := Scalar.indexCast v1639
  let c6_5671 : Index := 6#32
  let c2048_5672 : Index := 2048#32
  let c0_5673 : Index := 0#32
  ![v12352.toNat, 6, 2048, 0]
def k0_off353 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12386 : Index := Scalar.indexCast v1639
  let c6_5686 : Index := 6#32
  let c2080_5687 : Index := 2080#32
  let c0_5688 : Index := 0#32
  ![v12386.toNat, 6, 2080, 0]
def k0_off354 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12420 : Index := Scalar.indexCast v1639
  let c6_5701 : Index := 6#32
  let c2112_5702 : Index := 2112#32
  let c0_5703 : Index := 0#32
  ![v12420.toNat, 6, 2112, 0]
def k0_off355 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12454 : Index := Scalar.indexCast v1639
  let c6_5716 : Index := 6#32
  let c2144_5717 : Index := 2144#32
  let c0_5718 : Index := 0#32
  ![v12454.toNat, 6, 2144, 0]
def k0_off356 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12489 : Index := Scalar.indexCast v1639
  let c7_5731 : Index := 7#32
  let c2048_5732 : Index := 2048#32
  let c0_5733 : Index := 0#32
  ![v12489.toNat, 7, 2048, 0]
def k0_off357 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12523 : Index := Scalar.indexCast v1639
  let c7_5746 : Index := 7#32
  let c2080_5747 : Index := 2080#32
  let c0_5748 : Index := 0#32
  ![v12523.toNat, 7, 2080, 0]
def k0_off358 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12557 : Index := Scalar.indexCast v1639
  let c7_5761 : Index := 7#32
  let c2112_5762 : Index := 2112#32
  let c0_5763 : Index := 0#32
  ![v12557.toNat, 7, 2112, 0]
def k0_off359 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12591 : Index := Scalar.indexCast v1639
  let c7_5776 : Index := 7#32
  let c2144_5777 : Index := 2144#32
  let c0_5778 : Index := 0#32
  ![v12591.toNat, 7, 2144, 0]
def k0_off360 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12630 : Index := Scalar.indexCast v1639
  let c6_5794 : Index := 6#32
  let c2176_5795 : Index := 2176#32
  let c0_5796 : Index := 0#32
  ![v12630.toNat, 6, 2176, 0]
def k0_off361 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12664 : Index := Scalar.indexCast v1639
  let c6_5809 : Index := 6#32
  let c2208_5810 : Index := 2208#32
  let c0_5811 : Index := 0#32
  ![v12664.toNat, 6, 2208, 0]
def k0_off362 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12698 : Index := Scalar.indexCast v1639
  let c6_5824 : Index := 6#32
  let c2240_5825 : Index := 2240#32
  let c0_5826 : Index := 0#32
  ![v12698.toNat, 6, 2240, 0]
def k0_off363 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12732 : Index := Scalar.indexCast v1639
  let c6_5839 : Index := 6#32
  let c2272_5840 : Index := 2272#32
  let c0_5841 : Index := 0#32
  ![v12732.toNat, 6, 2272, 0]
def k0_off364 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12767 : Index := Scalar.indexCast v1639
  let c7_5854 : Index := 7#32
  let c2176_5855 : Index := 2176#32
  let c0_5856 : Index := 0#32
  ![v12767.toNat, 7, 2176, 0]
def k0_off365 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12801 : Index := Scalar.indexCast v1639
  let c7_5869 : Index := 7#32
  let c2208_5870 : Index := 2208#32
  let c0_5871 : Index := 0#32
  ![v12801.toNat, 7, 2208, 0]
def k0_off366 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12835 : Index := Scalar.indexCast v1639
  let c7_5884 : Index := 7#32
  let c2240_5885 : Index := 2240#32
  let c0_5886 : Index := 0#32
  ![v12835.toNat, 7, 2240, 0]
def k0_off367 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12869 : Index := Scalar.indexCast v1639
  let c7_5899 : Index := 7#32
  let c2272_5900 : Index := 2272#32
  let c0_5901 : Index := 0#32
  ![v12869.toNat, 7, 2272, 0]
def k0_off368 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12908 : Index := Scalar.indexCast v1639
  let c6_5917 : Index := 6#32
  let c144_5918 : Index := 144#32
  let c0_5919 : Index := 0#32
  ![v12908.toNat, 6, 144, 0]
def k0_off369 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12923 : Index := Scalar.indexCast v1639
  let c7_5928 : Index := 7#32
  let c144_5929 : Index := 144#32
  let c0_5930 : Index := 0#32
  ![v12923.toNat, 7, 144, 0]
def k0_off370 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12938 : Index := Scalar.indexCast v1639
  let c6_5939 : Index := 6#32
  let c2304_5940 : Index := 2304#32
  let c0_5941 : Index := 0#32
  ![v12938.toNat, 6, 2304, 0]
def k0_off371 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v12972 : Index := Scalar.indexCast v1639
  let c6_5954 : Index := 6#32
  let c2336_5955 : Index := 2336#32
  let c0_5956 : Index := 0#32
  ![v12972.toNat, 6, 2336, 0]
def k0_off372 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13006 : Index := Scalar.indexCast v1639
  let c6_5969 : Index := 6#32
  let c2368_5970 : Index := 2368#32
  let c0_5971 : Index := 0#32
  ![v13006.toNat, 6, 2368, 0]
def k0_off373 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13040 : Index := Scalar.indexCast v1639
  let c6_5984 : Index := 6#32
  let c2400_5985 : Index := 2400#32
  let c0_5986 : Index := 0#32
  ![v13040.toNat, 6, 2400, 0]
def k0_off374 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13075 : Index := Scalar.indexCast v1639
  let c7_5999 : Index := 7#32
  let c2304_6000 : Index := 2304#32
  let c0_6001 : Index := 0#32
  ![v13075.toNat, 7, 2304, 0]
def k0_off375 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13109 : Index := Scalar.indexCast v1639
  let c7_6014 : Index := 7#32
  let c2336_6015 : Index := 2336#32
  let c0_6016 : Index := 0#32
  ![v13109.toNat, 7, 2336, 0]
def k0_off376 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13143 : Index := Scalar.indexCast v1639
  let c7_6029 : Index := 7#32
  let c2368_6030 : Index := 2368#32
  let c0_6031 : Index := 0#32
  ![v13143.toNat, 7, 2368, 0]
def k0_off377 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13177 : Index := Scalar.indexCast v1639
  let c7_6044 : Index := 7#32
  let c2400_6045 : Index := 2400#32
  let c0_6046 : Index := 0#32
  ![v13177.toNat, 7, 2400, 0]
def k0_off378 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13216 : Index := Scalar.indexCast v1639
  let c6_6062 : Index := 6#32
  let c2432_6063 : Index := 2432#32
  let c0_6064 : Index := 0#32
  ![v13216.toNat, 6, 2432, 0]
def k0_off379 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13250 : Index := Scalar.indexCast v1639
  let c6_6077 : Index := 6#32
  let c2464_6078 : Index := 2464#32
  let c0_6079 : Index := 0#32
  ![v13250.toNat, 6, 2464, 0]
def k0_off380 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13284 : Index := Scalar.indexCast v1639
  let c6_6092 : Index := 6#32
  let c2496_6093 : Index := 2496#32
  let c0_6094 : Index := 0#32
  ![v13284.toNat, 6, 2496, 0]
def k0_off381 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13318 : Index := Scalar.indexCast v1639
  let c6_6107 : Index := 6#32
  let c2528_6108 : Index := 2528#32
  let c0_6109 : Index := 0#32
  ![v13318.toNat, 6, 2528, 0]
def k0_off382 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13353 : Index := Scalar.indexCast v1639
  let c7_6122 : Index := 7#32
  let c2432_6123 : Index := 2432#32
  let c0_6124 : Index := 0#32
  ![v13353.toNat, 7, 2432, 0]
def k0_off383 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13387 : Index := Scalar.indexCast v1639
  let c7_6137 : Index := 7#32
  let c2464_6138 : Index := 2464#32
  let c0_6139 : Index := 0#32
  ![v13387.toNat, 7, 2464, 0]
def k0_off384 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13421 : Index := Scalar.indexCast v1639
  let c7_6152 : Index := 7#32
  let c2496_6153 : Index := 2496#32
  let c0_6154 : Index := 0#32
  ![v13421.toNat, 7, 2496, 0]
def k0_off385 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13455 : Index := Scalar.indexCast v1639
  let c7_6167 : Index := 7#32
  let c2528_6168 : Index := 2528#32
  let c0_6169 : Index := 0#32
  ![v13455.toNat, 7, 2528, 0]
def k0_mult37 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_6185 : BitVec 32 := 768#32
  let v13497 : BitVec 32 := Scalar.muli arg14 c768_i32_6185
  let c0_i32_6186 : BitVec 32 := 0#32
  let v13498 : BitVec 32 := Scalar.addi v13497 c0_i32_6186
  let c0_i32_6187 : BitVec 32 := 0#32
  let v13499 : BitVec 32 := Scalar.addi v13498 c0_i32_6187
  v13499
def k0_off386 (k0_t1 : Fin k0_t1_loop.trips) (c0_i32_6186 : BitVec 32) (c0_i32_6187 : BitVec 32) : Fin 2 → Nat :=
  let c0_6195 : Index := 0#32
  let c0_i32_852 : BitVec 32 := 0#32
  let c1_i32_853 : BitVec 32 := 1#32
  let arg14 : BitVec 32 := Scf.iv c0_i32_852 c1_i32_853 k0_t1
  let c768_i32_6185 : BitVec 32 := 768#32
  let v13497 : BitVec 32 := Scalar.muli arg14 c768_i32_6185
  let v13498 : BitVec 32 := Scalar.addi v13497 c0_i32_6186
  let v13499 : BitVec 32 := Scalar.addi v13498 c0_i32_6187
  let v13500 : BitVec 32 := v13499
  let v13524 : Index := Scalar.indexCast v13500
  ![0, v13524.toNat]
def k0_mult38 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_6196 : BitVec 32 := 768#32
  let v13526 : BitVec 32 := Scalar.muli arg14 c768_i32_6196
  let c0_i32_6197 : BitVec 32 := 0#32
  let v13527 : BitVec 32 := Scalar.addi v13526 c0_i32_6197
  let c128_i32_6198 : BitVec 32 := 128#32
  let v13528 : BitVec 32 := Scalar.addi v13527 c128_i32_6198
  v13528
def k0_off387 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13556 : Index := Scalar.indexCast v1639
  let c2_6208 : Index := 2#32
  let c0_6209 : Index := 0#32
  let c0_6210 : Index := 0#32
  ![v13556.toNat, 2, 0, 0]
def k0_off388 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13571 : Index := Scalar.indexCast v1639
  let c3_6219 : Index := 3#32
  let c0_6220 : Index := 0#32
  let c0_6221 : Index := 0#32
  ![v13571.toNat, 3, 0, 0]
def k0_off389 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13586 : Index := Scalar.indexCast v1639
  let c2_6230 : Index := 2#32
  let c0_6231 : Index := 0#32
  let c0_6232 : Index := 0#32
  ![v13586.toNat, 2, 0, 0]
def k0_off390 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13620 : Index := Scalar.indexCast v1639
  let c2_6245 : Index := 2#32
  let c32_6246 : Index := 32#32
  let c0_6247 : Index := 0#32
  ![v13620.toNat, 2, 32, 0]
def k0_off391 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13654 : Index := Scalar.indexCast v1639
  let c2_6260 : Index := 2#32
  let c64_6261 : Index := 64#32
  let c0_6262 : Index := 0#32
  ![v13654.toNat, 2, 64, 0]
def k0_off392 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13688 : Index := Scalar.indexCast v1639
  let c2_6275 : Index := 2#32
  let c96_6276 : Index := 96#32
  let c0_6277 : Index := 0#32
  ![v13688.toNat, 2, 96, 0]
def k0_off393 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13723 : Index := Scalar.indexCast v1639
  let c3_6290 : Index := 3#32
  let c0_6291 : Index := 0#32
  let c0_6292 : Index := 0#32
  ![v13723.toNat, 3, 0, 0]
def k0_off394 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13757 : Index := Scalar.indexCast v1639
  let c3_6305 : Index := 3#32
  let c32_6306 : Index := 32#32
  let c0_6307 : Index := 0#32
  ![v13757.toNat, 3, 32, 0]
def k0_off395 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13791 : Index := Scalar.indexCast v1639
  let c3_6320 : Index := 3#32
  let c64_6321 : Index := 64#32
  let c0_6322 : Index := 0#32
  ![v13791.toNat, 3, 64, 0]
def k0_off396 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13825 : Index := Scalar.indexCast v1639
  let c3_6335 : Index := 3#32
  let c96_6336 : Index := 96#32
  let c0_6337 : Index := 0#32
  ![v13825.toNat, 3, 96, 0]
def k0_off397 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13864 : Index := Scalar.indexCast v1639
  let c2_6353 : Index := 2#32
  let c128_6354 : Index := 128#32
  let c0_6355 : Index := 0#32
  ![v13864.toNat, 2, 128, 0]
def k0_off398 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13898 : Index := Scalar.indexCast v1639
  let c2_6368 : Index := 2#32
  let c160_6369 : Index := 160#32
  let c0_6370 : Index := 0#32
  ![v13898.toNat, 2, 160, 0]
def k0_off399 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13932 : Index := Scalar.indexCast v1639
  let c2_6383 : Index := 2#32
  let c192_6384 : Index := 192#32
  let c0_6385 : Index := 0#32
  ![v13932.toNat, 2, 192, 0]
def k0_off400 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v13966 : Index := Scalar.indexCast v1639
  let c2_6398 : Index := 2#32
  let c224_6399 : Index := 224#32
  let c0_6400 : Index := 0#32
  ![v13966.toNat, 2, 224, 0]
def k0_off401 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14001 : Index := Scalar.indexCast v1639
  let c3_6413 : Index := 3#32
  let c128_6414 : Index := 128#32
  let c0_6415 : Index := 0#32
  ![v14001.toNat, 3, 128, 0]
def k0_off402 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14035 : Index := Scalar.indexCast v1639
  let c3_6428 : Index := 3#32
  let c160_6429 : Index := 160#32
  let c0_6430 : Index := 0#32
  ![v14035.toNat, 3, 160, 0]
def k0_off403 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14069 : Index := Scalar.indexCast v1639
  let c3_6443 : Index := 3#32
  let c192_6444 : Index := 192#32
  let c0_6445 : Index := 0#32
  ![v14069.toNat, 3, 192, 0]
def k0_off404 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14103 : Index := Scalar.indexCast v1639
  let c3_6458 : Index := 3#32
  let c224_6459 : Index := 224#32
  let c0_6460 : Index := 0#32
  ![v14103.toNat, 3, 224, 0]
def k0_off405 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14142 : Index := Scalar.indexCast v1639
  let c2_6476 : Index := 2#32
  let c16_6477 : Index := 16#32
  let c0_6478 : Index := 0#32
  ![v14142.toNat, 2, 16, 0]
def k0_off406 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14157 : Index := Scalar.indexCast v1639
  let c3_6487 : Index := 3#32
  let c16_6488 : Index := 16#32
  let c0_6489 : Index := 0#32
  ![v14157.toNat, 3, 16, 0]
def k0_off407 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14172 : Index := Scalar.indexCast v1639
  let c2_6498 : Index := 2#32
  let c256_6499 : Index := 256#32
  let c0_6500 : Index := 0#32
  ![v14172.toNat, 2, 256, 0]
def k0_off408 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14206 : Index := Scalar.indexCast v1639
  let c2_6513 : Index := 2#32
  let c288_6514 : Index := 288#32
  let c0_6515 : Index := 0#32
  ![v14206.toNat, 2, 288, 0]
def k0_off409 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14240 : Index := Scalar.indexCast v1639
  let c2_6528 : Index := 2#32
  let c320_6529 : Index := 320#32
  let c0_6530 : Index := 0#32
  ![v14240.toNat, 2, 320, 0]
def k0_off410 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14274 : Index := Scalar.indexCast v1639
  let c2_6543 : Index := 2#32
  let c352_6544 : Index := 352#32
  let c0_6545 : Index := 0#32
  ![v14274.toNat, 2, 352, 0]
def k0_off411 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14309 : Index := Scalar.indexCast v1639
  let c3_6558 : Index := 3#32
  let c256_6559 : Index := 256#32
  let c0_6560 : Index := 0#32
  ![v14309.toNat, 3, 256, 0]
def k0_off412 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14343 : Index := Scalar.indexCast v1639
  let c3_6573 : Index := 3#32
  let c288_6574 : Index := 288#32
  let c0_6575 : Index := 0#32
  ![v14343.toNat, 3, 288, 0]
def k0_off413 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14377 : Index := Scalar.indexCast v1639
  let c3_6588 : Index := 3#32
  let c320_6589 : Index := 320#32
  let c0_6590 : Index := 0#32
  ![v14377.toNat, 3, 320, 0]
def k0_off414 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14411 : Index := Scalar.indexCast v1639
  let c3_6603 : Index := 3#32
  let c352_6604 : Index := 352#32
  let c0_6605 : Index := 0#32
  ![v14411.toNat, 3, 352, 0]
def k0_off415 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14450 : Index := Scalar.indexCast v1639
  let c2_6621 : Index := 2#32
  let c384_6622 : Index := 384#32
  let c0_6623 : Index := 0#32
  ![v14450.toNat, 2, 384, 0]
def k0_off416 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14484 : Index := Scalar.indexCast v1639
  let c2_6636 : Index := 2#32
  let c416_6637 : Index := 416#32
  let c0_6638 : Index := 0#32
  ![v14484.toNat, 2, 416, 0]
def k0_off417 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14518 : Index := Scalar.indexCast v1639
  let c2_6651 : Index := 2#32
  let c448_6652 : Index := 448#32
  let c0_6653 : Index := 0#32
  ![v14518.toNat, 2, 448, 0]
def k0_off418 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14552 : Index := Scalar.indexCast v1639
  let c2_6666 : Index := 2#32
  let c480_6667 : Index := 480#32
  let c0_6668 : Index := 0#32
  ![v14552.toNat, 2, 480, 0]
def k0_off419 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14587 : Index := Scalar.indexCast v1639
  let c3_6681 : Index := 3#32
  let c384_6682 : Index := 384#32
  let c0_6683 : Index := 0#32
  ![v14587.toNat, 3, 384, 0]
def k0_off420 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14621 : Index := Scalar.indexCast v1639
  let c3_6696 : Index := 3#32
  let c416_6697 : Index := 416#32
  let c0_6698 : Index := 0#32
  ![v14621.toNat, 3, 416, 0]
def k0_off421 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14655 : Index := Scalar.indexCast v1639
  let c3_6711 : Index := 3#32
  let c448_6712 : Index := 448#32
  let c0_6713 : Index := 0#32
  ![v14655.toNat, 3, 448, 0]
def k0_off422 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14689 : Index := Scalar.indexCast v1639
  let c3_6726 : Index := 3#32
  let c480_6727 : Index := 480#32
  let c0_6728 : Index := 0#32
  ![v14689.toNat, 3, 480, 0]
def k0_off423 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14728 : Index := Scalar.indexCast v1639
  let c2_6744 : Index := 2#32
  let c32_6745 : Index := 32#32
  let c0_6746 : Index := 0#32
  ![v14728.toNat, 2, 32, 0]
def k0_off424 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14743 : Index := Scalar.indexCast v1639
  let c3_6755 : Index := 3#32
  let c32_6756 : Index := 32#32
  let c0_6757 : Index := 0#32
  ![v14743.toNat, 3, 32, 0]
def k0_off425 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14758 : Index := Scalar.indexCast v1639
  let c2_6766 : Index := 2#32
  let c512_6767 : Index := 512#32
  let c0_6768 : Index := 0#32
  ![v14758.toNat, 2, 512, 0]
def k0_off426 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14792 : Index := Scalar.indexCast v1639
  let c2_6781 : Index := 2#32
  let c544_6782 : Index := 544#32
  let c0_6783 : Index := 0#32
  ![v14792.toNat, 2, 544, 0]
def k0_off427 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14826 : Index := Scalar.indexCast v1639
  let c2_6796 : Index := 2#32
  let c576_6797 : Index := 576#32
  let c0_6798 : Index := 0#32
  ![v14826.toNat, 2, 576, 0]
def k0_off428 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14860 : Index := Scalar.indexCast v1639
  let c2_6811 : Index := 2#32
  let c608_6812 : Index := 608#32
  let c0_6813 : Index := 0#32
  ![v14860.toNat, 2, 608, 0]
def k0_off429 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14895 : Index := Scalar.indexCast v1639
  let c3_6826 : Index := 3#32
  let c512_6827 : Index := 512#32
  let c0_6828 : Index := 0#32
  ![v14895.toNat, 3, 512, 0]
def k0_off430 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14929 : Index := Scalar.indexCast v1639
  let c3_6841 : Index := 3#32
  let c544_6842 : Index := 544#32
  let c0_6843 : Index := 0#32
  ![v14929.toNat, 3, 544, 0]
def k0_off431 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14963 : Index := Scalar.indexCast v1639
  let c3_6856 : Index := 3#32
  let c576_6857 : Index := 576#32
  let c0_6858 : Index := 0#32
  ![v14963.toNat, 3, 576, 0]
def k0_off432 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v14997 : Index := Scalar.indexCast v1639
  let c3_6871 : Index := 3#32
  let c608_6872 : Index := 608#32
  let c0_6873 : Index := 0#32
  ![v14997.toNat, 3, 608, 0]
def k0_off433 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15036 : Index := Scalar.indexCast v1639
  let c2_6889 : Index := 2#32
  let c640_6890 : Index := 640#32
  let c0_6891 : Index := 0#32
  ![v15036.toNat, 2, 640, 0]
def k0_off434 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15070 : Index := Scalar.indexCast v1639
  let c2_6904 : Index := 2#32
  let c672_6905 : Index := 672#32
  let c0_6906 : Index := 0#32
  ![v15070.toNat, 2, 672, 0]
def k0_off435 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15104 : Index := Scalar.indexCast v1639
  let c2_6919 : Index := 2#32
  let c704_6920 : Index := 704#32
  let c0_6921 : Index := 0#32
  ![v15104.toNat, 2, 704, 0]
def k0_off436 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15138 : Index := Scalar.indexCast v1639
  let c2_6934 : Index := 2#32
  let c736_6935 : Index := 736#32
  let c0_6936 : Index := 0#32
  ![v15138.toNat, 2, 736, 0]
def k0_off437 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15173 : Index := Scalar.indexCast v1639
  let c3_6949 : Index := 3#32
  let c640_6950 : Index := 640#32
  let c0_6951 : Index := 0#32
  ![v15173.toNat, 3, 640, 0]
def k0_off438 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15207 : Index := Scalar.indexCast v1639
  let c3_6964 : Index := 3#32
  let c672_6965 : Index := 672#32
  let c0_6966 : Index := 0#32
  ![v15207.toNat, 3, 672, 0]
def k0_off439 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15241 : Index := Scalar.indexCast v1639
  let c3_6979 : Index := 3#32
  let c704_6980 : Index := 704#32
  let c0_6981 : Index := 0#32
  ![v15241.toNat, 3, 704, 0]
def k0_off440 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15275 : Index := Scalar.indexCast v1639
  let c3_6994 : Index := 3#32
  let c736_6995 : Index := 736#32
  let c0_6996 : Index := 0#32
  ![v15275.toNat, 3, 736, 0]
def k0_off441 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15314 : Index := Scalar.indexCast v1639
  let c2_7012 : Index := 2#32
  let c48_7013 : Index := 48#32
  let c0_7014 : Index := 0#32
  ![v15314.toNat, 2, 48, 0]
def k0_off442 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15329 : Index := Scalar.indexCast v1639
  let c3_7023 : Index := 3#32
  let c48_7024 : Index := 48#32
  let c0_7025 : Index := 0#32
  ![v15329.toNat, 3, 48, 0]
def k0_off443 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15344 : Index := Scalar.indexCast v1639
  let c2_7034 : Index := 2#32
  let c768_7035 : Index := 768#32
  let c0_7036 : Index := 0#32
  ![v15344.toNat, 2, 768, 0]
def k0_off444 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15378 : Index := Scalar.indexCast v1639
  let c2_7049 : Index := 2#32
  let c800_7050 : Index := 800#32
  let c0_7051 : Index := 0#32
  ![v15378.toNat, 2, 800, 0]
def k0_off445 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15412 : Index := Scalar.indexCast v1639
  let c2_7064 : Index := 2#32
  let c832_7065 : Index := 832#32
  let c0_7066 : Index := 0#32
  ![v15412.toNat, 2, 832, 0]
def k0_off446 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15446 : Index := Scalar.indexCast v1639
  let c2_7079 : Index := 2#32
  let c864_7080 : Index := 864#32
  let c0_7081 : Index := 0#32
  ![v15446.toNat, 2, 864, 0]
def k0_off447 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15481 : Index := Scalar.indexCast v1639
  let c3_7094 : Index := 3#32
  let c768_7095 : Index := 768#32
  let c0_7096 : Index := 0#32
  ![v15481.toNat, 3, 768, 0]
def k0_off448 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15515 : Index := Scalar.indexCast v1639
  let c3_7109 : Index := 3#32
  let c800_7110 : Index := 800#32
  let c0_7111 : Index := 0#32
  ![v15515.toNat, 3, 800, 0]
def k0_off449 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15549 : Index := Scalar.indexCast v1639
  let c3_7124 : Index := 3#32
  let c832_7125 : Index := 832#32
  let c0_7126 : Index := 0#32
  ![v15549.toNat, 3, 832, 0]
def k0_off450 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15583 : Index := Scalar.indexCast v1639
  let c3_7139 : Index := 3#32
  let c864_7140 : Index := 864#32
  let c0_7141 : Index := 0#32
  ![v15583.toNat, 3, 864, 0]
def k0_off451 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15622 : Index := Scalar.indexCast v1639
  let c2_7157 : Index := 2#32
  let c896_7158 : Index := 896#32
  let c0_7159 : Index := 0#32
  ![v15622.toNat, 2, 896, 0]
def k0_off452 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15656 : Index := Scalar.indexCast v1639
  let c2_7172 : Index := 2#32
  let c928_7173 : Index := 928#32
  let c0_7174 : Index := 0#32
  ![v15656.toNat, 2, 928, 0]
def k0_off453 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15690 : Index := Scalar.indexCast v1639
  let c2_7187 : Index := 2#32
  let c960_7188 : Index := 960#32
  let c0_7189 : Index := 0#32
  ![v15690.toNat, 2, 960, 0]
def k0_off454 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15724 : Index := Scalar.indexCast v1639
  let c2_7202 : Index := 2#32
  let c992_7203 : Index := 992#32
  let c0_7204 : Index := 0#32
  ![v15724.toNat, 2, 992, 0]
def k0_off455 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15759 : Index := Scalar.indexCast v1639
  let c3_7217 : Index := 3#32
  let c896_7218 : Index := 896#32
  let c0_7219 : Index := 0#32
  ![v15759.toNat, 3, 896, 0]
def k0_off456 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15793 : Index := Scalar.indexCast v1639
  let c3_7232 : Index := 3#32
  let c928_7233 : Index := 928#32
  let c0_7234 : Index := 0#32
  ![v15793.toNat, 3, 928, 0]
def k0_off457 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15827 : Index := Scalar.indexCast v1639
  let c3_7247 : Index := 3#32
  let c960_7248 : Index := 960#32
  let c0_7249 : Index := 0#32
  ![v15827.toNat, 3, 960, 0]
def k0_off458 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15861 : Index := Scalar.indexCast v1639
  let c3_7262 : Index := 3#32
  let c992_7263 : Index := 992#32
  let c0_7264 : Index := 0#32
  ![v15861.toNat, 3, 992, 0]
def k0_off459 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15900 : Index := Scalar.indexCast v1639
  let c2_7280 : Index := 2#32
  let c64_7281 : Index := 64#32
  let c0_7282 : Index := 0#32
  ![v15900.toNat, 2, 64, 0]
def k0_off460 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15915 : Index := Scalar.indexCast v1639
  let c3_7291 : Index := 3#32
  let c64_7292 : Index := 64#32
  let c0_7293 : Index := 0#32
  ![v15915.toNat, 3, 64, 0]
def k0_off461 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15930 : Index := Scalar.indexCast v1639
  let c2_7302 : Index := 2#32
  let c1024_7303 : Index := 1024#32
  let c0_7304 : Index := 0#32
  ![v15930.toNat, 2, 1024, 0]
def k0_off462 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15964 : Index := Scalar.indexCast v1639
  let c2_7317 : Index := 2#32
  let c1056_7318 : Index := 1056#32
  let c0_7319 : Index := 0#32
  ![v15964.toNat, 2, 1056, 0]
def k0_off463 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v15998 : Index := Scalar.indexCast v1639
  let c2_7332 : Index := 2#32
  let c1088_7333 : Index := 1088#32
  let c0_7334 : Index := 0#32
  ![v15998.toNat, 2, 1088, 0]
def k0_off464 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16032 : Index := Scalar.indexCast v1639
  let c2_7347 : Index := 2#32
  let c1120_7348 : Index := 1120#32
  let c0_7349 : Index := 0#32
  ![v16032.toNat, 2, 1120, 0]
def k0_off465 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16067 : Index := Scalar.indexCast v1639
  let c3_7362 : Index := 3#32
  let c1024_7363 : Index := 1024#32
  let c0_7364 : Index := 0#32
  ![v16067.toNat, 3, 1024, 0]
def k0_off466 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16101 : Index := Scalar.indexCast v1639
  let c3_7377 : Index := 3#32
  let c1056_7378 : Index := 1056#32
  let c0_7379 : Index := 0#32
  ![v16101.toNat, 3, 1056, 0]
def k0_off467 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16135 : Index := Scalar.indexCast v1639
  let c3_7392 : Index := 3#32
  let c1088_7393 : Index := 1088#32
  let c0_7394 : Index := 0#32
  ![v16135.toNat, 3, 1088, 0]
def k0_off468 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16169 : Index := Scalar.indexCast v1639
  let c3_7407 : Index := 3#32
  let c1120_7408 : Index := 1120#32
  let c0_7409 : Index := 0#32
  ![v16169.toNat, 3, 1120, 0]
def k0_off469 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16208 : Index := Scalar.indexCast v1639
  let c2_7425 : Index := 2#32
  let c1152_7426 : Index := 1152#32
  let c0_7427 : Index := 0#32
  ![v16208.toNat, 2, 1152, 0]
def k0_off470 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16242 : Index := Scalar.indexCast v1639
  let c2_7440 : Index := 2#32
  let c1184_7441 : Index := 1184#32
  let c0_7442 : Index := 0#32
  ![v16242.toNat, 2, 1184, 0]
def k0_off471 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16276 : Index := Scalar.indexCast v1639
  let c2_7455 : Index := 2#32
  let c1216_7456 : Index := 1216#32
  let c0_7457 : Index := 0#32
  ![v16276.toNat, 2, 1216, 0]
def k0_off472 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16310 : Index := Scalar.indexCast v1639
  let c2_7470 : Index := 2#32
  let c1248_7471 : Index := 1248#32
  let c0_7472 : Index := 0#32
  ![v16310.toNat, 2, 1248, 0]
def k0_off473 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16345 : Index := Scalar.indexCast v1639
  let c3_7485 : Index := 3#32
  let c1152_7486 : Index := 1152#32
  let c0_7487 : Index := 0#32
  ![v16345.toNat, 3, 1152, 0]
def k0_off474 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16379 : Index := Scalar.indexCast v1639
  let c3_7500 : Index := 3#32
  let c1184_7501 : Index := 1184#32
  let c0_7502 : Index := 0#32
  ![v16379.toNat, 3, 1184, 0]
def k0_off475 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16413 : Index := Scalar.indexCast v1639
  let c3_7515 : Index := 3#32
  let c1216_7516 : Index := 1216#32
  let c0_7517 : Index := 0#32
  ![v16413.toNat, 3, 1216, 0]
def k0_off476 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16447 : Index := Scalar.indexCast v1639
  let c3_7530 : Index := 3#32
  let c1248_7531 : Index := 1248#32
  let c0_7532 : Index := 0#32
  ![v16447.toNat, 3, 1248, 0]
def k0_off477 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16486 : Index := Scalar.indexCast v1639
  let c2_7548 : Index := 2#32
  let c80_7549 : Index := 80#32
  let c0_7550 : Index := 0#32
  ![v16486.toNat, 2, 80, 0]
def k0_off478 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16501 : Index := Scalar.indexCast v1639
  let c3_7559 : Index := 3#32
  let c80_7560 : Index := 80#32
  let c0_7561 : Index := 0#32
  ![v16501.toNat, 3, 80, 0]
def k0_off479 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16516 : Index := Scalar.indexCast v1639
  let c2_7570 : Index := 2#32
  let c1280_7571 : Index := 1280#32
  let c0_7572 : Index := 0#32
  ![v16516.toNat, 2, 1280, 0]
def k0_off480 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16550 : Index := Scalar.indexCast v1639
  let c2_7585 : Index := 2#32
  let c1312_7586 : Index := 1312#32
  let c0_7587 : Index := 0#32
  ![v16550.toNat, 2, 1312, 0]
def k0_off481 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16584 : Index := Scalar.indexCast v1639
  let c2_7600 : Index := 2#32
  let c1344_7601 : Index := 1344#32
  let c0_7602 : Index := 0#32
  ![v16584.toNat, 2, 1344, 0]
def k0_off482 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16618 : Index := Scalar.indexCast v1639
  let c2_7615 : Index := 2#32
  let c1376_7616 : Index := 1376#32
  let c0_7617 : Index := 0#32
  ![v16618.toNat, 2, 1376, 0]
def k0_off483 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16653 : Index := Scalar.indexCast v1639
  let c3_7630 : Index := 3#32
  let c1280_7631 : Index := 1280#32
  let c0_7632 : Index := 0#32
  ![v16653.toNat, 3, 1280, 0]
def k0_off484 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16687 : Index := Scalar.indexCast v1639
  let c3_7645 : Index := 3#32
  let c1312_7646 : Index := 1312#32
  let c0_7647 : Index := 0#32
  ![v16687.toNat, 3, 1312, 0]
def k0_off485 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16721 : Index := Scalar.indexCast v1639
  let c3_7660 : Index := 3#32
  let c1344_7661 : Index := 1344#32
  let c0_7662 : Index := 0#32
  ![v16721.toNat, 3, 1344, 0]
def k0_off486 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16755 : Index := Scalar.indexCast v1639
  let c3_7675 : Index := 3#32
  let c1376_7676 : Index := 1376#32
  let c0_7677 : Index := 0#32
  ![v16755.toNat, 3, 1376, 0]
def k0_off487 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16794 : Index := Scalar.indexCast v1639
  let c2_7693 : Index := 2#32
  let c1408_7694 : Index := 1408#32
  let c0_7695 : Index := 0#32
  ![v16794.toNat, 2, 1408, 0]
def k0_off488 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16828 : Index := Scalar.indexCast v1639
  let c2_7708 : Index := 2#32
  let c1440_7709 : Index := 1440#32
  let c0_7710 : Index := 0#32
  ![v16828.toNat, 2, 1440, 0]
def k0_off489 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16862 : Index := Scalar.indexCast v1639
  let c2_7723 : Index := 2#32
  let c1472_7724 : Index := 1472#32
  let c0_7725 : Index := 0#32
  ![v16862.toNat, 2, 1472, 0]
def k0_off490 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16896 : Index := Scalar.indexCast v1639
  let c2_7738 : Index := 2#32
  let c1504_7739 : Index := 1504#32
  let c0_7740 : Index := 0#32
  ![v16896.toNat, 2, 1504, 0]
def k0_off491 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16931 : Index := Scalar.indexCast v1639
  let c3_7753 : Index := 3#32
  let c1408_7754 : Index := 1408#32
  let c0_7755 : Index := 0#32
  ![v16931.toNat, 3, 1408, 0]
def k0_off492 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16965 : Index := Scalar.indexCast v1639
  let c3_7768 : Index := 3#32
  let c1440_7769 : Index := 1440#32
  let c0_7770 : Index := 0#32
  ![v16965.toNat, 3, 1440, 0]
def k0_off493 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v16999 : Index := Scalar.indexCast v1639
  let c3_7783 : Index := 3#32
  let c1472_7784 : Index := 1472#32
  let c0_7785 : Index := 0#32
  ![v16999.toNat, 3, 1472, 0]
def k0_off494 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17033 : Index := Scalar.indexCast v1639
  let c3_7798 : Index := 3#32
  let c1504_7799 : Index := 1504#32
  let c0_7800 : Index := 0#32
  ![v17033.toNat, 3, 1504, 0]
def k0_off495 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17072 : Index := Scalar.indexCast v1639
  let c2_7816 : Index := 2#32
  let c96_7817 : Index := 96#32
  let c0_7818 : Index := 0#32
  ![v17072.toNat, 2, 96, 0]
def k0_off496 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17087 : Index := Scalar.indexCast v1639
  let c3_7827 : Index := 3#32
  let c96_7828 : Index := 96#32
  let c0_7829 : Index := 0#32
  ![v17087.toNat, 3, 96, 0]
def k0_off497 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17102 : Index := Scalar.indexCast v1639
  let c2_7838 : Index := 2#32
  let c1536_7839 : Index := 1536#32
  let c0_7840 : Index := 0#32
  ![v17102.toNat, 2, 1536, 0]
def k0_off498 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17136 : Index := Scalar.indexCast v1639
  let c2_7853 : Index := 2#32
  let c1568_7854 : Index := 1568#32
  let c0_7855 : Index := 0#32
  ![v17136.toNat, 2, 1568, 0]
def k0_off499 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17170 : Index := Scalar.indexCast v1639
  let c2_7868 : Index := 2#32
  let c1600_7869 : Index := 1600#32
  let c0_7870 : Index := 0#32
  ![v17170.toNat, 2, 1600, 0]
def k0_off500 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17204 : Index := Scalar.indexCast v1639
  let c2_7883 : Index := 2#32
  let c1632_7884 : Index := 1632#32
  let c0_7885 : Index := 0#32
  ![v17204.toNat, 2, 1632, 0]
def k0_off501 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17239 : Index := Scalar.indexCast v1639
  let c3_7898 : Index := 3#32
  let c1536_7899 : Index := 1536#32
  let c0_7900 : Index := 0#32
  ![v17239.toNat, 3, 1536, 0]
def k0_off502 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17273 : Index := Scalar.indexCast v1639
  let c3_7913 : Index := 3#32
  let c1568_7914 : Index := 1568#32
  let c0_7915 : Index := 0#32
  ![v17273.toNat, 3, 1568, 0]
def k0_off503 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17307 : Index := Scalar.indexCast v1639
  let c3_7928 : Index := 3#32
  let c1600_7929 : Index := 1600#32
  let c0_7930 : Index := 0#32
  ![v17307.toNat, 3, 1600, 0]
def k0_off504 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17341 : Index := Scalar.indexCast v1639
  let c3_7943 : Index := 3#32
  let c1632_7944 : Index := 1632#32
  let c0_7945 : Index := 0#32
  ![v17341.toNat, 3, 1632, 0]
def k0_off505 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17380 : Index := Scalar.indexCast v1639
  let c2_7961 : Index := 2#32
  let c1664_7962 : Index := 1664#32
  let c0_7963 : Index := 0#32
  ![v17380.toNat, 2, 1664, 0]
def k0_off506 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17414 : Index := Scalar.indexCast v1639
  let c2_7976 : Index := 2#32
  let c1696_7977 : Index := 1696#32
  let c0_7978 : Index := 0#32
  ![v17414.toNat, 2, 1696, 0]
def k0_off507 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17448 : Index := Scalar.indexCast v1639
  let c2_7991 : Index := 2#32
  let c1728_7992 : Index := 1728#32
  let c0_7993 : Index := 0#32
  ![v17448.toNat, 2, 1728, 0]
def k0_off508 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17482 : Index := Scalar.indexCast v1639
  let c2_8006 : Index := 2#32
  let c1760_8007 : Index := 1760#32
  let c0_8008 : Index := 0#32
  ![v17482.toNat, 2, 1760, 0]
def k0_off509 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17517 : Index := Scalar.indexCast v1639
  let c3_8021 : Index := 3#32
  let c1664_8022 : Index := 1664#32
  let c0_8023 : Index := 0#32
  ![v17517.toNat, 3, 1664, 0]
def k0_off510 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17551 : Index := Scalar.indexCast v1639
  let c3_8036 : Index := 3#32
  let c1696_8037 : Index := 1696#32
  let c0_8038 : Index := 0#32
  ![v17551.toNat, 3, 1696, 0]
def k0_off511 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17585 : Index := Scalar.indexCast v1639
  let c3_8051 : Index := 3#32
  let c1728_8052 : Index := 1728#32
  let c0_8053 : Index := 0#32
  ![v17585.toNat, 3, 1728, 0]
def k0_off512 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17619 : Index := Scalar.indexCast v1639
  let c3_8066 : Index := 3#32
  let c1760_8067 : Index := 1760#32
  let c0_8068 : Index := 0#32
  ![v17619.toNat, 3, 1760, 0]
def k0_off513 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17658 : Index := Scalar.indexCast v1639
  let c2_8084 : Index := 2#32
  let c112_8085 : Index := 112#32
  let c0_8086 : Index := 0#32
  ![v17658.toNat, 2, 112, 0]
def k0_off514 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17673 : Index := Scalar.indexCast v1639
  let c3_8095 : Index := 3#32
  let c112_8096 : Index := 112#32
  let c0_8097 : Index := 0#32
  ![v17673.toNat, 3, 112, 0]
def k0_off515 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17688 : Index := Scalar.indexCast v1639
  let c2_8106 : Index := 2#32
  let c1792_8107 : Index := 1792#32
  let c0_8108 : Index := 0#32
  ![v17688.toNat, 2, 1792, 0]
def k0_off516 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17722 : Index := Scalar.indexCast v1639
  let c2_8121 : Index := 2#32
  let c1824_8122 : Index := 1824#32
  let c0_8123 : Index := 0#32
  ![v17722.toNat, 2, 1824, 0]
def k0_off517 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17756 : Index := Scalar.indexCast v1639
  let c2_8136 : Index := 2#32
  let c1856_8137 : Index := 1856#32
  let c0_8138 : Index := 0#32
  ![v17756.toNat, 2, 1856, 0]
def k0_off518 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17790 : Index := Scalar.indexCast v1639
  let c2_8151 : Index := 2#32
  let c1888_8152 : Index := 1888#32
  let c0_8153 : Index := 0#32
  ![v17790.toNat, 2, 1888, 0]
def k0_off519 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17825 : Index := Scalar.indexCast v1639
  let c3_8166 : Index := 3#32
  let c1792_8167 : Index := 1792#32
  let c0_8168 : Index := 0#32
  ![v17825.toNat, 3, 1792, 0]
def k0_off520 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17859 : Index := Scalar.indexCast v1639
  let c3_8181 : Index := 3#32
  let c1824_8182 : Index := 1824#32
  let c0_8183 : Index := 0#32
  ![v17859.toNat, 3, 1824, 0]
def k0_off521 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17893 : Index := Scalar.indexCast v1639
  let c3_8196 : Index := 3#32
  let c1856_8197 : Index := 1856#32
  let c0_8198 : Index := 0#32
  ![v17893.toNat, 3, 1856, 0]
def k0_off522 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17927 : Index := Scalar.indexCast v1639
  let c3_8211 : Index := 3#32
  let c1888_8212 : Index := 1888#32
  let c0_8213 : Index := 0#32
  ![v17927.toNat, 3, 1888, 0]
def k0_off523 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v17966 : Index := Scalar.indexCast v1639
  let c2_8229 : Index := 2#32
  let c1920_8230 : Index := 1920#32
  let c0_8231 : Index := 0#32
  ![v17966.toNat, 2, 1920, 0]
def k0_off524 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18000 : Index := Scalar.indexCast v1639
  let c2_8244 : Index := 2#32
  let c1952_8245 : Index := 1952#32
  let c0_8246 : Index := 0#32
  ![v18000.toNat, 2, 1952, 0]
def k0_off525 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18034 : Index := Scalar.indexCast v1639
  let c2_8259 : Index := 2#32
  let c1984_8260 : Index := 1984#32
  let c0_8261 : Index := 0#32
  ![v18034.toNat, 2, 1984, 0]
def k0_off526 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18068 : Index := Scalar.indexCast v1639
  let c2_8274 : Index := 2#32
  let c2016_8275 : Index := 2016#32
  let c0_8276 : Index := 0#32
  ![v18068.toNat, 2, 2016, 0]
def k0_off527 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18103 : Index := Scalar.indexCast v1639
  let c3_8289 : Index := 3#32
  let c1920_8290 : Index := 1920#32
  let c0_8291 : Index := 0#32
  ![v18103.toNat, 3, 1920, 0]
def k0_off528 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18137 : Index := Scalar.indexCast v1639
  let c3_8304 : Index := 3#32
  let c1952_8305 : Index := 1952#32
  let c0_8306 : Index := 0#32
  ![v18137.toNat, 3, 1952, 0]
def k0_off529 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18171 : Index := Scalar.indexCast v1639
  let c3_8319 : Index := 3#32
  let c1984_8320 : Index := 1984#32
  let c0_8321 : Index := 0#32
  ![v18171.toNat, 3, 1984, 0]
def k0_off530 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18205 : Index := Scalar.indexCast v1639
  let c3_8334 : Index := 3#32
  let c2016_8335 : Index := 2016#32
  let c0_8336 : Index := 0#32
  ![v18205.toNat, 3, 2016, 0]
def k0_off531 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18244 : Index := Scalar.indexCast v1639
  let c2_8352 : Index := 2#32
  let c128_8353 : Index := 128#32
  let c0_8354 : Index := 0#32
  ![v18244.toNat, 2, 128, 0]
def k0_off532 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18259 : Index := Scalar.indexCast v1639
  let c3_8363 : Index := 3#32
  let c128_8364 : Index := 128#32
  let c0_8365 : Index := 0#32
  ![v18259.toNat, 3, 128, 0]
def k0_off533 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18274 : Index := Scalar.indexCast v1639
  let c2_8374 : Index := 2#32
  let c2048_8375 : Index := 2048#32
  let c0_8376 : Index := 0#32
  ![v18274.toNat, 2, 2048, 0]
def k0_off534 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18308 : Index := Scalar.indexCast v1639
  let c2_8389 : Index := 2#32
  let c2080_8390 : Index := 2080#32
  let c0_8391 : Index := 0#32
  ![v18308.toNat, 2, 2080, 0]
def k0_off535 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18342 : Index := Scalar.indexCast v1639
  let c2_8404 : Index := 2#32
  let c2112_8405 : Index := 2112#32
  let c0_8406 : Index := 0#32
  ![v18342.toNat, 2, 2112, 0]
def k0_off536 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18376 : Index := Scalar.indexCast v1639
  let c2_8419 : Index := 2#32
  let c2144_8420 : Index := 2144#32
  let c0_8421 : Index := 0#32
  ![v18376.toNat, 2, 2144, 0]
def k0_off537 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18411 : Index := Scalar.indexCast v1639
  let c3_8434 : Index := 3#32
  let c2048_8435 : Index := 2048#32
  let c0_8436 : Index := 0#32
  ![v18411.toNat, 3, 2048, 0]
def k0_off538 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18445 : Index := Scalar.indexCast v1639
  let c3_8449 : Index := 3#32
  let c2080_8450 : Index := 2080#32
  let c0_8451 : Index := 0#32
  ![v18445.toNat, 3, 2080, 0]
def k0_off539 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18479 : Index := Scalar.indexCast v1639
  let c3_8464 : Index := 3#32
  let c2112_8465 : Index := 2112#32
  let c0_8466 : Index := 0#32
  ![v18479.toNat, 3, 2112, 0]
def k0_off540 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18513 : Index := Scalar.indexCast v1639
  let c3_8479 : Index := 3#32
  let c2144_8480 : Index := 2144#32
  let c0_8481 : Index := 0#32
  ![v18513.toNat, 3, 2144, 0]
def k0_off541 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18552 : Index := Scalar.indexCast v1639
  let c2_8497 : Index := 2#32
  let c2176_8498 : Index := 2176#32
  let c0_8499 : Index := 0#32
  ![v18552.toNat, 2, 2176, 0]
def k0_off542 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18586 : Index := Scalar.indexCast v1639
  let c2_8512 : Index := 2#32
  let c2208_8513 : Index := 2208#32
  let c0_8514 : Index := 0#32
  ![v18586.toNat, 2, 2208, 0]
def k0_off543 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18620 : Index := Scalar.indexCast v1639
  let c2_8527 : Index := 2#32
  let c2240_8528 : Index := 2240#32
  let c0_8529 : Index := 0#32
  ![v18620.toNat, 2, 2240, 0]
def k0_off544 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18654 : Index := Scalar.indexCast v1639
  let c2_8542 : Index := 2#32
  let c2272_8543 : Index := 2272#32
  let c0_8544 : Index := 0#32
  ![v18654.toNat, 2, 2272, 0]
def k0_off545 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18689 : Index := Scalar.indexCast v1639
  let c3_8557 : Index := 3#32
  let c2176_8558 : Index := 2176#32
  let c0_8559 : Index := 0#32
  ![v18689.toNat, 3, 2176, 0]
def k0_off546 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18723 : Index := Scalar.indexCast v1639
  let c3_8572 : Index := 3#32
  let c2208_8573 : Index := 2208#32
  let c0_8574 : Index := 0#32
  ![v18723.toNat, 3, 2208, 0]
def k0_off547 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18757 : Index := Scalar.indexCast v1639
  let c3_8587 : Index := 3#32
  let c2240_8588 : Index := 2240#32
  let c0_8589 : Index := 0#32
  ![v18757.toNat, 3, 2240, 0]
def k0_off548 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18791 : Index := Scalar.indexCast v1639
  let c3_8602 : Index := 3#32
  let c2272_8603 : Index := 2272#32
  let c0_8604 : Index := 0#32
  ![v18791.toNat, 3, 2272, 0]
def k0_off549 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18830 : Index := Scalar.indexCast v1639
  let c2_8620 : Index := 2#32
  let c144_8621 : Index := 144#32
  let c0_8622 : Index := 0#32
  ![v18830.toNat, 2, 144, 0]
def k0_off550 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18845 : Index := Scalar.indexCast v1639
  let c3_8631 : Index := 3#32
  let c144_8632 : Index := 144#32
  let c0_8633 : Index := 0#32
  ![v18845.toNat, 3, 144, 0]
def k0_off551 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18860 : Index := Scalar.indexCast v1639
  let c2_8642 : Index := 2#32
  let c2304_8643 : Index := 2304#32
  let c0_8644 : Index := 0#32
  ![v18860.toNat, 2, 2304, 0]
def k0_off552 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18894 : Index := Scalar.indexCast v1639
  let c2_8657 : Index := 2#32
  let c2336_8658 : Index := 2336#32
  let c0_8659 : Index := 0#32
  ![v18894.toNat, 2, 2336, 0]
def k0_off553 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18928 : Index := Scalar.indexCast v1639
  let c2_8672 : Index := 2#32
  let c2368_8673 : Index := 2368#32
  let c0_8674 : Index := 0#32
  ![v18928.toNat, 2, 2368, 0]
def k0_off554 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18962 : Index := Scalar.indexCast v1639
  let c2_8687 : Index := 2#32
  let c2400_8688 : Index := 2400#32
  let c0_8689 : Index := 0#32
  ![v18962.toNat, 2, 2400, 0]
def k0_off555 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v18997 : Index := Scalar.indexCast v1639
  let c3_8702 : Index := 3#32
  let c2304_8703 : Index := 2304#32
  let c0_8704 : Index := 0#32
  ![v18997.toNat, 3, 2304, 0]
def k0_off556 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19031 : Index := Scalar.indexCast v1639
  let c3_8717 : Index := 3#32
  let c2336_8718 : Index := 2336#32
  let c0_8719 : Index := 0#32
  ![v19031.toNat, 3, 2336, 0]
def k0_off557 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19065 : Index := Scalar.indexCast v1639
  let c3_8732 : Index := 3#32
  let c2368_8733 : Index := 2368#32
  let c0_8734 : Index := 0#32
  ![v19065.toNat, 3, 2368, 0]
def k0_off558 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19099 : Index := Scalar.indexCast v1639
  let c3_8747 : Index := 3#32
  let c2400_8748 : Index := 2400#32
  let c0_8749 : Index := 0#32
  ![v19099.toNat, 3, 2400, 0]
def k0_off559 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19138 : Index := Scalar.indexCast v1639
  let c2_8765 : Index := 2#32
  let c2432_8766 : Index := 2432#32
  let c0_8767 : Index := 0#32
  ![v19138.toNat, 2, 2432, 0]
def k0_off560 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19172 : Index := Scalar.indexCast v1639
  let c2_8780 : Index := 2#32
  let c2464_8781 : Index := 2464#32
  let c0_8782 : Index := 0#32
  ![v19172.toNat, 2, 2464, 0]
def k0_off561 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19206 : Index := Scalar.indexCast v1639
  let c2_8795 : Index := 2#32
  let c2496_8796 : Index := 2496#32
  let c0_8797 : Index := 0#32
  ![v19206.toNat, 2, 2496, 0]
def k0_off562 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19240 : Index := Scalar.indexCast v1639
  let c2_8810 : Index := 2#32
  let c2528_8811 : Index := 2528#32
  let c0_8812 : Index := 0#32
  ![v19240.toNat, 2, 2528, 0]
def k0_off563 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19275 : Index := Scalar.indexCast v1639
  let c3_8825 : Index := 3#32
  let c2432_8826 : Index := 2432#32
  let c0_8827 : Index := 0#32
  ![v19275.toNat, 3, 2432, 0]
def k0_off564 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19309 : Index := Scalar.indexCast v1639
  let c3_8840 : Index := 3#32
  let c2464_8841 : Index := 2464#32
  let c0_8842 : Index := 0#32
  ![v19309.toNat, 3, 2464, 0]
def k0_off565 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19343 : Index := Scalar.indexCast v1639
  let c3_8855 : Index := 3#32
  let c2496_8856 : Index := 2496#32
  let c0_8857 : Index := 0#32
  ![v19343.toNat, 3, 2496, 0]
def k0_off566 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19377 : Index := Scalar.indexCast v1639
  let c3_8870 : Index := 3#32
  let c2528_8871 : Index := 2528#32
  let c0_8872 : Index := 0#32
  ![v19377.toNat, 3, 2528, 0]
def k0_off567 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19417 : Index := Scalar.indexCast v1639
  let c8_8889 : Index := 8#32
  let c0_8890 : Index := 0#32
  let c0_8891 : Index := 0#32
  ![v19417.toNat, 8, 0, 0]
def k0_off568 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19432 : Index := Scalar.indexCast v1639
  let c9_8900 : Index := 9#32
  let c0_8901 : Index := 0#32
  let c0_8902 : Index := 0#32
  ![v19432.toNat, 9, 0, 0]
def k0_off569 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19447 : Index := Scalar.indexCast v1639
  let c8_8911 : Index := 8#32
  let c0_8912 : Index := 0#32
  let c0_8913 : Index := 0#32
  ![v19447.toNat, 8, 0, 0]
def k0_off570 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19481 : Index := Scalar.indexCast v1639
  let c8_8926 : Index := 8#32
  let c32_8927 : Index := 32#32
  let c0_8928 : Index := 0#32
  ![v19481.toNat, 8, 32, 0]
def k0_off571 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19515 : Index := Scalar.indexCast v1639
  let c8_8941 : Index := 8#32
  let c64_8942 : Index := 64#32
  let c0_8943 : Index := 0#32
  ![v19515.toNat, 8, 64, 0]
def k0_off572 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19549 : Index := Scalar.indexCast v1639
  let c8_8956 : Index := 8#32
  let c96_8957 : Index := 96#32
  let c0_8958 : Index := 0#32
  ![v19549.toNat, 8, 96, 0]
def k0_off573 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19584 : Index := Scalar.indexCast v1639
  let c9_8971 : Index := 9#32
  let c0_8972 : Index := 0#32
  let c0_8973 : Index := 0#32
  ![v19584.toNat, 9, 0, 0]
def k0_off574 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19618 : Index := Scalar.indexCast v1639
  let c9_8986 : Index := 9#32
  let c32_8987 : Index := 32#32
  let c0_8988 : Index := 0#32
  ![v19618.toNat, 9, 32, 0]
def k0_off575 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19652 : Index := Scalar.indexCast v1639
  let c9_9001 : Index := 9#32
  let c64_9002 : Index := 64#32
  let c0_9003 : Index := 0#32
  ![v19652.toNat, 9, 64, 0]
def k0_off576 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19686 : Index := Scalar.indexCast v1639
  let c9_9016 : Index := 9#32
  let c96_9017 : Index := 96#32
  let c0_9018 : Index := 0#32
  ![v19686.toNat, 9, 96, 0]
def k0_off577 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19725 : Index := Scalar.indexCast v1639
  let c8_9034 : Index := 8#32
  let c128_9035 : Index := 128#32
  let c0_9036 : Index := 0#32
  ![v19725.toNat, 8, 128, 0]
def k0_off578 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19759 : Index := Scalar.indexCast v1639
  let c8_9049 : Index := 8#32
  let c160_9050 : Index := 160#32
  let c0_9051 : Index := 0#32
  ![v19759.toNat, 8, 160, 0]
def k0_off579 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19793 : Index := Scalar.indexCast v1639
  let c8_9064 : Index := 8#32
  let c192_9065 : Index := 192#32
  let c0_9066 : Index := 0#32
  ![v19793.toNat, 8, 192, 0]
def k0_off580 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19827 : Index := Scalar.indexCast v1639
  let c8_9079 : Index := 8#32
  let c224_9080 : Index := 224#32
  let c0_9081 : Index := 0#32
  ![v19827.toNat, 8, 224, 0]
def k0_off581 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19862 : Index := Scalar.indexCast v1639
  let c9_9094 : Index := 9#32
  let c128_9095 : Index := 128#32
  let c0_9096 : Index := 0#32
  ![v19862.toNat, 9, 128, 0]
def k0_off582 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19896 : Index := Scalar.indexCast v1639
  let c9_9109 : Index := 9#32
  let c160_9110 : Index := 160#32
  let c0_9111 : Index := 0#32
  ![v19896.toNat, 9, 160, 0]
def k0_off583 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19930 : Index := Scalar.indexCast v1639
  let c9_9124 : Index := 9#32
  let c192_9125 : Index := 192#32
  let c0_9126 : Index := 0#32
  ![v19930.toNat, 9, 192, 0]
def k0_off584 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v19964 : Index := Scalar.indexCast v1639
  let c9_9139 : Index := 9#32
  let c224_9140 : Index := 224#32
  let c0_9141 : Index := 0#32
  ![v19964.toNat, 9, 224, 0]
def k0_off585 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20003 : Index := Scalar.indexCast v1639
  let c8_9157 : Index := 8#32
  let c16_9158 : Index := 16#32
  let c0_9159 : Index := 0#32
  ![v20003.toNat, 8, 16, 0]
def k0_off586 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20018 : Index := Scalar.indexCast v1639
  let c9_9168 : Index := 9#32
  let c16_9169 : Index := 16#32
  let c0_9170 : Index := 0#32
  ![v20018.toNat, 9, 16, 0]
def k0_off587 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20033 : Index := Scalar.indexCast v1639
  let c8_9179 : Index := 8#32
  let c256_9180 : Index := 256#32
  let c0_9181 : Index := 0#32
  ![v20033.toNat, 8, 256, 0]
def k0_off588 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20067 : Index := Scalar.indexCast v1639
  let c8_9194 : Index := 8#32
  let c288_9195 : Index := 288#32
  let c0_9196 : Index := 0#32
  ![v20067.toNat, 8, 288, 0]
def k0_off589 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20101 : Index := Scalar.indexCast v1639
  let c8_9209 : Index := 8#32
  let c320_9210 : Index := 320#32
  let c0_9211 : Index := 0#32
  ![v20101.toNat, 8, 320, 0]
def k0_off590 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20135 : Index := Scalar.indexCast v1639
  let c8_9224 : Index := 8#32
  let c352_9225 : Index := 352#32
  let c0_9226 : Index := 0#32
  ![v20135.toNat, 8, 352, 0]
def k0_off591 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20170 : Index := Scalar.indexCast v1639
  let c9_9239 : Index := 9#32
  let c256_9240 : Index := 256#32
  let c0_9241 : Index := 0#32
  ![v20170.toNat, 9, 256, 0]
def k0_off592 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20204 : Index := Scalar.indexCast v1639
  let c9_9254 : Index := 9#32
  let c288_9255 : Index := 288#32
  let c0_9256 : Index := 0#32
  ![v20204.toNat, 9, 288, 0]
def k0_off593 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20238 : Index := Scalar.indexCast v1639
  let c9_9269 : Index := 9#32
  let c320_9270 : Index := 320#32
  let c0_9271 : Index := 0#32
  ![v20238.toNat, 9, 320, 0]
def k0_off594 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20272 : Index := Scalar.indexCast v1639
  let c9_9284 : Index := 9#32
  let c352_9285 : Index := 352#32
  let c0_9286 : Index := 0#32
  ![v20272.toNat, 9, 352, 0]
def k0_off595 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20311 : Index := Scalar.indexCast v1639
  let c8_9302 : Index := 8#32
  let c384_9303 : Index := 384#32
  let c0_9304 : Index := 0#32
  ![v20311.toNat, 8, 384, 0]
def k0_off596 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20345 : Index := Scalar.indexCast v1639
  let c8_9317 : Index := 8#32
  let c416_9318 : Index := 416#32
  let c0_9319 : Index := 0#32
  ![v20345.toNat, 8, 416, 0]
def k0_off597 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20379 : Index := Scalar.indexCast v1639
  let c8_9332 : Index := 8#32
  let c448_9333 : Index := 448#32
  let c0_9334 : Index := 0#32
  ![v20379.toNat, 8, 448, 0]
def k0_off598 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20413 : Index := Scalar.indexCast v1639
  let c8_9347 : Index := 8#32
  let c480_9348 : Index := 480#32
  let c0_9349 : Index := 0#32
  ![v20413.toNat, 8, 480, 0]
def k0_off599 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20448 : Index := Scalar.indexCast v1639
  let c9_9362 : Index := 9#32
  let c384_9363 : Index := 384#32
  let c0_9364 : Index := 0#32
  ![v20448.toNat, 9, 384, 0]
def k0_off600 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20482 : Index := Scalar.indexCast v1639
  let c9_9377 : Index := 9#32
  let c416_9378 : Index := 416#32
  let c0_9379 : Index := 0#32
  ![v20482.toNat, 9, 416, 0]
def k0_off601 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20516 : Index := Scalar.indexCast v1639
  let c9_9392 : Index := 9#32
  let c448_9393 : Index := 448#32
  let c0_9394 : Index := 0#32
  ![v20516.toNat, 9, 448, 0]
def k0_off602 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20550 : Index := Scalar.indexCast v1639
  let c9_9407 : Index := 9#32
  let c480_9408 : Index := 480#32
  let c0_9409 : Index := 0#32
  ![v20550.toNat, 9, 480, 0]
def k0_off603 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20589 : Index := Scalar.indexCast v1639
  let c8_9425 : Index := 8#32
  let c32_9426 : Index := 32#32
  let c0_9427 : Index := 0#32
  ![v20589.toNat, 8, 32, 0]
def k0_off604 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20604 : Index := Scalar.indexCast v1639
  let c9_9436 : Index := 9#32
  let c32_9437 : Index := 32#32
  let c0_9438 : Index := 0#32
  ![v20604.toNat, 9, 32, 0]
def k0_off605 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20619 : Index := Scalar.indexCast v1639
  let c8_9447 : Index := 8#32
  let c512_9448 : Index := 512#32
  let c0_9449 : Index := 0#32
  ![v20619.toNat, 8, 512, 0]
def k0_off606 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20653 : Index := Scalar.indexCast v1639
  let c8_9462 : Index := 8#32
  let c544_9463 : Index := 544#32
  let c0_9464 : Index := 0#32
  ![v20653.toNat, 8, 544, 0]
def k0_off607 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20687 : Index := Scalar.indexCast v1639
  let c8_9477 : Index := 8#32
  let c576_9478 : Index := 576#32
  let c0_9479 : Index := 0#32
  ![v20687.toNat, 8, 576, 0]
def k0_off608 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20721 : Index := Scalar.indexCast v1639
  let c8_9492 : Index := 8#32
  let c608_9493 : Index := 608#32
  let c0_9494 : Index := 0#32
  ![v20721.toNat, 8, 608, 0]
def k0_off609 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20756 : Index := Scalar.indexCast v1639
  let c9_9507 : Index := 9#32
  let c512_9508 : Index := 512#32
  let c0_9509 : Index := 0#32
  ![v20756.toNat, 9, 512, 0]
def k0_off610 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20790 : Index := Scalar.indexCast v1639
  let c9_9522 : Index := 9#32
  let c544_9523 : Index := 544#32
  let c0_9524 : Index := 0#32
  ![v20790.toNat, 9, 544, 0]
def k0_off611 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20824 : Index := Scalar.indexCast v1639
  let c9_9537 : Index := 9#32
  let c576_9538 : Index := 576#32
  let c0_9539 : Index := 0#32
  ![v20824.toNat, 9, 576, 0]
def k0_off612 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20858 : Index := Scalar.indexCast v1639
  let c9_9552 : Index := 9#32
  let c608_9553 : Index := 608#32
  let c0_9554 : Index := 0#32
  ![v20858.toNat, 9, 608, 0]
def k0_off613 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20897 : Index := Scalar.indexCast v1639
  let c8_9570 : Index := 8#32
  let c640_9571 : Index := 640#32
  let c0_9572 : Index := 0#32
  ![v20897.toNat, 8, 640, 0]
def k0_off614 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20931 : Index := Scalar.indexCast v1639
  let c8_9585 : Index := 8#32
  let c672_9586 : Index := 672#32
  let c0_9587 : Index := 0#32
  ![v20931.toNat, 8, 672, 0]
def k0_off615 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20965 : Index := Scalar.indexCast v1639
  let c8_9600 : Index := 8#32
  let c704_9601 : Index := 704#32
  let c0_9602 : Index := 0#32
  ![v20965.toNat, 8, 704, 0]
def k0_off616 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v20999 : Index := Scalar.indexCast v1639
  let c8_9615 : Index := 8#32
  let c736_9616 : Index := 736#32
  let c0_9617 : Index := 0#32
  ![v20999.toNat, 8, 736, 0]
def k0_off617 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21034 : Index := Scalar.indexCast v1639
  let c9_9630 : Index := 9#32
  let c640_9631 : Index := 640#32
  let c0_9632 : Index := 0#32
  ![v21034.toNat, 9, 640, 0]
def k0_off618 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21068 : Index := Scalar.indexCast v1639
  let c9_9645 : Index := 9#32
  let c672_9646 : Index := 672#32
  let c0_9647 : Index := 0#32
  ![v21068.toNat, 9, 672, 0]
def k0_off619 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21102 : Index := Scalar.indexCast v1639
  let c9_9660 : Index := 9#32
  let c704_9661 : Index := 704#32
  let c0_9662 : Index := 0#32
  ![v21102.toNat, 9, 704, 0]
def k0_off620 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21136 : Index := Scalar.indexCast v1639
  let c9_9675 : Index := 9#32
  let c736_9676 : Index := 736#32
  let c0_9677 : Index := 0#32
  ![v21136.toNat, 9, 736, 0]
def k0_off621 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21175 : Index := Scalar.indexCast v1639
  let c8_9693 : Index := 8#32
  let c48_9694 : Index := 48#32
  let c0_9695 : Index := 0#32
  ![v21175.toNat, 8, 48, 0]
def k0_off622 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21190 : Index := Scalar.indexCast v1639
  let c9_9704 : Index := 9#32
  let c48_9705 : Index := 48#32
  let c0_9706 : Index := 0#32
  ![v21190.toNat, 9, 48, 0]
def k0_off623 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21205 : Index := Scalar.indexCast v1639
  let c8_9715 : Index := 8#32
  let c768_9716 : Index := 768#32
  let c0_9717 : Index := 0#32
  ![v21205.toNat, 8, 768, 0]
def k0_off624 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21239 : Index := Scalar.indexCast v1639
  let c8_9730 : Index := 8#32
  let c800_9731 : Index := 800#32
  let c0_9732 : Index := 0#32
  ![v21239.toNat, 8, 800, 0]
def k0_off625 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21273 : Index := Scalar.indexCast v1639
  let c8_9745 : Index := 8#32
  let c832_9746 : Index := 832#32
  let c0_9747 : Index := 0#32
  ![v21273.toNat, 8, 832, 0]
def k0_off626 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21307 : Index := Scalar.indexCast v1639
  let c8_9760 : Index := 8#32
  let c864_9761 : Index := 864#32
  let c0_9762 : Index := 0#32
  ![v21307.toNat, 8, 864, 0]
def k0_off627 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21342 : Index := Scalar.indexCast v1639
  let c9_9775 : Index := 9#32
  let c768_9776 : Index := 768#32
  let c0_9777 : Index := 0#32
  ![v21342.toNat, 9, 768, 0]
def k0_off628 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21376 : Index := Scalar.indexCast v1639
  let c9_9790 : Index := 9#32
  let c800_9791 : Index := 800#32
  let c0_9792 : Index := 0#32
  ![v21376.toNat, 9, 800, 0]
def k0_off629 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21410 : Index := Scalar.indexCast v1639
  let c9_9805 : Index := 9#32
  let c832_9806 : Index := 832#32
  let c0_9807 : Index := 0#32
  ![v21410.toNat, 9, 832, 0]
def k0_off630 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21444 : Index := Scalar.indexCast v1639
  let c9_9820 : Index := 9#32
  let c864_9821 : Index := 864#32
  let c0_9822 : Index := 0#32
  ![v21444.toNat, 9, 864, 0]
def k0_off631 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21483 : Index := Scalar.indexCast v1639
  let c8_9838 : Index := 8#32
  let c896_9839 : Index := 896#32
  let c0_9840 : Index := 0#32
  ![v21483.toNat, 8, 896, 0]
def k0_off632 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21517 : Index := Scalar.indexCast v1639
  let c8_9853 : Index := 8#32
  let c928_9854 : Index := 928#32
  let c0_9855 : Index := 0#32
  ![v21517.toNat, 8, 928, 0]
def k0_off633 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21551 : Index := Scalar.indexCast v1639
  let c8_9868 : Index := 8#32
  let c960_9869 : Index := 960#32
  let c0_9870 : Index := 0#32
  ![v21551.toNat, 8, 960, 0]
def k0_off634 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21585 : Index := Scalar.indexCast v1639
  let c8_9883 : Index := 8#32
  let c992_9884 : Index := 992#32
  let c0_9885 : Index := 0#32
  ![v21585.toNat, 8, 992, 0]
def k0_off635 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21620 : Index := Scalar.indexCast v1639
  let c9_9898 : Index := 9#32
  let c896_9899 : Index := 896#32
  let c0_9900 : Index := 0#32
  ![v21620.toNat, 9, 896, 0]
def k0_off636 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21654 : Index := Scalar.indexCast v1639
  let c9_9913 : Index := 9#32
  let c928_9914 : Index := 928#32
  let c0_9915 : Index := 0#32
  ![v21654.toNat, 9, 928, 0]
def k0_off637 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21688 : Index := Scalar.indexCast v1639
  let c9_9928 : Index := 9#32
  let c960_9929 : Index := 960#32
  let c0_9930 : Index := 0#32
  ![v21688.toNat, 9, 960, 0]
def k0_off638 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21722 : Index := Scalar.indexCast v1639
  let c9_9943 : Index := 9#32
  let c992_9944 : Index := 992#32
  let c0_9945 : Index := 0#32
  ![v21722.toNat, 9, 992, 0]
def k0_off639 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21761 : Index := Scalar.indexCast v1639
  let c8_9961 : Index := 8#32
  let c64_9962 : Index := 64#32
  let c0_9963 : Index := 0#32
  ![v21761.toNat, 8, 64, 0]
def k0_off640 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21776 : Index := Scalar.indexCast v1639
  let c9_9972 : Index := 9#32
  let c64_9973 : Index := 64#32
  let c0_9974 : Index := 0#32
  ![v21776.toNat, 9, 64, 0]
def k0_off641 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21791 : Index := Scalar.indexCast v1639
  let c8_9983 : Index := 8#32
  let c1024_9984 : Index := 1024#32
  let c0_9985 : Index := 0#32
  ![v21791.toNat, 8, 1024, 0]
def k0_off642 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21825 : Index := Scalar.indexCast v1639
  let c8_9998 : Index := 8#32
  let c1056_9999 : Index := 1056#32
  let c0_10000 : Index := 0#32
  ![v21825.toNat, 8, 1056, 0]
def k0_off643 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21859 : Index := Scalar.indexCast v1639
  let c8_10013 : Index := 8#32
  let c1088_10014 : Index := 1088#32
  let c0_10015 : Index := 0#32
  ![v21859.toNat, 8, 1088, 0]
def k0_off644 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21893 : Index := Scalar.indexCast v1639
  let c8_10028 : Index := 8#32
  let c1120_10029 : Index := 1120#32
  let c0_10030 : Index := 0#32
  ![v21893.toNat, 8, 1120, 0]
def k0_off645 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21928 : Index := Scalar.indexCast v1639
  let c9_10043 : Index := 9#32
  let c1024_10044 : Index := 1024#32
  let c0_10045 : Index := 0#32
  ![v21928.toNat, 9, 1024, 0]
def k0_off646 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21962 : Index := Scalar.indexCast v1639
  let c9_10058 : Index := 9#32
  let c1056_10059 : Index := 1056#32
  let c0_10060 : Index := 0#32
  ![v21962.toNat, 9, 1056, 0]
def k0_off647 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v21996 : Index := Scalar.indexCast v1639
  let c9_10073 : Index := 9#32
  let c1088_10074 : Index := 1088#32
  let c0_10075 : Index := 0#32
  ![v21996.toNat, 9, 1088, 0]
def k0_off648 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22030 : Index := Scalar.indexCast v1639
  let c9_10088 : Index := 9#32
  let c1120_10089 : Index := 1120#32
  let c0_10090 : Index := 0#32
  ![v22030.toNat, 9, 1120, 0]
def k0_off649 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22069 : Index := Scalar.indexCast v1639
  let c8_10106 : Index := 8#32
  let c1152_10107 : Index := 1152#32
  let c0_10108 : Index := 0#32
  ![v22069.toNat, 8, 1152, 0]
def k0_off650 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22103 : Index := Scalar.indexCast v1639
  let c8_10121 : Index := 8#32
  let c1184_10122 : Index := 1184#32
  let c0_10123 : Index := 0#32
  ![v22103.toNat, 8, 1184, 0]
def k0_off651 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22137 : Index := Scalar.indexCast v1639
  let c8_10136 : Index := 8#32
  let c1216_10137 : Index := 1216#32
  let c0_10138 : Index := 0#32
  ![v22137.toNat, 8, 1216, 0]
def k0_off652 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22171 : Index := Scalar.indexCast v1639
  let c8_10151 : Index := 8#32
  let c1248_10152 : Index := 1248#32
  let c0_10153 : Index := 0#32
  ![v22171.toNat, 8, 1248, 0]
def k0_off653 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22206 : Index := Scalar.indexCast v1639
  let c9_10166 : Index := 9#32
  let c1152_10167 : Index := 1152#32
  let c0_10168 : Index := 0#32
  ![v22206.toNat, 9, 1152, 0]
def k0_off654 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22240 : Index := Scalar.indexCast v1639
  let c9_10181 : Index := 9#32
  let c1184_10182 : Index := 1184#32
  let c0_10183 : Index := 0#32
  ![v22240.toNat, 9, 1184, 0]
def k0_off655 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22274 : Index := Scalar.indexCast v1639
  let c9_10196 : Index := 9#32
  let c1216_10197 : Index := 1216#32
  let c0_10198 : Index := 0#32
  ![v22274.toNat, 9, 1216, 0]
def k0_off656 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22308 : Index := Scalar.indexCast v1639
  let c9_10211 : Index := 9#32
  let c1248_10212 : Index := 1248#32
  let c0_10213 : Index := 0#32
  ![v22308.toNat, 9, 1248, 0]
def k0_off657 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22347 : Index := Scalar.indexCast v1639
  let c8_10229 : Index := 8#32
  let c80_10230 : Index := 80#32
  let c0_10231 : Index := 0#32
  ![v22347.toNat, 8, 80, 0]
def k0_off658 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22362 : Index := Scalar.indexCast v1639
  let c9_10240 : Index := 9#32
  let c80_10241 : Index := 80#32
  let c0_10242 : Index := 0#32
  ![v22362.toNat, 9, 80, 0]
def k0_off659 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22377 : Index := Scalar.indexCast v1639
  let c8_10251 : Index := 8#32
  let c1280_10252 : Index := 1280#32
  let c0_10253 : Index := 0#32
  ![v22377.toNat, 8, 1280, 0]
def k0_off660 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22411 : Index := Scalar.indexCast v1639
  let c8_10266 : Index := 8#32
  let c1312_10267 : Index := 1312#32
  let c0_10268 : Index := 0#32
  ![v22411.toNat, 8, 1312, 0]
def k0_off661 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22445 : Index := Scalar.indexCast v1639
  let c8_10281 : Index := 8#32
  let c1344_10282 : Index := 1344#32
  let c0_10283 : Index := 0#32
  ![v22445.toNat, 8, 1344, 0]
def k0_off662 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22479 : Index := Scalar.indexCast v1639
  let c8_10296 : Index := 8#32
  let c1376_10297 : Index := 1376#32
  let c0_10298 : Index := 0#32
  ![v22479.toNat, 8, 1376, 0]
def k0_off663 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22514 : Index := Scalar.indexCast v1639
  let c9_10311 : Index := 9#32
  let c1280_10312 : Index := 1280#32
  let c0_10313 : Index := 0#32
  ![v22514.toNat, 9, 1280, 0]
def k0_off664 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22548 : Index := Scalar.indexCast v1639
  let c9_10326 : Index := 9#32
  let c1312_10327 : Index := 1312#32
  let c0_10328 : Index := 0#32
  ![v22548.toNat, 9, 1312, 0]
def k0_off665 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22582 : Index := Scalar.indexCast v1639
  let c9_10341 : Index := 9#32
  let c1344_10342 : Index := 1344#32
  let c0_10343 : Index := 0#32
  ![v22582.toNat, 9, 1344, 0]
def k0_off666 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22616 : Index := Scalar.indexCast v1639
  let c9_10356 : Index := 9#32
  let c1376_10357 : Index := 1376#32
  let c0_10358 : Index := 0#32
  ![v22616.toNat, 9, 1376, 0]
def k0_off667 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22655 : Index := Scalar.indexCast v1639
  let c8_10374 : Index := 8#32
  let c1408_10375 : Index := 1408#32
  let c0_10376 : Index := 0#32
  ![v22655.toNat, 8, 1408, 0]
def k0_off668 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22689 : Index := Scalar.indexCast v1639
  let c8_10389 : Index := 8#32
  let c1440_10390 : Index := 1440#32
  let c0_10391 : Index := 0#32
  ![v22689.toNat, 8, 1440, 0]
def k0_off669 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22723 : Index := Scalar.indexCast v1639
  let c8_10404 : Index := 8#32
  let c1472_10405 : Index := 1472#32
  let c0_10406 : Index := 0#32
  ![v22723.toNat, 8, 1472, 0]
def k0_off670 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22757 : Index := Scalar.indexCast v1639
  let c8_10419 : Index := 8#32
  let c1504_10420 : Index := 1504#32
  let c0_10421 : Index := 0#32
  ![v22757.toNat, 8, 1504, 0]
def k0_off671 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22792 : Index := Scalar.indexCast v1639
  let c9_10434 : Index := 9#32
  let c1408_10435 : Index := 1408#32
  let c0_10436 : Index := 0#32
  ![v22792.toNat, 9, 1408, 0]
def k0_off672 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22826 : Index := Scalar.indexCast v1639
  let c9_10449 : Index := 9#32
  let c1440_10450 : Index := 1440#32
  let c0_10451 : Index := 0#32
  ![v22826.toNat, 9, 1440, 0]
def k0_off673 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22860 : Index := Scalar.indexCast v1639
  let c9_10464 : Index := 9#32
  let c1472_10465 : Index := 1472#32
  let c0_10466 : Index := 0#32
  ![v22860.toNat, 9, 1472, 0]
def k0_off674 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22894 : Index := Scalar.indexCast v1639
  let c9_10479 : Index := 9#32
  let c1504_10480 : Index := 1504#32
  let c0_10481 : Index := 0#32
  ![v22894.toNat, 9, 1504, 0]
def k0_off675 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22933 : Index := Scalar.indexCast v1639
  let c8_10497 : Index := 8#32
  let c96_10498 : Index := 96#32
  let c0_10499 : Index := 0#32
  ![v22933.toNat, 8, 96, 0]
def k0_off676 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22948 : Index := Scalar.indexCast v1639
  let c9_10508 : Index := 9#32
  let c96_10509 : Index := 96#32
  let c0_10510 : Index := 0#32
  ![v22948.toNat, 9, 96, 0]
def k0_off677 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22963 : Index := Scalar.indexCast v1639
  let c8_10519 : Index := 8#32
  let c1536_10520 : Index := 1536#32
  let c0_10521 : Index := 0#32
  ![v22963.toNat, 8, 1536, 0]
def k0_off678 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v22997 : Index := Scalar.indexCast v1639
  let c8_10534 : Index := 8#32
  let c1568_10535 : Index := 1568#32
  let c0_10536 : Index := 0#32
  ![v22997.toNat, 8, 1568, 0]
def k0_off679 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23031 : Index := Scalar.indexCast v1639
  let c8_10549 : Index := 8#32
  let c1600_10550 : Index := 1600#32
  let c0_10551 : Index := 0#32
  ![v23031.toNat, 8, 1600, 0]
def k0_off680 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23065 : Index := Scalar.indexCast v1639
  let c8_10564 : Index := 8#32
  let c1632_10565 : Index := 1632#32
  let c0_10566 : Index := 0#32
  ![v23065.toNat, 8, 1632, 0]
def k0_off681 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23100 : Index := Scalar.indexCast v1639
  let c9_10579 : Index := 9#32
  let c1536_10580 : Index := 1536#32
  let c0_10581 : Index := 0#32
  ![v23100.toNat, 9, 1536, 0]
def k0_off682 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23134 : Index := Scalar.indexCast v1639
  let c9_10594 : Index := 9#32
  let c1568_10595 : Index := 1568#32
  let c0_10596 : Index := 0#32
  ![v23134.toNat, 9, 1568, 0]
def k0_off683 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23168 : Index := Scalar.indexCast v1639
  let c9_10609 : Index := 9#32
  let c1600_10610 : Index := 1600#32
  let c0_10611 : Index := 0#32
  ![v23168.toNat, 9, 1600, 0]
def k0_off684 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23202 : Index := Scalar.indexCast v1639
  let c9_10624 : Index := 9#32
  let c1632_10625 : Index := 1632#32
  let c0_10626 : Index := 0#32
  ![v23202.toNat, 9, 1632, 0]
def k0_off685 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23241 : Index := Scalar.indexCast v1639
  let c8_10642 : Index := 8#32
  let c1664_10643 : Index := 1664#32
  let c0_10644 : Index := 0#32
  ![v23241.toNat, 8, 1664, 0]
def k0_off686 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23275 : Index := Scalar.indexCast v1639
  let c8_10657 : Index := 8#32
  let c1696_10658 : Index := 1696#32
  let c0_10659 : Index := 0#32
  ![v23275.toNat, 8, 1696, 0]
def k0_off687 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23309 : Index := Scalar.indexCast v1639
  let c8_10672 : Index := 8#32
  let c1728_10673 : Index := 1728#32
  let c0_10674 : Index := 0#32
  ![v23309.toNat, 8, 1728, 0]
def k0_off688 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23343 : Index := Scalar.indexCast v1639
  let c8_10687 : Index := 8#32
  let c1760_10688 : Index := 1760#32
  let c0_10689 : Index := 0#32
  ![v23343.toNat, 8, 1760, 0]
def k0_off689 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23378 : Index := Scalar.indexCast v1639
  let c9_10702 : Index := 9#32
  let c1664_10703 : Index := 1664#32
  let c0_10704 : Index := 0#32
  ![v23378.toNat, 9, 1664, 0]
def k0_off690 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23412 : Index := Scalar.indexCast v1639
  let c9_10717 : Index := 9#32
  let c1696_10718 : Index := 1696#32
  let c0_10719 : Index := 0#32
  ![v23412.toNat, 9, 1696, 0]
def k0_off691 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23446 : Index := Scalar.indexCast v1639
  let c9_10732 : Index := 9#32
  let c1728_10733 : Index := 1728#32
  let c0_10734 : Index := 0#32
  ![v23446.toNat, 9, 1728, 0]
def k0_off692 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23480 : Index := Scalar.indexCast v1639
  let c9_10747 : Index := 9#32
  let c1760_10748 : Index := 1760#32
  let c0_10749 : Index := 0#32
  ![v23480.toNat, 9, 1760, 0]
def k0_off693 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23519 : Index := Scalar.indexCast v1639
  let c8_10765 : Index := 8#32
  let c112_10766 : Index := 112#32
  let c0_10767 : Index := 0#32
  ![v23519.toNat, 8, 112, 0]
def k0_off694 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23534 : Index := Scalar.indexCast v1639
  let c9_10776 : Index := 9#32
  let c112_10777 : Index := 112#32
  let c0_10778 : Index := 0#32
  ![v23534.toNat, 9, 112, 0]
def k0_off695 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23549 : Index := Scalar.indexCast v1639
  let c8_10787 : Index := 8#32
  let c1792_10788 : Index := 1792#32
  let c0_10789 : Index := 0#32
  ![v23549.toNat, 8, 1792, 0]
def k0_off696 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23583 : Index := Scalar.indexCast v1639
  let c8_10802 : Index := 8#32
  let c1824_10803 : Index := 1824#32
  let c0_10804 : Index := 0#32
  ![v23583.toNat, 8, 1824, 0]
def k0_off697 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23617 : Index := Scalar.indexCast v1639
  let c8_10817 : Index := 8#32
  let c1856_10818 : Index := 1856#32
  let c0_10819 : Index := 0#32
  ![v23617.toNat, 8, 1856, 0]
def k0_off698 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23651 : Index := Scalar.indexCast v1639
  let c8_10832 : Index := 8#32
  let c1888_10833 : Index := 1888#32
  let c0_10834 : Index := 0#32
  ![v23651.toNat, 8, 1888, 0]
def k0_off699 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23686 : Index := Scalar.indexCast v1639
  let c9_10847 : Index := 9#32
  let c1792_10848 : Index := 1792#32
  let c0_10849 : Index := 0#32
  ![v23686.toNat, 9, 1792, 0]
def k0_off700 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23720 : Index := Scalar.indexCast v1639
  let c9_10862 : Index := 9#32
  let c1824_10863 : Index := 1824#32
  let c0_10864 : Index := 0#32
  ![v23720.toNat, 9, 1824, 0]
def k0_off701 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23754 : Index := Scalar.indexCast v1639
  let c9_10877 : Index := 9#32
  let c1856_10878 : Index := 1856#32
  let c0_10879 : Index := 0#32
  ![v23754.toNat, 9, 1856, 0]
def k0_off702 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23788 : Index := Scalar.indexCast v1639
  let c9_10892 : Index := 9#32
  let c1888_10893 : Index := 1888#32
  let c0_10894 : Index := 0#32
  ![v23788.toNat, 9, 1888, 0]
def k0_off703 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23827 : Index := Scalar.indexCast v1639
  let c8_10910 : Index := 8#32
  let c1920_10911 : Index := 1920#32
  let c0_10912 : Index := 0#32
  ![v23827.toNat, 8, 1920, 0]
def k0_off704 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23861 : Index := Scalar.indexCast v1639
  let c8_10925 : Index := 8#32
  let c1952_10926 : Index := 1952#32
  let c0_10927 : Index := 0#32
  ![v23861.toNat, 8, 1952, 0]
def k0_off705 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23895 : Index := Scalar.indexCast v1639
  let c8_10940 : Index := 8#32
  let c1984_10941 : Index := 1984#32
  let c0_10942 : Index := 0#32
  ![v23895.toNat, 8, 1984, 0]
def k0_off706 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23929 : Index := Scalar.indexCast v1639
  let c8_10955 : Index := 8#32
  let c2016_10956 : Index := 2016#32
  let c0_10957 : Index := 0#32
  ![v23929.toNat, 8, 2016, 0]
def k0_off707 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23964 : Index := Scalar.indexCast v1639
  let c9_10970 : Index := 9#32
  let c1920_10971 : Index := 1920#32
  let c0_10972 : Index := 0#32
  ![v23964.toNat, 9, 1920, 0]
def k0_off708 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v23998 : Index := Scalar.indexCast v1639
  let c9_10985 : Index := 9#32
  let c1952_10986 : Index := 1952#32
  let c0_10987 : Index := 0#32
  ![v23998.toNat, 9, 1952, 0]
def k0_off709 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24032 : Index := Scalar.indexCast v1639
  let c9_11000 : Index := 9#32
  let c1984_11001 : Index := 1984#32
  let c0_11002 : Index := 0#32
  ![v24032.toNat, 9, 1984, 0]
def k0_off710 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24066 : Index := Scalar.indexCast v1639
  let c9_11015 : Index := 9#32
  let c2016_11016 : Index := 2016#32
  let c0_11017 : Index := 0#32
  ![v24066.toNat, 9, 2016, 0]
def k0_off711 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24105 : Index := Scalar.indexCast v1639
  let c8_11033 : Index := 8#32
  let c128_11034 : Index := 128#32
  let c0_11035 : Index := 0#32
  ![v24105.toNat, 8, 128, 0]
def k0_off712 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24120 : Index := Scalar.indexCast v1639
  let c9_11044 : Index := 9#32
  let c128_11045 : Index := 128#32
  let c0_11046 : Index := 0#32
  ![v24120.toNat, 9, 128, 0]
def k0_off713 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24135 : Index := Scalar.indexCast v1639
  let c8_11055 : Index := 8#32
  let c2048_11056 : Index := 2048#32
  let c0_11057 : Index := 0#32
  ![v24135.toNat, 8, 2048, 0]
def k0_off714 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24169 : Index := Scalar.indexCast v1639
  let c8_11070 : Index := 8#32
  let c2080_11071 : Index := 2080#32
  let c0_11072 : Index := 0#32
  ![v24169.toNat, 8, 2080, 0]
def k0_off715 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24203 : Index := Scalar.indexCast v1639
  let c8_11085 : Index := 8#32
  let c2112_11086 : Index := 2112#32
  let c0_11087 : Index := 0#32
  ![v24203.toNat, 8, 2112, 0]
def k0_off716 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24237 : Index := Scalar.indexCast v1639
  let c8_11100 : Index := 8#32
  let c2144_11101 : Index := 2144#32
  let c0_11102 : Index := 0#32
  ![v24237.toNat, 8, 2144, 0]
def k0_off717 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24272 : Index := Scalar.indexCast v1639
  let c9_11115 : Index := 9#32
  let c2048_11116 : Index := 2048#32
  let c0_11117 : Index := 0#32
  ![v24272.toNat, 9, 2048, 0]
def k0_off718 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24306 : Index := Scalar.indexCast v1639
  let c9_11130 : Index := 9#32
  let c2080_11131 : Index := 2080#32
  let c0_11132 : Index := 0#32
  ![v24306.toNat, 9, 2080, 0]
def k0_off719 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24340 : Index := Scalar.indexCast v1639
  let c9_11145 : Index := 9#32
  let c2112_11146 : Index := 2112#32
  let c0_11147 : Index := 0#32
  ![v24340.toNat, 9, 2112, 0]
def k0_off720 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24374 : Index := Scalar.indexCast v1639
  let c9_11160 : Index := 9#32
  let c2144_11161 : Index := 2144#32
  let c0_11162 : Index := 0#32
  ![v24374.toNat, 9, 2144, 0]
def k0_off721 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24413 : Index := Scalar.indexCast v1639
  let c8_11178 : Index := 8#32
  let c2176_11179 : Index := 2176#32
  let c0_11180 : Index := 0#32
  ![v24413.toNat, 8, 2176, 0]
def k0_off722 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24447 : Index := Scalar.indexCast v1639
  let c8_11193 : Index := 8#32
  let c2208_11194 : Index := 2208#32
  let c0_11195 : Index := 0#32
  ![v24447.toNat, 8, 2208, 0]
def k0_off723 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24481 : Index := Scalar.indexCast v1639
  let c8_11208 : Index := 8#32
  let c2240_11209 : Index := 2240#32
  let c0_11210 : Index := 0#32
  ![v24481.toNat, 8, 2240, 0]
def k0_off724 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24515 : Index := Scalar.indexCast v1639
  let c8_11223 : Index := 8#32
  let c2272_11224 : Index := 2272#32
  let c0_11225 : Index := 0#32
  ![v24515.toNat, 8, 2272, 0]
def k0_off725 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24550 : Index := Scalar.indexCast v1639
  let c9_11238 : Index := 9#32
  let c2176_11239 : Index := 2176#32
  let c0_11240 : Index := 0#32
  ![v24550.toNat, 9, 2176, 0]
def k0_off726 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24584 : Index := Scalar.indexCast v1639
  let c9_11253 : Index := 9#32
  let c2208_11254 : Index := 2208#32
  let c0_11255 : Index := 0#32
  ![v24584.toNat, 9, 2208, 0]
def k0_off727 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24618 : Index := Scalar.indexCast v1639
  let c9_11268 : Index := 9#32
  let c2240_11269 : Index := 2240#32
  let c0_11270 : Index := 0#32
  ![v24618.toNat, 9, 2240, 0]
def k0_off728 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24652 : Index := Scalar.indexCast v1639
  let c9_11283 : Index := 9#32
  let c2272_11284 : Index := 2272#32
  let c0_11285 : Index := 0#32
  ![v24652.toNat, 9, 2272, 0]
def k0_off729 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24691 : Index := Scalar.indexCast v1639
  let c8_11301 : Index := 8#32
  let c144_11302 : Index := 144#32
  let c0_11303 : Index := 0#32
  ![v24691.toNat, 8, 144, 0]
def k0_off730 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24706 : Index := Scalar.indexCast v1639
  let c9_11312 : Index := 9#32
  let c144_11313 : Index := 144#32
  let c0_11314 : Index := 0#32
  ![v24706.toNat, 9, 144, 0]
def k0_off731 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24721 : Index := Scalar.indexCast v1639
  let c8_11323 : Index := 8#32
  let c2304_11324 : Index := 2304#32
  let c0_11325 : Index := 0#32
  ![v24721.toNat, 8, 2304, 0]
def k0_off732 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24755 : Index := Scalar.indexCast v1639
  let c8_11338 : Index := 8#32
  let c2336_11339 : Index := 2336#32
  let c0_11340 : Index := 0#32
  ![v24755.toNat, 8, 2336, 0]
def k0_off733 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24789 : Index := Scalar.indexCast v1639
  let c8_11353 : Index := 8#32
  let c2368_11354 : Index := 2368#32
  let c0_11355 : Index := 0#32
  ![v24789.toNat, 8, 2368, 0]
def k0_off734 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24823 : Index := Scalar.indexCast v1639
  let c8_11368 : Index := 8#32
  let c2400_11369 : Index := 2400#32
  let c0_11370 : Index := 0#32
  ![v24823.toNat, 8, 2400, 0]
def k0_off735 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24858 : Index := Scalar.indexCast v1639
  let c9_11383 : Index := 9#32
  let c2304_11384 : Index := 2304#32
  let c0_11385 : Index := 0#32
  ![v24858.toNat, 9, 2304, 0]
def k0_off736 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24892 : Index := Scalar.indexCast v1639
  let c9_11398 : Index := 9#32
  let c2336_11399 : Index := 2336#32
  let c0_11400 : Index := 0#32
  ![v24892.toNat, 9, 2336, 0]
def k0_off737 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24926 : Index := Scalar.indexCast v1639
  let c9_11413 : Index := 9#32
  let c2368_11414 : Index := 2368#32
  let c0_11415 : Index := 0#32
  ![v24926.toNat, 9, 2368, 0]
def k0_off738 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24960 : Index := Scalar.indexCast v1639
  let c9_11428 : Index := 9#32
  let c2400_11429 : Index := 2400#32
  let c0_11430 : Index := 0#32
  ![v24960.toNat, 9, 2400, 0]
def k0_off739 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v24999 : Index := Scalar.indexCast v1639
  let c8_11446 : Index := 8#32
  let c2432_11447 : Index := 2432#32
  let c0_11448 : Index := 0#32
  ![v24999.toNat, 8, 2432, 0]
def k0_off740 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25033 : Index := Scalar.indexCast v1639
  let c8_11461 : Index := 8#32
  let c2464_11462 : Index := 2464#32
  let c0_11463 : Index := 0#32
  ![v25033.toNat, 8, 2464, 0]
def k0_off741 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25067 : Index := Scalar.indexCast v1639
  let c8_11476 : Index := 8#32
  let c2496_11477 : Index := 2496#32
  let c0_11478 : Index := 0#32
  ![v25067.toNat, 8, 2496, 0]
def k0_off742 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25101 : Index := Scalar.indexCast v1639
  let c8_11491 : Index := 8#32
  let c2528_11492 : Index := 2528#32
  let c0_11493 : Index := 0#32
  ![v25101.toNat, 8, 2528, 0]
def k0_off743 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25136 : Index := Scalar.indexCast v1639
  let c9_11506 : Index := 9#32
  let c2432_11507 : Index := 2432#32
  let c0_11508 : Index := 0#32
  ![v25136.toNat, 9, 2432, 0]
def k0_off744 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25170 : Index := Scalar.indexCast v1639
  let c9_11521 : Index := 9#32
  let c2464_11522 : Index := 2464#32
  let c0_11523 : Index := 0#32
  ![v25170.toNat, 9, 2464, 0]
def k0_off745 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25204 : Index := Scalar.indexCast v1639
  let c9_11536 : Index := 9#32
  let c2496_11537 : Index := 2496#32
  let c0_11538 : Index := 0#32
  ![v25204.toNat, 9, 2496, 0]
def k0_off746 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25238 : Index := Scalar.indexCast v1639
  let c9_11551 : Index := 9#32
  let c2528_11552 : Index := 2528#32
  let c0_11553 : Index := 0#32
  ![v25238.toNat, 9, 2528, 0]
def k0_mult39 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_11569 : BitVec 32 := 768#32
  let v25280 : BitVec 32 := Scalar.muli arg14 c768_i32_11569
  let c256_i32_11570 : BitVec 32 := 256#32
  let v25281 : BitVec 32 := Scalar.addi v25280 c256_i32_11570
  let c0_i32_11571 : BitVec 32 := 0#32
  let v25282 : BitVec 32 := Scalar.addi v25281 c0_i32_11571
  v25282
def k0_mult40 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_11580 : BitVec 32 := 768#32
  let v25309 : BitVec 32 := Scalar.muli arg14 c768_i32_11580
  let c256_i32_11581 : BitVec 32 := 256#32
  let v25310 : BitVec 32 := Scalar.addi v25309 c256_i32_11581
  let c128_i32_11582 : BitVec 32 := 128#32
  let v25311 : BitVec 32 := Scalar.addi v25310 c128_i32_11582
  v25311
def k0_off747 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25339 : Index := Scalar.indexCast v1639
  let c4_11592 : Index := 4#32
  let c0_11593 : Index := 0#32
  let c0_11594 : Index := 0#32
  ![v25339.toNat, 4, 0, 0]
def k0_off748 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25354 : Index := Scalar.indexCast v1639
  let c5_11603 : Index := 5#32
  let c0_11604 : Index := 0#32
  let c0_11605 : Index := 0#32
  ![v25354.toNat, 5, 0, 0]
def k0_off749 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25369 : Index := Scalar.indexCast v1639
  let c4_11614 : Index := 4#32
  let c0_11615 : Index := 0#32
  let c0_11616 : Index := 0#32
  ![v25369.toNat, 4, 0, 0]
def k0_off750 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25403 : Index := Scalar.indexCast v1639
  let c4_11629 : Index := 4#32
  let c32_11630 : Index := 32#32
  let c0_11631 : Index := 0#32
  ![v25403.toNat, 4, 32, 0]
def k0_off751 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25437 : Index := Scalar.indexCast v1639
  let c4_11644 : Index := 4#32
  let c64_11645 : Index := 64#32
  let c0_11646 : Index := 0#32
  ![v25437.toNat, 4, 64, 0]
def k0_off752 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25471 : Index := Scalar.indexCast v1639
  let c4_11659 : Index := 4#32
  let c96_11660 : Index := 96#32
  let c0_11661 : Index := 0#32
  ![v25471.toNat, 4, 96, 0]
def k0_off753 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25506 : Index := Scalar.indexCast v1639
  let c5_11674 : Index := 5#32
  let c0_11675 : Index := 0#32
  let c0_11676 : Index := 0#32
  ![v25506.toNat, 5, 0, 0]
def k0_off754 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25540 : Index := Scalar.indexCast v1639
  let c5_11689 : Index := 5#32
  let c32_11690 : Index := 32#32
  let c0_11691 : Index := 0#32
  ![v25540.toNat, 5, 32, 0]
def k0_off755 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25574 : Index := Scalar.indexCast v1639
  let c5_11704 : Index := 5#32
  let c64_11705 : Index := 64#32
  let c0_11706 : Index := 0#32
  ![v25574.toNat, 5, 64, 0]
def k0_off756 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25608 : Index := Scalar.indexCast v1639
  let c5_11719 : Index := 5#32
  let c96_11720 : Index := 96#32
  let c0_11721 : Index := 0#32
  ![v25608.toNat, 5, 96, 0]
def k0_off757 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25647 : Index := Scalar.indexCast v1639
  let c4_11737 : Index := 4#32
  let c128_11738 : Index := 128#32
  let c0_11739 : Index := 0#32
  ![v25647.toNat, 4, 128, 0]
def k0_off758 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25681 : Index := Scalar.indexCast v1639
  let c4_11752 : Index := 4#32
  let c160_11753 : Index := 160#32
  let c0_11754 : Index := 0#32
  ![v25681.toNat, 4, 160, 0]
def k0_off759 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25715 : Index := Scalar.indexCast v1639
  let c4_11767 : Index := 4#32
  let c192_11768 : Index := 192#32
  let c0_11769 : Index := 0#32
  ![v25715.toNat, 4, 192, 0]
def k0_off760 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25749 : Index := Scalar.indexCast v1639
  let c4_11782 : Index := 4#32
  let c224_11783 : Index := 224#32
  let c0_11784 : Index := 0#32
  ![v25749.toNat, 4, 224, 0]
def k0_off761 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25784 : Index := Scalar.indexCast v1639
  let c5_11797 : Index := 5#32
  let c128_11798 : Index := 128#32
  let c0_11799 : Index := 0#32
  ![v25784.toNat, 5, 128, 0]
def k0_off762 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25818 : Index := Scalar.indexCast v1639
  let c5_11812 : Index := 5#32
  let c160_11813 : Index := 160#32
  let c0_11814 : Index := 0#32
  ![v25818.toNat, 5, 160, 0]
def k0_off763 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25852 : Index := Scalar.indexCast v1639
  let c5_11827 : Index := 5#32
  let c192_11828 : Index := 192#32
  let c0_11829 : Index := 0#32
  ![v25852.toNat, 5, 192, 0]
def k0_off764 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25886 : Index := Scalar.indexCast v1639
  let c5_11842 : Index := 5#32
  let c224_11843 : Index := 224#32
  let c0_11844 : Index := 0#32
  ![v25886.toNat, 5, 224, 0]
def k0_off765 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25925 : Index := Scalar.indexCast v1639
  let c4_11860 : Index := 4#32
  let c16_11861 : Index := 16#32
  let c0_11862 : Index := 0#32
  ![v25925.toNat, 4, 16, 0]
def k0_off766 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25940 : Index := Scalar.indexCast v1639
  let c5_11871 : Index := 5#32
  let c16_11872 : Index := 16#32
  let c0_11873 : Index := 0#32
  ![v25940.toNat, 5, 16, 0]
def k0_off767 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25955 : Index := Scalar.indexCast v1639
  let c4_11882 : Index := 4#32
  let c256_11883 : Index := 256#32
  let c0_11884 : Index := 0#32
  ![v25955.toNat, 4, 256, 0]
def k0_off768 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v25989 : Index := Scalar.indexCast v1639
  let c4_11897 : Index := 4#32
  let c288_11898 : Index := 288#32
  let c0_11899 : Index := 0#32
  ![v25989.toNat, 4, 288, 0]
def k0_off769 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26023 : Index := Scalar.indexCast v1639
  let c4_11912 : Index := 4#32
  let c320_11913 : Index := 320#32
  let c0_11914 : Index := 0#32
  ![v26023.toNat, 4, 320, 0]
def k0_off770 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26057 : Index := Scalar.indexCast v1639
  let c4_11927 : Index := 4#32
  let c352_11928 : Index := 352#32
  let c0_11929 : Index := 0#32
  ![v26057.toNat, 4, 352, 0]
def k0_off771 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26092 : Index := Scalar.indexCast v1639
  let c5_11942 : Index := 5#32
  let c256_11943 : Index := 256#32
  let c0_11944 : Index := 0#32
  ![v26092.toNat, 5, 256, 0]
def k0_off772 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26126 : Index := Scalar.indexCast v1639
  let c5_11957 : Index := 5#32
  let c288_11958 : Index := 288#32
  let c0_11959 : Index := 0#32
  ![v26126.toNat, 5, 288, 0]
def k0_off773 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26160 : Index := Scalar.indexCast v1639
  let c5_11972 : Index := 5#32
  let c320_11973 : Index := 320#32
  let c0_11974 : Index := 0#32
  ![v26160.toNat, 5, 320, 0]
def k0_off774 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26194 : Index := Scalar.indexCast v1639
  let c5_11987 : Index := 5#32
  let c352_11988 : Index := 352#32
  let c0_11989 : Index := 0#32
  ![v26194.toNat, 5, 352, 0]
def k0_off775 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26233 : Index := Scalar.indexCast v1639
  let c4_12005 : Index := 4#32
  let c384_12006 : Index := 384#32
  let c0_12007 : Index := 0#32
  ![v26233.toNat, 4, 384, 0]
def k0_off776 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26267 : Index := Scalar.indexCast v1639
  let c4_12020 : Index := 4#32
  let c416_12021 : Index := 416#32
  let c0_12022 : Index := 0#32
  ![v26267.toNat, 4, 416, 0]
def k0_off777 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26301 : Index := Scalar.indexCast v1639
  let c4_12035 : Index := 4#32
  let c448_12036 : Index := 448#32
  let c0_12037 : Index := 0#32
  ![v26301.toNat, 4, 448, 0]
def k0_off778 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26335 : Index := Scalar.indexCast v1639
  let c4_12050 : Index := 4#32
  let c480_12051 : Index := 480#32
  let c0_12052 : Index := 0#32
  ![v26335.toNat, 4, 480, 0]
def k0_off779 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26370 : Index := Scalar.indexCast v1639
  let c5_12065 : Index := 5#32
  let c384_12066 : Index := 384#32
  let c0_12067 : Index := 0#32
  ![v26370.toNat, 5, 384, 0]
def k0_off780 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26404 : Index := Scalar.indexCast v1639
  let c5_12080 : Index := 5#32
  let c416_12081 : Index := 416#32
  let c0_12082 : Index := 0#32
  ![v26404.toNat, 5, 416, 0]
def k0_off781 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26438 : Index := Scalar.indexCast v1639
  let c5_12095 : Index := 5#32
  let c448_12096 : Index := 448#32
  let c0_12097 : Index := 0#32
  ![v26438.toNat, 5, 448, 0]
def k0_off782 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26472 : Index := Scalar.indexCast v1639
  let c5_12110 : Index := 5#32
  let c480_12111 : Index := 480#32
  let c0_12112 : Index := 0#32
  ![v26472.toNat, 5, 480, 0]
def k0_off783 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26511 : Index := Scalar.indexCast v1639
  let c4_12128 : Index := 4#32
  let c32_12129 : Index := 32#32
  let c0_12130 : Index := 0#32
  ![v26511.toNat, 4, 32, 0]
def k0_off784 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26526 : Index := Scalar.indexCast v1639
  let c5_12139 : Index := 5#32
  let c32_12140 : Index := 32#32
  let c0_12141 : Index := 0#32
  ![v26526.toNat, 5, 32, 0]
def k0_off785 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26541 : Index := Scalar.indexCast v1639
  let c4_12150 : Index := 4#32
  let c512_12151 : Index := 512#32
  let c0_12152 : Index := 0#32
  ![v26541.toNat, 4, 512, 0]
def k0_off786 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26575 : Index := Scalar.indexCast v1639
  let c4_12165 : Index := 4#32
  let c544_12166 : Index := 544#32
  let c0_12167 : Index := 0#32
  ![v26575.toNat, 4, 544, 0]
def k0_off787 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26609 : Index := Scalar.indexCast v1639
  let c4_12180 : Index := 4#32
  let c576_12181 : Index := 576#32
  let c0_12182 : Index := 0#32
  ![v26609.toNat, 4, 576, 0]
def k0_off788 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26643 : Index := Scalar.indexCast v1639
  let c4_12195 : Index := 4#32
  let c608_12196 : Index := 608#32
  let c0_12197 : Index := 0#32
  ![v26643.toNat, 4, 608, 0]
def k0_off789 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26678 : Index := Scalar.indexCast v1639
  let c5_12210 : Index := 5#32
  let c512_12211 : Index := 512#32
  let c0_12212 : Index := 0#32
  ![v26678.toNat, 5, 512, 0]
def k0_off790 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26712 : Index := Scalar.indexCast v1639
  let c5_12225 : Index := 5#32
  let c544_12226 : Index := 544#32
  let c0_12227 : Index := 0#32
  ![v26712.toNat, 5, 544, 0]
def k0_off791 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26746 : Index := Scalar.indexCast v1639
  let c5_12240 : Index := 5#32
  let c576_12241 : Index := 576#32
  let c0_12242 : Index := 0#32
  ![v26746.toNat, 5, 576, 0]
def k0_off792 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26780 : Index := Scalar.indexCast v1639
  let c5_12255 : Index := 5#32
  let c608_12256 : Index := 608#32
  let c0_12257 : Index := 0#32
  ![v26780.toNat, 5, 608, 0]
def k0_off793 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26819 : Index := Scalar.indexCast v1639
  let c4_12273 : Index := 4#32
  let c640_12274 : Index := 640#32
  let c0_12275 : Index := 0#32
  ![v26819.toNat, 4, 640, 0]
def k0_off794 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26853 : Index := Scalar.indexCast v1639
  let c4_12288 : Index := 4#32
  let c672_12289 : Index := 672#32
  let c0_12290 : Index := 0#32
  ![v26853.toNat, 4, 672, 0]
def k0_off795 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26887 : Index := Scalar.indexCast v1639
  let c4_12303 : Index := 4#32
  let c704_12304 : Index := 704#32
  let c0_12305 : Index := 0#32
  ![v26887.toNat, 4, 704, 0]
def k0_off796 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26921 : Index := Scalar.indexCast v1639
  let c4_12318 : Index := 4#32
  let c736_12319 : Index := 736#32
  let c0_12320 : Index := 0#32
  ![v26921.toNat, 4, 736, 0]
def k0_off797 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26956 : Index := Scalar.indexCast v1639
  let c5_12333 : Index := 5#32
  let c640_12334 : Index := 640#32
  let c0_12335 : Index := 0#32
  ![v26956.toNat, 5, 640, 0]
def k0_off798 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v26990 : Index := Scalar.indexCast v1639
  let c5_12348 : Index := 5#32
  let c672_12349 : Index := 672#32
  let c0_12350 : Index := 0#32
  ![v26990.toNat, 5, 672, 0]
def k0_off799 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27024 : Index := Scalar.indexCast v1639
  let c5_12363 : Index := 5#32
  let c704_12364 : Index := 704#32
  let c0_12365 : Index := 0#32
  ![v27024.toNat, 5, 704, 0]
def k0_off800 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27058 : Index := Scalar.indexCast v1639
  let c5_12378 : Index := 5#32
  let c736_12379 : Index := 736#32
  let c0_12380 : Index := 0#32
  ![v27058.toNat, 5, 736, 0]
def k0_off801 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27097 : Index := Scalar.indexCast v1639
  let c4_12396 : Index := 4#32
  let c48_12397 : Index := 48#32
  let c0_12398 : Index := 0#32
  ![v27097.toNat, 4, 48, 0]
def k0_off802 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27112 : Index := Scalar.indexCast v1639
  let c5_12407 : Index := 5#32
  let c48_12408 : Index := 48#32
  let c0_12409 : Index := 0#32
  ![v27112.toNat, 5, 48, 0]
def k0_off803 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27127 : Index := Scalar.indexCast v1639
  let c4_12418 : Index := 4#32
  let c768_12419 : Index := 768#32
  let c0_12420 : Index := 0#32
  ![v27127.toNat, 4, 768, 0]
def k0_off804 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27161 : Index := Scalar.indexCast v1639
  let c4_12433 : Index := 4#32
  let c800_12434 : Index := 800#32
  let c0_12435 : Index := 0#32
  ![v27161.toNat, 4, 800, 0]
def k0_off805 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27195 : Index := Scalar.indexCast v1639
  let c4_12448 : Index := 4#32
  let c832_12449 : Index := 832#32
  let c0_12450 : Index := 0#32
  ![v27195.toNat, 4, 832, 0]
def k0_off806 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27229 : Index := Scalar.indexCast v1639
  let c4_12463 : Index := 4#32
  let c864_12464 : Index := 864#32
  let c0_12465 : Index := 0#32
  ![v27229.toNat, 4, 864, 0]
def k0_off807 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27264 : Index := Scalar.indexCast v1639
  let c5_12478 : Index := 5#32
  let c768_12479 : Index := 768#32
  let c0_12480 : Index := 0#32
  ![v27264.toNat, 5, 768, 0]
def k0_off808 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27298 : Index := Scalar.indexCast v1639
  let c5_12493 : Index := 5#32
  let c800_12494 : Index := 800#32
  let c0_12495 : Index := 0#32
  ![v27298.toNat, 5, 800, 0]
def k0_off809 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27332 : Index := Scalar.indexCast v1639
  let c5_12508 : Index := 5#32
  let c832_12509 : Index := 832#32
  let c0_12510 : Index := 0#32
  ![v27332.toNat, 5, 832, 0]
def k0_off810 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27366 : Index := Scalar.indexCast v1639
  let c5_12523 : Index := 5#32
  let c864_12524 : Index := 864#32
  let c0_12525 : Index := 0#32
  ![v27366.toNat, 5, 864, 0]
def k0_off811 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27405 : Index := Scalar.indexCast v1639
  let c4_12541 : Index := 4#32
  let c896_12542 : Index := 896#32
  let c0_12543 : Index := 0#32
  ![v27405.toNat, 4, 896, 0]
def k0_off812 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27439 : Index := Scalar.indexCast v1639
  let c4_12556 : Index := 4#32
  let c928_12557 : Index := 928#32
  let c0_12558 : Index := 0#32
  ![v27439.toNat, 4, 928, 0]
def k0_off813 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27473 : Index := Scalar.indexCast v1639
  let c4_12571 : Index := 4#32
  let c960_12572 : Index := 960#32
  let c0_12573 : Index := 0#32
  ![v27473.toNat, 4, 960, 0]
def k0_off814 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27507 : Index := Scalar.indexCast v1639
  let c4_12586 : Index := 4#32
  let c992_12587 : Index := 992#32
  let c0_12588 : Index := 0#32
  ![v27507.toNat, 4, 992, 0]
def k0_off815 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27542 : Index := Scalar.indexCast v1639
  let c5_12601 : Index := 5#32
  let c896_12602 : Index := 896#32
  let c0_12603 : Index := 0#32
  ![v27542.toNat, 5, 896, 0]
def k0_off816 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27576 : Index := Scalar.indexCast v1639
  let c5_12616 : Index := 5#32
  let c928_12617 : Index := 928#32
  let c0_12618 : Index := 0#32
  ![v27576.toNat, 5, 928, 0]
def k0_off817 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27610 : Index := Scalar.indexCast v1639
  let c5_12631 : Index := 5#32
  let c960_12632 : Index := 960#32
  let c0_12633 : Index := 0#32
  ![v27610.toNat, 5, 960, 0]
def k0_off818 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27644 : Index := Scalar.indexCast v1639
  let c5_12646 : Index := 5#32
  let c992_12647 : Index := 992#32
  let c0_12648 : Index := 0#32
  ![v27644.toNat, 5, 992, 0]
def k0_off819 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27683 : Index := Scalar.indexCast v1639
  let c4_12664 : Index := 4#32
  let c64_12665 : Index := 64#32
  let c0_12666 : Index := 0#32
  ![v27683.toNat, 4, 64, 0]
def k0_off820 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27698 : Index := Scalar.indexCast v1639
  let c5_12675 : Index := 5#32
  let c64_12676 : Index := 64#32
  let c0_12677 : Index := 0#32
  ![v27698.toNat, 5, 64, 0]
def k0_off821 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27713 : Index := Scalar.indexCast v1639
  let c4_12686 : Index := 4#32
  let c1024_12687 : Index := 1024#32
  let c0_12688 : Index := 0#32
  ![v27713.toNat, 4, 1024, 0]
def k0_off822 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27747 : Index := Scalar.indexCast v1639
  let c4_12701 : Index := 4#32
  let c1056_12702 : Index := 1056#32
  let c0_12703 : Index := 0#32
  ![v27747.toNat, 4, 1056, 0]
def k0_off823 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27781 : Index := Scalar.indexCast v1639
  let c4_12716 : Index := 4#32
  let c1088_12717 : Index := 1088#32
  let c0_12718 : Index := 0#32
  ![v27781.toNat, 4, 1088, 0]
def k0_off824 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27815 : Index := Scalar.indexCast v1639
  let c4_12731 : Index := 4#32
  let c1120_12732 : Index := 1120#32
  let c0_12733 : Index := 0#32
  ![v27815.toNat, 4, 1120, 0]
def k0_off825 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27850 : Index := Scalar.indexCast v1639
  let c5_12746 : Index := 5#32
  let c1024_12747 : Index := 1024#32
  let c0_12748 : Index := 0#32
  ![v27850.toNat, 5, 1024, 0]
def k0_off826 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27884 : Index := Scalar.indexCast v1639
  let c5_12761 : Index := 5#32
  let c1056_12762 : Index := 1056#32
  let c0_12763 : Index := 0#32
  ![v27884.toNat, 5, 1056, 0]
def k0_off827 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27918 : Index := Scalar.indexCast v1639
  let c5_12776 : Index := 5#32
  let c1088_12777 : Index := 1088#32
  let c0_12778 : Index := 0#32
  ![v27918.toNat, 5, 1088, 0]
def k0_off828 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27952 : Index := Scalar.indexCast v1639
  let c5_12791 : Index := 5#32
  let c1120_12792 : Index := 1120#32
  let c0_12793 : Index := 0#32
  ![v27952.toNat, 5, 1120, 0]
def k0_off829 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v27991 : Index := Scalar.indexCast v1639
  let c4_12809 : Index := 4#32
  let c1152_12810 : Index := 1152#32
  let c0_12811 : Index := 0#32
  ![v27991.toNat, 4, 1152, 0]
def k0_off830 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28025 : Index := Scalar.indexCast v1639
  let c4_12824 : Index := 4#32
  let c1184_12825 : Index := 1184#32
  let c0_12826 : Index := 0#32
  ![v28025.toNat, 4, 1184, 0]
def k0_off831 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28059 : Index := Scalar.indexCast v1639
  let c4_12839 : Index := 4#32
  let c1216_12840 : Index := 1216#32
  let c0_12841 : Index := 0#32
  ![v28059.toNat, 4, 1216, 0]
def k0_off832 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28093 : Index := Scalar.indexCast v1639
  let c4_12854 : Index := 4#32
  let c1248_12855 : Index := 1248#32
  let c0_12856 : Index := 0#32
  ![v28093.toNat, 4, 1248, 0]
def k0_off833 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28128 : Index := Scalar.indexCast v1639
  let c5_12869 : Index := 5#32
  let c1152_12870 : Index := 1152#32
  let c0_12871 : Index := 0#32
  ![v28128.toNat, 5, 1152, 0]
def k0_off834 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28162 : Index := Scalar.indexCast v1639
  let c5_12884 : Index := 5#32
  let c1184_12885 : Index := 1184#32
  let c0_12886 : Index := 0#32
  ![v28162.toNat, 5, 1184, 0]
def k0_off835 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28196 : Index := Scalar.indexCast v1639
  let c5_12899 : Index := 5#32
  let c1216_12900 : Index := 1216#32
  let c0_12901 : Index := 0#32
  ![v28196.toNat, 5, 1216, 0]
def k0_off836 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28230 : Index := Scalar.indexCast v1639
  let c5_12914 : Index := 5#32
  let c1248_12915 : Index := 1248#32
  let c0_12916 : Index := 0#32
  ![v28230.toNat, 5, 1248, 0]
def k0_off837 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28269 : Index := Scalar.indexCast v1639
  let c4_12932 : Index := 4#32
  let c80_12933 : Index := 80#32
  let c0_12934 : Index := 0#32
  ![v28269.toNat, 4, 80, 0]
def k0_off838 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28284 : Index := Scalar.indexCast v1639
  let c5_12943 : Index := 5#32
  let c80_12944 : Index := 80#32
  let c0_12945 : Index := 0#32
  ![v28284.toNat, 5, 80, 0]
def k0_off839 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28299 : Index := Scalar.indexCast v1639
  let c4_12954 : Index := 4#32
  let c1280_12955 : Index := 1280#32
  let c0_12956 : Index := 0#32
  ![v28299.toNat, 4, 1280, 0]
def k0_off840 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28333 : Index := Scalar.indexCast v1639
  let c4_12969 : Index := 4#32
  let c1312_12970 : Index := 1312#32
  let c0_12971 : Index := 0#32
  ![v28333.toNat, 4, 1312, 0]
def k0_off841 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28367 : Index := Scalar.indexCast v1639
  let c4_12984 : Index := 4#32
  let c1344_12985 : Index := 1344#32
  let c0_12986 : Index := 0#32
  ![v28367.toNat, 4, 1344, 0]
def k0_off842 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28401 : Index := Scalar.indexCast v1639
  let c4_12999 : Index := 4#32
  let c1376_13000 : Index := 1376#32
  let c0_13001 : Index := 0#32
  ![v28401.toNat, 4, 1376, 0]
def k0_off843 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28436 : Index := Scalar.indexCast v1639
  let c5_13014 : Index := 5#32
  let c1280_13015 : Index := 1280#32
  let c0_13016 : Index := 0#32
  ![v28436.toNat, 5, 1280, 0]
def k0_off844 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28470 : Index := Scalar.indexCast v1639
  let c5_13029 : Index := 5#32
  let c1312_13030 : Index := 1312#32
  let c0_13031 : Index := 0#32
  ![v28470.toNat, 5, 1312, 0]
def k0_off845 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28504 : Index := Scalar.indexCast v1639
  let c5_13044 : Index := 5#32
  let c1344_13045 : Index := 1344#32
  let c0_13046 : Index := 0#32
  ![v28504.toNat, 5, 1344, 0]
def k0_off846 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28538 : Index := Scalar.indexCast v1639
  let c5_13059 : Index := 5#32
  let c1376_13060 : Index := 1376#32
  let c0_13061 : Index := 0#32
  ![v28538.toNat, 5, 1376, 0]
def k0_off847 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28577 : Index := Scalar.indexCast v1639
  let c4_13077 : Index := 4#32
  let c1408_13078 : Index := 1408#32
  let c0_13079 : Index := 0#32
  ![v28577.toNat, 4, 1408, 0]
def k0_off848 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28611 : Index := Scalar.indexCast v1639
  let c4_13092 : Index := 4#32
  let c1440_13093 : Index := 1440#32
  let c0_13094 : Index := 0#32
  ![v28611.toNat, 4, 1440, 0]
def k0_off849 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28645 : Index := Scalar.indexCast v1639
  let c4_13107 : Index := 4#32
  let c1472_13108 : Index := 1472#32
  let c0_13109 : Index := 0#32
  ![v28645.toNat, 4, 1472, 0]
def k0_off850 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28679 : Index := Scalar.indexCast v1639
  let c4_13122 : Index := 4#32
  let c1504_13123 : Index := 1504#32
  let c0_13124 : Index := 0#32
  ![v28679.toNat, 4, 1504, 0]
def k0_off851 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28714 : Index := Scalar.indexCast v1639
  let c5_13137 : Index := 5#32
  let c1408_13138 : Index := 1408#32
  let c0_13139 : Index := 0#32
  ![v28714.toNat, 5, 1408, 0]
def k0_off852 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28748 : Index := Scalar.indexCast v1639
  let c5_13152 : Index := 5#32
  let c1440_13153 : Index := 1440#32
  let c0_13154 : Index := 0#32
  ![v28748.toNat, 5, 1440, 0]
def k0_off853 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28782 : Index := Scalar.indexCast v1639
  let c5_13167 : Index := 5#32
  let c1472_13168 : Index := 1472#32
  let c0_13169 : Index := 0#32
  ![v28782.toNat, 5, 1472, 0]
def k0_off854 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28816 : Index := Scalar.indexCast v1639
  let c5_13182 : Index := 5#32
  let c1504_13183 : Index := 1504#32
  let c0_13184 : Index := 0#32
  ![v28816.toNat, 5, 1504, 0]
def k0_off855 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28855 : Index := Scalar.indexCast v1639
  let c4_13200 : Index := 4#32
  let c96_13201 : Index := 96#32
  let c0_13202 : Index := 0#32
  ![v28855.toNat, 4, 96, 0]
def k0_off856 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28870 : Index := Scalar.indexCast v1639
  let c5_13211 : Index := 5#32
  let c96_13212 : Index := 96#32
  let c0_13213 : Index := 0#32
  ![v28870.toNat, 5, 96, 0]
def k0_off857 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28885 : Index := Scalar.indexCast v1639
  let c4_13222 : Index := 4#32
  let c1536_13223 : Index := 1536#32
  let c0_13224 : Index := 0#32
  ![v28885.toNat, 4, 1536, 0]
def k0_off858 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28919 : Index := Scalar.indexCast v1639
  let c4_13237 : Index := 4#32
  let c1568_13238 : Index := 1568#32
  let c0_13239 : Index := 0#32
  ![v28919.toNat, 4, 1568, 0]
def k0_off859 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28953 : Index := Scalar.indexCast v1639
  let c4_13252 : Index := 4#32
  let c1600_13253 : Index := 1600#32
  let c0_13254 : Index := 0#32
  ![v28953.toNat, 4, 1600, 0]
def k0_off860 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v28987 : Index := Scalar.indexCast v1639
  let c4_13267 : Index := 4#32
  let c1632_13268 : Index := 1632#32
  let c0_13269 : Index := 0#32
  ![v28987.toNat, 4, 1632, 0]
def k0_off861 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29022 : Index := Scalar.indexCast v1639
  let c5_13282 : Index := 5#32
  let c1536_13283 : Index := 1536#32
  let c0_13284 : Index := 0#32
  ![v29022.toNat, 5, 1536, 0]
def k0_off862 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29056 : Index := Scalar.indexCast v1639
  let c5_13297 : Index := 5#32
  let c1568_13298 : Index := 1568#32
  let c0_13299 : Index := 0#32
  ![v29056.toNat, 5, 1568, 0]
def k0_off863 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29090 : Index := Scalar.indexCast v1639
  let c5_13312 : Index := 5#32
  let c1600_13313 : Index := 1600#32
  let c0_13314 : Index := 0#32
  ![v29090.toNat, 5, 1600, 0]
def k0_off864 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29124 : Index := Scalar.indexCast v1639
  let c5_13327 : Index := 5#32
  let c1632_13328 : Index := 1632#32
  let c0_13329 : Index := 0#32
  ![v29124.toNat, 5, 1632, 0]
def k0_off865 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29163 : Index := Scalar.indexCast v1639
  let c4_13345 : Index := 4#32
  let c1664_13346 : Index := 1664#32
  let c0_13347 : Index := 0#32
  ![v29163.toNat, 4, 1664, 0]
def k0_off866 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29197 : Index := Scalar.indexCast v1639
  let c4_13360 : Index := 4#32
  let c1696_13361 : Index := 1696#32
  let c0_13362 : Index := 0#32
  ![v29197.toNat, 4, 1696, 0]
def k0_off867 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29231 : Index := Scalar.indexCast v1639
  let c4_13375 : Index := 4#32
  let c1728_13376 : Index := 1728#32
  let c0_13377 : Index := 0#32
  ![v29231.toNat, 4, 1728, 0]
def k0_off868 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29265 : Index := Scalar.indexCast v1639
  let c4_13390 : Index := 4#32
  let c1760_13391 : Index := 1760#32
  let c0_13392 : Index := 0#32
  ![v29265.toNat, 4, 1760, 0]
def k0_off869 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29300 : Index := Scalar.indexCast v1639
  let c5_13405 : Index := 5#32
  let c1664_13406 : Index := 1664#32
  let c0_13407 : Index := 0#32
  ![v29300.toNat, 5, 1664, 0]
def k0_off870 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29334 : Index := Scalar.indexCast v1639
  let c5_13420 : Index := 5#32
  let c1696_13421 : Index := 1696#32
  let c0_13422 : Index := 0#32
  ![v29334.toNat, 5, 1696, 0]
def k0_off871 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29368 : Index := Scalar.indexCast v1639
  let c5_13435 : Index := 5#32
  let c1728_13436 : Index := 1728#32
  let c0_13437 : Index := 0#32
  ![v29368.toNat, 5, 1728, 0]
def k0_off872 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29402 : Index := Scalar.indexCast v1639
  let c5_13450 : Index := 5#32
  let c1760_13451 : Index := 1760#32
  let c0_13452 : Index := 0#32
  ![v29402.toNat, 5, 1760, 0]
def k0_off873 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29441 : Index := Scalar.indexCast v1639
  let c4_13468 : Index := 4#32
  let c112_13469 : Index := 112#32
  let c0_13470 : Index := 0#32
  ![v29441.toNat, 4, 112, 0]
def k0_off874 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29456 : Index := Scalar.indexCast v1639
  let c5_13479 : Index := 5#32
  let c112_13480 : Index := 112#32
  let c0_13481 : Index := 0#32
  ![v29456.toNat, 5, 112, 0]
def k0_off875 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29471 : Index := Scalar.indexCast v1639
  let c4_13490 : Index := 4#32
  let c1792_13491 : Index := 1792#32
  let c0_13492 : Index := 0#32
  ![v29471.toNat, 4, 1792, 0]
def k0_off876 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29505 : Index := Scalar.indexCast v1639
  let c4_13505 : Index := 4#32
  let c1824_13506 : Index := 1824#32
  let c0_13507 : Index := 0#32
  ![v29505.toNat, 4, 1824, 0]
def k0_off877 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29539 : Index := Scalar.indexCast v1639
  let c4_13520 : Index := 4#32
  let c1856_13521 : Index := 1856#32
  let c0_13522 : Index := 0#32
  ![v29539.toNat, 4, 1856, 0]
def k0_off878 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29573 : Index := Scalar.indexCast v1639
  let c4_13535 : Index := 4#32
  let c1888_13536 : Index := 1888#32
  let c0_13537 : Index := 0#32
  ![v29573.toNat, 4, 1888, 0]
def k0_off879 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29608 : Index := Scalar.indexCast v1639
  let c5_13550 : Index := 5#32
  let c1792_13551 : Index := 1792#32
  let c0_13552 : Index := 0#32
  ![v29608.toNat, 5, 1792, 0]
def k0_off880 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29642 : Index := Scalar.indexCast v1639
  let c5_13565 : Index := 5#32
  let c1824_13566 : Index := 1824#32
  let c0_13567 : Index := 0#32
  ![v29642.toNat, 5, 1824, 0]
def k0_off881 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29676 : Index := Scalar.indexCast v1639
  let c5_13580 : Index := 5#32
  let c1856_13581 : Index := 1856#32
  let c0_13582 : Index := 0#32
  ![v29676.toNat, 5, 1856, 0]
def k0_off882 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29710 : Index := Scalar.indexCast v1639
  let c5_13595 : Index := 5#32
  let c1888_13596 : Index := 1888#32
  let c0_13597 : Index := 0#32
  ![v29710.toNat, 5, 1888, 0]
def k0_off883 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29749 : Index := Scalar.indexCast v1639
  let c4_13613 : Index := 4#32
  let c1920_13614 : Index := 1920#32
  let c0_13615 : Index := 0#32
  ![v29749.toNat, 4, 1920, 0]
def k0_off884 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29783 : Index := Scalar.indexCast v1639
  let c4_13628 : Index := 4#32
  let c1952_13629 : Index := 1952#32
  let c0_13630 : Index := 0#32
  ![v29783.toNat, 4, 1952, 0]
def k0_off885 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29817 : Index := Scalar.indexCast v1639
  let c4_13643 : Index := 4#32
  let c1984_13644 : Index := 1984#32
  let c0_13645 : Index := 0#32
  ![v29817.toNat, 4, 1984, 0]
def k0_off886 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29851 : Index := Scalar.indexCast v1639
  let c4_13658 : Index := 4#32
  let c2016_13659 : Index := 2016#32
  let c0_13660 : Index := 0#32
  ![v29851.toNat, 4, 2016, 0]
def k0_off887 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29886 : Index := Scalar.indexCast v1639
  let c5_13673 : Index := 5#32
  let c1920_13674 : Index := 1920#32
  let c0_13675 : Index := 0#32
  ![v29886.toNat, 5, 1920, 0]
def k0_off888 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29920 : Index := Scalar.indexCast v1639
  let c5_13688 : Index := 5#32
  let c1952_13689 : Index := 1952#32
  let c0_13690 : Index := 0#32
  ![v29920.toNat, 5, 1952, 0]
def k0_off889 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29954 : Index := Scalar.indexCast v1639
  let c5_13703 : Index := 5#32
  let c1984_13704 : Index := 1984#32
  let c0_13705 : Index := 0#32
  ![v29954.toNat, 5, 1984, 0]
def k0_off890 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v29988 : Index := Scalar.indexCast v1639
  let c5_13718 : Index := 5#32
  let c2016_13719 : Index := 2016#32
  let c0_13720 : Index := 0#32
  ![v29988.toNat, 5, 2016, 0]
def k0_off891 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30027 : Index := Scalar.indexCast v1639
  let c4_13736 : Index := 4#32
  let c128_13737 : Index := 128#32
  let c0_13738 : Index := 0#32
  ![v30027.toNat, 4, 128, 0]
def k0_off892 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30042 : Index := Scalar.indexCast v1639
  let c5_13747 : Index := 5#32
  let c128_13748 : Index := 128#32
  let c0_13749 : Index := 0#32
  ![v30042.toNat, 5, 128, 0]
def k0_off893 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30057 : Index := Scalar.indexCast v1639
  let c4_13758 : Index := 4#32
  let c2048_13759 : Index := 2048#32
  let c0_13760 : Index := 0#32
  ![v30057.toNat, 4, 2048, 0]
def k0_off894 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30091 : Index := Scalar.indexCast v1639
  let c4_13773 : Index := 4#32
  let c2080_13774 : Index := 2080#32
  let c0_13775 : Index := 0#32
  ![v30091.toNat, 4, 2080, 0]
def k0_off895 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30125 : Index := Scalar.indexCast v1639
  let c4_13788 : Index := 4#32
  let c2112_13789 : Index := 2112#32
  let c0_13790 : Index := 0#32
  ![v30125.toNat, 4, 2112, 0]
def k0_off896 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30159 : Index := Scalar.indexCast v1639
  let c4_13803 : Index := 4#32
  let c2144_13804 : Index := 2144#32
  let c0_13805 : Index := 0#32
  ![v30159.toNat, 4, 2144, 0]
def k0_off897 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30194 : Index := Scalar.indexCast v1639
  let c5_13818 : Index := 5#32
  let c2048_13819 : Index := 2048#32
  let c0_13820 : Index := 0#32
  ![v30194.toNat, 5, 2048, 0]
def k0_off898 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30228 : Index := Scalar.indexCast v1639
  let c5_13833 : Index := 5#32
  let c2080_13834 : Index := 2080#32
  let c0_13835 : Index := 0#32
  ![v30228.toNat, 5, 2080, 0]
def k0_off899 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30262 : Index := Scalar.indexCast v1639
  let c5_13848 : Index := 5#32
  let c2112_13849 : Index := 2112#32
  let c0_13850 : Index := 0#32
  ![v30262.toNat, 5, 2112, 0]
def k0_off900 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30296 : Index := Scalar.indexCast v1639
  let c5_13863 : Index := 5#32
  let c2144_13864 : Index := 2144#32
  let c0_13865 : Index := 0#32
  ![v30296.toNat, 5, 2144, 0]
def k0_off901 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30335 : Index := Scalar.indexCast v1639
  let c4_13881 : Index := 4#32
  let c2176_13882 : Index := 2176#32
  let c0_13883 : Index := 0#32
  ![v30335.toNat, 4, 2176, 0]
def k0_off902 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30369 : Index := Scalar.indexCast v1639
  let c4_13896 : Index := 4#32
  let c2208_13897 : Index := 2208#32
  let c0_13898 : Index := 0#32
  ![v30369.toNat, 4, 2208, 0]
def k0_off903 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30403 : Index := Scalar.indexCast v1639
  let c4_13911 : Index := 4#32
  let c2240_13912 : Index := 2240#32
  let c0_13913 : Index := 0#32
  ![v30403.toNat, 4, 2240, 0]
def k0_off904 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30437 : Index := Scalar.indexCast v1639
  let c4_13926 : Index := 4#32
  let c2272_13927 : Index := 2272#32
  let c0_13928 : Index := 0#32
  ![v30437.toNat, 4, 2272, 0]
def k0_off905 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30472 : Index := Scalar.indexCast v1639
  let c5_13941 : Index := 5#32
  let c2176_13942 : Index := 2176#32
  let c0_13943 : Index := 0#32
  ![v30472.toNat, 5, 2176, 0]
def k0_off906 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30506 : Index := Scalar.indexCast v1639
  let c5_13956 : Index := 5#32
  let c2208_13957 : Index := 2208#32
  let c0_13958 : Index := 0#32
  ![v30506.toNat, 5, 2208, 0]
def k0_off907 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30540 : Index := Scalar.indexCast v1639
  let c5_13971 : Index := 5#32
  let c2240_13972 : Index := 2240#32
  let c0_13973 : Index := 0#32
  ![v30540.toNat, 5, 2240, 0]
def k0_off908 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30574 : Index := Scalar.indexCast v1639
  let c5_13986 : Index := 5#32
  let c2272_13987 : Index := 2272#32
  let c0_13988 : Index := 0#32
  ![v30574.toNat, 5, 2272, 0]
def k0_off909 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30613 : Index := Scalar.indexCast v1639
  let c4_14004 : Index := 4#32
  let c144_14005 : Index := 144#32
  let c0_14006 : Index := 0#32
  ![v30613.toNat, 4, 144, 0]
def k0_off910 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30628 : Index := Scalar.indexCast v1639
  let c5_14015 : Index := 5#32
  let c144_14016 : Index := 144#32
  let c0_14017 : Index := 0#32
  ![v30628.toNat, 5, 144, 0]
def k0_off911 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30643 : Index := Scalar.indexCast v1639
  let c4_14026 : Index := 4#32
  let c2304_14027 : Index := 2304#32
  let c0_14028 : Index := 0#32
  ![v30643.toNat, 4, 2304, 0]
def k0_off912 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30677 : Index := Scalar.indexCast v1639
  let c4_14041 : Index := 4#32
  let c2336_14042 : Index := 2336#32
  let c0_14043 : Index := 0#32
  ![v30677.toNat, 4, 2336, 0]
def k0_off913 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30711 : Index := Scalar.indexCast v1639
  let c4_14056 : Index := 4#32
  let c2368_14057 : Index := 2368#32
  let c0_14058 : Index := 0#32
  ![v30711.toNat, 4, 2368, 0]
def k0_off914 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30745 : Index := Scalar.indexCast v1639
  let c4_14071 : Index := 4#32
  let c2400_14072 : Index := 2400#32
  let c0_14073 : Index := 0#32
  ![v30745.toNat, 4, 2400, 0]
def k0_off915 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30780 : Index := Scalar.indexCast v1639
  let c5_14086 : Index := 5#32
  let c2304_14087 : Index := 2304#32
  let c0_14088 : Index := 0#32
  ![v30780.toNat, 5, 2304, 0]
def k0_off916 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30814 : Index := Scalar.indexCast v1639
  let c5_14101 : Index := 5#32
  let c2336_14102 : Index := 2336#32
  let c0_14103 : Index := 0#32
  ![v30814.toNat, 5, 2336, 0]
def k0_off917 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30848 : Index := Scalar.indexCast v1639
  let c5_14116 : Index := 5#32
  let c2368_14117 : Index := 2368#32
  let c0_14118 : Index := 0#32
  ![v30848.toNat, 5, 2368, 0]
def k0_off918 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30882 : Index := Scalar.indexCast v1639
  let c5_14131 : Index := 5#32
  let c2400_14132 : Index := 2400#32
  let c0_14133 : Index := 0#32
  ![v30882.toNat, 5, 2400, 0]
def k0_off919 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30921 : Index := Scalar.indexCast v1639
  let c4_14149 : Index := 4#32
  let c2432_14150 : Index := 2432#32
  let c0_14151 : Index := 0#32
  ![v30921.toNat, 4, 2432, 0]
def k0_off920 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30955 : Index := Scalar.indexCast v1639
  let c4_14164 : Index := 4#32
  let c2464_14165 : Index := 2464#32
  let c0_14166 : Index := 0#32
  ![v30955.toNat, 4, 2464, 0]
def k0_off921 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v30989 : Index := Scalar.indexCast v1639
  let c4_14179 : Index := 4#32
  let c2496_14180 : Index := 2496#32
  let c0_14181 : Index := 0#32
  ![v30989.toNat, 4, 2496, 0]
def k0_off922 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31023 : Index := Scalar.indexCast v1639
  let c4_14194 : Index := 4#32
  let c2528_14195 : Index := 2528#32
  let c0_14196 : Index := 0#32
  ![v31023.toNat, 4, 2528, 0]
def k0_off923 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31058 : Index := Scalar.indexCast v1639
  let c5_14209 : Index := 5#32
  let c2432_14210 : Index := 2432#32
  let c0_14211 : Index := 0#32
  ![v31058.toNat, 5, 2432, 0]
def k0_off924 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31092 : Index := Scalar.indexCast v1639
  let c5_14224 : Index := 5#32
  let c2464_14225 : Index := 2464#32
  let c0_14226 : Index := 0#32
  ![v31092.toNat, 5, 2464, 0]
def k0_off925 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31126 : Index := Scalar.indexCast v1639
  let c5_14239 : Index := 5#32
  let c2496_14240 : Index := 2496#32
  let c0_14241 : Index := 0#32
  ![v31126.toNat, 5, 2496, 0]
def k0_off926 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31160 : Index := Scalar.indexCast v1639
  let c5_14254 : Index := 5#32
  let c2528_14255 : Index := 2528#32
  let c0_14256 : Index := 0#32
  ![v31160.toNat, 5, 2528, 0]
def k0_off927 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31200 : Index := Scalar.indexCast v1639
  let c10_14273 : Index := 10#32
  let c0_14274 : Index := 0#32
  let c0_14275 : Index := 0#32
  ![v31200.toNat, 10, 0, 0]
def k0_off928 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31215 : Index := Scalar.indexCast v1639
  let c11_14284 : Index := 11#32
  let c0_14285 : Index := 0#32
  let c0_14286 : Index := 0#32
  ![v31215.toNat, 11, 0, 0]
def k0_off929 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31230 : Index := Scalar.indexCast v1639
  let c10_14295 : Index := 10#32
  let c0_14296 : Index := 0#32
  let c0_14297 : Index := 0#32
  ![v31230.toNat, 10, 0, 0]
def k0_off930 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31264 : Index := Scalar.indexCast v1639
  let c10_14310 : Index := 10#32
  let c32_14311 : Index := 32#32
  let c0_14312 : Index := 0#32
  ![v31264.toNat, 10, 32, 0]
def k0_off931 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31298 : Index := Scalar.indexCast v1639
  let c10_14325 : Index := 10#32
  let c64_14326 : Index := 64#32
  let c0_14327 : Index := 0#32
  ![v31298.toNat, 10, 64, 0]
def k0_off932 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31332 : Index := Scalar.indexCast v1639
  let c10_14340 : Index := 10#32
  let c96_14341 : Index := 96#32
  let c0_14342 : Index := 0#32
  ![v31332.toNat, 10, 96, 0]
def k0_off933 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31367 : Index := Scalar.indexCast v1639
  let c11_14355 : Index := 11#32
  let c0_14356 : Index := 0#32
  let c0_14357 : Index := 0#32
  ![v31367.toNat, 11, 0, 0]
def k0_off934 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31401 : Index := Scalar.indexCast v1639
  let c11_14370 : Index := 11#32
  let c32_14371 : Index := 32#32
  let c0_14372 : Index := 0#32
  ![v31401.toNat, 11, 32, 0]
def k0_off935 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31435 : Index := Scalar.indexCast v1639
  let c11_14385 : Index := 11#32
  let c64_14386 : Index := 64#32
  let c0_14387 : Index := 0#32
  ![v31435.toNat, 11, 64, 0]
def k0_off936 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31469 : Index := Scalar.indexCast v1639
  let c11_14400 : Index := 11#32
  let c96_14401 : Index := 96#32
  let c0_14402 : Index := 0#32
  ![v31469.toNat, 11, 96, 0]
def k0_off937 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31508 : Index := Scalar.indexCast v1639
  let c10_14418 : Index := 10#32
  let c128_14419 : Index := 128#32
  let c0_14420 : Index := 0#32
  ![v31508.toNat, 10, 128, 0]
def k0_off938 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31542 : Index := Scalar.indexCast v1639
  let c10_14433 : Index := 10#32
  let c160_14434 : Index := 160#32
  let c0_14435 : Index := 0#32
  ![v31542.toNat, 10, 160, 0]
def k0_off939 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31576 : Index := Scalar.indexCast v1639
  let c10_14448 : Index := 10#32
  let c192_14449 : Index := 192#32
  let c0_14450 : Index := 0#32
  ![v31576.toNat, 10, 192, 0]
def k0_off940 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31610 : Index := Scalar.indexCast v1639
  let c10_14463 : Index := 10#32
  let c224_14464 : Index := 224#32
  let c0_14465 : Index := 0#32
  ![v31610.toNat, 10, 224, 0]
def k0_off941 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31645 : Index := Scalar.indexCast v1639
  let c11_14478 : Index := 11#32
  let c128_14479 : Index := 128#32
  let c0_14480 : Index := 0#32
  ![v31645.toNat, 11, 128, 0]
def k0_off942 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31679 : Index := Scalar.indexCast v1639
  let c11_14493 : Index := 11#32
  let c160_14494 : Index := 160#32
  let c0_14495 : Index := 0#32
  ![v31679.toNat, 11, 160, 0]
def k0_off943 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31713 : Index := Scalar.indexCast v1639
  let c11_14508 : Index := 11#32
  let c192_14509 : Index := 192#32
  let c0_14510 : Index := 0#32
  ![v31713.toNat, 11, 192, 0]
def k0_off944 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31747 : Index := Scalar.indexCast v1639
  let c11_14523 : Index := 11#32
  let c224_14524 : Index := 224#32
  let c0_14525 : Index := 0#32
  ![v31747.toNat, 11, 224, 0]
def k0_off945 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31786 : Index := Scalar.indexCast v1639
  let c10_14541 : Index := 10#32
  let c16_14542 : Index := 16#32
  let c0_14543 : Index := 0#32
  ![v31786.toNat, 10, 16, 0]
def k0_off946 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31801 : Index := Scalar.indexCast v1639
  let c11_14552 : Index := 11#32
  let c16_14553 : Index := 16#32
  let c0_14554 : Index := 0#32
  ![v31801.toNat, 11, 16, 0]
def k0_off947 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31816 : Index := Scalar.indexCast v1639
  let c10_14563 : Index := 10#32
  let c256_14564 : Index := 256#32
  let c0_14565 : Index := 0#32
  ![v31816.toNat, 10, 256, 0]
def k0_off948 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31850 : Index := Scalar.indexCast v1639
  let c10_14578 : Index := 10#32
  let c288_14579 : Index := 288#32
  let c0_14580 : Index := 0#32
  ![v31850.toNat, 10, 288, 0]
def k0_off949 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31884 : Index := Scalar.indexCast v1639
  let c10_14593 : Index := 10#32
  let c320_14594 : Index := 320#32
  let c0_14595 : Index := 0#32
  ![v31884.toNat, 10, 320, 0]
def k0_off950 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31918 : Index := Scalar.indexCast v1639
  let c10_14608 : Index := 10#32
  let c352_14609 : Index := 352#32
  let c0_14610 : Index := 0#32
  ![v31918.toNat, 10, 352, 0]
def k0_off951 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31953 : Index := Scalar.indexCast v1639
  let c11_14623 : Index := 11#32
  let c256_14624 : Index := 256#32
  let c0_14625 : Index := 0#32
  ![v31953.toNat, 11, 256, 0]
def k0_off952 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v31987 : Index := Scalar.indexCast v1639
  let c11_14638 : Index := 11#32
  let c288_14639 : Index := 288#32
  let c0_14640 : Index := 0#32
  ![v31987.toNat, 11, 288, 0]
def k0_off953 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32021 : Index := Scalar.indexCast v1639
  let c11_14653 : Index := 11#32
  let c320_14654 : Index := 320#32
  let c0_14655 : Index := 0#32
  ![v32021.toNat, 11, 320, 0]
def k0_off954 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32055 : Index := Scalar.indexCast v1639
  let c11_14668 : Index := 11#32
  let c352_14669 : Index := 352#32
  let c0_14670 : Index := 0#32
  ![v32055.toNat, 11, 352, 0]
def k0_off955 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32094 : Index := Scalar.indexCast v1639
  let c10_14686 : Index := 10#32
  let c384_14687 : Index := 384#32
  let c0_14688 : Index := 0#32
  ![v32094.toNat, 10, 384, 0]
def k0_off956 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32128 : Index := Scalar.indexCast v1639
  let c10_14701 : Index := 10#32
  let c416_14702 : Index := 416#32
  let c0_14703 : Index := 0#32
  ![v32128.toNat, 10, 416, 0]
def k0_off957 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32162 : Index := Scalar.indexCast v1639
  let c10_14716 : Index := 10#32
  let c448_14717 : Index := 448#32
  let c0_14718 : Index := 0#32
  ![v32162.toNat, 10, 448, 0]
def k0_off958 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32196 : Index := Scalar.indexCast v1639
  let c10_14731 : Index := 10#32
  let c480_14732 : Index := 480#32
  let c0_14733 : Index := 0#32
  ![v32196.toNat, 10, 480, 0]
def k0_off959 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32231 : Index := Scalar.indexCast v1639
  let c11_14746 : Index := 11#32
  let c384_14747 : Index := 384#32
  let c0_14748 : Index := 0#32
  ![v32231.toNat, 11, 384, 0]
def k0_off960 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32265 : Index := Scalar.indexCast v1639
  let c11_14761 : Index := 11#32
  let c416_14762 : Index := 416#32
  let c0_14763 : Index := 0#32
  ![v32265.toNat, 11, 416, 0]
def k0_off961 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32299 : Index := Scalar.indexCast v1639
  let c11_14776 : Index := 11#32
  let c448_14777 : Index := 448#32
  let c0_14778 : Index := 0#32
  ![v32299.toNat, 11, 448, 0]
def k0_off962 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32333 : Index := Scalar.indexCast v1639
  let c11_14791 : Index := 11#32
  let c480_14792 : Index := 480#32
  let c0_14793 : Index := 0#32
  ![v32333.toNat, 11, 480, 0]
def k0_off963 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32372 : Index := Scalar.indexCast v1639
  let c10_14809 : Index := 10#32
  let c32_14810 : Index := 32#32
  let c0_14811 : Index := 0#32
  ![v32372.toNat, 10, 32, 0]
def k0_off964 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32387 : Index := Scalar.indexCast v1639
  let c11_14820 : Index := 11#32
  let c32_14821 : Index := 32#32
  let c0_14822 : Index := 0#32
  ![v32387.toNat, 11, 32, 0]
def k0_off965 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32402 : Index := Scalar.indexCast v1639
  let c10_14831 : Index := 10#32
  let c512_14832 : Index := 512#32
  let c0_14833 : Index := 0#32
  ![v32402.toNat, 10, 512, 0]
def k0_off966 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32436 : Index := Scalar.indexCast v1639
  let c10_14846 : Index := 10#32
  let c544_14847 : Index := 544#32
  let c0_14848 : Index := 0#32
  ![v32436.toNat, 10, 544, 0]
def k0_off967 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32470 : Index := Scalar.indexCast v1639
  let c10_14861 : Index := 10#32
  let c576_14862 : Index := 576#32
  let c0_14863 : Index := 0#32
  ![v32470.toNat, 10, 576, 0]
def k0_off968 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32504 : Index := Scalar.indexCast v1639
  let c10_14876 : Index := 10#32
  let c608_14877 : Index := 608#32
  let c0_14878 : Index := 0#32
  ![v32504.toNat, 10, 608, 0]
def k0_off969 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32539 : Index := Scalar.indexCast v1639
  let c11_14891 : Index := 11#32
  let c512_14892 : Index := 512#32
  let c0_14893 : Index := 0#32
  ![v32539.toNat, 11, 512, 0]
def k0_off970 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32573 : Index := Scalar.indexCast v1639
  let c11_14906 : Index := 11#32
  let c544_14907 : Index := 544#32
  let c0_14908 : Index := 0#32
  ![v32573.toNat, 11, 544, 0]
def k0_off971 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32607 : Index := Scalar.indexCast v1639
  let c11_14921 : Index := 11#32
  let c576_14922 : Index := 576#32
  let c0_14923 : Index := 0#32
  ![v32607.toNat, 11, 576, 0]
def k0_off972 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32641 : Index := Scalar.indexCast v1639
  let c11_14936 : Index := 11#32
  let c608_14937 : Index := 608#32
  let c0_14938 : Index := 0#32
  ![v32641.toNat, 11, 608, 0]
def k0_off973 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32680 : Index := Scalar.indexCast v1639
  let c10_14954 : Index := 10#32
  let c640_14955 : Index := 640#32
  let c0_14956 : Index := 0#32
  ![v32680.toNat, 10, 640, 0]
def k0_off974 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32714 : Index := Scalar.indexCast v1639
  let c10_14969 : Index := 10#32
  let c672_14970 : Index := 672#32
  let c0_14971 : Index := 0#32
  ![v32714.toNat, 10, 672, 0]
def k0_off975 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32748 : Index := Scalar.indexCast v1639
  let c10_14984 : Index := 10#32
  let c704_14985 : Index := 704#32
  let c0_14986 : Index := 0#32
  ![v32748.toNat, 10, 704, 0]
def k0_off976 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32782 : Index := Scalar.indexCast v1639
  let c10_14999 : Index := 10#32
  let c736_15000 : Index := 736#32
  let c0_15001 : Index := 0#32
  ![v32782.toNat, 10, 736, 0]
def k0_off977 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32817 : Index := Scalar.indexCast v1639
  let c11_15014 : Index := 11#32
  let c640_15015 : Index := 640#32
  let c0_15016 : Index := 0#32
  ![v32817.toNat, 11, 640, 0]
def k0_off978 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32851 : Index := Scalar.indexCast v1639
  let c11_15029 : Index := 11#32
  let c672_15030 : Index := 672#32
  let c0_15031 : Index := 0#32
  ![v32851.toNat, 11, 672, 0]
def k0_off979 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32885 : Index := Scalar.indexCast v1639
  let c11_15044 : Index := 11#32
  let c704_15045 : Index := 704#32
  let c0_15046 : Index := 0#32
  ![v32885.toNat, 11, 704, 0]
def k0_off980 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32919 : Index := Scalar.indexCast v1639
  let c11_15059 : Index := 11#32
  let c736_15060 : Index := 736#32
  let c0_15061 : Index := 0#32
  ![v32919.toNat, 11, 736, 0]
def k0_off981 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32958 : Index := Scalar.indexCast v1639
  let c10_15077 : Index := 10#32
  let c48_15078 : Index := 48#32
  let c0_15079 : Index := 0#32
  ![v32958.toNat, 10, 48, 0]
def k0_off982 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32973 : Index := Scalar.indexCast v1639
  let c11_15088 : Index := 11#32
  let c48_15089 : Index := 48#32
  let c0_15090 : Index := 0#32
  ![v32973.toNat, 11, 48, 0]
def k0_off983 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v32988 : Index := Scalar.indexCast v1639
  let c10_15099 : Index := 10#32
  let c768_15100 : Index := 768#32
  let c0_15101 : Index := 0#32
  ![v32988.toNat, 10, 768, 0]
def k0_off984 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33022 : Index := Scalar.indexCast v1639
  let c10_15114 : Index := 10#32
  let c800_15115 : Index := 800#32
  let c0_15116 : Index := 0#32
  ![v33022.toNat, 10, 800, 0]
def k0_off985 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33056 : Index := Scalar.indexCast v1639
  let c10_15129 : Index := 10#32
  let c832_15130 : Index := 832#32
  let c0_15131 : Index := 0#32
  ![v33056.toNat, 10, 832, 0]
def k0_off986 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33090 : Index := Scalar.indexCast v1639
  let c10_15144 : Index := 10#32
  let c864_15145 : Index := 864#32
  let c0_15146 : Index := 0#32
  ![v33090.toNat, 10, 864, 0]
def k0_off987 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33125 : Index := Scalar.indexCast v1639
  let c11_15159 : Index := 11#32
  let c768_15160 : Index := 768#32
  let c0_15161 : Index := 0#32
  ![v33125.toNat, 11, 768, 0]
def k0_off988 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33159 : Index := Scalar.indexCast v1639
  let c11_15174 : Index := 11#32
  let c800_15175 : Index := 800#32
  let c0_15176 : Index := 0#32
  ![v33159.toNat, 11, 800, 0]
def k0_off989 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33193 : Index := Scalar.indexCast v1639
  let c11_15189 : Index := 11#32
  let c832_15190 : Index := 832#32
  let c0_15191 : Index := 0#32
  ![v33193.toNat, 11, 832, 0]
def k0_off990 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33227 : Index := Scalar.indexCast v1639
  let c11_15204 : Index := 11#32
  let c864_15205 : Index := 864#32
  let c0_15206 : Index := 0#32
  ![v33227.toNat, 11, 864, 0]
def k0_off991 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33266 : Index := Scalar.indexCast v1639
  let c10_15222 : Index := 10#32
  let c896_15223 : Index := 896#32
  let c0_15224 : Index := 0#32
  ![v33266.toNat, 10, 896, 0]
def k0_off992 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33300 : Index := Scalar.indexCast v1639
  let c10_15237 : Index := 10#32
  let c928_15238 : Index := 928#32
  let c0_15239 : Index := 0#32
  ![v33300.toNat, 10, 928, 0]
def k0_off993 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33334 : Index := Scalar.indexCast v1639
  let c10_15252 : Index := 10#32
  let c960_15253 : Index := 960#32
  let c0_15254 : Index := 0#32
  ![v33334.toNat, 10, 960, 0]
def k0_off994 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33368 : Index := Scalar.indexCast v1639
  let c10_15267 : Index := 10#32
  let c992_15268 : Index := 992#32
  let c0_15269 : Index := 0#32
  ![v33368.toNat, 10, 992, 0]
def k0_off995 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33403 : Index := Scalar.indexCast v1639
  let c11_15282 : Index := 11#32
  let c896_15283 : Index := 896#32
  let c0_15284 : Index := 0#32
  ![v33403.toNat, 11, 896, 0]
def k0_off996 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33437 : Index := Scalar.indexCast v1639
  let c11_15297 : Index := 11#32
  let c928_15298 : Index := 928#32
  let c0_15299 : Index := 0#32
  ![v33437.toNat, 11, 928, 0]
def k0_off997 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33471 : Index := Scalar.indexCast v1639
  let c11_15312 : Index := 11#32
  let c960_15313 : Index := 960#32
  let c0_15314 : Index := 0#32
  ![v33471.toNat, 11, 960, 0]
def k0_off998 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33505 : Index := Scalar.indexCast v1639
  let c11_15327 : Index := 11#32
  let c992_15328 : Index := 992#32
  let c0_15329 : Index := 0#32
  ![v33505.toNat, 11, 992, 0]
def k0_off999 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33544 : Index := Scalar.indexCast v1639
  let c10_15345 : Index := 10#32
  let c64_15346 : Index := 64#32
  let c0_15347 : Index := 0#32
  ![v33544.toNat, 10, 64, 0]
def k0_off1000 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33559 : Index := Scalar.indexCast v1639
  let c11_15356 : Index := 11#32
  let c64_15357 : Index := 64#32
  let c0_15358 : Index := 0#32
  ![v33559.toNat, 11, 64, 0]
def k0_off1001 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33574 : Index := Scalar.indexCast v1639
  let c10_15367 : Index := 10#32
  let c1024_15368 : Index := 1024#32
  let c0_15369 : Index := 0#32
  ![v33574.toNat, 10, 1024, 0]
def k0_off1002 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33608 : Index := Scalar.indexCast v1639
  let c10_15382 : Index := 10#32
  let c1056_15383 : Index := 1056#32
  let c0_15384 : Index := 0#32
  ![v33608.toNat, 10, 1056, 0]
def k0_off1003 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33642 : Index := Scalar.indexCast v1639
  let c10_15397 : Index := 10#32
  let c1088_15398 : Index := 1088#32
  let c0_15399 : Index := 0#32
  ![v33642.toNat, 10, 1088, 0]
def k0_off1004 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33676 : Index := Scalar.indexCast v1639
  let c10_15412 : Index := 10#32
  let c1120_15413 : Index := 1120#32
  let c0_15414 : Index := 0#32
  ![v33676.toNat, 10, 1120, 0]
def k0_off1005 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33711 : Index := Scalar.indexCast v1639
  let c11_15427 : Index := 11#32
  let c1024_15428 : Index := 1024#32
  let c0_15429 : Index := 0#32
  ![v33711.toNat, 11, 1024, 0]
def k0_off1006 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33745 : Index := Scalar.indexCast v1639
  let c11_15442 : Index := 11#32
  let c1056_15443 : Index := 1056#32
  let c0_15444 : Index := 0#32
  ![v33745.toNat, 11, 1056, 0]
def k0_off1007 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33779 : Index := Scalar.indexCast v1639
  let c11_15457 : Index := 11#32
  let c1088_15458 : Index := 1088#32
  let c0_15459 : Index := 0#32
  ![v33779.toNat, 11, 1088, 0]
def k0_off1008 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33813 : Index := Scalar.indexCast v1639
  let c11_15472 : Index := 11#32
  let c1120_15473 : Index := 1120#32
  let c0_15474 : Index := 0#32
  ![v33813.toNat, 11, 1120, 0]
def k0_off1009 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33852 : Index := Scalar.indexCast v1639
  let c10_15490 : Index := 10#32
  let c1152_15491 : Index := 1152#32
  let c0_15492 : Index := 0#32
  ![v33852.toNat, 10, 1152, 0]
def k0_off1010 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33886 : Index := Scalar.indexCast v1639
  let c10_15505 : Index := 10#32
  let c1184_15506 : Index := 1184#32
  let c0_15507 : Index := 0#32
  ![v33886.toNat, 10, 1184, 0]
def k0_off1011 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33920 : Index := Scalar.indexCast v1639
  let c10_15520 : Index := 10#32
  let c1216_15521 : Index := 1216#32
  let c0_15522 : Index := 0#32
  ![v33920.toNat, 10, 1216, 0]
def k0_off1012 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33954 : Index := Scalar.indexCast v1639
  let c10_15535 : Index := 10#32
  let c1248_15536 : Index := 1248#32
  let c0_15537 : Index := 0#32
  ![v33954.toNat, 10, 1248, 0]
def k0_off1013 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v33989 : Index := Scalar.indexCast v1639
  let c11_15550 : Index := 11#32
  let c1152_15551 : Index := 1152#32
  let c0_15552 : Index := 0#32
  ![v33989.toNat, 11, 1152, 0]
def k0_off1014 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34023 : Index := Scalar.indexCast v1639
  let c11_15565 : Index := 11#32
  let c1184_15566 : Index := 1184#32
  let c0_15567 : Index := 0#32
  ![v34023.toNat, 11, 1184, 0]
def k0_off1015 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34057 : Index := Scalar.indexCast v1639
  let c11_15580 : Index := 11#32
  let c1216_15581 : Index := 1216#32
  let c0_15582 : Index := 0#32
  ![v34057.toNat, 11, 1216, 0]
def k0_off1016 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34091 : Index := Scalar.indexCast v1639
  let c11_15595 : Index := 11#32
  let c1248_15596 : Index := 1248#32
  let c0_15597 : Index := 0#32
  ![v34091.toNat, 11, 1248, 0]
def k0_off1017 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34130 : Index := Scalar.indexCast v1639
  let c10_15613 : Index := 10#32
  let c80_15614 : Index := 80#32
  let c0_15615 : Index := 0#32
  ![v34130.toNat, 10, 80, 0]
def k0_off1018 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34145 : Index := Scalar.indexCast v1639
  let c11_15624 : Index := 11#32
  let c80_15625 : Index := 80#32
  let c0_15626 : Index := 0#32
  ![v34145.toNat, 11, 80, 0]
def k0_off1019 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34160 : Index := Scalar.indexCast v1639
  let c10_15635 : Index := 10#32
  let c1280_15636 : Index := 1280#32
  let c0_15637 : Index := 0#32
  ![v34160.toNat, 10, 1280, 0]
def k0_off1020 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34194 : Index := Scalar.indexCast v1639
  let c10_15650 : Index := 10#32
  let c1312_15651 : Index := 1312#32
  let c0_15652 : Index := 0#32
  ![v34194.toNat, 10, 1312, 0]
def k0_off1021 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34228 : Index := Scalar.indexCast v1639
  let c10_15665 : Index := 10#32
  let c1344_15666 : Index := 1344#32
  let c0_15667 : Index := 0#32
  ![v34228.toNat, 10, 1344, 0]
def k0_off1022 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34262 : Index := Scalar.indexCast v1639
  let c10_15680 : Index := 10#32
  let c1376_15681 : Index := 1376#32
  let c0_15682 : Index := 0#32
  ![v34262.toNat, 10, 1376, 0]
def k0_off1023 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34297 : Index := Scalar.indexCast v1639
  let c11_15695 : Index := 11#32
  let c1280_15696 : Index := 1280#32
  let c0_15697 : Index := 0#32
  ![v34297.toNat, 11, 1280, 0]
def k0_off1024 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34331 : Index := Scalar.indexCast v1639
  let c11_15710 : Index := 11#32
  let c1312_15711 : Index := 1312#32
  let c0_15712 : Index := 0#32
  ![v34331.toNat, 11, 1312, 0]
def k0_off1025 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34365 : Index := Scalar.indexCast v1639
  let c11_15725 : Index := 11#32
  let c1344_15726 : Index := 1344#32
  let c0_15727 : Index := 0#32
  ![v34365.toNat, 11, 1344, 0]
def k0_off1026 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34399 : Index := Scalar.indexCast v1639
  let c11_15740 : Index := 11#32
  let c1376_15741 : Index := 1376#32
  let c0_15742 : Index := 0#32
  ![v34399.toNat, 11, 1376, 0]
def k0_off1027 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34438 : Index := Scalar.indexCast v1639
  let c10_15758 : Index := 10#32
  let c1408_15759 : Index := 1408#32
  let c0_15760 : Index := 0#32
  ![v34438.toNat, 10, 1408, 0]
def k0_off1028 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34472 : Index := Scalar.indexCast v1639
  let c10_15773 : Index := 10#32
  let c1440_15774 : Index := 1440#32
  let c0_15775 : Index := 0#32
  ![v34472.toNat, 10, 1440, 0]
def k0_off1029 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34506 : Index := Scalar.indexCast v1639
  let c10_15788 : Index := 10#32
  let c1472_15789 : Index := 1472#32
  let c0_15790 : Index := 0#32
  ![v34506.toNat, 10, 1472, 0]
def k0_off1030 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34540 : Index := Scalar.indexCast v1639
  let c10_15803 : Index := 10#32
  let c1504_15804 : Index := 1504#32
  let c0_15805 : Index := 0#32
  ![v34540.toNat, 10, 1504, 0]
def k0_off1031 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34575 : Index := Scalar.indexCast v1639
  let c11_15818 : Index := 11#32
  let c1408_15819 : Index := 1408#32
  let c0_15820 : Index := 0#32
  ![v34575.toNat, 11, 1408, 0]
def k0_off1032 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34609 : Index := Scalar.indexCast v1639
  let c11_15833 : Index := 11#32
  let c1440_15834 : Index := 1440#32
  let c0_15835 : Index := 0#32
  ![v34609.toNat, 11, 1440, 0]
def k0_off1033 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34643 : Index := Scalar.indexCast v1639
  let c11_15848 : Index := 11#32
  let c1472_15849 : Index := 1472#32
  let c0_15850 : Index := 0#32
  ![v34643.toNat, 11, 1472, 0]
def k0_off1034 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34677 : Index := Scalar.indexCast v1639
  let c11_15863 : Index := 11#32
  let c1504_15864 : Index := 1504#32
  let c0_15865 : Index := 0#32
  ![v34677.toNat, 11, 1504, 0]
def k0_off1035 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34716 : Index := Scalar.indexCast v1639
  let c10_15881 : Index := 10#32
  let c96_15882 : Index := 96#32
  let c0_15883 : Index := 0#32
  ![v34716.toNat, 10, 96, 0]
def k0_off1036 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34731 : Index := Scalar.indexCast v1639
  let c11_15892 : Index := 11#32
  let c96_15893 : Index := 96#32
  let c0_15894 : Index := 0#32
  ![v34731.toNat, 11, 96, 0]
def k0_off1037 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34746 : Index := Scalar.indexCast v1639
  let c10_15903 : Index := 10#32
  let c1536_15904 : Index := 1536#32
  let c0_15905 : Index := 0#32
  ![v34746.toNat, 10, 1536, 0]
def k0_off1038 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34780 : Index := Scalar.indexCast v1639
  let c10_15918 : Index := 10#32
  let c1568_15919 : Index := 1568#32
  let c0_15920 : Index := 0#32
  ![v34780.toNat, 10, 1568, 0]
def k0_off1039 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34814 : Index := Scalar.indexCast v1639
  let c10_15933 : Index := 10#32
  let c1600_15934 : Index := 1600#32
  let c0_15935 : Index := 0#32
  ![v34814.toNat, 10, 1600, 0]
def k0_off1040 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34848 : Index := Scalar.indexCast v1639
  let c10_15948 : Index := 10#32
  let c1632_15949 : Index := 1632#32
  let c0_15950 : Index := 0#32
  ![v34848.toNat, 10, 1632, 0]
def k0_off1041 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34883 : Index := Scalar.indexCast v1639
  let c11_15963 : Index := 11#32
  let c1536_15964 : Index := 1536#32
  let c0_15965 : Index := 0#32
  ![v34883.toNat, 11, 1536, 0]
def k0_off1042 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34917 : Index := Scalar.indexCast v1639
  let c11_15978 : Index := 11#32
  let c1568_15979 : Index := 1568#32
  let c0_15980 : Index := 0#32
  ![v34917.toNat, 11, 1568, 0]
def k0_off1043 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34951 : Index := Scalar.indexCast v1639
  let c11_15993 : Index := 11#32
  let c1600_15994 : Index := 1600#32
  let c0_15995 : Index := 0#32
  ![v34951.toNat, 11, 1600, 0]
def k0_off1044 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v34985 : Index := Scalar.indexCast v1639
  let c11_16008 : Index := 11#32
  let c1632_16009 : Index := 1632#32
  let c0_16010 : Index := 0#32
  ![v34985.toNat, 11, 1632, 0]
def k0_off1045 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35024 : Index := Scalar.indexCast v1639
  let c10_16026 : Index := 10#32
  let c1664_16027 : Index := 1664#32
  let c0_16028 : Index := 0#32
  ![v35024.toNat, 10, 1664, 0]
def k0_off1046 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35058 : Index := Scalar.indexCast v1639
  let c10_16041 : Index := 10#32
  let c1696_16042 : Index := 1696#32
  let c0_16043 : Index := 0#32
  ![v35058.toNat, 10, 1696, 0]
def k0_off1047 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35092 : Index := Scalar.indexCast v1639
  let c10_16056 : Index := 10#32
  let c1728_16057 : Index := 1728#32
  let c0_16058 : Index := 0#32
  ![v35092.toNat, 10, 1728, 0]
def k0_off1048 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35126 : Index := Scalar.indexCast v1639
  let c10_16071 : Index := 10#32
  let c1760_16072 : Index := 1760#32
  let c0_16073 : Index := 0#32
  ![v35126.toNat, 10, 1760, 0]
def k0_off1049 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35161 : Index := Scalar.indexCast v1639
  let c11_16086 : Index := 11#32
  let c1664_16087 : Index := 1664#32
  let c0_16088 : Index := 0#32
  ![v35161.toNat, 11, 1664, 0]
def k0_off1050 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35195 : Index := Scalar.indexCast v1639
  let c11_16101 : Index := 11#32
  let c1696_16102 : Index := 1696#32
  let c0_16103 : Index := 0#32
  ![v35195.toNat, 11, 1696, 0]
def k0_off1051 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35229 : Index := Scalar.indexCast v1639
  let c11_16116 : Index := 11#32
  let c1728_16117 : Index := 1728#32
  let c0_16118 : Index := 0#32
  ![v35229.toNat, 11, 1728, 0]
def k0_off1052 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35263 : Index := Scalar.indexCast v1639
  let c11_16131 : Index := 11#32
  let c1760_16132 : Index := 1760#32
  let c0_16133 : Index := 0#32
  ![v35263.toNat, 11, 1760, 0]
def k0_off1053 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35302 : Index := Scalar.indexCast v1639
  let c10_16149 : Index := 10#32
  let c112_16150 : Index := 112#32
  let c0_16151 : Index := 0#32
  ![v35302.toNat, 10, 112, 0]
def k0_off1054 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35317 : Index := Scalar.indexCast v1639
  let c11_16160 : Index := 11#32
  let c112_16161 : Index := 112#32
  let c0_16162 : Index := 0#32
  ![v35317.toNat, 11, 112, 0]
def k0_off1055 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35332 : Index := Scalar.indexCast v1639
  let c10_16171 : Index := 10#32
  let c1792_16172 : Index := 1792#32
  let c0_16173 : Index := 0#32
  ![v35332.toNat, 10, 1792, 0]
def k0_off1056 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35366 : Index := Scalar.indexCast v1639
  let c10_16186 : Index := 10#32
  let c1824_16187 : Index := 1824#32
  let c0_16188 : Index := 0#32
  ![v35366.toNat, 10, 1824, 0]
def k0_off1057 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35400 : Index := Scalar.indexCast v1639
  let c10_16201 : Index := 10#32
  let c1856_16202 : Index := 1856#32
  let c0_16203 : Index := 0#32
  ![v35400.toNat, 10, 1856, 0]
def k0_off1058 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35434 : Index := Scalar.indexCast v1639
  let c10_16216 : Index := 10#32
  let c1888_16217 : Index := 1888#32
  let c0_16218 : Index := 0#32
  ![v35434.toNat, 10, 1888, 0]
def k0_off1059 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35469 : Index := Scalar.indexCast v1639
  let c11_16231 : Index := 11#32
  let c1792_16232 : Index := 1792#32
  let c0_16233 : Index := 0#32
  ![v35469.toNat, 11, 1792, 0]
def k0_off1060 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35503 : Index := Scalar.indexCast v1639
  let c11_16246 : Index := 11#32
  let c1824_16247 : Index := 1824#32
  let c0_16248 : Index := 0#32
  ![v35503.toNat, 11, 1824, 0]
def k0_off1061 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35537 : Index := Scalar.indexCast v1639
  let c11_16261 : Index := 11#32
  let c1856_16262 : Index := 1856#32
  let c0_16263 : Index := 0#32
  ![v35537.toNat, 11, 1856, 0]
def k0_off1062 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35571 : Index := Scalar.indexCast v1639
  let c11_16276 : Index := 11#32
  let c1888_16277 : Index := 1888#32
  let c0_16278 : Index := 0#32
  ![v35571.toNat, 11, 1888, 0]
def k0_off1063 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35610 : Index := Scalar.indexCast v1639
  let c10_16294 : Index := 10#32
  let c1920_16295 : Index := 1920#32
  let c0_16296 : Index := 0#32
  ![v35610.toNat, 10, 1920, 0]
def k0_off1064 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35644 : Index := Scalar.indexCast v1639
  let c10_16309 : Index := 10#32
  let c1952_16310 : Index := 1952#32
  let c0_16311 : Index := 0#32
  ![v35644.toNat, 10, 1952, 0]
def k0_off1065 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35678 : Index := Scalar.indexCast v1639
  let c10_16324 : Index := 10#32
  let c1984_16325 : Index := 1984#32
  let c0_16326 : Index := 0#32
  ![v35678.toNat, 10, 1984, 0]
def k0_off1066 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35712 : Index := Scalar.indexCast v1639
  let c10_16339 : Index := 10#32
  let c2016_16340 : Index := 2016#32
  let c0_16341 : Index := 0#32
  ![v35712.toNat, 10, 2016, 0]
def k0_off1067 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35747 : Index := Scalar.indexCast v1639
  let c11_16354 : Index := 11#32
  let c1920_16355 : Index := 1920#32
  let c0_16356 : Index := 0#32
  ![v35747.toNat, 11, 1920, 0]
def k0_off1068 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35781 : Index := Scalar.indexCast v1639
  let c11_16369 : Index := 11#32
  let c1952_16370 : Index := 1952#32
  let c0_16371 : Index := 0#32
  ![v35781.toNat, 11, 1952, 0]
def k0_off1069 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35815 : Index := Scalar.indexCast v1639
  let c11_16384 : Index := 11#32
  let c1984_16385 : Index := 1984#32
  let c0_16386 : Index := 0#32
  ![v35815.toNat, 11, 1984, 0]
def k0_off1070 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35849 : Index := Scalar.indexCast v1639
  let c11_16399 : Index := 11#32
  let c2016_16400 : Index := 2016#32
  let c0_16401 : Index := 0#32
  ![v35849.toNat, 11, 2016, 0]
def k0_off1071 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35888 : Index := Scalar.indexCast v1639
  let c10_16417 : Index := 10#32
  let c128_16418 : Index := 128#32
  let c0_16419 : Index := 0#32
  ![v35888.toNat, 10, 128, 0]
def k0_off1072 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35903 : Index := Scalar.indexCast v1639
  let c11_16428 : Index := 11#32
  let c128_16429 : Index := 128#32
  let c0_16430 : Index := 0#32
  ![v35903.toNat, 11, 128, 0]
def k0_off1073 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35918 : Index := Scalar.indexCast v1639
  let c10_16439 : Index := 10#32
  let c2048_16440 : Index := 2048#32
  let c0_16441 : Index := 0#32
  ![v35918.toNat, 10, 2048, 0]
def k0_off1074 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35952 : Index := Scalar.indexCast v1639
  let c10_16454 : Index := 10#32
  let c2080_16455 : Index := 2080#32
  let c0_16456 : Index := 0#32
  ![v35952.toNat, 10, 2080, 0]
def k0_off1075 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v35986 : Index := Scalar.indexCast v1639
  let c10_16469 : Index := 10#32
  let c2112_16470 : Index := 2112#32
  let c0_16471 : Index := 0#32
  ![v35986.toNat, 10, 2112, 0]
def k0_off1076 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36020 : Index := Scalar.indexCast v1639
  let c10_16484 : Index := 10#32
  let c2144_16485 : Index := 2144#32
  let c0_16486 : Index := 0#32
  ![v36020.toNat, 10, 2144, 0]
def k0_off1077 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36055 : Index := Scalar.indexCast v1639
  let c11_16499 : Index := 11#32
  let c2048_16500 : Index := 2048#32
  let c0_16501 : Index := 0#32
  ![v36055.toNat, 11, 2048, 0]
def k0_off1078 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36089 : Index := Scalar.indexCast v1639
  let c11_16514 : Index := 11#32
  let c2080_16515 : Index := 2080#32
  let c0_16516 : Index := 0#32
  ![v36089.toNat, 11, 2080, 0]
def k0_off1079 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36123 : Index := Scalar.indexCast v1639
  let c11_16529 : Index := 11#32
  let c2112_16530 : Index := 2112#32
  let c0_16531 : Index := 0#32
  ![v36123.toNat, 11, 2112, 0]
def k0_off1080 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36157 : Index := Scalar.indexCast v1639
  let c11_16544 : Index := 11#32
  let c2144_16545 : Index := 2144#32
  let c0_16546 : Index := 0#32
  ![v36157.toNat, 11, 2144, 0]
def k0_off1081 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36196 : Index := Scalar.indexCast v1639
  let c10_16562 : Index := 10#32
  let c2176_16563 : Index := 2176#32
  let c0_16564 : Index := 0#32
  ![v36196.toNat, 10, 2176, 0]
def k0_off1082 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36230 : Index := Scalar.indexCast v1639
  let c10_16577 : Index := 10#32
  let c2208_16578 : Index := 2208#32
  let c0_16579 : Index := 0#32
  ![v36230.toNat, 10, 2208, 0]
def k0_off1083 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36264 : Index := Scalar.indexCast v1639
  let c10_16592 : Index := 10#32
  let c2240_16593 : Index := 2240#32
  let c0_16594 : Index := 0#32
  ![v36264.toNat, 10, 2240, 0]
def k0_off1084 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36298 : Index := Scalar.indexCast v1639
  let c10_16607 : Index := 10#32
  let c2272_16608 : Index := 2272#32
  let c0_16609 : Index := 0#32
  ![v36298.toNat, 10, 2272, 0]
def k0_off1085 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36333 : Index := Scalar.indexCast v1639
  let c11_16622 : Index := 11#32
  let c2176_16623 : Index := 2176#32
  let c0_16624 : Index := 0#32
  ![v36333.toNat, 11, 2176, 0]
def k0_off1086 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36367 : Index := Scalar.indexCast v1639
  let c11_16637 : Index := 11#32
  let c2208_16638 : Index := 2208#32
  let c0_16639 : Index := 0#32
  ![v36367.toNat, 11, 2208, 0]
def k0_off1087 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36401 : Index := Scalar.indexCast v1639
  let c11_16652 : Index := 11#32
  let c2240_16653 : Index := 2240#32
  let c0_16654 : Index := 0#32
  ![v36401.toNat, 11, 2240, 0]
def k0_off1088 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36435 : Index := Scalar.indexCast v1639
  let c11_16667 : Index := 11#32
  let c2272_16668 : Index := 2272#32
  let c0_16669 : Index := 0#32
  ![v36435.toNat, 11, 2272, 0]
def k0_off1089 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36474 : Index := Scalar.indexCast v1639
  let c10_16685 : Index := 10#32
  let c144_16686 : Index := 144#32
  let c0_16687 : Index := 0#32
  ![v36474.toNat, 10, 144, 0]
def k0_off1090 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36489 : Index := Scalar.indexCast v1639
  let c11_16696 : Index := 11#32
  let c144_16697 : Index := 144#32
  let c0_16698 : Index := 0#32
  ![v36489.toNat, 11, 144, 0]
def k0_off1091 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36504 : Index := Scalar.indexCast v1639
  let c10_16707 : Index := 10#32
  let c2304_16708 : Index := 2304#32
  let c0_16709 : Index := 0#32
  ![v36504.toNat, 10, 2304, 0]
def k0_off1092 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36538 : Index := Scalar.indexCast v1639
  let c10_16722 : Index := 10#32
  let c2336_16723 : Index := 2336#32
  let c0_16724 : Index := 0#32
  ![v36538.toNat, 10, 2336, 0]
def k0_off1093 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36572 : Index := Scalar.indexCast v1639
  let c10_16737 : Index := 10#32
  let c2368_16738 : Index := 2368#32
  let c0_16739 : Index := 0#32
  ![v36572.toNat, 10, 2368, 0]
def k0_off1094 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36606 : Index := Scalar.indexCast v1639
  let c10_16752 : Index := 10#32
  let c2400_16753 : Index := 2400#32
  let c0_16754 : Index := 0#32
  ![v36606.toNat, 10, 2400, 0]
def k0_off1095 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36641 : Index := Scalar.indexCast v1639
  let c11_16767 : Index := 11#32
  let c2304_16768 : Index := 2304#32
  let c0_16769 : Index := 0#32
  ![v36641.toNat, 11, 2304, 0]
def k0_off1096 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36675 : Index := Scalar.indexCast v1639
  let c11_16782 : Index := 11#32
  let c2336_16783 : Index := 2336#32
  let c0_16784 : Index := 0#32
  ![v36675.toNat, 11, 2336, 0]
def k0_off1097 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36709 : Index := Scalar.indexCast v1639
  let c11_16797 : Index := 11#32
  let c2368_16798 : Index := 2368#32
  let c0_16799 : Index := 0#32
  ![v36709.toNat, 11, 2368, 0]
def k0_off1098 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36743 : Index := Scalar.indexCast v1639
  let c11_16812 : Index := 11#32
  let c2400_16813 : Index := 2400#32
  let c0_16814 : Index := 0#32
  ![v36743.toNat, 11, 2400, 0]
def k0_off1099 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36782 : Index := Scalar.indexCast v1639
  let c10_16830 : Index := 10#32
  let c2432_16831 : Index := 2432#32
  let c0_16832 : Index := 0#32
  ![v36782.toNat, 10, 2432, 0]
def k0_off1100 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36816 : Index := Scalar.indexCast v1639
  let c10_16845 : Index := 10#32
  let c2464_16846 : Index := 2464#32
  let c0_16847 : Index := 0#32
  ![v36816.toNat, 10, 2464, 0]
def k0_off1101 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36850 : Index := Scalar.indexCast v1639
  let c10_16860 : Index := 10#32
  let c2496_16861 : Index := 2496#32
  let c0_16862 : Index := 0#32
  ![v36850.toNat, 10, 2496, 0]
def k0_off1102 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36884 : Index := Scalar.indexCast v1639
  let c10_16875 : Index := 10#32
  let c2528_16876 : Index := 2528#32
  let c0_16877 : Index := 0#32
  ![v36884.toNat, 10, 2528, 0]
def k0_off1103 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36919 : Index := Scalar.indexCast v1639
  let c11_16890 : Index := 11#32
  let c2432_16891 : Index := 2432#32
  let c0_16892 : Index := 0#32
  ![v36919.toNat, 11, 2432, 0]
def k0_off1104 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36953 : Index := Scalar.indexCast v1639
  let c11_16905 : Index := 11#32
  let c2464_16906 : Index := 2464#32
  let c0_16907 : Index := 0#32
  ![v36953.toNat, 11, 2464, 0]
def k0_off1105 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v36987 : Index := Scalar.indexCast v1639
  let c11_16920 : Index := 11#32
  let c2496_16921 : Index := 2496#32
  let c0_16922 : Index := 0#32
  ![v36987.toNat, 11, 2496, 0]
def k0_off1106 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let v37021 : Index := Scalar.indexCast v1639
  let c11_16935 : Index := 11#32
  let c2528_16936 : Index := 2528#32
  let c0_16937 : Index := 0#32
  ![v37021.toNat, 11, 2528, 0]
def k0_mult41 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_16953 : BitVec 32 := 768#32
  let v37063 : BitVec 32 := Scalar.muli arg14 c768_i32_16953
  let c512_i32_16954 : BitVec 32 := 512#32
  let v37064 : BitVec 32 := Scalar.addi v37063 c512_i32_16954
  let c0_i32_16955 : BitVec 32 := 0#32
  let v37065 : BitVec 32 := Scalar.addi v37064 c0_i32_16955
  v37065
def k0_mult42 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c768_i32_16964 : BitVec 32 := 768#32
  let v37092 : BitVec 32 := Scalar.muli arg14 c768_i32_16964
  let c512_i32_16965 : BitVec 32 := 512#32
  let v37093 : BitVec 32 := Scalar.addi v37092 c512_i32_16965
  let c128_i32_16966 : BitVec 32 := 128#32
  let v37094 : BitVec 32 := Scalar.addi v37093 c128_i32_16966
  v37094
def k0_cond1 (k0_t1 : Fin k0_t1_loop.trips) : BitVec 1 :=
  let c0_i32_852 : BitVec 32 := 0#32
  let c1_i32_853 : BitVec 32 := 1#32
  let arg14 : BitVec 32 := Scf.iv c0_i32_852 c1_i32_853 k0_t1
  let c2_i32_16975 : BitVec 32 := 2#32
  let v37121 : BitVec 32 := Scalar.addi arg14 c2_i32_16975
  let c18_i32_16976 : BitVec 32 := 18#32
  let v37122 : BitVec 1 := Scalar.cmpi .slt v37121 c18_i32_16976
  let v37123 : BitVec 32 := Scalar.extui v37122
  let c0_i32_16977 : BitVec 32 := 0#32
  let v37124 : BitVec 1 := Scalar.cmpi .ne v37123 c0_i32_16977
  v37124

def k0_mult43 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c0_i32_16980 : BitVec 32 := 0#32
  let v37127 : BitVec 32 := Scalar.addi v37126 c0_i32_16980
  v37127
def k0_mult44 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c128_i32_16981 : BitVec 32 := 128#32
  let v37129 : BitVec 32 := Scalar.addi v37126 c128_i32_16981
  v37129
def k0_mult45 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c256_i32_16982 : BitVec 32 := 256#32
  let v37131 : BitVec 32 := Scalar.addi v37126 c256_i32_16982
  v37131
def k0_mult46 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c384_i32_16983 : BitVec 32 := 384#32
  let v37133 : BitVec 32 := Scalar.addi v37126 c384_i32_16983
  v37133
def k0_mult47 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c512_i32_16984 : BitVec 32 := 512#32
  let v37135 : BitVec 32 := Scalar.addi v37126 c512_i32_16984
  v37135
def k0_mult48 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let c640_i32_16985 : BitVec 32 := 640#32
  let v37137 : BitVec 32 := Scalar.addi v37126 c640_i32_16985
  v37137
def k0_mult49 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c0_i32_16987 : BitVec 32 := 0#32
  let v37140 : BitVec 32 := Scalar.addi v37139 c0_i32_16987
  v37140
def k0_mult50 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c128_i32_16988 : BitVec 32 := 128#32
  let v37142 : BitVec 32 := Scalar.addi v37139 c128_i32_16988
  v37142
def k0_mult51 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c256_i32_16989 : BitVec 32 := 256#32
  let v37144 : BitVec 32 := Scalar.addi v37139 c256_i32_16989
  v37144
def k0_mult52 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c384_i32_16990 : BitVec 32 := 384#32
  let v37146 : BitVec 32 := Scalar.addi v37139 c384_i32_16990
  v37146
def k0_mult53 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c512_i32_16991 : BitVec 32 := 512#32
  let v37148 : BitVec 32 := Scalar.addi v37139 c512_i32_16991
  v37148
def k0_mult54 (k0_t1 : Fin k0_t1_loop.trips) : BitVec 32 :=
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16986 : BitVec 32 := 768#32
  let v37139 : BitVec 32 := Scalar.muli v37125 c768_i32_16986
  let c640_i32_16992 : BitVec 32 := 640#32
  let v37150 : BitVec 32 := Scalar.addi v37139 c640_i32_16992
  v37150
def k0_off1107 (k0_t1 : Fin k0_t1_loop.trips) : Fin 1 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  ![v1639.toNat]
def k0_off1108 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c0_i32_16993 : BitVec 32 := 0#32
  let c0_i32_16994 : BitVec 32 := 0#32
  let c0_i32_16995 : BitVec 32 := 0#32
  ![v1639.toNat, 0, 0, 0]
def k0_off1109 (k0_t1 : Fin k0_t1_loop.trips) (c0_i32_16980 : BitVec 32) : Fin 2 → Nat :=
  let c0_i32_16996 : BitVec 32 := 0#32
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let v37127 : BitVec 32 := Scalar.addi v37126 c0_i32_16980
  let v37128 : BitVec 32 := v37127
  ![0, v37128.toNat]
def k0_off1110 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c0_i32_16997 : BitVec 32 := 0#32
  let c0_i32_16998 : BitVec 32 := 0#32
  let c0_i32_16999 : BitVec 32 := 0#32
  ![v1639.toNat, 0, 0, 0]
def k0_off1111 (k0_t1 : Fin k0_t1_loop.trips) (c0_i32_16980 : BitVec 32) : Fin 2 → Nat :=
  let c0_i32_17000 : BitVec 32 := 0#32
  let c0_i32_852 : BitVec 32 := 0#32
  let c1_i32_853 : BitVec 32 := 1#32
  let arg14 : BitVec 32 := Scf.iv c0_i32_852 c1_i32_853 k0_t1
  let c2_i32_16978 : BitVec 32 := 2#32
  let v37125 : BitVec 32 := Scalar.addi arg14 c2_i32_16978
  let c768_i32_16979 : BitVec 32 := 768#32
  let v37126 : BitVec 32 := Scalar.muli v37125 c768_i32_16979
  let v37127 : BitVec 32 := Scalar.addi v37126 c0_i32_16980
  let v37128 : BitVec 32 := v37127
  ![0, v37128.toNat]
def k0_off1112 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c1_i32_17001 : BitVec 32 := 1#32
  let c0_i32_17002 : BitVec 32 := 0#32
  let c0_i32_17003 : BitVec 32 := 0#32
  ![v1639.toNat, 1, 0, 0]
def k0_off1113 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c1_i32_17005 : BitVec 32 := 1#32
  let c0_i32_17006 : BitVec 32 := 0#32
  let c0_i32_17007 : BitVec 32 := 0#32
  ![v1639.toNat, 1, 0, 0]
def k0_off1114 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c2_i32_17009 : BitVec 32 := 2#32
  let c0_i32_17010 : BitVec 32 := 0#32
  let c0_i32_17011 : BitVec 32 := 0#32
  ![v1639.toNat, 2, 0, 0]
def k0_off1115 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c2_i32_17013 : BitVec 32 := 2#32
  let c0_i32_17014 : BitVec 32 := 0#32
  let c0_i32_17015 : BitVec 32 := 0#32
  ![v1639.toNat, 2, 0, 0]
def k0_off1116 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c3_i32_17017 : BitVec 32 := 3#32
  let c0_i32_17018 : BitVec 32 := 0#32
  let c0_i32_17019 : BitVec 32 := 0#32
  ![v1639.toNat, 3, 0, 0]
def k0_off1117 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c3_i32_17021 : BitVec 32 := 3#32
  let c0_i32_17022 : BitVec 32 := 0#32
  let c0_i32_17023 : BitVec 32 := 0#32
  ![v1639.toNat, 3, 0, 0]
def k0_off1118 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c4_i32_17025 : BitVec 32 := 4#32
  let c0_i32_17026 : BitVec 32 := 0#32
  let c0_i32_17027 : BitVec 32 := 0#32
  ![v1639.toNat, 4, 0, 0]
def k0_off1119 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c4_i32_17029 : BitVec 32 := 4#32
  let c0_i32_17030 : BitVec 32 := 0#32
  let c0_i32_17031 : BitVec 32 := 0#32
  ![v1639.toNat, 4, 0, 0]
def k0_off1120 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c5_i32_17033 : BitVec 32 := 5#32
  let c0_i32_17034 : BitVec 32 := 0#32
  let c0_i32_17035 : BitVec 32 := 0#32
  ![v1639.toNat, 5, 0, 0]
def k0_off1121 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c5_i32_17037 : BitVec 32 := 5#32
  let c0_i32_17038 : BitVec 32 := 0#32
  let c0_i32_17039 : BitVec 32 := 0#32
  ![v1639.toNat, 5, 0, 0]
def k0_off1122 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c6_i32_17041 : BitVec 32 := 6#32
  let c0_i32_17042 : BitVec 32 := 0#32
  let c0_i32_17043 : BitVec 32 := 0#32
  ![v1639.toNat, 6, 0, 0]
def k0_off1123 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c6_i32_17045 : BitVec 32 := 6#32
  let c0_i32_17046 : BitVec 32 := 0#32
  let c0_i32_17047 : BitVec 32 := 0#32
  ![v1639.toNat, 6, 0, 0]
def k0_off1124 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c7_i32_17049 : BitVec 32 := 7#32
  let c0_i32_17050 : BitVec 32 := 0#32
  let c0_i32_17051 : BitVec 32 := 0#32
  ![v1639.toNat, 7, 0, 0]
def k0_off1125 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c7_i32_17053 : BitVec 32 := 7#32
  let c0_i32_17054 : BitVec 32 := 0#32
  let c0_i32_17055 : BitVec 32 := 0#32
  ![v1639.toNat, 7, 0, 0]
def k0_off1126 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c8_i32_17057 : BitVec 32 := 8#32
  let c0_i32_17058 : BitVec 32 := 0#32
  let c0_i32_17059 : BitVec 32 := 0#32
  ![v1639.toNat, 8, 0, 0]
def k0_off1127 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c8_i32_17061 : BitVec 32 := 8#32
  let c0_i32_17062 : BitVec 32 := 0#32
  let c0_i32_17063 : BitVec 32 := 0#32
  ![v1639.toNat, 8, 0, 0]
def k0_off1128 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c9_i32_17065 : BitVec 32 := 9#32
  let c0_i32_17066 : BitVec 32 := 0#32
  let c0_i32_17067 : BitVec 32 := 0#32
  ![v1639.toNat, 9, 0, 0]
def k0_off1129 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c9_i32_17069 : BitVec 32 := 9#32
  let c0_i32_17070 : BitVec 32 := 0#32
  let c0_i32_17071 : BitVec 32 := 0#32
  ![v1639.toNat, 9, 0, 0]
def k0_off1130 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c10_i32_17073 : BitVec 32 := 10#32
  let c0_i32_17074 : BitVec 32 := 0#32
  let c0_i32_17075 : BitVec 32 := 0#32
  ![v1639.toNat, 10, 0, 0]
def k0_off1131 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c10_i32_17077 : BitVec 32 := 10#32
  let c0_i32_17078 : BitVec 32 := 0#32
  let c0_i32_17079 : BitVec 32 := 0#32
  ![v1639.toNat, 10, 0, 0]
def k0_off1132 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c11_i32_17081 : BitVec 32 := 11#32
  let c0_i32_17082 : BitVec 32 := 0#32
  let c0_i32_17083 : BitVec 32 := 0#32
  ![v1639.toNat, 11, 0, 0]
def k0_off1133 (k0_t1 : Fin k0_t1_loop.trips) : Fin 4 → Nat :=
  let c0_i32_852 : BitVec 32 := 0#32
  let c1_i32_853 : BitVec 32 := 1#32
  let arg14 : BitVec 32 := Scf.iv c0_i32_852 c1_i32_853 k0_t1
  let c2_i32_855 : BitVec 32 := 2#32
  let v1639 : BitVec 32 := Scalar.remsi arg14 c2_i32_855
  let c11_i32_17085 : BitVec 32 := 11#32
  let c0_i32_17086 : BitVec 32 := 0#32
  let c0_i32_17087 : BitVec 32 := 0#32
  ![v1639.toNat, 11, 0, 0]
abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x13824 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x5120 : Shape := ⟨2, ![32, 5120]⟩
abbrev S5120 : Shape := ⟨1, ![5120]⟩
abbrev S13824x160x16 : Shape := ⟨3, ![13824, 160, 16]⟩
abbrev S13824x160 : Shape := ⟨2, ![13824, 160]⟩
abbrev S32x13824 : Shape := ⟨2, ![32, 13824]⟩
abbrev S32 : Shape := ⟨1, ![32]⟩
abbrev S32x1 : Shape := ⟨2, ![32, 1]⟩
abbrev S1x5120 : Shape := ⟨2, ![1, 5120]⟩
abbrev S13824x160x1 : Shape := ⟨3, ![13824, 160, 1]⟩
abbrev S13824x160x32 : Shape := ⟨3, ![13824, 160, 32]⟩
abbrev S13824x5120 : Shape := ⟨2, ![13824, 5120]⟩

abbrev nBuf : Space → Nat
  | .hbm => 7
  | .vmem => 7
  | .smem => 0
  | _ => 0

abbrev bufTy : (tb : Table) → Fin (tcTables nBuf tb) → BufTy
  | .hbm, ⟨0, _⟩ => ⟨S32x5120, .f32⟩
  | .hbm, ⟨1, _⟩ => ⟨S5120, .bf16⟩
  | .hbm, ⟨2, _⟩ => ⟨S13824x160x16, .i8⟩
  | .hbm, ⟨3, _⟩ => ⟨S13824x160, .bf16⟩
  | .hbm, ⟨4, _⟩ => ⟨S13824x160x16, .i8⟩
  | .hbm, ⟨5, _⟩ => ⟨S13824x160, .bf16⟩
  | .hbm, ⟨6, _⟩ => ⟨S32x13824, .bf16⟩
  | .local _ .vmem, ⟨0, _⟩ => ⟨S32x5120, .f32⟩
  | .local _ .vmem, ⟨1, _⟩ => ⟨S5120, .bf16⟩
  | .local _ .vmem, ⟨2, _⟩ => ⟨S13824x160x16, .i8⟩
  | .local _ .vmem, ⟨3, _⟩ => ⟨S13824x160, .bf16⟩
  | .local _ .vmem, ⟨4, _⟩ => ⟨S13824x160x16, .i8⟩
  | .local _ .vmem, ⟨5, _⟩ => ⟨S13824x160, .bf16⟩
  | .local _ .vmem, ⟨6, _⟩ => ⟨S32x13824, .bf16⟩
  | _, _ => ⟨S32x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x160x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13824x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S13824x160x16 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S13824x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x13824 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DownIdeal.lean ====
abbrev S32x5120 : Shape := ⟨2, ![32, 5120]⟩
abbrev S32x13824 : Shape := ⟨2, ![32, 13824]⟩
abbrev S5120x432x16 : Shape := ⟨3, ![5120, 432, 16]⟩
abbrev S5120x432 : Shape := ⟨2, ![5120, 432]⟩
abbrev S32x432x2x16 : Shape := ⟨4, ![32, 432, 2, 16]⟩
abbrev S32x432x16x2 : Shape := ⟨4, ![32, 432, 16, 2]⟩
abbrev S432x16x5120 : Shape := ⟨3, ![432, 16, 5120]⟩
abbrev S6912x5120 : Shape := ⟨2, ![6912, 5120]⟩
abbrev S432x5120 : Shape := ⟨2, ![432, 5120]⟩
abbrev S2x4x6912x128 : Shape := ⟨4, ![2, 4, 6912, 128]⟩
abbrev S2x4x432x128 : Shape := ⟨4, ![2, 4, 432, 128]⟩
abbrev S4x2x216x128 : Shape := ⟨4, ![4, 2, 216, 128]⟩
abbrev S2 : Shape := ⟨1, ![2]⟩
abbrev S1 : Shape := ⟨1, ![1]⟩
abbrev S_ : Shape := ⟨0, ![]⟩
abbrev S1x1x6912x128 : Shape := ⟨4, ![1, 1, 6912, 128]⟩
abbrev S6912x128 : Shape := ⟨2, ![6912, 128]⟩
abbrev S1x1x432x128 : Shape := ⟨4, ![1, 1, 432, 128]⟩
abbrev S432x128 : Shape := ⟨2, ![432, 128]⟩
abbrev S32x256 : Shape := ⟨2, ![32, 256]⟩
abbrev S1x1x16x128 : Shape := ⟨4, ![1, 1, 16, 128]⟩
abbrev S16x128 : Shape := ⟨2, ![16, 128]⟩
abbrev S8x2x128 : Shape := ⟨3, ![8, 2, 128]⟩
abbrev S8x1x128 : Shape := ⟨3, ![8, 1, 128]⟩
abbrev S8x128 : Shape := ⟨2, ![8, 128]⟩
abbrev S1x1x8x128 : Shape := ⟨4, ![1, 1, 8, 128]⟩
abbrev S1x1x32x128 : Shape := ⟨4, ![1, 1, 32, 128]⟩
abbrev S32x128 : Shape := ⟨2, ![32, 128]⟩
abbrev S32x1x128 : Shape := ⟨3, ![32, 1, 128]⟩
abbrev S32x2x128 : Shape := ⟨3, ![32, 2, 128]⟩
abbrev S64x128 : Shape := ⟨2, ![64, 128]⟩
abbrev S256x128 : Shape := ⟨2, ![256, 128]⟩
abbrev S256x256 : Shape := ⟨2, ![256, 256]⟩

abbrev nBuf : Space → Nat
  | .hbm => 11
  | .vmem => 6
  | .smem => 0
  | _ => 0

abbrev bufTy : (tb : Table) → Fin (tcTables nBuf tb) → BufTy
  | .hbm, ⟨0, _⟩ => ⟨S32x5120, .f32⟩
  | .hbm, ⟨1, _⟩ => ⟨S32x13824, .bf16⟩
  | .hbm, ⟨2, _⟩ => ⟨S5120x432x16, .i8⟩
  | .hbm, ⟨3, _⟩ => ⟨S5120x432, .bf16⟩
  | .hbm, ⟨4, _⟩ => ⟨S32x432x2x16, .bf16⟩
  | .hbm, ⟨5, _⟩ => ⟨S32x432x16x2, .bf16⟩
  | .hbm, ⟨6, _⟩ => ⟨S32x13824, .bf16⟩
  | .hbm, ⟨7, _⟩ => ⟨S432x16x5120, .i8⟩
  | .hbm, ⟨8, _⟩ => ⟨S6912x5120, .i8⟩
  | .hbm, ⟨9, _⟩ => ⟨S432x5120, .bf16⟩
  | .hbm, ⟨10, _⟩ => ⟨S32x5120, .bf16⟩
  | .local _ .vmem, ⟨0, _⟩ => ⟨S32x5120, .f32⟩
  | .local _ .vmem, ⟨1, _⟩ => ⟨S32x13824, .bf16⟩
  | .local _ .vmem, ⟨2, _⟩ => ⟨S32x5120, .bf16⟩
  | .local _ .vmem, ⟨3, _⟩ => ⟨S2x4x6912x128, .i8⟩
  | .local _ .vmem, ⟨4, _⟩ => ⟨S2x4x432x128, .bf16⟩
  | .local _ .vmem, ⟨5, _⟩ => ⟨S4x2x216x128, .f32⟩
  | _, _ => ⟨S32x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
@[reducible] def k0_t1_loop : Scf.Loop 32 :=
  let c0_i32_93 : BitVec 32 := 0#32
  let c10_i32 : BitVec 32 := 10#32
  let v88 : BitVec 32 := Scalar.addi c0_i32_93 c10_i32
  let c1_i32_94 : BitVec 32 := 1#32
  ⟨c0_i32_93, v88, c1_i32_94⟩
def k0_mult9 : BitVec 32 :=
  let c0_i32_97 : BitVec 32 := 0#32
  c0_i32_97
def k0_mult10 : BitVec 32 :=
  let c128_i32_98 : BitVec 32 := 128#32
  c128_i32_98
def k0_mult11 : BitVec 32 :=
  let c256_i32_99 : BitVec 32 := 256#32
  c256_i32_99
def k0_mult12 : BitVec 32 :=
  let c384_i32_100 : BitVec 32 := 384#32
  c384_i32_100
def k0_off1 (k0_t1 : Fin k0_t1_loop.trips) : Fin 1 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  ![v89.toNat]
def k0_off2 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c0_i32_101 : BitVec 32 := 0#32
  let c0_i32_102 : BitVec 32 := 0#32
  let c0_i32_103 : BitVec 32 := 0#32
  ![v89.toNat, 0, 0, 0]
def k0_off3 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c0_i32_105 : BitVec 32 := 0#32
  let c0_i32_106 : BitVec 32 := 0#32
  let c0_i32_107 : BitVec 32 := 0#32
  ![v89.toNat, 0, 0, 0]
def k0_off4 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c1_i32_109 : BitVec 32 := 1#32
  let c0_i32_110 : BitVec 32 := 0#32
  let c0_i32_111 : BitVec 32 := 0#32
  ![v89.toNat, 1, 0, 0]
def k0_off5 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c1_i32_113 : BitVec 32 := 1#32
  let c0_i32_114 : BitVec 32 := 0#32
  let c0_i32_115 : BitVec 32 := 0#32
  ![v89.toNat, 1, 0, 0]
def k0_off6 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c2_i32_117 : BitVec 32 := 2#32
  let c0_i32_118 : BitVec 32 := 0#32
  let c0_i32_119 : BitVec 32 := 0#32
  ![v89.toNat, 2, 0, 0]
def k0_off7 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c2_i32_121 : BitVec 32 := 2#32
  let c0_i32_122 : BitVec 32 := 0#32
  let c0_i32_123 : BitVec 32 := 0#32
  ![v89.toNat, 2, 0, 0]
def k0_off8 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c3_i32_125 : BitVec 32 := 3#32
  let c0_i32_126 : BitVec 32 := 0#32
  let c0_i32_127 : BitVec 32 := 0#32
  ![v89.toNat, 3, 0, 0]
def k0_off9 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c3_i32_129 : BitVec 32 := 3#32
  let c0_i32_130 : BitVec 32 := 0#32
  let c0_i32_131 : BitVec 32 := 0#32
  ![v89.toNat, 3, 0, 0]
def k0_off10 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v135 : Index := Scalar.indexCast v89
  let c0 : Index := 0#32
  let c0_133 : Index := 0#32
  let c0_134 : Index := 0#32
  ![v135.toNat, 0, 0, 0]
def k0_off11 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v150 : Index := Scalar.indexCast v89
  let c1_142 : Index := 1#32
  let c0_143 : Index := 0#32
  let c0_144 : Index := 0#32
  ![v150.toNat, 1, 0, 0]
def k0_off12 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v165 : Index := Scalar.indexCast v89
  let c0_153 : Index := 0#32
  let c0_154 : Index := 0#32
  let c0_155 : Index := 0#32
  ![v165.toNat, 0, 0, 0]
def k0_off13 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v199 : Index := Scalar.indexCast v89
  let c0_165 : Index := 0#32
  let c32 : Index := 32#32
  let c0_166 : Index := 0#32
  ![v199.toNat, 0, 32, 0]
def k0_off14 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v233 : Index := Scalar.indexCast v89
  let c0_179 : Index := 0#32
  let c64 : Index := 64#32
  let c0_180 : Index := 0#32
  ![v233.toNat, 0, 64, 0]
def k0_off15 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v267 : Index := Scalar.indexCast v89
  let c0_192 : Index := 0#32
  let c96 : Index := 96#32
  let c0_193 : Index := 0#32
  ![v267.toNat, 0, 96, 0]
def k0_off16 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v302 : Index := Scalar.indexCast v89
  let c1_205 : Index := 1#32
  let c0_206 : Index := 0#32
  let c0_207 : Index := 0#32
  ![v302.toNat, 1, 0, 0]
def k0_off17 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v336 : Index := Scalar.indexCast v89
  let c1_220 : Index := 1#32
  let c32_221 : Index := 32#32
  let c0_222 : Index := 0#32
  ![v336.toNat, 1, 32, 0]
def k0_off18 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v370 : Index := Scalar.indexCast v89
  let c1_235 : Index := 1#32
  let c64_236 : Index := 64#32
  let c0_237 : Index := 0#32
  ![v370.toNat, 1, 64, 0]
def k0_off19 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v404 : Index := Scalar.indexCast v89
  let c1_250 : Index := 1#32
  let c96_251 : Index := 96#32
  let c0_252 : Index := 0#32
  ![v404.toNat, 1, 96, 0]
def k0_off20 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v444 : Index := Scalar.indexCast v89
  let c0_268 : Index := 0#32
  let c128 : Index := 128#32
  let c0_269 : Index := 0#32
  ![v444.toNat, 0, 128, 0]
def k0_off21 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v478 : Index := Scalar.indexCast v89
  let c0_281 : Index := 0#32
  let c160 : Index := 160#32
  let c0_282 : Index := 0#32
  ![v478.toNat, 0, 160, 0]
def k0_off22 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v512 : Index := Scalar.indexCast v89
  let c0_294 : Index := 0#32
  let c192 : Index := 192#32
  let c0_295 : Index := 0#32
  ![v512.toNat, 0, 192, 0]
def k0_off23 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v546 : Index := Scalar.indexCast v89
  let c0_307 : Index := 0#32
  let c224 : Index := 224#32
  let c0_308 : Index := 0#32
  ![v546.toNat, 0, 224, 0]
def k0_off24 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v581 : Index := Scalar.indexCast v89
  let c1_320 : Index := 1#32
  let c128_321 : Index := 128#32
  let c0_322 : Index := 0#32
  ![v581.toNat, 1, 128, 0]
def k0_off25 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v615 : Index := Scalar.indexCast v89
  let c1_335 : Index := 1#32
  let c160_336 : Index := 160#32
  let c0_337 : Index := 0#32
  ![v615.toNat, 1, 160, 0]
def k0_off26 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v649 : Index := Scalar.indexCast v89
  let c1_350 : Index := 1#32
  let c192_351 : Index := 192#32
  let c0_352 : Index := 0#32
  ![v649.toNat, 1, 192, 0]
def k0_off27 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v683 : Index := Scalar.indexCast v89
  let c1_365 : Index := 1#32
  let c224_366 : Index := 224#32
  let c0_367 : Index := 0#32
  ![v683.toNat, 1, 224, 0]
def k0_off28 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v723 : Index := Scalar.indexCast v89
  let c0_382 : Index := 0#32
  let c16 : Index := 16#32
  let c0_383 : Index := 0#32
  ![v723.toNat, 0, 16, 0]
def k0_off29 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v738 : Index := Scalar.indexCast v89
  let c1_391 : Index := 1#32
  let c16_392 : Index := 16#32
  let c0_393 : Index := 0#32
  ![v738.toNat, 1, 16, 0]
def k0_off30 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v753 : Index := Scalar.indexCast v89
  let c0_402 : Index := 0#32
  let c256_403 : Index := 256#32
  let c0_404 : Index := 0#32
  ![v753.toNat, 0, 256, 0]
def k0_off31 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v787 : Index := Scalar.indexCast v89
  let c0_417 : Index := 0#32
  let c288 : Index := 288#32
  let c0_418 : Index := 0#32
  ![v787.toNat, 0, 288, 0]
def k0_off32 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v821 : Index := Scalar.indexCast v89
  let c0_430 : Index := 0#32
  let c320 : Index := 320#32
  let c0_431 : Index := 0#32
  ![v821.toNat, 0, 320, 0]
def k0_off33 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v855 : Index := Scalar.indexCast v89
  let c0_443 : Index := 0#32
  let c352 : Index := 352#32
  let c0_444 : Index := 0#32
  ![v855.toNat, 0, 352, 0]
def k0_off34 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v890 : Index := Scalar.indexCast v89
  let c1_456 : Index := 1#32
  let c256_457 : Index := 256#32
  let c0_458 : Index := 0#32
  ![v890.toNat, 1, 256, 0]
def k0_off35 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v924 : Index := Scalar.indexCast v89
  let c1_471 : Index := 1#32
  let c288_472 : Index := 288#32
  let c0_473 : Index := 0#32
  ![v924.toNat, 1, 288, 0]
def k0_off36 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v958 : Index := Scalar.indexCast v89
  let c1_486 : Index := 1#32
  let c320_487 : Index := 320#32
  let c0_488 : Index := 0#32
  ![v958.toNat, 1, 320, 0]
def k0_off37 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v992 : Index := Scalar.indexCast v89
  let c1_501 : Index := 1#32
  let c352_502 : Index := 352#32
  let c0_503 : Index := 0#32
  ![v992.toNat, 1, 352, 0]
def k0_off38 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1032 : Index := Scalar.indexCast v89
  let c0_518 : Index := 0#32
  let c384 : Index := 384#32
  let c0_519 : Index := 0#32
  ![v1032.toNat, 0, 384, 0]
def k0_off39 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1066 : Index := Scalar.indexCast v89
  let c0_531 : Index := 0#32
  let c416 : Index := 416#32
  let c0_532 : Index := 0#32
  ![v1066.toNat, 0, 416, 0]
def k0_off40 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1100 : Index := Scalar.indexCast v89
  let c0_544 : Index := 0#32
  let c448 : Index := 448#32
  let c0_545 : Index := 0#32
  ![v1100.toNat, 0, 448, 0]
def k0_off41 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1134 : Index := Scalar.indexCast v89
  let c0_557 : Index := 0#32
  let c480 : Index := 480#32
  let c0_558 : Index := 0#32
  ![v1134.toNat, 0, 480, 0]
def k0_off42 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1169 : Index := Scalar.indexCast v89
  let c1_570 : Index := 1#32
  let c384_571 : Index := 384#32
  let c0_572 : Index := 0#32
  ![v1169.toNat, 1, 384, 0]
def k0_off43 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1203 : Index := Scalar.indexCast v89
  let c1_585 : Index := 1#32
  let c416_586 : Index := 416#32
  let c0_587 : Index := 0#32
  ![v1203.toNat, 1, 416, 0]
def k0_off44 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1237 : Index := Scalar.indexCast v89
  let c1_600 : Index := 1#32
  let c448_601 : Index := 448#32
  let c0_602 : Index := 0#32
  ![v1237.toNat, 1, 448, 0]
def k0_off45 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1271 : Index := Scalar.indexCast v89
  let c1_615 : Index := 1#32
  let c480_616 : Index := 480#32
  let c0_617 : Index := 0#32
  ![v1271.toNat, 1, 480, 0]
def k0_off46 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1311 : Index := Scalar.indexCast v89
  let c0_632 : Index := 0#32
  let c32_633 : Index := 32#32
  let c0_634 : Index := 0#32
  ![v1311.toNat, 0, 32, 0]
def k0_off47 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1326 : Index := Scalar.indexCast v89
  let c1_643 : Index := 1#32
  let c32_644 : Index := 32#32
  let c0_645 : Index := 0#32
  ![v1326.toNat, 1, 32, 0]
def k0_off48 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1341 : Index := Scalar.indexCast v89
  let c0_654 : Index := 0#32
  let c512_655 : Index := 512#32
  let c0_656 : Index := 0#32
  ![v1341.toNat, 0, 512, 0]
def k0_off49 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1375 : Index := Scalar.indexCast v89
  let c0_669 : Index := 0#32
  let c544 : Index := 544#32
  let c0_670 : Index := 0#32
  ![v1375.toNat, 0, 544, 0]
def k0_off50 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1409 : Index := Scalar.indexCast v89
  let c0_682 : Index := 0#32
  let c576 : Index := 576#32
  let c0_683 : Index := 0#32
  ![v1409.toNat, 0, 576, 0]
def k0_off51 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1443 : Index := Scalar.indexCast v89
  let c0_695 : Index := 0#32
  let c608 : Index := 608#32
  let c0_696 : Index := 0#32
  ![v1443.toNat, 0, 608, 0]
def k0_off52 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1478 : Index := Scalar.indexCast v89
  let c1_708 : Index := 1#32
  let c512_709 : Index := 512#32
  let c0_710 : Index := 0#32
  ![v1478.toNat, 1, 512, 0]
def k0_off53 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1512 : Index := Scalar.indexCast v89
  let c1_723 : Index := 1#32
  let c544_724 : Index := 544#32
  let c0_725 : Index := 0#32
  ![v1512.toNat, 1, 544, 0]
def k0_off54 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1546 : Index := Scalar.indexCast v89
  let c1_738 : Index := 1#32
  let c576_739 : Index := 576#32
  let c0_740 : Index := 0#32
  ![v1546.toNat, 1, 576, 0]
def k0_off55 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1580 : Index := Scalar.indexCast v89
  let c1_753 : Index := 1#32
  let c608_754 : Index := 608#32
  let c0_755 : Index := 0#32
  ![v1580.toNat, 1, 608, 0]
def k0_off56 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1620 : Index := Scalar.indexCast v89
  let c0_770 : Index := 0#32
  let c640 : Index := 640#32
  let c0_771 : Index := 0#32
  ![v1620.toNat, 0, 640, 0]
def k0_off57 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1654 : Index := Scalar.indexCast v89
  let c0_783 : Index := 0#32
  let c672 : Index := 672#32
  let c0_784 : Index := 0#32
  ![v1654.toNat, 0, 672, 0]
def k0_off58 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1688 : Index := Scalar.indexCast v89
  let c0_796 : Index := 0#32
  let c704 : Index := 704#32
  let c0_797 : Index := 0#32
  ![v1688.toNat, 0, 704, 0]
def k0_off59 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1722 : Index := Scalar.indexCast v89
  let c0_809 : Index := 0#32
  let c736 : Index := 736#32
  let c0_810 : Index := 0#32
  ![v1722.toNat, 0, 736, 0]
def k0_off60 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1757 : Index := Scalar.indexCast v89
  let c1_822 : Index := 1#32
  let c640_823 : Index := 640#32
  let c0_824 : Index := 0#32
  ![v1757.toNat, 1, 640, 0]
def k0_off61 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1791 : Index := Scalar.indexCast v89
  let c1_837 : Index := 1#32
  let c672_838 : Index := 672#32
  let c0_839 : Index := 0#32
  ![v1791.toNat, 1, 672, 0]
def k0_off62 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1825 : Index := Scalar.indexCast v89
  let c1_852 : Index := 1#32
  let c704_853 : Index := 704#32
  let c0_854 : Index := 0#32
  ![v1825.toNat, 1, 704, 0]
def k0_off63 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1859 : Index := Scalar.indexCast v89
  let c1_867 : Index := 1#32
  let c736_868 : Index := 736#32
  let c0_869 : Index := 0#32
  ![v1859.toNat, 1, 736, 0]
def k0_off64 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1899 : Index := Scalar.indexCast v89
  let c0_884 : Index := 0#32
  let c48 : Index := 48#32
  let c0_885 : Index := 0#32
  ![v1899.toNat, 0, 48, 0]
def k0_off65 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1914 : Index := Scalar.indexCast v89
  let c1_893 : Index := 1#32
  let c48_894 : Index := 48#32
  let c0_895 : Index := 0#32
  ![v1914.toNat, 1, 48, 0]
def k0_off66 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1929 : Index := Scalar.indexCast v89
  let c0_904 : Index := 0#32
  let c768_905 : Index := 768#32
  let c0_906 : Index := 0#32
  ![v1929.toNat, 0, 768, 0]
def k0_off67 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1963 : Index := Scalar.indexCast v89
  let c0_919 : Index := 0#32
  let c800 : Index := 800#32
  let c0_920 : Index := 0#32
  ![v1963.toNat, 0, 800, 0]
def k0_off68 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v1997 : Index := Scalar.indexCast v89
  let c0_932 : Index := 0#32
  let c832 : Index := 832#32
  let c0_933 : Index := 0#32
  ![v1997.toNat, 0, 832, 0]
def k0_off69 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2031 : Index := Scalar.indexCast v89
  let c0_945 : Index := 0#32
  let c864 : Index := 864#32
  let c0_946 : Index := 0#32
  ![v2031.toNat, 0, 864, 0]
def k0_off70 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2066 : Index := Scalar.indexCast v89
  let c1_958 : Index := 1#32
  let c768_959 : Index := 768#32
  let c0_960 : Index := 0#32
  ![v2066.toNat, 1, 768, 0]
def k0_off71 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2100 : Index := Scalar.indexCast v89
  let c1_973 : Index := 1#32
  let c800_974 : Index := 800#32
  let c0_975 : Index := 0#32
  ![v2100.toNat, 1, 800, 0]
def k0_off72 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2134 : Index := Scalar.indexCast v89
  let c1_988 : Index := 1#32
  let c832_989 : Index := 832#32
  let c0_990 : Index := 0#32
  ![v2134.toNat, 1, 832, 0]
def k0_off73 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2168 : Index := Scalar.indexCast v89
  let c1_1003 : Index := 1#32
  let c864_1004 : Index := 864#32
  let c0_1005 : Index := 0#32
  ![v2168.toNat, 1, 864, 0]
def k0_off74 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2208 : Index := Scalar.indexCast v89
  let c0_1020 : Index := 0#32
  let c896 : Index := 896#32
  let c0_1021 : Index := 0#32
  ![v2208.toNat, 0, 896, 0]
def k0_off75 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2242 : Index := Scalar.indexCast v89
  let c0_1033 : Index := 0#32
  let c928 : Index := 928#32
  let c0_1034 : Index := 0#32
  ![v2242.toNat, 0, 928, 0]
def k0_off76 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2276 : Index := Scalar.indexCast v89
  let c0_1046 : Index := 0#32
  let c960 : Index := 960#32
  let c0_1047 : Index := 0#32
  ![v2276.toNat, 0, 960, 0]
def k0_off77 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2310 : Index := Scalar.indexCast v89
  let c0_1059 : Index := 0#32
  let c992 : Index := 992#32
  let c0_1060 : Index := 0#32
  ![v2310.toNat, 0, 992, 0]
def k0_off78 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2345 : Index := Scalar.indexCast v89
  let c1_1072 : Index := 1#32
  let c896_1073 : Index := 896#32
  let c0_1074 : Index := 0#32
  ![v2345.toNat, 1, 896, 0]
def k0_off79 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2379 : Index := Scalar.indexCast v89
  let c1_1087 : Index := 1#32
  let c928_1088 : Index := 928#32
  let c0_1089 : Index := 0#32
  ![v2379.toNat, 1, 928, 0]
def k0_off80 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2413 : Index := Scalar.indexCast v89
  let c1_1102 : Index := 1#32
  let c960_1103 : Index := 960#32
  let c0_1104 : Index := 0#32
  ![v2413.toNat, 1, 960, 0]
def k0_off81 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2447 : Index := Scalar.indexCast v89
  let c1_1117 : Index := 1#32
  let c992_1118 : Index := 992#32
  let c0_1119 : Index := 0#32
  ![v2447.toNat, 1, 992, 0]
def k0_off82 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2487 : Index := Scalar.indexCast v89
  let c0_1134 : Index := 0#32
  let c64_1135 : Index := 64#32
  let c0_1136 : Index := 0#32
  ![v2487.toNat, 0, 64, 0]
def k0_off83 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2502 : Index := Scalar.indexCast v89
  let c1_1145 : Index := 1#32
  let c64_1146 : Index := 64#32
  let c0_1147 : Index := 0#32
  ![v2502.toNat, 1, 64, 0]
def k0_off84 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2517 : Index := Scalar.indexCast v89
  let c0_1156 : Index := 0#32
  let c1024_1157 : Index := 1024#32
  let c0_1158 : Index := 0#32
  ![v2517.toNat, 0, 1024, 0]
def k0_off85 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2551 : Index := Scalar.indexCast v89
  let c0_1171 : Index := 0#32
  let c1056 : Index := 1056#32
  let c0_1172 : Index := 0#32
  ![v2551.toNat, 0, 1056, 0]
def k0_off86 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2585 : Index := Scalar.indexCast v89
  let c0_1184 : Index := 0#32
  let c1088 : Index := 1088#32
  let c0_1185 : Index := 0#32
  ![v2585.toNat, 0, 1088, 0]
def k0_off87 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2619 : Index := Scalar.indexCast v89
  let c0_1197 : Index := 0#32
  let c1120 : Index := 1120#32
  let c0_1198 : Index := 0#32
  ![v2619.toNat, 0, 1120, 0]
def k0_off88 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2654 : Index := Scalar.indexCast v89
  let c1_1210 : Index := 1#32
  let c1024_1211 : Index := 1024#32
  let c0_1212 : Index := 0#32
  ![v2654.toNat, 1, 1024, 0]
def k0_off89 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2688 : Index := Scalar.indexCast v89
  let c1_1225 : Index := 1#32
  let c1056_1226 : Index := 1056#32
  let c0_1227 : Index := 0#32
  ![v2688.toNat, 1, 1056, 0]
def k0_off90 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2722 : Index := Scalar.indexCast v89
  let c1_1240 : Index := 1#32
  let c1088_1241 : Index := 1088#32
  let c0_1242 : Index := 0#32
  ![v2722.toNat, 1, 1088, 0]
def k0_off91 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2756 : Index := Scalar.indexCast v89
  let c1_1255 : Index := 1#32
  let c1120_1256 : Index := 1120#32
  let c0_1257 : Index := 0#32
  ![v2756.toNat, 1, 1120, 0]
def k0_off92 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2796 : Index := Scalar.indexCast v89
  let c0_1272 : Index := 0#32
  let c1152 : Index := 1152#32
  let c0_1273 : Index := 0#32
  ![v2796.toNat, 0, 1152, 0]
def k0_off93 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2830 : Index := Scalar.indexCast v89
  let c0_1285 : Index := 0#32
  let c1184 : Index := 1184#32
  let c0_1286 : Index := 0#32
  ![v2830.toNat, 0, 1184, 0]
def k0_off94 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2864 : Index := Scalar.indexCast v89
  let c0_1298 : Index := 0#32
  let c1216 : Index := 1216#32
  let c0_1299 : Index := 0#32
  ![v2864.toNat, 0, 1216, 0]
def k0_off95 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2898 : Index := Scalar.indexCast v89
  let c0_1311 : Index := 0#32
  let c1248 : Index := 1248#32
  let c0_1312 : Index := 0#32
  ![v2898.toNat, 0, 1248, 0]
def k0_off96 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2933 : Index := Scalar.indexCast v89
  let c1_1324 : Index := 1#32
  let c1152_1325 : Index := 1152#32
  let c0_1326 : Index := 0#32
  ![v2933.toNat, 1, 1152, 0]
def k0_off97 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v2967 : Index := Scalar.indexCast v89
  let c1_1339 : Index := 1#32
  let c1184_1340 : Index := 1184#32
  let c0_1341 : Index := 0#32
  ![v2967.toNat, 1, 1184, 0]
def k0_off98 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3001 : Index := Scalar.indexCast v89
  let c1_1354 : Index := 1#32
  let c1216_1355 : Index := 1216#32
  let c0_1356 : Index := 0#32
  ![v3001.toNat, 1, 1216, 0]
def k0_off99 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3035 : Index := Scalar.indexCast v89
  let c1_1369 : Index := 1#32
  let c1248_1370 : Index := 1248#32
  let c0_1371 : Index := 0#32
  ![v3035.toNat, 1, 1248, 0]
def k0_off100 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3075 : Index := Scalar.indexCast v89
  let c0_1386 : Index := 0#32
  let c80 : Index := 80#32
  let c0_1387 : Index := 0#32
  ![v3075.toNat, 0, 80, 0]
def k0_off101 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3090 : Index := Scalar.indexCast v89
  let c1_1395 : Index := 1#32
  let c80_1396 : Index := 80#32
  let c0_1397 : Index := 0#32
  ![v3090.toNat, 1, 80, 0]
def k0_off102 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3105 : Index := Scalar.indexCast v89
  let c0_1406 : Index := 0#32
  let c1280_1407 : Index := 1280#32
  let c0_1408 : Index := 0#32
  ![v3105.toNat, 0, 1280, 0]
def k0_off103 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3139 : Index := Scalar.indexCast v89
  let c0_1421 : Index := 0#32
  let c1312 : Index := 1312#32
  let c0_1422 : Index := 0#32
  ![v3139.toNat, 0, 1312, 0]
def k0_off104 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3173 : Index := Scalar.indexCast v89
  let c0_1434 : Index := 0#32
  let c1344 : Index := 1344#32
  let c0_1435 : Index := 0#32
  ![v3173.toNat, 0, 1344, 0]
def k0_off105 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3207 : Index := Scalar.indexCast v89
  let c0_1447 : Index := 0#32
  let c1376 : Index := 1376#32
  let c0_1448 : Index := 0#32
  ![v3207.toNat, 0, 1376, 0]
def k0_off106 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3242 : Index := Scalar.indexCast v89
  let c1_1460 : Index := 1#32
  let c1280_1461 : Index := 1280#32
  let c0_1462 : Index := 0#32
  ![v3242.toNat, 1, 1280, 0]
def k0_off107 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3276 : Index := Scalar.indexCast v89
  let c1_1475 : Index := 1#32
  let c1312_1476 : Index := 1312#32
  let c0_1477 : Index := 0#32
  ![v3276.toNat, 1, 1312, 0]
def k0_off108 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3310 : Index := Scalar.indexCast v89
  let c1_1490 : Index := 1#32
  let c1344_1491 : Index := 1344#32
  let c0_1492 : Index := 0#32
  ![v3310.toNat, 1, 1344, 0]
def k0_off109 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3344 : Index := Scalar.indexCast v89
  let c1_1505 : Index := 1#32
  let c1376_1506 : Index := 1376#32
  let c0_1507 : Index := 0#32
  ![v3344.toNat, 1, 1376, 0]
def k0_off110 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3384 : Index := Scalar.indexCast v89
  let c0_1522 : Index := 0#32
  let c1408 : Index := 1408#32
  let c0_1523 : Index := 0#32
  ![v3384.toNat, 0, 1408, 0]
def k0_off111 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3418 : Index := Scalar.indexCast v89
  let c0_1535 : Index := 0#32
  let c1440 : Index := 1440#32
  let c0_1536 : Index := 0#32
  ![v3418.toNat, 0, 1440, 0]
def k0_off112 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3452 : Index := Scalar.indexCast v89
  let c0_1548 : Index := 0#32
  let c1472 : Index := 1472#32
  let c0_1549 : Index := 0#32
  ![v3452.toNat, 0, 1472, 0]
def k0_off113 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3486 : Index := Scalar.indexCast v89
  let c0_1561 : Index := 0#32
  let c1504 : Index := 1504#32
  let c0_1562 : Index := 0#32
  ![v3486.toNat, 0, 1504, 0]
def k0_off114 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3521 : Index := Scalar.indexCast v89
  let c1_1574 : Index := 1#32
  let c1408_1575 : Index := 1408#32
  let c0_1576 : Index := 0#32
  ![v3521.toNat, 1, 1408, 0]
def k0_off115 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3555 : Index := Scalar.indexCast v89
  let c1_1589 : Index := 1#32
  let c1440_1590 : Index := 1440#32
  let c0_1591 : Index := 0#32
  ![v3555.toNat, 1, 1440, 0]
def k0_off116 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3589 : Index := Scalar.indexCast v89
  let c1_1604 : Index := 1#32
  let c1472_1605 : Index := 1472#32
  let c0_1606 : Index := 0#32
  ![v3589.toNat, 1, 1472, 0]
def k0_off117 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3623 : Index := Scalar.indexCast v89
  let c1_1619 : Index := 1#32
  let c1504_1620 : Index := 1504#32
  let c0_1621 : Index := 0#32
  ![v3623.toNat, 1, 1504, 0]
def k0_off118 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3663 : Index := Scalar.indexCast v89
  let c0_1636 : Index := 0#32
  let c96_1637 : Index := 96#32
  let c0_1638 : Index := 0#32
  ![v3663.toNat, 0, 96, 0]
def k0_off119 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3678 : Index := Scalar.indexCast v89
  let c1_1647 : Index := 1#32
  let c96_1648 : Index := 96#32
  let c0_1649 : Index := 0#32
  ![v3678.toNat, 1, 96, 0]
def k0_off120 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3693 : Index := Scalar.indexCast v89
  let c0_1658 : Index := 0#32
  let c1536_1659 : Index := 1536#32
  let c0_1660 : Index := 0#32
  ![v3693.toNat, 0, 1536, 0]
def k0_off121 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3727 : Index := Scalar.indexCast v89
  let c0_1673 : Index := 0#32
  let c1568 : Index := 1568#32
  let c0_1674 : Index := 0#32
  ![v3727.toNat, 0, 1568, 0]
def k0_off122 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3761 : Index := Scalar.indexCast v89
  let c0_1686 : Index := 0#32
  let c1600 : Index := 1600#32
  let c0_1687 : Index := 0#32
  ![v3761.toNat, 0, 1600, 0]
def k0_off123 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3795 : Index := Scalar.indexCast v89
  let c0_1699 : Index := 0#32
  let c1632 : Index := 1632#32
  let c0_1700 : Index := 0#32
  ![v3795.toNat, 0, 1632, 0]
def k0_off124 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3830 : Index := Scalar.indexCast v89
  let c1_1712 : Index := 1#32
  let c1536_1713 : Index := 1536#32
  let c0_1714 : Index := 0#32
  ![v3830.toNat, 1, 1536, 0]
def k0_off125 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3864 : Index := Scalar.indexCast v89
  let c1_1727 : Index := 1#32
  let c1568_1728 : Index := 1568#32
  let c0_1729 : Index := 0#32
  ![v3864.toNat, 1, 1568, 0]
def k0_off126 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3898 : Index := Scalar.indexCast v89
  let c1_1742 : Index := 1#32
  let c1600_1743 : Index := 1600#32
  let c0_1744 : Index := 0#32
  ![v3898.toNat, 1, 1600, 0]
def k0_off127 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3932 : Index := Scalar.indexCast v89
  let c1_1757 : Index := 1#32
  let c1632_1758 : Index := 1632#32
  let c0_1759 : Index := 0#32
  ![v3932.toNat, 1, 1632, 0]
def k0_off128 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v3972 : Index := Scalar.indexCast v89
  let c0_1774 : Index := 0#32
  let c1664 : Index := 1664#32
  let c0_1775 : Index := 0#32
  ![v3972.toNat, 0, 1664, 0]
def k0_off129 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4006 : Index := Scalar.indexCast v89
  let c0_1787 : Index := 0#32
  let c1696 : Index := 1696#32
  let c0_1788 : Index := 0#32
  ![v4006.toNat, 0, 1696, 0]
def k0_off130 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4040 : Index := Scalar.indexCast v89
  let c0_1800 : Index := 0#32
  let c1728 : Index := 1728#32
  let c0_1801 : Index := 0#32
  ![v4040.toNat, 0, 1728, 0]
def k0_off131 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4074 : Index := Scalar.indexCast v89
  let c0_1813 : Index := 0#32
  let c1760 : Index := 1760#32
  let c0_1814 : Index := 0#32
  ![v4074.toNat, 0, 1760, 0]
def k0_off132 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4109 : Index := Scalar.indexCast v89
  let c1_1826 : Index := 1#32
  let c1664_1827 : Index := 1664#32
  let c0_1828 : Index := 0#32
  ![v4109.toNat, 1, 1664, 0]
def k0_off133 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4143 : Index := Scalar.indexCast v89
  let c1_1841 : Index := 1#32
  let c1696_1842 : Index := 1696#32
  let c0_1843 : Index := 0#32
  ![v4143.toNat, 1, 1696, 0]
def k0_off134 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4177 : Index := Scalar.indexCast v89
  let c1_1856 : Index := 1#32
  let c1728_1857 : Index := 1728#32
  let c0_1858 : Index := 0#32
  ![v4177.toNat, 1, 1728, 0]
def k0_off135 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4211 : Index := Scalar.indexCast v89
  let c1_1871 : Index := 1#32
  let c1760_1872 : Index := 1760#32
  let c0_1873 : Index := 0#32
  ![v4211.toNat, 1, 1760, 0]
def k0_off136 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4251 : Index := Scalar.indexCast v89
  let c0_1888 : Index := 0#32
  let c112 : Index := 112#32
  let c0_1889 : Index := 0#32
  ![v4251.toNat, 0, 112, 0]
def k0_off137 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4266 : Index := Scalar.indexCast v89
  let c1_1897 : Index := 1#32
  let c112_1898 : Index := 112#32
  let c0_1899 : Index := 0#32
  ![v4266.toNat, 1, 112, 0]
def k0_off138 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4281 : Index := Scalar.indexCast v89
  let c0_1908 : Index := 0#32
  let c1792_1909 : Index := 1792#32
  let c0_1910 : Index := 0#32
  ![v4281.toNat, 0, 1792, 0]
def k0_off139 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4315 : Index := Scalar.indexCast v89
  let c0_1923 : Index := 0#32
  let c1824 : Index := 1824#32
  let c0_1924 : Index := 0#32
  ![v4315.toNat, 0, 1824, 0]
def k0_off140 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4349 : Index := Scalar.indexCast v89
  let c0_1936 : Index := 0#32
  let c1856 : Index := 1856#32
  let c0_1937 : Index := 0#32
  ![v4349.toNat, 0, 1856, 0]
def k0_off141 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4383 : Index := Scalar.indexCast v89
  let c0_1949 : Index := 0#32
  let c1888 : Index := 1888#32
  let c0_1950 : Index := 0#32
  ![v4383.toNat, 0, 1888, 0]
def k0_off142 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4418 : Index := Scalar.indexCast v89
  let c1_1962 : Index := 1#32
  let c1792_1963 : Index := 1792#32
  let c0_1964 : Index := 0#32
  ![v4418.toNat, 1, 1792, 0]
def k0_off143 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4452 : Index := Scalar.indexCast v89
  let c1_1977 : Index := 1#32
  let c1824_1978 : Index := 1824#32
  let c0_1979 : Index := 0#32
  ![v4452.toNat, 1, 1824, 0]
def k0_off144 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4486 : Index := Scalar.indexCast v89
  let c1_1992 : Index := 1#32
  let c1856_1993 : Index := 1856#32
  let c0_1994 : Index := 0#32
  ![v4486.toNat, 1, 1856, 0]
def k0_off145 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4520 : Index := Scalar.indexCast v89
  let c1_2007 : Index := 1#32
  let c1888_2008 : Index := 1888#32
  let c0_2009 : Index := 0#32
  ![v4520.toNat, 1, 1888, 0]
def k0_off146 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4560 : Index := Scalar.indexCast v89
  let c0_2024 : Index := 0#32
  let c1920 : Index := 1920#32
  let c0_2025 : Index := 0#32
  ![v4560.toNat, 0, 1920, 0]
def k0_off147 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4594 : Index := Scalar.indexCast v89
  let c0_2037 : Index := 0#32
  let c1952 : Index := 1952#32
  let c0_2038 : Index := 0#32
  ![v4594.toNat, 0, 1952, 0]
def k0_off148 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4628 : Index := Scalar.indexCast v89
  let c0_2050 : Index := 0#32
  let c1984 : Index := 1984#32
  let c0_2051 : Index := 0#32
  ![v4628.toNat, 0, 1984, 0]
def k0_off149 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4662 : Index := Scalar.indexCast v89
  let c0_2063 : Index := 0#32
  let c2016 : Index := 2016#32
  let c0_2064 : Index := 0#32
  ![v4662.toNat, 0, 2016, 0]
def k0_off150 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4697 : Index := Scalar.indexCast v89
  let c1_2076 : Index := 1#32
  let c1920_2077 : Index := 1920#32
  let c0_2078 : Index := 0#32
  ![v4697.toNat, 1, 1920, 0]
def k0_off151 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4731 : Index := Scalar.indexCast v89
  let c1_2091 : Index := 1#32
  let c1952_2092 : Index := 1952#32
  let c0_2093 : Index := 0#32
  ![v4731.toNat, 1, 1952, 0]
def k0_off152 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4765 : Index := Scalar.indexCast v89
  let c1_2106 : Index := 1#32
  let c1984_2107 : Index := 1984#32
  let c0_2108 : Index := 0#32
  ![v4765.toNat, 1, 1984, 0]
def k0_off153 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4799 : Index := Scalar.indexCast v89
  let c1_2121 : Index := 1#32
  let c2016_2122 : Index := 2016#32
  let c0_2123 : Index := 0#32
  ![v4799.toNat, 1, 2016, 0]
def k0_off154 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4839 : Index := Scalar.indexCast v89
  let c0_2138 : Index := 0#32
  let c128_2139 : Index := 128#32
  let c0_2140 : Index := 0#32
  ![v4839.toNat, 0, 128, 0]
def k0_off155 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4854 : Index := Scalar.indexCast v89
  let c1_2149 : Index := 1#32
  let c128_2150 : Index := 128#32
  let c0_2151 : Index := 0#32
  ![v4854.toNat, 1, 128, 0]
def k0_off156 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4869 : Index := Scalar.indexCast v89
  let c0_2160 : Index := 0#32
  let c2048_2161 : Index := 2048#32
  let c0_2162 : Index := 0#32
  ![v4869.toNat, 0, 2048, 0]
def k0_off157 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4903 : Index := Scalar.indexCast v89
  let c0_2175 : Index := 0#32
  let c2080 : Index := 2080#32
  let c0_2176 : Index := 0#32
  ![v4903.toNat, 0, 2080, 0]
def k0_off158 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4937 : Index := Scalar.indexCast v89
  let c0_2188 : Index := 0#32
  let c2112 : Index := 2112#32
  let c0_2189 : Index := 0#32
  ![v4937.toNat, 0, 2112, 0]
def k0_off159 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v4971 : Index := Scalar.indexCast v89
  let c0_2201 : Index := 0#32
  let c2144 : Index := 2144#32
  let c0_2202 : Index := 0#32
  ![v4971.toNat, 0, 2144, 0]
def k0_off160 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5006 : Index := Scalar.indexCast v89
  let c1_2214 : Index := 1#32
  let c2048_2215 : Index := 2048#32
  let c0_2216 : Index := 0#32
  ![v5006.toNat, 1, 2048, 0]
def k0_off161 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5040 : Index := Scalar.indexCast v89
  let c1_2229 : Index := 1#32
  let c2080_2230 : Index := 2080#32
  let c0_2231 : Index := 0#32
  ![v5040.toNat, 1, 2080, 0]
def k0_off162 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5074 : Index := Scalar.indexCast v89
  let c1_2244 : Index := 1#32
  let c2112_2245 : Index := 2112#32
  let c0_2246 : Index := 0#32
  ![v5074.toNat, 1, 2112, 0]
def k0_off163 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5108 : Index := Scalar.indexCast v89
  let c1_2259 : Index := 1#32
  let c2144_2260 : Index := 2144#32
  let c0_2261 : Index := 0#32
  ![v5108.toNat, 1, 2144, 0]
def k0_off164 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5148 : Index := Scalar.indexCast v89
  let c0_2276 : Index := 0#32
  let c2176 : Index := 2176#32
  let c0_2277 : Index := 0#32
  ![v5148.toNat, 0, 2176, 0]
def k0_off165 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5182 : Index := Scalar.indexCast v89
  let c0_2289 : Index := 0#32
  let c2208 : Index := 2208#32
  let c0_2290 : Index := 0#32
  ![v5182.toNat, 0, 2208, 0]
def k0_off166 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5216 : Index := Scalar.indexCast v89
  let c0_2302 : Index := 0#32
  let c2240 : Index := 2240#32
  let c0_2303 : Index := 0#32
  ![v5216.toNat, 0, 2240, 0]
def k0_off167 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5250 : Index := Scalar.indexCast v89
  let c0_2315 : Index := 0#32
  let c2272 : Index := 2272#32
  let c0_2316 : Index := 0#32
  ![v5250.toNat, 0, 2272, 0]
def k0_off168 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5285 : Index := Scalar.indexCast v89
  let c1_2328 : Index := 1#32
  let c2176_2329 : Index := 2176#32
  let c0_2330 : Index := 0#32
  ![v5285.toNat, 1, 2176, 0]
def k0_off169 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5319 : Index := Scalar.indexCast v89
  let c1_2343 : Index := 1#32
  let c2208_2344 : Index := 2208#32
  let c0_2345 : Index := 0#32
  ![v5319.toNat, 1, 2208, 0]
def k0_off170 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5353 : Index := Scalar.indexCast v89
  let c1_2358 : Index := 1#32
  let c2240_2359 : Index := 2240#32
  let c0_2360 : Index := 0#32
  ![v5353.toNat, 1, 2240, 0]
def k0_off171 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5387 : Index := Scalar.indexCast v89
  let c1_2373 : Index := 1#32
  let c2272_2374 : Index := 2272#32
  let c0_2375 : Index := 0#32
  ![v5387.toNat, 1, 2272, 0]
def k0_off172 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5427 : Index := Scalar.indexCast v89
  let c0_2390 : Index := 0#32
  let c144 : Index := 144#32
  let c0_2391 : Index := 0#32
  ![v5427.toNat, 0, 144, 0]
def k0_off173 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5442 : Index := Scalar.indexCast v89
  let c1_2399 : Index := 1#32
  let c144_2400 : Index := 144#32
  let c0_2401 : Index := 0#32
  ![v5442.toNat, 1, 144, 0]
def k0_off174 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5457 : Index := Scalar.indexCast v89
  let c0_2410 : Index := 0#32
  let c2304_2411 : Index := 2304#32
  let c0_2412 : Index := 0#32
  ![v5457.toNat, 0, 2304, 0]
def k0_off175 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5491 : Index := Scalar.indexCast v89
  let c0_2425 : Index := 0#32
  let c2336 : Index := 2336#32
  let c0_2426 : Index := 0#32
  ![v5491.toNat, 0, 2336, 0]
def k0_off176 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5525 : Index := Scalar.indexCast v89
  let c0_2438 : Index := 0#32
  let c2368 : Index := 2368#32
  let c0_2439 : Index := 0#32
  ![v5525.toNat, 0, 2368, 0]
def k0_off177 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5559 : Index := Scalar.indexCast v89
  let c0_2451 : Index := 0#32
  let c2400 : Index := 2400#32
  let c0_2452 : Index := 0#32
  ![v5559.toNat, 0, 2400, 0]
def k0_off178 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5594 : Index := Scalar.indexCast v89
  let c1_2464 : Index := 1#32
  let c2304_2465 : Index := 2304#32
  let c0_2466 : Index := 0#32
  ![v5594.toNat, 1, 2304, 0]
def k0_off179 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5628 : Index := Scalar.indexCast v89
  let c1_2479 : Index := 1#32
  let c2336_2480 : Index := 2336#32
  let c0_2481 : Index := 0#32
  ![v5628.toNat, 1, 2336, 0]
def k0_off180 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5662 : Index := Scalar.indexCast v89
  let c1_2494 : Index := 1#32
  let c2368_2495 : Index := 2368#32
  let c0_2496 : Index := 0#32
  ![v5662.toNat, 1, 2368, 0]
def k0_off181 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5696 : Index := Scalar.indexCast v89
  let c1_2509 : Index := 1#32
  let c2400_2510 : Index := 2400#32
  let c0_2511 : Index := 0#32
  ![v5696.toNat, 1, 2400, 0]
def k0_off182 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5736 : Index := Scalar.indexCast v89
  let c0_2526 : Index := 0#32
  let c2432 : Index := 2432#32
  let c0_2527 : Index := 0#32
  ![v5736.toNat, 0, 2432, 0]
def k0_off183 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5770 : Index := Scalar.indexCast v89
  let c0_2539 : Index := 0#32
  let c2464 : Index := 2464#32
  let c0_2540 : Index := 0#32
  ![v5770.toNat, 0, 2464, 0]
def k0_off184 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5804 : Index := Scalar.indexCast v89
  let c0_2552 : Index := 0#32
  let c2496 : Index := 2496#32
  let c0_2553 : Index := 0#32
  ![v5804.toNat, 0, 2496, 0]
def k0_off185 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5838 : Index := Scalar.indexCast v89
  let c0_2565 : Index := 0#32
  let c2528 : Index := 2528#32
  let c0_2566 : Index := 0#32
  ![v5838.toNat, 0, 2528, 0]
def k0_off186 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5873 : Index := Scalar.indexCast v89
  let c1_2578 : Index := 1#32
  let c2432_2579 : Index := 2432#32
  let c0_2580 : Index := 0#32
  ![v5873.toNat, 1, 2432, 0]
def k0_off187 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5907 : Index := Scalar.indexCast v89
  let c1_2593 : Index := 1#32
  let c2464_2594 : Index := 2464#32
  let c0_2595 : Index := 0#32
  ![v5907.toNat, 1, 2464, 0]
def k0_off188 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5941 : Index := Scalar.indexCast v89
  let c1_2608 : Index := 1#32
  let c2496_2609 : Index := 2496#32
  let c0_2610 : Index := 0#32
  ![v5941.toNat, 1, 2496, 0]
def k0_off189 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v5975 : Index := Scalar.indexCast v89
  let c1_2623 : Index := 1#32
  let c2528_2624 : Index := 2528#32
  let c0_2625 : Index := 0#32
  ![v5975.toNat, 1, 2528, 0]
def k0_off190 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6015 : Index := Scalar.indexCast v89
  let c0_2640 : Index := 0#32
  let c160_2641 : Index := 160#32
  let c0_2642 : Index := 0#32
  ![v6015.toNat, 0, 160, 0]
def k0_off191 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6030 : Index := Scalar.indexCast v89
  let c1_2651 : Index := 1#32
  let c160_2652 : Index := 160#32
  let c0_2653 : Index := 0#32
  ![v6030.toNat, 1, 160, 0]
def k0_off192 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6045 : Index := Scalar.indexCast v89
  let c0_2662 : Index := 0#32
  let c2560_2663 : Index := 2560#32
  let c0_2664 : Index := 0#32
  ![v6045.toNat, 0, 2560, 0]
def k0_off193 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6079 : Index := Scalar.indexCast v89
  let c0_2677 : Index := 0#32
  let c2592 : Index := 2592#32
  let c0_2678 : Index := 0#32
  ![v6079.toNat, 0, 2592, 0]
def k0_off194 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6113 : Index := Scalar.indexCast v89
  let c0_2690 : Index := 0#32
  let c2624 : Index := 2624#32
  let c0_2691 : Index := 0#32
  ![v6113.toNat, 0, 2624, 0]
def k0_off195 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6147 : Index := Scalar.indexCast v89
  let c0_2703 : Index := 0#32
  let c2656 : Index := 2656#32
  let c0_2704 : Index := 0#32
  ![v6147.toNat, 0, 2656, 0]
def k0_off196 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6182 : Index := Scalar.indexCast v89
  let c1_2716 : Index := 1#32
  let c2560_2717 : Index := 2560#32
  let c0_2718 : Index := 0#32
  ![v6182.toNat, 1, 2560, 0]
def k0_off197 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6216 : Index := Scalar.indexCast v89
  let c1_2731 : Index := 1#32
  let c2592_2732 : Index := 2592#32
  let c0_2733 : Index := 0#32
  ![v6216.toNat, 1, 2592, 0]
def k0_off198 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6250 : Index := Scalar.indexCast v89
  let c1_2746 : Index := 1#32
  let c2624_2747 : Index := 2624#32
  let c0_2748 : Index := 0#32
  ![v6250.toNat, 1, 2624, 0]
def k0_off199 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6284 : Index := Scalar.indexCast v89
  let c1_2761 : Index := 1#32
  let c2656_2762 : Index := 2656#32
  let c0_2763 : Index := 0#32
  ![v6284.toNat, 1, 2656, 0]
def k0_off200 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6324 : Index := Scalar.indexCast v89
  let c0_2778 : Index := 0#32
  let c2688 : Index := 2688#32
  let c0_2779 : Index := 0#32
  ![v6324.toNat, 0, 2688, 0]
def k0_off201 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6358 : Index := Scalar.indexCast v89
  let c0_2791 : Index := 0#32
  let c2720 : Index := 2720#32
  let c0_2792 : Index := 0#32
  ![v6358.toNat, 0, 2720, 0]
def k0_off202 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6392 : Index := Scalar.indexCast v89
  let c0_2804 : Index := 0#32
  let c2752 : Index := 2752#32
  let c0_2805 : Index := 0#32
  ![v6392.toNat, 0, 2752, 0]
def k0_off203 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6426 : Index := Scalar.indexCast v89
  let c0_2817 : Index := 0#32
  let c2784 : Index := 2784#32
  let c0_2818 : Index := 0#32
  ![v6426.toNat, 0, 2784, 0]
def k0_off204 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6461 : Index := Scalar.indexCast v89
  let c1_2830 : Index := 1#32
  let c2688_2831 : Index := 2688#32
  let c0_2832 : Index := 0#32
  ![v6461.toNat, 1, 2688, 0]
def k0_off205 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6495 : Index := Scalar.indexCast v89
  let c1_2845 : Index := 1#32
  let c2720_2846 : Index := 2720#32
  let c0_2847 : Index := 0#32
  ![v6495.toNat, 1, 2720, 0]
def k0_off206 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6529 : Index := Scalar.indexCast v89
  let c1_2860 : Index := 1#32
  let c2752_2861 : Index := 2752#32
  let c0_2862 : Index := 0#32
  ![v6529.toNat, 1, 2752, 0]
def k0_off207 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6563 : Index := Scalar.indexCast v89
  let c1_2875 : Index := 1#32
  let c2784_2876 : Index := 2784#32
  let c0_2877 : Index := 0#32
  ![v6563.toNat, 1, 2784, 0]
def k0_off208 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6603 : Index := Scalar.indexCast v89
  let c0_2892 : Index := 0#32
  let c176 : Index := 176#32
  let c0_2893 : Index := 0#32
  ![v6603.toNat, 0, 176, 0]
def k0_off209 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6618 : Index := Scalar.indexCast v89
  let c1_2901 : Index := 1#32
  let c176_2902 : Index := 176#32
  let c0_2903 : Index := 0#32
  ![v6618.toNat, 1, 176, 0]
def k0_off210 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6633 : Index := Scalar.indexCast v89
  let c0_2912 : Index := 0#32
  let c2816_2913 : Index := 2816#32
  let c0_2914 : Index := 0#32
  ![v6633.toNat, 0, 2816, 0]
def k0_off211 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6667 : Index := Scalar.indexCast v89
  let c0_2927 : Index := 0#32
  let c2848 : Index := 2848#32
  let c0_2928 : Index := 0#32
  ![v6667.toNat, 0, 2848, 0]
def k0_off212 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6701 : Index := Scalar.indexCast v89
  let c0_2940 : Index := 0#32
  let c2880 : Index := 2880#32
  let c0_2941 : Index := 0#32
  ![v6701.toNat, 0, 2880, 0]
def k0_off213 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6735 : Index := Scalar.indexCast v89
  let c0_2953 : Index := 0#32
  let c2912 : Index := 2912#32
  let c0_2954 : Index := 0#32
  ![v6735.toNat, 0, 2912, 0]
def k0_off214 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6770 : Index := Scalar.indexCast v89
  let c1_2966 : Index := 1#32
  let c2816_2967 : Index := 2816#32
  let c0_2968 : Index := 0#32
  ![v6770.toNat, 1, 2816, 0]
def k0_off215 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6804 : Index := Scalar.indexCast v89
  let c1_2981 : Index := 1#32
  let c2848_2982 : Index := 2848#32
  let c0_2983 : Index := 0#32
  ![v6804.toNat, 1, 2848, 0]
def k0_off216 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6838 : Index := Scalar.indexCast v89
  let c1_2996 : Index := 1#32
  let c2880_2997 : Index := 2880#32
  let c0_2998 : Index := 0#32
  ![v6838.toNat, 1, 2880, 0]
def k0_off217 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6872 : Index := Scalar.indexCast v89
  let c1_3011 : Index := 1#32
  let c2912_3012 : Index := 2912#32
  let c0_3013 : Index := 0#32
  ![v6872.toNat, 1, 2912, 0]
def k0_off218 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6912 : Index := Scalar.indexCast v89
  let c0_3028 : Index := 0#32
  let c2944 : Index := 2944#32
  let c0_3029 : Index := 0#32
  ![v6912.toNat, 0, 2944, 0]
def k0_off219 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6946 : Index := Scalar.indexCast v89
  let c0_3041 : Index := 0#32
  let c2976 : Index := 2976#32
  let c0_3042 : Index := 0#32
  ![v6946.toNat, 0, 2976, 0]
def k0_off220 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v6980 : Index := Scalar.indexCast v89
  let c0_3054 : Index := 0#32
  let c3008 : Index := 3008#32
  let c0_3055 : Index := 0#32
  ![v6980.toNat, 0, 3008, 0]
def k0_off221 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7014 : Index := Scalar.indexCast v89
  let c0_3067 : Index := 0#32
  let c3040 : Index := 3040#32
  let c0_3068 : Index := 0#32
  ![v7014.toNat, 0, 3040, 0]
def k0_off222 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7049 : Index := Scalar.indexCast v89
  let c1_3080 : Index := 1#32
  let c2944_3081 : Index := 2944#32
  let c0_3082 : Index := 0#32
  ![v7049.toNat, 1, 2944, 0]
def k0_off223 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7083 : Index := Scalar.indexCast v89
  let c1_3095 : Index := 1#32
  let c2976_3096 : Index := 2976#32
  let c0_3097 : Index := 0#32
  ![v7083.toNat, 1, 2976, 0]
def k0_off224 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7117 : Index := Scalar.indexCast v89
  let c1_3110 : Index := 1#32
  let c3008_3111 : Index := 3008#32
  let c0_3112 : Index := 0#32
  ![v7117.toNat, 1, 3008, 0]
def k0_off225 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7151 : Index := Scalar.indexCast v89
  let c1_3125 : Index := 1#32
  let c3040_3126 : Index := 3040#32
  let c0_3127 : Index := 0#32
  ![v7151.toNat, 1, 3040, 0]
def k0_off226 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7191 : Index := Scalar.indexCast v89
  let c0_3142 : Index := 0#32
  let c192_3143 : Index := 192#32
  let c0_3144 : Index := 0#32
  ![v7191.toNat, 0, 192, 0]
def k0_off227 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7206 : Index := Scalar.indexCast v89
  let c1_3153 : Index := 1#32
  let c192_3154 : Index := 192#32
  let c0_3155 : Index := 0#32
  ![v7206.toNat, 1, 192, 0]
def k0_off228 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7221 : Index := Scalar.indexCast v89
  let c0_3164 : Index := 0#32
  let c3072_3165 : Index := 3072#32
  let c0_3166 : Index := 0#32
  ![v7221.toNat, 0, 3072, 0]
def k0_off229 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7255 : Index := Scalar.indexCast v89
  let c0_3179 : Index := 0#32
  let c3104 : Index := 3104#32
  let c0_3180 : Index := 0#32
  ![v7255.toNat, 0, 3104, 0]
def k0_off230 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7289 : Index := Scalar.indexCast v89
  let c0_3192 : Index := 0#32
  let c3136 : Index := 3136#32
  let c0_3193 : Index := 0#32
  ![v7289.toNat, 0, 3136, 0]
def k0_off231 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7323 : Index := Scalar.indexCast v89
  let c0_3205 : Index := 0#32
  let c3168 : Index := 3168#32
  let c0_3206 : Index := 0#32
  ![v7323.toNat, 0, 3168, 0]
def k0_off232 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7358 : Index := Scalar.indexCast v89
  let c1_3218 : Index := 1#32
  let c3072_3219 : Index := 3072#32
  let c0_3220 : Index := 0#32
  ![v7358.toNat, 1, 3072, 0]
def k0_off233 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7392 : Index := Scalar.indexCast v89
  let c1_3233 : Index := 1#32
  let c3104_3234 : Index := 3104#32
  let c0_3235 : Index := 0#32
  ![v7392.toNat, 1, 3104, 0]
def k0_off234 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7426 : Index := Scalar.indexCast v89
  let c1_3248 : Index := 1#32
  let c3136_3249 : Index := 3136#32
  let c0_3250 : Index := 0#32
  ![v7426.toNat, 1, 3136, 0]
def k0_off235 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7460 : Index := Scalar.indexCast v89
  let c1_3263 : Index := 1#32
  let c3168_3264 : Index := 3168#32
  let c0_3265 : Index := 0#32
  ![v7460.toNat, 1, 3168, 0]
def k0_off236 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7500 : Index := Scalar.indexCast v89
  let c0_3280 : Index := 0#32
  let c3200 : Index := 3200#32
  let c0_3281 : Index := 0#32
  ![v7500.toNat, 0, 3200, 0]
def k0_off237 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7534 : Index := Scalar.indexCast v89
  let c0_3293 : Index := 0#32
  let c3232 : Index := 3232#32
  let c0_3294 : Index := 0#32
  ![v7534.toNat, 0, 3232, 0]
def k0_off238 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7568 : Index := Scalar.indexCast v89
  let c0_3306 : Index := 0#32
  let c3264 : Index := 3264#32
  let c0_3307 : Index := 0#32
  ![v7568.toNat, 0, 3264, 0]
def k0_off239 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7602 : Index := Scalar.indexCast v89
  let c0_3319 : Index := 0#32
  let c3296 : Index := 3296#32
  let c0_3320 : Index := 0#32
  ![v7602.toNat, 0, 3296, 0]
def k0_off240 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7637 : Index := Scalar.indexCast v89
  let c1_3332 : Index := 1#32
  let c3200_3333 : Index := 3200#32
  let c0_3334 : Index := 0#32
  ![v7637.toNat, 1, 3200, 0]
def k0_off241 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7671 : Index := Scalar.indexCast v89
  let c1_3347 : Index := 1#32
  let c3232_3348 : Index := 3232#32
  let c0_3349 : Index := 0#32
  ![v7671.toNat, 1, 3232, 0]
def k0_off242 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7705 : Index := Scalar.indexCast v89
  let c1_3362 : Index := 1#32
  let c3264_3363 : Index := 3264#32
  let c0_3364 : Index := 0#32
  ![v7705.toNat, 1, 3264, 0]
def k0_off243 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7739 : Index := Scalar.indexCast v89
  let c1_3377 : Index := 1#32
  let c3296_3378 : Index := 3296#32
  let c0_3379 : Index := 0#32
  ![v7739.toNat, 1, 3296, 0]
def k0_off244 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7779 : Index := Scalar.indexCast v89
  let c0_3394 : Index := 0#32
  let c208 : Index := 208#32
  let c0_3395 : Index := 0#32
  ![v7779.toNat, 0, 208, 0]
def k0_off245 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7794 : Index := Scalar.indexCast v89
  let c1_3403 : Index := 1#32
  let c208_3404 : Index := 208#32
  let c0_3405 : Index := 0#32
  ![v7794.toNat, 1, 208, 0]
def k0_off246 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7809 : Index := Scalar.indexCast v89
  let c0_3414 : Index := 0#32
  let c3328_3415 : Index := 3328#32
  let c0_3416 : Index := 0#32
  ![v7809.toNat, 0, 3328, 0]
def k0_off247 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7843 : Index := Scalar.indexCast v89
  let c0_3429 : Index := 0#32
  let c3360 : Index := 3360#32
  let c0_3430 : Index := 0#32
  ![v7843.toNat, 0, 3360, 0]
def k0_off248 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7877 : Index := Scalar.indexCast v89
  let c0_3442 : Index := 0#32
  let c3392 : Index := 3392#32
  let c0_3443 : Index := 0#32
  ![v7877.toNat, 0, 3392, 0]
def k0_off249 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7911 : Index := Scalar.indexCast v89
  let c0_3455 : Index := 0#32
  let c3424 : Index := 3424#32
  let c0_3456 : Index := 0#32
  ![v7911.toNat, 0, 3424, 0]
def k0_off250 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7946 : Index := Scalar.indexCast v89
  let c1_3468 : Index := 1#32
  let c3328_3469 : Index := 3328#32
  let c0_3470 : Index := 0#32
  ![v7946.toNat, 1, 3328, 0]
def k0_off251 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v7980 : Index := Scalar.indexCast v89
  let c1_3483 : Index := 1#32
  let c3360_3484 : Index := 3360#32
  let c0_3485 : Index := 0#32
  ![v7980.toNat, 1, 3360, 0]
def k0_off252 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8014 : Index := Scalar.indexCast v89
  let c1_3498 : Index := 1#32
  let c3392_3499 : Index := 3392#32
  let c0_3500 : Index := 0#32
  ![v8014.toNat, 1, 3392, 0]
def k0_off253 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8048 : Index := Scalar.indexCast v89
  let c1_3513 : Index := 1#32
  let c3424_3514 : Index := 3424#32
  let c0_3515 : Index := 0#32
  ![v8048.toNat, 1, 3424, 0]
def k0_off254 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8088 : Index := Scalar.indexCast v89
  let c0_3530 : Index := 0#32
  let c3456 : Index := 3456#32
  let c0_3531 : Index := 0#32
  ![v8088.toNat, 0, 3456, 0]
def k0_off255 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8122 : Index := Scalar.indexCast v89
  let c0_3543 : Index := 0#32
  let c3488 : Index := 3488#32
  let c0_3544 : Index := 0#32
  ![v8122.toNat, 0, 3488, 0]
def k0_off256 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8156 : Index := Scalar.indexCast v89
  let c0_3556 : Index := 0#32
  let c3520 : Index := 3520#32
  let c0_3557 : Index := 0#32
  ![v8156.toNat, 0, 3520, 0]
def k0_off257 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8190 : Index := Scalar.indexCast v89
  let c0_3569 : Index := 0#32
  let c3552 : Index := 3552#32
  let c0_3570 : Index := 0#32
  ![v8190.toNat, 0, 3552, 0]
def k0_off258 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8225 : Index := Scalar.indexCast v89
  let c1_3582 : Index := 1#32
  let c3456_3583 : Index := 3456#32
  let c0_3584 : Index := 0#32
  ![v8225.toNat, 1, 3456, 0]
def k0_off259 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8259 : Index := Scalar.indexCast v89
  let c1_3597 : Index := 1#32
  let c3488_3598 : Index := 3488#32
  let c0_3599 : Index := 0#32
  ![v8259.toNat, 1, 3488, 0]
def k0_off260 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8293 : Index := Scalar.indexCast v89
  let c1_3612 : Index := 1#32
  let c3520_3613 : Index := 3520#32
  let c0_3614 : Index := 0#32
  ![v8293.toNat, 1, 3520, 0]
def k0_off261 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8327 : Index := Scalar.indexCast v89
  let c1_3627 : Index := 1#32
  let c3552_3628 : Index := 3552#32
  let c0_3629 : Index := 0#32
  ![v8327.toNat, 1, 3552, 0]
def k0_off262 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8367 : Index := Scalar.indexCast v89
  let c0_3644 : Index := 0#32
  let c224_3645 : Index := 224#32
  let c0_3646 : Index := 0#32
  ![v8367.toNat, 0, 224, 0]
def k0_off263 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8382 : Index := Scalar.indexCast v89
  let c1_3655 : Index := 1#32
  let c224_3656 : Index := 224#32
  let c0_3657 : Index := 0#32
  ![v8382.toNat, 1, 224, 0]
def k0_off264 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8397 : Index := Scalar.indexCast v89
  let c0_3666 : Index := 0#32
  let c3584_3667 : Index := 3584#32
  let c0_3668 : Index := 0#32
  ![v8397.toNat, 0, 3584, 0]
def k0_off265 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8431 : Index := Scalar.indexCast v89
  let c0_3681 : Index := 0#32
  let c3616 : Index := 3616#32
  let c0_3682 : Index := 0#32
  ![v8431.toNat, 0, 3616, 0]
def k0_off266 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8465 : Index := Scalar.indexCast v89
  let c0_3694 : Index := 0#32
  let c3648 : Index := 3648#32
  let c0_3695 : Index := 0#32
  ![v8465.toNat, 0, 3648, 0]
def k0_off267 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8499 : Index := Scalar.indexCast v89
  let c0_3707 : Index := 0#32
  let c3680 : Index := 3680#32
  let c0_3708 : Index := 0#32
  ![v8499.toNat, 0, 3680, 0]
def k0_off268 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8534 : Index := Scalar.indexCast v89
  let c1_3720 : Index := 1#32
  let c3584_3721 : Index := 3584#32
  let c0_3722 : Index := 0#32
  ![v8534.toNat, 1, 3584, 0]
def k0_off269 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8568 : Index := Scalar.indexCast v89
  let c1_3735 : Index := 1#32
  let c3616_3736 : Index := 3616#32
  let c0_3737 : Index := 0#32
  ![v8568.toNat, 1, 3616, 0]
def k0_off270 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8602 : Index := Scalar.indexCast v89
  let c1_3750 : Index := 1#32
  let c3648_3751 : Index := 3648#32
  let c0_3752 : Index := 0#32
  ![v8602.toNat, 1, 3648, 0]
def k0_off271 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8636 : Index := Scalar.indexCast v89
  let c1_3765 : Index := 1#32
  let c3680_3766 : Index := 3680#32
  let c0_3767 : Index := 0#32
  ![v8636.toNat, 1, 3680, 0]
def k0_off272 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8676 : Index := Scalar.indexCast v89
  let c0_3782 : Index := 0#32
  let c3712 : Index := 3712#32
  let c0_3783 : Index := 0#32
  ![v8676.toNat, 0, 3712, 0]
def k0_off273 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8710 : Index := Scalar.indexCast v89
  let c0_3795 : Index := 0#32
  let c3744 : Index := 3744#32
  let c0_3796 : Index := 0#32
  ![v8710.toNat, 0, 3744, 0]
def k0_off274 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8744 : Index := Scalar.indexCast v89
  let c0_3808 : Index := 0#32
  let c3776 : Index := 3776#32
  let c0_3809 : Index := 0#32
  ![v8744.toNat, 0, 3776, 0]
def k0_off275 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8778 : Index := Scalar.indexCast v89
  let c0_3821 : Index := 0#32
  let c3808 : Index := 3808#32
  let c0_3822 : Index := 0#32
  ![v8778.toNat, 0, 3808, 0]
def k0_off276 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8813 : Index := Scalar.indexCast v89
  let c1_3834 : Index := 1#32
  let c3712_3835 : Index := 3712#32
  let c0_3836 : Index := 0#32
  ![v8813.toNat, 1, 3712, 0]
def k0_off277 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8847 : Index := Scalar.indexCast v89
  let c1_3849 : Index := 1#32
  let c3744_3850 : Index := 3744#32
  let c0_3851 : Index := 0#32
  ![v8847.toNat, 1, 3744, 0]
def k0_off278 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8881 : Index := Scalar.indexCast v89
  let c1_3864 : Index := 1#32
  let c3776_3865 : Index := 3776#32
  let c0_3866 : Index := 0#32
  ![v8881.toNat, 1, 3776, 0]
def k0_off279 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8915 : Index := Scalar.indexCast v89
  let c1_3879 : Index := 1#32
  let c3808_3880 : Index := 3808#32
  let c0_3881 : Index := 0#32
  ![v8915.toNat, 1, 3808, 0]
def k0_off280 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8955 : Index := Scalar.indexCast v89
  let c0_3896 : Index := 0#32
  let c240 : Index := 240#32
  let c0_3897 : Index := 0#32
  ![v8955.toNat, 0, 240, 0]
def k0_off281 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8970 : Index := Scalar.indexCast v89
  let c1_3905 : Index := 1#32
  let c240_3906 : Index := 240#32
  let c0_3907 : Index := 0#32
  ![v8970.toNat, 1, 240, 0]
def k0_off282 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v8985 : Index := Scalar.indexCast v89
  let c0_3916 : Index := 0#32
  let c3840_3917 : Index := 3840#32
  let c0_3918 : Index := 0#32
  ![v8985.toNat, 0, 3840, 0]
def k0_off283 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9019 : Index := Scalar.indexCast v89
  let c0_3931 : Index := 0#32
  let c3872 : Index := 3872#32
  let c0_3932 : Index := 0#32
  ![v9019.toNat, 0, 3872, 0]
def k0_off284 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9053 : Index := Scalar.indexCast v89
  let c0_3944 : Index := 0#32
  let c3904 : Index := 3904#32
  let c0_3945 : Index := 0#32
  ![v9053.toNat, 0, 3904, 0]
def k0_off285 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9087 : Index := Scalar.indexCast v89
  let c0_3957 : Index := 0#32
  let c3936 : Index := 3936#32
  let c0_3958 : Index := 0#32
  ![v9087.toNat, 0, 3936, 0]
def k0_off286 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9122 : Index := Scalar.indexCast v89
  let c1_3970 : Index := 1#32
  let c3840_3971 : Index := 3840#32
  let c0_3972 : Index := 0#32
  ![v9122.toNat, 1, 3840, 0]
def k0_off287 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9156 : Index := Scalar.indexCast v89
  let c1_3985 : Index := 1#32
  let c3872_3986 : Index := 3872#32
  let c0_3987 : Index := 0#32
  ![v9156.toNat, 1, 3872, 0]
def k0_off288 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9190 : Index := Scalar.indexCast v89
  let c1_4000 : Index := 1#32
  let c3904_4001 : Index := 3904#32
  let c0_4002 : Index := 0#32
  ![v9190.toNat, 1, 3904, 0]
def k0_off289 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9224 : Index := Scalar.indexCast v89
  let c1_4015 : Index := 1#32
  let c3936_4016 : Index := 3936#32
  let c0_4017 : Index := 0#32
  ![v9224.toNat, 1, 3936, 0]
def k0_off290 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9264 : Index := Scalar.indexCast v89
  let c0_4032 : Index := 0#32
  let c3968 : Index := 3968#32
  let c0_4033 : Index := 0#32
  ![v9264.toNat, 0, 3968, 0]
def k0_off291 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9298 : Index := Scalar.indexCast v89
  let c0_4045 : Index := 0#32
  let c4000 : Index := 4000#32
  let c0_4046 : Index := 0#32
  ![v9298.toNat, 0, 4000, 0]
def k0_off292 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9332 : Index := Scalar.indexCast v89
  let c0_4058 : Index := 0#32
  let c4032 : Index := 4032#32
  let c0_4059 : Index := 0#32
  ![v9332.toNat, 0, 4032, 0]
def k0_off293 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9366 : Index := Scalar.indexCast v89
  let c0_4071 : Index := 0#32
  let c4064 : Index := 4064#32
  let c0_4072 : Index := 0#32
  ![v9366.toNat, 0, 4064, 0]
def k0_off294 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9401 : Index := Scalar.indexCast v89
  let c1_4084 : Index := 1#32
  let c3968_4085 : Index := 3968#32
  let c0_4086 : Index := 0#32
  ![v9401.toNat, 1, 3968, 0]
def k0_off295 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9435 : Index := Scalar.indexCast v89
  let c1_4099 : Index := 1#32
  let c4000_4100 : Index := 4000#32
  let c0_4101 : Index := 0#32
  ![v9435.toNat, 1, 4000, 0]
def k0_off296 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9469 : Index := Scalar.indexCast v89
  let c1_4114 : Index := 1#32
  let c4032_4115 : Index := 4032#32
  let c0_4116 : Index := 0#32
  ![v9469.toNat, 1, 4032, 0]
def k0_off297 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9503 : Index := Scalar.indexCast v89
  let c1_4129 : Index := 1#32
  let c4064_4130 : Index := 4064#32
  let c0_4131 : Index := 0#32
  ![v9503.toNat, 1, 4064, 0]
def k0_off298 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9543 : Index := Scalar.indexCast v89
  let c0_4146 : Index := 0#32
  let c256_4147 : Index := 256#32
  let c0_4148 : Index := 0#32
  ![v9543.toNat, 0, 256, 0]
def k0_off299 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9558 : Index := Scalar.indexCast v89
  let c1_4157 : Index := 1#32
  let c256_4158 : Index := 256#32
  let c0_4159 : Index := 0#32
  ![v9558.toNat, 1, 256, 0]
def k0_off300 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9573 : Index := Scalar.indexCast v89
  let c0_4168 : Index := 0#32
  let c4096_4169 : Index := 4096#32
  let c0_4170 : Index := 0#32
  ![v9573.toNat, 0, 4096, 0]
def k0_off301 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9607 : Index := Scalar.indexCast v89
  let c0_4183 : Index := 0#32
  let c4128 : Index := 4128#32
  let c0_4184 : Index := 0#32
  ![v9607.toNat, 0, 4128, 0]
def k0_off302 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9641 : Index := Scalar.indexCast v89
  let c0_4196 : Index := 0#32
  let c4160 : Index := 4160#32
  let c0_4197 : Index := 0#32
  ![v9641.toNat, 0, 4160, 0]
def k0_off303 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9675 : Index := Scalar.indexCast v89
  let c0_4209 : Index := 0#32
  let c4192 : Index := 4192#32
  let c0_4210 : Index := 0#32
  ![v9675.toNat, 0, 4192, 0]
def k0_off304 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9710 : Index := Scalar.indexCast v89
  let c1_4222 : Index := 1#32
  let c4096_4223 : Index := 4096#32
  let c0_4224 : Index := 0#32
  ![v9710.toNat, 1, 4096, 0]
def k0_off305 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9744 : Index := Scalar.indexCast v89
  let c1_4237 : Index := 1#32
  let c4128_4238 : Index := 4128#32
  let c0_4239 : Index := 0#32
  ![v9744.toNat, 1, 4128, 0]
def k0_off306 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9778 : Index := Scalar.indexCast v89
  let c1_4252 : Index := 1#32
  let c4160_4253 : Index := 4160#32
  let c0_4254 : Index := 0#32
  ![v9778.toNat, 1, 4160, 0]
def k0_off307 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9812 : Index := Scalar.indexCast v89
  let c1_4267 : Index := 1#32
  let c4192_4268 : Index := 4192#32
  let c0_4269 : Index := 0#32
  ![v9812.toNat, 1, 4192, 0]
def k0_off308 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9852 : Index := Scalar.indexCast v89
  let c0_4284 : Index := 0#32
  let c4224 : Index := 4224#32
  let c0_4285 : Index := 0#32
  ![v9852.toNat, 0, 4224, 0]
def k0_off309 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9886 : Index := Scalar.indexCast v89
  let c0_4297 : Index := 0#32
  let c4256 : Index := 4256#32
  let c0_4298 : Index := 0#32
  ![v9886.toNat, 0, 4256, 0]
def k0_off310 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9920 : Index := Scalar.indexCast v89
  let c0_4310 : Index := 0#32
  let c4288 : Index := 4288#32
  let c0_4311 : Index := 0#32
  ![v9920.toNat, 0, 4288, 0]
def k0_off311 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9954 : Index := Scalar.indexCast v89
  let c0_4323 : Index := 0#32
  let c4320 : Index := 4320#32
  let c0_4324 : Index := 0#32
  ![v9954.toNat, 0, 4320, 0]
def k0_off312 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v9989 : Index := Scalar.indexCast v89
  let c1_4336 : Index := 1#32
  let c4224_4337 : Index := 4224#32
  let c0_4338 : Index := 0#32
  ![v9989.toNat, 1, 4224, 0]
def k0_off313 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10023 : Index := Scalar.indexCast v89
  let c1_4351 : Index := 1#32
  let c4256_4352 : Index := 4256#32
  let c0_4353 : Index := 0#32
  ![v10023.toNat, 1, 4256, 0]
def k0_off314 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10057 : Index := Scalar.indexCast v89
  let c1_4366 : Index := 1#32
  let c4288_4367 : Index := 4288#32
  let c0_4368 : Index := 0#32
  ![v10057.toNat, 1, 4288, 0]
def k0_off315 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10091 : Index := Scalar.indexCast v89
  let c1_4381 : Index := 1#32
  let c4320_4382 : Index := 4320#32
  let c0_4383 : Index := 0#32
  ![v10091.toNat, 1, 4320, 0]
def k0_off316 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10131 : Index := Scalar.indexCast v89
  let c0_4398 : Index := 0#32
  let c272 : Index := 272#32
  let c0_4399 : Index := 0#32
  ![v10131.toNat, 0, 272, 0]
def k0_off317 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10146 : Index := Scalar.indexCast v89
  let c1_4407 : Index := 1#32
  let c272_4408 : Index := 272#32
  let c0_4409 : Index := 0#32
  ![v10146.toNat, 1, 272, 0]
def k0_off318 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10161 : Index := Scalar.indexCast v89
  let c0_4418 : Index := 0#32
  let c4352_4419 : Index := 4352#32
  let c0_4420 : Index := 0#32
  ![v10161.toNat, 0, 4352, 0]
def k0_off319 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10195 : Index := Scalar.indexCast v89
  let c0_4433 : Index := 0#32
  let c4384 : Index := 4384#32
  let c0_4434 : Index := 0#32
  ![v10195.toNat, 0, 4384, 0]
def k0_off320 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10229 : Index := Scalar.indexCast v89
  let c0_4446 : Index := 0#32
  let c4416 : Index := 4416#32
  let c0_4447 : Index := 0#32
  ![v10229.toNat, 0, 4416, 0]
def k0_off321 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10263 : Index := Scalar.indexCast v89
  let c0_4459 : Index := 0#32
  let c4448 : Index := 4448#32
  let c0_4460 : Index := 0#32
  ![v10263.toNat, 0, 4448, 0]
def k0_off322 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10298 : Index := Scalar.indexCast v89
  let c1_4472 : Index := 1#32
  let c4352_4473 : Index := 4352#32
  let c0_4474 : Index := 0#32
  ![v10298.toNat, 1, 4352, 0]
def k0_off323 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10332 : Index := Scalar.indexCast v89
  let c1_4487 : Index := 1#32
  let c4384_4488 : Index := 4384#32
  let c0_4489 : Index := 0#32
  ![v10332.toNat, 1, 4384, 0]
def k0_off324 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10366 : Index := Scalar.indexCast v89
  let c1_4502 : Index := 1#32
  let c4416_4503 : Index := 4416#32
  let c0_4504 : Index := 0#32
  ![v10366.toNat, 1, 4416, 0]
def k0_off325 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10400 : Index := Scalar.indexCast v89
  let c1_4517 : Index := 1#32
  let c4448_4518 : Index := 4448#32
  let c0_4519 : Index := 0#32
  ![v10400.toNat, 1, 4448, 0]
def k0_off326 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10440 : Index := Scalar.indexCast v89
  let c0_4534 : Index := 0#32
  let c4480 : Index := 4480#32
  let c0_4535 : Index := 0#32
  ![v10440.toNat, 0, 4480, 0]
def k0_off327 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10474 : Index := Scalar.indexCast v89
  let c0_4547 : Index := 0#32
  let c4512 : Index := 4512#32
  let c0_4548 : Index := 0#32
  ![v10474.toNat, 0, 4512, 0]
def k0_off328 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10508 : Index := Scalar.indexCast v89
  let c0_4560 : Index := 0#32
  let c4544 : Index := 4544#32
  let c0_4561 : Index := 0#32
  ![v10508.toNat, 0, 4544, 0]
def k0_off329 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10542 : Index := Scalar.indexCast v89
  let c0_4573 : Index := 0#32
  let c4576 : Index := 4576#32
  let c0_4574 : Index := 0#32
  ![v10542.toNat, 0, 4576, 0]
def k0_off330 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10577 : Index := Scalar.indexCast v89
  let c1_4586 : Index := 1#32
  let c4480_4587 : Index := 4480#32
  let c0_4588 : Index := 0#32
  ![v10577.toNat, 1, 4480, 0]
def k0_off331 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10611 : Index := Scalar.indexCast v89
  let c1_4601 : Index := 1#32
  let c4512_4602 : Index := 4512#32
  let c0_4603 : Index := 0#32
  ![v10611.toNat, 1, 4512, 0]
def k0_off332 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10645 : Index := Scalar.indexCast v89
  let c1_4616 : Index := 1#32
  let c4544_4617 : Index := 4544#32
  let c0_4618 : Index := 0#32
  ![v10645.toNat, 1, 4544, 0]
def k0_off333 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10679 : Index := Scalar.indexCast v89
  let c1_4631 : Index := 1#32
  let c4576_4632 : Index := 4576#32
  let c0_4633 : Index := 0#32
  ![v10679.toNat, 1, 4576, 0]
def k0_off334 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10719 : Index := Scalar.indexCast v89
  let c0_4648 : Index := 0#32
  let c288_4649 : Index := 288#32
  let c0_4650 : Index := 0#32
  ![v10719.toNat, 0, 288, 0]
def k0_off335 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10734 : Index := Scalar.indexCast v89
  let c1_4659 : Index := 1#32
  let c288_4660 : Index := 288#32
  let c0_4661 : Index := 0#32
  ![v10734.toNat, 1, 288, 0]
def k0_off336 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10749 : Index := Scalar.indexCast v89
  let c0_4670 : Index := 0#32
  let c4608_4671 : Index := 4608#32
  let c0_4672 : Index := 0#32
  ![v10749.toNat, 0, 4608, 0]
def k0_off337 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10783 : Index := Scalar.indexCast v89
  let c0_4685 : Index := 0#32
  let c4640 : Index := 4640#32
  let c0_4686 : Index := 0#32
  ![v10783.toNat, 0, 4640, 0]
def k0_off338 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10817 : Index := Scalar.indexCast v89
  let c0_4698 : Index := 0#32
  let c4672 : Index := 4672#32
  let c0_4699 : Index := 0#32
  ![v10817.toNat, 0, 4672, 0]
def k0_off339 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10851 : Index := Scalar.indexCast v89
  let c0_4711 : Index := 0#32
  let c4704 : Index := 4704#32
  let c0_4712 : Index := 0#32
  ![v10851.toNat, 0, 4704, 0]
def k0_off340 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10886 : Index := Scalar.indexCast v89
  let c1_4724 : Index := 1#32
  let c4608_4725 : Index := 4608#32
  let c0_4726 : Index := 0#32
  ![v10886.toNat, 1, 4608, 0]
def k0_off341 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10920 : Index := Scalar.indexCast v89
  let c1_4739 : Index := 1#32
  let c4640_4740 : Index := 4640#32
  let c0_4741 : Index := 0#32
  ![v10920.toNat, 1, 4640, 0]
def k0_off342 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10954 : Index := Scalar.indexCast v89
  let c1_4754 : Index := 1#32
  let c4672_4755 : Index := 4672#32
  let c0_4756 : Index := 0#32
  ![v10954.toNat, 1, 4672, 0]
def k0_off343 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v10988 : Index := Scalar.indexCast v89
  let c1_4769 : Index := 1#32
  let c4704_4770 : Index := 4704#32
  let c0_4771 : Index := 0#32
  ![v10988.toNat, 1, 4704, 0]
def k0_off344 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11028 : Index := Scalar.indexCast v89
  let c0_4786 : Index := 0#32
  let c4736 : Index := 4736#32
  let c0_4787 : Index := 0#32
  ![v11028.toNat, 0, 4736, 0]
def k0_off345 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11062 : Index := Scalar.indexCast v89
  let c0_4799 : Index := 0#32
  let c4768 : Index := 4768#32
  let c0_4800 : Index := 0#32
  ![v11062.toNat, 0, 4768, 0]
def k0_off346 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11096 : Index := Scalar.indexCast v89
  let c0_4812 : Index := 0#32
  let c4800 : Index := 4800#32
  let c0_4813 : Index := 0#32
  ![v11096.toNat, 0, 4800, 0]
def k0_off347 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11130 : Index := Scalar.indexCast v89
  let c0_4825 : Index := 0#32
  let c4832 : Index := 4832#32
  let c0_4826 : Index := 0#32
  ![v11130.toNat, 0, 4832, 0]
def k0_off348 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11165 : Index := Scalar.indexCast v89
  let c1_4838 : Index := 1#32
  let c4736_4839 : Index := 4736#32
  let c0_4840 : Index := 0#32
  ![v11165.toNat, 1, 4736, 0]
def k0_off349 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11199 : Index := Scalar.indexCast v89
  let c1_4853 : Index := 1#32
  let c4768_4854 : Index := 4768#32
  let c0_4855 : Index := 0#32
  ![v11199.toNat, 1, 4768, 0]
def k0_off350 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11233 : Index := Scalar.indexCast v89
  let c1_4868 : Index := 1#32
  let c4800_4869 : Index := 4800#32
  let c0_4870 : Index := 0#32
  ![v11233.toNat, 1, 4800, 0]
def k0_off351 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11267 : Index := Scalar.indexCast v89
  let c1_4883 : Index := 1#32
  let c4832_4884 : Index := 4832#32
  let c0_4885 : Index := 0#32
  ![v11267.toNat, 1, 4832, 0]
def k0_off352 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11307 : Index := Scalar.indexCast v89
  let c0_4900 : Index := 0#32
  let c304 : Index := 304#32
  let c0_4901 : Index := 0#32
  ![v11307.toNat, 0, 304, 0]
def k0_off353 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11322 : Index := Scalar.indexCast v89
  let c1_4909 : Index := 1#32
  let c304_4910 : Index := 304#32
  let c0_4911 : Index := 0#32
  ![v11322.toNat, 1, 304, 0]
def k0_off354 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11337 : Index := Scalar.indexCast v89
  let c0_4920 : Index := 0#32
  let c4864_4921 : Index := 4864#32
  let c0_4922 : Index := 0#32
  ![v11337.toNat, 0, 4864, 0]
def k0_off355 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11371 : Index := Scalar.indexCast v89
  let c0_4935 : Index := 0#32
  let c4896 : Index := 4896#32
  let c0_4936 : Index := 0#32
  ![v11371.toNat, 0, 4896, 0]
def k0_off356 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11405 : Index := Scalar.indexCast v89
  let c0_4948 : Index := 0#32
  let c4928 : Index := 4928#32
  let c0_4949 : Index := 0#32
  ![v11405.toNat, 0, 4928, 0]
def k0_off357 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11439 : Index := Scalar.indexCast v89
  let c0_4961 : Index := 0#32
  let c4960 : Index := 4960#32
  let c0_4962 : Index := 0#32
  ![v11439.toNat, 0, 4960, 0]
def k0_off358 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11474 : Index := Scalar.indexCast v89
  let c1_4974 : Index := 1#32
  let c4864_4975 : Index := 4864#32
  let c0_4976 : Index := 0#32
  ![v11474.toNat, 1, 4864, 0]
def k0_off359 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11508 : Index := Scalar.indexCast v89
  let c1_4989 : Index := 1#32
  let c4896_4990 : Index := 4896#32
  let c0_4991 : Index := 0#32
  ![v11508.toNat, 1, 4896, 0]
def k0_off360 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11542 : Index := Scalar.indexCast v89
  let c1_5004 : Index := 1#32
  let c4928_5005 : Index := 4928#32
  let c0_5006 : Index := 0#32
  ![v11542.toNat, 1, 4928, 0]
def k0_off361 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11576 : Index := Scalar.indexCast v89
  let c1_5019 : Index := 1#32
  let c4960_5020 : Index := 4960#32
  let c0_5021 : Index := 0#32
  ![v11576.toNat, 1, 4960, 0]
def k0_off362 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11616 : Index := Scalar.indexCast v89
  let c0_5036 : Index := 0#32
  let c4992 : Index := 4992#32
  let c0_5037 : Index := 0#32
  ![v11616.toNat, 0, 4992, 0]
def k0_off363 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11650 : Index := Scalar.indexCast v89
  let c0_5049 : Index := 0#32
  let c5024 : Index := 5024#32
  let c0_5050 : Index := 0#32
  ![v11650.toNat, 0, 5024, 0]
def k0_off364 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11684 : Index := Scalar.indexCast v89
  let c0_5062 : Index := 0#32
  let c5056 : Index := 5056#32
  let c0_5063 : Index := 0#32
  ![v11684.toNat, 0, 5056, 0]
def k0_off365 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11718 : Index := Scalar.indexCast v89
  let c0_5075 : Index := 0#32
  let c5088 : Index := 5088#32
  let c0_5076 : Index := 0#32
  ![v11718.toNat, 0, 5088, 0]
def k0_off366 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11753 : Index := Scalar.indexCast v89
  let c1_5088 : Index := 1#32
  let c4992_5089 : Index := 4992#32
  let c0_5090 : Index := 0#32
  ![v11753.toNat, 1, 4992, 0]
def k0_off367 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11787 : Index := Scalar.indexCast v89
  let c1_5103 : Index := 1#32
  let c5024_5104 : Index := 5024#32
  let c0_5105 : Index := 0#32
  ![v11787.toNat, 1, 5024, 0]
def k0_off368 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11821 : Index := Scalar.indexCast v89
  let c1_5118 : Index := 1#32
  let c5056_5119 : Index := 5056#32
  let c0_5120 : Index := 0#32
  ![v11821.toNat, 1, 5056, 0]
def k0_off369 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11855 : Index := Scalar.indexCast v89
  let c1_5133 : Index := 1#32
  let c5088_5134 : Index := 5088#32
  let c0_5135 : Index := 0#32
  ![v11855.toNat, 1, 5088, 0]
def k0_off370 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11895 : Index := Scalar.indexCast v89
  let c0_5150 : Index := 0#32
  let c320_5151 : Index := 320#32
  let c0_5152 : Index := 0#32
  ![v11895.toNat, 0, 320, 0]
def k0_off371 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11910 : Index := Scalar.indexCast v89
  let c1_5161 : Index := 1#32
  let c320_5162 : Index := 320#32
  let c0_5163 : Index := 0#32
  ![v11910.toNat, 1, 320, 0]
def k0_off372 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11925 : Index := Scalar.indexCast v89
  let c0_5172 : Index := 0#32
  let c5120_5173 : Index := 5120#32
  let c0_5174 : Index := 0#32
  ![v11925.toNat, 0, 5120, 0]
def k0_off373 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11959 : Index := Scalar.indexCast v89
  let c0_5187 : Index := 0#32
  let c5152 : Index := 5152#32
  let c0_5188 : Index := 0#32
  ![v11959.toNat, 0, 5152, 0]
def k0_off374 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v11993 : Index := Scalar.indexCast v89
  let c0_5200 : Index := 0#32
  let c5184 : Index := 5184#32
  let c0_5201 : Index := 0#32
  ![v11993.toNat, 0, 5184, 0]
def k0_off375 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12027 : Index := Scalar.indexCast v89
  let c0_5213 : Index := 0#32
  let c5216 : Index := 5216#32
  let c0_5214 : Index := 0#32
  ![v12027.toNat, 0, 5216, 0]
def k0_off376 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12062 : Index := Scalar.indexCast v89
  let c1_5226 : Index := 1#32
  let c5120_5227 : Index := 5120#32
  let c0_5228 : Index := 0#32
  ![v12062.toNat, 1, 5120, 0]
def k0_off377 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12096 : Index := Scalar.indexCast v89
  let c1_5241 : Index := 1#32
  let c5152_5242 : Index := 5152#32
  let c0_5243 : Index := 0#32
  ![v12096.toNat, 1, 5152, 0]
def k0_off378 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12130 : Index := Scalar.indexCast v89
  let c1_5256 : Index := 1#32
  let c5184_5257 : Index := 5184#32
  let c0_5258 : Index := 0#32
  ![v12130.toNat, 1, 5184, 0]
def k0_off379 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12164 : Index := Scalar.indexCast v89
  let c1_5271 : Index := 1#32
  let c5216_5272 : Index := 5216#32
  let c0_5273 : Index := 0#32
  ![v12164.toNat, 1, 5216, 0]
def k0_off380 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12204 : Index := Scalar.indexCast v89
  let c0_5288 : Index := 0#32
  let c5248 : Index := 5248#32
  let c0_5289 : Index := 0#32
  ![v12204.toNat, 0, 5248, 0]
def k0_off381 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12238 : Index := Scalar.indexCast v89
  let c0_5301 : Index := 0#32
  let c5280 : Index := 5280#32
  let c0_5302 : Index := 0#32
  ![v12238.toNat, 0, 5280, 0]
def k0_off382 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12272 : Index := Scalar.indexCast v89
  let c0_5314 : Index := 0#32
  let c5312 : Index := 5312#32
  let c0_5315 : Index := 0#32
  ![v12272.toNat, 0, 5312, 0]
def k0_off383 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12306 : Index := Scalar.indexCast v89
  let c0_5327 : Index := 0#32
  let c5344 : Index := 5344#32
  let c0_5328 : Index := 0#32
  ![v12306.toNat, 0, 5344, 0]
def k0_off384 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12341 : Index := Scalar.indexCast v89
  let c1_5340 : Index := 1#32
  let c5248_5341 : Index := 5248#32
  let c0_5342 : Index := 0#32
  ![v12341.toNat, 1, 5248, 0]
def k0_off385 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12375 : Index := Scalar.indexCast v89
  let c1_5355 : Index := 1#32
  let c5280_5356 : Index := 5280#32
  let c0_5357 : Index := 0#32
  ![v12375.toNat, 1, 5280, 0]
def k0_off386 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12409 : Index := Scalar.indexCast v89
  let c1_5370 : Index := 1#32
  let c5312_5371 : Index := 5312#32
  let c0_5372 : Index := 0#32
  ![v12409.toNat, 1, 5312, 0]
def k0_off387 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12443 : Index := Scalar.indexCast v89
  let c1_5385 : Index := 1#32
  let c5344_5386 : Index := 5344#32
  let c0_5387 : Index := 0#32
  ![v12443.toNat, 1, 5344, 0]
def k0_off388 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12483 : Index := Scalar.indexCast v89
  let c0_5402 : Index := 0#32
  let c336 : Index := 336#32
  let c0_5403 : Index := 0#32
  ![v12483.toNat, 0, 336, 0]
def k0_off389 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12498 : Index := Scalar.indexCast v89
  let c1_5411 : Index := 1#32
  let c336_5412 : Index := 336#32
  let c0_5413 : Index := 0#32
  ![v12498.toNat, 1, 336, 0]
def k0_off390 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12513 : Index := Scalar.indexCast v89
  let c0_5422 : Index := 0#32
  let c5376_5423 : Index := 5376#32
  let c0_5424 : Index := 0#32
  ![v12513.toNat, 0, 5376, 0]
def k0_off391 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12547 : Index := Scalar.indexCast v89
  let c0_5437 : Index := 0#32
  let c5408 : Index := 5408#32
  let c0_5438 : Index := 0#32
  ![v12547.toNat, 0, 5408, 0]
def k0_off392 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12581 : Index := Scalar.indexCast v89
  let c0_5450 : Index := 0#32
  let c5440 : Index := 5440#32
  let c0_5451 : Index := 0#32
  ![v12581.toNat, 0, 5440, 0]
def k0_off393 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12615 : Index := Scalar.indexCast v89
  let c0_5463 : Index := 0#32
  let c5472 : Index := 5472#32
  let c0_5464 : Index := 0#32
  ![v12615.toNat, 0, 5472, 0]
def k0_off394 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12650 : Index := Scalar.indexCast v89
  let c1_5476 : Index := 1#32
  let c5376_5477 : Index := 5376#32
  let c0_5478 : Index := 0#32
  ![v12650.toNat, 1, 5376, 0]
def k0_off395 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12684 : Index := Scalar.indexCast v89
  let c1_5491 : Index := 1#32
  let c5408_5492 : Index := 5408#32
  let c0_5493 : Index := 0#32
  ![v12684.toNat, 1, 5408, 0]
def k0_off396 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12718 : Index := Scalar.indexCast v89
  let c1_5506 : Index := 1#32
  let c5440_5507 : Index := 5440#32
  let c0_5508 : Index := 0#32
  ![v12718.toNat, 1, 5440, 0]
def k0_off397 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12752 : Index := Scalar.indexCast v89
  let c1_5521 : Index := 1#32
  let c5472_5522 : Index := 5472#32
  let c0_5523 : Index := 0#32
  ![v12752.toNat, 1, 5472, 0]
def k0_off398 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12792 : Index := Scalar.indexCast v89
  let c0_5538 : Index := 0#32
  let c5504 : Index := 5504#32
  let c0_5539 : Index := 0#32
  ![v12792.toNat, 0, 5504, 0]
def k0_off399 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12826 : Index := Scalar.indexCast v89
  let c0_5551 : Index := 0#32
  let c5536 : Index := 5536#32
  let c0_5552 : Index := 0#32
  ![v12826.toNat, 0, 5536, 0]
def k0_off400 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12860 : Index := Scalar.indexCast v89
  let c0_5564 : Index := 0#32
  let c5568 : Index := 5568#32
  let c0_5565 : Index := 0#32
  ![v12860.toNat, 0, 5568, 0]
def k0_off401 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12894 : Index := Scalar.indexCast v89
  let c0_5577 : Index := 0#32
  let c5600 : Index := 5600#32
  let c0_5578 : Index := 0#32
  ![v12894.toNat, 0, 5600, 0]
def k0_off402 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12929 : Index := Scalar.indexCast v89
  let c1_5590 : Index := 1#32
  let c5504_5591 : Index := 5504#32
  let c0_5592 : Index := 0#32
  ![v12929.toNat, 1, 5504, 0]
def k0_off403 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12963 : Index := Scalar.indexCast v89
  let c1_5605 : Index := 1#32
  let c5536_5606 : Index := 5536#32
  let c0_5607 : Index := 0#32
  ![v12963.toNat, 1, 5536, 0]
def k0_off404 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v12997 : Index := Scalar.indexCast v89
  let c1_5620 : Index := 1#32
  let c5568_5621 : Index := 5568#32
  let c0_5622 : Index := 0#32
  ![v12997.toNat, 1, 5568, 0]
def k0_off405 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13031 : Index := Scalar.indexCast v89
  let c1_5635 : Index := 1#32
  let c5600_5636 : Index := 5600#32
  let c0_5637 : Index := 0#32
  ![v13031.toNat, 1, 5600, 0]
def k0_off406 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13071 : Index := Scalar.indexCast v89
  let c0_5652 : Index := 0#32
  let c352_5653 : Index := 352#32
  let c0_5654 : Index := 0#32
  ![v13071.toNat, 0, 352, 0]
def k0_off407 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13086 : Index := Scalar.indexCast v89
  let c1_5663 : Index := 1#32
  let c352_5664 : Index := 352#32
  let c0_5665 : Index := 0#32
  ![v13086.toNat, 1, 352, 0]
def k0_off408 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13101 : Index := Scalar.indexCast v89
  let c0_5674 : Index := 0#32
  let c5632_5675 : Index := 5632#32
  let c0_5676 : Index := 0#32
  ![v13101.toNat, 0, 5632, 0]
def k0_off409 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13135 : Index := Scalar.indexCast v89
  let c0_5689 : Index := 0#32
  let c5664 : Index := 5664#32
  let c0_5690 : Index := 0#32
  ![v13135.toNat, 0, 5664, 0]
def k0_off410 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13169 : Index := Scalar.indexCast v89
  let c0_5702 : Index := 0#32
  let c5696 : Index := 5696#32
  let c0_5703 : Index := 0#32
  ![v13169.toNat, 0, 5696, 0]
def k0_off411 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13203 : Index := Scalar.indexCast v89
  let c0_5715 : Index := 0#32
  let c5728 : Index := 5728#32
  let c0_5716 : Index := 0#32
  ![v13203.toNat, 0, 5728, 0]
def k0_off412 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13238 : Index := Scalar.indexCast v89
  let c1_5728 : Index := 1#32
  let c5632_5729 : Index := 5632#32
  let c0_5730 : Index := 0#32
  ![v13238.toNat, 1, 5632, 0]
def k0_off413 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13272 : Index := Scalar.indexCast v89
  let c1_5743 : Index := 1#32
  let c5664_5744 : Index := 5664#32
  let c0_5745 : Index := 0#32
  ![v13272.toNat, 1, 5664, 0]
def k0_off414 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13306 : Index := Scalar.indexCast v89
  let c1_5758 : Index := 1#32
  let c5696_5759 : Index := 5696#32
  let c0_5760 : Index := 0#32
  ![v13306.toNat, 1, 5696, 0]
def k0_off415 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13340 : Index := Scalar.indexCast v89
  let c1_5773 : Index := 1#32
  let c5728_5774 : Index := 5728#32
  let c0_5775 : Index := 0#32
  ![v13340.toNat, 1, 5728, 0]
def k0_off416 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13380 : Index := Scalar.indexCast v89
  let c0_5790 : Index := 0#32
  let c5760 : Index := 5760#32
  let c0_5791 : Index := 0#32
  ![v13380.toNat, 0, 5760, 0]
def k0_off417 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13414 : Index := Scalar.indexCast v89
  let c0_5803 : Index := 0#32
  let c5792 : Index := 5792#32
  let c0_5804 : Index := 0#32
  ![v13414.toNat, 0, 5792, 0]
def k0_off418 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13448 : Index := Scalar.indexCast v89
  let c0_5816 : Index := 0#32
  let c5824 : Index := 5824#32
  let c0_5817 : Index := 0#32
  ![v13448.toNat, 0, 5824, 0]
def k0_off419 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13482 : Index := Scalar.indexCast v89
  let c0_5829 : Index := 0#32
  let c5856 : Index := 5856#32
  let c0_5830 : Index := 0#32
  ![v13482.toNat, 0, 5856, 0]
def k0_off420 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13517 : Index := Scalar.indexCast v89
  let c1_5842 : Index := 1#32
  let c5760_5843 : Index := 5760#32
  let c0_5844 : Index := 0#32
  ![v13517.toNat, 1, 5760, 0]
def k0_off421 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13551 : Index := Scalar.indexCast v89
  let c1_5857 : Index := 1#32
  let c5792_5858 : Index := 5792#32
  let c0_5859 : Index := 0#32
  ![v13551.toNat, 1, 5792, 0]
def k0_off422 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13585 : Index := Scalar.indexCast v89
  let c1_5872 : Index := 1#32
  let c5824_5873 : Index := 5824#32
  let c0_5874 : Index := 0#32
  ![v13585.toNat, 1, 5824, 0]
def k0_off423 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13619 : Index := Scalar.indexCast v89
  let c1_5887 : Index := 1#32
  let c5856_5888 : Index := 5856#32
  let c0_5889 : Index := 0#32
  ![v13619.toNat, 1, 5856, 0]
def k0_off424 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13659 : Index := Scalar.indexCast v89
  let c0_5904 : Index := 0#32
  let c368 : Index := 368#32
  let c0_5905 : Index := 0#32
  ![v13659.toNat, 0, 368, 0]
def k0_off425 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13674 : Index := Scalar.indexCast v89
  let c1_5913 : Index := 1#32
  let c368_5914 : Index := 368#32
  let c0_5915 : Index := 0#32
  ![v13674.toNat, 1, 368, 0]
def k0_off426 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13689 : Index := Scalar.indexCast v89
  let c0_5924 : Index := 0#32
  let c5888_5925 : Index := 5888#32
  let c0_5926 : Index := 0#32
  ![v13689.toNat, 0, 5888, 0]
def k0_off427 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13723 : Index := Scalar.indexCast v89
  let c0_5939 : Index := 0#32
  let c5920 : Index := 5920#32
  let c0_5940 : Index := 0#32
  ![v13723.toNat, 0, 5920, 0]
def k0_off428 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13757 : Index := Scalar.indexCast v89
  let c0_5952 : Index := 0#32
  let c5952 : Index := 5952#32
  let c0_5953 : Index := 0#32
  ![v13757.toNat, 0, 5952, 0]
def k0_off429 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13791 : Index := Scalar.indexCast v89
  let c0_5965 : Index := 0#32
  let c5984 : Index := 5984#32
  let c0_5966 : Index := 0#32
  ![v13791.toNat, 0, 5984, 0]
def k0_off430 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13826 : Index := Scalar.indexCast v89
  let c1_5978 : Index := 1#32
  let c5888_5979 : Index := 5888#32
  let c0_5980 : Index := 0#32
  ![v13826.toNat, 1, 5888, 0]
def k0_off431 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13860 : Index := Scalar.indexCast v89
  let c1_5993 : Index := 1#32
  let c5920_5994 : Index := 5920#32
  let c0_5995 : Index := 0#32
  ![v13860.toNat, 1, 5920, 0]
def k0_off432 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13894 : Index := Scalar.indexCast v89
  let c1_6008 : Index := 1#32
  let c5952_6009 : Index := 5952#32
  let c0_6010 : Index := 0#32
  ![v13894.toNat, 1, 5952, 0]
def k0_off433 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13928 : Index := Scalar.indexCast v89
  let c1_6023 : Index := 1#32
  let c5984_6024 : Index := 5984#32
  let c0_6025 : Index := 0#32
  ![v13928.toNat, 1, 5984, 0]
def k0_off434 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v13968 : Index := Scalar.indexCast v89
  let c0_6040 : Index := 0#32
  let c6016 : Index := 6016#32
  let c0_6041 : Index := 0#32
  ![v13968.toNat, 0, 6016, 0]
def k0_off435 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14002 : Index := Scalar.indexCast v89
  let c0_6053 : Index := 0#32
  let c6048 : Index := 6048#32
  let c0_6054 : Index := 0#32
  ![v14002.toNat, 0, 6048, 0]
def k0_off436 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14036 : Index := Scalar.indexCast v89
  let c0_6066 : Index := 0#32
  let c6080 : Index := 6080#32
  let c0_6067 : Index := 0#32
  ![v14036.toNat, 0, 6080, 0]
def k0_off437 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14070 : Index := Scalar.indexCast v89
  let c0_6079 : Index := 0#32
  let c6112 : Index := 6112#32
  let c0_6080 : Index := 0#32
  ![v14070.toNat, 0, 6112, 0]
def k0_off438 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14105 : Index := Scalar.indexCast v89
  let c1_6092 : Index := 1#32
  let c6016_6093 : Index := 6016#32
  let c0_6094 : Index := 0#32
  ![v14105.toNat, 1, 6016, 0]
def k0_off439 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14139 : Index := Scalar.indexCast v89
  let c1_6107 : Index := 1#32
  let c6048_6108 : Index := 6048#32
  let c0_6109 : Index := 0#32
  ![v14139.toNat, 1, 6048, 0]
def k0_off440 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14173 : Index := Scalar.indexCast v89
  let c1_6122 : Index := 1#32
  let c6080_6123 : Index := 6080#32
  let c0_6124 : Index := 0#32
  ![v14173.toNat, 1, 6080, 0]
def k0_off441 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14207 : Index := Scalar.indexCast v89
  let c1_6137 : Index := 1#32
  let c6112_6138 : Index := 6112#32
  let c0_6139 : Index := 0#32
  ![v14207.toNat, 1, 6112, 0]
def k0_off442 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14247 : Index := Scalar.indexCast v89
  let c0_6154 : Index := 0#32
  let c384_6155 : Index := 384#32
  let c0_6156 : Index := 0#32
  ![v14247.toNat, 0, 384, 0]
def k0_off443 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14262 : Index := Scalar.indexCast v89
  let c1_6165 : Index := 1#32
  let c384_6166 : Index := 384#32
  let c0_6167 : Index := 0#32
  ![v14262.toNat, 1, 384, 0]
def k0_off444 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14277 : Index := Scalar.indexCast v89
  let c0_6176 : Index := 0#32
  let c6144_6177 : Index := 6144#32
  let c0_6178 : Index := 0#32
  ![v14277.toNat, 0, 6144, 0]
def k0_off445 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14311 : Index := Scalar.indexCast v89
  let c0_6191 : Index := 0#32
  let c6176 : Index := 6176#32
  let c0_6192 : Index := 0#32
  ![v14311.toNat, 0, 6176, 0]
def k0_off446 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14345 : Index := Scalar.indexCast v89
  let c0_6204 : Index := 0#32
  let c6208 : Index := 6208#32
  let c0_6205 : Index := 0#32
  ![v14345.toNat, 0, 6208, 0]
def k0_off447 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14379 : Index := Scalar.indexCast v89
  let c0_6217 : Index := 0#32
  let c6240 : Index := 6240#32
  let c0_6218 : Index := 0#32
  ![v14379.toNat, 0, 6240, 0]
def k0_off448 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14414 : Index := Scalar.indexCast v89
  let c1_6230 : Index := 1#32
  let c6144_6231 : Index := 6144#32
  let c0_6232 : Index := 0#32
  ![v14414.toNat, 1, 6144, 0]
def k0_off449 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14448 : Index := Scalar.indexCast v89
  let c1_6245 : Index := 1#32
  let c6176_6246 : Index := 6176#32
  let c0_6247 : Index := 0#32
  ![v14448.toNat, 1, 6176, 0]
def k0_off450 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14482 : Index := Scalar.indexCast v89
  let c1_6260 : Index := 1#32
  let c6208_6261 : Index := 6208#32
  let c0_6262 : Index := 0#32
  ![v14482.toNat, 1, 6208, 0]
def k0_off451 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14516 : Index := Scalar.indexCast v89
  let c1_6275 : Index := 1#32
  let c6240_6276 : Index := 6240#32
  let c0_6277 : Index := 0#32
  ![v14516.toNat, 1, 6240, 0]
def k0_off452 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14556 : Index := Scalar.indexCast v89
  let c0_6292 : Index := 0#32
  let c6272 : Index := 6272#32
  let c0_6293 : Index := 0#32
  ![v14556.toNat, 0, 6272, 0]
def k0_off453 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14590 : Index := Scalar.indexCast v89
  let c0_6305 : Index := 0#32
  let c6304 : Index := 6304#32
  let c0_6306 : Index := 0#32
  ![v14590.toNat, 0, 6304, 0]
def k0_off454 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14624 : Index := Scalar.indexCast v89
  let c0_6318 : Index := 0#32
  let c6336 : Index := 6336#32
  let c0_6319 : Index := 0#32
  ![v14624.toNat, 0, 6336, 0]
def k0_off455 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14658 : Index := Scalar.indexCast v89
  let c0_6331 : Index := 0#32
  let c6368 : Index := 6368#32
  let c0_6332 : Index := 0#32
  ![v14658.toNat, 0, 6368, 0]
def k0_off456 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14693 : Index := Scalar.indexCast v89
  let c1_6344 : Index := 1#32
  let c6272_6345 : Index := 6272#32
  let c0_6346 : Index := 0#32
  ![v14693.toNat, 1, 6272, 0]
def k0_off457 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14727 : Index := Scalar.indexCast v89
  let c1_6359 : Index := 1#32
  let c6304_6360 : Index := 6304#32
  let c0_6361 : Index := 0#32
  ![v14727.toNat, 1, 6304, 0]
def k0_off458 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14761 : Index := Scalar.indexCast v89
  let c1_6374 : Index := 1#32
  let c6336_6375 : Index := 6336#32
  let c0_6376 : Index := 0#32
  ![v14761.toNat, 1, 6336, 0]
def k0_off459 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14795 : Index := Scalar.indexCast v89
  let c1_6389 : Index := 1#32
  let c6368_6390 : Index := 6368#32
  let c0_6391 : Index := 0#32
  ![v14795.toNat, 1, 6368, 0]
def k0_off460 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14835 : Index := Scalar.indexCast v89
  let c0_6406 : Index := 0#32
  let c400 : Index := 400#32
  let c0_6407 : Index := 0#32
  ![v14835.toNat, 0, 400, 0]
def k0_off461 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14850 : Index := Scalar.indexCast v89
  let c1_6415 : Index := 1#32
  let c400_6416 : Index := 400#32
  let c0_6417 : Index := 0#32
  ![v14850.toNat, 1, 400, 0]
def k0_off462 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14865 : Index := Scalar.indexCast v89
  let c0_6426 : Index := 0#32
  let c6400_6427 : Index := 6400#32
  let c0_6428 : Index := 0#32
  ![v14865.toNat, 0, 6400, 0]
def k0_off463 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14899 : Index := Scalar.indexCast v89
  let c0_6441 : Index := 0#32
  let c6432 : Index := 6432#32
  let c0_6442 : Index := 0#32
  ![v14899.toNat, 0, 6432, 0]
def k0_off464 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14933 : Index := Scalar.indexCast v89
  let c0_6454 : Index := 0#32
  let c6464 : Index := 6464#32
  let c0_6455 : Index := 0#32
  ![v14933.toNat, 0, 6464, 0]
def k0_off465 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v14967 : Index := Scalar.indexCast v89
  let c0_6467 : Index := 0#32
  let c6496 : Index := 6496#32
  let c0_6468 : Index := 0#32
  ![v14967.toNat, 0, 6496, 0]
def k0_off466 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15002 : Index := Scalar.indexCast v89
  let c1_6480 : Index := 1#32
  let c6400_6481 : Index := 6400#32
  let c0_6482 : Index := 0#32
  ![v15002.toNat, 1, 6400, 0]
def k0_off467 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15036 : Index := Scalar.indexCast v89
  let c1_6495 : Index := 1#32
  let c6432_6496 : Index := 6432#32
  let c0_6497 : Index := 0#32
  ![v15036.toNat, 1, 6432, 0]
def k0_off468 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15070 : Index := Scalar.indexCast v89
  let c1_6510 : Index := 1#32
  let c6464_6511 : Index := 6464#32
  let c0_6512 : Index := 0#32
  ![v15070.toNat, 1, 6464, 0]
def k0_off469 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15104 : Index := Scalar.indexCast v89
  let c1_6525 : Index := 1#32
  let c6496_6526 : Index := 6496#32
  let c0_6527 : Index := 0#32
  ![v15104.toNat, 1, 6496, 0]
def k0_off470 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15144 : Index := Scalar.indexCast v89
  let c0_6542 : Index := 0#32
  let c6528 : Index := 6528#32
  let c0_6543 : Index := 0#32
  ![v15144.toNat, 0, 6528, 0]
def k0_off471 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15178 : Index := Scalar.indexCast v89
  let c0_6555 : Index := 0#32
  let c6560 : Index := 6560#32
  let c0_6556 : Index := 0#32
  ![v15178.toNat, 0, 6560, 0]
def k0_off472 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15212 : Index := Scalar.indexCast v89
  let c0_6568 : Index := 0#32
  let c6592 : Index := 6592#32
  let c0_6569 : Index := 0#32
  ![v15212.toNat, 0, 6592, 0]
def k0_off473 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15246 : Index := Scalar.indexCast v89
  let c0_6581 : Index := 0#32
  let c6624 : Index := 6624#32
  let c0_6582 : Index := 0#32
  ![v15246.toNat, 0, 6624, 0]
def k0_off474 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15281 : Index := Scalar.indexCast v89
  let c1_6594 : Index := 1#32
  let c6528_6595 : Index := 6528#32
  let c0_6596 : Index := 0#32
  ![v15281.toNat, 1, 6528, 0]
def k0_off475 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15315 : Index := Scalar.indexCast v89
  let c1_6609 : Index := 1#32
  let c6560_6610 : Index := 6560#32
  let c0_6611 : Index := 0#32
  ![v15315.toNat, 1, 6560, 0]
def k0_off476 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15349 : Index := Scalar.indexCast v89
  let c1_6624 : Index := 1#32
  let c6592_6625 : Index := 6592#32
  let c0_6626 : Index := 0#32
  ![v15349.toNat, 1, 6592, 0]
def k0_off477 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15383 : Index := Scalar.indexCast v89
  let c1_6639 : Index := 1#32
  let c6624_6640 : Index := 6624#32
  let c0_6641 : Index := 0#32
  ![v15383.toNat, 1, 6624, 0]
def k0_off478 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15423 : Index := Scalar.indexCast v89
  let c0_6656 : Index := 0#32
  let c416_6657 : Index := 416#32
  let c0_6658 : Index := 0#32
  ![v15423.toNat, 0, 416, 0]
def k0_off479 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15438 : Index := Scalar.indexCast v89
  let c1_6667 : Index := 1#32
  let c416_6668 : Index := 416#32
  let c0_6669 : Index := 0#32
  ![v15438.toNat, 1, 416, 0]
def k0_off480 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15453 : Index := Scalar.indexCast v89
  let c0_6678 : Index := 0#32
  let c6656_6679 : Index := 6656#32
  let c0_6680 : Index := 0#32
  ![v15453.toNat, 0, 6656, 0]
def k0_off481 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15487 : Index := Scalar.indexCast v89
  let c0_6693 : Index := 0#32
  let c6688 : Index := 6688#32
  let c0_6694 : Index := 0#32
  ![v15487.toNat, 0, 6688, 0]
def k0_off482 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15521 : Index := Scalar.indexCast v89
  let c0_6706 : Index := 0#32
  let c6720 : Index := 6720#32
  let c0_6707 : Index := 0#32
  ![v15521.toNat, 0, 6720, 0]
def k0_off483 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15555 : Index := Scalar.indexCast v89
  let c0_6719 : Index := 0#32
  let c6752 : Index := 6752#32
  let c0_6720 : Index := 0#32
  ![v15555.toNat, 0, 6752, 0]
def k0_off484 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15590 : Index := Scalar.indexCast v89
  let c1_6732 : Index := 1#32
  let c6656_6733 : Index := 6656#32
  let c0_6734 : Index := 0#32
  ![v15590.toNat, 1, 6656, 0]
def k0_off485 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15624 : Index := Scalar.indexCast v89
  let c1_6747 : Index := 1#32
  let c6688_6748 : Index := 6688#32
  let c0_6749 : Index := 0#32
  ![v15624.toNat, 1, 6688, 0]
def k0_off486 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15658 : Index := Scalar.indexCast v89
  let c1_6762 : Index := 1#32
  let c6720_6763 : Index := 6720#32
  let c0_6764 : Index := 0#32
  ![v15658.toNat, 1, 6720, 0]
def k0_off487 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15692 : Index := Scalar.indexCast v89
  let c1_6777 : Index := 1#32
  let c6752_6778 : Index := 6752#32
  let c0_6779 : Index := 0#32
  ![v15692.toNat, 1, 6752, 0]
def k0_off488 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15732 : Index := Scalar.indexCast v89
  let c0_6794 : Index := 0#32
  let c6784 : Index := 6784#32
  let c0_6795 : Index := 0#32
  ![v15732.toNat, 0, 6784, 0]
def k0_off489 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15766 : Index := Scalar.indexCast v89
  let c0_6807 : Index := 0#32
  let c6816 : Index := 6816#32
  let c0_6808 : Index := 0#32
  ![v15766.toNat, 0, 6816, 0]
def k0_off490 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15800 : Index := Scalar.indexCast v89
  let c0_6820 : Index := 0#32
  let c6848 : Index := 6848#32
  let c0_6821 : Index := 0#32
  ![v15800.toNat, 0, 6848, 0]
def k0_off491 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15834 : Index := Scalar.indexCast v89
  let c0_6833 : Index := 0#32
  let c6880 : Index := 6880#32
  let c0_6834 : Index := 0#32
  ![v15834.toNat, 0, 6880, 0]
def k0_off492 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15869 : Index := Scalar.indexCast v89
  let c1_6846 : Index := 1#32
  let c6784_6847 : Index := 6784#32
  let c0_6848 : Index := 0#32
  ![v15869.toNat, 1, 6784, 0]
def k0_off493 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15903 : Index := Scalar.indexCast v89
  let c1_6861 : Index := 1#32
  let c6816_6862 : Index := 6816#32
  let c0_6863 : Index := 0#32
  ![v15903.toNat, 1, 6816, 0]
def k0_off494 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15937 : Index := Scalar.indexCast v89
  let c1_6876 : Index := 1#32
  let c6848_6877 : Index := 6848#32
  let c0_6878 : Index := 0#32
  ![v15937.toNat, 1, 6848, 0]
def k0_off495 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v15971 : Index := Scalar.indexCast v89
  let c1_6891 : Index := 1#32
  let c6880_6892 : Index := 6880#32
  let c0_6893 : Index := 0#32
  ![v15971.toNat, 1, 6880, 0]
def k0_mult13 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c512_i32_6908 : BitVec 32 := 512#32
  let v16011 : BitVec 32 := Scalar.muli arg9 c512_i32_6908
  let c0_i32_6909 : BitVec 32 := 0#32
  let v16012 : BitVec 32 := Scalar.addi v16011 c0_i32_6909
  v16012
def k0_off496 (k0_t1 : Fin k0_t1_loop.trips) (c0_i32_6909 : BitVec 32) : Fin 2 → Nat :=
  let c0_6910 : Index := 0#32
  let c0_i32_93 : BitVec 32 := 0#32
  let c1_i32_94 : BitVec 32 := 1#32
  let arg9 : BitVec 32 := Scf.iv c0_i32_93 c1_i32_94 k0_t1
  let c512_i32_6908 : BitVec 32 := 512#32
  let v16011 : BitVec 32 := Scalar.muli arg9 c512_i32_6908
  let v16012 : BitVec 32 := Scalar.addi v16011 c0_i32_6909
  let v16013 : BitVec 32 := v16012
  let v16014 : Index := Scalar.indexCast v16013
  ![0, v16014.toNat]
def k0_off497 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16021 : Index := Scalar.indexCast v89
  let c2_6913 : Index := 2#32
  let c0_6914 : Index := 0#32
  let c0_6915 : Index := 0#32
  ![v16021.toNat, 2, 0, 0]
def k0_off498 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16036 : Index := Scalar.indexCast v89
  let c3_6924 : Index := 3#32
  let c0_6925 : Index := 0#32
  let c0_6926 : Index := 0#32
  ![v16036.toNat, 3, 0, 0]
def k0_off499 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16051 : Index := Scalar.indexCast v89
  let c2_6935 : Index := 2#32
  let c0_6936 : Index := 0#32
  let c0_6937 : Index := 0#32
  ![v16051.toNat, 2, 0, 0]
def k0_off500 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16085 : Index := Scalar.indexCast v89
  let c2_6950 : Index := 2#32
  let c32_6951 : Index := 32#32
  let c0_6952 : Index := 0#32
  ![v16085.toNat, 2, 32, 0]
def k0_off501 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16119 : Index := Scalar.indexCast v89
  let c2_6965 : Index := 2#32
  let c64_6966 : Index := 64#32
  let c0_6967 : Index := 0#32
  ![v16119.toNat, 2, 64, 0]
def k0_off502 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16153 : Index := Scalar.indexCast v89
  let c2_6980 : Index := 2#32
  let c96_6981 : Index := 96#32
  let c0_6982 : Index := 0#32
  ![v16153.toNat, 2, 96, 0]
def k0_off503 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16188 : Index := Scalar.indexCast v89
  let c3_6995 : Index := 3#32
  let c0_6996 : Index := 0#32
  let c0_6997 : Index := 0#32
  ![v16188.toNat, 3, 0, 0]
def k0_off504 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16222 : Index := Scalar.indexCast v89
  let c3_7010 : Index := 3#32
  let c32_7011 : Index := 32#32
  let c0_7012 : Index := 0#32
  ![v16222.toNat, 3, 32, 0]
def k0_off505 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16256 : Index := Scalar.indexCast v89
  let c3_7025 : Index := 3#32
  let c64_7026 : Index := 64#32
  let c0_7027 : Index := 0#32
  ![v16256.toNat, 3, 64, 0]
def k0_off506 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16290 : Index := Scalar.indexCast v89
  let c3_7040 : Index := 3#32
  let c96_7041 : Index := 96#32
  let c0_7042 : Index := 0#32
  ![v16290.toNat, 3, 96, 0]
def k0_off507 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16330 : Index := Scalar.indexCast v89
  let c2_7058 : Index := 2#32
  let c128_7059 : Index := 128#32
  let c0_7060 : Index := 0#32
  ![v16330.toNat, 2, 128, 0]
def k0_off508 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16364 : Index := Scalar.indexCast v89
  let c2_7073 : Index := 2#32
  let c160_7074 : Index := 160#32
  let c0_7075 : Index := 0#32
  ![v16364.toNat, 2, 160, 0]
def k0_off509 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16398 : Index := Scalar.indexCast v89
  let c2_7088 : Index := 2#32
  let c192_7089 : Index := 192#32
  let c0_7090 : Index := 0#32
  ![v16398.toNat, 2, 192, 0]
def k0_off510 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16432 : Index := Scalar.indexCast v89
  let c2_7103 : Index := 2#32
  let c224_7104 : Index := 224#32
  let c0_7105 : Index := 0#32
  ![v16432.toNat, 2, 224, 0]
def k0_off511 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16467 : Index := Scalar.indexCast v89
  let c3_7118 : Index := 3#32
  let c128_7119 : Index := 128#32
  let c0_7120 : Index := 0#32
  ![v16467.toNat, 3, 128, 0]
def k0_off512 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16501 : Index := Scalar.indexCast v89
  let c3_7133 : Index := 3#32
  let c160_7134 : Index := 160#32
  let c0_7135 : Index := 0#32
  ![v16501.toNat, 3, 160, 0]
def k0_off513 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16535 : Index := Scalar.indexCast v89
  let c3_7148 : Index := 3#32
  let c192_7149 : Index := 192#32
  let c0_7150 : Index := 0#32
  ![v16535.toNat, 3, 192, 0]
def k0_off514 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16569 : Index := Scalar.indexCast v89
  let c3_7163 : Index := 3#32
  let c224_7164 : Index := 224#32
  let c0_7165 : Index := 0#32
  ![v16569.toNat, 3, 224, 0]
def k0_off515 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16609 : Index := Scalar.indexCast v89
  let c2_7181 : Index := 2#32
  let c16_7182 : Index := 16#32
  let c0_7183 : Index := 0#32
  ![v16609.toNat, 2, 16, 0]
def k0_off516 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16624 : Index := Scalar.indexCast v89
  let c3_7192 : Index := 3#32
  let c16_7193 : Index := 16#32
  let c0_7194 : Index := 0#32
  ![v16624.toNat, 3, 16, 0]
def k0_off517 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16639 : Index := Scalar.indexCast v89
  let c2_7203 : Index := 2#32
  let c256_7204 : Index := 256#32
  let c0_7205 : Index := 0#32
  ![v16639.toNat, 2, 256, 0]
def k0_off518 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16673 : Index := Scalar.indexCast v89
  let c2_7218 : Index := 2#32
  let c288_7219 : Index := 288#32
  let c0_7220 : Index := 0#32
  ![v16673.toNat, 2, 288, 0]
def k0_off519 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16707 : Index := Scalar.indexCast v89
  let c2_7233 : Index := 2#32
  let c320_7234 : Index := 320#32
  let c0_7235 : Index := 0#32
  ![v16707.toNat, 2, 320, 0]
def k0_off520 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16741 : Index := Scalar.indexCast v89
  let c2_7248 : Index := 2#32
  let c352_7249 : Index := 352#32
  let c0_7250 : Index := 0#32
  ![v16741.toNat, 2, 352, 0]
def k0_off521 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16776 : Index := Scalar.indexCast v89
  let c3_7263 : Index := 3#32
  let c256_7264 : Index := 256#32
  let c0_7265 : Index := 0#32
  ![v16776.toNat, 3, 256, 0]
def k0_off522 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16810 : Index := Scalar.indexCast v89
  let c3_7278 : Index := 3#32
  let c288_7279 : Index := 288#32
  let c0_7280 : Index := 0#32
  ![v16810.toNat, 3, 288, 0]
def k0_off523 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16844 : Index := Scalar.indexCast v89
  let c3_7293 : Index := 3#32
  let c320_7294 : Index := 320#32
  let c0_7295 : Index := 0#32
  ![v16844.toNat, 3, 320, 0]
def k0_off524 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16878 : Index := Scalar.indexCast v89
  let c3_7308 : Index := 3#32
  let c352_7309 : Index := 352#32
  let c0_7310 : Index := 0#32
  ![v16878.toNat, 3, 352, 0]
def k0_off525 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16918 : Index := Scalar.indexCast v89
  let c2_7326 : Index := 2#32
  let c384_7327 : Index := 384#32
  let c0_7328 : Index := 0#32
  ![v16918.toNat, 2, 384, 0]
def k0_off526 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16952 : Index := Scalar.indexCast v89
  let c2_7341 : Index := 2#32
  let c416_7342 : Index := 416#32
  let c0_7343 : Index := 0#32
  ![v16952.toNat, 2, 416, 0]
def k0_off527 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v16986 : Index := Scalar.indexCast v89
  let c2_7356 : Index := 2#32
  let c448_7357 : Index := 448#32
  let c0_7358 : Index := 0#32
  ![v16986.toNat, 2, 448, 0]
def k0_off528 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17020 : Index := Scalar.indexCast v89
  let c2_7371 : Index := 2#32
  let c480_7372 : Index := 480#32
  let c0_7373 : Index := 0#32
  ![v17020.toNat, 2, 480, 0]
def k0_off529 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17055 : Index := Scalar.indexCast v89
  let c3_7386 : Index := 3#32
  let c384_7387 : Index := 384#32
  let c0_7388 : Index := 0#32
  ![v17055.toNat, 3, 384, 0]
def k0_off530 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17089 : Index := Scalar.indexCast v89
  let c3_7401 : Index := 3#32
  let c416_7402 : Index := 416#32
  let c0_7403 : Index := 0#32
  ![v17089.toNat, 3, 416, 0]
def k0_off531 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17123 : Index := Scalar.indexCast v89
  let c3_7416 : Index := 3#32
  let c448_7417 : Index := 448#32
  let c0_7418 : Index := 0#32
  ![v17123.toNat, 3, 448, 0]
def k0_off532 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17157 : Index := Scalar.indexCast v89
  let c3_7431 : Index := 3#32
  let c480_7432 : Index := 480#32
  let c0_7433 : Index := 0#32
  ![v17157.toNat, 3, 480, 0]
def k0_off533 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17197 : Index := Scalar.indexCast v89
  let c2_7449 : Index := 2#32
  let c32_7450 : Index := 32#32
  let c0_7451 : Index := 0#32
  ![v17197.toNat, 2, 32, 0]
def k0_off534 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17212 : Index := Scalar.indexCast v89
  let c3_7460 : Index := 3#32
  let c32_7461 : Index := 32#32
  let c0_7462 : Index := 0#32
  ![v17212.toNat, 3, 32, 0]
def k0_off535 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17227 : Index := Scalar.indexCast v89
  let c2_7471 : Index := 2#32
  let c512_7472 : Index := 512#32
  let c0_7473 : Index := 0#32
  ![v17227.toNat, 2, 512, 0]
def k0_off536 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17261 : Index := Scalar.indexCast v89
  let c2_7486 : Index := 2#32
  let c544_7487 : Index := 544#32
  let c0_7488 : Index := 0#32
  ![v17261.toNat, 2, 544, 0]
def k0_off537 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17295 : Index := Scalar.indexCast v89
  let c2_7501 : Index := 2#32
  let c576_7502 : Index := 576#32
  let c0_7503 : Index := 0#32
  ![v17295.toNat, 2, 576, 0]
def k0_off538 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17329 : Index := Scalar.indexCast v89
  let c2_7516 : Index := 2#32
  let c608_7517 : Index := 608#32
  let c0_7518 : Index := 0#32
  ![v17329.toNat, 2, 608, 0]
def k0_off539 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17364 : Index := Scalar.indexCast v89
  let c3_7531 : Index := 3#32
  let c512_7532 : Index := 512#32
  let c0_7533 : Index := 0#32
  ![v17364.toNat, 3, 512, 0]
def k0_off540 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17398 : Index := Scalar.indexCast v89
  let c3_7546 : Index := 3#32
  let c544_7547 : Index := 544#32
  let c0_7548 : Index := 0#32
  ![v17398.toNat, 3, 544, 0]
def k0_off541 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17432 : Index := Scalar.indexCast v89
  let c3_7561 : Index := 3#32
  let c576_7562 : Index := 576#32
  let c0_7563 : Index := 0#32
  ![v17432.toNat, 3, 576, 0]
def k0_off542 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17466 : Index := Scalar.indexCast v89
  let c3_7576 : Index := 3#32
  let c608_7577 : Index := 608#32
  let c0_7578 : Index := 0#32
  ![v17466.toNat, 3, 608, 0]
def k0_off543 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17506 : Index := Scalar.indexCast v89
  let c2_7594 : Index := 2#32
  let c640_7595 : Index := 640#32
  let c0_7596 : Index := 0#32
  ![v17506.toNat, 2, 640, 0]
def k0_off544 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17540 : Index := Scalar.indexCast v89
  let c2_7609 : Index := 2#32
  let c672_7610 : Index := 672#32
  let c0_7611 : Index := 0#32
  ![v17540.toNat, 2, 672, 0]
def k0_off545 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17574 : Index := Scalar.indexCast v89
  let c2_7624 : Index := 2#32
  let c704_7625 : Index := 704#32
  let c0_7626 : Index := 0#32
  ![v17574.toNat, 2, 704, 0]
def k0_off546 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17608 : Index := Scalar.indexCast v89
  let c2_7639 : Index := 2#32
  let c736_7640 : Index := 736#32
  let c0_7641 : Index := 0#32
  ![v17608.toNat, 2, 736, 0]
def k0_off547 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17643 : Index := Scalar.indexCast v89
  let c3_7654 : Index := 3#32
  let c640_7655 : Index := 640#32
  let c0_7656 : Index := 0#32
  ![v17643.toNat, 3, 640, 0]
def k0_off548 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17677 : Index := Scalar.indexCast v89
  let c3_7669 : Index := 3#32
  let c672_7670 : Index := 672#32
  let c0_7671 : Index := 0#32
  ![v17677.toNat, 3, 672, 0]
def k0_off549 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17711 : Index := Scalar.indexCast v89
  let c3_7684 : Index := 3#32
  let c704_7685 : Index := 704#32
  let c0_7686 : Index := 0#32
  ![v17711.toNat, 3, 704, 0]
def k0_off550 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17745 : Index := Scalar.indexCast v89
  let c3_7699 : Index := 3#32
  let c736_7700 : Index := 736#32
  let c0_7701 : Index := 0#32
  ![v17745.toNat, 3, 736, 0]
def k0_off551 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17785 : Index := Scalar.indexCast v89
  let c2_7717 : Index := 2#32
  let c48_7718 : Index := 48#32
  let c0_7719 : Index := 0#32
  ![v17785.toNat, 2, 48, 0]
def k0_off552 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17800 : Index := Scalar.indexCast v89
  let c3_7728 : Index := 3#32
  let c48_7729 : Index := 48#32
  let c0_7730 : Index := 0#32
  ![v17800.toNat, 3, 48, 0]
def k0_off553 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17815 : Index := Scalar.indexCast v89
  let c2_7739 : Index := 2#32
  let c768_7740 : Index := 768#32
  let c0_7741 : Index := 0#32
  ![v17815.toNat, 2, 768, 0]
def k0_off554 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17849 : Index := Scalar.indexCast v89
  let c2_7754 : Index := 2#32
  let c800_7755 : Index := 800#32
  let c0_7756 : Index := 0#32
  ![v17849.toNat, 2, 800, 0]
def k0_off555 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17883 : Index := Scalar.indexCast v89
  let c2_7769 : Index := 2#32
  let c832_7770 : Index := 832#32
  let c0_7771 : Index := 0#32
  ![v17883.toNat, 2, 832, 0]
def k0_off556 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17917 : Index := Scalar.indexCast v89
  let c2_7784 : Index := 2#32
  let c864_7785 : Index := 864#32
  let c0_7786 : Index := 0#32
  ![v17917.toNat, 2, 864, 0]
def k0_off557 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17952 : Index := Scalar.indexCast v89
  let c3_7799 : Index := 3#32
  let c768_7800 : Index := 768#32
  let c0_7801 : Index := 0#32
  ![v17952.toNat, 3, 768, 0]
def k0_off558 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v17986 : Index := Scalar.indexCast v89
  let c3_7814 : Index := 3#32
  let c800_7815 : Index := 800#32
  let c0_7816 : Index := 0#32
  ![v17986.toNat, 3, 800, 0]
def k0_off559 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18020 : Index := Scalar.indexCast v89
  let c3_7829 : Index := 3#32
  let c832_7830 : Index := 832#32
  let c0_7831 : Index := 0#32
  ![v18020.toNat, 3, 832, 0]
def k0_off560 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18054 : Index := Scalar.indexCast v89
  let c3_7844 : Index := 3#32
  let c864_7845 : Index := 864#32
  let c0_7846 : Index := 0#32
  ![v18054.toNat, 3, 864, 0]
def k0_off561 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18094 : Index := Scalar.indexCast v89
  let c2_7862 : Index := 2#32
  let c896_7863 : Index := 896#32
  let c0_7864 : Index := 0#32
  ![v18094.toNat, 2, 896, 0]
def k0_off562 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18128 : Index := Scalar.indexCast v89
  let c2_7877 : Index := 2#32
  let c928_7878 : Index := 928#32
  let c0_7879 : Index := 0#32
  ![v18128.toNat, 2, 928, 0]
def k0_off563 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18162 : Index := Scalar.indexCast v89
  let c2_7892 : Index := 2#32
  let c960_7893 : Index := 960#32
  let c0_7894 : Index := 0#32
  ![v18162.toNat, 2, 960, 0]
def k0_off564 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18196 : Index := Scalar.indexCast v89
  let c2_7907 : Index := 2#32
  let c992_7908 : Index := 992#32
  let c0_7909 : Index := 0#32
  ![v18196.toNat, 2, 992, 0]
def k0_off565 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18231 : Index := Scalar.indexCast v89
  let c3_7922 : Index := 3#32
  let c896_7923 : Index := 896#32
  let c0_7924 : Index := 0#32
  ![v18231.toNat, 3, 896, 0]
def k0_off566 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18265 : Index := Scalar.indexCast v89
  let c3_7937 : Index := 3#32
  let c928_7938 : Index := 928#32
  let c0_7939 : Index := 0#32
  ![v18265.toNat, 3, 928, 0]
def k0_off567 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18299 : Index := Scalar.indexCast v89
  let c3_7952 : Index := 3#32
  let c960_7953 : Index := 960#32
  let c0_7954 : Index := 0#32
  ![v18299.toNat, 3, 960, 0]
def k0_off568 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18333 : Index := Scalar.indexCast v89
  let c3_7967 : Index := 3#32
  let c992_7968 : Index := 992#32
  let c0_7969 : Index := 0#32
  ![v18333.toNat, 3, 992, 0]
def k0_off569 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18373 : Index := Scalar.indexCast v89
  let c2_7985 : Index := 2#32
  let c64_7986 : Index := 64#32
  let c0_7987 : Index := 0#32
  ![v18373.toNat, 2, 64, 0]
def k0_off570 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18388 : Index := Scalar.indexCast v89
  let c3_7996 : Index := 3#32
  let c64_7997 : Index := 64#32
  let c0_7998 : Index := 0#32
  ![v18388.toNat, 3, 64, 0]
def k0_off571 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18403 : Index := Scalar.indexCast v89
  let c2_8007 : Index := 2#32
  let c1024_8008 : Index := 1024#32
  let c0_8009 : Index := 0#32
  ![v18403.toNat, 2, 1024, 0]
def k0_off572 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18437 : Index := Scalar.indexCast v89
  let c2_8022 : Index := 2#32
  let c1056_8023 : Index := 1056#32
  let c0_8024 : Index := 0#32
  ![v18437.toNat, 2, 1056, 0]
def k0_off573 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18471 : Index := Scalar.indexCast v89
  let c2_8037 : Index := 2#32
  let c1088_8038 : Index := 1088#32
  let c0_8039 : Index := 0#32
  ![v18471.toNat, 2, 1088, 0]
def k0_off574 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18505 : Index := Scalar.indexCast v89
  let c2_8052 : Index := 2#32
  let c1120_8053 : Index := 1120#32
  let c0_8054 : Index := 0#32
  ![v18505.toNat, 2, 1120, 0]
def k0_off575 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18540 : Index := Scalar.indexCast v89
  let c3_8067 : Index := 3#32
  let c1024_8068 : Index := 1024#32
  let c0_8069 : Index := 0#32
  ![v18540.toNat, 3, 1024, 0]
def k0_off576 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18574 : Index := Scalar.indexCast v89
  let c3_8082 : Index := 3#32
  let c1056_8083 : Index := 1056#32
  let c0_8084 : Index := 0#32
  ![v18574.toNat, 3, 1056, 0]
def k0_off577 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18608 : Index := Scalar.indexCast v89
  let c3_8097 : Index := 3#32
  let c1088_8098 : Index := 1088#32
  let c0_8099 : Index := 0#32
  ![v18608.toNat, 3, 1088, 0]
def k0_off578 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18642 : Index := Scalar.indexCast v89
  let c3_8112 : Index := 3#32
  let c1120_8113 : Index := 1120#32
  let c0_8114 : Index := 0#32
  ![v18642.toNat, 3, 1120, 0]
def k0_off579 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18682 : Index := Scalar.indexCast v89
  let c2_8130 : Index := 2#32
  let c1152_8131 : Index := 1152#32
  let c0_8132 : Index := 0#32
  ![v18682.toNat, 2, 1152, 0]
def k0_off580 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18716 : Index := Scalar.indexCast v89
  let c2_8145 : Index := 2#32
  let c1184_8146 : Index := 1184#32
  let c0_8147 : Index := 0#32
  ![v18716.toNat, 2, 1184, 0]
def k0_off581 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18750 : Index := Scalar.indexCast v89
  let c2_8160 : Index := 2#32
  let c1216_8161 : Index := 1216#32
  let c0_8162 : Index := 0#32
  ![v18750.toNat, 2, 1216, 0]
def k0_off582 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18784 : Index := Scalar.indexCast v89
  let c2_8175 : Index := 2#32
  let c1248_8176 : Index := 1248#32
  let c0_8177 : Index := 0#32
  ![v18784.toNat, 2, 1248, 0]
def k0_off583 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18819 : Index := Scalar.indexCast v89
  let c3_8190 : Index := 3#32
  let c1152_8191 : Index := 1152#32
  let c0_8192 : Index := 0#32
  ![v18819.toNat, 3, 1152, 0]
def k0_off584 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18853 : Index := Scalar.indexCast v89
  let c3_8205 : Index := 3#32
  let c1184_8206 : Index := 1184#32
  let c0_8207 : Index := 0#32
  ![v18853.toNat, 3, 1184, 0]
def k0_off585 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18887 : Index := Scalar.indexCast v89
  let c3_8220 : Index := 3#32
  let c1216_8221 : Index := 1216#32
  let c0_8222 : Index := 0#32
  ![v18887.toNat, 3, 1216, 0]
def k0_off586 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18921 : Index := Scalar.indexCast v89
  let c3_8235 : Index := 3#32
  let c1248_8236 : Index := 1248#32
  let c0_8237 : Index := 0#32
  ![v18921.toNat, 3, 1248, 0]
def k0_off587 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18961 : Index := Scalar.indexCast v89
  let c2_8253 : Index := 2#32
  let c80_8254 : Index := 80#32
  let c0_8255 : Index := 0#32
  ![v18961.toNat, 2, 80, 0]
def k0_off588 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18976 : Index := Scalar.indexCast v89
  let c3_8264 : Index := 3#32
  let c80_8265 : Index := 80#32
  let c0_8266 : Index := 0#32
  ![v18976.toNat, 3, 80, 0]
def k0_off589 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v18991 : Index := Scalar.indexCast v89
  let c2_8275 : Index := 2#32
  let c1280_8276 : Index := 1280#32
  let c0_8277 : Index := 0#32
  ![v18991.toNat, 2, 1280, 0]
def k0_off590 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19025 : Index := Scalar.indexCast v89
  let c2_8290 : Index := 2#32
  let c1312_8291 : Index := 1312#32
  let c0_8292 : Index := 0#32
  ![v19025.toNat, 2, 1312, 0]
def k0_off591 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19059 : Index := Scalar.indexCast v89
  let c2_8305 : Index := 2#32
  let c1344_8306 : Index := 1344#32
  let c0_8307 : Index := 0#32
  ![v19059.toNat, 2, 1344, 0]
def k0_off592 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19093 : Index := Scalar.indexCast v89
  let c2_8320 : Index := 2#32
  let c1376_8321 : Index := 1376#32
  let c0_8322 : Index := 0#32
  ![v19093.toNat, 2, 1376, 0]
def k0_off593 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19128 : Index := Scalar.indexCast v89
  let c3_8335 : Index := 3#32
  let c1280_8336 : Index := 1280#32
  let c0_8337 : Index := 0#32
  ![v19128.toNat, 3, 1280, 0]
def k0_off594 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19162 : Index := Scalar.indexCast v89
  let c3_8350 : Index := 3#32
  let c1312_8351 : Index := 1312#32
  let c0_8352 : Index := 0#32
  ![v19162.toNat, 3, 1312, 0]
def k0_off595 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19196 : Index := Scalar.indexCast v89
  let c3_8365 : Index := 3#32
  let c1344_8366 : Index := 1344#32
  let c0_8367 : Index := 0#32
  ![v19196.toNat, 3, 1344, 0]
def k0_off596 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19230 : Index := Scalar.indexCast v89
  let c3_8380 : Index := 3#32
  let c1376_8381 : Index := 1376#32
  let c0_8382 : Index := 0#32
  ![v19230.toNat, 3, 1376, 0]
def k0_off597 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19270 : Index := Scalar.indexCast v89
  let c2_8398 : Index := 2#32
  let c1408_8399 : Index := 1408#32
  let c0_8400 : Index := 0#32
  ![v19270.toNat, 2, 1408, 0]
def k0_off598 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19304 : Index := Scalar.indexCast v89
  let c2_8413 : Index := 2#32
  let c1440_8414 : Index := 1440#32
  let c0_8415 : Index := 0#32
  ![v19304.toNat, 2, 1440, 0]
def k0_off599 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19338 : Index := Scalar.indexCast v89
  let c2_8428 : Index := 2#32
  let c1472_8429 : Index := 1472#32
  let c0_8430 : Index := 0#32
  ![v19338.toNat, 2, 1472, 0]
def k0_off600 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19372 : Index := Scalar.indexCast v89
  let c2_8443 : Index := 2#32
  let c1504_8444 : Index := 1504#32
  let c0_8445 : Index := 0#32
  ![v19372.toNat, 2, 1504, 0]
def k0_off601 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19407 : Index := Scalar.indexCast v89
  let c3_8458 : Index := 3#32
  let c1408_8459 : Index := 1408#32
  let c0_8460 : Index := 0#32
  ![v19407.toNat, 3, 1408, 0]
def k0_off602 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19441 : Index := Scalar.indexCast v89
  let c3_8473 : Index := 3#32
  let c1440_8474 : Index := 1440#32
  let c0_8475 : Index := 0#32
  ![v19441.toNat, 3, 1440, 0]
def k0_off603 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19475 : Index := Scalar.indexCast v89
  let c3_8488 : Index := 3#32
  let c1472_8489 : Index := 1472#32
  let c0_8490 : Index := 0#32
  ![v19475.toNat, 3, 1472, 0]
def k0_off604 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19509 : Index := Scalar.indexCast v89
  let c3_8503 : Index := 3#32
  let c1504_8504 : Index := 1504#32
  let c0_8505 : Index := 0#32
  ![v19509.toNat, 3, 1504, 0]
def k0_off605 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19549 : Index := Scalar.indexCast v89
  let c2_8521 : Index := 2#32
  let c96_8522 : Index := 96#32
  let c0_8523 : Index := 0#32
  ![v19549.toNat, 2, 96, 0]
def k0_off606 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19564 : Index := Scalar.indexCast v89
  let c3_8532 : Index := 3#32
  let c96_8533 : Index := 96#32
  let c0_8534 : Index := 0#32
  ![v19564.toNat, 3, 96, 0]
def k0_off607 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19579 : Index := Scalar.indexCast v89
  let c2_8543 : Index := 2#32
  let c1536_8544 : Index := 1536#32
  let c0_8545 : Index := 0#32
  ![v19579.toNat, 2, 1536, 0]
def k0_off608 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19613 : Index := Scalar.indexCast v89
  let c2_8558 : Index := 2#32
  let c1568_8559 : Index := 1568#32
  let c0_8560 : Index := 0#32
  ![v19613.toNat, 2, 1568, 0]
def k0_off609 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19647 : Index := Scalar.indexCast v89
  let c2_8573 : Index := 2#32
  let c1600_8574 : Index := 1600#32
  let c0_8575 : Index := 0#32
  ![v19647.toNat, 2, 1600, 0]
def k0_off610 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19681 : Index := Scalar.indexCast v89
  let c2_8588 : Index := 2#32
  let c1632_8589 : Index := 1632#32
  let c0_8590 : Index := 0#32
  ![v19681.toNat, 2, 1632, 0]
def k0_off611 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19716 : Index := Scalar.indexCast v89
  let c3_8603 : Index := 3#32
  let c1536_8604 : Index := 1536#32
  let c0_8605 : Index := 0#32
  ![v19716.toNat, 3, 1536, 0]
def k0_off612 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19750 : Index := Scalar.indexCast v89
  let c3_8618 : Index := 3#32
  let c1568_8619 : Index := 1568#32
  let c0_8620 : Index := 0#32
  ![v19750.toNat, 3, 1568, 0]
def k0_off613 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19784 : Index := Scalar.indexCast v89
  let c3_8633 : Index := 3#32
  let c1600_8634 : Index := 1600#32
  let c0_8635 : Index := 0#32
  ![v19784.toNat, 3, 1600, 0]
def k0_off614 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19818 : Index := Scalar.indexCast v89
  let c3_8648 : Index := 3#32
  let c1632_8649 : Index := 1632#32
  let c0_8650 : Index := 0#32
  ![v19818.toNat, 3, 1632, 0]
def k0_off615 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19858 : Index := Scalar.indexCast v89
  let c2_8666 : Index := 2#32
  let c1664_8667 : Index := 1664#32
  let c0_8668 : Index := 0#32
  ![v19858.toNat, 2, 1664, 0]
def k0_off616 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19892 : Index := Scalar.indexCast v89
  let c2_8681 : Index := 2#32
  let c1696_8682 : Index := 1696#32
  let c0_8683 : Index := 0#32
  ![v19892.toNat, 2, 1696, 0]
def k0_off617 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19926 : Index := Scalar.indexCast v89
  let c2_8696 : Index := 2#32
  let c1728_8697 : Index := 1728#32
  let c0_8698 : Index := 0#32
  ![v19926.toNat, 2, 1728, 0]
def k0_off618 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19960 : Index := Scalar.indexCast v89
  let c2_8711 : Index := 2#32
  let c1760_8712 : Index := 1760#32
  let c0_8713 : Index := 0#32
  ![v19960.toNat, 2, 1760, 0]
def k0_off619 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v19995 : Index := Scalar.indexCast v89
  let c3_8726 : Index := 3#32
  let c1664_8727 : Index := 1664#32
  let c0_8728 : Index := 0#32
  ![v19995.toNat, 3, 1664, 0]
def k0_off620 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20029 : Index := Scalar.indexCast v89
  let c3_8741 : Index := 3#32
  let c1696_8742 : Index := 1696#32
  let c0_8743 : Index := 0#32
  ![v20029.toNat, 3, 1696, 0]
def k0_off621 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20063 : Index := Scalar.indexCast v89
  let c3_8756 : Index := 3#32
  let c1728_8757 : Index := 1728#32
  let c0_8758 : Index := 0#32
  ![v20063.toNat, 3, 1728, 0]
def k0_off622 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20097 : Index := Scalar.indexCast v89
  let c3_8771 : Index := 3#32
  let c1760_8772 : Index := 1760#32
  let c0_8773 : Index := 0#32
  ![v20097.toNat, 3, 1760, 0]
def k0_off623 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20137 : Index := Scalar.indexCast v89
  let c2_8789 : Index := 2#32
  let c112_8790 : Index := 112#32
  let c0_8791 : Index := 0#32
  ![v20137.toNat, 2, 112, 0]
def k0_off624 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20152 : Index := Scalar.indexCast v89
  let c3_8800 : Index := 3#32
  let c112_8801 : Index := 112#32
  let c0_8802 : Index := 0#32
  ![v20152.toNat, 3, 112, 0]
def k0_off625 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20167 : Index := Scalar.indexCast v89
  let c2_8811 : Index := 2#32
  let c1792_8812 : Index := 1792#32
  let c0_8813 : Index := 0#32
  ![v20167.toNat, 2, 1792, 0]
def k0_off626 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20201 : Index := Scalar.indexCast v89
  let c2_8826 : Index := 2#32
  let c1824_8827 : Index := 1824#32
  let c0_8828 : Index := 0#32
  ![v20201.toNat, 2, 1824, 0]
def k0_off627 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20235 : Index := Scalar.indexCast v89
  let c2_8841 : Index := 2#32
  let c1856_8842 : Index := 1856#32
  let c0_8843 : Index := 0#32
  ![v20235.toNat, 2, 1856, 0]
def k0_off628 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20269 : Index := Scalar.indexCast v89
  let c2_8856 : Index := 2#32
  let c1888_8857 : Index := 1888#32
  let c0_8858 : Index := 0#32
  ![v20269.toNat, 2, 1888, 0]
def k0_off629 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20304 : Index := Scalar.indexCast v89
  let c3_8871 : Index := 3#32
  let c1792_8872 : Index := 1792#32
  let c0_8873 : Index := 0#32
  ![v20304.toNat, 3, 1792, 0]
def k0_off630 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20338 : Index := Scalar.indexCast v89
  let c3_8886 : Index := 3#32
  let c1824_8887 : Index := 1824#32
  let c0_8888 : Index := 0#32
  ![v20338.toNat, 3, 1824, 0]
def k0_off631 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20372 : Index := Scalar.indexCast v89
  let c3_8901 : Index := 3#32
  let c1856_8902 : Index := 1856#32
  let c0_8903 : Index := 0#32
  ![v20372.toNat, 3, 1856, 0]
def k0_off632 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20406 : Index := Scalar.indexCast v89
  let c3_8916 : Index := 3#32
  let c1888_8917 : Index := 1888#32
  let c0_8918 : Index := 0#32
  ![v20406.toNat, 3, 1888, 0]
def k0_off633 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20446 : Index := Scalar.indexCast v89
  let c2_8934 : Index := 2#32
  let c1920_8935 : Index := 1920#32
  let c0_8936 : Index := 0#32
  ![v20446.toNat, 2, 1920, 0]
def k0_off634 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20480 : Index := Scalar.indexCast v89
  let c2_8949 : Index := 2#32
  let c1952_8950 : Index := 1952#32
  let c0_8951 : Index := 0#32
  ![v20480.toNat, 2, 1952, 0]
def k0_off635 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20514 : Index := Scalar.indexCast v89
  let c2_8964 : Index := 2#32
  let c1984_8965 : Index := 1984#32
  let c0_8966 : Index := 0#32
  ![v20514.toNat, 2, 1984, 0]
def k0_off636 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20548 : Index := Scalar.indexCast v89
  let c2_8979 : Index := 2#32
  let c2016_8980 : Index := 2016#32
  let c0_8981 : Index := 0#32
  ![v20548.toNat, 2, 2016, 0]
def k0_off637 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20583 : Index := Scalar.indexCast v89
  let c3_8994 : Index := 3#32
  let c1920_8995 : Index := 1920#32
  let c0_8996 : Index := 0#32
  ![v20583.toNat, 3, 1920, 0]
def k0_off638 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20617 : Index := Scalar.indexCast v89
  let c3_9009 : Index := 3#32
  let c1952_9010 : Index := 1952#32
  let c0_9011 : Index := 0#32
  ![v20617.toNat, 3, 1952, 0]
def k0_off639 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20651 : Index := Scalar.indexCast v89
  let c3_9024 : Index := 3#32
  let c1984_9025 : Index := 1984#32
  let c0_9026 : Index := 0#32
  ![v20651.toNat, 3, 1984, 0]
def k0_off640 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20685 : Index := Scalar.indexCast v89
  let c3_9039 : Index := 3#32
  let c2016_9040 : Index := 2016#32
  let c0_9041 : Index := 0#32
  ![v20685.toNat, 3, 2016, 0]
def k0_off641 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20725 : Index := Scalar.indexCast v89
  let c2_9057 : Index := 2#32
  let c128_9058 : Index := 128#32
  let c0_9059 : Index := 0#32
  ![v20725.toNat, 2, 128, 0]
def k0_off642 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20740 : Index := Scalar.indexCast v89
  let c3_9068 : Index := 3#32
  let c128_9069 : Index := 128#32
  let c0_9070 : Index := 0#32
  ![v20740.toNat, 3, 128, 0]
def k0_off643 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20755 : Index := Scalar.indexCast v89
  let c2_9079 : Index := 2#32
  let c2048_9080 : Index := 2048#32
  let c0_9081 : Index := 0#32
  ![v20755.toNat, 2, 2048, 0]
def k0_off644 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20789 : Index := Scalar.indexCast v89
  let c2_9094 : Index := 2#32
  let c2080_9095 : Index := 2080#32
  let c0_9096 : Index := 0#32
  ![v20789.toNat, 2, 2080, 0]
def k0_off645 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20823 : Index := Scalar.indexCast v89
  let c2_9109 : Index := 2#32
  let c2112_9110 : Index := 2112#32
  let c0_9111 : Index := 0#32
  ![v20823.toNat, 2, 2112, 0]
def k0_off646 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20857 : Index := Scalar.indexCast v89
  let c2_9124 : Index := 2#32
  let c2144_9125 : Index := 2144#32
  let c0_9126 : Index := 0#32
  ![v20857.toNat, 2, 2144, 0]
def k0_off647 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20892 : Index := Scalar.indexCast v89
  let c3_9139 : Index := 3#32
  let c2048_9140 : Index := 2048#32
  let c0_9141 : Index := 0#32
  ![v20892.toNat, 3, 2048, 0]
def k0_off648 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20926 : Index := Scalar.indexCast v89
  let c3_9154 : Index := 3#32
  let c2080_9155 : Index := 2080#32
  let c0_9156 : Index := 0#32
  ![v20926.toNat, 3, 2080, 0]
def k0_off649 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20960 : Index := Scalar.indexCast v89
  let c3_9169 : Index := 3#32
  let c2112_9170 : Index := 2112#32
  let c0_9171 : Index := 0#32
  ![v20960.toNat, 3, 2112, 0]
def k0_off650 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v20994 : Index := Scalar.indexCast v89
  let c3_9184 : Index := 3#32
  let c2144_9185 : Index := 2144#32
  let c0_9186 : Index := 0#32
  ![v20994.toNat, 3, 2144, 0]
def k0_off651 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21034 : Index := Scalar.indexCast v89
  let c2_9202 : Index := 2#32
  let c2176_9203 : Index := 2176#32
  let c0_9204 : Index := 0#32
  ![v21034.toNat, 2, 2176, 0]
def k0_off652 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21068 : Index := Scalar.indexCast v89
  let c2_9217 : Index := 2#32
  let c2208_9218 : Index := 2208#32
  let c0_9219 : Index := 0#32
  ![v21068.toNat, 2, 2208, 0]
def k0_off653 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21102 : Index := Scalar.indexCast v89
  let c2_9232 : Index := 2#32
  let c2240_9233 : Index := 2240#32
  let c0_9234 : Index := 0#32
  ![v21102.toNat, 2, 2240, 0]
def k0_off654 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21136 : Index := Scalar.indexCast v89
  let c2_9247 : Index := 2#32
  let c2272_9248 : Index := 2272#32
  let c0_9249 : Index := 0#32
  ![v21136.toNat, 2, 2272, 0]
def k0_off655 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21171 : Index := Scalar.indexCast v89
  let c3_9262 : Index := 3#32
  let c2176_9263 : Index := 2176#32
  let c0_9264 : Index := 0#32
  ![v21171.toNat, 3, 2176, 0]
def k0_off656 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21205 : Index := Scalar.indexCast v89
  let c3_9277 : Index := 3#32
  let c2208_9278 : Index := 2208#32
  let c0_9279 : Index := 0#32
  ![v21205.toNat, 3, 2208, 0]
def k0_off657 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21239 : Index := Scalar.indexCast v89
  let c3_9292 : Index := 3#32
  let c2240_9293 : Index := 2240#32
  let c0_9294 : Index := 0#32
  ![v21239.toNat, 3, 2240, 0]
def k0_off658 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21273 : Index := Scalar.indexCast v89
  let c3_9307 : Index := 3#32
  let c2272_9308 : Index := 2272#32
  let c0_9309 : Index := 0#32
  ![v21273.toNat, 3, 2272, 0]
def k0_off659 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21313 : Index := Scalar.indexCast v89
  let c2_9325 : Index := 2#32
  let c144_9326 : Index := 144#32
  let c0_9327 : Index := 0#32
  ![v21313.toNat, 2, 144, 0]
def k0_off660 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21328 : Index := Scalar.indexCast v89
  let c3_9336 : Index := 3#32
  let c144_9337 : Index := 144#32
  let c0_9338 : Index := 0#32
  ![v21328.toNat, 3, 144, 0]
def k0_off661 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21343 : Index := Scalar.indexCast v89
  let c2_9347 : Index := 2#32
  let c2304_9348 : Index := 2304#32
  let c0_9349 : Index := 0#32
  ![v21343.toNat, 2, 2304, 0]
def k0_off662 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21377 : Index := Scalar.indexCast v89
  let c2_9362 : Index := 2#32
  let c2336_9363 : Index := 2336#32
  let c0_9364 : Index := 0#32
  ![v21377.toNat, 2, 2336, 0]
def k0_off663 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21411 : Index := Scalar.indexCast v89
  let c2_9377 : Index := 2#32
  let c2368_9378 : Index := 2368#32
  let c0_9379 : Index := 0#32
  ![v21411.toNat, 2, 2368, 0]
def k0_off664 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21445 : Index := Scalar.indexCast v89
  let c2_9392 : Index := 2#32
  let c2400_9393 : Index := 2400#32
  let c0_9394 : Index := 0#32
  ![v21445.toNat, 2, 2400, 0]
def k0_off665 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21480 : Index := Scalar.indexCast v89
  let c3_9407 : Index := 3#32
  let c2304_9408 : Index := 2304#32
  let c0_9409 : Index := 0#32
  ![v21480.toNat, 3, 2304, 0]
def k0_off666 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21514 : Index := Scalar.indexCast v89
  let c3_9422 : Index := 3#32
  let c2336_9423 : Index := 2336#32
  let c0_9424 : Index := 0#32
  ![v21514.toNat, 3, 2336, 0]
def k0_off667 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21548 : Index := Scalar.indexCast v89
  let c3_9437 : Index := 3#32
  let c2368_9438 : Index := 2368#32
  let c0_9439 : Index := 0#32
  ![v21548.toNat, 3, 2368, 0]
def k0_off668 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21582 : Index := Scalar.indexCast v89
  let c3_9452 : Index := 3#32
  let c2400_9453 : Index := 2400#32
  let c0_9454 : Index := 0#32
  ![v21582.toNat, 3, 2400, 0]
def k0_off669 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21622 : Index := Scalar.indexCast v89
  let c2_9470 : Index := 2#32
  let c2432_9471 : Index := 2432#32
  let c0_9472 : Index := 0#32
  ![v21622.toNat, 2, 2432, 0]
def k0_off670 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21656 : Index := Scalar.indexCast v89
  let c2_9485 : Index := 2#32
  let c2464_9486 : Index := 2464#32
  let c0_9487 : Index := 0#32
  ![v21656.toNat, 2, 2464, 0]
def k0_off671 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21690 : Index := Scalar.indexCast v89
  let c2_9500 : Index := 2#32
  let c2496_9501 : Index := 2496#32
  let c0_9502 : Index := 0#32
  ![v21690.toNat, 2, 2496, 0]
def k0_off672 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21724 : Index := Scalar.indexCast v89
  let c2_9515 : Index := 2#32
  let c2528_9516 : Index := 2528#32
  let c0_9517 : Index := 0#32
  ![v21724.toNat, 2, 2528, 0]
def k0_off673 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21759 : Index := Scalar.indexCast v89
  let c3_9530 : Index := 3#32
  let c2432_9531 : Index := 2432#32
  let c0_9532 : Index := 0#32
  ![v21759.toNat, 3, 2432, 0]
def k0_off674 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21793 : Index := Scalar.indexCast v89
  let c3_9545 : Index := 3#32
  let c2464_9546 : Index := 2464#32
  let c0_9547 : Index := 0#32
  ![v21793.toNat, 3, 2464, 0]
def k0_off675 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21827 : Index := Scalar.indexCast v89
  let c3_9560 : Index := 3#32
  let c2496_9561 : Index := 2496#32
  let c0_9562 : Index := 0#32
  ![v21827.toNat, 3, 2496, 0]
def k0_off676 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21861 : Index := Scalar.indexCast v89
  let c3_9575 : Index := 3#32
  let c2528_9576 : Index := 2528#32
  let c0_9577 : Index := 0#32
  ![v21861.toNat, 3, 2528, 0]
def k0_off677 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21901 : Index := Scalar.indexCast v89
  let c2_9593 : Index := 2#32
  let c160_9594 : Index := 160#32
  let c0_9595 : Index := 0#32
  ![v21901.toNat, 2, 160, 0]
def k0_off678 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21916 : Index := Scalar.indexCast v89
  let c3_9604 : Index := 3#32
  let c160_9605 : Index := 160#32
  let c0_9606 : Index := 0#32
  ![v21916.toNat, 3, 160, 0]
def k0_off679 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21931 : Index := Scalar.indexCast v89
  let c2_9615 : Index := 2#32
  let c2560_9616 : Index := 2560#32
  let c0_9617 : Index := 0#32
  ![v21931.toNat, 2, 2560, 0]
def k0_off680 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21965 : Index := Scalar.indexCast v89
  let c2_9630 : Index := 2#32
  let c2592_9631 : Index := 2592#32
  let c0_9632 : Index := 0#32
  ![v21965.toNat, 2, 2592, 0]
def k0_off681 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v21999 : Index := Scalar.indexCast v89
  let c2_9645 : Index := 2#32
  let c2624_9646 : Index := 2624#32
  let c0_9647 : Index := 0#32
  ![v21999.toNat, 2, 2624, 0]
def k0_off682 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22033 : Index := Scalar.indexCast v89
  let c2_9660 : Index := 2#32
  let c2656_9661 : Index := 2656#32
  let c0_9662 : Index := 0#32
  ![v22033.toNat, 2, 2656, 0]
def k0_off683 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22068 : Index := Scalar.indexCast v89
  let c3_9675 : Index := 3#32
  let c2560_9676 : Index := 2560#32
  let c0_9677 : Index := 0#32
  ![v22068.toNat, 3, 2560, 0]
def k0_off684 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22102 : Index := Scalar.indexCast v89
  let c3_9690 : Index := 3#32
  let c2592_9691 : Index := 2592#32
  let c0_9692 : Index := 0#32
  ![v22102.toNat, 3, 2592, 0]
def k0_off685 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22136 : Index := Scalar.indexCast v89
  let c3_9705 : Index := 3#32
  let c2624_9706 : Index := 2624#32
  let c0_9707 : Index := 0#32
  ![v22136.toNat, 3, 2624, 0]
def k0_off686 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22170 : Index := Scalar.indexCast v89
  let c3_9720 : Index := 3#32
  let c2656_9721 : Index := 2656#32
  let c0_9722 : Index := 0#32
  ![v22170.toNat, 3, 2656, 0]
def k0_off687 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22210 : Index := Scalar.indexCast v89
  let c2_9738 : Index := 2#32
  let c2688_9739 : Index := 2688#32
  let c0_9740 : Index := 0#32
  ![v22210.toNat, 2, 2688, 0]
def k0_off688 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22244 : Index := Scalar.indexCast v89
  let c2_9753 : Index := 2#32
  let c2720_9754 : Index := 2720#32
  let c0_9755 : Index := 0#32
  ![v22244.toNat, 2, 2720, 0]
def k0_off689 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22278 : Index := Scalar.indexCast v89
  let c2_9768 : Index := 2#32
  let c2752_9769 : Index := 2752#32
  let c0_9770 : Index := 0#32
  ![v22278.toNat, 2, 2752, 0]
def k0_off690 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22312 : Index := Scalar.indexCast v89
  let c2_9783 : Index := 2#32
  let c2784_9784 : Index := 2784#32
  let c0_9785 : Index := 0#32
  ![v22312.toNat, 2, 2784, 0]
def k0_off691 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22347 : Index := Scalar.indexCast v89
  let c3_9798 : Index := 3#32
  let c2688_9799 : Index := 2688#32
  let c0_9800 : Index := 0#32
  ![v22347.toNat, 3, 2688, 0]
def k0_off692 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22381 : Index := Scalar.indexCast v89
  let c3_9813 : Index := 3#32
  let c2720_9814 : Index := 2720#32
  let c0_9815 : Index := 0#32
  ![v22381.toNat, 3, 2720, 0]
def k0_off693 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22415 : Index := Scalar.indexCast v89
  let c3_9828 : Index := 3#32
  let c2752_9829 : Index := 2752#32
  let c0_9830 : Index := 0#32
  ![v22415.toNat, 3, 2752, 0]
def k0_off694 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22449 : Index := Scalar.indexCast v89
  let c3_9843 : Index := 3#32
  let c2784_9844 : Index := 2784#32
  let c0_9845 : Index := 0#32
  ![v22449.toNat, 3, 2784, 0]
def k0_off695 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22489 : Index := Scalar.indexCast v89
  let c2_9861 : Index := 2#32
  let c176_9862 : Index := 176#32
  let c0_9863 : Index := 0#32
  ![v22489.toNat, 2, 176, 0]
def k0_off696 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22504 : Index := Scalar.indexCast v89
  let c3_9872 : Index := 3#32
  let c176_9873 : Index := 176#32
  let c0_9874 : Index := 0#32
  ![v22504.toNat, 3, 176, 0]
def k0_off697 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22519 : Index := Scalar.indexCast v89
  let c2_9883 : Index := 2#32
  let c2816_9884 : Index := 2816#32
  let c0_9885 : Index := 0#32
  ![v22519.toNat, 2, 2816, 0]
def k0_off698 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22553 : Index := Scalar.indexCast v89
  let c2_9898 : Index := 2#32
  let c2848_9899 : Index := 2848#32
  let c0_9900 : Index := 0#32
  ![v22553.toNat, 2, 2848, 0]
def k0_off699 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22587 : Index := Scalar.indexCast v89
  let c2_9913 : Index := 2#32
  let c2880_9914 : Index := 2880#32
  let c0_9915 : Index := 0#32
  ![v22587.toNat, 2, 2880, 0]
def k0_off700 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22621 : Index := Scalar.indexCast v89
  let c2_9928 : Index := 2#32
  let c2912_9929 : Index := 2912#32
  let c0_9930 : Index := 0#32
  ![v22621.toNat, 2, 2912, 0]
def k0_off701 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22656 : Index := Scalar.indexCast v89
  let c3_9943 : Index := 3#32
  let c2816_9944 : Index := 2816#32
  let c0_9945 : Index := 0#32
  ![v22656.toNat, 3, 2816, 0]
def k0_off702 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22690 : Index := Scalar.indexCast v89
  let c3_9958 : Index := 3#32
  let c2848_9959 : Index := 2848#32
  let c0_9960 : Index := 0#32
  ![v22690.toNat, 3, 2848, 0]
def k0_off703 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22724 : Index := Scalar.indexCast v89
  let c3_9973 : Index := 3#32
  let c2880_9974 : Index := 2880#32
  let c0_9975 : Index := 0#32
  ![v22724.toNat, 3, 2880, 0]
def k0_off704 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22758 : Index := Scalar.indexCast v89
  let c3_9988 : Index := 3#32
  let c2912_9989 : Index := 2912#32
  let c0_9990 : Index := 0#32
  ![v22758.toNat, 3, 2912, 0]
def k0_off705 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22798 : Index := Scalar.indexCast v89
  let c2_10006 : Index := 2#32
  let c2944_10007 : Index := 2944#32
  let c0_10008 : Index := 0#32
  ![v22798.toNat, 2, 2944, 0]
def k0_off706 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22832 : Index := Scalar.indexCast v89
  let c2_10021 : Index := 2#32
  let c2976_10022 : Index := 2976#32
  let c0_10023 : Index := 0#32
  ![v22832.toNat, 2, 2976, 0]
def k0_off707 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22866 : Index := Scalar.indexCast v89
  let c2_10036 : Index := 2#32
  let c3008_10037 : Index := 3008#32
  let c0_10038 : Index := 0#32
  ![v22866.toNat, 2, 3008, 0]
def k0_off708 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22900 : Index := Scalar.indexCast v89
  let c2_10051 : Index := 2#32
  let c3040_10052 : Index := 3040#32
  let c0_10053 : Index := 0#32
  ![v22900.toNat, 2, 3040, 0]
def k0_off709 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22935 : Index := Scalar.indexCast v89
  let c3_10066 : Index := 3#32
  let c2944_10067 : Index := 2944#32
  let c0_10068 : Index := 0#32
  ![v22935.toNat, 3, 2944, 0]
def k0_off710 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v22969 : Index := Scalar.indexCast v89
  let c3_10081 : Index := 3#32
  let c2976_10082 : Index := 2976#32
  let c0_10083 : Index := 0#32
  ![v22969.toNat, 3, 2976, 0]
def k0_off711 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23003 : Index := Scalar.indexCast v89
  let c3_10096 : Index := 3#32
  let c3008_10097 : Index := 3008#32
  let c0_10098 : Index := 0#32
  ![v23003.toNat, 3, 3008, 0]
def k0_off712 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23037 : Index := Scalar.indexCast v89
  let c3_10111 : Index := 3#32
  let c3040_10112 : Index := 3040#32
  let c0_10113 : Index := 0#32
  ![v23037.toNat, 3, 3040, 0]
def k0_off713 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23077 : Index := Scalar.indexCast v89
  let c2_10129 : Index := 2#32
  let c192_10130 : Index := 192#32
  let c0_10131 : Index := 0#32
  ![v23077.toNat, 2, 192, 0]
def k0_off714 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23092 : Index := Scalar.indexCast v89
  let c3_10140 : Index := 3#32
  let c192_10141 : Index := 192#32
  let c0_10142 : Index := 0#32
  ![v23092.toNat, 3, 192, 0]
def k0_off715 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23107 : Index := Scalar.indexCast v89
  let c2_10151 : Index := 2#32
  let c3072_10152 : Index := 3072#32
  let c0_10153 : Index := 0#32
  ![v23107.toNat, 2, 3072, 0]
def k0_off716 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23141 : Index := Scalar.indexCast v89
  let c2_10166 : Index := 2#32
  let c3104_10167 : Index := 3104#32
  let c0_10168 : Index := 0#32
  ![v23141.toNat, 2, 3104, 0]
def k0_off717 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23175 : Index := Scalar.indexCast v89
  let c2_10181 : Index := 2#32
  let c3136_10182 : Index := 3136#32
  let c0_10183 : Index := 0#32
  ![v23175.toNat, 2, 3136, 0]
def k0_off718 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23209 : Index := Scalar.indexCast v89
  let c2_10196 : Index := 2#32
  let c3168_10197 : Index := 3168#32
  let c0_10198 : Index := 0#32
  ![v23209.toNat, 2, 3168, 0]
def k0_off719 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23244 : Index := Scalar.indexCast v89
  let c3_10211 : Index := 3#32
  let c3072_10212 : Index := 3072#32
  let c0_10213 : Index := 0#32
  ![v23244.toNat, 3, 3072, 0]
def k0_off720 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23278 : Index := Scalar.indexCast v89
  let c3_10226 : Index := 3#32
  let c3104_10227 : Index := 3104#32
  let c0_10228 : Index := 0#32
  ![v23278.toNat, 3, 3104, 0]
def k0_off721 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23312 : Index := Scalar.indexCast v89
  let c3_10241 : Index := 3#32
  let c3136_10242 : Index := 3136#32
  let c0_10243 : Index := 0#32
  ![v23312.toNat, 3, 3136, 0]
def k0_off722 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23346 : Index := Scalar.indexCast v89
  let c3_10256 : Index := 3#32
  let c3168_10257 : Index := 3168#32
  let c0_10258 : Index := 0#32
  ![v23346.toNat, 3, 3168, 0]
def k0_off723 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23386 : Index := Scalar.indexCast v89
  let c2_10274 : Index := 2#32
  let c3200_10275 : Index := 3200#32
  let c0_10276 : Index := 0#32
  ![v23386.toNat, 2, 3200, 0]
def k0_off724 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23420 : Index := Scalar.indexCast v89
  let c2_10289 : Index := 2#32
  let c3232_10290 : Index := 3232#32
  let c0_10291 : Index := 0#32
  ![v23420.toNat, 2, 3232, 0]
def k0_off725 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23454 : Index := Scalar.indexCast v89
  let c2_10304 : Index := 2#32
  let c3264_10305 : Index := 3264#32
  let c0_10306 : Index := 0#32
  ![v23454.toNat, 2, 3264, 0]
def k0_off726 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23488 : Index := Scalar.indexCast v89
  let c2_10319 : Index := 2#32
  let c3296_10320 : Index := 3296#32
  let c0_10321 : Index := 0#32
  ![v23488.toNat, 2, 3296, 0]
def k0_off727 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23523 : Index := Scalar.indexCast v89
  let c3_10334 : Index := 3#32
  let c3200_10335 : Index := 3200#32
  let c0_10336 : Index := 0#32
  ![v23523.toNat, 3, 3200, 0]
def k0_off728 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23557 : Index := Scalar.indexCast v89
  let c3_10349 : Index := 3#32
  let c3232_10350 : Index := 3232#32
  let c0_10351 : Index := 0#32
  ![v23557.toNat, 3, 3232, 0]
def k0_off729 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23591 : Index := Scalar.indexCast v89
  let c3_10364 : Index := 3#32
  let c3264_10365 : Index := 3264#32
  let c0_10366 : Index := 0#32
  ![v23591.toNat, 3, 3264, 0]
def k0_off730 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23625 : Index := Scalar.indexCast v89
  let c3_10379 : Index := 3#32
  let c3296_10380 : Index := 3296#32
  let c0_10381 : Index := 0#32
  ![v23625.toNat, 3, 3296, 0]
def k0_off731 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23665 : Index := Scalar.indexCast v89
  let c2_10397 : Index := 2#32
  let c208_10398 : Index := 208#32
  let c0_10399 : Index := 0#32
  ![v23665.toNat, 2, 208, 0]
def k0_off732 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23680 : Index := Scalar.indexCast v89
  let c3_10408 : Index := 3#32
  let c208_10409 : Index := 208#32
  let c0_10410 : Index := 0#32
  ![v23680.toNat, 3, 208, 0]
def k0_off733 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23695 : Index := Scalar.indexCast v89
  let c2_10419 : Index := 2#32
  let c3328_10420 : Index := 3328#32
  let c0_10421 : Index := 0#32
  ![v23695.toNat, 2, 3328, 0]
def k0_off734 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23729 : Index := Scalar.indexCast v89
  let c2_10434 : Index := 2#32
  let c3360_10435 : Index := 3360#32
  let c0_10436 : Index := 0#32
  ![v23729.toNat, 2, 3360, 0]
def k0_off735 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23763 : Index := Scalar.indexCast v89
  let c2_10449 : Index := 2#32
  let c3392_10450 : Index := 3392#32
  let c0_10451 : Index := 0#32
  ![v23763.toNat, 2, 3392, 0]
def k0_off736 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23797 : Index := Scalar.indexCast v89
  let c2_10464 : Index := 2#32
  let c3424_10465 : Index := 3424#32
  let c0_10466 : Index := 0#32
  ![v23797.toNat, 2, 3424, 0]
def k0_off737 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23832 : Index := Scalar.indexCast v89
  let c3_10479 : Index := 3#32
  let c3328_10480 : Index := 3328#32
  let c0_10481 : Index := 0#32
  ![v23832.toNat, 3, 3328, 0]
def k0_off738 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23866 : Index := Scalar.indexCast v89
  let c3_10494 : Index := 3#32
  let c3360_10495 : Index := 3360#32
  let c0_10496 : Index := 0#32
  ![v23866.toNat, 3, 3360, 0]
def k0_off739 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23900 : Index := Scalar.indexCast v89
  let c3_10509 : Index := 3#32
  let c3392_10510 : Index := 3392#32
  let c0_10511 : Index := 0#32
  ![v23900.toNat, 3, 3392, 0]
def k0_off740 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23934 : Index := Scalar.indexCast v89
  let c3_10524 : Index := 3#32
  let c3424_10525 : Index := 3424#32
  let c0_10526 : Index := 0#32
  ![v23934.toNat, 3, 3424, 0]
def k0_off741 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v23974 : Index := Scalar.indexCast v89
  let c2_10542 : Index := 2#32
  let c3456_10543 : Index := 3456#32
  let c0_10544 : Index := 0#32
  ![v23974.toNat, 2, 3456, 0]
def k0_off742 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24008 : Index := Scalar.indexCast v89
  let c2_10557 : Index := 2#32
  let c3488_10558 : Index := 3488#32
  let c0_10559 : Index := 0#32
  ![v24008.toNat, 2, 3488, 0]
def k0_off743 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24042 : Index := Scalar.indexCast v89
  let c2_10572 : Index := 2#32
  let c3520_10573 : Index := 3520#32
  let c0_10574 : Index := 0#32
  ![v24042.toNat, 2, 3520, 0]
def k0_off744 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24076 : Index := Scalar.indexCast v89
  let c2_10587 : Index := 2#32
  let c3552_10588 : Index := 3552#32
  let c0_10589 : Index := 0#32
  ![v24076.toNat, 2, 3552, 0]
def k0_off745 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24111 : Index := Scalar.indexCast v89
  let c3_10602 : Index := 3#32
  let c3456_10603 : Index := 3456#32
  let c0_10604 : Index := 0#32
  ![v24111.toNat, 3, 3456, 0]
def k0_off746 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24145 : Index := Scalar.indexCast v89
  let c3_10617 : Index := 3#32
  let c3488_10618 : Index := 3488#32
  let c0_10619 : Index := 0#32
  ![v24145.toNat, 3, 3488, 0]
def k0_off747 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24179 : Index := Scalar.indexCast v89
  let c3_10632 : Index := 3#32
  let c3520_10633 : Index := 3520#32
  let c0_10634 : Index := 0#32
  ![v24179.toNat, 3, 3520, 0]
def k0_off748 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24213 : Index := Scalar.indexCast v89
  let c3_10647 : Index := 3#32
  let c3552_10648 : Index := 3552#32
  let c0_10649 : Index := 0#32
  ![v24213.toNat, 3, 3552, 0]
def k0_off749 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24253 : Index := Scalar.indexCast v89
  let c2_10665 : Index := 2#32
  let c224_10666 : Index := 224#32
  let c0_10667 : Index := 0#32
  ![v24253.toNat, 2, 224, 0]
def k0_off750 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24268 : Index := Scalar.indexCast v89
  let c3_10676 : Index := 3#32
  let c224_10677 : Index := 224#32
  let c0_10678 : Index := 0#32
  ![v24268.toNat, 3, 224, 0]
def k0_off751 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24283 : Index := Scalar.indexCast v89
  let c2_10687 : Index := 2#32
  let c3584_10688 : Index := 3584#32
  let c0_10689 : Index := 0#32
  ![v24283.toNat, 2, 3584, 0]
def k0_off752 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24317 : Index := Scalar.indexCast v89
  let c2_10702 : Index := 2#32
  let c3616_10703 : Index := 3616#32
  let c0_10704 : Index := 0#32
  ![v24317.toNat, 2, 3616, 0]
def k0_off753 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24351 : Index := Scalar.indexCast v89
  let c2_10717 : Index := 2#32
  let c3648_10718 : Index := 3648#32
  let c0_10719 : Index := 0#32
  ![v24351.toNat, 2, 3648, 0]
def k0_off754 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24385 : Index := Scalar.indexCast v89
  let c2_10732 : Index := 2#32
  let c3680_10733 : Index := 3680#32
  let c0_10734 : Index := 0#32
  ![v24385.toNat, 2, 3680, 0]
def k0_off755 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24420 : Index := Scalar.indexCast v89
  let c3_10747 : Index := 3#32
  let c3584_10748 : Index := 3584#32
  let c0_10749 : Index := 0#32
  ![v24420.toNat, 3, 3584, 0]
def k0_off756 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24454 : Index := Scalar.indexCast v89
  let c3_10762 : Index := 3#32
  let c3616_10763 : Index := 3616#32
  let c0_10764 : Index := 0#32
  ![v24454.toNat, 3, 3616, 0]
def k0_off757 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24488 : Index := Scalar.indexCast v89
  let c3_10777 : Index := 3#32
  let c3648_10778 : Index := 3648#32
  let c0_10779 : Index := 0#32
  ![v24488.toNat, 3, 3648, 0]
def k0_off758 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24522 : Index := Scalar.indexCast v89
  let c3_10792 : Index := 3#32
  let c3680_10793 : Index := 3680#32
  let c0_10794 : Index := 0#32
  ![v24522.toNat, 3, 3680, 0]
def k0_off759 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24562 : Index := Scalar.indexCast v89
  let c2_10810 : Index := 2#32
  let c3712_10811 : Index := 3712#32
  let c0_10812 : Index := 0#32
  ![v24562.toNat, 2, 3712, 0]
def k0_off760 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24596 : Index := Scalar.indexCast v89
  let c2_10825 : Index := 2#32
  let c3744_10826 : Index := 3744#32
  let c0_10827 : Index := 0#32
  ![v24596.toNat, 2, 3744, 0]
def k0_off761 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24630 : Index := Scalar.indexCast v89
  let c2_10840 : Index := 2#32
  let c3776_10841 : Index := 3776#32
  let c0_10842 : Index := 0#32
  ![v24630.toNat, 2, 3776, 0]
def k0_off762 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24664 : Index := Scalar.indexCast v89
  let c2_10855 : Index := 2#32
  let c3808_10856 : Index := 3808#32
  let c0_10857 : Index := 0#32
  ![v24664.toNat, 2, 3808, 0]
def k0_off763 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24699 : Index := Scalar.indexCast v89
  let c3_10870 : Index := 3#32
  let c3712_10871 : Index := 3712#32
  let c0_10872 : Index := 0#32
  ![v24699.toNat, 3, 3712, 0]
def k0_off764 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24733 : Index := Scalar.indexCast v89
  let c3_10885 : Index := 3#32
  let c3744_10886 : Index := 3744#32
  let c0_10887 : Index := 0#32
  ![v24733.toNat, 3, 3744, 0]
def k0_off765 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24767 : Index := Scalar.indexCast v89
  let c3_10900 : Index := 3#32
  let c3776_10901 : Index := 3776#32
  let c0_10902 : Index := 0#32
  ![v24767.toNat, 3, 3776, 0]
def k0_off766 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24801 : Index := Scalar.indexCast v89
  let c3_10915 : Index := 3#32
  let c3808_10916 : Index := 3808#32
  let c0_10917 : Index := 0#32
  ![v24801.toNat, 3, 3808, 0]
def k0_off767 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24841 : Index := Scalar.indexCast v89
  let c2_10933 : Index := 2#32
  let c240_10934 : Index := 240#32
  let c0_10935 : Index := 0#32
  ![v24841.toNat, 2, 240, 0]
def k0_off768 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24856 : Index := Scalar.indexCast v89
  let c3_10944 : Index := 3#32
  let c240_10945 : Index := 240#32
  let c0_10946 : Index := 0#32
  ![v24856.toNat, 3, 240, 0]
def k0_off769 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24871 : Index := Scalar.indexCast v89
  let c2_10955 : Index := 2#32
  let c3840_10956 : Index := 3840#32
  let c0_10957 : Index := 0#32
  ![v24871.toNat, 2, 3840, 0]
def k0_off770 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24905 : Index := Scalar.indexCast v89
  let c2_10970 : Index := 2#32
  let c3872_10971 : Index := 3872#32
  let c0_10972 : Index := 0#32
  ![v24905.toNat, 2, 3872, 0]
def k0_off771 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24939 : Index := Scalar.indexCast v89
  let c2_10985 : Index := 2#32
  let c3904_10986 : Index := 3904#32
  let c0_10987 : Index := 0#32
  ![v24939.toNat, 2, 3904, 0]
def k0_off772 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v24973 : Index := Scalar.indexCast v89
  let c2_11000 : Index := 2#32
  let c3936_11001 : Index := 3936#32
  let c0_11002 : Index := 0#32
  ![v24973.toNat, 2, 3936, 0]
def k0_off773 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25008 : Index := Scalar.indexCast v89
  let c3_11015 : Index := 3#32
  let c3840_11016 : Index := 3840#32
  let c0_11017 : Index := 0#32
  ![v25008.toNat, 3, 3840, 0]
def k0_off774 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25042 : Index := Scalar.indexCast v89
  let c3_11030 : Index := 3#32
  let c3872_11031 : Index := 3872#32
  let c0_11032 : Index := 0#32
  ![v25042.toNat, 3, 3872, 0]
def k0_off775 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25076 : Index := Scalar.indexCast v89
  let c3_11045 : Index := 3#32
  let c3904_11046 : Index := 3904#32
  let c0_11047 : Index := 0#32
  ![v25076.toNat, 3, 3904, 0]
def k0_off776 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25110 : Index := Scalar.indexCast v89
  let c3_11060 : Index := 3#32
  let c3936_11061 : Index := 3936#32
  let c0_11062 : Index := 0#32
  ![v25110.toNat, 3, 3936, 0]
def k0_off777 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25150 : Index := Scalar.indexCast v89
  let c2_11078 : Index := 2#32
  let c3968_11079 : Index := 3968#32
  let c0_11080 : Index := 0#32
  ![v25150.toNat, 2, 3968, 0]
def k0_off778 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25184 : Index := Scalar.indexCast v89
  let c2_11093 : Index := 2#32
  let c4000_11094 : Index := 4000#32
  let c0_11095 : Index := 0#32
  ![v25184.toNat, 2, 4000, 0]
def k0_off779 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25218 : Index := Scalar.indexCast v89
  let c2_11108 : Index := 2#32
  let c4032_11109 : Index := 4032#32
  let c0_11110 : Index := 0#32
  ![v25218.toNat, 2, 4032, 0]
def k0_off780 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25252 : Index := Scalar.indexCast v89
  let c2_11123 : Index := 2#32
  let c4064_11124 : Index := 4064#32
  let c0_11125 : Index := 0#32
  ![v25252.toNat, 2, 4064, 0]
def k0_off781 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25287 : Index := Scalar.indexCast v89
  let c3_11138 : Index := 3#32
  let c3968_11139 : Index := 3968#32
  let c0_11140 : Index := 0#32
  ![v25287.toNat, 3, 3968, 0]
def k0_off782 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25321 : Index := Scalar.indexCast v89
  let c3_11153 : Index := 3#32
  let c4000_11154 : Index := 4000#32
  let c0_11155 : Index := 0#32
  ![v25321.toNat, 3, 4000, 0]
def k0_off783 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25355 : Index := Scalar.indexCast v89
  let c3_11168 : Index := 3#32
  let c4032_11169 : Index := 4032#32
  let c0_11170 : Index := 0#32
  ![v25355.toNat, 3, 4032, 0]
def k0_off784 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25389 : Index := Scalar.indexCast v89
  let c3_11183 : Index := 3#32
  let c4064_11184 : Index := 4064#32
  let c0_11185 : Index := 0#32
  ![v25389.toNat, 3, 4064, 0]
def k0_off785 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25429 : Index := Scalar.indexCast v89
  let c2_11201 : Index := 2#32
  let c256_11202 : Index := 256#32
  let c0_11203 : Index := 0#32
  ![v25429.toNat, 2, 256, 0]
def k0_off786 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25444 : Index := Scalar.indexCast v89
  let c3_11212 : Index := 3#32
  let c256_11213 : Index := 256#32
  let c0_11214 : Index := 0#32
  ![v25444.toNat, 3, 256, 0]
def k0_off787 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25459 : Index := Scalar.indexCast v89
  let c2_11223 : Index := 2#32
  let c4096_11224 : Index := 4096#32
  let c0_11225 : Index := 0#32
  ![v25459.toNat, 2, 4096, 0]
def k0_off788 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25493 : Index := Scalar.indexCast v89
  let c2_11238 : Index := 2#32
  let c4128_11239 : Index := 4128#32
  let c0_11240 : Index := 0#32
  ![v25493.toNat, 2, 4128, 0]
def k0_off789 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25527 : Index := Scalar.indexCast v89
  let c2_11253 : Index := 2#32
  let c4160_11254 : Index := 4160#32
  let c0_11255 : Index := 0#32
  ![v25527.toNat, 2, 4160, 0]
def k0_off790 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25561 : Index := Scalar.indexCast v89
  let c2_11268 : Index := 2#32
  let c4192_11269 : Index := 4192#32
  let c0_11270 : Index := 0#32
  ![v25561.toNat, 2, 4192, 0]
def k0_off791 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25596 : Index := Scalar.indexCast v89
  let c3_11283 : Index := 3#32
  let c4096_11284 : Index := 4096#32
  let c0_11285 : Index := 0#32
  ![v25596.toNat, 3, 4096, 0]
def k0_off792 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25630 : Index := Scalar.indexCast v89
  let c3_11298 : Index := 3#32
  let c4128_11299 : Index := 4128#32
  let c0_11300 : Index := 0#32
  ![v25630.toNat, 3, 4128, 0]
def k0_off793 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25664 : Index := Scalar.indexCast v89
  let c3_11313 : Index := 3#32
  let c4160_11314 : Index := 4160#32
  let c0_11315 : Index := 0#32
  ![v25664.toNat, 3, 4160, 0]
def k0_off794 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25698 : Index := Scalar.indexCast v89
  let c3_11328 : Index := 3#32
  let c4192_11329 : Index := 4192#32
  let c0_11330 : Index := 0#32
  ![v25698.toNat, 3, 4192, 0]
def k0_off795 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25738 : Index := Scalar.indexCast v89
  let c2_11346 : Index := 2#32
  let c4224_11347 : Index := 4224#32
  let c0_11348 : Index := 0#32
  ![v25738.toNat, 2, 4224, 0]
def k0_off796 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25772 : Index := Scalar.indexCast v89
  let c2_11361 : Index := 2#32
  let c4256_11362 : Index := 4256#32
  let c0_11363 : Index := 0#32
  ![v25772.toNat, 2, 4256, 0]
def k0_off797 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25806 : Index := Scalar.indexCast v89
  let c2_11376 : Index := 2#32
  let c4288_11377 : Index := 4288#32
  let c0_11378 : Index := 0#32
  ![v25806.toNat, 2, 4288, 0]
def k0_off798 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25840 : Index := Scalar.indexCast v89
  let c2_11391 : Index := 2#32
  let c4320_11392 : Index := 4320#32
  let c0_11393 : Index := 0#32
  ![v25840.toNat, 2, 4320, 0]
def k0_off799 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25875 : Index := Scalar.indexCast v89
  let c3_11406 : Index := 3#32
  let c4224_11407 : Index := 4224#32
  let c0_11408 : Index := 0#32
  ![v25875.toNat, 3, 4224, 0]
def k0_off800 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25909 : Index := Scalar.indexCast v89
  let c3_11421 : Index := 3#32
  let c4256_11422 : Index := 4256#32
  let c0_11423 : Index := 0#32
  ![v25909.toNat, 3, 4256, 0]
def k0_off801 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25943 : Index := Scalar.indexCast v89
  let c3_11436 : Index := 3#32
  let c4288_11437 : Index := 4288#32
  let c0_11438 : Index := 0#32
  ![v25943.toNat, 3, 4288, 0]
def k0_off802 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v25977 : Index := Scalar.indexCast v89
  let c3_11451 : Index := 3#32
  let c4320_11452 : Index := 4320#32
  let c0_11453 : Index := 0#32
  ![v25977.toNat, 3, 4320, 0]
def k0_off803 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26017 : Index := Scalar.indexCast v89
  let c2_11469 : Index := 2#32
  let c272_11470 : Index := 272#32
  let c0_11471 : Index := 0#32
  ![v26017.toNat, 2, 272, 0]
def k0_off804 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26032 : Index := Scalar.indexCast v89
  let c3_11480 : Index := 3#32
  let c272_11481 : Index := 272#32
  let c0_11482 : Index := 0#32
  ![v26032.toNat, 3, 272, 0]
def k0_off805 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26047 : Index := Scalar.indexCast v89
  let c2_11491 : Index := 2#32
  let c4352_11492 : Index := 4352#32
  let c0_11493 : Index := 0#32
  ![v26047.toNat, 2, 4352, 0]
def k0_off806 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26081 : Index := Scalar.indexCast v89
  let c2_11506 : Index := 2#32
  let c4384_11507 : Index := 4384#32
  let c0_11508 : Index := 0#32
  ![v26081.toNat, 2, 4384, 0]
def k0_off807 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26115 : Index := Scalar.indexCast v89
  let c2_11521 : Index := 2#32
  let c4416_11522 : Index := 4416#32
  let c0_11523 : Index := 0#32
  ![v26115.toNat, 2, 4416, 0]
def k0_off808 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26149 : Index := Scalar.indexCast v89
  let c2_11536 : Index := 2#32
  let c4448_11537 : Index := 4448#32
  let c0_11538 : Index := 0#32
  ![v26149.toNat, 2, 4448, 0]
def k0_off809 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26184 : Index := Scalar.indexCast v89
  let c3_11551 : Index := 3#32
  let c4352_11552 : Index := 4352#32
  let c0_11553 : Index := 0#32
  ![v26184.toNat, 3, 4352, 0]
def k0_off810 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26218 : Index := Scalar.indexCast v89
  let c3_11566 : Index := 3#32
  let c4384_11567 : Index := 4384#32
  let c0_11568 : Index := 0#32
  ![v26218.toNat, 3, 4384, 0]
def k0_off811 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26252 : Index := Scalar.indexCast v89
  let c3_11581 : Index := 3#32
  let c4416_11582 : Index := 4416#32
  let c0_11583 : Index := 0#32
  ![v26252.toNat, 3, 4416, 0]
def k0_off812 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26286 : Index := Scalar.indexCast v89
  let c3_11596 : Index := 3#32
  let c4448_11597 : Index := 4448#32
  let c0_11598 : Index := 0#32
  ![v26286.toNat, 3, 4448, 0]
def k0_off813 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26326 : Index := Scalar.indexCast v89
  let c2_11614 : Index := 2#32
  let c4480_11615 : Index := 4480#32
  let c0_11616 : Index := 0#32
  ![v26326.toNat, 2, 4480, 0]
def k0_off814 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26360 : Index := Scalar.indexCast v89
  let c2_11629 : Index := 2#32
  let c4512_11630 : Index := 4512#32
  let c0_11631 : Index := 0#32
  ![v26360.toNat, 2, 4512, 0]
def k0_off815 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26394 : Index := Scalar.indexCast v89
  let c2_11644 : Index := 2#32
  let c4544_11645 : Index := 4544#32
  let c0_11646 : Index := 0#32
  ![v26394.toNat, 2, 4544, 0]
def k0_off816 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26428 : Index := Scalar.indexCast v89
  let c2_11659 : Index := 2#32
  let c4576_11660 : Index := 4576#32
  let c0_11661 : Index := 0#32
  ![v26428.toNat, 2, 4576, 0]
def k0_off817 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26463 : Index := Scalar.indexCast v89
  let c3_11674 : Index := 3#32
  let c4480_11675 : Index := 4480#32
  let c0_11676 : Index := 0#32
  ![v26463.toNat, 3, 4480, 0]
def k0_off818 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26497 : Index := Scalar.indexCast v89
  let c3_11689 : Index := 3#32
  let c4512_11690 : Index := 4512#32
  let c0_11691 : Index := 0#32
  ![v26497.toNat, 3, 4512, 0]
def k0_off819 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26531 : Index := Scalar.indexCast v89
  let c3_11704 : Index := 3#32
  let c4544_11705 : Index := 4544#32
  let c0_11706 : Index := 0#32
  ![v26531.toNat, 3, 4544, 0]
def k0_off820 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26565 : Index := Scalar.indexCast v89
  let c3_11719 : Index := 3#32
  let c4576_11720 : Index := 4576#32
  let c0_11721 : Index := 0#32
  ![v26565.toNat, 3, 4576, 0]
def k0_off821 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26605 : Index := Scalar.indexCast v89
  let c2_11737 : Index := 2#32
  let c288_11738 : Index := 288#32
  let c0_11739 : Index := 0#32
  ![v26605.toNat, 2, 288, 0]
def k0_off822 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26620 : Index := Scalar.indexCast v89
  let c3_11748 : Index := 3#32
  let c288_11749 : Index := 288#32
  let c0_11750 : Index := 0#32
  ![v26620.toNat, 3, 288, 0]
def k0_off823 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26635 : Index := Scalar.indexCast v89
  let c2_11759 : Index := 2#32
  let c4608_11760 : Index := 4608#32
  let c0_11761 : Index := 0#32
  ![v26635.toNat, 2, 4608, 0]
def k0_off824 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26669 : Index := Scalar.indexCast v89
  let c2_11774 : Index := 2#32
  let c4640_11775 : Index := 4640#32
  let c0_11776 : Index := 0#32
  ![v26669.toNat, 2, 4640, 0]
def k0_off825 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26703 : Index := Scalar.indexCast v89
  let c2_11789 : Index := 2#32
  let c4672_11790 : Index := 4672#32
  let c0_11791 : Index := 0#32
  ![v26703.toNat, 2, 4672, 0]
def k0_off826 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26737 : Index := Scalar.indexCast v89
  let c2_11804 : Index := 2#32
  let c4704_11805 : Index := 4704#32
  let c0_11806 : Index := 0#32
  ![v26737.toNat, 2, 4704, 0]
def k0_off827 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26772 : Index := Scalar.indexCast v89
  let c3_11819 : Index := 3#32
  let c4608_11820 : Index := 4608#32
  let c0_11821 : Index := 0#32
  ![v26772.toNat, 3, 4608, 0]
def k0_off828 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26806 : Index := Scalar.indexCast v89
  let c3_11834 : Index := 3#32
  let c4640_11835 : Index := 4640#32
  let c0_11836 : Index := 0#32
  ![v26806.toNat, 3, 4640, 0]
def k0_off829 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26840 : Index := Scalar.indexCast v89
  let c3_11849 : Index := 3#32
  let c4672_11850 : Index := 4672#32
  let c0_11851 : Index := 0#32
  ![v26840.toNat, 3, 4672, 0]
def k0_off830 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26874 : Index := Scalar.indexCast v89
  let c3_11864 : Index := 3#32
  let c4704_11865 : Index := 4704#32
  let c0_11866 : Index := 0#32
  ![v26874.toNat, 3, 4704, 0]
def k0_off831 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26914 : Index := Scalar.indexCast v89
  let c2_11882 : Index := 2#32
  let c4736_11883 : Index := 4736#32
  let c0_11884 : Index := 0#32
  ![v26914.toNat, 2, 4736, 0]
def k0_off832 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26948 : Index := Scalar.indexCast v89
  let c2_11897 : Index := 2#32
  let c4768_11898 : Index := 4768#32
  let c0_11899 : Index := 0#32
  ![v26948.toNat, 2, 4768, 0]
def k0_off833 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v26982 : Index := Scalar.indexCast v89
  let c2_11912 : Index := 2#32
  let c4800_11913 : Index := 4800#32
  let c0_11914 : Index := 0#32
  ![v26982.toNat, 2, 4800, 0]
def k0_off834 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27016 : Index := Scalar.indexCast v89
  let c2_11927 : Index := 2#32
  let c4832_11928 : Index := 4832#32
  let c0_11929 : Index := 0#32
  ![v27016.toNat, 2, 4832, 0]
def k0_off835 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27051 : Index := Scalar.indexCast v89
  let c3_11942 : Index := 3#32
  let c4736_11943 : Index := 4736#32
  let c0_11944 : Index := 0#32
  ![v27051.toNat, 3, 4736, 0]
def k0_off836 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27085 : Index := Scalar.indexCast v89
  let c3_11957 : Index := 3#32
  let c4768_11958 : Index := 4768#32
  let c0_11959 : Index := 0#32
  ![v27085.toNat, 3, 4768, 0]
def k0_off837 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27119 : Index := Scalar.indexCast v89
  let c3_11972 : Index := 3#32
  let c4800_11973 : Index := 4800#32
  let c0_11974 : Index := 0#32
  ![v27119.toNat, 3, 4800, 0]
def k0_off838 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27153 : Index := Scalar.indexCast v89
  let c3_11987 : Index := 3#32
  let c4832_11988 : Index := 4832#32
  let c0_11989 : Index := 0#32
  ![v27153.toNat, 3, 4832, 0]
def k0_off839 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27193 : Index := Scalar.indexCast v89
  let c2_12005 : Index := 2#32
  let c304_12006 : Index := 304#32
  let c0_12007 : Index := 0#32
  ![v27193.toNat, 2, 304, 0]
def k0_off840 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27208 : Index := Scalar.indexCast v89
  let c3_12016 : Index := 3#32
  let c304_12017 : Index := 304#32
  let c0_12018 : Index := 0#32
  ![v27208.toNat, 3, 304, 0]
def k0_off841 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27223 : Index := Scalar.indexCast v89
  let c2_12027 : Index := 2#32
  let c4864_12028 : Index := 4864#32
  let c0_12029 : Index := 0#32
  ![v27223.toNat, 2, 4864, 0]
def k0_off842 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27257 : Index := Scalar.indexCast v89
  let c2_12042 : Index := 2#32
  let c4896_12043 : Index := 4896#32
  let c0_12044 : Index := 0#32
  ![v27257.toNat, 2, 4896, 0]
def k0_off843 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27291 : Index := Scalar.indexCast v89
  let c2_12057 : Index := 2#32
  let c4928_12058 : Index := 4928#32
  let c0_12059 : Index := 0#32
  ![v27291.toNat, 2, 4928, 0]
def k0_off844 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27325 : Index := Scalar.indexCast v89
  let c2_12072 : Index := 2#32
  let c4960_12073 : Index := 4960#32
  let c0_12074 : Index := 0#32
  ![v27325.toNat, 2, 4960, 0]
def k0_off845 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27360 : Index := Scalar.indexCast v89
  let c3_12087 : Index := 3#32
  let c4864_12088 : Index := 4864#32
  let c0_12089 : Index := 0#32
  ![v27360.toNat, 3, 4864, 0]
def k0_off846 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27394 : Index := Scalar.indexCast v89
  let c3_12102 : Index := 3#32
  let c4896_12103 : Index := 4896#32
  let c0_12104 : Index := 0#32
  ![v27394.toNat, 3, 4896, 0]
def k0_off847 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27428 : Index := Scalar.indexCast v89
  let c3_12117 : Index := 3#32
  let c4928_12118 : Index := 4928#32
  let c0_12119 : Index := 0#32
  ![v27428.toNat, 3, 4928, 0]
def k0_off848 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27462 : Index := Scalar.indexCast v89
  let c3_12132 : Index := 3#32
  let c4960_12133 : Index := 4960#32
  let c0_12134 : Index := 0#32
  ![v27462.toNat, 3, 4960, 0]
def k0_off849 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27502 : Index := Scalar.indexCast v89
  let c2_12150 : Index := 2#32
  let c4992_12151 : Index := 4992#32
  let c0_12152 : Index := 0#32
  ![v27502.toNat, 2, 4992, 0]
def k0_off850 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27536 : Index := Scalar.indexCast v89
  let c2_12165 : Index := 2#32
  let c5024_12166 : Index := 5024#32
  let c0_12167 : Index := 0#32
  ![v27536.toNat, 2, 5024, 0]
def k0_off851 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27570 : Index := Scalar.indexCast v89
  let c2_12180 : Index := 2#32
  let c5056_12181 : Index := 5056#32
  let c0_12182 : Index := 0#32
  ![v27570.toNat, 2, 5056, 0]
def k0_off852 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27604 : Index := Scalar.indexCast v89
  let c2_12195 : Index := 2#32
  let c5088_12196 : Index := 5088#32
  let c0_12197 : Index := 0#32
  ![v27604.toNat, 2, 5088, 0]
def k0_off853 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27639 : Index := Scalar.indexCast v89
  let c3_12210 : Index := 3#32
  let c4992_12211 : Index := 4992#32
  let c0_12212 : Index := 0#32
  ![v27639.toNat, 3, 4992, 0]
def k0_off854 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27673 : Index := Scalar.indexCast v89
  let c3_12225 : Index := 3#32
  let c5024_12226 : Index := 5024#32
  let c0_12227 : Index := 0#32
  ![v27673.toNat, 3, 5024, 0]
def k0_off855 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27707 : Index := Scalar.indexCast v89
  let c3_12240 : Index := 3#32
  let c5056_12241 : Index := 5056#32
  let c0_12242 : Index := 0#32
  ![v27707.toNat, 3, 5056, 0]
def k0_off856 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27741 : Index := Scalar.indexCast v89
  let c3_12255 : Index := 3#32
  let c5088_12256 : Index := 5088#32
  let c0_12257 : Index := 0#32
  ![v27741.toNat, 3, 5088, 0]
def k0_off857 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27781 : Index := Scalar.indexCast v89
  let c2_12273 : Index := 2#32
  let c320_12274 : Index := 320#32
  let c0_12275 : Index := 0#32
  ![v27781.toNat, 2, 320, 0]
def k0_off858 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27796 : Index := Scalar.indexCast v89
  let c3_12284 : Index := 3#32
  let c320_12285 : Index := 320#32
  let c0_12286 : Index := 0#32
  ![v27796.toNat, 3, 320, 0]
def k0_off859 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27811 : Index := Scalar.indexCast v89
  let c2_12295 : Index := 2#32
  let c5120_12296 : Index := 5120#32
  let c0_12297 : Index := 0#32
  ![v27811.toNat, 2, 5120, 0]
def k0_off860 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27845 : Index := Scalar.indexCast v89
  let c2_12310 : Index := 2#32
  let c5152_12311 : Index := 5152#32
  let c0_12312 : Index := 0#32
  ![v27845.toNat, 2, 5152, 0]
def k0_off861 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27879 : Index := Scalar.indexCast v89
  let c2_12325 : Index := 2#32
  let c5184_12326 : Index := 5184#32
  let c0_12327 : Index := 0#32
  ![v27879.toNat, 2, 5184, 0]
def k0_off862 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27913 : Index := Scalar.indexCast v89
  let c2_12340 : Index := 2#32
  let c5216_12341 : Index := 5216#32
  let c0_12342 : Index := 0#32
  ![v27913.toNat, 2, 5216, 0]
def k0_off863 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27948 : Index := Scalar.indexCast v89
  let c3_12355 : Index := 3#32
  let c5120_12356 : Index := 5120#32
  let c0_12357 : Index := 0#32
  ![v27948.toNat, 3, 5120, 0]
def k0_off864 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v27982 : Index := Scalar.indexCast v89
  let c3_12370 : Index := 3#32
  let c5152_12371 : Index := 5152#32
  let c0_12372 : Index := 0#32
  ![v27982.toNat, 3, 5152, 0]
def k0_off865 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28016 : Index := Scalar.indexCast v89
  let c3_12385 : Index := 3#32
  let c5184_12386 : Index := 5184#32
  let c0_12387 : Index := 0#32
  ![v28016.toNat, 3, 5184, 0]
def k0_off866 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28050 : Index := Scalar.indexCast v89
  let c3_12400 : Index := 3#32
  let c5216_12401 : Index := 5216#32
  let c0_12402 : Index := 0#32
  ![v28050.toNat, 3, 5216, 0]
def k0_off867 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28090 : Index := Scalar.indexCast v89
  let c2_12418 : Index := 2#32
  let c5248_12419 : Index := 5248#32
  let c0_12420 : Index := 0#32
  ![v28090.toNat, 2, 5248, 0]
def k0_off868 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28124 : Index := Scalar.indexCast v89
  let c2_12433 : Index := 2#32
  let c5280_12434 : Index := 5280#32
  let c0_12435 : Index := 0#32
  ![v28124.toNat, 2, 5280, 0]
def k0_off869 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28158 : Index := Scalar.indexCast v89
  let c2_12448 : Index := 2#32
  let c5312_12449 : Index := 5312#32
  let c0_12450 : Index := 0#32
  ![v28158.toNat, 2, 5312, 0]
def k0_off870 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28192 : Index := Scalar.indexCast v89
  let c2_12463 : Index := 2#32
  let c5344_12464 : Index := 5344#32
  let c0_12465 : Index := 0#32
  ![v28192.toNat, 2, 5344, 0]
def k0_off871 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28227 : Index := Scalar.indexCast v89
  let c3_12478 : Index := 3#32
  let c5248_12479 : Index := 5248#32
  let c0_12480 : Index := 0#32
  ![v28227.toNat, 3, 5248, 0]
def k0_off872 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28261 : Index := Scalar.indexCast v89
  let c3_12493 : Index := 3#32
  let c5280_12494 : Index := 5280#32
  let c0_12495 : Index := 0#32
  ![v28261.toNat, 3, 5280, 0]
def k0_off873 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28295 : Index := Scalar.indexCast v89
  let c3_12508 : Index := 3#32
  let c5312_12509 : Index := 5312#32
  let c0_12510 : Index := 0#32
  ![v28295.toNat, 3, 5312, 0]
def k0_off874 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28329 : Index := Scalar.indexCast v89
  let c3_12523 : Index := 3#32
  let c5344_12524 : Index := 5344#32
  let c0_12525 : Index := 0#32
  ![v28329.toNat, 3, 5344, 0]
def k0_off875 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28369 : Index := Scalar.indexCast v89
  let c2_12541 : Index := 2#32
  let c336_12542 : Index := 336#32
  let c0_12543 : Index := 0#32
  ![v28369.toNat, 2, 336, 0]
def k0_off876 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28384 : Index := Scalar.indexCast v89
  let c3_12552 : Index := 3#32
  let c336_12553 : Index := 336#32
  let c0_12554 : Index := 0#32
  ![v28384.toNat, 3, 336, 0]
def k0_off877 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28399 : Index := Scalar.indexCast v89
  let c2_12563 : Index := 2#32
  let c5376_12564 : Index := 5376#32
  let c0_12565 : Index := 0#32
  ![v28399.toNat, 2, 5376, 0]
def k0_off878 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28433 : Index := Scalar.indexCast v89
  let c2_12578 : Index := 2#32
  let c5408_12579 : Index := 5408#32
  let c0_12580 : Index := 0#32
  ![v28433.toNat, 2, 5408, 0]
def k0_off879 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28467 : Index := Scalar.indexCast v89
  let c2_12593 : Index := 2#32
  let c5440_12594 : Index := 5440#32
  let c0_12595 : Index := 0#32
  ![v28467.toNat, 2, 5440, 0]
def k0_off880 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28501 : Index := Scalar.indexCast v89
  let c2_12608 : Index := 2#32
  let c5472_12609 : Index := 5472#32
  let c0_12610 : Index := 0#32
  ![v28501.toNat, 2, 5472, 0]
def k0_off881 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28536 : Index := Scalar.indexCast v89
  let c3_12623 : Index := 3#32
  let c5376_12624 : Index := 5376#32
  let c0_12625 : Index := 0#32
  ![v28536.toNat, 3, 5376, 0]
def k0_off882 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28570 : Index := Scalar.indexCast v89
  let c3_12638 : Index := 3#32
  let c5408_12639 : Index := 5408#32
  let c0_12640 : Index := 0#32
  ![v28570.toNat, 3, 5408, 0]
def k0_off883 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28604 : Index := Scalar.indexCast v89
  let c3_12653 : Index := 3#32
  let c5440_12654 : Index := 5440#32
  let c0_12655 : Index := 0#32
  ![v28604.toNat, 3, 5440, 0]
def k0_off884 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28638 : Index := Scalar.indexCast v89
  let c3_12668 : Index := 3#32
  let c5472_12669 : Index := 5472#32
  let c0_12670 : Index := 0#32
  ![v28638.toNat, 3, 5472, 0]
def k0_off885 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28678 : Index := Scalar.indexCast v89
  let c2_12686 : Index := 2#32
  let c5504_12687 : Index := 5504#32
  let c0_12688 : Index := 0#32
  ![v28678.toNat, 2, 5504, 0]
def k0_off886 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28712 : Index := Scalar.indexCast v89
  let c2_12701 : Index := 2#32
  let c5536_12702 : Index := 5536#32
  let c0_12703 : Index := 0#32
  ![v28712.toNat, 2, 5536, 0]
def k0_off887 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28746 : Index := Scalar.indexCast v89
  let c2_12716 : Index := 2#32
  let c5568_12717 : Index := 5568#32
  let c0_12718 : Index := 0#32
  ![v28746.toNat, 2, 5568, 0]
def k0_off888 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28780 : Index := Scalar.indexCast v89
  let c2_12731 : Index := 2#32
  let c5600_12732 : Index := 5600#32
  let c0_12733 : Index := 0#32
  ![v28780.toNat, 2, 5600, 0]
def k0_off889 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28815 : Index := Scalar.indexCast v89
  let c3_12746 : Index := 3#32
  let c5504_12747 : Index := 5504#32
  let c0_12748 : Index := 0#32
  ![v28815.toNat, 3, 5504, 0]
def k0_off890 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28849 : Index := Scalar.indexCast v89
  let c3_12761 : Index := 3#32
  let c5536_12762 : Index := 5536#32
  let c0_12763 : Index := 0#32
  ![v28849.toNat, 3, 5536, 0]
def k0_off891 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28883 : Index := Scalar.indexCast v89
  let c3_12776 : Index := 3#32
  let c5568_12777 : Index := 5568#32
  let c0_12778 : Index := 0#32
  ![v28883.toNat, 3, 5568, 0]
def k0_off892 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28917 : Index := Scalar.indexCast v89
  let c3_12791 : Index := 3#32
  let c5600_12792 : Index := 5600#32
  let c0_12793 : Index := 0#32
  ![v28917.toNat, 3, 5600, 0]
def k0_off893 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28957 : Index := Scalar.indexCast v89
  let c2_12809 : Index := 2#32
  let c352_12810 : Index := 352#32
  let c0_12811 : Index := 0#32
  ![v28957.toNat, 2, 352, 0]
def k0_off894 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28972 : Index := Scalar.indexCast v89
  let c3_12820 : Index := 3#32
  let c352_12821 : Index := 352#32
  let c0_12822 : Index := 0#32
  ![v28972.toNat, 3, 352, 0]
def k0_off895 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v28987 : Index := Scalar.indexCast v89
  let c2_12831 : Index := 2#32
  let c5632_12832 : Index := 5632#32
  let c0_12833 : Index := 0#32
  ![v28987.toNat, 2, 5632, 0]
def k0_off896 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29021 : Index := Scalar.indexCast v89
  let c2_12846 : Index := 2#32
  let c5664_12847 : Index := 5664#32
  let c0_12848 : Index := 0#32
  ![v29021.toNat, 2, 5664, 0]
def k0_off897 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29055 : Index := Scalar.indexCast v89
  let c2_12861 : Index := 2#32
  let c5696_12862 : Index := 5696#32
  let c0_12863 : Index := 0#32
  ![v29055.toNat, 2, 5696, 0]
def k0_off898 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29089 : Index := Scalar.indexCast v89
  let c2_12876 : Index := 2#32
  let c5728_12877 : Index := 5728#32
  let c0_12878 : Index := 0#32
  ![v29089.toNat, 2, 5728, 0]
def k0_off899 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29124 : Index := Scalar.indexCast v89
  let c3_12891 : Index := 3#32
  let c5632_12892 : Index := 5632#32
  let c0_12893 : Index := 0#32
  ![v29124.toNat, 3, 5632, 0]
def k0_off900 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29158 : Index := Scalar.indexCast v89
  let c3_12906 : Index := 3#32
  let c5664_12907 : Index := 5664#32
  let c0_12908 : Index := 0#32
  ![v29158.toNat, 3, 5664, 0]
def k0_off901 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29192 : Index := Scalar.indexCast v89
  let c3_12921 : Index := 3#32
  let c5696_12922 : Index := 5696#32
  let c0_12923 : Index := 0#32
  ![v29192.toNat, 3, 5696, 0]
def k0_off902 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29226 : Index := Scalar.indexCast v89
  let c3_12936 : Index := 3#32
  let c5728_12937 : Index := 5728#32
  let c0_12938 : Index := 0#32
  ![v29226.toNat, 3, 5728, 0]
def k0_off903 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29266 : Index := Scalar.indexCast v89
  let c2_12954 : Index := 2#32
  let c5760_12955 : Index := 5760#32
  let c0_12956 : Index := 0#32
  ![v29266.toNat, 2, 5760, 0]
def k0_off904 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29300 : Index := Scalar.indexCast v89
  let c2_12969 : Index := 2#32
  let c5792_12970 : Index := 5792#32
  let c0_12971 : Index := 0#32
  ![v29300.toNat, 2, 5792, 0]
def k0_off905 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29334 : Index := Scalar.indexCast v89
  let c2_12984 : Index := 2#32
  let c5824_12985 : Index := 5824#32
  let c0_12986 : Index := 0#32
  ![v29334.toNat, 2, 5824, 0]
def k0_off906 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29368 : Index := Scalar.indexCast v89
  let c2_12999 : Index := 2#32
  let c5856_13000 : Index := 5856#32
  let c0_13001 : Index := 0#32
  ![v29368.toNat, 2, 5856, 0]
def k0_off907 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29403 : Index := Scalar.indexCast v89
  let c3_13014 : Index := 3#32
  let c5760_13015 : Index := 5760#32
  let c0_13016 : Index := 0#32
  ![v29403.toNat, 3, 5760, 0]
def k0_off908 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29437 : Index := Scalar.indexCast v89
  let c3_13029 : Index := 3#32
  let c5792_13030 : Index := 5792#32
  let c0_13031 : Index := 0#32
  ![v29437.toNat, 3, 5792, 0]
def k0_off909 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29471 : Index := Scalar.indexCast v89
  let c3_13044 : Index := 3#32
  let c5824_13045 : Index := 5824#32
  let c0_13046 : Index := 0#32
  ![v29471.toNat, 3, 5824, 0]
def k0_off910 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29505 : Index := Scalar.indexCast v89
  let c3_13059 : Index := 3#32
  let c5856_13060 : Index := 5856#32
  let c0_13061 : Index := 0#32
  ![v29505.toNat, 3, 5856, 0]
def k0_off911 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29545 : Index := Scalar.indexCast v89
  let c2_13077 : Index := 2#32
  let c368_13078 : Index := 368#32
  let c0_13079 : Index := 0#32
  ![v29545.toNat, 2, 368, 0]
def k0_off912 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29560 : Index := Scalar.indexCast v89
  let c3_13088 : Index := 3#32
  let c368_13089 : Index := 368#32
  let c0_13090 : Index := 0#32
  ![v29560.toNat, 3, 368, 0]
def k0_off913 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29575 : Index := Scalar.indexCast v89
  let c2_13099 : Index := 2#32
  let c5888_13100 : Index := 5888#32
  let c0_13101 : Index := 0#32
  ![v29575.toNat, 2, 5888, 0]
def k0_off914 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29609 : Index := Scalar.indexCast v89
  let c2_13114 : Index := 2#32
  let c5920_13115 : Index := 5920#32
  let c0_13116 : Index := 0#32
  ![v29609.toNat, 2, 5920, 0]
def k0_off915 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29643 : Index := Scalar.indexCast v89
  let c2_13129 : Index := 2#32
  let c5952_13130 : Index := 5952#32
  let c0_13131 : Index := 0#32
  ![v29643.toNat, 2, 5952, 0]
def k0_off916 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29677 : Index := Scalar.indexCast v89
  let c2_13144 : Index := 2#32
  let c5984_13145 : Index := 5984#32
  let c0_13146 : Index := 0#32
  ![v29677.toNat, 2, 5984, 0]
def k0_off917 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29712 : Index := Scalar.indexCast v89
  let c3_13159 : Index := 3#32
  let c5888_13160 : Index := 5888#32
  let c0_13161 : Index := 0#32
  ![v29712.toNat, 3, 5888, 0]
def k0_off918 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29746 : Index := Scalar.indexCast v89
  let c3_13174 : Index := 3#32
  let c5920_13175 : Index := 5920#32
  let c0_13176 : Index := 0#32
  ![v29746.toNat, 3, 5920, 0]
def k0_off919 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29780 : Index := Scalar.indexCast v89
  let c3_13189 : Index := 3#32
  let c5952_13190 : Index := 5952#32
  let c0_13191 : Index := 0#32
  ![v29780.toNat, 3, 5952, 0]
def k0_off920 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29814 : Index := Scalar.indexCast v89
  let c3_13204 : Index := 3#32
  let c5984_13205 : Index := 5984#32
  let c0_13206 : Index := 0#32
  ![v29814.toNat, 3, 5984, 0]
def k0_off921 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29854 : Index := Scalar.indexCast v89
  let c2_13222 : Index := 2#32
  let c6016_13223 : Index := 6016#32
  let c0_13224 : Index := 0#32
  ![v29854.toNat, 2, 6016, 0]
def k0_off922 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29888 : Index := Scalar.indexCast v89
  let c2_13237 : Index := 2#32
  let c6048_13238 : Index := 6048#32
  let c0_13239 : Index := 0#32
  ![v29888.toNat, 2, 6048, 0]
def k0_off923 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29922 : Index := Scalar.indexCast v89
  let c2_13252 : Index := 2#32
  let c6080_13253 : Index := 6080#32
  let c0_13254 : Index := 0#32
  ![v29922.toNat, 2, 6080, 0]
def k0_off924 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29956 : Index := Scalar.indexCast v89
  let c2_13267 : Index := 2#32
  let c6112_13268 : Index := 6112#32
  let c0_13269 : Index := 0#32
  ![v29956.toNat, 2, 6112, 0]
def k0_off925 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v29991 : Index := Scalar.indexCast v89
  let c3_13282 : Index := 3#32
  let c6016_13283 : Index := 6016#32
  let c0_13284 : Index := 0#32
  ![v29991.toNat, 3, 6016, 0]
def k0_off926 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30025 : Index := Scalar.indexCast v89
  let c3_13297 : Index := 3#32
  let c6048_13298 : Index := 6048#32
  let c0_13299 : Index := 0#32
  ![v30025.toNat, 3, 6048, 0]
def k0_off927 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30059 : Index := Scalar.indexCast v89
  let c3_13312 : Index := 3#32
  let c6080_13313 : Index := 6080#32
  let c0_13314 : Index := 0#32
  ![v30059.toNat, 3, 6080, 0]
def k0_off928 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30093 : Index := Scalar.indexCast v89
  let c3_13327 : Index := 3#32
  let c6112_13328 : Index := 6112#32
  let c0_13329 : Index := 0#32
  ![v30093.toNat, 3, 6112, 0]
def k0_off929 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30133 : Index := Scalar.indexCast v89
  let c2_13345 : Index := 2#32
  let c384_13346 : Index := 384#32
  let c0_13347 : Index := 0#32
  ![v30133.toNat, 2, 384, 0]
def k0_off930 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30148 : Index := Scalar.indexCast v89
  let c3_13356 : Index := 3#32
  let c384_13357 : Index := 384#32
  let c0_13358 : Index := 0#32
  ![v30148.toNat, 3, 384, 0]
def k0_off931 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30163 : Index := Scalar.indexCast v89
  let c2_13367 : Index := 2#32
  let c6144_13368 : Index := 6144#32
  let c0_13369 : Index := 0#32
  ![v30163.toNat, 2, 6144, 0]
def k0_off932 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30197 : Index := Scalar.indexCast v89
  let c2_13382 : Index := 2#32
  let c6176_13383 : Index := 6176#32
  let c0_13384 : Index := 0#32
  ![v30197.toNat, 2, 6176, 0]
def k0_off933 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30231 : Index := Scalar.indexCast v89
  let c2_13397 : Index := 2#32
  let c6208_13398 : Index := 6208#32
  let c0_13399 : Index := 0#32
  ![v30231.toNat, 2, 6208, 0]
def k0_off934 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30265 : Index := Scalar.indexCast v89
  let c2_13412 : Index := 2#32
  let c6240_13413 : Index := 6240#32
  let c0_13414 : Index := 0#32
  ![v30265.toNat, 2, 6240, 0]
def k0_off935 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30300 : Index := Scalar.indexCast v89
  let c3_13427 : Index := 3#32
  let c6144_13428 : Index := 6144#32
  let c0_13429 : Index := 0#32
  ![v30300.toNat, 3, 6144, 0]
def k0_off936 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30334 : Index := Scalar.indexCast v89
  let c3_13442 : Index := 3#32
  let c6176_13443 : Index := 6176#32
  let c0_13444 : Index := 0#32
  ![v30334.toNat, 3, 6176, 0]
def k0_off937 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30368 : Index := Scalar.indexCast v89
  let c3_13457 : Index := 3#32
  let c6208_13458 : Index := 6208#32
  let c0_13459 : Index := 0#32
  ![v30368.toNat, 3, 6208, 0]
def k0_off938 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30402 : Index := Scalar.indexCast v89
  let c3_13472 : Index := 3#32
  let c6240_13473 : Index := 6240#32
  let c0_13474 : Index := 0#32
  ![v30402.toNat, 3, 6240, 0]
def k0_off939 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30442 : Index := Scalar.indexCast v89
  let c2_13490 : Index := 2#32
  let c6272_13491 : Index := 6272#32
  let c0_13492 : Index := 0#32
  ![v30442.toNat, 2, 6272, 0]
def k0_off940 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30476 : Index := Scalar.indexCast v89
  let c2_13505 : Index := 2#32
  let c6304_13506 : Index := 6304#32
  let c0_13507 : Index := 0#32
  ![v30476.toNat, 2, 6304, 0]
def k0_off941 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30510 : Index := Scalar.indexCast v89
  let c2_13520 : Index := 2#32
  let c6336_13521 : Index := 6336#32
  let c0_13522 : Index := 0#32
  ![v30510.toNat, 2, 6336, 0]
def k0_off942 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30544 : Index := Scalar.indexCast v89
  let c2_13535 : Index := 2#32
  let c6368_13536 : Index := 6368#32
  let c0_13537 : Index := 0#32
  ![v30544.toNat, 2, 6368, 0]
def k0_off943 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30579 : Index := Scalar.indexCast v89
  let c3_13550 : Index := 3#32
  let c6272_13551 : Index := 6272#32
  let c0_13552 : Index := 0#32
  ![v30579.toNat, 3, 6272, 0]
def k0_off944 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30613 : Index := Scalar.indexCast v89
  let c3_13565 : Index := 3#32
  let c6304_13566 : Index := 6304#32
  let c0_13567 : Index := 0#32
  ![v30613.toNat, 3, 6304, 0]
def k0_off945 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30647 : Index := Scalar.indexCast v89
  let c3_13580 : Index := 3#32
  let c6336_13581 : Index := 6336#32
  let c0_13582 : Index := 0#32
  ![v30647.toNat, 3, 6336, 0]
def k0_off946 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30681 : Index := Scalar.indexCast v89
  let c3_13595 : Index := 3#32
  let c6368_13596 : Index := 6368#32
  let c0_13597 : Index := 0#32
  ![v30681.toNat, 3, 6368, 0]
def k0_off947 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30721 : Index := Scalar.indexCast v89
  let c2_13613 : Index := 2#32
  let c400_13614 : Index := 400#32
  let c0_13615 : Index := 0#32
  ![v30721.toNat, 2, 400, 0]
def k0_off948 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30736 : Index := Scalar.indexCast v89
  let c3_13624 : Index := 3#32
  let c400_13625 : Index := 400#32
  let c0_13626 : Index := 0#32
  ![v30736.toNat, 3, 400, 0]
def k0_off949 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30751 : Index := Scalar.indexCast v89
  let c2_13635 : Index := 2#32
  let c6400_13636 : Index := 6400#32
  let c0_13637 : Index := 0#32
  ![v30751.toNat, 2, 6400, 0]
def k0_off950 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30785 : Index := Scalar.indexCast v89
  let c2_13650 : Index := 2#32
  let c6432_13651 : Index := 6432#32
  let c0_13652 : Index := 0#32
  ![v30785.toNat, 2, 6432, 0]
def k0_off951 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30819 : Index := Scalar.indexCast v89
  let c2_13665 : Index := 2#32
  let c6464_13666 : Index := 6464#32
  let c0_13667 : Index := 0#32
  ![v30819.toNat, 2, 6464, 0]
def k0_off952 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30853 : Index := Scalar.indexCast v89
  let c2_13680 : Index := 2#32
  let c6496_13681 : Index := 6496#32
  let c0_13682 : Index := 0#32
  ![v30853.toNat, 2, 6496, 0]
def k0_off953 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30888 : Index := Scalar.indexCast v89
  let c3_13695 : Index := 3#32
  let c6400_13696 : Index := 6400#32
  let c0_13697 : Index := 0#32
  ![v30888.toNat, 3, 6400, 0]
def k0_off954 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30922 : Index := Scalar.indexCast v89
  let c3_13710 : Index := 3#32
  let c6432_13711 : Index := 6432#32
  let c0_13712 : Index := 0#32
  ![v30922.toNat, 3, 6432, 0]
def k0_off955 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30956 : Index := Scalar.indexCast v89
  let c3_13725 : Index := 3#32
  let c6464_13726 : Index := 6464#32
  let c0_13727 : Index := 0#32
  ![v30956.toNat, 3, 6464, 0]
def k0_off956 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v30990 : Index := Scalar.indexCast v89
  let c3_13740 : Index := 3#32
  let c6496_13741 : Index := 6496#32
  let c0_13742 : Index := 0#32
  ![v30990.toNat, 3, 6496, 0]
def k0_off957 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31030 : Index := Scalar.indexCast v89
  let c2_13758 : Index := 2#32
  let c6528_13759 : Index := 6528#32
  let c0_13760 : Index := 0#32
  ![v31030.toNat, 2, 6528, 0]
def k0_off958 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31064 : Index := Scalar.indexCast v89
  let c2_13773 : Index := 2#32
  let c6560_13774 : Index := 6560#32
  let c0_13775 : Index := 0#32
  ![v31064.toNat, 2, 6560, 0]
def k0_off959 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31098 : Index := Scalar.indexCast v89
  let c2_13788 : Index := 2#32
  let c6592_13789 : Index := 6592#32
  let c0_13790 : Index := 0#32
  ![v31098.toNat, 2, 6592, 0]
def k0_off960 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31132 : Index := Scalar.indexCast v89
  let c2_13803 : Index := 2#32
  let c6624_13804 : Index := 6624#32
  let c0_13805 : Index := 0#32
  ![v31132.toNat, 2, 6624, 0]
def k0_off961 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31167 : Index := Scalar.indexCast v89
  let c3_13818 : Index := 3#32
  let c6528_13819 : Index := 6528#32
  let c0_13820 : Index := 0#32
  ![v31167.toNat, 3, 6528, 0]
def k0_off962 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31201 : Index := Scalar.indexCast v89
  let c3_13833 : Index := 3#32
  let c6560_13834 : Index := 6560#32
  let c0_13835 : Index := 0#32
  ![v31201.toNat, 3, 6560, 0]
def k0_off963 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31235 : Index := Scalar.indexCast v89
  let c3_13848 : Index := 3#32
  let c6592_13849 : Index := 6592#32
  let c0_13850 : Index := 0#32
  ![v31235.toNat, 3, 6592, 0]
def k0_off964 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31269 : Index := Scalar.indexCast v89
  let c3_13863 : Index := 3#32
  let c6624_13864 : Index := 6624#32
  let c0_13865 : Index := 0#32
  ![v31269.toNat, 3, 6624, 0]
def k0_off965 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31309 : Index := Scalar.indexCast v89
  let c2_13881 : Index := 2#32
  let c416_13882 : Index := 416#32
  let c0_13883 : Index := 0#32
  ![v31309.toNat, 2, 416, 0]
def k0_off966 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31324 : Index := Scalar.indexCast v89
  let c3_13892 : Index := 3#32
  let c416_13893 : Index := 416#32
  let c0_13894 : Index := 0#32
  ![v31324.toNat, 3, 416, 0]
def k0_off967 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31339 : Index := Scalar.indexCast v89
  let c2_13903 : Index := 2#32
  let c6656_13904 : Index := 6656#32
  let c0_13905 : Index := 0#32
  ![v31339.toNat, 2, 6656, 0]
def k0_off968 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31373 : Index := Scalar.indexCast v89
  let c2_13918 : Index := 2#32
  let c6688_13919 : Index := 6688#32
  let c0_13920 : Index := 0#32
  ![v31373.toNat, 2, 6688, 0]
def k0_off969 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31407 : Index := Scalar.indexCast v89
  let c2_13933 : Index := 2#32
  let c6720_13934 : Index := 6720#32
  let c0_13935 : Index := 0#32
  ![v31407.toNat, 2, 6720, 0]
def k0_off970 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31441 : Index := Scalar.indexCast v89
  let c2_13948 : Index := 2#32
  let c6752_13949 : Index := 6752#32
  let c0_13950 : Index := 0#32
  ![v31441.toNat, 2, 6752, 0]
def k0_off971 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31476 : Index := Scalar.indexCast v89
  let c3_13963 : Index := 3#32
  let c6656_13964 : Index := 6656#32
  let c0_13965 : Index := 0#32
  ![v31476.toNat, 3, 6656, 0]
def k0_off972 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31510 : Index := Scalar.indexCast v89
  let c3_13978 : Index := 3#32
  let c6688_13979 : Index := 6688#32
  let c0_13980 : Index := 0#32
  ![v31510.toNat, 3, 6688, 0]
def k0_off973 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31544 : Index := Scalar.indexCast v89
  let c3_13993 : Index := 3#32
  let c6720_13994 : Index := 6720#32
  let c0_13995 : Index := 0#32
  ![v31544.toNat, 3, 6720, 0]
def k0_off974 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31578 : Index := Scalar.indexCast v89
  let c3_14008 : Index := 3#32
  let c6752_14009 : Index := 6752#32
  let c0_14010 : Index := 0#32
  ![v31578.toNat, 3, 6752, 0]
def k0_off975 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31618 : Index := Scalar.indexCast v89
  let c2_14026 : Index := 2#32
  let c6784_14027 : Index := 6784#32
  let c0_14028 : Index := 0#32
  ![v31618.toNat, 2, 6784, 0]
def k0_off976 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31652 : Index := Scalar.indexCast v89
  let c2_14041 : Index := 2#32
  let c6816_14042 : Index := 6816#32
  let c0_14043 : Index := 0#32
  ![v31652.toNat, 2, 6816, 0]
def k0_off977 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31686 : Index := Scalar.indexCast v89
  let c2_14056 : Index := 2#32
  let c6848_14057 : Index := 6848#32
  let c0_14058 : Index := 0#32
  ![v31686.toNat, 2, 6848, 0]
def k0_off978 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31720 : Index := Scalar.indexCast v89
  let c2_14071 : Index := 2#32
  let c6880_14072 : Index := 6880#32
  let c0_14073 : Index := 0#32
  ![v31720.toNat, 2, 6880, 0]
def k0_off979 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31755 : Index := Scalar.indexCast v89
  let c3_14086 : Index := 3#32
  let c6784_14087 : Index := 6784#32
  let c0_14088 : Index := 0#32
  ![v31755.toNat, 3, 6784, 0]
def k0_off980 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31789 : Index := Scalar.indexCast v89
  let c3_14101 : Index := 3#32
  let c6816_14102 : Index := 6816#32
  let c0_14103 : Index := 0#32
  ![v31789.toNat, 3, 6816, 0]
def k0_off981 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31823 : Index := Scalar.indexCast v89
  let c3_14116 : Index := 3#32
  let c6848_14117 : Index := 6848#32
  let c0_14118 : Index := 0#32
  ![v31823.toNat, 3, 6848, 0]
def k0_off982 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let v31857 : Index := Scalar.indexCast v89
  let c3_14131 : Index := 3#32
  let c6880_14132 : Index := 6880#32
  let c0_14133 : Index := 0#32
  ![v31857.toNat, 3, 6880, 0]
def k0_mult14 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c512_i32_14149 : BitVec 32 := 512#32
  let v31897 : BitVec 32 := Scalar.muli arg9 c512_i32_14149
  let c256_i32_14150 : BitVec 32 := 256#32
  let v31898 : BitVec 32 := Scalar.addi v31897 c256_i32_14150
  v31898
def k0_cond1 (k0_t1 : Fin k0_t1_loop.trips) : BitVec 1 :=
  let c0_i32_93 : BitVec 32 := 0#32
  let c1_i32_94 : BitVec 32 := 1#32
  let arg9 : BitVec 32 := Scf.iv c0_i32_93 c1_i32_94 k0_t1
  let c2_i32_14153 : BitVec 32 := 2#32
  let v31906 : BitVec 32 := Scalar.addi arg9 c2_i32_14153
  let c10_i32_14154 : BitVec 32 := 10#32
  let v31907 : BitVec 1 := Scalar.cmpi .slt v31906 c10_i32_14154
  let v31908 : BitVec 32 := Scalar.extui v31907
  let c0_i32_14155 : BitVec 32 := 0#32
  let v31909 : BitVec 1 := Scalar.cmpi .ne v31908 c0_i32_14155
  v31909

def k0_mult15 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let c0_i32_14158 : BitVec 32 := 0#32
  let v31912 : BitVec 32 := Scalar.addi v31911 c0_i32_14158
  v31912
def k0_mult16 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let c128_i32_14159 : BitVec 32 := 128#32
  let v31914 : BitVec 32 := Scalar.addi v31911 c128_i32_14159
  v31914
def k0_mult17 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let c256_i32_14160 : BitVec 32 := 256#32
  let v31916 : BitVec 32 := Scalar.addi v31911 c256_i32_14160
  v31916
def k0_mult18 (k0_t1 : Fin k0_t1_loop.trips) : BitVec 32 :=
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let c384_i32_14161 : BitVec 32 := 384#32
  let v31918 : BitVec 32 := Scalar.addi v31911 c384_i32_14161
  v31918
def k0_off983 (k0_t1 : Fin k0_t1_loop.trips) : Fin 1 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  ![v89.toNat]
def k0_off984 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c0_i32_14162 : BitVec 32 := 0#32
  let c0_i32_14163 : BitVec 32 := 0#32
  let c0_i32_14164 : BitVec 32 := 0#32
  ![v89.toNat, 0, 0, 0]
def k0_off985 (k0_t1 : Fin k0_t1_loop.trips) (c0_i32_14158 : BitVec 32) : Fin 2 → Nat :=
  let c0_i32_14165 : BitVec 32 := 0#32
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let v31912 : BitVec 32 := Scalar.addi v31911 c0_i32_14158
  let v31913 : BitVec 32 := v31912
  ![0, v31913.toNat]
def k0_off986 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c0_i32_14166 : BitVec 32 := 0#32
  let c0_i32_14167 : BitVec 32 := 0#32
  let c0_i32_14168 : BitVec 32 := 0#32
  ![v89.toNat, 0, 0, 0]
def k0_off987 (k0_t1 : Fin k0_t1_loop.trips) (c0_i32_14158 : BitVec 32) : Fin 2 → Nat :=
  let c0_i32_14169 : BitVec 32 := 0#32
  let c0_i32_93 : BitVec 32 := 0#32
  let c1_i32_94 : BitVec 32 := 1#32
  let arg9 : BitVec 32 := Scf.iv c0_i32_93 c1_i32_94 k0_t1
  let c2_i32_14156 : BitVec 32 := 2#32
  let v31910 : BitVec 32 := Scalar.addi arg9 c2_i32_14156
  let c512_i32_14157 : BitVec 32 := 512#32
  let v31911 : BitVec 32 := Scalar.muli v31910 c512_i32_14157
  let v31912 : BitVec 32 := Scalar.addi v31911 c0_i32_14158
  let v31913 : BitVec 32 := v31912
  ![0, v31913.toNat]
def k0_off988 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c1_i32_14170 : BitVec 32 := 1#32
  let c0_i32_14171 : BitVec 32 := 0#32
  let c0_i32_14172 : BitVec 32 := 0#32
  ![v89.toNat, 1, 0, 0]
def k0_off989 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c1_i32_14174 : BitVec 32 := 1#32
  let c0_i32_14175 : BitVec 32 := 0#32
  let c0_i32_14176 : BitVec 32 := 0#32
  ![v89.toNat, 1, 0, 0]
def k0_off990 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c2_i32_14178 : BitVec 32 := 2#32
  let c0_i32_14179 : BitVec 32 := 0#32
  let c0_i32_14180 : BitVec 32 := 0#32
  ![v89.toNat, 2, 0, 0]
def k0_off991 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c2_i32_14182 : BitVec 32 := 2#32
  let c0_i32_14183 : BitVec 32 := 0#32
  let c0_i32_14184 : BitVec 32 := 0#32
  ![v89.toNat, 2, 0, 0]
def k0_off992 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c3_i32_14186 : BitVec 32 := 3#32
  let c0_i32_14187 : BitVec 32 := 0#32
  let c0_i32_14188 : BitVec 32 := 0#32
  ![v89.toNat, 3, 0, 0]
def k0_off993 (k0_t1 : Fin k0_t1_loop.trips) : Fin 4 → Nat :=
  let c0_i32_93 : BitVec 32 := 0#32
  let c1_i32_94 : BitVec 32 := 1#32
  let arg9 : BitVec 32 := Scf.iv c0_i32_93 c1_i32_94 k0_t1
  let c2_i32_96 : BitVec 32 := 2#32
  let v89 : BitVec 32 := Scalar.remsi arg9 c2_i32_96
  let c3_i32_14190 : BitVec 32 := 3#32
  let c0_i32_14191 : BitVec 32 := 0#32
  let c0_i32_14192 : BitVec 32 := 0#32
  ![v89.toNat, 3, 0, 0]
abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x13824 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DownReferenceIdeal.lean ====
abbrev S32x5120 : Shape := ⟨2, ![32, 5120]⟩
abbrev S32x13824 : Shape := ⟨2, ![32, 13824]⟩
abbrev S5120x432x16 : Shape := ⟨3, ![5120, 432, 16]⟩
abbrev S5120x432 : Shape := ⟨2, ![5120, 432]⟩
abbrev S5120x432x1 : Shape := ⟨3, ![5120, 432, 1]⟩
abbrev S5120x432x32 : Shape := ⟨3, ![5120, 432, 32]⟩
abbrev S5120x13824 : Shape := ⟨2, ![5120, 13824]⟩

abbrev nBuf : Space → Nat
  | .hbm => 5
  | .vmem => 5
  | .smem => 0
  | _ => 0

abbrev bufTy : (tb : Table) → Fin (tcTables nBuf tb) → BufTy
  | .hbm, ⟨0, _⟩ => ⟨S32x5120, .f32⟩
  | .hbm, ⟨1, _⟩ => ⟨S32x13824, .bf16⟩
  | .hbm, ⟨2, _⟩ => ⟨S5120x432x16, .i8⟩
  | .hbm, ⟨3, _⟩ => ⟨S5120x432, .bf16⟩
  | .hbm, ⟨4, _⟩ => ⟨S32x5120, .bf16⟩
  | .local _ .vmem, ⟨0, _⟩ => ⟨S32x5120, .f32⟩
  | .local _ .vmem, ⟨1, _⟩ => ⟨S32x13824, .bf16⟩
  | .local _ .vmem, ⟨2, _⟩ => ⟨S5120x432x16, .i8⟩
  | .local _ .vmem, ⟨3, _⟩ => ⟨S5120x432, .bf16⟩
  | .local _ .vmem, ⟨4, _⟩ => ⟨S32x5120, .bf16⟩
  | _, _ => ⟨S32x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x13824 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x432x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Body.lean ====
/- The kernel's body written again over three small programs (one copy, one pair of contraction tiles, one
   normalised column block) and recursion, and the proof that the printed body is this program. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.KernelIdeal

open Facts₀ Facts K0.R1.Facts₀ K0.R2.Facts₀ Shapes1.Facts₀ Shapes2.Facts₀ Shapes3.Facts₀
open Idealize.ShloMosaic Idealize.ShloMosaic.TcCoe Idealize.ShloMosaic.Tactic Idealize.SL.Sem

variable {F : FTy → Type} [FloatOps F]

/-- A program of the TensorCore. -/
abbrev PR (F : FTy → Type) [FloatOps F] (α : Type) := Prog (TpuEff nD τ sig (Elt F) Λ₀ .tc) α

/-! ## Rectangles inside their arrays -/

theorem inSC {s b r : ℕ} (hs : s < 2) (hb : b < 12) (hr : r + 32 ≤ 2560) (a : Fin 4) :
    (![s, b, r, 0] : Fin 4 → ℕ) a + S1x1x32x128.size a ≤ S2x12x2560x128.size a := by
  fin_cases a <;> simp [Shape.size] <;> omega
theorem inSCp {s b : ℕ} (hs : s < 2) (hb : b < 12) (a : Fin 4) :
    (![s, b, 0, 0] : Fin 4 → ℕ) a + S1x1x2560x128.size a ≤ S2x12x2560x128.size a := by
  fin_cases a <;> simp [Shape.size] <;> omega
theorem inSSp {s b : ℕ} (hs : s < 2) (hb : b < 12) (a : Fin 4) :
    (![s, b, 0, 0] : Fin 4 → ℕ) a + S1x1x160x128.size a ≤ S2x12x160x128.size a := by
  fin_cases a <;> simp [Shape.size] <;> omega
theorem inSS {s b r : ℕ} (hs : s < 2) (hb : b < 12) (hr : r + 16 ≤ 160) (a : Fin 4) :
    (![s, b, r, 0] : Fin 4 → ℕ) a + S1x1x16x128.size a ≤ S2x12x160x128.size a := by
  fin_cases a <;> simp [Shape.size] <;> omega
theorem inSP {b h r : ℕ} (hb : b < 12) (hh : h < 2) (hr : r + 8 ≤ 80) (a : Fin 4) :
    (![b, h, r, 0] : Fin 4 → ℕ) a + S1x1x8x128.size a ≤ S12x2x80x128.size a := by
  fin_cases a <;> simp [Shape.size] <;> omega
theorem inSPs {b h r : ℕ} (hb : b < 12) (hh : h < 2) (hr : r + 1 ≤ 80) (a : Fin 4) :
    S1x1x8x128.size a = 0 ∨ (![b, h, r, 0] : Fin 4 → Nat) a + (![1, 1, 0, 1] : Fin 4 → Nat) a * (S1x1x8x128.size a - 1) < S12x2x80x128.size a := by
  right; fin_cases a <;> simp [Shape.size] <;> omega
theorem inSH {j : ℕ} (hj : j + 256 ≤ 5120) (a : Fin 2) :
    (![0, j] : Fin 2 → ℕ) a + S32x256.size a ≤ S32x5120.size a := by
  fin_cases a <;> simp [Shape.size] <;> omega
theorem inSHb {j : ℕ} (hj : j + 128 ≤ 5120) (a : Fin 2) :
    (![0, j] : Fin 2 → ℕ) a + S32x128.size a ≤ S32x5120.size a := by
  fin_cases a <;> simp [Shape.size] <;> omega
theorem inSF {j : ℕ} (hj : j + 128 ≤ 5120) (a : Fin 2) :
    (![0, j] : Fin 2 → ℕ) a + S1x128.size a ≤ S1x5120.size a := by
  fin_cases a <;> simp [Shape.size] <;> omega
theorem inSA {j : ℕ} (hj : j + 128 ≤ 13824) (a : Fin 2) :
    (![0, j] : Fin 2 → ℕ) a + S32x128.size a ≤ S32x13824.size a := by
  fin_cases a <;> simp [Shape.size] <;> omega
theorem inHC {j : ℕ} (hj : j + 128 ≤ 13824) (a : Fin 2) :
    (![0, j] : Fin 2 → ℕ) a + S2560x128.size a ≤ S2560x13824.size a := by
  fin_cases a <;> simp [Shape.size] <;> omega
theorem inHS {j : ℕ} (hj : j + 128 ≤ 13824) (a : Fin 2) :
    (![0, j] : Fin 2 → ℕ) a + S160x128.size a ≤ S160x13824.size a := by
  fin_cases a <;> simp [Shape.size] <;> omega

variable [Facts]

/-! ## The values a pair of tiles computes -/

/-- Sixteen rows of block scales, widened, as eight pairs. -/
def scPair (v : Vec F S1x1x16x128 .bf16) : FVec F S8x2x128 .f32 :=
  shapeCast S8x2x128 (extf .f32 (shapeCast S16x128 v shapeCasts_S1x1x16x128_S16x128) bitsLt_bf16_f32) shapeCasts_S16x128_S8x2x128
/-- The even ones of the sixteen rows. -/
def scEven (v : Vec F S1x1x16x128 .bf16) : FVec F S1x1x8x128 .f32 :=
  shapeCast S1x1x8x128 (shapeCast S8x128 (extractStridedSlice S8x1x128 ![0, 0, 0] (scPair v) slices_S8x2x128_o0_0_0_S8x1x128) shapeCasts_S8x1x128_S8x128) shapeCasts_S8x128_S1x1x8x128
/-- The odd ones of the sixteen rows. -/
def scOdd (v : Vec F S1x1x16x128 .bf16) : FVec F S1x1x8x128 .f32 :=
  shapeCast S1x1x8x128 (shapeCast S8x128 (extractStridedSlice S8x1x128 ![0, 1, 0] (scPair v) slices_S8x2x128_o0_1_0_S8x1x128) shapeCasts_S8x1x128_S8x128) shapeCasts_S8x128_S1x1x8x128

/-- Thirty-two rows of codes as sixty-four rows of centred nibbles. -/
def nibbles (c : Vec F S1x1x32x128 .i8) : FVec F S64x128 .bf16 :=
  have v1 : IVec S32x128 32 := extui 32 (shapeCast S32x128 c shapeCasts_S1x1x32x128_S32x128 : IVec S32x128 8) natLt_8_32
  have lo : IVec S32x128 32 := subi (andi v1 (broadcast S32x128 15#32)) (broadcast S32x128 8#32)
  have hi : IVec S32x128 32 := subi (shrsi v1 (broadcast S32x128 4#32)) (broadcast S32x128 8#32)
  truncf .bf16 (sitofp .f32 (shapeCast S64x128
    (concatenate S32x2x128 1 [⟨S32x1x128, shapeCast S32x1x128 lo shapeCasts_S32x128_S32x1x128⟩, ⟨S32x1x128, shapeCast S32x1x128 hi shapeCasts_S32x128_S32x1x128⟩] concatenates_S32x1x128_S32x1x128_S32x2x128_d1 : IVec S32x2x128 32)
    shapeCasts_S32x2x128_S64x128 : IVec S64x128 32)) bitsLt_bf16_f32
/-- One scale row, repeated over sixteen rows. -/
def scRows (s : Vec F S1x1x8x128 .f32) : FVec F S16x128 .bf16 :=
  have s8 : FVec F S8x128 .f32 := shapeCast S8x128 s shapeCasts_S1x1x8x128_S8x128
  truncf .bf16 (concatenate S16x128 0 [⟨S8x128, s8⟩, ⟨S8x128, s8⟩] concatenates_S8x128_S8x128_S16x128_d0 : FVec F S16x128 .f32) bitsLt_bf16_f32

/-- What one quarter of a tile's column block loads. -/
structure Quart (F : FTy → Type) [FloatOps F] where
  c : Vec F S1x1x32x128 .i8
  s0 : Vec F S1x1x8x128 .f32
  s1 : Vec F S1x1x8x128 .f32

def qp0 (q : Quart F) : FVec F S16x128 .bf16 := mulf (extractStridedSlice S16x128 ![0, 0] (nibbles q.c) slices_S64x128_o0_0_S16x128) (scRows q.s0)
def qp1 (q : Quart F) : FVec F S16x128 .bf16 := mulf (extractStridedSlice S16x128 ![16, 0] (nibbles q.c) slices_S64x128_o16_0_S16x128) (scRows q.s0)
def qp2 (q : Quart F) : FVec F S16x128 .bf16 := mulf (extractStridedSlice S16x128 ![32, 0] (nibbles q.c) slices_S64x128_o32_0_S16x128) (scRows q.s1)
def qp3 (q : Quart F) : FVec F S16x128 .bf16 := mulf (extractStridedSlice S16x128 ![48, 0] (nibbles q.c) slices_S64x128_o48_0_S16x128) (scRows q.s1)

/-- One column block of weights of a tile: 256 rows of 128. -/
def colW (a b c d : Quart F) : FVec F S256x128 .bf16 :=
  concatenate S256x128 0 [⟨S16x128, qp0 a⟩, ⟨S16x128, qp1 a⟩, ⟨S16x128, qp2 a⟩, ⟨S16x128, qp3 a⟩, ⟨S16x128, qp0 b⟩, ⟨S16x128, qp1 b⟩, ⟨S16x128, qp2 b⟩, ⟨S16x128, qp3 b⟩,
    ⟨S16x128, qp0 c⟩, ⟨S16x128, qp1 c⟩, ⟨S16x128, qp2 c⟩, ⟨S16x128, qp3 c⟩, ⟨S16x128, qp0 d⟩, ⟨S16x128, qp1 d⟩, ⟨S16x128, qp2 d⟩, ⟨S16x128, qp3 d⟩]
    concatenates_S16x128_S16x128_S16x128_S16x128_S16x128_S16x128_S16x128_S16x128_S16x128_S16x128_S16x128_S16x128_S16x128_S16x128_S16x128_S16x128_S256x128_d0
/-- The accumulator after a tile. -/
def tileV (acc : FVec F S32x256 .f32) (w0 w1 : FVec F S256x128 .bf16) (h : Vec F S32x256 .bf16) : FVec F S32x256 .f32 :=
  addf acc (matmul dot_S32x256_S256x256_S32x256_1_0_0_1_n_n none h
    (concatenate S256x256 1 [⟨S256x128, w0⟩, ⟨S256x128, w1⟩] concatenates_S256x128_S256x128_S256x256_d1 : FVec F S256x256 .bf16) (constant S32x256 .f32 0x00000000#32))

/-- The lane order the activations are stored in, as lane numbers. -/
def permI : IVec S32x128 32 :=
  have v220 : IVec S32x128 32 := iota .tc S32x128 32 [1] iota_S32x128_d1_w32
  have v222 : IVec S32x128 32 := andi v220 (broadcast S32x128 4294967264#32)
  have v226 : IVec S32x128 32 := shli (andi v220 (broadcast S32x128 1#32)) (broadcast S32x128 4#32)
  have v227 : IVec S32x128 32 := ori v222 v226
  have v231 : IVec S32x128 32 := shrsi (andi v220 (broadcast S32x128 31#32)) (broadcast S32x128 1#32)
  have v232 : IVec S32x128 32 := ori v227 v231
  have v237 : IVec S32x128 32 := select (cmpi .slt v232 (broadcast S32x128 0#32)) (addi v232 (broadcast S32x128 128#32)) v232
  shapeCast S32x128 (shapeCast S32x128x1 v237 shapeCasts_S32x128_S32x128x1) shapeCasts_S32x128x1_S32x128
/-- A block in that lane order, narrowed. -/
def permV (x : FVec F S32x128 .f32) : FVec F S32x128 .bf16 :=
  truncf .bf16 (dynamicGather 1 x permI) bitsLt_bf16_f32

/-- One block of the row sums of squares. -/
def sqV (tot v : FVec F S32x128 .f32) : FVec F S32x128 .f32 := addf tot (mulf v v)
/-- The reciprocal root mean square, on every lane. -/
def rmsV (tot : FVec F S32x128 .f32) : FVec F S32x128 .f32 :=
  broadcastTo S32x128 (shapeCast S32x1 (rsqrt (addf (divf (shapeCast S32x1 (multiReduction .add [1] S32 tot 0x00000000#32 reduces_S32x128_S32 (.inl rfl) rfl) shapeCasts_S32_S32x1)
    (broadcast S32x1 (Scalar.ofBits .f32 0x45A00000#32))) (broadcast S32x1 (Scalar.ofBits .f32 0x358637BD#32)))) shapeCasts_S32x1_S32x1) broadcasts_S32x1_S32x128
/-- One block of the normalised row. -/
def nrmV (r v : FVec F S32x128 .f32) (g : Vec F S1x128 .bf16) : FVec F S32x128 .bf16 :=
  shapeCast S32x128 (permV (mulf (mulf v r) (broadcastTo S32x128 (extf .f32 g bitsLt_bf16_f32 : FVec F S1x128 .f32) broadcasts_S1x128_S32x128))) shapeCasts_S32x128_S32x128
/-- The gated activation. -/
def gateV (g u : FVec F S32x256 .f32) : FVec F S32x256 .f32 := mulf (mulf g (logistic g)) u

/-! ## The programs -/

section Progs

variable (arg0 : Memref sig .tc .vmem S32x5120 .f32) (harg0 : arg0.IsWhole) (arg1 : Memref sig .tc .hbm S1x5120 .bf16) (harg1 : arg1.IsWhole)
  (arg2 : Memref sig .tc .hbm S2560x13824 .i8) (harg2 : arg2.IsWhole) (arg3 : Memref sig .tc .hbm S160x13824 .bf16) (harg3 : arg3.IsWhole)
  (arg4 : Memref sig .tc .hbm S2560x13824 .i8) (harg4 : arg4.IsWhole) (arg5 : Memref sig .tc .hbm S160x13824 .bf16) (harg5 : arg5.IsWhole)
  (arg6 : Memref sig .tc .vmem S32x13824 .bf16) (harg6 : arg6.IsWhole) (arg7 : Memref sig .tc .vmem S1x5120 .bf16) (harg7 : arg7.IsWhole)
  (arg8 : Memref sig .tc .vmem S2x12x2560x128 .i8) (harg8 : arg8.IsWhole) (arg9 : Memref sig .tc .vmem S2x12x160x128 .bf16) (harg9 : arg9.IsWhole)
  (arg10 : Memref sig .tc .vmem S12x2x80x128 .f32) (harg10 : arg10.IsWhole) (arg11 : Memref sig .tc .vmem S32x5120 .bf16) (harg11 : arg11.IsWhole)
  (arg12 : DmaSems sig S7) (arg13 : DmaSems sig S2)

/-- A plane of the code ring, of the scale ring; a column window of a code array, of a scale array. -/
def plC (s b : ℕ) (hs : s < 2) (hb : b < 12) : Memref sig .tc .vmem S2560x128 .i8 :=
  (arg8.slice (Rect.unit (s := S2x12x2560x128) ![s, b, 0, 0] S1x1x2560x128.size (inSCp hs hb)) (fun _ => rfl)).squeeze S2560x128 squeezes_S1x1x2560x128_S2560x128
def plS (s b : ℕ) (hs : s < 2) (hb : b < 12) : Memref sig .tc .vmem S160x128 .bf16 :=
  (arg9.slice (Rect.unit (s := S2x12x160x128) ![s, b, 0, 0] S1x1x160x128.size (inSSp hs hb)) (fun _ => rfl)).squeeze S160x128 squeezes_S1x1x160x128_S160x128
def wiC (w : Memref sig .tc .hbm S2560x13824 .i8) (j : ℕ) (hj : j + 128 ≤ 13824) : Memref sig .tc .hbm S2560x128 .i8 :=
  w.slice (Rect.unit (s := S2560x13824) ![0, j] S2560x128.size (inHC hj)) (fun _ => rfl)
def wiS (w : Memref sig .tc .hbm S160x13824 .bf16) (j : ℕ) (hj : j + 128 ≤ 13824) : Memref sig .tc .hbm S160x128 .bf16 :=
  w.slice (Rect.unit (s := S160x13824) ![0, j] S160x128.size (inHS hj)) (fun _ => rfl)

theorem plC_exact (h8 : arg8.IsWhole) {s b : ℕ} (hs : s < 2) (hb : b < 12) : (plC arg8 s b hs hb).view.WordExact :=
  (h8.wordExact_slice rfl _ (.inr ⟨by decide, rfl, rfl, rfl⟩)).reshape _ _
theorem plS_exact (h9 : arg9.IsWhole) {s b : ℕ} (hs : s < 2) (hb : b < 12) : (plS arg9 s b hs hb).view.WordExact :=
  (h9.wordExact_slice rfl _ (.inr ⟨by decide, rfl, rfl, rfl⟩)).reshape _ _
theorem wiC_exact {w : Memref sig .tc .hbm S2560x13824 .i8} (h : w.IsWhole) {j : ℕ} (hj : j + 128 ≤ 13824) : (wiC w j hj).view.WordExact :=
  h.wordExact_slice rfl _ (.inr ⟨by decide, rfl, rfl, rfl⟩)
theorem wiS_exact {w : Memref sig .tc .hbm S160x13824 .bf16} (h : w.IsWhole) {j : ℕ} (hj : j + 128 ≤ 13824) : (wiS w j hj).view.WordExact :=
  h.wordExact_slice rfl _ (.inr ⟨by decide, rfl, rfl, rfl⟩)

/-- Start one copy of codes, of scales. -/
def stC {w : Memref sig .tc .hbm S2560x13824 .i8} (h : w.IsWhole) (h8 : arg8.IsWhole) (sem : DmaSem sig) (s b j : ℕ) (hs : s < 2) (hb : b < 12) (hj : j + 128 ≤ 13824) : PR F PUnit :=
  Prog.lift (.enqueueDma (wiC w j hj) (.here (plC arg8 s b hs hb)) (.dma sem) (wiC_exact h hj) (plC_exact arg8 h8 hs hb) ⟨Or.inl rfl, trivial⟩)
def stS {w : Memref sig .tc .hbm S160x13824 .bf16} (h : w.IsWhole) (h9 : arg9.IsWhole) (sem : DmaSem sig) (s b j : ℕ) (hs : s < 2) (hb : b < 12) (hj : j + 128 ≤ 13824) : PR F PUnit :=
  Prog.lift (.enqueueDma (wiS w j hj) (.here (plS arg9 s b hs hb)) (.dma sem) (wiS_exact h hj) (plS_exact arg9 h9 hs hb) ⟨Or.inl rfl, trivial⟩)
/-- Wait for one copy of codes, of scales. -/
def wtC {w : Memref sig .tc .hbm S2560x13824 .i8} (h : w.IsWhole) (h8 : arg8.IsWhole) (sem : DmaSem sig) (s b j : ℕ) (hs : s < 2) (hb : b < 12) (hj : j + 128 ≤ 13824) : PR F PUnit :=
  Prog.lift (.waitDma2 sem (wiC w j hj) (plC arg8 s b hs hb) (wiC_exact h hj) (plC_exact arg8 h8 hs hb))
def wtS {w : Memref sig .tc .hbm S160x13824 .bf16} (h : w.IsWhole) (h9 : arg9.IsWhole) (sem : DmaSem sig) (s b j : ℕ) (hs : s < 2) (hb : b < 12) (hj : j + 128 ≤ 13824) : PR F PUnit :=
  Prog.lift (.waitDma2 sem (wiS w j hj) (plS arg9 s b hs hb) (wiS_exact h hj) (plS_exact arg9 h9 hs hb))

/-- Run a step for each of the indices below `N`, in order. -/
def upTo (N : ℕ) (f : (i : ℕ) → i < N → PR F PUnit) : PR F PUnit :=
  Nat.rec (motive := fun n => (i : ℕ) → i + n ≤ N → PR F PUnit) (fun _ _ => .ret ⟨⟩)
    (fun n ih i h => (f i (by omega)).bind fun _ => ih (i + 1) (by omega)) N 0 (by omega)

/-- Start the copies of one trip's weights into slot `s`, from the columns `col`. -/
def startsP (sem : DmaSem sig) (s : ℕ) (hs : s < 2) (col : ℕ → ℕ) (hcol : ∀ i, i < 6 → col i + 128 ≤ 13824) : PR F PUnit :=
  (upTo 6 fun i h => (stC arg8 harg2 harg8 sem s i (col i) hs (by omega) (hcol i h)).bind fun _ => stS arg9 harg3 harg9 sem s i (col i) hs (by omega) (hcol i h)).bind fun _ =>
  (upTo 6 fun i h => (stC arg8 harg4 harg8 sem s (6 + i) (col i) hs (by omega) (hcol i h)).bind fun _ => stS arg9 harg5 harg9 sem s (6 + i) (col i) hs (by omega) (hcol i h))
/-- Wait for the copies of one trip's weights into slot `s`. -/
def waitsP (sem : DmaSem sig) (s : ℕ) (hs : s < 2) : PR F PUnit :=
  (upTo 6 fun i h => (wtC arg8 harg2 harg8 sem s i (i * 128) hs (by omega) (by omega)).bind fun _ => wtS arg9 harg3 harg9 sem s i (i * 128) hs (by omega) (by omega)).bind fun _ =>
  (upTo 6 fun i h => (wtC arg8 harg4 harg8 sem s (6 + i) (i * 128) hs (by omega) (by omega)).bind fun _ => wtS arg9 harg5 harg9 sem s (6 + i) (i * 128) hs (by omega) (by omega))

/-- Refill the scale rows of block `b` for pair `p`. -/
def refillP (s b p : ℕ) (hs : s < 2) (hb : b < 12) (hp : p < 10) : PR F PUnit := do
  let v : Vec F S1x1x16x128 .bf16 ← Prog.lift (.load arg9 (Rect.unit (s := S2x12x160x128) ![s, b, p * 16, 0] S1x1x16x128.size (inSS hs hb (by omega))).toLoadRect (View.loadsAt_vmem h_S1x1x16x128))
  let _ : Vec F S1x1x8x128 .f32 ← Prog.lift (.load arg10 (Rect.unit (s := S12x2x80x128) ![b, 0, p * 8, 0] S1x1x8x128.size (inSP hb (by omega) (by omega))).toLoadRect (View.loadsAt_vmem h_S1x1x8x128))
  Prog.lift (.store arg10 (Rect.unit (s := S12x2x80x128) ![b, 0, p * 8, 0] S1x1x8x128.size (inSP hb (by omega) (by omega))) (scEven v) Finset.univ (View.stores_vmem_bits_univ h_S1x1x8x128 rfl) (.inl rfl))
  let _ : Vec F S1x1x8x128 .f32 ← Prog.lift (.load arg10 (Rect.unit (s := S12x2x80x128) ![b, 1, p * 8, 0] S1x1x8x128.size (inSP hb (by omega) (by omega))).toLoadRect (View.loadsAt_vmem h_S1x1x8x128))
  Prog.lift (.store arg10 (Rect.unit (s := S12x2x80x128) ![b, 1, p * 8, 0] S1x1x8x128.size (inSP hb (by omega) (by omega))) (scOdd v) Finset.univ (View.stores_vmem_bits_univ h_S1x1x8x128 rfl) (.inl rfl))

/-- The loads of quarter `i` of tile `kt` of block `b`. -/
def quartP (s b kt i : ℕ) (hs : s < 2) (hb : b < 12) (hk : kt < 20) (hi : i < 4) : PR F (Quart F) := do
  let c : Vec F S1x1x32x128 .i8 ← Prog.lift (.load arg8 (Rect.unit (s := S2x12x2560x128) ![s, b, kt * 128 + i * 32, 0] S1x1x32x128.size (inSC hs hb (by omega))).toLoadRect (View.loadsAt_vmem h_S1x1x32x128))
  let s0 : Vec F S1x1x8x128 .f32 ← Prog.lift (.load arg10 (⟨![b, 0, kt * 4 + i, 0], S1x1x8x128.size, ![1, 1, 0, 1], inSPs hb (by omega) (by omega)⟩ : LoadRect S12x2x80x128) (View.loadsAt_vmem h_S1x1x8x128))
  let s1 : Vec F S1x1x8x128 .f32 ← Prog.lift (.load arg10 (⟨![b, 1, kt * 4 + i, 0], S1x1x8x128.size, ![1, 1, 0, 1], inSPs hb (by omega) (by omega)⟩ : LoadRect S12x2x80x128) (View.loadsAt_vmem h_S1x1x8x128))
  pure ⟨c, s0, s1⟩
/-- One column block of a tile's weights. -/
def colP (s b kt : ℕ) (hs : s < 2) (hb : b < 12) (hk : kt < 20) : PR F (FVec F S256x128 .bf16) := do
  let q0 ← quartP arg8 arg10 s b kt 0 hs hb hk (by omega)
  let q1 ← quartP arg8 arg10 s b kt 1 hs hb hk (by omega)
  let q2 ← quartP arg8 arg10 s b kt 2 hs hb hk (by omega)
  let q3 ← quartP arg8 arg10 s b kt 3 hs hb hk (by omega)
  pure (colW q0 q1 q2 q3)
/-- One tile. -/
def tileP (s b kt : ℕ) (hs : s < 2) (hb : b + 1 < 12) (hk : kt < 20) (acc : FVec F S32x256 .f32) : PR F (FVec F S32x256 .f32) := do
  let w0 ← colP arg8 arg10 s b kt hs (by omega) hk
  let w1 ← colP arg8 arg10 s (b + 1) kt hs hb hk
  let h : Vec F S32x256 .bf16 ← Prog.lift (.load arg11 (Rect.unit (s := S32x5120) ![0, kt * 256] S32x256.size (inSH (by omega))).toLoadRect (View.loadsAt_vmem h_S32x256))
  pure (tileV acc w0 w1 h)
/-- Two tiles, their scale rows refilled before. -/
def pairP (s b p : ℕ) (hs : s < 2) (hb : b + 1 < 12) (hp : p < 10) (acc : FVec F S32x256 .f32) : PR F (FVec F S32x256 .f32) := do
  refillP arg9 arg10 s b p hs (by omega) hp
  refillP arg9 arg10 s (b + 1) p hs hb hp
  let a ← tileP arg8 arg10 arg11 s b (p * 2) hs hb (by omega) acc
  tileP arg8 arg10 arg11 s b (p * 2 + 1) hs hb (by omega) a
/-- `n` pairs from pair `p` on. -/
def dotFromP (s b : ℕ) (hs : s < 2) (hb : b + 1 < 12) (n : ℕ) : (p : ℕ) → p + n ≤ 10 → FVec F S32x256 .f32 → PR F (FVec F S32x256 .f32) :=
  Nat.rec (motive := fun n => (p : ℕ) → p + n ≤ 10 → FVec F S32x256 .f32 → PR F (FVec F S32x256 .f32)) (fun _ _ acc => .ret acc)
    (fun n ih p h acc => (pairP arg8 arg9 arg10 arg11 s b p hs hb (by omega) acc).bind fun a => ih (p + 1) (by omega) a) n
/-- A whole contraction for two blocks of columns. -/
def dotP (s b : ℕ) (hs : s < 2) (hb : b + 1 < 12) : PR F (FVec F S32x256 .f32) :=
  dotFromP arg8 arg9 arg10 arg11 s b hs hb 10 0 (by omega) (broadcast S32x256 (Scalar.ofBits .f32 0x00000000#32))

/-- The lane offset a trip stores its columns at. -/
def actOff (t : Fin k0_t1_loop.trips) (c1 c2 : ℕ) : ℕ :=
  (Scalar.indexCast (Scalar.addi (Scalar.addi (Scalar.muli (Scf.iv 0#32 1#32 t) 768#32) (BitVec.ofNat 32 c1)) (BitVec.ofNat 32 c2))).toNat
theorem trips_eq : k0_t1_loop.trips = 18 := by decide
theorem actOff_eq (t : Fin k0_t1_loop.trips) {c1 c2 : ℕ} (h1 : c1 ≤ 768) (h2 : c2 ≤ 768) : actOff t c1 c2 = t.val * 768 + c1 + c2 := by
  have ht : t.val < 18 := trips_eq ▸ t.2
  simp only [actOff, Scalar.indexCast, Scalar.addi, Scalar.muli, Scf.iv, IntOp.addi, IntOp.muli]
  simp
  omega
/-- Store one column block of activations. -/
def stA (t : Fin k0_t1_loop.trips) (c1 c2 : ℕ) (h1 : c1 + c2 + 128 ≤ 768) (x : FVec F S32x128 .f32) : PR F PUnit := do
  let _ : Vec F S32x128 .bf16 ← Prog.lift (.load arg6 (Rect.unit (s := S32x13824) ![0, actOff t c1 c2] S32x128.size (inSA (by have ht : t.val < 18 := trips_eq ▸ t.2; rw [actOff_eq t (by omega) (by omega)]; omega))).toLoadRect (View.loadsAt_vmem h_S32x128))
  Prog.lift (.store arg6 (Rect.unit (s := S32x13824) ![0, actOff t c1 c2] S32x128.size (inSA (by have ht : t.val < 18 := trips_eq ▸ t.2; rw [actOff_eq t (by omega) (by omega)]; omega))) (permV x) Finset.univ
    (View.stores_vmem h_S32x128 (harg6.storeExact_slice rfl _ (.inr ⟨by decide, rfl, .inl ⟨⟨0, rfl⟩, ⟨16, rfl⟩⟩⟩)) (fun _ => rfl)) (.inl rfl))
/-- The two contractions of a column pair and its two stores. -/
def chunkP (t : Fin k0_t1_loop.trips) (s n : ℕ) (hs : s < 2) (hn : n < 3) : PR F PUnit := do
  let g ← dotP arg8 arg9 arg10 arg11 s (2 * n) hs (by omega)
  let u ← dotP arg8 arg9 arg10 arg11 s (6 + 2 * n) hs (by omega)
  stA arg6 harg6 t (256 * n) 0 (by omega) (extractStridedSlice S32x128 ![0, 0] (gateV g u) slices_S32x256_o0_0_S32x128)
  stA arg6 harg6 t (256 * n) 128 (by omega) (extractStridedSlice S32x128 ![0, 128] (gateV g u) slices_S32x256_o0_128_S32x128)

/-- The slot of a trip, as the transfers and as the loads spell it. -/
def slotD (t : Fin k0_t1_loop.trips) : ℕ := (Scalar.remsi (Scf.iv 0#32 1#32 t) 2#32).toNat
def slotL (t : Fin k0_t1_loop.trips) : ℕ := (Scalar.indexCast (Scalar.remsi (Scf.iv 0#32 1#32 t) 2#32)).toNat
theorem slotD_eq : ∀ t : Fin k0_t1_loop.trips, slotD t = t.val % 2 := by decide +kernel
theorem slotL_eq : ∀ t : Fin k0_t1_loop.trips, slotL t = t.val % 2 := by decide +kernel
theorem slotD_lt (t : Fin k0_t1_loop.trips) : slotD t < 2 := by rw [slotD_eq]; omega
theorem slotL_lt (t : Fin k0_t1_loop.trips) : slotL t < 2 := by rw [slotL_eq]; omega
/-- The slot's semaphore cell. -/
def semOf (s : ℕ) (hs : s < 2) : DmaSem sig :=
  ((arg13.slice (Rect.unit (s := S2) ![s] S1.size (by intro a; fin_cases a; simp [Shape.size]; omega))).squeeze S_ squeezes_S1_S_).sem
/-- The columns the trip after next copies from. -/
def colN (t : Fin k0_t1_loop.trips) (i : ℕ) : ℕ :=
  (Scalar.addi (Scalar.muli (Scalar.addi (Scf.iv 0#32 1#32 t) 2#32) 768#32) (BitVec.ofNat 32 (i * 128))).toNat
theorem colN_eq (t : Fin k0_t1_loop.trips) {i : ℕ} (hi : i < 6) : colN t i = (t.val + 2) * 768 + i * 128 := by
  have ht : t.val < 18 := trips_eq ▸ t.2
  simp only [colN, Scalar.addi, Scalar.muli, Scf.iv, IntOp.addi, IntOp.muli]
  simp
  omega
theorem cond_iff : ∀ t : Fin k0_t1_loop.trips, k0_cond1 t = 1#1 ↔ t.val + 2 < 18 := by decide +kernel

/-- One trip. -/
def tripP (t : Fin k0_t1_loop.trips) : PR F PUnit := do
  waitsP arg2 harg2 arg3 harg3 arg4 harg4 arg5 harg5 arg8 harg8 arg9 harg9 (semOf arg13 (slotD t) (slotD_lt t)) (slotD t) (slotD_lt t)
  upTo 3 fun n h => chunkP arg6 harg6 arg8 arg9 arg10 arg11 t (slotL t) n (slotL_lt t) h
  if h : k0_cond1 t = 1#1 then do
    startsP arg2 harg2 arg3 harg3 arg4 harg4 arg5 harg5 arg8 harg8 arg9 harg9 (semOf arg13 (slotD t) (slotD_lt t)) (slotD t) (slotD_lt t) (colN t)
      (fun i hi => by have := (cond_iff t).1 h; rw [colN_eq t hi]; omega)
    pure ⟨⟩
  else do
    pure ⟨⟩
  pure ⟨⟩

set_option maxHeartbeats 4000000 in
theorem body_eq (t : Fin k0_t1_loop.trips) (a : Unit) :
    Gen.k0_t1_body (F := F) arg0 harg0 arg1 harg1 arg2 harg2 arg3 harg3 arg4 harg4 arg5 harg5 arg6 harg6 arg7 harg7 arg8 harg8 arg9 harg9 arg10 harg10 arg11 harg11 arg12 arg13 t a
      = tripP arg2 harg2 arg3 harg3 arg4 harg4 arg5 harg5 arg6 harg6 arg8 harg8 arg9 harg9 arg10 arg11 arg13 t := by
  sl_kernel_rfl

/-- The row sums of squares, block by block. -/
def totP : (n : ℕ) → (j : ℕ) → j + n ≤ 40 → FVec F S32x128 .f32 → PR F (FVec F S32x128 .f32) := fun n =>
  Nat.rec (motive := fun n => (j : ℕ) → j + n ≤ 40 → FVec F S32x128 .f32 → PR F (FVec F S32x128 .f32)) (fun _ _ a => .ret a)
    (fun n ih j h a => (Prog.lift (.load arg0 (Rect.unit (s := S32x5120) ![0, j * 128] S32x128.size (inSHb (by omega))).toLoadRect (View.loadsAt_vmem h_S32x128)) : PR F (Vec F S32x128 .f32)).bind
      fun v => ih (j + 1) (by omega) (sqV a v)) n
/-- One block of the normalised rows. -/
def nrmP (r : FVec F S32x128 .f32) (j : ℕ) (hj : j < 40) : PR F PUnit := do
  let v : Vec F S32x128 .f32 ← Prog.lift (.load arg0 (Rect.unit (s := S32x5120) ![0, j * 128] S32x128.size (inSHb (by omega))).toLoadRect (View.loadsAt_vmem h_S32x128))
  let g : Vec F S1x128 .bf16 ← Prog.lift (.load arg7 (Rect.unit (s := S1x5120) ![0, j * 128] S1x128.size (inSF (by omega))).toLoadRect (View.loadsAt_vmem h_S1x128))
  let _ : Vec F S32x128 .bf16 ← Prog.lift (.load arg11 (Rect.unit (s := S32x5120) ![0, j * 128] S32x128.size (inSHb (by omega))).toLoadRect (View.loadsAt_vmem h_S32x128))
  Prog.lift (.store arg11 (Rect.unit (s := S32x5120) ![0, j * 128] S32x128.size (inSHb (by omega))) (nrmV r v g) Finset.univ
    (View.stores_vmem h_S32x128 (harg11.storeExact_slice rfl _ (.inr ⟨by decide, rfl, .inl ⟨⟨0, rfl⟩, ⟨16, rfl⟩⟩⟩)) (fun _ => rfl)) (.inl rfl))
/-- The cell the gain's copy pays. -/
def semI : DmaSem sig := ((arg12.slice (Rect.unit (s := S7) ![4] S1.size inb_S7_S1_4)).squeeze S_ squeezes_S1_S_).sem
/-- The body. -/
def bodyP : PR F PUnit := do
  Prog.lift (.enqueueDma arg1 (.here arg7) (.dma (semI arg12)) harg1.wordExact harg7.wordExact ⟨Or.inl rfl, trivial⟩)
  Prog.lift (.waitDma2 (semI arg12) arg1 arg7 harg1.wordExact harg7.wordExact)
  startsP arg2 harg2 arg3 harg3 arg4 harg4 arg5 harg5 arg8 harg8 arg9 harg9 (semOf arg13 0 (by omega)) 0 (by omega) (fun i => i * 128) (fun i h => by omega)
  startsP arg2 harg2 arg3 harg3 arg4 harg4 arg5 harg5 arg8 harg8 arg9 harg9 (semOf arg13 1 (by omega)) 1 (by omega) (fun i => 768 + i * 128) (fun i h => by omega)
  let tot ← totP arg0 40 0 (by omega) (broadcast S32x128 (Scalar.ofBits .f32 0x00000000#32))
  upTo 40 fun j h => nrmP arg0 arg7 arg11 harg11 (rmsV tot) j h
  Scf.Loop.for k0_t1_loop k0_t1_ok ⟨⟩ fun t _ => tripP arg2 harg2 arg3 harg3 arg4 harg4 arg5 harg5 arg6 harg6 arg8 harg8 arg9 harg9 arg10 arg11 arg13 t
  pure ⟨⟩

set_option maxHeartbeats 4000000 in
theorem kernel_eq :
    cc0_decode_layer (F := F) arg0 harg0 arg1 harg1 arg2 harg2 arg3 harg3 arg4 harg4 arg5 harg5 arg6 harg6 arg7 harg7 arg8 harg8 arg9 harg9 arg10 harg10 arg11 harg11 arg12 arg13
      = bodyP arg0 arg1 harg1 arg2 harg2 arg3 harg3 arg4 harg4 arg5 harg5 arg6 harg6 arg7 harg7 arg8 harg8 arg9 harg9 arg10 arg11 harg11 arg12 arg13 := by
  sl_kernel_rfl

end Progs

end Cert.KernelIdeal
-- ==== Proof.KernelIdeal.Rules.lean ====
/-
  Rules for one load, one store and one copy, over `owns` (a memref held whole at named elements).
-/
module

public import proofs.«01_k».proof.Proof.KernelIdeal.Body
public import Idealize.ShloMosaic.Lib.MixedBatch
public import Idealize.ShloMosaic.Lib.Pipeline.FrameSuffix
public import Idealize.ShloMosaic.Lib.ValueLayout
public import Idealize.ShloMosaic.Lib.Ring

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (MixedBatch sumTo)

variable {F : FTy → Type} [FloatOps F]

/-- The logic's algebra, and the weakest precondition of a program on core `c`. -/
abbrev MM (F : FTy → Type) [FloatOps F] : Type := MT nD τ sig Unit (Elt F) ℕ (Pipeline.UD sig nD τ) ℕ
abbrev WP (c : Dev nD) {α : Type} (p : PR F α) (Q : α → sProp (MM F)) : sProp (MM F) :=
  wp frame (wpE (defs₀ (F := F)) Variants.none (c : Thread nD τ) none) Set.univ p Q

theorem WP_bind (c : Dev nD) {α β : Type} (p : PR F α) (k : α → PR F β) (Q : β → sProp (MM F)) :
    WP c (p.bind k) Q = WP c p fun a => WP c (k a) Q := wp_bind ..
theorem WP_bind' (c : Dev nD) {α β : Type} (p : PR F α) (k : α → PR F β) (Q : β → sProp (MM F)) :
    WP c (p >>= k) Q = WP c p fun a => WP c (k a) Q := wp_bind ..
theorem WP_ret (c : Dev nD) {α : Type} (a : α) (Q : α → sProp (MM F)) : Q a ⊢ WP c (.ret a) Q := fupd_intro
theorem WP_pure (c : Dev nD) {α : Type} (a : α) (Q : α → sProp (MM F)) : Q a ⊢ WP c (pure a) Q := fupd_intro

/-- The elements `X` with the rectangle's replaced by `w`. -/
def updR {s : Shape} {A : Type} (r : Rect s) (w : r.shape.Idx → A) (X : s.Idx → A) : s.Idx → A :=
  open Classical in fun i => if h : ∃ x, r.emb x = i then w h.choose else X i
theorem updR_emb {s : Shape} {A : Type} (r : Rect s) (w : r.shape.Idx → A) (X : s.Idx → A) (x : r.shape.Idx) : updR r w X (r.emb x) = w x := by
  have h : ∃ y, r.emb y = r.emb x := ⟨x, rfl⟩
  unfold updR; rw [dif_pos h]; exact congrArg w (r.emb.injective h.choose_spec)
theorem updR_of_ne {s : Shape} {A : Type} (r : Rect s) (w : r.shape.Idx → A) (X : s.Idx → A) (i : s.Idx) (h : ∀ x, r.emb x ≠ i) : updR r w X i = X i := by
  unfold updR; rw [dif_neg fun ⟨x, hx⟩ => h x hx]

theorem own_load (c : Dev nD) {cs : CoreSpace} {s : Shape} {e : EltTy} (M : Memref sig .tc cs s e) (r : LoadRect s) (hl : M.view.LoadsAt r)
    (q : PosShare TreeShare) (X : s.Idx → Elt F e) (Q : (r.shape.Idx → Elt F e) → sProp (MM F)) :
    iprop(owns (c : Thread nD τ) M q X ∗ (owns (c : Thread nD τ) M q X -∗ Q (fun x => X (r.idx x)))) ⊢ WP c (Prog.lift (.load M r hl)) Q := by
  unfold owns
  iintro ⟨⟨%f, %hf, H⟩, Hk⟩
  iapply (wp_load Variants.none (c : Thread nD τ) none Set.univ (View.setOn_subset_set _ _)) $$ H
  iintro H
  have h : M.view.readAt (Elt F) r f = fun x => X (r.idx x) := by subst hf; rfl
  rw [h]
  iapply WP_ret
  iapply Hk
  iexists f
  isplitr
  · ipureintro; exact hf
  iexact H

theorem own_load_sub (c : Dev nD) {cs : CoreSpace} {s s' : Shape} {e : EltTy} (M : Memref sig .tc cs s e) (R : Rect s) (hR : ∀ a, R.stride a = 1)
    (hsq : R.shape.Squeezes s') (r : LoadRect s) (hl : M.view.LoadsAt r) (q : PosShare TreeShare) (X : s'.Idx → Elt F e)
    (y : r.shape.Idx → s'.Idx) (hy : ∀ x, r.idx x = R.emb (Shape.reshapeEquiv hsq.numel_eq (y x)))
    (Q : (r.shape.Idx → Elt F e) → sProp (MM F)) :
    iprop(owns (c : Thread nD τ) ((M.slice R hR).squeeze s' hsq) q X ∗ (owns (c : Thread nD τ) ((M.slice R hR).squeeze s' hsq) q X -∗ Q (fun x => X (y x))))
      ⊢ WP c (Prog.lift (.load M r hl)) Q := by
  unfold owns
  iintro ⟨⟨%f, %hf, H⟩, Hk⟩
  have hS : M.view.setOn r.set ⊆ ((M.slice R hR).squeeze s' hsq).view.set := by
    intro i hi
    obtain ⟨j, hj, rfl⟩ := Finset.mem_map.mp hi
    obtain ⟨x, rfl⟩ : ∃ x, r.idx x = j := by
      have h := r.mem_set.mp hj
      choose g hg he using h
      exact ⟨fun a => ⟨g a, hg a⟩, funext fun a => Fin.ext (he a).symm⟩
    rw [hy x]
    exact Finset.mem_map.mpr ⟨y x, Finset.mem_univ _, rfl⟩
  iapply (wp_load Variants.none (c : Thread nD τ) none Set.univ hS) $$ H
  iintro H
  have h : M.view.readAt (Elt F) r f = fun x => X (y x) := by
    subst hf; funext x
    show M.view.read (Elt F) f (r.idx x) = M.view.read (Elt F) f (R.emb (Shape.reshapeEquiv hsq.numel_eq (y x)))
    rw [hy x]
  rw [h]
  iapply WP_ret
  iapply Hk
  iexists f
  isplitr
  · ipureintro; exact hf
  iexact H

theorem own_store (c : Dev nD) {cs : CoreSpace} {s : Shape} {e : EltTy} (M : Memref sig .tc cs s e) (r : Rect s) (w : r.shape.Idx → Elt F e)
    (hx : (M.access r).Stores Finset.univ) (hm : Finset.univ = Finset.univ ∨ ∀ a, r.stride a = 1)
    (X : s.Idx → Elt F e) (Q : PUnit → sProp (MM F)) :
    iprop(owns (c : Thread nD τ) M fullShare X ∗ (owns (c : Thread nD τ) M fullShare (updR r w X) -∗ Q ⟨⟩))
      ⊢ WP c (Prog.lift (.store M r w Finset.univ hx hm)) Q := by
  unfold owns
  iintro ⟨⟨%f, %hf, H⟩, Hk⟩
  have hS : (M.access r).setOn Finset.univ ⊆ M.view.set := by
    intro i hi
    obtain ⟨j, hj, rfl⟩ := Finset.mem_map.mp hi
    exact Finset.mem_map.mpr ⟨r.emb j, Finset.mem_univ _, rfl⟩
  iapply (wp_store (m := M) (r := r) (w := w) (f := f) Variants.none (c : Thread nD τ) none Set.univ hS) $$ H
  iintro H
  iapply WP_ret
  iapply Hk
  iexists _
  isplitr
  swap; · iexact H
  ipureintro
  subst hf
  funext i
  by_cases h : ∃ x, r.emb x = i
  · obtain ⟨x, rfl⟩ := h
    rw [updR_emb]
    exact View.read_write_of_mem (v := M.access r) f w (Finset.mem_univ x)
  · rw [updR_of_ne _ _ _ _ fun x hx => h ⟨x, hx⟩, View.read_apply, View.read_apply, View.write_of_not_mem]
    · intro hi
      obtain ⟨x, -, hx⟩ := Finset.mem_map.mp hi
      exact h ⟨x, M.view.emb.injective hx⟩

theorem own_written (c : Dev nD) {sp : Space} {s : Shape} {e : EltTy} (dst : Memref sig .tc sp s e) (f : Buf (Elt F) (dst.view.loc (c : Thread nD τ))) (w : s.Idx → Elt F e) :
    (dst.view.loc (c : Thread nD τ) ↦[dst.view.set]{fullShare} (dst.view.write (Elt F) f w Finset.univ) : sProp (MM F)) ⊢ owns (c : Thread nD τ) dst fullShare w := by
  unfold owns
  iintro H
  iexists _
  isplitr
  swap; · iexact H
  ipureintro
  exact View.read_write_univ ..

/-- One copy of a batch. -/
theorem own_dma (c : Dev nD) {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) sp (.dma sem) (.here (p := (Proc.tc : Proc τ)) dst))
    (q : PosShare TreeShare) (fs : Buf (Elt F) (src.view.loc (c : Thread nD τ))) {n : ℕ} (A : Fin n → ℕ) (D : Fin n → sProp (MM F)) (j : ℕ) (hj : j < n)
    (hA : dst.view.amount (.dma sem) = A ⟨j, hj⟩)
    (hD : iprop(owns (c : Thread nD τ) dst fullShare (src.view.read (Elt F) fs) ∗ (src.view.loc (c : Thread nD τ) ↦[src.view.set]{q} fs)) ⊢ D ⟨j, hj⟩)
    (Q : PUnit → sProp (MM F)) :
    iprop((src.view.loc (c : Thread nD τ) ↦[src.view.set]{q} fs) ∗ (∃ X, owns (c : Thread nD τ) dst fullShare X)
        ∗ MixedBatch countersEmb (c : Thread nD τ) (.dma sem) () A D j 0
        ∗ (MixedBatch countersEmb (c : Thread nD τ) (.dma sem) () A D (j + 1) 0 -∗ Q ⟨⟩))
      ⊢ WP c (Prog.lift (.enqueueDma src (.here dst) (.dma sem) hsrc hdst hsem)) Q := by
  unfold owns
  iintro ⟨Hs, ⟨%X, %f, %hf, Hd⟩, HB, Hk⟩
  iapply (Transfers.wp_dmaMixedBatch (Lvl := ℕ) countersEmb Variants.none (c : Thread nD τ) none (src := src) (dst := dst) (via := ReadAs.same) (fs := fs) (q := q) (fd := f) () A
    (Finset.Subset.refl _) hj hA (Nat.zero_le _) (D := D)
    (by
      refine (BI.sep_mono_l ?_).trans hD
      exact own_written c dst f _)) $$ [Hs Hd HB]
  · isplitl [Hs]; · iexact Hs
    isplitl [Hd]; · iexact Hd
    iexact HB
  iintro HB
  iapply WP_ret
  iapply Hk
  iexact HB

/-- A wait that is not a batch's last, and the last. -/
theorem own_wait (c : Dev nD) {sp sp' : Space} {s : Shape} {e : EltTy} (src : Memref sig .tc sp s e) (dst : Memref sig .tc sp' s e) (sem : DmaSem sig)
    (hsrc : src.view.WordExact) (hdst : dst.view.WordExact) {n : ℕ} (A : Fin n → ℕ) (D : Fin n → sProp (MM F)) (u J : ℕ)
    (hJ : dst.view.dmaCredit = J) (hu : u + J ≤ sumTo A n) (Q : PUnit → sProp (MM F)) :
    iprop(MixedBatch countersEmb (c : Thread nD τ) (.dma sem) () A D n u ∗ (∃ W, owes (c : Thread nD τ) 0 W)
        ∗ (iprop(MixedBatch countersEmb (c : Thread nD τ) (.dma sem) () A D n (u + J) ∗ (∃ W, owes (c : Thread nD τ) 0 W)) -∗ Q ⟨⟩))
      ⊢ WP c (Prog.lift (.waitDma2 sem src dst hsrc hdst)) Q := by
  iintro ⟨HB, ⟨%W, HW⟩, Hk⟩
  iapply (Transfers.wp_waitMixedBatch (Lvl := ℕ) countersEmb Variants.none (c : Thread nD τ) none () hJ hu) $$ [HB HW]
  · isplitl [HB]; · iexact HB
    iexact HW
  iintro ⟨HB, HW⟩
  iapply WP_ret
  iapply Hk
  isplitl [HB]; · iexact HB
  iexists _; iexact HW
theorem own_waitAll (c : Dev nD) {sp sp' : Space} {s : Shape} {e : EltTy} (src : Memref sig .tc sp s e) (dst : Memref sig .tc sp' s e) (sem : DmaSem sig)
    (hsrc : src.view.WordExact) (hdst : dst.view.WordExact) {n : ℕ} (A : Fin n → ℕ) (D : Fin n → sProp (MM F)) (u J : ℕ)
    (hJ : dst.view.dmaCredit = J) (hA0 : ∀ t, 0 < A t) (hu : u + J = sumTo A n) (Q : PUnit → sProp (MM F)) :
    iprop(MixedBatch countersEmb (c : Thread nD τ) (.dma sem) () A D n u ∗ (∃ W, owes (c : Thread nD τ) 0 W)
        ∗ (iprop(bigSep Finset.univ D ∗ semVal ((c : Thread nD τ), .dma sem) 0 ∗ (∃ W, owes (c : Thread nD τ) 0 W)) -∗ Q ⟨⟩))
      ⊢ WP c (Prog.lift (.waitDma2 sem src dst hsrc hdst)) Q := by
  iintro ⟨HB, ⟨%W, HW⟩, Hk⟩
  iapply (Transfers.wp_waitMixedBatchAll (Lvl := ℕ) countersEmb Variants.none (c : Thread nD τ) none () hJ hA0 hu) $$ [HB HW]
  · isplitl [HB]; · iexact HB
    iexact HW
  iintro ⟨HD, Hs, HW⟩
  iapply WP_ret
  iapply Hk
  isplitl [HD]; · iexact HD
  isplitl [Hs]; · iexact Hs
  iexists _; iexact HW

/-- A counted run of steps, by an invariant. -/
theorem wp_upTo (c : Dev nD) (I : ℕ → sProp (MM F)) (N : ℕ) (f : (i : ℕ) → i < N → PR F PUnit)
    (h : ∀ i hi, I i ⊢ WP c (f i hi) fun _ => I (i + 1)) (Q : PUnit → sProp (MM F)) :
    iprop(I 0 ∗ (I N -∗ Q ⟨⟩)) ⊢ WP c (upTo N f) Q := by
  unfold upTo
  suffices H : ∀ n i (hin : i + n ≤ N) (hN : i + n = N), iprop(I i ∗ (I N -∗ Q ⟨⟩)) ⊢ WP c
      (Nat.rec (motive := fun n => (i : ℕ) → i + n ≤ N → PR F PUnit) (fun _ _ => .ret ⟨⟩)
        (fun n ih i h => (f i (by omega)).bind fun _ => ih (i + 1) (by omega)) n i hin) Q by
    exact H N 0 _ (by omega)
  intro n
  induction n with
  | zero =>
    intro i hin hN
    obtain rfl : i = N := by omega
    iintro ⟨HI, Hk⟩
    iapply WP_ret
    iapply Hk; iexact HI
  | succ n ih =>
    intro i hin hN
    show _ ⊢ WP c ((f i _).bind _) Q
    rw [WP_bind]
    refine (BI.sep_mono_l (h i (by omega))).trans ((wp_frame_r _ _ _).trans (wp_mono _ _ _ fun _ => ?_))
    exact ih (i + 1) (by omega) (by omega)

end Cert.KernelIdeal
-- ==== Proof.KernelIdeal.Dot.lean ====
/-
  A contraction's run: what it loads off a slot's planes, and what it returns.
-/
module

public import proofs.«01_k».proof.Proof.KernelIdeal.Rules

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts₀ Facts K0.R1.Facts₀ K0.R2.Facts₀ Shapes1.Facts₀ Shapes2.Facts₀ Shapes3.Facts₀

variable {F : FTy → Type} [FloatOps F] [Facts]

/-! ## The values -/

/-- The scales widened. -/
def wid (S : Vec F S160x128 .bf16) : FVec F S160x128 .f32 := extf .f32 S bitsLt_bf16_f32

/-- Quarter `i` of tile `kt` of a column block with codes `C` and scales `S`. -/
def quartOf (C : Vec F S2560x128 .i8) (S : Vec F S160x128 .bf16) (kt i : ℕ) (hk : kt < 20) (hi : i < 4) : Quart F where
  c := fun x => C (ix2 ⟨kt * 128 + i * 32 + (x 2).val, by have h : (x 2).val < 32 := (x 2).isLt; omega⟩ (x 3))
  s0 := fun x => wid S (ix2 ⟨2 * (kt * 4 + i), by omega⟩ (x 3))
  s1 := fun x => wid S (ix2 ⟨2 * (kt * 4 + i) + 1, by omega⟩ (x 3))
/-- A column block of a tile. -/
def colOf (C : Vec F S2560x128 .i8) (S : Vec F S160x128 .bf16) (kt : ℕ) (hk : kt < 20) : FVec F S256x128 .bf16 :=
  colW (quartOf C S kt 0 hk (by omega)) (quartOf C S kt 1 hk (by omega)) (quartOf C S kt 2 hk (by omega)) (quartOf C S kt 3 hk (by omega))
/-- The tile's block of rows of the left operand. -/
def actOf (H : Vec F S32x5120 .bf16) (kt : ℕ) (hk : kt < 20) : Vec F S32x256 .bf16 :=
  fun x => H (ix2 (x 0) ⟨kt * 256 + (x 1).val, by have h : (x 1).val < 256 := (x 1).isLt; omega⟩)
/-- A tile. -/
def tileOf (C0 C1 : Vec F S2560x128 .i8) (S0 S1 : Vec F S160x128 .bf16) (H : Vec F S32x5120 .bf16) (kt : ℕ) (hk : kt < 20) (acc : FVec F S32x256 .f32) : FVec F S32x256 .f32 :=
  tileV acc (colOf C0 S0 kt hk) (colOf C1 S1 kt hk) (actOf H kt hk)
/-- `n` pairs of tiles from pair `p` on. -/
def dotFrom (C0 C1 : Vec F S2560x128 .i8) (S0 S1 : Vec F S160x128 .bf16) (H : Vec F S32x5120 .bf16) : (n p : ℕ) → p + n ≤ 10 → FVec F S32x256 .f32 → FVec F S32x256 .f32
  | 0, _, _, acc => acc
  | n + 1, p, h, acc => dotFrom C0 C1 S0 S1 H n (p + 1) (by omega) (tileOf C0 C1 S0 S1 H (p * 2 + 1) (by omega) (tileOf C0 C1 S0 S1 H (p * 2) (by omega) acc))
/-- The contraction. -/
def dotOf (C0 C1 : Vec F S2560x128 .i8) (S0 S1 : Vec F S160x128 .bf16) (H : Vec F S32x5120 .bf16) : FVec F S32x256 .f32 :=
  dotFrom C0 C1 S0 S1 H 10 0 (by omega) (broadcast S32x256 (Scalar.ofBits .f32 0x00000000#32))

/-! ## The scale rows -/

theorem scPair_apply (v : Vec F S1x1x16x128 .bf16) (r : Fin 8) (h : Fin 2) (l : Fin 128) :
    scPair v (ix3 r h l) = (extf .f32 v bitsLt_bf16_f32 : FVec F S1x1x16x128 .f32) (ix4 (0 : Fin 1) (0 : Fin 1) ⟨2 * r.val + h.val, by omega⟩ l) := by
  unfold scPair
  show (extf .f32 v bitsLt_bf16_f32 : FVec F S1x1x16x128 .f32) (Shape.reshapeEquiv _ (Shape.reshapeEquiv _ (ix3 r h l))) = _
  congr 1
  rw [Shape.reshapeEquiv_reshapeEquiv]
  apply Shape.reshapeEquiv_eq_of_rowMajor
  rw [Shape.rowMajor_val_three, Shape.rowMajor_val_four]
  show ((0 * 1 + 0) * 16 + (2 * r.val + h.val)) * 128 + l.val = (r.val * 2 + h.val) * 128 + l.val
  omega
theorem scEven_apply (v : Vec F S1x1x16x128 .bf16) (x : S1x1x8x128.Idx) :
    scEven v x = (extf .f32 v bitsLt_bf16_f32 : FVec F S1x1x16x128 .f32) (ix4 (0 : Fin 1) (0 : Fin 1) ⟨2 * (x 2).val, by have h : (x 2).val < 8 := (x 2).isLt; omega⟩ (x 3)) := by
  have e : scEven v x = scPair v (ix3 (x 2) (0 : Fin 2) (x 3)) := by
    unfold scEven
    show extractStridedSlice S8x1x128 ![0, 0, 0] (scPair v) slices_S8x2x128_o0_0_0_S8x1x128 (Shape.reshapeEquiv _ (Shape.reshapeEquiv _ x)) = _
    rw [Shape.reshapeEquiv_reshapeEquiv]
    have h : Shape.reshapeEquiv (s := S8x1x128) (s' := S1x1x8x128) (by decide) x = ix3 (x 2) (0 : Fin 1) (x 3) := by
      apply Shape.reshapeEquiv_eq_of_rowMajor
      have h0 : (x 0).val = 0 := by have h : (x 0).val < 1 := (x 0).isLt; omega
      have h1 : (x 1).val = 0 := by have h : (x 1).val < 1 := (x 1).isLt; omega
      refine (Shape.rowMajor_val_three _).trans (Eq.trans ?_ (Shape.rowMajor_val_four _).symm)
      show ((x 2).val * 1 + 0) * 128 + (x 3).val = (((x 0).val * 1 + (x 1).val) * 8 + (x 2).val) * 128 + (x 3).val
      omega
    rw [h]
    unfold extractStridedSlice
    congr 1
    funext a; fin_cases a <;> apply Fin.ext <;> simp [ix3]
  exact e.trans (scPair_apply v _ _ _)
theorem scOdd_apply (v : Vec F S1x1x16x128 .bf16) (x : S1x1x8x128.Idx) :
    scOdd v x = (extf .f32 v bitsLt_bf16_f32 : FVec F S1x1x16x128 .f32) (ix4 (0 : Fin 1) (0 : Fin 1) ⟨2 * (x 2).val + 1, by have h : (x 2).val < 8 := (x 2).isLt; omega⟩ (x 3)) := by
  have e : scOdd v x = scPair v (ix3 (x 2) (1 : Fin 2) (x 3)) := by
    unfold scOdd
    show extractStridedSlice S8x1x128 ![0, 1, 0] (scPair v) slices_S8x2x128_o0_1_0_S8x1x128 (Shape.reshapeEquiv _ (Shape.reshapeEquiv _ x)) = _
    rw [Shape.reshapeEquiv_reshapeEquiv]
    have h : Shape.reshapeEquiv (s := S8x1x128) (s' := S1x1x8x128) (by decide) x = ix3 (x 2) (0 : Fin 1) (x 3) := by
      apply Shape.reshapeEquiv_eq_of_rowMajor
      have h0 : (x 0).val = 0 := by have h : (x 0).val < 1 := (x 0).isLt; omega
      have h1 : (x 1).val = 0 := by have h : (x 1).val < 1 := (x 1).isLt; omega
      refine (Shape.rowMajor_val_three _).trans (Eq.trans ?_ (Shape.rowMajor_val_four _).symm)
      show ((x 2).val * 1 + 0) * 128 + (x 3).val = (((x 0).val * 1 + (x 1).val) * 8 + (x 2).val) * 128 + (x 3).val
      omega
    rw [h]
    unfold extractStridedSlice
    congr 1
    funext a; fin_cases a <;> apply Fin.ext <;> simp [ix3]
  exact e.trans (scPair_apply v _ _ _)

/-- Block `b`'s scale rows of pair `p` are those of `S`, sorted by parity. -/
def Known (b p : ℕ) (S : Vec F S160x128 .bf16) (P : S12x2x80x128.Idx → F .f32) : Prop :=
  ∀ i : S12x2x80x128.Idx, (i 0).val = b → 8 * p ≤ (i 2).val → (i 2).val < 8 * p + 8 →
    P i = wid S (ix2 ⟨2 * (i 2).val + (i 1).val, by have h1 : (i 1).val < 2 := (i 1).isLt; have h2 : (i 2).val < 80 := (i 2).isLt; omega⟩ (i 3))

section Specs

variable (arg6 : Memref sig .tc .vmem S32x13824 .bf16) (harg6 : arg6.IsWhole)
  (arg8 : Memref sig .tc .vmem S2x12x2560x128 .i8) (arg9 : Memref sig .tc .vmem S2x12x160x128 .bf16)
  (arg10 : Memref sig .tc .vmem S12x2x80x128 .f32) (arg11 : Memref sig .tc .vmem S32x5120 .bf16) (c : Dev nD)

theorem refill_known {b p : ℕ} (hb : b < 12) (hp : p < 10) (S : Vec F S160x128 .bf16) (P : S12x2x80x128.Idx → F .f32) (v : Vec F S1x1x16x128 .bf16)
    (hv : v = fun x => S (ix2 ⟨p * 16 + (x 2).val, by have h : (x 2).val < 16 := (x 2).isLt; omega⟩ (x 3))) :
    Known b p S (updR (Rect.unit (s := S12x2x80x128) ![b, 1, p * 8, 0] S1x1x8x128.size (inSP hb (by omega) (by omega))) (scOdd v)
      (updR (Rect.unit (s := S12x2x80x128) ![b, 0, p * 8, 0] S1x1x8x128.size (inSP hb (by omega) (by omega))) (scEven v) P)) := by
  intro i h0 h1 h2
  have hh : (i 1).val < 2 := (i 1).isLt
  set r1 := Rect.unit (s := S12x2x80x128) ![b, 1, p * 8, 0] S1x1x8x128.size (inSP hb (by omega) (by omega)) with hr1
  set r0 := Rect.unit (s := S12x2x80x128) ![b, 0, p * 8, 0] S1x1x8x128.size (inSP hb (by omega) (by omega)) with hr0
  by_cases h : (i 1).val = 1
  · obtain ⟨x, hx, hx2, hx3⟩ : ∃ x : S1x1x8x128.Idx, r1.emb x = i ∧ p * 8 + (x 2).val = (i 2).val ∧ x 3 = i 3 := by
      refine ⟨ix4 (0 : Fin 1) (0 : Fin 1) ⟨(i 2).val - p * 8, by omega⟩ (i 3), ?_, ?_, rfl⟩
      · funext a; fin_cases a <;> apply Fin.ext
        · show b + 1 * 0 = (i 0).val; omega
        · show 1 + 1 * 0 = (i 1).val; omega
        · show p * 8 + 1 * ((i 2).val - p * 8) = (i 2).val; omega
        · show 0 + 1 * (i 3).val = (i 3).val; omega
      · show p * 8 + ((i 2).val - p * 8) = _; omega
    rw [← hx, updR_emb, scOdd_apply, hv, hx]
    unfold wid
    show (extf .f32 S bitsLt_bf16_f32 : FVec F S160x128 .f32) _ = _
    congr 1
    funext a; fin_cases a
    · apply Fin.ext; show p * 16 + (2 * (x 2).val + 1) = 2 * (i 2).val + (i 1).val; omega
    · exact hx3
  · have h : (i 1).val = 0 := by omega
    obtain ⟨x, hx, hx2, hx3⟩ : ∃ x : S1x1x8x128.Idx, r0.emb x = i ∧ p * 8 + (x 2).val = (i 2).val ∧ x 3 = i 3 := by
      refine ⟨ix4 (0 : Fin 1) (0 : Fin 1) ⟨(i 2).val - p * 8, by omega⟩ (i 3), ?_, ?_, rfl⟩
      · funext a; fin_cases a <;> apply Fin.ext
        · show b + 1 * 0 = (i 0).val; omega
        · show 0 + 1 * 0 = (i 1).val; omega
        · show p * 8 + 1 * ((i 2).val - p * 8) = (i 2).val; omega
        · show 0 + 1 * (i 3).val = (i 3).val; omega
      · show p * 8 + ((i 2).val - p * 8) = _; omega
    rw [updR_of_ne]
    · rw [← hx, updR_emb, scEven_apply, hv, hx]
      unfold wid
      show (extf .f32 S bitsLt_bf16_f32 : FVec F S160x128 .f32) _ = _
      congr 1
      funext a; fin_cases a
      · apply Fin.ext; show p * 16 + 2 * (x 2).val = 2 * (i 2).val + (i 1).val; omega
      · exact hx3
    · intro y hy
      have h' := congrArg (fun z : S12x2x80x128.Idx => (z 1).val) hy
      have h'' : 1 + 1 * (y 1).val = (i 1).val := h'
      omega
theorem refill_keeps {b b' p : ℕ} (hne : b' ≠ b) (hb : b < 12) (hp : p < 10) (p' : ℕ) (S' : Vec F S160x128 .bf16) (P : S12x2x80x128.Idx → F .f32) (e o : Vec F S1x1x8x128 .f32)
    (hP : Known b' p' S' P) :
    Known b' p' S' (updR (Rect.unit (s := S12x2x80x128) ![b, 1, p * 8, 0] S1x1x8x128.size (inSP hb (by omega) (by omega))) o
      (updR (Rect.unit (s := S12x2x80x128) ![b, 0, p * 8, 0] S1x1x8x128.size (inSP hb (by omega) (by omega))) e P)) := by
  intro i h0 h1 h2
  rw [updR_of_ne, updR_of_ne]
  · exact hP i h0 h1 h2
  all_goals
    intro y hy
    have h' := congrArg (fun z : S12x2x80x128.Idx => (z 0).val) hy
    have h'' : b + 1 * (y 0).val = (i 0).val := h'
    have h3 : (y 0).val < 1 := (y 0).isLt
    omega

/-- A load of codes off a plane. -/
theorem loadC_wp (s b r : ℕ) (hs : s < 2) (hb : b < 12) (hr : r + 32 ≤ 2560) (hl) (C : Vec F S2560x128 .i8) (Q : Vec F S1x1x32x128 .i8 → sProp (MM F)) :
    iprop(owns (c : Thread nD τ) (plC arg8 s b hs hb) fullShare C ∗ (owns (c : Thread nD τ) (plC arg8 s b hs hb) fullShare C
        -∗ Q (fun x => C (ix2 ⟨r + (x 2).val, by have h : (x 2).val < 32 := (x 2).isLt; omega⟩ (x 3)))))
      ⊢ WP c (Prog.lift (.load arg8 (Rect.unit (s := S2x12x2560x128) ![s, b, r, 0] S1x1x32x128.size (inSC hs hb hr)).toLoadRect hl)) Q :=
  own_load_sub c arg8 (Rect.unit (s := S2x12x2560x128) ![s, b, 0, 0] S1x1x2560x128.size (inSCp hs hb)) (fun _ => rfl) squeezes_S1x1x2560x128_S2560x128 (Rect.unit (s := S2x12x2560x128) ![s, b, r, 0] S1x1x32x128.size (inSC hs hb hr)).toLoadRect hl fullShare C
    (fun x => ix2 ⟨r + (x 2).val, by have h : (x 2).val < 32 := (x 2).isLt; omega⟩ (x 3)) (by
      intro x
      refine Eq.trans ?_ (congrArg _ (reshapeEquiv_ix2_11ab _ _ _)).symm
      have h0 : (x 0).val < 1 := (x 0).isLt
      have h1 : (x 1).val < 1 := (x 1).isLt
      funext a; fin_cases a <;> apply Fin.ext
      · show s + 1 * (x 0).val = s + 1 * 0; omega
      · show b + 1 * (x 1).val = b + 1 * 0; omega
      · show r + 1 * (x 2).val = 0 + 1 * (r + (x 2).val); omega
      · rfl) Q
/-- A load of scales off a plane. -/
theorem loadS_wp (s b r : ℕ) (hs : s < 2) (hb : b < 12) (hr : r + 16 ≤ 160) (hl) (S : Vec F S160x128 .bf16) (Q : Vec F S1x1x16x128 .bf16 → sProp (MM F)) :
    iprop(owns (c : Thread nD τ) (plS arg9 s b hs hb) fullShare S ∗ (owns (c : Thread nD τ) (plS arg9 s b hs hb) fullShare S
        -∗ Q (fun x => S (ix2 ⟨r + (x 2).val, by have h : (x 2).val < 16 := (x 2).isLt; omega⟩ (x 3)))))
      ⊢ WP c (Prog.lift (.load arg9 (Rect.unit (s := S2x12x160x128) ![s, b, r, 0] S1x1x16x128.size (inSS hs hb hr)).toLoadRect hl)) Q :=
  own_load_sub c arg9 (Rect.unit (s := S2x12x160x128) ![s, b, 0, 0] S1x1x160x128.size (inSSp hs hb)) (fun _ => rfl) squeezes_S1x1x160x128_S160x128 (Rect.unit (s := S2x12x160x128) ![s, b, r, 0] S1x1x16x128.size (inSS hs hb hr)).toLoadRect hl fullShare S
    (fun x => ix2 ⟨r + (x 2).val, by have h : (x 2).val < 16 := (x 2).isLt; omega⟩ (x 3)) (by
      intro x
      refine Eq.trans ?_ (congrArg _ (reshapeEquiv_ix2_11ab _ _ _)).symm
      have h0 : (x 0).val < 1 := (x 0).isLt
      have h1 : (x 1).val < 1 := (x 1).isLt
      funext a; fin_cases a <;> apply Fin.ext
      · show s + 1 * (x 0).val = s + 1 * 0; omega
      · show b + 1 * (x 1).val = b + 1 * 0; omega
      · show r + 1 * (x 2).val = 0 + 1 * (r + (x 2).val); omega
      · rfl) Q

theorem refill_wp (s b p : ℕ) (hs : s < 2) (hb : b < 12) (hp : p < 10) (S : Vec F S160x128 .bf16) (P : S12x2x80x128.Idx → F .f32) (Q : PUnit → sProp (MM F)) :
    iprop(owns (c : Thread nD τ) (plS arg9 s b hs hb) fullShare S ∗ owns (c : Thread nD τ) arg10 fullShare P
        ∗ (∀ P', ⌜Known b p S P' ∧ ∀ b' p' S', b' ≠ b → Known b' p' S' P → Known b' p' S' P'⌝ -∗ owns (c : Thread nD τ) (plS arg9 s b hs hb) fullShare S -∗ owns (c : Thread nD τ) arg10 fullShare P' -∗ Q ⟨⟩))
      ⊢ WP c (refillP arg9 arg10 s b p hs hb hp) Q := by
  unfold refillP
  rw [WP_bind']
  iintro ⟨HS, HP, Hk⟩
  iapply (loadS_wp arg9 c s b (p * 16) hs hb (by omega) _ S)
  isplitl [HS]; · iexact HS
  iintro HS
  beta_reduce
  rw [WP_bind']
  iapply (own_load c arg10 _ _ fullShare P)
  isplitl [HP]; · iexact HP
  iintro HP
  beta_reduce
  rw [WP_bind']
  iapply (own_store c arg10 _ _ _ _ P)
  isplitl [HP]; · iexact HP
  iintro HP
  beta_reduce
  rw [WP_bind']
  iapply (own_load c arg10 _ _ fullShare)
  isplitl [HP]; · iexact HP
  iintro HP
  beta_reduce
  iapply (own_store c arg10 _ _ _ _)
  isplitl [HP]; · iexact HP
  iintro HP
  ispecialize Hk $$ %_ %(⟨refill_known hb hp S P _ rfl, fun b' p' S' hne hP => refill_keeps hne hb hp p' S' P _ _ hP⟩) HS HP
  iexact Hk

theorem quart_val {b kt i : ℕ} (hb : b < 12) (hk : kt < 20) (hi : i < 4) (C : Vec F S2560x128 .i8) (S : Vec F S160x128 .bf16) (P : S12x2x80x128.Idx → F .f32) (hP : Known b (kt / 2) S P) :
    (⟨fun x => C (ix2 ⟨kt * 128 + i * 32 + (x 2).val, by have h : (x 2).val < 32 := (x 2).isLt; omega⟩ (x 3)),
      fun x => P ((⟨![b, 0, kt * 4 + i, 0], S1x1x8x128.size, ![1, 1, 0, 1], inSPs hb (by omega) (by omega)⟩ : LoadRect S12x2x80x128).idx x),
      fun x => P ((⟨![b, 1, kt * 4 + i, 0], S1x1x8x128.size, ![1, 1, 0, 1], inSPs hb (by omega) (by omega)⟩ : LoadRect S12x2x80x128).idx x)⟩ : Quart F)
      = quartOf C S kt i hk hi := by
  unfold quartOf
  congr 1
  · funext x
    have h0 : (x 0).val < 1 := (x 0).isLt
    have h1 : (x 1).val < 1 := (x 1).isLt
    rw [hP]
    · congr 1; funext a; fin_cases a <;> apply Fin.ext
      · show 2 * (kt * 4 + i + 0 * (x 2).val) + (0 + 1 * (x 1).val) = 2 * (kt * 4 + i); omega
      · show 0 + 1 * (x 3).val = (x 3).val; omega
    · show b + 1 * (x 0).val = b; omega
    · show _ ≤ kt * 4 + i + 0 * (x 2).val; omega
    · show kt * 4 + i + 0 * (x 2).val < _; omega
  · funext x
    have h0 : (x 0).val < 1 := (x 0).isLt
    have h1 : (x 1).val < 1 := (x 1).isLt
    rw [hP]
    · congr 1; funext a; fin_cases a <;> apply Fin.ext
      · show 2 * (kt * 4 + i + 0 * (x 2).val) + (1 + 1 * (x 1).val) = 2 * (kt * 4 + i) + 1; omega
      · show 0 + 1 * (x 3).val = (x 3).val; omega
    · show b + 1 * (x 0).val = b; omega
    · show _ ≤ kt * 4 + i + 0 * (x 2).val; omega
    · show kt * 4 + i + 0 * (x 2).val < _; omega

theorem quart_wp (s b kt i : ℕ) (hs : s < 2) (hb : b < 12) (hk : kt < 20) (hi : i < 4) (C : Vec F S2560x128 .i8) (S : Vec F S160x128 .bf16) (P : S12x2x80x128.Idx → F .f32) (hP : Known b (kt / 2) S P)
    (Q : Quart F → sProp (MM F)) :
    iprop(owns (c : Thread nD τ) (plC arg8 s b hs hb) fullShare C ∗ owns (c : Thread nD τ) arg10 fullShare P
        ∗ (owns (c : Thread nD τ) (plC arg8 s b hs hb) fullShare C -∗ owns (c : Thread nD τ) arg10 fullShare P -∗ Q (quartOf C S kt i hk hi)))
      ⊢ WP c (quartP arg8 arg10 s b kt i hs hb hk hi) Q := by
  unfold quartP
  rw [WP_bind']
  iintro ⟨HC, HP, Hk⟩
  iapply (loadC_wp arg8 c s b (kt * 128 + i * 32) hs hb (by omega) _ C)
  isplitl [HC]; · iexact HC
  iintro HC
  beta_reduce
  rw [WP_bind']
  iapply (own_load c arg10 _ _ fullShare P)
  isplitl [HP]; · iexact HP
  iintro HP
  beta_reduce
  rw [WP_bind']
  iapply (own_load c arg10 _ _ fullShare P)
  isplitl [HP]; · iexact HP
  iintro HP
  beta_reduce
  rw [quart_val hb hk hi C S P hP]
  iapply WP_pure
  ispecialize Hk $$ HC HP
  iexact Hk

theorem col_wp (s b kt : ℕ) (hs : s < 2) (hb : b < 12) (hk : kt < 20) (C : Vec F S2560x128 .i8) (S : Vec F S160x128 .bf16) (P : S12x2x80x128.Idx → F .f32) (hP : Known b (kt / 2) S P)
    (Q : FVec F S256x128 .bf16 → sProp (MM F)) :
    iprop(owns (c : Thread nD τ) (plC arg8 s b hs hb) fullShare C ∗ owns (c : Thread nD τ) arg10 fullShare P
        ∗ (owns (c : Thread nD τ) (plC arg8 s b hs hb) fullShare C -∗ owns (c : Thread nD τ) arg10 fullShare P -∗ Q (colOf C S kt hk)))
      ⊢ WP c (colP arg8 arg10 s b kt hs hb hk) Q := by
  unfold colP
  rw [WP_bind']
  iintro ⟨HC, HP, Hk⟩
  iapply (quart_wp arg8 arg10 c s b kt 0 hs hb hk _ C S P hP)
  isplitl [HC]; · iexact HC
  isplitl [HP]; · iexact HP
  iintro HC HP
  beta_reduce
  rw [WP_bind']
  iapply (quart_wp arg8 arg10 c s b kt 1 hs hb hk _ C S P hP)
  isplitl [HC]; · iexact HC
  isplitl [HP]; · iexact HP
  iintro HC HP
  beta_reduce
  rw [WP_bind']
  iapply (quart_wp arg8 arg10 c s b kt 2 hs hb hk _ C S P hP)
  isplitl [HC]; · iexact HC
  isplitl [HP]; · iexact HP
  iintro HC HP
  beta_reduce
  rw [WP_bind']
  iapply (quart_wp arg8 arg10 c s b kt 3 hs hb hk _ C S P hP)
  isplitl [HC]; · iexact HC
  isplitl [HP]; · iexact HP
  iintro HC HP
  beta_reduce
  rw [show colW (quartOf C S kt 0 hk (by omega)) (quartOf C S kt 1 hk (by omega)) (quartOf C S kt 2 hk (by omega)) (quartOf C S kt 3 hk (by omega)) = colOf C S kt hk from rfl]
  iapply WP_pure
  ispecialize Hk $$ HC HP
  iexact Hk

/-- A load of a tile's block of the left operand. -/
theorem loadH_wp (kt : ℕ) (hk : kt < 20) (hl : arg11.view.LoadsAt (Rect.unit (s := S32x5120) ![0, kt * 256] S32x256.size (inSH (by omega))).toLoadRect) (H : Vec F S32x5120 .bf16) (Q : Vec F S32x256 .bf16 → sProp (MM F)) :
    iprop(owns (c : Thread nD τ) arg11 fullShare H ∗ (owns (c : Thread nD τ) arg11 fullShare H -∗ Q (actOf H kt hk)))
      ⊢ WP c (Prog.lift (.load arg11 (Rect.unit (s := S32x5120) ![0, kt * 256] S32x256.size (inSH (by omega))).toLoadRect hl)) Q := by
  have e : (fun x => H ((Rect.unit (s := S32x5120) ![0, kt * 256] S32x256.size (inSH (by omega))).toLoadRect.idx x)) = actOf H kt hk := by
    funext x; unfold actOf; congr 1; funext a; fin_cases a <;> apply Fin.ext
    · show 0 + 1 * (x 0).val = (x 0).val; omega
    · show kt * 256 + 1 * (x 1).val = kt * 256 + (x 1).val; omega
  rw [← e]
  exact own_load c arg11 _ hl fullShare H Q

theorem tile_wp (s b kt : ℕ) (hs : s < 2) (hb : b + 1 < 12) (hk : kt < 20) (acc : FVec F S32x256 .f32) (C0 C1 : Vec F S2560x128 .i8) (S0 S1 : Vec F S160x128 .bf16) (H : Vec F S32x5120 .bf16)
    (P : S12x2x80x128.Idx → F .f32) (hP : Known b (kt / 2) S0 P) (hP' : Known (b + 1) (kt / 2) S1 P) (Q : FVec F S32x256 .f32 → sProp (MM F)) :
    iprop(owns (c : Thread nD τ) (plC arg8 s b hs (by omega)) fullShare C0 ∗ owns (c : Thread nD τ) (plC arg8 s (b + 1) hs hb) fullShare C1
        ∗ owns (c : Thread nD τ) arg10 fullShare P ∗ owns (c : Thread nD τ) arg11 fullShare H
        ∗ (owns (c : Thread nD τ) (plC arg8 s b hs (by omega)) fullShare C0 -∗ owns (c : Thread nD τ) (plC arg8 s (b + 1) hs hb) fullShare C1
          -∗ owns (c : Thread nD τ) arg10 fullShare P -∗ owns (c : Thread nD τ) arg11 fullShare H -∗ Q (tileOf C0 C1 S0 S1 H kt hk acc)))
      ⊢ WP c (tileP arg8 arg10 arg11 s b kt hs hb hk acc) Q := by
  unfold tileP
  rw [WP_bind']
  iintro ⟨HC0, HC1, HP, HH, Hk⟩
  iapply (col_wp arg8 arg10 c s b kt hs _ hk C0 S0 P hP)
  isplitl [HC0]; · iexact HC0
  isplitl [HP]; · iexact HP
  iintro HC0 HP
  beta_reduce
  rw [WP_bind']
  iapply (col_wp arg8 arg10 c s (b + 1) kt hs hb hk C1 S1 P hP')
  isplitl [HC1]; · iexact HC1
  isplitl [HP]; · iexact HP
  iintro HC1 HP
  beta_reduce
  rw [WP_bind']
  iapply (loadH_wp arg11 c kt hk _ H)
  isplitl [HH]; · iexact HH
  iintro HH
  beta_reduce
  rw [show tileV acc (colOf C0 S0 kt hk) (colOf C1 S1 kt hk) (actOf H kt hk) = tileOf C0 C1 S0 S1 H kt hk acc from rfl]
  iapply WP_pure
  ispecialize Hk $$ HC0 HC1 HP HH
  iexact Hk

/-- What a contraction reads: two planes of codes, two of scales, and the left operand. -/
def DR (s b : ℕ) (hs : s < 2) (hb : b + 1 < 12) (C0 C1 : Vec F S2560x128 .i8) (S0 S1 : Vec F S160x128 .bf16) (H : Vec F S32x5120 .bf16) : sProp (MM F) :=
  iprop(owns (c : Thread nD τ) (plC arg8 s b hs (by omega)) fullShare C0 ∗ owns (c : Thread nD τ) (plC arg8 s (b + 1) hs hb) fullShare C1
    ∗ owns (c : Thread nD τ) (plS arg9 s b hs (by omega)) fullShare S0 ∗ owns (c : Thread nD τ) (plS arg9 s (b + 1) hs hb) fullShare S1
    ∗ (∃ P, owns (c : Thread nD τ) arg10 fullShare P) ∗ owns (c : Thread nD τ) arg11 fullShare H)

theorem pair_wp (s b p : ℕ) (hs : s < 2) (hb : b + 1 < 12) (hp : p < 10) (acc : FVec F S32x256 .f32) (C0 C1 : Vec F S2560x128 .i8) (S0 S1 : Vec F S160x128 .bf16) (H : Vec F S32x5120 .bf16)
    (Q : FVec F S32x256 .f32 → sProp (MM F)) :
    iprop(DR arg8 arg9 arg10 arg11 c s b hs hb C0 C1 S0 S1 H
        ∗ (DR arg8 arg9 arg10 arg11 c s b hs hb C0 C1 S0 S1 H -∗ Q (tileOf C0 C1 S0 S1 H (p * 2 + 1) (by omega) (tileOf C0 C1 S0 S1 H (p * 2) (by omega) acc))))
      ⊢ WP c (pairP arg8 arg9 arg10 arg11 s b p hs hb hp acc) Q := by
  unfold pairP DR
  rw [WP_bind']
  iintro ⟨⟨HC0, HC1, HS0, HS1, ⟨%P, HP⟩, HH⟩, Hk⟩
  iapply (refill_wp arg9 arg10 c s b p hs _ hp S0 P)
  isplitl [HS0]; · iexact HS0
  isplitl [HP]; · iexact HP
  iintro %P1 %h1 HS0 HP
  rw [WP_bind']
  iapply (refill_wp arg9 arg10 c s (b + 1) p hs hb hp S1 P1)
  isplitl [HS1]; · iexact HS1
  isplitl [HP]; · iexact HP
  iintro %P2 %h2 HS1 HP
  rw [WP_bind']
  have k0 : Known b p S0 P2 := h2.2 _ _ _ (by omega) h1.1
  have k1 : Known (b + 1) p S1 P2 := h2.1
  iapply (tile_wp arg8 arg10 arg11 c s b (p * 2) hs hb _ acc C0 C1 S0 S1 H P2 (by rwa [show p * 2 / 2 = p by omega]) (by rwa [show p * 2 / 2 = p by omega]))
  isplitl [HC0]; · iexact HC0
  isplitl [HC1]; · iexact HC1
  isplitl [HP]; · iexact HP
  isplitl [HH]; · iexact HH
  iintro HC0 HC1 HP HH
  beta_reduce
  iapply (tile_wp arg8 arg10 arg11 c s b (p * 2 + 1) hs hb _ _ C0 C1 S0 S1 H P2 (by rwa [show (p * 2 + 1) / 2 = p by omega]) (by rwa [show (p * 2 + 1) / 2 = p by omega]))
  isplitl [HC0]; · iexact HC0
  isplitl [HC1]; · iexact HC1
  isplitl [HP]; · iexact HP
  isplitl [HH]; · iexact HH
  iintro HC0 HC1 HP HH
  iapply Hk
  isplitl [HC0]; · iexact HC0
  isplitl [HC1]; · iexact HC1
  isplitl [HS0]; · iexact HS0
  isplitl [HS1]; · iexact HS1
  isplitl [HP]; · iexists P2; iexact HP
  iexact HH

theorem dotFrom_wp (s b : ℕ) (hs : s < 2) (hb : b + 1 < 12) (C0 C1 : Vec F S2560x128 .i8) (S0 S1 : Vec F S160x128 .bf16) (H : Vec F S32x5120 .bf16)
    (Q : FVec F S32x256 .f32 → sProp (MM F)) (n : ℕ) : ∀ (p : ℕ) (h : p + n ≤ 10) (acc : FVec F S32x256 .f32),
    iprop(DR arg8 arg9 arg10 arg11 c s b hs hb C0 C1 S0 S1 H
        ∗ (DR arg8 arg9 arg10 arg11 c s b hs hb C0 C1 S0 S1 H -∗ Q (dotFrom C0 C1 S0 S1 H n p h acc)))
      ⊢ WP c (dotFromP arg8 arg9 arg10 arg11 s b hs hb n p h acc) Q := by
  induction n with
  | zero =>
    intro p h acc
    show iprop(_ ∗ (_ -∗ Q acc)) ⊢ WP c (.ret acc) Q
    iintro ⟨HD, Hk⟩
    iapply WP_ret
    iapply Hk; iexact HD
  | succ n ih =>
    intro p h acc
    show _ ⊢ WP c ((pairP arg8 arg9 arg10 arg11 s b p hs hb (by omega) acc).bind fun a => dotFromP arg8 arg9 arg10 arg11 s b hs hb n (p + 1) (by omega) a) Q
    rw [WP_bind]
    iintro ⟨HD, Hk⟩
    iapply (pair_wp arg8 arg9 arg10 arg11 c s b p hs hb _ acc C0 C1 S0 S1 H)
    isplitl [HD]; · iexact HD
    iintro HD
    iapply (ih (p + 1) _ _)
    isplitl [HD]; · iexact HD
    iexact Hk
theorem dot_wp (s b : ℕ) (hs : s < 2) (hb : b + 1 < 12) (C0 C1 : Vec F S2560x128 .i8) (S0 S1 : Vec F S160x128 .bf16) (H : Vec F S32x5120 .bf16)
    (Q : FVec F S32x256 .f32 → sProp (MM F)) :
    iprop(DR arg8 arg9 arg10 arg11 c s b hs hb C0 C1 S0 S1 H
        ∗ (DR arg8 arg9 arg10 arg11 c s b hs hb C0 C1 S0 S1 H -∗ Q (dotOf C0 C1 S0 S1 H)))
      ⊢ WP c (dotP arg8 arg9 arg10 arg11 s b hs hb) Q :=
  dotFrom_wp arg8 arg9 arg10 arg11 c s b hs hb C0 C1 S0 S1 H Q 10 0 (by omega) _

end Specs

end Cert.KernelIdeal
-- ==== Proof.KernelIdeal.Copy.lean ====
/-
  The copies of one trip's weights into a slot: their batch on the slot's semaphore cell, the starts and the waits.
-/
module

public import proofs.«01_k».proof.Proof.KernelIdeal.Dot

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts]

/-! ## Steps over the members of a family -/

theorem bs_erase {I : Type} [DecidableEq I] {s : Finset I} (i : I) (hi : i ∈ s) (Φ : I → sProp (MM F)) : bigSep s Φ = iprop(Φ i ∗ bigSep (s.erase i) Φ) := bigSep_erase hi
theorem bs_split {I : Type} [Fintype I] [DecidableEq I] (i : I) (Φ : I → sProp (MM F)) : bigSep Finset.univ Φ = iprop(Φ i ∗ bigSep (Finset.univ.erase i) Φ) := bigSep_univ_split i
theorem bs_insert {I : Type} [DecidableEq I] {s : Finset I} (i : I) (hi : i ∉ s) (Φ : I → sProp (MM F)) : bigSep (insert i s) Φ = iprop(Φ i ∗ bigSep s Φ) := bigSep_insert hi
theorem bs_sep {I : Type} (s : Finset I) (Φ Ψ : I → sProp (MM F)) : bigSep s (fun i => iprop(Φ i ∗ Ψ i)) = iprop(bigSep s Φ ∗ bigSep s Ψ) := bigSep_sep s Φ Ψ

/-- Replace member `k` of a family whose first `k` members are replaced. -/
theorem bigSep_step {N : ℕ} (A B : Fin N → sProp (MM F)) (k : ℕ) (hk : k < N) :
    bigSep Finset.univ (fun j : Fin N => if j.val < k then B j else A j)
      ⊢ iprop(A ⟨k, hk⟩ ∗ (B ⟨k, hk⟩ -∗ bigSep Finset.univ (fun j : Fin N => if j.val < k + 1 then B j else A j))) := by
  rw [bs_split (⟨k, hk⟩ : Fin N) (fun j : Fin N => if j.val < k then B j else A j), bs_split (⟨k, hk⟩ : Fin N) (fun j : Fin N => if j.val < k + 1 then B j else A j)]
  rw [if_neg (show ¬ (⟨k, hk⟩ : Fin N).val < k from Nat.lt_irrefl k), if_pos (show (⟨k, hk⟩ : Fin N).val < k + 1 from Nat.lt_succ_self k)]
  rw [bigSep_congr (s := Finset.univ.erase (⟨k, hk⟩ : Fin N)) (Φ := fun j : Fin N => if j.val < k then B j else A j) (Ψ := fun j : Fin N => if j.val < k + 1 then B j else A j) (by
    intro i hi
    have hne : i.val ≠ k := fun h => (Finset.mem_erase.mp hi).1 (Fin.ext h)
    by_cases h : i.val < k
    · rw [if_pos h, if_pos (by omega)]
    · rw [if_neg h, if_neg (by omega)])]
  iintro ⟨HA, HR⟩
  isplitl [HA]; · iexact HA
  iintro HB
  isplitl [HB]; · iexact HB
  iexact HR
theorem bigSep_step_first {N : ℕ} (A B : Fin N → sProp (MM F)) :
    bigSep Finset.univ A = bigSep Finset.univ (fun j : Fin N => if j.val < 0 then B j else A j) := by
  refine bigSep_congr fun i _ => ?_
  rw [if_neg (by omega)]
theorem bigSep_step_last {N : ℕ} (A B : Fin N → sProp (MM F)) :
    bigSep Finset.univ (fun j : Fin N => if j.val < N then B j else A j) = bigSep Finset.univ B := by
  refine bigSep_congr fun i _ => ?_
  rw [if_pos i.2]
/-- Borrow two members. -/
theorem bigSep_take2 {N : ℕ} (A : Fin N → sProp (MM F)) (i j : Fin N) (h : j ≠ i) :
    bigSep Finset.univ A ⊢ iprop(A i ∗ A j ∗ (A i -∗ A j -∗ bigSep Finset.univ A)) := by
  rw [bs_split i A, bs_erase j (Finset.mem_erase.mpr ⟨h, Finset.mem_univ _⟩) A]
  iintro ⟨HA, HB, HR⟩
  isplitl [HA]; · iexact HA
  isplitl [HB]; · iexact HB
  iintro HA HB
  isplitl [HA]; · iexact HA
  isplitl [HB]; · iexact HB
  iexact HR

/-- Sums of more members are no less. -/
theorem sumTo_le {n : ℕ} (A : Fin n → ℕ) {j k : ℕ} (h : j ≤ k) : sumTo A j ≤ sumTo A k := by
  induction h with
  | refl => exact Nat.le_refl _
  | step _ ih => exact ih.trans (Nat.le_add_right _ _)

/-! ## A trip's windows -/

/-- The 128 columns of a code array from column `j` on, of a scale array. -/
def cwin (g : Vec F S2560x13824 .i8) (j : ℕ) : Vec F S2560x128 .i8 := fun y => g (ix2 (y 0) ⟨(j + (y 1).val) % 13824, Nat.mod_lt _ (by omega)⟩)
def swin (g : Vec F S160x13824 .bf16) (j : ℕ) : Vec F S160x128 .bf16 := fun y => g (ix2 (y 0) ⟨(j + (y 1).val) % 13824, Nat.mod_lt _ (by omega)⟩)

/-- The kernel's memrefs, and what the arrays in slow memory hold. -/
structure Env (F : FTy → Type) [FloatOps F] (c : Dev nD) where
  a0 : Memref sig .tc .vmem S32x5120 .f32
  h0 : a0.IsWhole
  a1 : Memref sig .tc .hbm S1x5120 .bf16
  h1 : a1.IsWhole
  a2 : Memref sig .tc .hbm S2560x13824 .i8
  h2 : a2.IsWhole
  a3 : Memref sig .tc .hbm S160x13824 .bf16
  h3 : a3.IsWhole
  a4 : Memref sig .tc .hbm S2560x13824 .i8
  h4 : a4.IsWhole
  a5 : Memref sig .tc .hbm S160x13824 .bf16
  h5 : a5.IsWhole
  a6 : Memref sig .tc .vmem S32x13824 .bf16
  h6 : a6.IsWhole
  a7 : Memref sig .tc .vmem S1x5120 .bf16
  h7 : a7.IsWhole
  a8 : Memref sig .tc .vmem S2x12x2560x128 .i8
  h8 : a8.IsWhole
  a9 : Memref sig .tc .vmem S2x12x160x128 .bf16
  h9 : a9.IsWhole
  a10 : Memref sig .tc .vmem S12x2x80x128 .f32
  h10 : a10.IsWhole
  a11 : Memref sig .tc .vmem S32x5120 .bf16
  h11 : a11.IsWhole
  a12 : DmaSems sig S7
  a13 : DmaSems sig S2
  f1 : Buf (Elt F) (a1.view.loc (c : Thread nD τ))
  f2 : Buf (Elt F) (a2.view.loc (c : Thread nD τ))
  f3 : Buf (Elt F) (a3.view.loc (c : Thread nD τ))
  f4 : Buf (Elt F) (a4.view.loc (c : Thread nD τ))
  f5 : Buf (Elt F) (a5.view.loc (c : Thread nD τ))

variable {c : Dev nD} (E : Env F c)

theorem read_wiC (w : Memref sig .tc .hbm S2560x13824 .i8) (j : ℕ) (hj : j + 128 ≤ 13824) (f : Buf (Elt F) (w.view.loc (c : Thread nD τ))) :
    (wiC w j hj).view.read (Elt F) f = cwin (w.view.read (Elt F) f) j := by
  funext y
  have h1 : (y 1).val < 128 := (y 1).isLt
  show w.view.read (Elt F) f ((Rect.unit (s := S2560x13824) ![0, j] S2560x128.size (inHC hj)).emb y) = _
  unfold cwin
  congr 1
  funext a; fin_cases a <;> apply Fin.ext
  · show 0 + 1 * (y 0).val = (y 0).val; omega
  · show j + 1 * (y 1).val = (j + (y 1).val) % 13824
    rw [Nat.mod_eq_of_lt (by omega)]; omega
theorem read_wiS (w : Memref sig .tc .hbm S160x13824 .bf16) (j : ℕ) (hj : j + 128 ≤ 13824) (f : Buf (Elt F) (w.view.loc (c : Thread nD τ))) :
    (wiS w j hj).view.read (Elt F) f = swin (w.view.read (Elt F) f) j := by
  funext y
  have h1 : (y 1).val < 128 := (y 1).isLt
  show w.view.read (Elt F) f ((Rect.unit (s := S160x13824) ![0, j] S160x128.size (inHS hj)).emb y) = _
  unfold swin
  congr 1
  funext a; fin_cases a <;> apply Fin.ext
  · show 0 + 1 * (y 0).val = (y 0).val; omega
  · show j + 1 * (y 1).val = (j + (y 1).val) % 13824
    rw [Nat.mod_eq_of_lt (by omega)]; omega

/-- A window of a code array held at what the array holds, of a scale array. -/
def winC (c : Dev nD) (w : Memref sig .tc .hbm S2560x13824 .i8) (f : Buf (Elt F) (w.view.loc (c : Thread nD τ))) (j : ℕ) (hj : j + 128 ≤ 13824) : sProp (MM F) :=
  ((wiC w j hj).view.loc (c : Thread nD τ) ↦[(wiC w j hj).view.set]{fullShare} f)
def winS (c : Dev nD) (w : Memref sig .tc .hbm S160x13824 .bf16) (f : Buf (Elt F) (w.view.loc (c : Thread nD τ))) (j : ℕ) (hj : j + 128 ≤ 13824) : sProp (MM F) :=
  ((wiS w j hj).view.loc (c : Thread nD τ) ↦[(wiS w j hj).view.set]{fullShare} f)
/-- A plane of slot `s` held at a window's elements, and at anything. -/
def atC (c : Dev nD) (a8 : Memref sig .tc .vmem S2x12x2560x128 .i8) (s b : ℕ) (hs : s < 2) (hb : b < 12) (w : Memref sig .tc .hbm S2560x13824 .i8) (f : Buf (Elt F) (w.view.loc (c : Thread nD τ))) (j : ℕ) : sProp (MM F) :=
  owns (c : Thread nD τ) (plC a8 s b hs hb) fullShare (cwin (w.view.read (Elt F) f) j)
def atS (c : Dev nD) (a9 : Memref sig .tc .vmem S2x12x160x128 .bf16) (s b : ℕ) (hs : s < 2) (hb : b < 12) (w : Memref sig .tc .hbm S160x13824 .bf16) (f : Buf (Elt F) (w.view.loc (c : Thread nD τ))) (j : ℕ) : sProp (MM F) :=
  owns (c : Thread nD τ) (plS a9 s b hs hb) fullShare (swin (w.view.read (Elt F) f) j)
def anyC (c : Dev nD) (a8 : Memref sig .tc .vmem S2x12x2560x128 .i8) (s b : ℕ) (hs : s < 2) (hb : b < 12) : sProp (MM F) :=
  iprop(∃ X, owns (c : Thread nD τ) (plC a8 s b hs hb) fullShare X)
def anyS (c : Dev nD) (a9 : Memref sig .tc .vmem S2x12x160x128 .bf16) (s b : ℕ) (hs : s < 2) (hb : b < 12) : sProp (MM F) :=
  iprop(∃ X, owns (c : Thread nD τ) (plS a9 s b hs hb) fullShare X)

theorem pts_storable (ℓ : Loc nD τ sig) (I : Finset (Idx ℓ)) (q : PosShare TreeShare) (f : Buf (Elt F) ℓ) :
    Storable (upEmb : UEmb _ (MM F)) (ℓ ↦[I]{q} f : sProp (MM F)) := inferInstance
instance winC_storable (c : Dev nD) (w : Memref sig .tc .hbm S2560x13824 .i8) (f : Buf (Elt F) (w.view.loc (c : Thread nD τ))) (j : ℕ) (hj : j + 128 ≤ 13824) : Storable (upEmb : UEmb _ (MM F)) (winC c w f j hj) := by
  unfold winC
  exact pts_storable (w.view.loc (c : Thread nD τ)) (wiC w j hj).view.set fullShare f
instance winS_storable (c : Dev nD) (w : Memref sig .tc .hbm S160x13824 .bf16) (f : Buf (Elt F) (w.view.loc (c : Thread nD τ))) (j : ℕ) (hj : j + 128 ≤ 13824) : Storable (upEmb : UEmb _ (MM F)) (winS c w f j hj) := by
  unfold winS
  exact pts_storable (w.view.loc (c : Thread nD τ)) (wiS w j hj).view.set fullShare f
instance atC_storable (c : Dev nD) (a8 : Memref sig .tc .vmem S2x12x2560x128 .i8) (s b : ℕ) (hs : s < 2) (hb : b < 12) (w : Memref sig .tc .hbm S2560x13824 .i8) (f : Buf (Elt F) (w.view.loc (c : Thread nD τ))) (j : ℕ) :
    Storable (upEmb : UEmb _ (MM F)) (atC c a8 s b hs hb w f j) := owns_storable ..
instance atS_storable (c : Dev nD) (a9 : Memref sig .tc .vmem S2x12x160x128 .bf16) (s b : ℕ) (hs : s < 2) (hb : b < 12) (w : Memref sig .tc .hbm S160x13824 .bf16) (f : Buf (Elt F) (w.view.loc (c : Thread nD τ))) (j : ℕ) :
    Storable (upEmb : UEmb _ (MM F)) (atS c a9 s b hs hb w f j) := owns_storable ..

/-- Copy `(h, i, k)` of trip `t` into slot `s`: what it hands over. -/
def deliv (s : ℕ) (hs : s < 2) (t : ℕ) (ht : t < 18) : Fin 2 × Fin 6 × Fin 2 → sProp (MM F)
  | (h, i, k) =>
    if h = 0 then
      (if k = 0 then iprop(atC c E.a8 s i.val hs (by omega) E.a2 E.f2 (t * 768 + i.val * 128) ∗ winC c E.a2 E.f2 (t * 768 + i.val * 128) (by omega))
       else iprop(atS c E.a9 s i.val hs (by omega) E.a3 E.f3 (t * 768 + i.val * 128) ∗ winS c E.a3 E.f3 (t * 768 + i.val * 128) (by omega)))
    else
      (if k = 0 then iprop(atC c E.a8 s (6 + i.val) hs (by omega) E.a4 E.f4 (t * 768 + i.val * 128) ∗ winC c E.a4 E.f4 (t * 768 + i.val * 128) (by omega))
       else iprop(atS c E.a9 s (6 + i.val) hs (by omega) E.a5 E.f5 (t * 768 + i.val * 128) ∗ winS c E.a5 E.f5 (t * 768 + i.val * 128) (by omega)))

instance deliv_storable (s : ℕ) (hs : s < 2) (t : ℕ) (ht : t < 18) (x) : Storable (upEmb : UEmb _ (MM F)) (deliv E s hs t ht x) := by
  obtain ⟨h, i, k⟩ := x
  unfold deliv
  dsimp only
  split <;> split <;> infer_instance

/-- The copies' numbers. -/
def cpE : Fin 2 × Fin 6 × Fin 2 ≃ Fin (2 * (6 * 2)) := (Equiv.prodCongr (Equiv.refl _) finProdFinEquiv).trans finProdFinEquiv
theorem cpE_val (h : Fin 2) (i : Fin 6) (k : Fin 2) : (cpE (h, i, k)).val = k.val + 2 * i.val + (6 * 2) * h.val := by
  simp [cpE, finProdFinEquiv]
theorem cpE_symm (n : ℕ) (hn : n < 2 * (6 * 2)) (h : Fin 2) (i : Fin 6) (k : Fin 2) (e : n = k.val + 2 * i.val + (6 * 2) * h.val) :
    cpE.symm ⟨n, hn⟩ = (h, i, k) := by
  rw [Equiv.symm_apply_eq]; apply Fin.ext; rw [cpE_val]; exact e
/-- The copies' credits. -/
def credC : ℕ := (plC E.a8 0 0 (by omega) (by omega)).view.dmaCredit
def credS : ℕ := (plS E.a9 0 0 (by omega) (by omega)).view.dmaCredit
def creds (k : Fin (2 * (6 * 2))) : ℕ := if k.val % 2 = 0 then credC E else credS E
theorem creds_pos (k) : 0 < creds E k := by
  unfold creds
  split
  · exact View.dmaCredit_pos _ (by decide)
  · exact View.dmaCredit_pos _ (by decide)

/-- The batch of a trip's copies on slot `s`'s cell. -/
def batch (s : ℕ) (hs : s < 2) (t : ℕ) (ht : t < 18) (k u : ℕ) : sProp (MM F) :=
  MixedBatch countersEmb (c : Thread nD τ) (.dma (semOf E.a13 s hs)) () (creds E) (fun k => deliv E s hs t ht (cpE.symm k)) k u

/-- The two arrays' windows of trip `t`, column block `i`. -/
def srcL (t : ℕ) (ht : t < 18) (i : Fin 6) : sProp (MM F) :=
  iprop(winC c E.a2 E.f2 (t * 768 + i.val * 128) (by omega) ∗ winS c E.a3 E.f3 (t * 768 + i.val * 128) (by omega))
def srcH (t : ℕ) (ht : t < 18) (i : Fin 6) : sProp (MM F) :=
  iprop(winC c E.a4 E.f4 (t * 768 + i.val * 128) (by omega) ∗ winS c E.a5 E.f5 (t * 768 + i.val * 128) (by omega))
/-- The planes they are copied to, free, and filled. -/
def freeL (s : ℕ) (hs : s < 2) (i : Fin 6) : sProp (MM F) := iprop(anyC c E.a8 s i.val hs (by omega) ∗ anyS c E.a9 s i.val hs (by omega))
def freeH (s : ℕ) (hs : s < 2) (i : Fin 6) : sProp (MM F) := iprop(anyC c E.a8 s (6 + i.val) hs (by omega) ∗ anyS c E.a9 s (6 + i.val) hs (by omega))
def fullL (s : ℕ) (hs : s < 2) (t : ℕ) (i : Fin 6) : sProp (MM F) :=
  iprop(atC c E.a8 s i.val hs (by omega) E.a2 E.f2 (t * 768 + i.val * 128) ∗ atS c E.a9 s i.val hs (by omega) E.a3 E.f3 (t * 768 + i.val * 128))
def fullH (s : ℕ) (hs : s < 2) (t : ℕ) (i : Fin 6) : sProp (MM F) :=
  iprop(atC c E.a8 s (6 + i.val) hs (by omega) E.a4 E.f4 (t * 768 + i.val * 128) ∗ atS c E.a9 s (6 + i.val) hs (by omega) E.a5 E.f5 (t * 768 + i.val * 128))

/-! ## The starts -/

theorem stC_wp (s b : ℕ) (hs : s < 2) (hb : b < 12) (t : ℕ) (ht : t < 18) {w : Memref sig .tc .hbm S2560x13824 .i8} (hw : w.IsWhole)
    (f : Buf (Elt F) (w.view.loc (c : Thread nD τ))) (j j' : ℕ) (hj : j + 128 ≤ 13824) (hj' : j' + 128 ≤ 13824) (hjj : j = j')
    (k : ℕ) (hk : k < 2 * (6 * 2)) (hk2 : k % 2 = 0)
    (hD : deliv E s hs t ht (cpE.symm ⟨k, hk⟩) = iprop(atC c E.a8 s b hs hb w f j' ∗ winC c w f j' hj')) (Q : PUnit → sProp (MM F)) :
    iprop(winC c w f j' hj' ∗ anyC c E.a8 s b hs hb ∗ batch E s hs t ht k 0 ∗ (batch E s hs t ht (k + 1) 0 -∗ Q ⟨⟩))
      ⊢ WP c (stC E.a8 hw E.h8 (semOf E.a13 s hs) s b j hs hb hj) Q := by
  subst hjj
  refine own_dma c (wiC w j hj) (plC E.a8 s b hs hb) (semOf E.a13 s hs) (wiC_exact hw hj) (plC_exact E.a8 E.h8 hs hb) _ fullShare f (creds E)
    (fun k => deliv E s hs t ht (cpE.symm k)) k hk ?_ ?_ Q
  · unfold creds; rw [if_pos hk2]; rfl
  · rw [hD, read_wiC]; exact .rfl
theorem stS_wp (s b : ℕ) (hs : s < 2) (hb : b < 12) (t : ℕ) (ht : t < 18) {w : Memref sig .tc .hbm S160x13824 .bf16} (hw : w.IsWhole)
    (f : Buf (Elt F) (w.view.loc (c : Thread nD τ))) (j j' : ℕ) (hj : j + 128 ≤ 13824) (hj' : j' + 128 ≤ 13824) (hjj : j = j')
    (k : ℕ) (hk : k < 2 * (6 * 2)) (hk2 : k % 2 = 1)
    (hD : deliv E s hs t ht (cpE.symm ⟨k, hk⟩) = iprop(atS c E.a9 s b hs hb w f j' ∗ winS c w f j' hj')) (Q : PUnit → sProp (MM F)) :
    iprop(winS c w f j' hj' ∗ anyS c E.a9 s b hs hb ∗ batch E s hs t ht k 0 ∗ (batch E s hs t ht (k + 1) 0 -∗ Q ⟨⟩))
      ⊢ WP c (stS E.a9 hw E.h9 (semOf E.a13 s hs) s b j hs hb hj) Q := by
  subst hjj
  refine own_dma c (wiS w j hj) (plS E.a9 s b hs hb) (semOf E.a13 s hs) (wiS_exact hw hj) (plS_exact E.a9 E.h9 hs hb) _ fullShare f (creds E)
    (fun k => deliv E s hs t ht (cpE.symm k)) k hk ?_ ?_ Q
  · unfold creds; rw [if_neg (by show ¬ k % 2 = 0; omega)]; rfl
  · rw [hD, read_wiS]; exact .rfl

/-- Start a trip's copies into a free slot. -/
theorem starts_wp (s : ℕ) (hs : s < 2) (t : ℕ) (ht : t < 18) (col : ℕ → ℕ) (hcol : ∀ i, i < 6 → col i + 128 ≤ 13824) (hc : ∀ i, i < 6 → col i = t * 768 + i * 128)
    (Q : PUnit → sProp (MM F)) :
    iprop(batch E s hs t ht 0 0 ∗ bigSep Finset.univ (fun i => iprop(srcL E t ht i ∗ freeL E s hs i)) ∗ bigSep Finset.univ (fun i => iprop(srcH E t ht i ∗ freeH E s hs i))
        ∗ (batch E s hs t ht (2 * (6 * 2)) 0 -∗ Q ⟨⟩))
      ⊢ WP c (startsP E.a2 E.h2 E.a3 E.h3 E.a4 E.h4 E.a5 E.h5 E.a8 E.h8 E.a9 E.h9 (semOf E.a13 s hs) s hs col hcol) Q := by
  unfold startsP
  rw [WP_bind]
  iintro ⟨HB, HL, HH, Hk⟩
  iapply (wp_upTo c (fun k => iprop(batch E s hs t ht (2 * k) 0 ∗ bigSep Finset.univ (fun j : Fin 6 => if j.val < k then iprop(emp) else iprop(srcL E t ht j ∗ freeL E s hs j)))) 6)
  · intro i hi
    rw [WP_bind]
    iintro ⟨HB, HS⟩
    ihave HS' := (bigSep_step _ _ i hi) $$ HS
    icases HS' with ⟨⟨Hs, Hf⟩, Hr⟩
    unfold srcL freeL
    icases Hs with ⟨Hs1, Hs2⟩
    icases Hf with ⟨Hf1, Hf2⟩
    iapply (stC_wp E s i hs _ t ht E.h2 E.f2 (col i) (t * 768 + i * 128) (hcol i hi) (by omega) (hc i hi) (2 * i) (by omega) (by omega)
      (by rw [cpE_symm (2 * i) (by omega) 0 ⟨i, hi⟩ 0 (by simp)]; rfl))
    isplitl [Hs1]; · iexact Hs1
    isplitl [Hf1]; · iexact Hf1
    isplitl [HB]; · iexact HB
    iintro HB
    iapply (stS_wp E s i hs _ t ht E.h3 E.f3 (col i) (t * 768 + i * 128) (hcol i hi) (by omega) (hc i hi) (2 * i + 1) (by omega) (by omega)
      (by rw [cpE_symm (2 * i + 1) (by omega) 0 ⟨i, hi⟩ 1 (by simp; omega)]; rfl))
    isplitl [Hs2]; · iexact Hs2
    isplitl [Hf2]; · iexact Hf2
    isplitl [HB]; · iexact HB
    iintro HB
    isplitl [HB]; · rw [show 2 * (i + 1) = 2 * i + 1 + 1 from by omega]; iexact HB
    iapply Hr
    iempintro
  isplitl [HB HL]
  · isplitl [HB]; · iexact HB
    rw [← bigSep_step_first]
    iexact HL
  iintro ⟨HB, -⟩
  iapply (wp_upTo c (fun k => iprop(batch E s hs t ht (2 * (6 + k)) 0 ∗ bigSep Finset.univ (fun j : Fin 6 => if j.val < k then iprop(emp) else iprop(srcH E t ht j ∗ freeH E s hs j)))) 6)
  · intro i hi
    rw [WP_bind]
    iintro ⟨HB, HS⟩
    ihave HS' := (bigSep_step _ _ i hi) $$ HS
    icases HS' with ⟨⟨Hs, Hf⟩, Hr⟩
    unfold srcH freeH
    icases Hs with ⟨Hs1, Hs2⟩
    icases Hf with ⟨Hf1, Hf2⟩
    iapply (stC_wp E s (6 + i) hs _ t ht E.h4 E.f4 (col i) (t * 768 + i * 128) (hcol i hi) (by omega) (hc i hi) (2 * (6 + i)) (by omega) (by omega)
      (by rw [cpE_symm (2 * (6 + i)) (by omega) 1 ⟨i, hi⟩ 0 (by simp; omega)]; rfl))
    isplitl [Hs1]; · iexact Hs1
    isplitl [Hf1]; · iexact Hf1
    isplitl [HB]; · iexact HB
    iintro HB
    iapply (stS_wp E s (6 + i) hs _ t ht E.h5 E.f5 (col i) (t * 768 + i * 128) (hcol i hi) (by omega) (hc i hi) (2 * (6 + i) + 1) (by omega) (by omega)
      (by rw [cpE_symm (2 * (6 + i) + 1) (by omega) 1 ⟨i, hi⟩ 1 (by simp; omega)]; rfl))
    isplitl [Hs2]; · iexact Hs2
    isplitl [Hf2]; · iexact Hf2
    isplitl [HB]; · iexact HB
    iintro HB
    isplitl [HB]; · rw [show 2 * (6 + (i + 1)) = 2 * (6 + i) + 1 + 1 from by omega]; iexact HB
    iapply Hr
    iempintro
  isplitl [HB HH]
  · isplitl [HB]; · iexact HB
    rw [← bigSep_step_first]
    iexact HH
  iintro ⟨HB, -⟩
  iapply Hk
  iexact HB

/-! ## The waits -/

theorem full_split (s : ℕ) (hs : s < 2) (t : ℕ) (ht : t < 18) :
    bigSep Finset.univ (fun k => deliv E s hs t ht (cpE.symm k))
      ⊢ iprop((bigSep Finset.univ (fullL E s hs t) ∗ bigSep Finset.univ (srcL E t ht)) ∗ (bigSep Finset.univ (fullH E s hs t) ∗ bigSep Finset.univ (srcH E t ht))) := by
  rw [bigSep_univ_equiv cpE (fun k => deliv E s hs t ht (cpE.symm k))]
  simp only [Equiv.symm_apply_apply]
  rw [bigSep_univ_prod, bigSep_fin_two, bigSep_univ_prod, bigSep_univ_prod]
  simp only [bigSep_fin_two]
  rw [← bs_sep, ← bs_sep]
  refine BI.sep_mono (bigSep_mono fun i _ => ?_) (bigSep_mono fun i _ => ?_)
  · show iprop((atC c E.a8 s i.val hs (by omega) E.a2 E.f2 (t * 768 + i.val * 128) ∗ winC c E.a2 E.f2 (t * 768 + i.val * 128) (by omega))
      ∗ (atS c E.a9 s i.val hs (by omega) E.a3 E.f3 (t * 768 + i.val * 128) ∗ winS c E.a3 E.f3 (t * 768 + i.val * 128) (by omega))) ⊢ iprop(fullL E s hs t i ∗ srcL E t ht i)
    unfold fullL srcL
    iintro ⟨⟨H1, H2⟩, H3, H4⟩
    isplitl [H1 H3]
    · isplitl [H1]; · iexact H1
      iexact H3
    · isplitl [H2]; · iexact H2
      iexact H4
  · show iprop((atC c E.a8 s (6 + i.val) hs (by omega) E.a4 E.f4 (t * 768 + i.val * 128) ∗ winC c E.a4 E.f4 (t * 768 + i.val * 128) (by omega))
      ∗ (atS c E.a9 s (6 + i.val) hs (by omega) E.a5 E.f5 (t * 768 + i.val * 128) ∗ winS c E.a5 E.f5 (t * 768 + i.val * 128) (by omega))) ⊢ iprop(fullH E s hs t i ∗ srcH E t ht i)
    unfold fullH srcH
    iintro ⟨⟨H1, H2⟩, H3, H4⟩
    isplitl [H1 H3]
    · isplitl [H1]; · iexact H1
      iexact H3
    · isplitl [H2]; · iexact H2
      iexact H4

theorem wtC_wp (s b : ℕ) (hs : s < 2) (hb : b < 12) (t : ℕ) (ht : t < 18) {w : Memref sig .tc .hbm S2560x13824 .i8} (hw : w.IsWhole) (j : ℕ) (hj : j + 128 ≤ 13824)
    (k : ℕ) (hk : k < 2 * (6 * 2)) (hk2 : k % 2 = 0) (Q : PUnit → sProp (MM F)) :
    iprop(batch E s hs t ht (2 * (6 * 2)) (sumTo (creds E) k) ∗ (∃ W, owes (c : Thread nD τ) 0 W)
        ∗ (iprop(batch E s hs t ht (2 * (6 * 2)) (sumTo (creds E) (k + 1)) ∗ (∃ W, owes (c : Thread nD τ) 0 W)) -∗ Q ⟨⟩))
      ⊢ WP c (wtC E.a8 hw E.h8 (semOf E.a13 s hs) s b j hs hb hj) Q := by
  have e : sumTo (creds E) (k + 1) = sumTo (creds E) k + credC E := by
    rw [sumTo_succ _ hk]; unfold creds; rw [if_pos hk2]
  rw [e]
  exact own_wait c (wiC w j hj) (plC E.a8 s b hs hb) (semOf E.a13 s hs) (wiC_exact hw hj) (plC_exact E.a8 E.h8 hs hb) (creds E) _ (sumTo (creds E) k) (credC E) rfl
    (by rw [← e]; exact sumTo_le (creds E) (by omega)) Q
theorem wtS_wp (s b : ℕ) (hs : s < 2) (hb : b < 12) (t : ℕ) (ht : t < 18) {w : Memref sig .tc .hbm S160x13824 .bf16} (hw : w.IsWhole) (j : ℕ) (hj : j + 128 ≤ 13824)
    (k : ℕ) (hk : k < 2 * (6 * 2)) (hk2 : k % 2 = 1) (Q : PUnit → sProp (MM F)) :
    iprop(batch E s hs t ht (2 * (6 * 2)) (sumTo (creds E) k) ∗ (∃ W, owes (c : Thread nD τ) 0 W)
        ∗ (iprop(batch E s hs t ht (2 * (6 * 2)) (sumTo (creds E) (k + 1)) ∗ (∃ W, owes (c : Thread nD τ) 0 W)) -∗ Q ⟨⟩))
      ⊢ WP c (wtS E.a9 hw E.h9 (semOf E.a13 s hs) s b j hs hb hj) Q := by
  have e : sumTo (creds E) (k + 1) = sumTo (creds E) k + credS E := by
    rw [sumTo_succ _ hk]; unfold creds; rw [if_neg (by show ¬ k % 2 = 0; omega)]
  rw [e]
  exact own_wait c (wiS w j hj) (plS E.a9 s b hs hb) (semOf E.a13 s hs) (wiS_exact hw hj) (plS_exact E.a9 E.h9 hs hb) (creds E) _ (sumTo (creds E) k) (credS E) rfl
    (by rw [← e]; exact sumTo_le (creds E) (by omega)) Q
theorem wtAll_wp (s b : ℕ) (hs : s < 2) (hb : b < 12) (t : ℕ) (ht : t < 18) {w : Memref sig .tc .hbm S160x13824 .bf16} (hw : w.IsWhole) (j : ℕ) (hj : j + 128 ≤ 13824)
    (Q : PUnit → sProp (MM F)) :
    iprop(batch E s hs t ht (2 * (6 * 2)) (sumTo (creds E) (2 * (6 * 2) - 1)) ∗ (∃ W, owes (c : Thread nD τ) 0 W)
        ∗ (iprop(bigSep Finset.univ (fun k => deliv E s hs t ht (cpE.symm k)) ∗ semVal ((c : Thread nD τ), .dma (semOf E.a13 s hs)) 0 ∗ (∃ W, owes (c : Thread nD τ) 0 W)) -∗ Q ⟨⟩))
      ⊢ WP c (wtS E.a9 hw E.h9 (semOf E.a13 s hs) s b j hs hb hj) Q := by
  have e : sumTo (creds E) (2 * (6 * 2)) = sumTo (creds E) (2 * (6 * 2) - 1) + credS E := by
    have key : ∀ k (hk : k < 2 * (6 * 2)), k % 2 = 1 → sumTo (creds E) (k + 1) = sumTo (creds E) k + credS E := fun k hk h => by
      rw [sumTo_succ _ hk]; unfold creds; rw [if_neg (by show ¬ k % 2 = 0; omega)]
    exact key (2 * (6 * 2) - 1) (by omega) (by omega)
  exact own_waitAll c (wiS w j hj) (plS E.a9 s b hs hb) (semOf E.a13 s hs) (wiS_exact hw hj) (plS_exact E.a9 E.h9 hs hb) (creds E) _ (sumTo (creds E) (2 * (6 * 2) - 1)) (credS E) rfl
    (creds_pos E) e.symm Q

/-- Wait for all of a trip's copies. -/
theorem waits_wp (s : ℕ) (hs : s < 2) (t : ℕ) (ht : t < 18) (Q : PUnit → sProp (MM F)) :
    iprop(batch E s hs t ht (2 * (6 * 2)) 0 ∗ (∃ W, owes (c : Thread nD τ) 0 W)
        ∗ (iprop(bigSep Finset.univ (fun k => deliv E s hs t ht (cpE.symm k)) ∗ semVal ((c : Thread nD τ), .dma (semOf E.a13 s hs)) 0 ∗ (∃ W, owes (c : Thread nD τ) 0 W)) -∗ Q ⟨⟩))
      ⊢ WP c (waitsP E.a2 E.h2 E.a3 E.h3 E.a4 E.h4 E.a5 E.h5 E.a8 E.h8 E.a9 E.h9 (semOf E.a13 s hs) s hs) Q := by
  unfold waitsP
  rw [WP_bind]
  iintro ⟨HB, HW, Hk⟩
  iapply (wp_upTo c (fun k => iprop(batch E s hs t ht (2 * (6 * 2)) (sumTo (creds E) (2 * k)) ∗ (∃ W, owes (c : Thread nD τ) 0 W))) 6)
  · intro i hi
    rw [WP_bind]
    iintro ⟨HB, HW⟩
    iapply (wtC_wp E s i hs _ t ht E.h2 (i * 128) _ (2 * i) (by omega) (by omega))
    isplitl [HB]; · iexact HB
    isplitl [HW]; · iexact HW
    iintro ⟨HB, HW⟩
    iapply (wtS_wp E s i hs _ t ht E.h3 (i * 128) _ (2 * i + 1) (by omega) (by omega))
    isplitl [HB]; · iexact HB
    isplitl [HW]; · iexact HW
    iintro ⟨HB, HW⟩
    isplitl [HB]; · rw [show 2 * (i + 1) = 2 * i + 1 + 1 from by omega]; iexact HB
    iexact HW
  isplitl [HB HW]
  · isplitl [HB]; · iexact HB
    iexact HW
  iintro HI
  iapply (wp_upTo c (fun k => if k < 6 then iprop(batch E s hs t ht (2 * (6 * 2)) (sumTo (creds E) (2 * (6 + k))) ∗ (∃ W, owes (c : Thread nD τ) 0 W))
    else iprop(bigSep Finset.univ (fun k => deliv E s hs t ht (cpE.symm k)) ∗ semVal ((c : Thread nD τ), .dma (semOf E.a13 s hs)) 0 ∗ (∃ W, owes (c : Thread nD τ) 0 W))) 6)
  · intro i hi
    rw [WP_bind, if_pos hi]
    iintro ⟨HB, HW⟩
    iapply (wtC_wp E s (6 + i) hs _ t ht E.h4 (i * 128) _ (2 * (6 + i)) (by omega) (by omega))
    isplitl [HB]; · iexact HB
    isplitl [HW]; · iexact HW
    iintro ⟨HB, HW⟩
    by_cases h : i + 1 < 6
    · rw [if_pos h]
      iapply (wtS_wp E s (6 + i) hs _ t ht E.h5 (i * 128) _ (2 * (6 + i) + 1) (by omega) (by omega))
      isplitl [HB]; · iexact HB
      isplitl [HW]; · iexact HW
      iintro ⟨HB, HW⟩
      isplitl [HB]; · rw [show 2 * (6 + (i + 1)) = 2 * (6 + i) + 1 + 1 from by omega]; iexact HB
      iexact HW
    · rw [if_neg h]
      iapply (wtAll_wp E s (6 + i) hs _ t ht E.h5 (i * 128) _)
      isplitl [HB]; · rw [show 2 * (6 + i) + 1 = 2 * (6 * 2) - 1 from by omega]; iexact HB
      isplitl [HW]; · iexact HW
      iintro H
      iexact H
  rw [if_pos (show 0 < 6 by omega), if_neg (show ¬ 6 < 6 by omega)]
  isplitl [HI]; · iexact HI
  iexact Hk

end Cert.KernelIdeal
-- ==== Proof.KernelIdeal.Trip.lean ====
/-
  One trip of the loop and the loop itself: the invariant and the activations it stores.
-/
module

public import proofs.«01_k».proof.Proof.KernelIdeal.Copy

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts]

/-! ## The activations -/

/-- The gated activation of the 256 columns from `col` on. -/
def gu (g2 : Vec F S2560x13824 .i8) (g3 : Vec F S160x13824 .bf16) (g4 : Vec F S2560x13824 .i8) (g5 : Vec F S160x13824 .bf16) (H : Vec F S32x5120 .bf16) (col : ℕ) : FVec F S32x256 .f32 :=
  gateV (dotOf (cwin g2 col) (cwin g2 (col + 128)) (swin g3 col) (swin g3 (col + 128)) H) (dotOf (cwin g4 col) (cwin g4 (col + 128)) (swin g5 col) (swin g5 (col + 128)) H)
/-- A half of its columns. -/
def halfV (g : FVec F S32x256 .f32) (j : ℕ) : FVec F S32x128 .f32 :=
  if j = 0 then extractStridedSlice S32x128 ![0, 0] g slices_S32x256_o0_0_S32x128 else extractStridedSlice S32x128 ![0, 128] g slices_S32x256_o0_128_S32x128
/-- All activations, as the kernel stores them. -/
def actV (g2 : Vec F S2560x13824 .i8) (g3 : Vec F S160x13824 .bf16) (g4 : Vec F S2560x13824 .i8) (g5 : Vec F S160x13824 .bf16) (H : Vec F S32x5120 .bf16) : Vec F S32x13824 .bf16 := fun i =>
  permV (halfV (gu g2 g3 g4 g5 H ((i 1).val / 256 * 256)) ((i 1).val % 256 / 128)) (ix2 (i 0) ⟨(i 1).val % 128, by omega⟩)

/-- A block of them. -/
theorem actV_block (g2 : Vec F S2560x13824 .i8) (g3 : Vec F S160x13824 .bf16) (g4 : Vec F S2560x13824 .i8) (g5 : Vec F S160x13824 .bf16) (H : Vec F S32x5120 .bf16) (col j : ℕ) (hj : j < 2) (hcol : col % 256 = 0)
    (i : S32x13824.Idx) (h : col + 128 * j ≤ (i 1).val) (h' : (i 1).val < col + 128 * j + 128) (y : S32x128.Idx) (hy0 : y 0 = i 0) (hy1 : col + 128 * j + (y 1).val = (i 1).val) :
    actV g2 g3 g4 g5 H i = permV (halfV (gu g2 g3 g4 g5 H col) j) y := by
  unfold actV
  have e1 : (i 1).val / 256 * 256 = col := by omega
  have e2 : (i 1).val % 256 / 128 = j := by omega
  rw [e1, e2]
  congr 1
  funext a; fin_cases a
  · exact hy0.symm
  · apply Fin.ext; show (i 1).val % 128 = (y 1).val; have : (y 1).val < 128 := (y 1).isLt; omega

variable {c : Dev nD} (E : Env F c)

/-- The activations over the environment's arrays. -/
def Env.act (H : Vec F S32x5120 .bf16) : Vec F S32x13824 .bf16 :=
  actV (E.a2.view.read (Elt F) E.f2) (E.a3.view.read (Elt F) E.f3) (E.a4.view.read (Elt F) E.f4) (E.a5.view.read (Elt F) E.f5) H

/-- The output's first `n` columns are written. -/
def upToCol (H : Vec F S32x5120 .bf16) (n : ℕ) : sProp (MM F) :=
  iprop(∃ a, ⌜∀ i : S32x13824.Idx, (i 1).val < n → a i = E.act H i⌝ ∗ owns (c : Thread nD τ) E.a6 fullShare a)

theorem stA_wp (H : Vec F S32x5120 .bf16) (t : Fin k0_t1_loop.trips) (c1 j : ℕ) (hj : j < 2) (c2 : ℕ) (hc2 : c2 = 128 * j) (h1 : c1 + c2 + 128 ≤ 768) (hc1 : c1 % 256 = 0) (x : FVec F S32x128 .f32)
    (hx : x = halfV (gu (E.a2.view.read (Elt F) E.f2) (E.a3.view.read (Elt F) E.f3) (E.a4.view.read (Elt F) E.f4) (E.a5.view.read (Elt F) E.f5) H (t.val * 768 + c1)) j) (Q : PUnit → sProp (MM F)) :
    iprop(upToCol E H (t.val * 768 + c1 + c2) ∗ (upToCol E H (t.val * 768 + c1 + c2 + 128) -∗ Q ⟨⟩)) ⊢ WP c (stA E.a6 E.h6 t c1 c2 h1 x) Q := by
  unfold stA
  rw [WP_bind']
  unfold upToCol
  iintro ⟨⟨%a, %ha, HA⟩, Hk⟩
  iapply (own_load c E.a6 _ _ fullShare a)
  isplitl [HA]; · iexact HA
  iintro HA
  beta_reduce
  iapply (own_store c E.a6 _ _ _ _ a)
  isplitl [HA]; · iexact HA
  iintro HA
  iapply Hk
  iexists _
  isplitr
  swap; · iexact HA
  ipureintro
  intro i hi
  have ho := actOff_eq t (c1 := c1) (c2 := c2) (by omega) (by omega)
  by_cases h : (i 1).val < t.val * 768 + c1 + c2
  · rw [updR_of_ne]
    · exact ha i h
    · intro y hy
      have h' := congrArg (fun z : S32x13824.Idx => (z 1).val) hy
      have h'' : actOff t c1 c2 + 1 * (y 1).val = (i 1).val := h'
      omega
  · obtain ⟨y, hy, hy0, hy1⟩ : ∃ y : S32x128.Idx, (Rect.unit (s := S32x13824) ![0, actOff t c1 c2] S32x128.size (inSA (by have ht : t.val < 18 := trips_eq ▸ t.2; rw [actOff_eq t (by omega) (by omega)]; omega))).emb y = i
        ∧ y 0 = i 0 ∧ t.val * 768 + c1 + 128 * j + (y 1).val = (i 1).val := by
      refine ⟨ix2 (i 0) ⟨(i 1).val - (t.val * 768 + c1 + c2), by omega⟩, ?_, rfl, ?_⟩
      · funext a; fin_cases a <;> apply Fin.ext
        · show 0 + 1 * (i 0).val = (i 0).val; omega
        · show actOff t c1 c2 + 1 * ((i 1).val - (t.val * 768 + c1 + c2)) = (i 1).val; omega
      · show t.val * 768 + c1 + 128 * j + ((i 1).val - (t.val * 768 + c1 + c2)) = (i 1).val; omega
    rw [← hy, updR_emb, hy, hx]
    unfold Env.act
    have ht : t.val < 18 := trips_eq ▸ t.2
    exact (actV_block _ _ _ _ H (t.val * 768 + c1) j hj (by omega) i (by omega) (by omega) y hy0 hy1).symm

/-! ## A column pair -/

theorem borrowL (s : ℕ) (hs : s < 2) (t n : ℕ) (hn : n < 3) :
    bigSep Finset.univ (fullL E s hs t) ⊢ iprop((owns (c : Thread nD τ) (plC E.a8 s (2 * n) hs (by omega)) fullShare (cwin (E.a2.view.read (Elt F) E.f2) (t * 768 + 256 * n))
        ∗ owns (c : Thread nD τ) (plC E.a8 s (2 * n + 1) hs (by omega)) fullShare (cwin (E.a2.view.read (Elt F) E.f2) (t * 768 + 256 * n + 128))
        ∗ owns (c : Thread nD τ) (plS E.a9 s (2 * n) hs (by omega)) fullShare (swin (E.a3.view.read (Elt F) E.f3) (t * 768 + 256 * n))
        ∗ owns (c : Thread nD τ) (plS E.a9 s (2 * n + 1) hs (by omega)) fullShare (swin (E.a3.view.read (Elt F) E.f3) (t * 768 + 256 * n + 128)))
      ∗ ((owns (c : Thread nD τ) (plC E.a8 s (2 * n) hs (by omega)) fullShare (cwin (E.a2.view.read (Elt F) E.f2) (t * 768 + 256 * n))
        ∗ owns (c : Thread nD τ) (plC E.a8 s (2 * n + 1) hs (by omega)) fullShare (cwin (E.a2.view.read (Elt F) E.f2) (t * 768 + 256 * n + 128))
        ∗ owns (c : Thread nD τ) (plS E.a9 s (2 * n) hs (by omega)) fullShare (swin (E.a3.view.read (Elt F) E.f3) (t * 768 + 256 * n))
        ∗ owns (c : Thread nD τ) (plS E.a9 s (2 * n + 1) hs (by omega)) fullShare (swin (E.a3.view.read (Elt F) E.f3) (t * 768 + 256 * n + 128)))
        -∗ bigSep Finset.univ (fullL E s hs t))) := by
  refine (bigSep_take2 (fullL E s hs t) ⟨2 * n, by omega⟩ ⟨2 * n + 1, by omega⟩ (fun h => by have := congrArg Fin.val h; simp at this)).trans ?_
  have e0 : t * 768 + 2 * n * 128 = t * 768 + 256 * n := by omega
  have e1 : t * 768 + (2 * n + 1) * 128 = t * 768 + 256 * n + 128 := by omega
  rw [← e1, ← e0]
  generalize bigSep Finset.univ (fullL E s hs t) = R
  unfold fullL atC atS
  iintro ⟨⟨H1, H2⟩, ⟨H3, H4⟩, HR⟩
  isplitl [H1 H2 H3 H4]
  · isplitl [H1]; · iexact H1
    isplitl [H3]; · iexact H3
    isplitl [H2]; · iexact H2
    iexact H4
  iintro ⟨H1, H3, H2, H4⟩
  iapply HR $$ [H1 H2] [H3 H4]
  · isplitl [H1]; · iexact H1
    iexact H2
  · isplitl [H3]; · iexact H3
    iexact H4
theorem borrowH (s : ℕ) (hs : s < 2) (t n : ℕ) (hn : n < 3) :
    bigSep Finset.univ (fullH E s hs t) ⊢ iprop((owns (c : Thread nD τ) (plC E.a8 s (6 + 2 * n) hs (by omega)) fullShare (cwin (E.a4.view.read (Elt F) E.f4) (t * 768 + 256 * n))
        ∗ owns (c : Thread nD τ) (plC E.a8 s (6 + 2 * n + 1) hs (by omega)) fullShare (cwin (E.a4.view.read (Elt F) E.f4) (t * 768 + 256 * n + 128))
        ∗ owns (c : Thread nD τ) (plS E.a9 s (6 + 2 * n) hs (by omega)) fullShare (swin (E.a5.view.read (Elt F) E.f5) (t * 768 + 256 * n))
        ∗ owns (c : Thread nD τ) (plS E.a9 s (6 + 2 * n + 1) hs (by omega)) fullShare (swin (E.a5.view.read (Elt F) E.f5) (t * 768 + 256 * n + 128)))
      ∗ ((owns (c : Thread nD τ) (plC E.a8 s (6 + 2 * n) hs (by omega)) fullShare (cwin (E.a4.view.read (Elt F) E.f4) (t * 768 + 256 * n))
        ∗ owns (c : Thread nD τ) (plC E.a8 s (6 + 2 * n + 1) hs (by omega)) fullShare (cwin (E.a4.view.read (Elt F) E.f4) (t * 768 + 256 * n + 128))
        ∗ owns (c : Thread nD τ) (plS E.a9 s (6 + 2 * n) hs (by omega)) fullShare (swin (E.a5.view.read (Elt F) E.f5) (t * 768 + 256 * n))
        ∗ owns (c : Thread nD τ) (plS E.a9 s (6 + 2 * n + 1) hs (by omega)) fullShare (swin (E.a5.view.read (Elt F) E.f5) (t * 768 + 256 * n + 128)))
        -∗ bigSep Finset.univ (fullH E s hs t))) := by
  refine (bigSep_take2 (fullH E s hs t) ⟨2 * n, by omega⟩ ⟨2 * n + 1, by omega⟩ (fun h => by have := congrArg Fin.val h; simp at this)).trans ?_
  have e0 : t * 768 + 2 * n * 128 = t * 768 + 256 * n := by omega
  have e1 : t * 768 + (2 * n + 1) * 128 = t * 768 + 256 * n + 128 := by omega
  rw [← e1, ← e0]
  generalize bigSep Finset.univ (fullH E s hs t) = R
  unfold fullH atC atS
  iintro ⟨⟨H1, H2⟩, ⟨H3, H4⟩, HR⟩
  isplitl [H1 H2 H3 H4]
  · isplitl [H1]; · iexact H1
    isplitl [H3]; · iexact H3
    isplitl [H2]; · iexact H2
    iexact H4
  iintro ⟨H1, H3, H2, H4⟩
  iapply HR $$ [H1 H2] [H3 H4]
  · isplitl [H1]; · iexact H1
    iexact H2
  · isplitl [H3]; · iexact H3
    iexact H4

/-- What the column pairs of trip `t` keep. -/
def chunkI (H : Vec F S32x5120 .bf16) (s : ℕ) (hs : s < 2) (t n : ℕ) : sProp (MM F) :=
  iprop(bigSep Finset.univ (fullL E s hs t) ∗ bigSep Finset.univ (fullH E s hs t) ∗ (∃ P, owns (c : Thread nD τ) E.a10 fullShare P)
    ∗ owns (c : Thread nD τ) E.a11 fullShare H ∗ upToCol E H (t * 768 + 256 * n))

theorem chunk_wp (H : Vec F S32x5120 .bf16) (s : ℕ) (hs : s < 2) (t : Fin k0_t1_loop.trips) (n : ℕ) (hn : n < 3) :
    chunkI E H s hs t.val n ⊢ WP c (chunkP E.a6 E.h6 E.a8 E.a9 E.a10 E.a11 t s n hs hn) fun _ => chunkI E H s hs t.val (n + 1) := by
  unfold chunkP chunkI
  rw [WP_bind']
  iintro ⟨HL, HH, HP, H11, HA⟩
  ihave HL' := (borrowL E s hs t.val n hn) $$ HL
  icases HL' with ⟨⟨C0, C1, S0, S1⟩, HL⟩
  iapply (dot_wp E.a8 E.a9 E.a10 E.a11 c s (2 * n) hs _ (cwin (E.a2.view.read (Elt F) E.f2) (t.val * 768 + 256 * n)) (cwin (E.a2.view.read (Elt F) E.f2) (t.val * 768 + 256 * n + 128))
    (swin (E.a3.view.read (Elt F) E.f3) (t.val * 768 + 256 * n)) (swin (E.a3.view.read (Elt F) E.f3) (t.val * 768 + 256 * n + 128)) H)
  isplitl [C0 C1 S0 S1 HP H11]
  · unfold DR
    isplitl [C0]; · iexact C0
    isplitl [C1]; · iexact C1
    isplitl [S0]; · iexact S0
    isplitl [S1]; · iexact S1
    isplitl [HP]; · iexact HP
    iexact H11
  unfold DR
  iintro ⟨C0, C1, S0, S1, HP, H11⟩
  ihave HL' := HL $$ [C0 C1 S0 S1]
  · isplitl [C0]; · iexact C0
    isplitl [C1]; · iexact C1
    isplitl [S0]; · iexact S0
    iexact S1
  rw [WP_bind']
  ihave HH' := (borrowH E s hs t.val n hn) $$ HH
  icases HH' with ⟨⟨C0, C1, S0, S1⟩, HH⟩
  iapply (dot_wp E.a8 E.a9 E.a10 E.a11 c s (6 + 2 * n) hs _ (cwin (E.a4.view.read (Elt F) E.f4) (t.val * 768 + 256 * n)) (cwin (E.a4.view.read (Elt F) E.f4) (t.val * 768 + 256 * n + 128))
    (swin (E.a5.view.read (Elt F) E.f5) (t.val * 768 + 256 * n)) (swin (E.a5.view.read (Elt F) E.f5) (t.val * 768 + 256 * n + 128)) H)
  isplitl [C0 C1 S0 S1 HP H11]
  · unfold DR
    isplitl [C0]; · iexact C0
    isplitl [C1]; · iexact C1
    isplitl [S0]; · iexact S0
    isplitl [S1]; · iexact S1
    isplitl [HP]; · iexact HP
    iexact H11
  unfold DR
  iintro ⟨C0, C1, S0, S1, HP, H11⟩
  ihave HH' := HH $$ [C0 C1 S0 S1]
  · isplitl [C0]; · iexact C0
    isplitl [C1]; · iexact C1
    isplitl [S0]; · iexact S0
    iexact S1
  rw [WP_bind']
  iapply (stA_wp E H t (256 * n) 0 (by omega) 0 rfl _ (by omega) _ rfl)
  isplitl [HA]; · iexact HA
  iintro HA
  iapply (stA_wp E H t (256 * n) 1 (by omega) 128 rfl _ (by omega) _ rfl)
  isplitl [HA]; · iexact HA
  iintro HA
  isplitl [HL']; · iexact HL'
  isplitl [HH']; · iexact HH'
  isplitl [HP]; · iexact HP
  isplitl [H11]; · iexact H11
  rw [show t.val * 768 + 256 * (n + 1) = t.val * 768 + 256 * n + 128 + 128 from by omega]
  iexact HA

end Cert.KernelIdeal
-- ==== Proof.KernelIdeal.Run.lean ====
/-
  The loop over the trips, the normalisation before it, and the body.
-/
module

public import proofs.«01_k».proof.Proof.KernelIdeal.Trip

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts] {c : Dev nD} (E : Env F c)

/-! ## A slot between trips -/

/-- A slot's planes and its cell, nothing in flight. -/
def freeSlot (s : ℕ) (hs : s < 2) : sProp (MM F) :=
  iprop(semVal ((c : Thread nD τ), .dma (semOf E.a13 s hs)) 0 ∗ bigSep Finset.univ (freeL E s hs) ∗ bigSep Finset.univ (freeH E s hs))
/-- The windows of trip `u`. -/
def srcT (u : Fin 18) : sProp (MM F) := iprop(bigSep Finset.univ (srcL E u.val u.2) ∗ bigSep Finset.univ (srcH E u.val u.2))
/-- The slot of trip `u`: its copies in flight, or free past the last trip. -/
def slotAt (u : ℕ) : sProp (MM F) :=
  if h : u < 18 then batch E (u % 2) (by omega) u h (2 * (6 * 2)) 0 else freeSlot E (u % 2) (by omega)
theorem slotAt_free (u s : ℕ) (hs : s < 2) (e : u % 2 = s) (h : ¬ u < 18) : slotAt E u = freeSlot E s hs := by
  subst e; unfold slotAt; rw [dif_neg h]
theorem slotAt_batch (u s : ℕ) (hs : s < 2) (e : u % 2 = s) (h : u < 18) : slotAt E u = batch E s hs u h (2 * (6 * 2)) 0 := by
  subst e; unfold slotAt; rw [dif_pos h]

theorem atC_any (a8 : Memref sig .tc .vmem S2x12x2560x128 .i8) (s b : ℕ) (hs : s < 2) (hb : b < 12) (w : Memref sig .tc .hbm S2560x13824 .i8) (f : Buf (Elt F) (w.view.loc (c : Thread nD τ))) (j : ℕ) :
    atC c a8 s b hs hb w f j ⊢ anyC c a8 s b hs hb := by
  unfold atC anyC; iintro H; iexists _; iexact H
theorem atS_any (a9 : Memref sig .tc .vmem S2x12x160x128 .bf16) (s b : ℕ) (hs : s < 2) (hb : b < 12) (w : Memref sig .tc .hbm S160x13824 .bf16) (f : Buf (Elt F) (w.view.loc (c : Thread nD τ))) (j : ℕ) :
    atS c a9 s b hs hb w f j ⊢ anyS c a9 s b hs hb := by
  unfold atS anyS; iintro H; iexists _; iexact H
theorem fullL_free (s : ℕ) (hs : s < 2) (t : ℕ) : bigSep Finset.univ (fullL E s hs t) ⊢ bigSep Finset.univ (freeL E s hs) :=
  bigSep_mono fun i _ => by unfold fullL freeL; exact BI.sep_mono (atC_any _ _ _ _ _ _ _ _) (atS_any _ _ _ _ _ _ _ _)
theorem fullH_free (s : ℕ) (hs : s < 2) (t : ℕ) : bigSep Finset.univ (fullH E s hs t) ⊢ bigSep Finset.univ (freeH E s hs) :=
  bigSep_mono fun i _ => by unfold fullH freeH; exact BI.sep_mono (atC_any _ _ _ _ _ _ _ _) (atS_any _ _ _ _ _ _ _ _)

/-- Start a trip's copies into a free slot. -/
theorem fill_wp (s : ℕ) (hs : s < 2) (t : ℕ) (ht : t < 18) (col : ℕ → ℕ) (hcol : ∀ i, i < 6 → col i + 128 ≤ 13824) (hc : ∀ i, i < 6 → col i = t * 768 + i * 128)
    (Q : PUnit → sProp (MM F)) :
    iprop(freeSlot E s hs ∗ srcT E ⟨t, ht⟩ ∗ (batch E s hs t ht (2 * (6 * 2)) 0 -∗ Q ⟨⟩))
      ⊢ WP c (startsP E.a2 E.h2 E.a3 E.h3 E.a4 E.h4 E.a5 E.h5 E.a8 E.h8 E.a9 E.h9 (semOf E.a13 s hs) s hs col hcol) Q := by
  unfold freeSlot srcT
  iintro ⟨⟨Hv, HfL, HfH⟩, ⟨HsL, HsH⟩, Hk⟩
  imod (Transfers.mixedBatch_alloc' (Lvl := ℕ) (countersEmb (U := Pipeline.UD sig nD τ)) (c : Thread nD τ) () (creds E)
    (fun k => deliv E s hs t ht (cpE.symm k)) (sm := SemLoc.dma (semOf E.a13 s hs)) (E := Set.univ)) $$ Hv with HB
  iapply (starts_wp E s hs t ht col hcol hc)
  isplitl [HB]; · unfold batch; iexact HB
  rw [bs_sep, bs_sep]
  isplitl [HsL HfL]
  · isplitl [HsL]; · iexact HsL
    iexact HfL
  isplitl [HsH HfH]
  · isplitl [HsH]; · iexact HsH
    iexact HfH
  iexact Hk

/-! ## The trips -/

/-- The windows no copy in flight before trip `t` reads. -/
def idle (t : ℕ) : Finset (Fin 18) := Finset.univ.filter fun u => u.val ≠ t ∧ u.val ≠ t + 1
theorem idle_notMem (t : ℕ) (ht : t < 18) : (⟨t, ht⟩ : Fin 18) ∉ idle t := by simp [idle]
theorem idle_notMem' (t : ℕ) (ht : t + 2 < 18) : (⟨t + 2, ht⟩ : Fin 18) ∉ idle (t + 1) := by simp [idle]
theorem idle_insert (t : ℕ) (ht : t < 18) (h : t + 2 < 18) : insert (⟨t, ht⟩ : Fin 18) (idle t) = insert (⟨t + 2, h⟩ : Fin 18) (idle (t + 1)) := by
  ext u; simp only [idle, Finset.mem_insert, Finset.mem_filter, Finset.mem_univ, true_and, Fin.ext_iff]; omega
theorem idle_insert' (t : ℕ) (ht : t < 18) (h : ¬ t + 2 < 18) : insert (⟨t, ht⟩ : Fin 18) (idle t) = idle (t + 1) := by
  ext u; have := u.2; simp only [idle, Finset.mem_insert, Finset.mem_filter, Finset.mem_univ, true_and, Fin.ext_iff]; omega

theorem idle_step (t : ℕ) (ht : t < 18) (h : t + 2 < 18) :
    iprop(srcT E ⟨t, ht⟩ ∗ bigSep (idle t) (srcT E)) ⊢ iprop(srcT E ⟨t + 2, h⟩ ∗ bigSep (idle (t + 1)) (srcT E)) := by
  rw [← bs_insert _ (idle_notMem t ht), ← bs_insert _ (idle_notMem' t h), idle_insert t ht h]
theorem idle_last (t : ℕ) (ht : t < 18) (h : ¬ t + 2 < 18) :
    iprop(srcT E ⟨t, ht⟩ ∗ bigSep (idle t) (srcT E)) ⊢ bigSep (idle (t + 1)) (srcT E) := by
  rw [← bs_insert _ (idle_notMem t ht), idle_insert' t ht h]

/-- What holds before trip `t`. -/
def loopI (H : Vec F S32x5120 .bf16) (t : ℕ) : sProp (MM F) :=
  iprop(bigSep (idle t) (srcT E) ∗ slotAt E t ∗ slotAt E (t + 1) ∗ (∃ P, owns (c : Thread nD τ) E.a10 fullShare P)
    ∗ owns (c : Thread nD τ) E.a11 fullShare H ∗ upToCol E H (t * 768) ∗ (∃ W, owes (c : Thread nD τ) 0 W))

/-- A trip over the slot `s`. -/
def tripS (t : Fin k0_t1_loop.trips) (s : ℕ) (hs : s < 2) : PR F PUnit := do
  waitsP E.a2 E.h2 E.a3 E.h3 E.a4 E.h4 E.a5 E.h5 E.a8 E.h8 E.a9 E.h9 (semOf E.a13 s hs) s hs
  upTo 3 fun n h => chunkP E.a6 E.h6 E.a8 E.a9 E.a10 E.a11 t s n hs h
  if h : k0_cond1 t = 1#1 then do
    startsP E.a2 E.h2 E.a3 E.h3 E.a4 E.h4 E.a5 E.h5 E.a8 E.h8 E.a9 E.h9 (semOf E.a13 s hs) s hs (colN t)
      (fun i hi => by have := (cond_iff t).1 h; rw [colN_eq t hi]; omega)
    pure ⟨⟩
  else do
    pure ⟨⟩
  pure ⟨⟩
theorem trip_eq (t : Fin k0_t1_loop.trips) :
    tripP (F := F) E.a2 E.h2 E.a3 E.h3 E.a4 E.h4 E.a5 E.h5 E.a6 E.h6 E.a8 E.h8 E.a9 E.h9 E.a10 E.a11 E.a13 t = tripS E t (t.val % 2) (by omega) := by
  unfold tripP tripS
  simp only [slotD_eq, slotL_eq]

theorem trip_wp (H : Vec F S32x5120 .bf16) (t : Fin k0_t1_loop.trips) :
    loopI E H t.val ⊢ WP c (tripP E.a2 E.h2 E.a3 E.h3 E.a4 E.h4 E.a5 E.h5 E.a6 E.h6 E.a8 E.h8 E.a9 E.h9 E.a10 E.a11 E.a13 t) fun _ => loopI E H (t.val + 1) := by
  have ht : t.val < 18 := trips_eq ▸ t.2
  rw [trip_eq]
  unfold loopI tripS
  rw [slotAt_batch E t.val (t.val % 2) (by omega) rfl ht]
  rw [WP_bind']
  iintro ⟨HI, HB, HB', HP, HH, HA, HW⟩
  iapply (waits_wp E (t.val % 2) _ t.val ht)
  isplitl [HB]; · iexact HB
  isplitl [HW]; · iexact HW
  iintro ⟨HD, Hv, HW⟩
  ihave HD' := (full_split E (t.val % 2) _ t.val ht) $$ HD
  icases HD' with ⟨⟨HfL, HsL⟩, HfH, HsH⟩
  rw [WP_bind']
  iapply (wp_upTo c (chunkI E H (t.val % 2) _ t.val) 3 _ (fun n hn => chunk_wp E H (t.val % 2) _ t n hn))
  unfold chunkI
  isplitl [HfL HfH HP HH HA]
  · isplitl [HfL]; · iexact HfL
    isplitl [HfH]; · iexact HfH
    isplitl [HP]; · iexact HP
    isplitl [HH]; · iexact HH
    iexact HA
  iintro ⟨HfL, HfH, HP, HH, HA⟩
  ihave HfL' := (fullL_free E (t.val % 2) _ t.val) $$ HfL
  ihave HfH' := (fullH_free E (t.val % 2) _ t.val) $$ HfH
  by_cases h : t.val + 2 < 18
  · rw [dif_pos ((cond_iff t).2 h), WP_bind']
    ihave HS := (idle_step E t.val ht h) $$ [HI HsL HsH]
    · isplitl [HsL HsH]
      · unfold srcT
        isplitl [HsL]; · iexact HsL
        iexact HsH
      · iexact HI
    icases HS with ⟨HS, HI⟩
    iapply (fill_wp E (t.val % 2) _ (t.val + 2) h (colN t) _ (fun i hi => colN_eq t hi))
    isplitl [Hv HfL' HfH']
    · unfold freeSlot
      isplitl [Hv]; · iexact Hv
      isplitl [HfL']; · iexact HfL'
      iexact HfH'
    isplitl [HS]; · iexact HS
    iintro HB
    iapply WP_pure
    isplitl [HI]; · iexact HI
    isplitl [HB']; · iexact HB'
    isplitl [HB]; · rw [slotAt_batch E (t.val + 1 + 1) (t.val % 2) (by omega) (by omega) h]; iexact HB
    isplitl [HP]; · iexact HP
    isplitl [HH]; · iexact HH
    isplitl [HA]; · rw [show (t.val + 1) * 768 = t.val * 768 + 256 * 3 from by omega]; iexact HA
    iexact HW
  · rw [dif_neg (fun h' => h ((cond_iff t).1 h'))]
    ihave HS := (idle_last E t.val ht h) $$ [HI HsL HsH]
    · isplitl [HsL HsH]
      · unfold srcT
        isplitl [HsL]; · iexact HsL
        iexact HsH
      · iexact HI
    iapply WP_pure
    isplitl [HS]; · iexact HS
    isplitl [HB']; · iexact HB'
    isplitl [Hv HfL' HfH']
    · rw [slotAt_free E (t.val + 1 + 1) (t.val % 2) (by omega) (by omega) h]
      unfold freeSlot
      isplitl [Hv]; · iexact Hv
      isplitl [HfL']; · iexact HfL'
      iexact HfH'
    isplitl [HP]; · iexact HP
    isplitl [HH]; · iexact HH
    isplitl [HA]; · rw [show (t.val + 1) * 768 = t.val * 768 + 256 * 3 from by omega]; iexact HA
    iexact HW

/-! ## The normalisation -/

/-- A block of columns of the input, of the gain. -/
def xblk (X : Vec F S32x5120 .f32) (j : ℕ) : FVec F S32x128 .f32 := fun x => X (ix2 (x 0) ⟨(j * 128 + (x 1).val) % 5120, Nat.mod_lt _ (by omega)⟩)
def gblk (G : Vec F S1x5120 .bf16) (j : ℕ) : Vec F S1x128 .bf16 := fun x => G (ix2 (x 0) ⟨(j * 128 + (x 1).val) % 5120, Nat.mod_lt _ (by omega)⟩)
/-- The lane sums of squares of `n` blocks from block `j` on. -/
def totFrom (X : Vec F S32x5120 .f32) : ℕ → ℕ → FVec F S32x128 .f32 → FVec F S32x128 .f32
  | 0, _, a => a
  | n + 1, j, a => totFrom X n (j + 1) (sqV a (xblk X j))
def totV (X : Vec F S32x5120 .f32) : FVec F S32x128 .f32 := totFrom X 40 0 (broadcast S32x128 (Scalar.ofBits .f32 0x00000000#32))
/-- The normalised rows, as the kernel stores them. -/
def normV (X : Vec F S32x5120 .f32) (G : Vec F S1x5120 .bf16) : Vec F S32x5120 .bf16 := fun i =>
  nrmV (rmsV (totV X)) (xblk X ((i 1).val / 128)) (gblk G ((i 1).val / 128)) (ix2 (i 0) ⟨(i 1).val % 128, by omega⟩)

theorem loadX_wp (a0 : Memref sig .tc .vmem S32x5120 .f32) (j : ℕ) (hj : j < 40) (hl : a0.view.LoadsAt (Rect.unit (s := S32x5120) ![0, j * 128] S32x128.size (inSHb (by omega))).toLoadRect) (X : Vec F S32x5120 .f32) (Q : Vec F S32x128 .f32 → sProp (MM F)) :
    iprop(owns (c : Thread nD τ) a0 fullShare X ∗ (owns (c : Thread nD τ) a0 fullShare X -∗ Q (xblk X j)))
      ⊢ WP c (Prog.lift (.load a0 (Rect.unit (s := S32x5120) ![0, j * 128] S32x128.size (inSHb (by omega))).toLoadRect hl)) Q := by
  have e : (fun x => X ((Rect.unit (s := S32x5120) ![0, j * 128] S32x128.size (inSHb (by omega))).toLoadRect.idx x)) = xblk X j := by
    funext x; unfold xblk; congr 1
    have h1 : (x 1).val < 128 := (x 1).isLt
    funext a; fin_cases a <;> apply Fin.ext
    · show 0 + 1 * (x 0).val = (x 0).val; omega
    · show j * 128 + 1 * (x 1).val = (j * 128 + (x 1).val) % 5120; rw [Nat.mod_eq_of_lt (by omega)]; omega
  rw [← e]
  exact own_load c a0 _ hl fullShare X Q
theorem loadG_wp (a7 : Memref sig .tc .vmem S1x5120 .bf16) (j : ℕ) (hj : j < 40) (hl : a7.view.LoadsAt (Rect.unit (s := S1x5120) ![0, j * 128] S1x128.size (inSF (by omega))).toLoadRect) (G : Vec F S1x5120 .bf16) (Q : Vec F S1x128 .bf16 → sProp (MM F)) :
    iprop(owns (c : Thread nD τ) a7 fullShare G ∗ (owns (c : Thread nD τ) a7 fullShare G -∗ Q (gblk G j)))
      ⊢ WP c (Prog.lift (.load a7 (Rect.unit (s := S1x5120) ![0, j * 128] S1x128.size (inSF (by omega))).toLoadRect hl)) Q := by
  have e : (fun x => G ((Rect.unit (s := S1x5120) ![0, j * 128] S1x128.size (inSF (by omega))).toLoadRect.idx x)) = gblk G j := by
    funext x; unfold gblk; congr 1
    have h1 : (x 1).val < 128 := (x 1).isLt
    funext a; fin_cases a <;> apply Fin.ext
    · show 0 + 1 * (x 0).val = (x 0).val; omega
    · show j * 128 + 1 * (x 1).val = (j * 128 + (x 1).val) % 5120; rw [Nat.mod_eq_of_lt (by omega)]; omega
  rw [← e]
  exact own_load c a7 _ hl fullShare G Q

theorem tot_wp (X : Vec F S32x5120 .f32) (Q : FVec F S32x128 .f32 → sProp (MM F)) (n : ℕ) : ∀ (j : ℕ) (h : j + n ≤ 40) (a : FVec F S32x128 .f32),
    iprop(owns (c : Thread nD τ) E.a0 fullShare X ∗ (owns (c : Thread nD τ) E.a0 fullShare X -∗ Q (totFrom X n j a))) ⊢ WP c (totP E.a0 n j h a) Q := by
  induction n with
  | zero =>
    intro j h a
    show iprop(_ ∗ (_ -∗ Q a)) ⊢ WP c (.ret a) Q
    iintro ⟨HD, Hk⟩
    iapply WP_ret
    iapply Hk; iexact HD
  | succ n ih =>
    intro j h a
    show _ ⊢ WP c ((Prog.lift (.load E.a0 (Rect.unit (s := S32x5120) ![0, j * 128] S32x128.size (inSHb (by omega))).toLoadRect (View.loadsAt_vmem h_S32x128)) : PR F (Vec F S32x128 .f32)).bind
      fun v => totP E.a0 n (j + 1) (by omega) (sqV a v)) Q
    rw [WP_bind]
    iintro ⟨HD, Hk⟩
    iapply (loadX_wp E.a0 j (by omega) _ X)
    isplitl [HD]; · iexact HD
    iintro HD
    iapply (ih (j + 1) _ _)
    isplitl [HD]; · iexact HD
    iexact Hk

/-- The first `n` columns are normalised. -/
def nrmUp (X : Vec F S32x5120 .f32) (G : Vec F S1x5120 .bf16) (n : ℕ) : sProp (MM F) :=
  iprop(∃ a, ⌜∀ i : S32x5120.Idx, (i 1).val < n → a i = normV X G i⌝ ∗ owns (c : Thread nD τ) E.a11 fullShare a)

theorem nrm_wp (X : Vec F S32x5120 .f32) (G : Vec F S1x5120 .bf16) (j : ℕ) (hj : j < 40) :
    iprop(owns (c : Thread nD τ) E.a0 fullShare X ∗ owns (c : Thread nD τ) E.a7 fullShare G ∗ nrmUp E X G (j * 128))
      ⊢ WP c (nrmP E.a0 E.a7 E.a11 E.h11 (rmsV (totV X)) j hj) fun _ => iprop(owns (c : Thread nD τ) E.a0 fullShare X ∗ owns (c : Thread nD τ) E.a7 fullShare G ∗ nrmUp E X G ((j + 1) * 128)) := by
  unfold nrmP nrmUp
  rw [WP_bind']
  iintro ⟨HX, HG, ⟨%a, %ha, HA⟩⟩
  iapply (loadX_wp E.a0 j hj _ X)
  isplitl [HX]; · iexact HX
  iintro HX
  beta_reduce
  rw [WP_bind']
  iapply (loadG_wp E.a7 j hj _ G)
  isplitl [HG]; · iexact HG
  iintro HG
  beta_reduce
  rw [WP_bind']
  iapply (own_load c E.a11 _ _ fullShare a)
  isplitl [HA]; · iexact HA
  iintro HA
  beta_reduce
  iapply (own_store c E.a11 _ _ _ _ a)
  isplitl [HA]; · iexact HA
  iintro HA
  isplitl [HX]; · iexact HX
  isplitl [HG]; · iexact HG
  iexists _
  isplitr
  swap; · iexact HA
  ipureintro
  intro i hi
  by_cases h : (i 1).val < j * 128
  · rw [updR_of_ne]
    · exact ha i h
    · intro y hy
      have h' := congrArg (fun z : S32x5120.Idx => (z 1).val) hy
      have h'' : j * 128 + 1 * (y 1).val = (i 1).val := h'
      omega
  · obtain ⟨y, hy, hyy⟩ : ∃ y : S32x128.Idx, (Rect.unit (s := S32x5120) ![0, j * 128] S32x128.size (inSHb (by omega))).emb y = i ∧ y = ix2 (i 0) ⟨(i 1).val % 128, by omega⟩ := by
      refine ⟨ix2 (i 0) ⟨(i 1).val % 128, by omega⟩, ?_, rfl⟩
      funext a; fin_cases a <;> apply Fin.ext
      · show 0 + 1 * (i 0).val = (i 0).val; omega
      · show j * 128 + 1 * ((i 1).val % 128) = (i 1).val; omega
    rw [← hy, updR_emb, hy, hyy]
    unfold normV
    rw [show (i 1).val / 128 = j by omega]
    rfl

end Cert.KernelIdeal
-- ==== Proof.KernelIdeal.Whole.lean ====
/-
  The body whole: from the arrays and the buffers held whole to the same with the output written.
-/
module

public import proofs.«01_k».proof.Proof.KernelIdeal.Run

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts] {c : Dev nD} (E : Env F c)

/-! ## A buffer by its slices -/

section Slices
variable {sp : Space} {s : Shape} {e : EltTy} {B : Type} [Fintype B] [DecidableEq B]

theorem slices_disj (v : View sig .tc sp s e) (K : B → Rect s) (own : s.Idx → B) (h1 : ∀ b y, own ((K b).emb y) = b) (b b' : B) (hne : b ≠ b') :
    Disjoint (v.slice (K b)).set (v.slice (K b')).set := by
  rw [Finset.disjoint_left]
  intro x hx hx'
  unfold View.set at hx hx'
  obtain ⟨y, -, hy⟩ := Finset.mem_map.mp hx
  obtain ⟨y', -, hy'⟩ := Finset.mem_map.mp hx'
  have e : v.emb ((K b).emb y) = v.emb ((K b').emb y') := hy.trans hy'.symm
  exact hne (by rw [← h1 b y, ← h1 b' y', v.emb.injective e])
theorem slices_cover (v : View sig .tc sp s e) (K : B → Rect s) (own : s.Idx → B) (h2 : ∀ x, ∃ y, (K (own x)).emb y = x) :
    (Finset.univ.biUnion (fun b => ((v.slice (K b)).set : Finset (Idx (v.loc (c : Thread nD τ))))) : Finset (Idx (v.loc (c : Thread nD τ)))) = (v.set : Finset (Idx (v.loc (c : Thread nD τ)))) := by
  ext z
  simp only [Finset.mem_biUnion, Finset.mem_univ, true_and]
  constructor
  · rintro ⟨b, hb⟩; exact v.set_slice_subset (K b) hb
  · intro hz
    unfold View.set at hz
    obtain ⟨x, -, rfl⟩ := Finset.mem_map.mp hz
    obtain ⟨y, hy⟩ := h2 x
    refine ⟨own x, ?_⟩
    unfold View.set
    exact Finset.mem_map.mpr ⟨y, Finset.mem_univ _, congrArg v.emb hy⟩
theorem slices_pts (v : View sig .tc sp s e) (K : B → Rect s) (own : s.Idx → B) (h1 : ∀ b y, own ((K b).emb y) = b) (h2 : ∀ x, ∃ y, (K (own x)).emb y = x)
    (f : Buf (Elt F) (v.loc (c : Thread nD τ))) :
    (v.loc (c : Thread nD τ) ↦[v.set]{fullShare} f : sProp (MM F)) = bigSep Finset.univ fun b => (v.loc (c : Thread nD τ) ↦[(v.slice (K b)).set]{fullShare} f) :=
  Ring.pointsTo_sub_blocks (ℓ := v.loc (c : Thread nD τ)) (fun b => (v.slice (K b)).set) (slices_disj v K own h1) v.set (slices_cover v K own h2) f
theorem slices_join (v : View sig .tc sp s e) (K : B → Rect s) (own : s.Idx → B) (h1 : ∀ b y, own ((K b).emb y) = b) (h2 : ∀ x, ∃ y, (K (own x)).emb y = x)
    (f₀ : Buf (Elt F) (v.loc (c : Thread nD τ))) :
    bigSep Finset.univ (fun b => iprop(∃ f, (v.loc (c : Thread nD τ) ↦[(v.slice (K b)).set]{fullShare} f))) ⊢ (iprop(∃ g, v.loc (c : Thread nD τ) ↦[v.set]{fullShare} g) : sProp (MM F)) :=
  Ring.pointsTo_sub_blocks_join_exists (ℓ := v.loc (c : Thread nD τ)) (fun b => (v.slice (K b)).set) (slices_disj v K own h1) v.set (slices_cover v K own h2) f₀
end Slices

theorem pts_any (ℓ : Loc nD τ sig) (I : Finset (Idx ℓ)) (f : Buf (Elt F) ℓ) : (ℓ ↦[I]{fullShare} f : sProp (MM F)) ⊢ iprop(∃ f, ℓ ↦[I]{fullShare} f) := by
  iintro H
  iexists f; iexact H
theorem owns_any {sp : Space} {s : Shape} {e : EltTy} (M : Memref sig .tc sp s e) :
    (iprop(∃ X, owns (c : Thread nD τ) M fullShare X) : sProp (MM F)) ⊣⊢ iprop(∃ f, (M.view.loc (c : Thread nD τ) ↦[M.view.set]{fullShare} f)) := by
  unfold owns
  constructor
  · iintro ⟨%X, %f, -, H⟩
    iexists f; iexact H
  · iintro ⟨%f, H⟩
    iexists _; iexists f
    isplitr
    · ipureintro; rfl
    · iexact H

/-! ## The arrays by their windows -/

/-- Trip and column block of an array's column. -/
def colOwn {n : ℕ} (x : Shape.Idx ⟨2, ![n, 13824]⟩) : Fin 18 × Fin 6 :=
  (⟨(x 1).val / 768, by have : (x 1).val < 13824 := (x 1).isLt; omega⟩, ⟨(x 1).val % 768 / 128, by omega⟩)

theorem winC_all {w : Memref sig .tc .hbm S2560x13824 .i8} (f : Buf (Elt F) (w.view.loc (c : Thread nD τ))) :
    (w.view.loc (c : Thread nD τ) ↦[w.view.set]{fullShare} f : sProp (MM F))
      = bigSep Finset.univ fun t : Fin 18 => bigSep Finset.univ fun i : Fin 6 => winC c w f (t.val * 768 + i.val * 128) (by omega) := by
  refine (slices_pts w.view (fun b : Fin 18 × Fin 6 => Rect.unit (s := S2560x13824) ![0, b.1.val * 768 + b.2.val * 128] S2560x128.size (inHC (by omega))) colOwn ?_ ?_ f).trans ?_
  · rintro ⟨t, i⟩ y
    have h : (((Rect.unit (s := S2560x13824) ![0, t.val * 768 + i.val * 128] S2560x128.size (inHC (by omega))).emb y) 1).val = t.val * 768 + i.val * 128 + 1 * (y 1).val := rfl
    have hy : (y 1).val < 128 := (y 1).isLt
    unfold colOwn
    apply Prod.ext <;> apply Fin.ext
    · show _ / 768 = t.val; rw [h]; omega
    · show _ % 768 / 128 = i.val; rw [h]; omega
  · intro x
    have hx : (x 1).val < 13824 := (x 1).isLt
    refine ⟨ix2 (x 0) ⟨(x 1).val % 768 % 128, by omega⟩, ?_⟩
    funext a; fin_cases a <;> apply Fin.ext
    · show 0 + 1 * (x 0).val = (x 0).val; omega
    · show (x 1).val / 768 * 768 + (x 1).val % 768 / 128 * 128 + 1 * ((x 1).val % 768 % 128) = (x 1).val; omega
  · rw [bigSep_univ_prod]; rfl
theorem winS_all {w : Memref sig .tc .hbm S160x13824 .bf16} (f : Buf (Elt F) (w.view.loc (c : Thread nD τ))) :
    (w.view.loc (c : Thread nD τ) ↦[w.view.set]{fullShare} f : sProp (MM F))
      = bigSep Finset.univ fun t : Fin 18 => bigSep Finset.univ fun i : Fin 6 => winS c w f (t.val * 768 + i.val * 128) (by omega) := by
  refine (slices_pts w.view (fun b : Fin 18 × Fin 6 => Rect.unit (s := S160x13824) ![0, b.1.val * 768 + b.2.val * 128] S160x128.size (inHS (by omega))) colOwn ?_ ?_ f).trans ?_
  · rintro ⟨t, i⟩ y
    have h : (((Rect.unit (s := S160x13824) ![0, t.val * 768 + i.val * 128] S160x128.size (inHS (by omega))).emb y) 1).val = t.val * 768 + i.val * 128 + 1 * (y 1).val := rfl
    have hy : (y 1).val < 128 := (y 1).isLt
    unfold colOwn
    apply Prod.ext <;> apply Fin.ext
    · show _ / 768 = t.val; rw [h]; omega
    · show _ % 768 / 128 = i.val; rw [h]; omega
  · intro x
    have hx : (x 1).val < 13824 := (x 1).isLt
    refine ⟨ix2 (x 0) ⟨(x 1).val % 768 % 128, by omega⟩, ?_⟩
    funext a; fin_cases a <;> apply Fin.ext
    · show 0 + 1 * (x 0).val = (x 0).val; omega
    · show (x 1).val / 768 * 768 + (x 1).val % 768 / 128 * 128 + 1 * ((x 1).val % 768 % 128) = (x 1).val; omega
  · rw [bigSep_univ_prod]; rfl

/-- The four arrays, whole. -/
def arrays : sProp (MM F) :=
  iprop(((E.a2.view.loc (c : Thread nD τ) ↦[E.a2.view.set]{fullShare} E.f2) ∗ (E.a3.view.loc (c : Thread nD τ) ↦[E.a3.view.set]{fullShare} E.f3))
    ∗ ((E.a4.view.loc (c : Thread nD τ) ↦[E.a4.view.set]{fullShare} E.f4) ∗ (E.a5.view.loc (c : Thread nD τ) ↦[E.a5.view.set]{fullShare} E.f5)))
theorem srcL_all : (iprop((E.a2.view.loc (c : Thread nD τ) ↦[E.a2.view.set]{fullShare} E.f2) ∗ (E.a3.view.loc (c : Thread nD τ) ↦[E.a3.view.set]{fullShare} E.f3)) : sProp (MM F))
    = bigSep Finset.univ fun u : Fin 18 => bigSep Finset.univ (srcL E u.val u.2) := by
  rw [winC_all, winS_all, ← bs_sep]
  refine bigSep_congr fun t _ => ?_
  rw [← bs_sep]
  exact bigSep_congr fun i _ => rfl
theorem srcH_all : (iprop((E.a4.view.loc (c : Thread nD τ) ↦[E.a4.view.set]{fullShare} E.f4) ∗ (E.a5.view.loc (c : Thread nD τ) ↦[E.a5.view.set]{fullShare} E.f5)) : sProp (MM F))
    = bigSep Finset.univ fun u : Fin 18 => bigSep Finset.univ (srcH E u.val u.2) := by
  rw [winC_all, winS_all, ← bs_sep]
  refine bigSep_congr fun t _ => ?_
  rw [← bs_sep]
  exact bigSep_congr fun i _ => rfl
theorem arrays_eq : arrays E = bigSep Finset.univ (srcT E) := by
  unfold arrays
  rw [srcL_all, srcH_all, ← bs_sep]
  exact bigSep_congr fun i _ => rfl

/-! ## The rings by their planes -/

/-- The plane of a code ring that matrix `h`'s column block `i` has. -/
def plN (h : Fin 2) (i : Fin 6) : ℕ := if h = 0 then i.val else 6 + i.val
theorem plN_lt (h : Fin 2) (i : Fin 6) : plN h i < 12 := by unfold plN; split <;> omega
theorem plN_own (b : ℕ) (hb : b < 12) : plN ⟨b / 6, by omega⟩ ⟨b % 6, by omega⟩ = b := by
  unfold plN; split
  · next h => have := congrArg Fin.val h; show b % 6 = b; have : b / 6 = 0 := this; omega
  · next h => have : ¬ (b / 6 = 0) := fun e => h (Fin.ext e); show 6 + b % 6 = b; omega
theorem plN_inv (h : Fin 2) (i : Fin 6) : plN h i / 6 = h.val ∧ plN h i % 6 = i.val := by
  unfold plN; split
  · next e => subst e; constructor
              · show i.val / 6 = 0; omega
              · omega
  · next e => have : h.val = 1 := by have := h.2; have : h.val ≠ 0 := fun e' => e (Fin.ext e'); omega
              constructor <;> omega
def ringOwn {m n : ℕ} (x : Shape.Idx ⟨4, ![2, 12, m, n]⟩) : Fin 2 × Fin 2 × Fin 6 :=
  (x 0, ⟨(x 1).val / 6, by have : (x 1).val < 12 := (x 1).isLt; omega⟩, ⟨(x 1).val % 6, by omega⟩)
theorem ringOwn_of {m n : ℕ} (x : Shape.Idx ⟨4, ![2, 12, m, n]⟩) (s h : Fin 2) (i : Fin 6) (h0 : (x 0).val = s.val) (h1 : (x 1).val = plN h i) : ringOwn x = (s, h, i) := by
  have := plN_inv h i
  unfold ringOwn
  refine Prod.ext (Fin.ext h0) (Prod.ext (Fin.ext ?_) (Fin.ext ?_))
  · show (x 1).val / 6 = h.val; rw [h1]; exact this.1
  · show (x 1).val % 6 = i.val; rw [h1]; exact this.2

def ringC : sProp (MM F) := bigSep Finset.univ fun b : Fin 2 × Fin 2 × Fin 6 => anyC c E.a8 b.1.val (plN b.2.1 b.2.2) b.1.2 (plN_lt _ _)
def ringS : sProp (MM F) := bigSep Finset.univ fun b : Fin 2 × Fin 2 × Fin 6 => anyS c E.a9 b.1.val (plN b.2.1 b.2.2) b.1.2 (plN_lt _ _)

def KC (b : Fin 2 × Fin 2 × Fin 6) : Rect S2x12x2560x128 := Rect.unit (s := S2x12x2560x128) ![b.1.val, plN b.2.1 b.2.2, 0, 0] S1x1x2560x128.size (inSCp b.1.2 (plN_lt _ _))
def KS (b : Fin 2 × Fin 2 × Fin 6) : Rect S2x12x160x128 := Rect.unit (s := S2x12x160x128) ![b.1.val, plN b.2.1 b.2.2, 0, 0] S1x1x160x128.size (inSSp b.1.2 (plN_lt _ _))
theorem KC_own (b) (y : (KC b).shape.Idx) : ringOwn ((KC b).emb y) = b := by
  obtain ⟨s, h, i⟩ := b
  have h0 : (y 0).val < 1 := (y 0).isLt
  have h1 : (y 1).val < 1 := (y 1).isLt
  apply ringOwn_of
  · show s.val + 1 * (y 0).val = s.val; omega
  · show plN h i + 1 * (y 1).val = plN h i; omega
theorem KS_own (b) (y : (KS b).shape.Idx) : ringOwn ((KS b).emb y) = b := by
  obtain ⟨s, h, i⟩ := b
  have h0 : (y 0).val < 1 := (y 0).isLt
  have h1 : (y 1).val < 1 := (y 1).isLt
  apply ringOwn_of
  · show s.val + 1 * (y 0).val = s.val; omega
  · show plN h i + 1 * (y 1).val = plN h i; omega
theorem KC_all (x : S2x12x2560x128.Idx) : ∃ y, (KC (ringOwn x)).emb y = x := by
  have h1 : (x 1).val < 12 := (x 1).isLt
  refine ⟨ix4 (⟨0, by omega⟩ : Fin 1) (⟨0, by omega⟩ : Fin 1) (x 2) (x 3), ?_⟩
  funext a; fin_cases a <;> apply Fin.ext
  · show (x 0).val + 1 * 0 = (x 0).val; omega
  · show plN _ _ + 1 * 0 = (x 1).val
    rw [Nat.mul_zero, Nat.add_zero]; exact plN_own (x 1).val h1
  · show 0 + 1 * (x 2).val = (x 2).val; omega
  · show 0 + 1 * (x 3).val = (x 3).val; omega
theorem KS_all (x : S2x12x160x128.Idx) : ∃ y, (KS (ringOwn x)).emb y = x := by
  have h1 : (x 1).val < 12 := (x 1).isLt
  refine ⟨ix4 (⟨0, by omega⟩ : Fin 1) (⟨0, by omega⟩ : Fin 1) (x 2) (x 3), ?_⟩
  funext a; fin_cases a <;> apply Fin.ext
  · show (x 0).val + 1 * 0 = (x 0).val; omega
  · show plN _ _ + 1 * 0 = (x 1).val
    rw [Nat.mul_zero, Nat.add_zero]; exact plN_own (x 1).val h1
  · show 0 + 1 * (x 2).val = (x 2).val; omega
  · show 0 + 1 * (x 3).val = (x 3).val; omega

theorem anyC_eq (s b : ℕ) (hs : s < 2) (hb : b < 12) : (anyC c E.a8 s b hs hb : sProp (MM F)) ⊣⊢ iprop(∃ f, (E.a8.view.loc (c : Thread nD τ) ↦[(E.a8.view.slice (Rect.unit (s := S2x12x2560x128) ![s, b, 0, 0] S1x1x2560x128.size (inSCp hs hb))).set]{fullShare} f)) := by
  have e : (plC E.a8 s b hs hb).view.set = (E.a8.view.slice (Rect.unit (s := S2x12x2560x128) ![s, b, 0, 0] S1x1x2560x128.size (inSCp hs hb))).set := View.set_reshape _ _
  rw [← e]
  exact owns_any (plC E.a8 s b hs hb)
theorem anyS_eq (s b : ℕ) (hs : s < 2) (hb : b < 12) : (anyS c E.a9 s b hs hb : sProp (MM F)) ⊣⊢ iprop(∃ f, (E.a9.view.loc (c : Thread nD τ) ↦[(E.a9.view.slice (Rect.unit (s := S2x12x160x128) ![s, b, 0, 0] S1x1x160x128.size (inSSp hs hb))).set]{fullShare} f)) := by
  have e : (plS E.a9 s b hs hb).view.set = (E.a9.view.slice (Rect.unit (s := S2x12x160x128) ![s, b, 0, 0] S1x1x160x128.size (inSSp hs hb))).set := View.set_reshape _ _
  rw [← e]
  exact owns_any (plS E.a9 s b hs hb)

theorem ringC_split : iprop(∃ X, owns (c : Thread nD τ) E.a8 fullShare X) ⊢ ringC E := by
  refine (owns_any E.a8).1.trans ?_
  iintro ⟨%f, H⟩
  rw [slices_pts E.a8.view KC ringOwn KC_own KC_all f]
  unfold ringC
  refine bigSep_mono fun b _ => BI.Entails.trans ?_ (anyC_eq E b.1.val (plN b.2.1 b.2.2) b.1.2 (plN_lt _ _)).2
  exact pts_any _ _ f
theorem ringS_split : iprop(∃ X, owns (c : Thread nD τ) E.a9 fullShare X) ⊢ ringS E := by
  refine (owns_any E.a9).1.trans ?_
  iintro ⟨%f, H⟩
  rw [slices_pts E.a9.view KS ringOwn KS_own KS_all f]
  unfold ringS
  refine bigSep_mono fun b _ => BI.Entails.trans ?_ (anyS_eq E b.1.val (plN b.2.1 b.2.2) b.1.2 (plN_lt _ _)).2
  exact pts_any _ _ f
theorem ringC_join (f₀ : Buf (Elt F) (E.a8.view.loc (c : Thread nD τ))) : ringC E ⊢ iprop(∃ X, owns (c : Thread nD τ) E.a8 fullShare X) := by
  refine BI.Entails.trans ?_ ((slices_join E.a8.view KC ringOwn KC_own KC_all f₀).trans (owns_any E.a8).2)
  unfold ringC
  exact bigSep_mono fun b _ => (anyC_eq E b.1.val (plN b.2.1 b.2.2) b.1.2 (plN_lt _ _)).1
theorem ringS_join (f₀ : Buf (Elt F) (E.a9.view.loc (c : Thread nD τ))) : ringS E ⊢ iprop(∃ X, owns (c : Thread nD τ) E.a9 fullShare X) := by
  refine BI.Entails.trans ?_ ((slices_join E.a9.view KS ringOwn KS_own KS_all f₀).trans (owns_any E.a9).2)
  unfold ringS
  exact bigSep_mono fun b _ => (anyS_eq E b.1.val (plN b.2.1 b.2.2) b.1.2 (plN_lt _ _)).1

/-- The two rings' planes, slot by slot. -/
theorem rings_eq : (iprop(ringC E ∗ ringS E) : sProp (MM F))
    = iprop((bigSep Finset.univ (freeL E 0 (by omega)) ∗ bigSep Finset.univ (freeH E 0 (by omega))) ∗ (bigSep Finset.univ (freeL E 1 (by omega)) ∗ bigSep Finset.univ (freeH E 1 (by omega)))) := by
  unfold ringC ringS
  rw [← bs_sep, bigSep_univ_prod, bigSep_fin_two, bigSep_univ_prod, bigSep_fin_two, bigSep_univ_prod, bigSep_fin_two]
  rfl

/-! ## The trips, from start to end -/

theorem idle_zero : (Finset.univ : Finset (Fin 18)) = insert (⟨0, by omega⟩ : Fin 18) (insert (⟨1, by omega⟩ : Fin 18) (idle 0)) := by
  ext u; simp only [idle, Finset.mem_insert, Finset.mem_filter, Finset.mem_univ, true_and, true_iff, Fin.ext_iff]; omega
theorem idle_end : idle 18 = (Finset.univ : Finset (Fin 18)) := by
  ext u; have := u.2; simp only [idle, Finset.mem_filter, Finset.mem_univ, true_and, iff_true]; omega
theorem srcT_start : bigSep Finset.univ (srcT E) = iprop(srcT E ⟨0, by omega⟩ ∗ srcT E ⟨1, by omega⟩ ∗ bigSep (idle 0) (srcT E)) := by
  rw [idle_zero, bs_insert, bs_insert]
  · simp [idle]
  · simp [idle]

theorem wp_loop (c : Dev nD) (L : Scf.Loop 32) (hok) (body : Fin L.trips → PUnit → PR F PUnit) (I : ℕ → sProp (MM F)) (hbody : ∀ k acc, I k.val ⊢ WP c (body k acc) fun _ => I (k.val + 1)) (Q : PUnit → sProp (MM F)) :
    iprop(I 0 ∗ (∀ acc, I L.trips -∗ Q acc)) ⊢ WP c (Scf.Loop.for L hok ⟨⟩ body) Q := by
  unfold WP at hbody ⊢
  exact Scf.wp_for _ _ _ _ _ _ _ _ _ (fun n _ => I n) hbody
theorem loop_wp (H : Vec F S32x5120 .bf16) (Q : PUnit → sProp (MM F)) :
    iprop(loopI E H 0 ∗ (loopI E H 18 -∗ Q ⟨⟩))
      ⊢ WP c (Scf.Loop.for k0_t1_loop k0_t1_ok ⟨⟩ fun t _ => tripP E.a2 E.h2 E.a3 E.h3 E.a4 E.h4 E.a5 E.h5 E.a6 E.h6 E.a8 E.h8 E.a9 E.h9 E.a10 E.a11 E.a13 t) Q := by
  iintro ⟨HI, Hk⟩
  iapply (wp_loop c k0_t1_loop k0_t1_ok _ (loopI E H) (fun k acc => trip_wp E H k))
  isplitl [HI]; · iexact HI
  iintro %acc HI
  rw [trips_eq]
  iapply Hk
  iexact HI

/-! ## The gain's copy -/

def gDeliv (_ : Fin 1) : sProp (MM F) :=
  iprop(owns (c : Thread nD τ) E.a7 fullShare (E.a1.view.read (Elt F) E.f1) ∗ (E.a1.view.loc (c : Thread nD τ) ↦[E.a1.view.set]{fullShare} E.f1))
instance gDeliv_storable (t) : Storable (upEmb : UEmb _ (MM F)) (gDeliv E t) := by
  unfold gDeliv
  have := pts_storable (F := F) (E.a1.view.loc (c : Thread nD τ)) E.a1.view.set fullShare E.f1
  infer_instance

/-- The body's resources other than the output and the input, before and after. -/
def rest : sProp (MM F) :=
  iprop((E.a1.view.loc (c : Thread nD τ) ↦[E.a1.view.set]{fullShare} E.f1) ∗ arrays E ∗ (∃ X, owns (c : Thread nD τ) E.a7 fullShare X)
    ∗ (∃ X, owns (c : Thread nD τ) E.a8 fullShare X) ∗ (∃ X, owns (c : Thread nD τ) E.a9 fullShare X)
    ∗ (∃ X, owns (c : Thread nD τ) E.a10 fullShare X) ∗ (∃ X, owns (c : Thread nD τ) E.a11 fullShare X)
    ∗ semVal ((c : Thread nD τ), .dma (semI E.a12)) 0 ∗ semVal ((c : Thread nD τ), .dma (semOf E.a13 0 (by omega))) 0
    ∗ semVal ((c : Thread nD τ), .dma (semOf E.a13 1 (by omega))) 0 ∗ (∃ W, owes (c : Thread nD τ) 0 W))

theorem gain_wp (Q : PUnit → sProp (MM F)) :
    iprop((E.a1.view.loc (c : Thread nD τ) ↦[E.a1.view.set]{fullShare} E.f1) ∗ (∃ X, owns (c : Thread nD τ) E.a7 fullShare X)
        ∗ semVal ((c : Thread nD τ), .dma (semI E.a12)) 0 ∗ (∃ W, owes (c : Thread nD τ) 0 W)
        ∗ (iprop((E.a1.view.loc (c : Thread nD τ) ↦[E.a1.view.set]{fullShare} E.f1) ∗ owns (c : Thread nD τ) E.a7 fullShare (E.a1.view.read (Elt F) E.f1)
            ∗ semVal ((c : Thread nD τ), .dma (semI E.a12)) 0 ∗ (∃ W, owes (c : Thread nD τ) 0 W)) -∗ Q ⟨⟩))
      ⊢ WP c (Prog.lift (.enqueueDma E.a1 (.here E.a7) (.dma (semI E.a12)) E.h1.wordExact E.h7.wordExact ⟨Or.inl rfl, trivial⟩)) fun _ =>
          WP c (Prog.lift (.waitDma2 (semI E.a12) E.a1 E.a7 E.h1.wordExact E.h7.wordExact)) Q := by
  iintro ⟨H1, H7, Hv, HW, Hk⟩
  imod (Transfers.mixedBatch_alloc' (Lvl := ℕ) (countersEmb (U := Pipeline.UD sig nD τ)) (c : Thread nD τ) () (fun _ : Fin 1 => E.a7.view.dmaCredit)
    (gDeliv E) (sm := SemLoc.dma (semI E.a12)) (E := Set.univ)) $$ Hv with HB
  iapply (own_dma c E.a1 E.a7 (semI E.a12) _ _ _ fullShare E.f1 (fun _ : Fin 1 => E.a7.view.dmaCredit) (gDeliv E) 0 Nat.one_pos rfl .rfl)
  isplitl [H1]; · iexact H1
  isplitl [H7]; · iexact H7
  isplitl [HB]; · iexact HB
  iintro HB
  iapply (own_waitAll c E.a1 E.a7 (semI E.a12) _ _ (fun _ : Fin 1 => E.a7.view.dmaCredit) (gDeliv E) 0 E.a7.view.dmaCredit rfl (fun _ => View.dmaCredit_pos _ (by decide)) (by simp [sumTo]))
  isplitl [HB]; · iexact HB
  isplitl [HW]; · iexact HW
  rw [show bigSep Finset.univ (gDeliv E) = gDeliv E 0 from by rw [Finset.univ_unique, bigSep_singleton]; rfl]
  unfold gDeliv
  iintro ⟨⟨H7, H1⟩, Hv, HW⟩
  iapply Hk
  isplitl [H1]; · iexact H1
  isplitl [H7]; · iexact H7
  isplitl [Hv]; · iexact Hv
  iexact HW

end Cert.KernelIdeal
-- ==== Proof.KernelIdeal.Sound.lean ====
/-
  The body's specification.
-/
module

public import proofs.«01_k».proof.Proof.KernelIdeal.Whole

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts₀ Facts K0.R1.Facts₀ K0.R2.Facts₀ Shapes1.Facts₀ Shapes2.Facts₀ Shapes3.Facts₀

variable {F : FTy → Type} [FloatOps F] [Facts] {c : Dev nD} (E : Env F c)

theorem of_eq' {P Q : sProp (MM F)} (h : P = Q) : P ⊢ Q := by rw [h]

/-- The normalised rows of the input `X`, at the gain the environment holds. -/
def Env.hn (X : Vec F S32x5120 .f32) : Vec F S32x5120 .bf16 := normV X (E.a1.view.read (Elt F) E.f1)

theorem norm_all (X : Vec F S32x5120 .f32) (Q : PUnit → sProp (MM F)) :
    iprop(owns (c : Thread nD τ) E.a0 fullShare X ∗ owns (c : Thread nD τ) E.a7 fullShare (E.a1.view.read (Elt F) E.f1) ∗ (∃ X, owns (c : Thread nD τ) E.a11 fullShare X)
        ∗ (iprop(owns (c : Thread nD τ) E.a0 fullShare X ∗ owns (c : Thread nD τ) E.a7 fullShare (E.a1.view.read (Elt F) E.f1) ∗ owns (c : Thread nD τ) E.a11 fullShare (E.hn X)) -∗ Q ⟨⟩))
      ⊢ WP c (upTo 40 fun j h => nrmP E.a0 E.a7 E.a11 E.h11 (rmsV (totV X)) j h) Q := by
  iintro ⟨H0, H7, ⟨%a, H11⟩, Hk⟩
  iapply (wp_upTo c (fun j => iprop(owns (c : Thread nD τ) E.a0 fullShare X ∗ owns (c : Thread nD τ) E.a7 fullShare (E.a1.view.read (Elt F) E.f1) ∗ nrmUp E X (E.a1.view.read (Elt F) E.f1) (j * 128))) 40 _
    (fun j hj => nrm_wp E X (E.a1.view.read (Elt F) E.f1) j hj))
  isplitl [H0 H7 H11]
  · isplitl [H0]; · iexact H0
    isplitl [H7]; · iexact H7
    unfold nrmUp
    iexists a
    isplitr
    · ipureintro; intro i hi; exact absurd hi (by omega)
    · iexact H11
  unfold nrmUp
  iintro ⟨H0, H7, ⟨%a', %ha, H11⟩⟩
  iapply Hk
  isplitl [H0]; · iexact H0
  isplitl [H7]; · iexact H7
  rw [show a' = E.hn X from funext fun i => ha i (by have : (i 1).val < 5120 := (i 1).isLt; omega)]
  iexact H11

theorem slots_start : iprop((∃ X, owns (c : Thread nD τ) E.a8 fullShare X) ∗ (∃ X, owns (c : Thread nD τ) E.a9 fullShare X)
      ∗ semVal ((c : Thread nD τ), .dma (semOf E.a13 0 (by omega))) 0 ∗ semVal ((c : Thread nD τ), .dma (semOf E.a13 1 (by omega))) 0)
    ⊢ iprop(freeSlot E 0 (by omega) ∗ freeSlot E 1 (by omega)) := by
  iintro ⟨H8, H9, Hv0, Hv1⟩
  ihave H8' := (ringC_split E) $$ H8
  ihave H9' := (ringS_split E) $$ H9
  ihave HR : iprop(ringC E ∗ ringS E) $$ [H8' H9']
  · isplitl [H8']; · iexact H8'
    iexact H9'
  ihave HR' := (of_eq' (rings_eq E)) $$ HR
  icases HR' with ⟨⟨HL0, HH0⟩, HL1, HH1⟩
  unfold freeSlot
  isplitl [Hv0 HL0 HH0]
  · isplitl [Hv0]; · iexact Hv0
    isplitl [HL0]; · iexact HL0
    iexact HH0
  · isplitl [Hv1]; · iexact Hv1
    isplitl [HL1]; · iexact HL1
    iexact HH1
theorem slots_end (f8 : Buf (Elt F) (E.a8.view.loc (c : Thread nD τ))) (f9 : Buf (Elt F) (E.a9.view.loc (c : Thread nD τ))) :
    iprop(freeSlot E 0 (by omega) ∗ freeSlot E 1 (by omega)) ⊢ iprop((∃ X, owns (c : Thread nD τ) E.a8 fullShare X) ∗ (∃ X, owns (c : Thread nD τ) E.a9 fullShare X)
      ∗ semVal ((c : Thread nD τ), .dma (semOf E.a13 0 (by omega))) 0 ∗ semVal ((c : Thread nD τ), .dma (semOf E.a13 1 (by omega))) 0) := by
  unfold freeSlot
  iintro ⟨⟨Hv0, HL0, HH0⟩, Hv1, HL1, HH1⟩
  ihave HR : iprop((bigSep Finset.univ (freeL E 0 (by omega)) ∗ bigSep Finset.univ (freeH E 0 (by omega))) ∗ (bigSep Finset.univ (freeL E 1 (by omega)) ∗ bigSep Finset.univ (freeH E 1 (by omega)))) $$ [HL0 HH0 HL1 HH1]
  · isplitl [HL0 HH0]
    · isplitl [HL0]; · iexact HL0
      iexact HH0
    · isplitl [HL1]; · iexact HL1
      iexact HH1
  ihave HR' := (of_eq' (rings_eq E).symm) $$ HR
  icases HR' with ⟨HC, HS⟩
  ihave HC' := (ringC_join E f8) $$ HC
  ihave HS' := (ringS_join E f9) $$ HS
  isplitl [HC']; · iexact HC'
  isplitl [HS']; · iexact HS'
  isplitl [Hv0]; · iexact Hv0
  iexact Hv1

theorem trips_wp (H : Vec F S32x5120 .bf16) (Q : PUnit → sProp (MM F)) :
    iprop(bigSep (idle 0) (srcT E) ∗ slotAt E 0 ∗ slotAt E 1 ∗ (∃ P, owns (c : Thread nD τ) E.a10 fullShare P) ∗ owns (c : Thread nD τ) E.a11 fullShare H
        ∗ (∃ A, owns (c : Thread nD τ) E.a6 fullShare A) ∗ (∃ W, owes (c : Thread nD τ) 0 W)
        ∗ (iprop(bigSep Finset.univ (srcT E) ∗ freeSlot E 0 (by omega) ∗ freeSlot E 1 (by omega) ∗ (∃ P, owns (c : Thread nD τ) E.a10 fullShare P) ∗ owns (c : Thread nD τ) E.a11 fullShare H
            ∗ owns (c : Thread nD τ) E.a6 fullShare (E.act H) ∗ (∃ W, owes (c : Thread nD τ) 0 W)) -∗ Q ⟨⟩))
      ⊢ WP c (Scf.Loop.for k0_t1_loop k0_t1_ok ⟨⟩ fun t _ => tripP E.a2 E.h2 E.a3 E.h3 E.a4 E.h4 E.a5 E.h5 E.a6 E.h6 E.a8 E.h8 E.a9 E.h9 E.a10 E.a11 E.a13 t) Q := by
  iintro ⟨HI, HS0, HS1, HP, HH, ⟨%A, HA⟩, HW, Hk⟩
  iapply (loop_wp E H)
  isplitl [HI HS0 HS1 HP HH HA HW]
  · unfold loopI upToCol
    isplitl [HI]; · iexact HI
    isplitl [HS0]; · iexact HS0
    isplitl [HS1]; · iexact HS1
    isplitl [HP]; · iexact HP
    isplitl [HH]; · iexact HH
    isplitl [HA]
    · iexists A
      isplitr
      · ipureintro; intro i hi; exact absurd hi (by omega)
      · iexact HA
    iexact HW
  unfold loopI upToCol
  rw [idle_end, slotAt_free E 18 0 (by omega) (by omega) (by omega), slotAt_free E (18 + 1) 1 (by omega) (by omega) (by omega)]
  iintro ⟨HI, HS0, HS1, HP, HH, ⟨%A', %hA, HA⟩, HW⟩
  iapply Hk
  isplitl [HI]; · iexact HI
  isplitl [HS0]; · iexact HS0
  isplitl [HS1]; · iexact HS1
  isplitl [HP]; · iexact HP
  isplitl [HH]; · iexact HH
  isplitl [HA]
  · rw [show A' = E.act H from funext fun i => hA i (by have : (i 1).val < 13824 := (i 1).isLt; omega)]
    iexact HA
  iexact HW

theorem body_wp (f8 : Buf (Elt F) (E.a8.view.loc (c : Thread nD τ))) (f9 : Buf (Elt F) (E.a9.view.loc (c : Thread nD τ))) (X : Vec F S32x5120 .f32) :
    iprop(owns (c : Thread nD τ) E.a0 fullShare X ∗ (∃ A, owns (c : Thread nD τ) E.a6 fullShare A) ∗ rest E)
      ⊢ WP c (bodyP E.a0 E.a1 E.h1 E.a2 E.h2 E.a3 E.h3 E.a4 E.h4 E.a5 E.h5 E.a6 E.h6 E.a7 E.h7 E.a8 E.h8 E.a9 E.h9 E.a10 E.a11 E.h11 E.a12 E.a13) fun _ =>
          iprop(owns (c : Thread nD τ) E.a0 fullShare X ∗ owns (c : Thread nD τ) E.a6 fullShare (E.act (E.hn X)) ∗ rest E) := by
  unfold bodyP rest
  rw [WP_bind']
  iintro ⟨H0, H6, H1, HA, H7, H8, H9, H10, H11, Hv, Hv0, Hv1, HW⟩
  ihave HF := (slots_start E) $$ [H8 H9 Hv0 Hv1]
  · isplitl [H8]; · iexact H8
    isplitl [H9]; · iexact H9
    isplitl [Hv0]; · iexact Hv0
    iexact Hv1
  icases HF with ⟨HF0, HF1⟩
  ihave HA' := (of_eq' ((arrays_eq E).trans (srcT_start E))) $$ HA
  icases HA' with ⟨HA0, HA1, HAr⟩
  simp only [WP_bind']
  iapply (gain_wp E)
  isplitl [H1]; · iexact H1
  isplitl [H7]; · iexact H7
  isplitl [Hv]; · iexact Hv
  isplitl [HW]; · iexact HW
  iintro ⟨H1, H7, Hv, HW⟩
  iapply (fill_wp E 0 _ 0 (by omega) _ _ (fun i hi => by omega))
  isplitl [HF0]; · iexact HF0
  isplitl [HA0]; · iexact HA0
  iintro HB0
  iapply (fill_wp E 1 _ 1 (by omega) _ _ (fun i hi => by omega))
  isplitl [HF1]; · iexact HF1
  isplitl [HA1]; · iexact HA1
  iintro HB1
  iapply (tot_wp E X)
  isplitl [H0]; · iexact H0
  iintro H0
  iapply (norm_all E X)
  isplitl [H0]; · iexact H0
  isplitl [H7]; · iexact H7
  isplitl [H11]; · iexact H11
  iintro ⟨H0, H7, H11⟩
  iapply (trips_wp E (E.hn X))
  isplitl [HAr]; · iexact HAr
  rw [slotAt_batch E 0 0 (by omega) (by omega) (by omega), slotAt_batch E 1 1 (by omega) (by omega) (by omega)]
  isplitl [HB0]; · iexact HB0
  isplitl [HB1]; · iexact HB1
  isplitl [H10]; · iexact H10
  isplitl [H11]; · iexact H11
  isplitl [H6]; · iexact H6
  isplitl [HW]; · iexact HW
  iintro ⟨HA, HF0, HF1, H10, H11, H6, HW⟩
  ihave HE := (slots_end E f8 f9) $$ [HF0 HF1]
  · isplitl [HF0]; · iexact HF0
    iexact HF1
  icases HE with ⟨H8, H9, Hv0, Hv1⟩
  iapply WP_pure
  isplitl [H0]; · iexact H0
  isplitl [H6]; · iexact H6
  isplitl [H1]; · iexact H1
  isplitl [HA]; · rw [arrays_eq]; iexact HA
  isplitl [H7]; · iexists _; iexact H7
  isplitl [H8]; · iexact H8
  isplitl [H9]; · iexact H9
  isplitl [H10]; · iexact H10
  isplitl [H11]; · iexists _; iexact H11
  isplitl [Hv]; · iexact Hv
  isplitl [Hv0]; · iexact Hv0
  isplitl [Hv1]; · iexact Hv1
  iexact HW

end Cert.KernelIdeal
-- ==== Proof.KernelIdeal.Top.lean ====
/-
  The launch: the kernel's resources, the body's obligation, the run and the frame.
-/
module

public import proofs.«01_k».proof.Proof.KernelIdeal.Sound
public import proofs.«01_k».proof.Proof.Gen.KernelIdeal.Frame

@[expose] public section

set_option maxRecDepth 16384

noncomputable section

namespace Cert.KernelIdeal.Top

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (V0 V iblk launch0 t0_0 fin_N0 bigSep_W0 scopedRest0_eq main_chain hostOps0 hostOps1 hostOps0_sub hostOps1_sub hostOps0_fresh hostOps1_fresh sfx_fresh sfx_keeps V_main_arg0 V_main_arg1 V_main_arg2 V_main_arg3 V_main_arg4 V_main_arg5 bodyAt0)

open Facts₀ Facts K0.R1.Facts₀ K0.R2.Facts₀ Shapes1.Facts₀ Shapes2.Facts₀ Shapes3.Facts₀

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, at this algebra -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 0).trans (((dats 0 c).arrAt_in 0 rfl _).trans ((hA c 0).trans (V_main_arg0 m c))),
      (((h.1 c).2 main_arg1 (Pipeline.mem_restRefs_of main_arg1 (by decide) (by decide))).trans (W_main_arg1 m dats c)),
      (((h.1 c).2 main_arg2 (Pipeline.mem_restRefs_of main_arg2 (by decide) (by decide))).trans (W_main_arg2 m dats c)),
      (((h.1 c).2 main_arg3 (Pipeline.mem_restRefs_of main_arg3 (by decide) (by decide))).trans (W_main_arg3 m dats c)),
      (((h.1 c).2 main_arg4 (Pipeline.mem_restRefs_of main_arg4 (by decide) (by decide))).trans (W_main_arg4 m dats c)),
      (((h.1 c).2 main_arg5 (Pipeline.mem_restRefs_of main_arg5 (by decide) (by decide))).trans (W_main_arg5 m dats c))⟩, h.2⟩) h

/-! ## The body's operands -/

/-- The body's DMA cells: the gain's, and one for each slot. -/
abbrev osem0 : Fin 3 → SemLoc sig := fun j => (![SemLoc.dma 6, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 9) 0
          ∗ semVal ((c : Thread nD τ), SemLoc.dma 10) 0) := by
  rw [Pipeline.ownSems0_eq_of_list c osem0 [0, 1, 2] (by decide) (by decide)]; rfl
/-- The arrays left in slow memory that the body's copies read. -/
def H0 : Finset (Ref sig .tc) := {main_v0, main_v2, main_v3, main_v5, main_v6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_v2) ↦{fullShare} V m c main_v2)
          ∗ (((c : Thread nD τ).loc main_v3) ↦{fullShare} V m c main_v3) ∗ (((c : Thread nD τ).loc main_v5) ↦{fullShare} V m c main_v5)
          ∗ (((c : Thread nD τ).loc main_v6) ↦{fullShare} V m c main_v6)) := by
  rw [BI.bigSep_eq_bigSepL_of_eq [main_v0, main_v2, main_v3, main_v5, main_v6] (by decide) (by decide)]; rfl

/-- The kernel's memrefs at point `t`, and what the arrays hold when the region is entered. -/
def env (c : Dev nD) (t : Fin cfg0.N) : Env F c where
  a0 := win0_0.stage (cfg0.slots t 0)
  h0 := hstage0_0 0
  a1 := Memref.whole main_v0
  h1 := Memref.isWhole_whole _
  a2 := Memref.whole main_v2
  h2 := Memref.isWhole_whole _
  a3 := Memref.whole main_v3
  h3 := Memref.isWhole_whole _
  a4 := Memref.whole main_v5
  h4 := Memref.isWhole_whole _
  a5 := Memref.whole main_v6
  h5 := Memref.isWhole_whole _
  a6 := win0_1.stage (cfg0.slots t 1)
  h6 := hstage0_1 0
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := cc0_scratch5
  a13 := cc0_scratch6
  f1 := V m c main_v0
  f2 := V m c main_v2
  f3 := V m c main_v3
  f4 := V m c main_v5
  f5 := V m c main_v6

theorem pts_whole (c : Dev nD) (b : Ref sig .tc) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [show (Memref.whole b).view.set = Finset.univ from View.set_whole b]
/-- The launch's resources are the body's, but for the output, the input and what is owed. -/
theorem phi_eq (c : Dev nD) (t : Fin cfg0.N) :
    (iprop(Pipeline.ΦD osem0 spec0 H0 (V m) c ∗ (∃ W, owes (c : Thread nD τ) 0 W)) : sProp 𝕄) ⊣⊢ iprop(rest (env m c t) ∗ (∃ r, prngReg c r)) := by
  rw [Pipeline.ΦD_eq, scopedRest0_eq, ownSems00_eq, hbmPts0_eq]
  unfold rest arrays
  rw [show (env m c t).a7 = Memref.whole cc0_scratch0 from rfl, show (env m c t).a8 = Memref.whole cc0_scratch1 from rfl, show (env m c t).a9 = Memref.whole cc0_scratch2 from rfl,
    show (env m c t).a10 = Memref.whole cc0_scratch3 from rfl, show (env m c t).a11 = Memref.whole cc0_scratch4 from rfl]
  simp only [owns_whole]
  have e1 := pts_whole c main_v0 (V m c main_v0)
  have e2 := pts_whole c main_v2 (V m c main_v2)
  have e3 := pts_whole c main_v3 (V m c main_v3)
  have e4 := pts_whole c main_v5 (V m c main_v5)
  have e5 := pts_whole c main_v6 (V m c main_v6)
  rw [← e1, ← e2, ← e3, ← e4, ← e5]
  constructor
  · iintro ⟨⟨⟨HS0, HS1, HS2, HS3, HS4⟩, Hg, ⟨Hq0, Hq1, Hq2⟩, Hh0, Hh1, Hh2, Hh3, Hh4⟩, HW⟩
    isplitr [Hg]
    · isplitl [Hh0]; · iexact Hh0
      isplitl [Hh1 Hh2 Hh3 Hh4]
      · isplitl [Hh1 Hh2]
        · isplitl [Hh1]; · iexact Hh1
          iexact Hh2
        · isplitl [Hh3]; · iexact Hh3
          iexact Hh4
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      iexact HW
    · iexact Hg
  · iintro ⟨⟨Hh0, ⟨⟨Hh1, Hh2⟩, Hh3, Hh4⟩, HS0, HS1, HS2, HS3, HS4, Hq0, Hq1, Hq2, HW⟩, Hg⟩
    isplitr [HW]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      isplitl [Hh2]; · iexact Hh2
      isplitl [Hh3]; · iexact Hh3
      iexact Hh4
    · iexact HW

/-! ## The body's obligation -/

/-- The block the output window is left at. -/
def outV (c : Dev nD) (t : Fin cfg0.N) : Vec F S32x13824 .bf16 := (env m c t).act ((env m c t).hn (iblk m c 0 t))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outV m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outV m c t := by dsimp only [dats]
theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem body_run (c : Dev nD) (t : Fin cfg0.N) :
    (iprop(owns (c : Thread nD τ) (win0_0.stage (cfg0.slots t 0)) fullShare (iblk m c 0 t) ∗ (∃ A, owns (c : Thread nD τ) (win0_1.stage (cfg0.slots t 1)) fullShare A) ∗ rest (env m c t)) : sProp 𝕄)
      ⊢ WP c (bodyAt0 t) fun _ =>
          iprop(owns (c : Thread nD τ) (win0_0.stage (cfg0.slots t 0)) fullShare (iblk m c 0 t) ∗ owns (c : Thread nD τ) (win0_1.stage (cfg0.slots t 1)) fullShare (outV m c t) ∗ rest (env m c t)) := by
  unfold bodyAt0
  rw [kernel_eq]
  exact body_wp (env m c t) (m ((c : Thread nD τ).loc cc0_scratch1)) (m ((c : Thread nD τ).loc cc0_scratch2)) (iblk m c 0 t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after0_0, after0_1]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩⟩
  rw [before0_0]
  ihave HR := (phi_eq m c t).1 $$ [HΦ HW]
  · isplitl [HΦ]; · iexact HΦ
    iexists W; iexact HW
  icases HR with ⟨HR, Hg⟩
  iapply wp_wand_r
  isplitl [H0 H1 HR]
  · iapply (body_run m c t)
    isplitl [H0]; · iexact H0
    isplitl [H1]; · iexists _; iexact H1
    iexact HR
  iintro %u ⟨H0, H1, HR⟩
  ihave HΦ := (phi_eq m c t).2 $$ [HR Hg]
  · isplitl [HR]; · iexact HR
    iexact Hg
  icases HΦ with ⟨HΦ, ⟨%W', HW'⟩⟩
  isplitl [HΦ]; · iexact HΦ
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The lines after the region touch none of the arrays the body's copies read. -/
theorem sfx_sub' : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  intro b hb
  simp only [H0, Finset.mem_insert, Finset.mem_singleton] at hb
  rcases hop with rfl | rfl | rfl <;> rcases hb with rfl | rfl | rfl | rfl | rfl <;>
    simp only [StableHlo.unary_bufs, StableHlo.reshape_bufs, Finset.mem_insert, Finset.mem_singleton, not_or] <;>
    exact ⟨StableHlo.devRef_ne_of_ne (by decide), StableHlo.devRef_ne_of_ne (by decide)⟩

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub') (hfresh := sfx_fresh) (hkeep := sfx_keeps) (hmain := hmain m Variants.none) (hA := A_eq m)
    (hin := fun _ => .rfl) (hout := fun _ => .rfl)

/-- The frame: the arguments end as launched and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  frame_of m ρ (dats m) (A_eq m) (run_main m ρ)

end Cert.KernelIdeal.Top
-- ==== Proof.Kernel.Same.lean ====
/-
  The kernel at machine words is, definition by definition, the text of its ideal reading: its frame is the same proof.
-/
module

public import proofs.«01_k».proof.Defs
public import proofs.«01_k».proof.Proof.Gen.Kernel
public import proofs.«01_k».proof.Proof.KernelIdeal.Top

@[expose] public section

noncomputable section

namespace Cert.KernelSame

open Idealize.ShloMosaic Idealize.ShloMosaic.TcCoe Idealize.ShloMosaic.Tactic
open Idealize.SL Idealize.SL.Sem
open Cert.KernelIdeal (nD τ sig defs main main_arg0 main_arg1 main_arg2 main_arg3 main_arg4 main_arg5)

set_option maxRecDepth 65536 in
/-- The frame of the kernel is that of the other print of the same text, taken at machine words. -/
theorem same : @Cert.quiescent_Kernel Cert.Kernel.Gen.facts
    = ∀ (m : (ℓ : Loc nD τ sig) → Buf (Elt Bits) ℓ) (g : Dev nD → PrngReg), True →
        θ_run (defs (F := Bits)) (onTc (τ := τ) (main (F := Bits))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)) ∧ r.2.sem = fun _ => 0) := by
  sl_kernel_rfl

theorem _root_.Cert.Kernel.Top.frame : @Cert.quiescent_Kernel Cert.Kernel.Gen.facts :=
  same.mpr fun m g _ => Cert.KernelIdeal.Top.frame m g

end Cert.KernelSame
-- ==== Proof.KernelIdeal.Result.lean ====
/-
  What the kernel's result array ends holding.
-/
module

public import proofs.«01_k».proof.Proof.KernelIdeal.Top
public import Idealize.ShloMosaic.Lib.Pipeline.Value
public import Idealize.ShloMosaic.Lib.StableHlo.Run

@[expose] public section

set_option maxRecDepth 16384

noncomputable section

namespace Cert.KernelIdeal.Top

open Idealize.ShloMosaic Idealize.ShloMosaic.TcCoe
open Idealize.SL Idealize.SL.Sem
open Idealize.ShloMosaic.Pipeline (Dat Cfg Window)
open Cert.KernelIdeal.Gen (V0 V iblk launch0 t0_0 fin_N0 hostOps0 hostOps1 V_main_arg0)
open Facts₀ Facts K0.R1.Facts₀ K0.R2.Facts₀ Shapes1.Facts₀ Shapes2.Facts₀ Shapes3.Facts₀

variable {F : FTy → Type} [FloatOps F]
variable (m : (ℓ : Loc nD τ sig) → Buf (Elt F) ℓ) (ρ : Dev nD → PrngReg)

/-! ## The arrays the region finds -/

theorem V_v0 (c : Dev nD) : V m c main_v0 = shapeCast S1x5120 (m ((c : Thread nD τ).loc main_arg1) : Vec F S5120 .bf16) shapeCasts_S5120_S1x5120 := by
  show StableHlo.after (List.flatten [hostOps0]) (fun b => m (c, b)) (Proc.devRef .tc main_v0) = _
  simp only [hostOps0, List.flatten_cons, List.flatten_nil, List.append_nil]
  after_results
  rfl
theorem V_v2 (c : Dev nD) : V m c main_v2 = shapeCast S2560x13824 (transpose S160x16x13824 [1, 2, 0] (m ((c : Thread nD τ).loc main_arg2) : Vec F S13824x160x16 .i8) transposes_S13824x160x16_S160x16x13824_1_2_0) shapeCasts_S160x16x13824_S2560x13824 := by
  show StableHlo.after (List.flatten [hostOps0]) (fun b => m (c, b)) (Proc.devRef .tc main_v2) = _
  simp only [hostOps0, List.flatten_cons, List.flatten_nil, List.append_nil]
  after_results
  rfl
theorem V_v5 (c : Dev nD) : V m c main_v5 = shapeCast S2560x13824 (transpose S160x16x13824 [1, 2, 0] (m ((c : Thread nD τ).loc main_arg4) : Vec F S13824x160x16 .i8) transposes_S13824x160x16_S160x16x13824_1_2_0) shapeCasts_S160x16x13824_S2560x13824 := by
  show StableHlo.after (List.flatten [hostOps0]) (fun b => m (c, b)) (Proc.devRef .tc main_v5) = _
  simp only [hostOps0, List.flatten_cons, List.flatten_nil, List.append_nil]
  after_results
  rfl
theorem V_v3 (c : Dev nD) : V m c main_v3 = transpose S160x13824 [1, 0] (m ((c : Thread nD τ).loc main_arg3) : Vec F S13824x160 .bf16) transposes_S13824x160_S160x13824_1_0 := by
  show StableHlo.after (List.flatten [hostOps0]) (fun b => m (c, b)) (Proc.devRef .tc main_v3) = _
  simp only [hostOps0, List.flatten_cons, List.flatten_nil, List.append_nil]
  after_results
theorem V_v6 (c : Dev nD) : V m c main_v6 = transpose S160x13824 [1, 0] (m ((c : Thread nD τ).loc main_arg5) : Vec F S13824x160 .bf16) transposes_S13824x160_S160x13824_1_0 := by
  show StableHlo.after (List.flatten [hostOps0]) (fun b => m (c, b)) (Proc.devRef .tc main_v6) = _
  simp only [hostOps0, List.flatten_cons, List.flatten_nil, List.append_nil]
  after_results

/-! ## The output array after the run -/

theorem final_out (c : Dev nD) :
    ((cfg0.win (1 : Fin 2)).blk t0_0).view.read (Elt F) ((dats (F := F) m 0 c).arrAt (1 : Fin 2) cfg0.N)
      = (dats (F := F) m 0 c).flushed (1 : Fin 2) t0_0 := by
  rw [show cfg0.N = (t0_0 : Fin cfg0.N).val + 1 from rfl, (dats (F := F) m 0 c).arrAt_succ (1 : Fin 2) t0_0]
  rw [show (cfg0.win (1 : Fin 2)).flush t0_0 = true from by decide, if_pos rfl]
  exact View.read_write_univ _ _

theorem final_value (c : Dev nD) : (dats (F := F) m 0 c).arrAt (1 : Fin 2) cfg0.N = outV m c t0_0 := by
  have ho := final_out (F := F) m c
  have hz : (fun a => (win0_1.index t0_0) a * main_v7.ty.shape.size a) = fun _ => 0 :=
    funext fun a => by fin_cases a <;> decide
  have hr := fun f => Memref.read_access_unit_zero (Elt F) main_v7 hz (fun a => by fin_cases a <;> decide) f
  have ho' : (dats (F := F) m 0 c).arrAt (1 : Fin 2) cfg0.N = (dats (F := F) m 0 c).flushed (1 : Fin 2) t0_0 := (hr _).symm.trans ho
  rw [ho']
  show (cfg0.win (1 : Fin 2)).cut _ ((dats (F := F) m 0 c).after 1 t0_0) = _
  rw [after0_1]
  rfl

theorem in_value (c : Dev nD) : (iblk m c 0 t0_0 : Vec F S32x5120 .f32) = m ((c : Thread nD τ).loc main_arg0) := by
  have hz : (fun a => (win0_0.index t0_0) a * main_arg0.ty.shape.size a) = fun _ => 0 :=
    funext fun a => by fin_cases a <;> decide
  have hr := fun f => Memref.read_access_unit_zero (Elt F) main_arg0 hz (fun a => by fin_cases a <;> decide) f
  unfold iblk
  exact (hr _).trans (V_main_arg0 m c)

theorem W_v10 (c : Dev nD) : Pipeline.afterTail₀ cfgs (dats m) 0 (V0 m) [hostOps1] c main_v10
    = shapeCast S32x13824 (transpose S32x432x2x16 [0, 1, 3, 2] (shapeCast S32x432x16x2 (outV m c t0_0) shapeCasts_S32x13824_S32x432x16x2) transposes_S32x432x16x2_S32x432x2x16_0_1_3_2) shapeCasts_S32x432x2x16_S32x13824 := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v7) = outV m c t0_0 :=
    (Pipeline.withArrays_arr spec0 launch0.win.arr_inj c (V0 m c) (fun w => (dats m 0 c).arrAt w (cfgs 0).N) 1).trans (final_value m c)
  rw [e]
  rfl

end Cert.KernelIdeal.Top
-- ==== Proof.KernelIdeal.Value.lean ====
/-
  What the kernel's vectors hold, element by element, over the extended reals.
-/
module

public import proofs.«01_k».proof.Proof.KernelIdeal.Run
public import Idealize.ShloMosaic.Lib.Pointwise
public import Idealize.ShloMosaic.Lib.Pipeline.Value
public import Idealize.ShloMosaic.PureOps.Ideal

@[expose] public section

set_option maxRecDepth 16384

noncomputable section

namespace Cert.KernelIdeal

open Idealize.ShloMosaic
open Facts₀ Facts K0.R1.Facts₀ K0.R2.Facts₀ Shapes1.Facts₀ Shapes2.Facts₀ Shapes3.Facts₀

variable [Facts]

/-! ## Vectors -/

/-- A nibble of a code less eight: the low one at `b = 0`, else the high one. -/
def nibR (b : ℕ) (c : BitVec 8) : EReal := (((((if b = 0 then c.toNat % 16 else c.toNat / 16 : ℕ) : ℤ) - 8 : ℤ) : ℝ) : EReal)

theorem lo_toInt (c : BitVec 8) : (((c.setWidth 32) &&& 15#32) - 8#32).toInt = ((c.toNat % 16 : ℕ) : ℤ) - 8 := by
  revert c; decide +kernel
theorem hi_toInt (c : BitVec 8) : (IntOp.subi (IntOp.shrsi ArithUnit.vector (c.setWidth 32) 4#32) 8#32).toInt = ((c.toNat / 16 : ℕ) : ℤ) - 8 := by
  revert c; decide +kernel

theorem nibbles_apply (c : Vec Ideal S1x1x32x128 .i8) (q : Fin 64) (l : Fin 128) :
    nibbles c (ix2 q l) = nibR (q.val % 2) (c (ix4 0 0 ⟨q.val / 2, by omega⟩ l)) := by
  pointwise [nibbles]
  unfold nibR
  split
  · next h =>
    rw [if_pos (by omega : q.val % 2 = 0)]
    exact congrArg (fun z : ℤ => ((z : ℝ) : EReal)) (lo_toInt _)
  · next h =>
    rw [if_neg (by omega : ¬ q.val % 2 = 0)]
    exact congrArg (fun z : ℤ => ((z : ℝ) : EReal)) (hi_toInt _)

theorem scRows_apply (s : Vec Ideal S1x1x8x128 .f32) (r : Fin 16) (l : Fin 128) :
    scRows s (ix2 r l) = s (ix4 0 0 ⟨r.val % 8, by omega⟩ l) := by
  pointwise [scRows]
  split
  · congr 2; apply Fin.ext; show r.val = r.val % 8; omega
  · congr 2; apply Fin.ext; show r.val - 8 = r.val % 8; omega

theorem qp0_apply (q : Quart Ideal) (r : Fin 16) (l : Fin 128) :
    qp0 q (ix2 r l) = nibR (r.val % 2) (q.c (ix4 0 0 ⟨0 + r.val / 2, by omega⟩ l)) * q.s0 (ix4 0 0 ⟨r.val % 8, by omega⟩ l) := by
  pointwise [qp0, nibbles_apply, scRows_apply]
  all_goals congr 2
  all_goals first | omega | (congr 2; apply Fin.ext; simp; omega)

theorem qp1_apply (q : Quart Ideal) (r : Fin 16) (l : Fin 128) :
    qp1 q (ix2 r l) = nibR (r.val % 2) (q.c (ix4 0 0 ⟨8 + r.val / 2, by omega⟩ l)) * q.s0 (ix4 0 0 ⟨r.val % 8, by omega⟩ l) := by
  pointwise [qp1, nibbles_apply, scRows_apply]
  all_goals congr 2
  all_goals first | omega | (congr 2; apply Fin.ext; simp; omega)

theorem qp2_apply (q : Quart Ideal) (r : Fin 16) (l : Fin 128) :
    qp2 q (ix2 r l) = nibR (r.val % 2) (q.c (ix4 0 0 ⟨16 + r.val / 2, by omega⟩ l)) * q.s1 (ix4 0 0 ⟨r.val % 8, by omega⟩ l) := by
  pointwise [qp2, nibbles_apply, scRows_apply]
  all_goals congr 2
  all_goals first | omega | (congr 2; apply Fin.ext; simp; omega)

theorem qp3_apply (q : Quart Ideal) (r : Fin 16) (l : Fin 128) :
    qp3 q (ix2 r l) = nibR (r.val % 2) (q.c (ix4 0 0 ⟨24 + r.val / 2, by omega⟩ l)) * q.s1 (ix4 0 0 ⟨r.val % 8, by omega⟩ l) := by
  pointwise [qp3, nibbles_apply, scRows_apply]
  all_goals congr 2
  all_goals first | omega | (congr 2; apply Fin.ext; simp; omega)

set_option maxHeartbeats 8000000 in
theorem cat16_apply (f0 f1 f2 f3 f4 f5 f6 f7 f8 f9 f10 f11 f12 f13 f14 f15 : FVec Ideal S16x128 .bf16) (T : ℕ → EReal) (l : Fin 128)
    (h0 : ∀ b : Fin 16, f0 (ix2 b l) = T (0 + b.val)) (h1 : ∀ b : Fin 16, f1 (ix2 b l) = T (16 + b.val)) (h2 : ∀ b : Fin 16, f2 (ix2 b l) = T (32 + b.val)) (h3 : ∀ b : Fin 16, f3 (ix2 b l) = T (48 + b.val)) (h4 : ∀ b : Fin 16, f4 (ix2 b l) = T (64 + b.val)) (h5 : ∀ b : Fin 16, f5 (ix2 b l) = T (80 + b.val)) (h6 : ∀ b : Fin 16, f6 (ix2 b l) = T (96 + b.val)) (h7 : ∀ b : Fin 16, f7 (ix2 b l) = T (112 + b.val)) (h8 : ∀ b : Fin 16, f8 (ix2 b l) = T (128 + b.val)) (h9 : ∀ b : Fin 16, f9 (ix2 b l) = T (144 + b.val)) (h10 : ∀ b : Fin 16, f10 (ix2 b l) = T (160 + b.val)) (h11 : ∀ b : Fin 16, f11 (ix2 b l) = T (176 + b.val)) (h12 : ∀ b : Fin 16, f12 (ix2 b l) = T (192 + b.val)) (h13 : ∀ b : Fin 16, f13 (ix2 b l) = T (208 + b.val)) (h14 : ∀ b : Fin 16, f14 (ix2 b l) = T (224 + b.val)) (h15 : ∀ b : Fin 16, f15 (ix2 b l) = T (240 + b.val)) (p : Fin 256) :
    (concatenate S256x128 0 [⟨S16x128, f0⟩, ⟨S16x128, f1⟩, ⟨S16x128, f2⟩, ⟨S16x128, f3⟩, ⟨S16x128, f4⟩, ⟨S16x128, f5⟩, ⟨S16x128, f6⟩, ⟨S16x128, f7⟩, ⟨S16x128, f8⟩, ⟨S16x128, f9⟩, ⟨S16x128, f10⟩, ⟨S16x128, f11⟩, ⟨S16x128, f12⟩, ⟨S16x128, f13⟩, ⟨S16x128, f14⟩, ⟨S16x128, f15⟩]
    concatenates_S16x128_S16x128_S16x128_S16x128_S16x128_S16x128_S16x128_S16x128_S16x128_S16x128_S16x128_S16x128_S16x128_S16x128_S16x128_S16x128_S256x128_d0 : FVec Ideal S256x128 .bf16) (ix2 p l) = T p.val := by
  by_cases c0 : p.val < 16
  · exact (concatenate_apply_piece (t := S256x128) 0 _ _ (ix2 p l) 0 (by simp) S16x128 f0 rfl rfl 0 rfl (ix2 ⟨p.val - 0, by omega⟩ l)
      (fun b hb => by fin_cases b; exact absurd rfl hb; rfl) (by show 0 + (p.val - 0) = p.val; omega)).trans ((h0 _).trans (congrArg T (by show 0 + (p.val - 0) = p.val; omega)))
  by_cases c1 : p.val < 32
  · exact (concatenate_apply_piece (t := S256x128) 0 _ _ (ix2 p l) 1 (by simp) S16x128 f1 rfl rfl 16 rfl (ix2 ⟨p.val - 16, by omega⟩ l)
      (fun b hb => by fin_cases b; exact absurd rfl hb; rfl) (by show 16 + (p.val - 16) = p.val; omega)).trans ((h1 _).trans (congrArg T (by show 16 + (p.val - 16) = p.val; omega)))
  by_cases c2 : p.val < 48
  · exact (concatenate_apply_piece (t := S256x128) 0 _ _ (ix2 p l) 2 (by simp) S16x128 f2 rfl rfl 32 rfl (ix2 ⟨p.val - 32, by omega⟩ l)
      (fun b hb => by fin_cases b; exact absurd rfl hb; rfl) (by show 32 + (p.val - 32) = p.val; omega)).trans ((h2 _).trans (congrArg T (by show 32 + (p.val - 32) = p.val; omega)))
  by_cases c3 : p.val < 64
  · exact (concatenate_apply_piece (t := S256x128) 0 _ _ (ix2 p l) 3 (by simp) S16x128 f3 rfl rfl 48 rfl (ix2 ⟨p.val - 48, by omega⟩ l)
      (fun b hb => by fin_cases b; exact absurd rfl hb; rfl) (by show 48 + (p.val - 48) = p.val; omega)).trans ((h3 _).trans (congrArg T (by show 48 + (p.val - 48) = p.val; omega)))
  by_cases c4 : p.val < 80
  · exact (concatenate_apply_piece (t := S256x128) 0 _ _ (ix2 p l) 4 (by simp) S16x128 f4 rfl rfl 64 rfl (ix2 ⟨p.val - 64, by omega⟩ l)
      (fun b hb => by fin_cases b; exact absurd rfl hb; rfl) (by show 64 + (p.val - 64) = p.val; omega)).trans ((h4 _).trans (congrArg T (by show 64 + (p.val - 64) = p.val; omega)))
  by_cases c5 : p.val < 96
  · exact (concatenate_apply_piece (t := S256x128) 0 _ _ (ix2 p l) 5 (by simp) S16x128 f5 rfl rfl 80 rfl (ix2 ⟨p.val - 80, by omega⟩ l)
      (fun b hb => by fin_cases b; exact absurd rfl hb; rfl) (by show 80 + (p.val - 80) = p.val; omega)).trans ((h5 _).trans (congrArg T (by show 80 + (p.val - 80) = p.val; omega)))
  by_cases c6 : p.val < 112
  · exact (concatenate_apply_piece (t := S256x128) 0 _ _ (ix2 p l) 6 (by simp) S16x128 f6 rfl rfl 96 rfl (ix2 ⟨p.val - 96, by omega⟩ l)
      (fun b hb => by fin_cases b; exact absurd rfl hb; rfl) (by show 96 + (p.val - 96) = p.val; omega)).trans ((h6 _).trans (congrArg T (by show 96 + (p.val - 96) = p.val; omega)))
  by_cases c7 : p.val < 128
  · exact (concatenate_apply_piece (t := S256x128) 0 _ _ (ix2 p l) 7 (by simp) S16x128 f7 rfl rfl 112 rfl (ix2 ⟨p.val - 112, by omega⟩ l)
      (fun b hb => by fin_cases b; exact absurd rfl hb; rfl) (by show 112 + (p.val - 112) = p.val; omega)).trans ((h7 _).trans (congrArg T (by show 112 + (p.val - 112) = p.val; omega)))
  by_cases c8 : p.val < 144
  · exact (concatenate_apply_piece (t := S256x128) 0 _ _ (ix2 p l) 8 (by simp) S16x128 f8 rfl rfl 128 rfl (ix2 ⟨p.val - 128, by omega⟩ l)
      (fun b hb => by fin_cases b; exact absurd rfl hb; rfl) (by show 128 + (p.val - 128) = p.val; omega)).trans ((h8 _).trans (congrArg T (by show 128 + (p.val - 128) = p.val; omega)))
  by_cases c9 : p.val < 160
  · exact (concatenate_apply_piece (t := S256x128) 0 _ _ (ix2 p l) 9 (by simp) S16x128 f9 rfl rfl 144 rfl (ix2 ⟨p.val - 144, by omega⟩ l)
      (fun b hb => by fin_cases b; exact absurd rfl hb; rfl) (by show 144 + (p.val - 144) = p.val; omega)).trans ((h9 _).trans (congrArg T (by show 144 + (p.val - 144) = p.val; omega)))
  by_cases c10 : p.val < 176
  · exact (concatenate_apply_piece (t := S256x128) 0 _ _ (ix2 p l) 10 (by simp) S16x128 f10 rfl rfl 160 rfl (ix2 ⟨p.val - 160, by omega⟩ l)
      (fun b hb => by fin_cases b; exact absurd rfl hb; rfl) (by show 160 + (p.val - 160) = p.val; omega)).trans ((h10 _).trans (congrArg T (by show 160 + (p.val - 160) = p.val; omega)))
  by_cases c11 : p.val < 192
  · exact (concatenate_apply_piece (t := S256x128) 0 _ _ (ix2 p l) 11 (by simp) S16x128 f11 rfl rfl 176 rfl (ix2 ⟨p.val - 176, by omega⟩ l)
      (fun b hb => by fin_cases b; exact absurd rfl hb; rfl) (by show 176 + (p.val - 176) = p.val; omega)).trans ((h11 _).trans (congrArg T (by show 176 + (p.val - 176) = p.val; omega)))
  by_cases c12 : p.val < 208
  · exact (concatenate_apply_piece (t := S256x128) 0 _ _ (ix2 p l) 12 (by simp) S16x128 f12 rfl rfl 192 rfl (ix2 ⟨p.val - 192, by omega⟩ l)
      (fun b hb => by fin_cases b; exact absurd rfl hb; rfl) (by show 192 + (p.val - 192) = p.val; omega)).trans ((h12 _).trans (congrArg T (by show 192 + (p.val - 192) = p.val; omega)))
  by_cases c13 : p.val < 224
  · exact (concatenate_apply_piece (t := S256x128) 0 _ _ (ix2 p l) 13 (by simp) S16x128 f13 rfl rfl 208 rfl (ix2 ⟨p.val - 208, by omega⟩ l)
      (fun b hb => by fin_cases b; exact absurd rfl hb; rfl) (by show 208 + (p.val - 208) = p.val; omega)).trans ((h13 _).trans (congrArg T (by show 208 + (p.val - 208) = p.val; omega)))
  by_cases c14 : p.val < 240
  · exact (concatenate_apply_piece (t := S256x128) 0 _ _ (ix2 p l) 14 (by simp) S16x128 f14 rfl rfl 224 rfl (ix2 ⟨p.val - 224, by omega⟩ l)
      (fun b hb => by fin_cases b; exact absurd rfl hb; rfl) (by show 224 + (p.val - 224) = p.val; omega)).trans ((h14 _).trans (congrArg T (by show 224 + (p.val - 224) = p.val; omega)))
  exact (concatenate_apply_piece (t := S256x128) 0 _ _ (ix2 p l) 15 (by simp) S16x128 f15 rfl rfl 240 rfl (ix2 ⟨p.val - 240, by omega⟩ l)
      (fun b hb => by fin_cases b; exact absurd rfl hb; rfl) (by show 240 + (p.val - 240) = p.val; omega)).trans ((h15 _).trans (congrArg T (by show 240 + (p.val - 240) = p.val; omega)))

/-- The weight in row `n` of tile `kt` of a column block. -/
def colT (C : Vec Ideal S2560x128 .i8) (S : Vec Ideal S160x128 .bf16) (kt : ℕ) (l : Fin 128) (n : ℕ) : EReal :=
  nibR (n % 2) (C (ix2 ⟨(kt * 128 + n / 2) % 2560, Nat.mod_lt _ (by omega)⟩ l)) * S (ix2 ⟨(kt * 8 + n / 32) % 160, Nat.mod_lt _ (by omega)⟩ l)

theorem qp0_quart (C : Vec Ideal S2560x128 .i8) (S : Vec Ideal S160x128 .bf16) (kt i : ℕ) (hk : kt < 20) (hi : i < 4) (b : Fin 16) (l : Fin 128) :
    qp0 (quartOf C S kt i hk hi) (ix2 b l) = colT C S kt l (64 * i + 0 + b.val) := by
  rw [qp0_apply]
  unfold colT
  show nibR (b.val % 2) (C (ValueIdx.ix2 ⟨kt * 128 + i * 32 + (0 + b.val / 2), _⟩ l)) * S (ValueIdx.ix2 ⟨2 * (kt * 4 + i), _⟩ l) = _
  simp only [← ix2_eq_valueIdx]
  congr 1
  · congr 1
    · omega
    · congr 2; apply Fin.ext; show kt * 128 + i * 32 + (0 + b.val / 2) = (kt * 128 + (64 * i + 0 + b.val) / 2) % 2560; omega
  · congr 2; apply Fin.ext; show 2 * (kt * 4 + i) = (kt * 8 + (64 * i + 0 + b.val) / 32) % 160; omega

theorem qp1_quart (C : Vec Ideal S2560x128 .i8) (S : Vec Ideal S160x128 .bf16) (kt i : ℕ) (hk : kt < 20) (hi : i < 4) (b : Fin 16) (l : Fin 128) :
    qp1 (quartOf C S kt i hk hi) (ix2 b l) = colT C S kt l (64 * i + 16 + b.val) := by
  rw [qp1_apply]
  unfold colT
  show nibR (b.val % 2) (C (ValueIdx.ix2 ⟨kt * 128 + i * 32 + (8 + b.val / 2), _⟩ l)) * S (ValueIdx.ix2 ⟨2 * (kt * 4 + i), _⟩ l) = _
  simp only [← ix2_eq_valueIdx]
  congr 1
  · congr 1
    · omega
    · congr 2; apply Fin.ext; show kt * 128 + i * 32 + (8 + b.val / 2) = (kt * 128 + (64 * i + 16 + b.val) / 2) % 2560; omega
  · congr 2; apply Fin.ext; show 2 * (kt * 4 + i) = (kt * 8 + (64 * i + 16 + b.val) / 32) % 160; omega

theorem qp2_quart (C : Vec Ideal S2560x128 .i8) (S : Vec Ideal S160x128 .bf16) (kt i : ℕ) (hk : kt < 20) (hi : i < 4) (b : Fin 16) (l : Fin 128) :
    qp2 (quartOf C S kt i hk hi) (ix2 b l) = colT C S kt l (64 * i + 32 + b.val) := by
  rw [qp2_apply]
  unfold colT
  show nibR (b.val % 2) (C (ValueIdx.ix2 ⟨kt * 128 + i * 32 + (16 + b.val / 2), _⟩ l)) * S (ValueIdx.ix2 ⟨2 * (kt * 4 + i) + 1, _⟩ l) = _
  simp only [← ix2_eq_valueIdx]
  congr 1
  · congr 1
    · omega
    · congr 2; apply Fin.ext; show kt * 128 + i * 32 + (16 + b.val / 2) = (kt * 128 + (64 * i + 32 + b.val) / 2) % 2560; omega
  · congr 2; apply Fin.ext; show 2 * (kt * 4 + i) + 1 = (kt * 8 + (64 * i + 32 + b.val) / 32) % 160; omega

theorem qp3_quart (C : Vec Ideal S2560x128 .i8) (S : Vec Ideal S160x128 .bf16) (kt i : ℕ) (hk : kt < 20) (hi : i < 4) (b : Fin 16) (l : Fin 128) :
    qp3 (quartOf C S kt i hk hi) (ix2 b l) = colT C S kt l (64 * i + 48 + b.val) := by
  rw [qp3_apply]
  unfold colT
  show nibR (b.val % 2) (C (ValueIdx.ix2 ⟨kt * 128 + i * 32 + (24 + b.val / 2), _⟩ l)) * S (ValueIdx.ix2 ⟨2 * (kt * 4 + i) + 1, _⟩ l) = _
  simp only [← ix2_eq_valueIdx]
  congr 1
  · congr 1
    · omega
    · congr 2; apply Fin.ext; show kt * 128 + i * 32 + (24 + b.val / 2) = (kt * 128 + (64 * i + 48 + b.val) / 2) % 2560; omega
  · congr 2; apply Fin.ext; show 2 * (kt * 4 + i) + 1 = (kt * 8 + (64 * i + 48 + b.val) / 32) % 160; omega

theorem colOf_apply (C : Vec Ideal S2560x128 .i8) (S : Vec Ideal S160x128 .bf16) (kt : ℕ) (hk : kt < 20) (p : Fin 256) (l : Fin 128) :
    colOf C S kt hk (ix2 p l) = colT C S kt l p.val := by
  unfold colOf colW
  apply cat16_apply (T := colT C S kt l)
  · exact fun b => (qp0_quart C S kt 0 hk (by omega) b l).trans (congrArg _ (by omega))
  · exact fun b => (qp1_quart C S kt 0 hk (by omega) b l).trans (congrArg _ (by omega))
  · exact fun b => (qp2_quart C S kt 0 hk (by omega) b l).trans (congrArg _ (by omega))
  · exact fun b => (qp3_quart C S kt 0 hk (by omega) b l).trans (congrArg _ (by omega))
  · exact fun b => (qp0_quart C S kt 1 hk (by omega) b l).trans (congrArg _ (by omega))
  · exact fun b => (qp1_quart C S kt 1 hk (by omega) b l).trans (congrArg _ (by omega))
  · exact fun b => (qp2_quart C S kt 1 hk (by omega) b l).trans (congrArg _ (by omega))
  · exact fun b => (qp3_quart C S kt 1 hk (by omega) b l).trans (congrArg _ (by omega))
  · exact fun b => (qp0_quart C S kt 2 hk (by omega) b l).trans (congrArg _ (by omega))
  · exact fun b => (qp1_quart C S kt 2 hk (by omega) b l).trans (congrArg _ (by omega))
  · exact fun b => (qp2_quart C S kt 2 hk (by omega) b l).trans (congrArg _ (by omega))
  · exact fun b => (qp3_quart C S kt 2 hk (by omega) b l).trans (congrArg _ (by omega))
  · exact fun b => (qp0_quart C S kt 3 hk (by omega) b l).trans (congrArg _ (by omega))
  · exact fun b => (qp1_quart C S kt 3 hk (by omega) b l).trans (congrArg _ (by omega))
  · exact fun b => (qp2_quart C S kt 3 hk (by omega) b l).trans (congrArg _ (by omega))
  · exact fun b => (qp3_quart C S kt 3 hk (by omega) b l).trans (congrArg _ (by omega))

theorem tileV_apply (acc : FVec Ideal S32x256 .f32) (w0 w1 : FVec Ideal S256x128 .bf16) (h : Vec Ideal S32x256 .bf16) (i : Fin 32) (y : Fin 256) :
    tileV acc w0 w1 h (ix2 i y) = acc (ix2 i y) + ∑ x : Fin 256, h (ix2 i x) * (if h : y.val < 128 then w0 (ix2 x ⟨y.val, h⟩) else w1 (ix2 x ⟨y.val - 128, by omega⟩)) := by
  pointwise [tileV]

/-- The lane the stored lane `l` comes from. -/
def pe (n : ℕ) : ℕ := n / 32 * 32 + n % 2 * 16 + n % 32 / 2

theorem permI_apply (i : Fin 32) (l : Fin 128) : (permI (ix2 i l)).toNat = pe l.val := by
  pointwise [permI]
  unfold pe
  revert l
  decide +kernel

theorem permV_apply (x : FVec Ideal S32x128 .f32) (i : Fin 32) (l : Fin 128) : permV x (ix2 i l) = x (ix2 i ⟨pe l.val % 128, Nat.mod_lt _ (by omega)⟩) := by
  pointwise [permV]
  congr 2; apply Fin.ext; show (permI (ix2 i l)).toNat % 128 = _; rw [permI_apply]

theorem rmsV_apply (x : FVec Ideal S32x128 .f32) (i : Fin 32) (l : Fin 128) :
    rmsV x (ix2 i l) = Ideal.rsqrt (Ideal.div (∑ k : Fin 128, x (ix2 i k)) (Ideal.ofBits FTy.f32 0x45A00000#32) + Ideal.ofBits FTy.f32 0x358637BD#32) := by
  pointwise [rmsV]

theorem nrmV_apply (r v : FVec Ideal S32x128 .f32) (g : Vec Ideal S1x128 .bf16) (i : Fin 32) (l : Fin 128) :
    nrmV r v g (ix2 i l) = v (ix2 i ⟨pe l.val % 128, Nat.mod_lt _ (by omega)⟩) * r (ix2 i ⟨pe l.val % 128, Nat.mod_lt _ (by omega)⟩) * g (ix2 0 ⟨pe l.val % 128, Nat.mod_lt _ (by omega)⟩) := by
  unfold nrmV
  pointwise
  rw [permV_apply]
  pointwise

theorem gateV_apply (g u : FVec Ideal S32x256 .f32) (i : Fin 32) (l : Fin 256) :
    gateV g u (ix2 i l) = g (ix2 i l) * Ideal.logistic (g (ix2 i l)) * u (ix2 i l) := by
  pointwise [gateV]

/-! ## The contraction -/

/-- The weight of column `c` in row `n`, as the kernel reads it. -/
def wT (g : Vec Ideal S2560x13824 .i8) (s : Vec Ideal S160x13824 .bf16) (c n : ℕ) : EReal :=
  nibR (n % 2) (g (ix2 ⟨n / 2 % 2560, Nat.mod_lt _ (by omega)⟩ ⟨c % 13824, Nat.mod_lt _ (by omega)⟩)) * s (ix2 ⟨n / 32 % 160, Nat.mod_lt _ (by omega)⟩ ⟨c % 13824, Nat.mod_lt _ (by omega)⟩)

theorem colT_win (g : Vec Ideal S2560x13824 .i8) (s : Vec Ideal S160x13824 .bf16) (j kt : ℕ) (l : Fin 128) (n : ℕ) :
    colT (cwin g j) (swin s j) kt l n = wT g s (j + l.val) (kt * 256 + n) := by
  unfold colT wT
  show nibR _ (g (ValueIdx.ix2 ⟨(kt * 128 + n / 2) % 2560, _⟩ ⟨(j + l.val) % 13824, _⟩)) * s (ValueIdx.ix2 ⟨(kt * 8 + n / 32) % 160, _⟩ ⟨(j + l.val) % 13824, _⟩) = _
  simp only [← ix2_eq_valueIdx]
  have e1 : n % 2 = (kt * 256 + n) % 2 := by omega
  have e2 : kt * 128 + n / 2 = (kt * 256 + n) / 2 := by omega
  have e3 : kt * 8 + n / 32 = (kt * 256 + n) / 32 := by omega
  simp only [e1, e2, e3]

/-- One product of the contraction. -/
def term (g : Vec Ideal S2560x13824 .i8) (s : Vec Ideal S160x13824 .bf16) (H : Vec Ideal S32x5120 .bf16) (i : Fin 32) (c n : ℕ) : EReal :=
  H (ix2 i ⟨n % 5120, Nat.mod_lt _ (by omega)⟩) * wT g s c n

theorem tileOf_apply (g : Vec Ideal S2560x13824 .i8) (s : Vec Ideal S160x13824 .bf16) (H : Vec Ideal S32x5120 .bf16) (col kt : ℕ) (hk : kt < 20) (acc : FVec Ideal S32x256 .f32) (i : Fin 32) (y : Fin 256) :
    tileOf (cwin g col) (cwin g (col + 128)) (swin s col) (swin s (col + 128)) H kt hk acc (ix2 i y)
      = acc (ix2 i y) + ∑ x ∈ Finset.range 256, term g s H i (col + y.val) (kt * 256 + x) := by
  unfold tileOf
  rw [tileV_apply, ← Fin.sum_univ_eq_sum_range (fun x => term g s H i (col + y.val) (kt * 256 + x)) 256]
  refine congrArg (acc (ix2 i y) + ·) (Finset.sum_congr rfl fun x _ => ?_)
  unfold term
  congr 1
  · show H (ValueIdx.ix2 i ⟨kt * 256 + x.val, _⟩) = _
    rw [← ix2_eq_valueIdx]
    congr 2; apply Fin.ext; show kt * 256 + x.val = (kt * 256 + x.val) % 5120; omega
  · split
    · rw [colOf_apply, colT_win]
    · rw [colOf_apply, colT_win]
      congr 1; simp; omega

theorem dotFrom_apply (g : Vec Ideal S2560x13824 .i8) (s : Vec Ideal S160x13824 .bf16) (H : Vec Ideal S32x5120 .bf16) (col : ℕ) (i : Fin 32) (y : Fin 256) :
    ∀ (n p : ℕ) (h : p + n ≤ 10) (acc : FVec Ideal S32x256 .f32),
    dotFrom (cwin g col) (cwin g (col + 128)) (swin s col) (swin s (col + 128)) H n p h acc (ix2 i y)
      = acc (ix2 i y) + ∑ x ∈ Finset.range (n * 512), term g s H i (col + y.val) (p * 512 + x)
  | 0, p, h, acc => by simp [dotFrom]
  | n + 1, p, h, acc => by
    unfold dotFrom
    rw [dotFrom_apply g s H col i y n (p + 1) (by omega), tileOf_apply, tileOf_apply]
    rw [show (n + 1) * 512 = 256 + (256 + n * 512) by omega, Finset.sum_range_add, Finset.sum_range_add]
    rw [add_assoc, add_assoc]
    refine congrArg (acc (ix2 i y) + ·) ?_
    refine congr (congrArg HAdd.hAdd ?_) (congr (congrArg HAdd.hAdd ?_) ?_)
    · exact Finset.sum_congr rfl fun x _ => congrArg _ (by omega)
    · exact Finset.sum_congr rfl fun x _ => congrArg _ (by omega)
    · exact Finset.sum_congr rfl fun x _ => congrArg _ (by omega)

theorem dotOf_apply (g : Vec Ideal S2560x13824 .i8) (s : Vec Ideal S160x13824 .bf16) (H : Vec Ideal S32x5120 .bf16) (col : ℕ) (i : Fin 32) (y : Fin 256) :
    dotOf (cwin g col) (cwin g (col + 128)) (swin s col) (swin s (col + 128)) H (ix2 i y)
      = ∑ x ∈ Finset.range 5120, term g s H i (col + y.val) x := by
  unfold dotOf
  rw [dotFrom_apply]
  have e0 : (broadcast S32x256 (Scalar.ofBits .f32 0x00000000#32) : FVec Ideal S32x256 .f32) (ix2 i y) = 0 := by pointwise
  rw [e0, zero_add]
  exact Finset.sum_congr rfl fun x _ => congrArg _ (by omega)

/-- The stored lane that element `e` goes to. -/
def pi (e : ℕ) : ℕ := e / 32 * 32 + e % 16 * 2 + e % 32 / 16

theorem pe_add (b r : ℕ) : pe (32 * b + r) = 32 * b + pe r := by unfold pe; omega
theorem pi_add (b r : ℕ) : pi (32 * b + r) = 32 * b + pi r := by unfold pi; omega
theorem pe_pi (n : ℕ) : pe (pi n) = n := by
  have h : ∀ r : Fin 32, pe (pi r.val) = r.val := by decide
  obtain ⟨b, r, hr, e⟩ : ∃ b r, r < 32 ∧ n = 32 * b + r := ⟨n / 32, n % 32, by omega, by omega⟩
  rw [e, pi_add, pe_add, h ⟨r, hr⟩]
theorem pi_pe (n : ℕ) : pi (pe n) = n := by
  have h : ∀ r : Fin 32, pi (pe r.val) = r.val := by decide
  obtain ⟨b, r, hr, e⟩ : ∃ b r, r < 32 ∧ n = 32 * b + r := ⟨n / 32, n % 32, by omega, by omega⟩
  rw [e, pe_add, pi_add, h ⟨r, hr⟩]
theorem pe_lane (n : ℕ) : n / 128 * 128 + pe (n % 128) % 128 = pe n := by
  have h : ∀ r : Fin 128, pe r.val % 128 = pe r.val := by decide
  have e : n = 32 * (n / 128 * 4) + n % 128 := by omega
  have := h ⟨n % 128, by omega⟩
  rw [show pe n = pe (32 * (n / 128 * 4) + n % 128) from congrArg pe e, pe_add]
  simp only at this
  omega
theorem pi_lt {n : ℕ} {m : ℕ} (h : n < 32 * m) : pi n < 32 * m := by unfold pi; omega

/-- The contraction in the order of the elements. -/
theorem sum_perm (f : ℕ → EReal) : ∑ n ∈ Finset.range 5120, f n = ∑ e : Fin 5120, f (pi e.val) := by
  rw [Fin.sum_univ_eq_sum_range (fun e => f (pi e)) 5120]
  refine Finset.sum_nbij' pe pi ?_ ?_ ?_ ?_ ?_
  · intro n hn; rw [Finset.mem_range] at *; unfold pe; omega
  · intro n hn; rw [Finset.mem_range] at *; unfold pi; omega
  · intro n _; exact pi_pe n
  · intro n _; exact pe_pi n
  · intro n _; rw [pi_pe]

/-! ## The normalised rows -/

theorem sum_blocks (f : ℕ → EReal) (n : ℕ) : ∑ k ∈ Finset.range (n * 128), f k = ∑ j ∈ Finset.range n, ∑ l ∈ Finset.range 128, f (j * 128 + l) := by
  induction n with
  | zero => simp
  | succ n ih => rw [show (n + 1) * 128 = n * 128 + 128 by omega, Finset.sum_range_add, ih, Finset.sum_range_succ (fun j => ∑ l ∈ Finset.range 128, f (j * 128 + l)) n]

theorem totFrom_apply (X : Vec Ideal S32x5120 .f32) (i : Fin 32) (l : Fin 128) : ∀ (n j : ℕ) (a : FVec Ideal S32x128 .f32),
    totFrom X n j a (ix2 i l) = a (ix2 i l) + ∑ k ∈ Finset.range n,
      X (ix2 i ⟨((j + k) * 128 + l.val) % 5120, Nat.mod_lt _ (by omega)⟩) * X (ix2 i ⟨((j + k) * 128 + l.val) % 5120, Nat.mod_lt _ (by omega)⟩)
  | 0, j, a => by simp [totFrom]
  | n + 1, j, a => by
    unfold totFrom
    rw [totFrom_apply X i l n (j + 1), Finset.sum_range_succ']
    have e : sqV a (xblk X j) (ix2 i l) = a (ix2 i l) + X (ix2 i ⟨(j * 128 + l.val) % 5120, Nat.mod_lt _ (by omega)⟩) * X (ix2 i ⟨(j * 128 + l.val) % 5120, Nat.mod_lt _ (by omega)⟩) := by
      simp only [ix2_eq_valueIdx]; rfl
    rw [e, add_assoc]
    refine congrArg (a (ix2 i l) + ·) ?_
    rw [add_comm]
    congr 1
    refine Finset.sum_congr rfl fun k _ => ?_
    have e' : j + 1 + k = j + (k + 1) := by omega
    simp only [e']

theorem totV_sum (X : Vec Ideal S32x5120 .f32) (i : Fin 32) : ∑ l : Fin 128, totV X (ix2 i l) = ∑ e : Fin 5120, X (ix2 i e) * X (ix2 i e) := by
  have e1 : ∀ l : Fin 128, totV X (ix2 i l) = ∑ k ∈ Finset.range 40,
      X (ix2 i ⟨(k * 128 + l.val) % 5120, Nat.mod_lt _ (by omega)⟩) * X (ix2 i ⟨(k * 128 + l.val) % 5120, Nat.mod_lt _ (by omega)⟩) := by
    intro l
    unfold totV
    rw [totFrom_apply]
    have e0 : (broadcast S32x128 (Scalar.ofBits .f32 0x00000000#32) : FVec Ideal S32x128 .f32) (ix2 i l) = 0 := by pointwise
    rw [e0, zero_add]
    simp only [Nat.zero_add]
  rw [Finset.sum_congr rfl fun l _ => e1 l, Finset.sum_comm]
  let f : ℕ → EReal := fun n => X (ix2 i ⟨n % 5120, Nat.mod_lt _ (by omega)⟩) * X (ix2 i ⟨n % 5120, Nat.mod_lt _ (by omega)⟩)
  have e2 : ∑ e : Fin 5120, X (ix2 i e) * X (ix2 i e) = ∑ e : Fin 5120, f e.val := by
    refine Finset.sum_congr rfl fun e _ => ?_
    have : (⟨e.val % 5120, Nat.mod_lt _ (by omega)⟩ : Fin 5120) = e := Fin.ext (Nat.mod_eq_of_lt e.2)
    simp only [f, this]
  rw [e2, Fin.sum_univ_eq_sum_range f 5120]
  refine ((sum_blocks f 40).trans ?_).symm
  exact Finset.sum_congr rfl fun j _ => (Fin.sum_univ_eq_sum_range (fun l => f (j * 128 + l)) 128).symm

/-- The normalised row of an activation array. -/
def nrmR (X : Vec Ideal S32x5120 .f32) (N : ℕ → EReal) (i : Fin 32) (e : ℕ) : EReal :=
  X (ix2 i ⟨e % 5120, Nat.mod_lt _ (by omega)⟩) * Ideal.rsqrt (Ideal.div (∑ k : Fin 5120, X (ix2 i k) * X (ix2 i k)) (Ideal.ofBits FTy.f32 0x45A00000#32) + Ideal.ofBits FTy.f32 0x358637BD#32) * N e

theorem normV_apply (X : Vec Ideal S32x5120 .f32) (G : Vec Ideal S1x5120 .bf16) (i : Fin 32) (n : Fin 5120) :
    normV X G (ix2 i n) = nrmR X (fun e => G (ix2 0 ⟨e % 5120, Nat.mod_lt _ (by omega)⟩)) i (pe n.val) := by
  unfold normV nrmR
  show nrmV _ _ _ (ValueIdx.ix2 i ⟨n.val % 128, _⟩) = _
  rw [← ix2_eq_valueIdx, nrmV_apply, rmsV_apply, totV_sum]
  have e : n.val / 128 * 128 + pe (n.val % 128) % 128 = pe n.val := pe_lane n.val
  congr 1
  · congr 1
    show X (ValueIdx.ix2 i ⟨(n.val / 128 * 128 + pe (n.val % 128) % 128) % 5120, _⟩) = _
    rw [← ix2_eq_valueIdx]
    simp only [e]
  · show G (ValueIdx.ix2 0 ⟨(n.val / 128 * 128 + pe (n.val % 128) % 128) % 5120, _⟩) = _
    rw [← ix2_eq_valueIdx]
    simp only [e]

/-! ## The activations -/

/-- The weight of column `c` at element `e`. -/
def wR (g : Vec Ideal S2560x13824 .i8) (s : Vec Ideal S160x13824 .bf16) (c e : ℕ) : EReal :=
  nibR (e % 32 / 16) (g (ix2 ⟨(e / 32 * 16 + e % 16) % 2560, Nat.mod_lt _ (by omega)⟩ ⟨c % 13824, Nat.mod_lt _ (by omega)⟩)) * s (ix2 ⟨e / 32 % 160, Nat.mod_lt _ (by omega)⟩ ⟨c % 13824, Nat.mod_lt _ (by omega)⟩)

theorem wT_pi (g : Vec Ideal S2560x13824 .i8) (s : Vec Ideal S160x13824 .bf16) (c e : ℕ) : wT g s c (pi e) = wR g s c e := by
  unfold wT wR
  have e1 : pi e % 2 = e % 32 / 16 := by unfold pi; omega
  have e2 : pi e / 2 = e / 32 * 16 + e % 16 := by unfold pi; omega
  have e3 : pi e / 32 = e / 32 := by unfold pi; omega
  simp only [e1, e2, e3]

/-- A contraction of the normalised rows with a weight. -/
def dotR (X : Vec Ideal S32x5120 .f32) (N : ℕ → EReal) (g : Vec Ideal S2560x13824 .i8) (s : Vec Ideal S160x13824 .bf16) (i : Fin 32) (c : ℕ) : EReal :=
  ∑ e : Fin 5120, nrmR X N i e.val * wR g s c e.val

theorem dot_norm (X : Vec Ideal S32x5120 .f32) (G : Vec Ideal S1x5120 .bf16) (g : Vec Ideal S2560x13824 .i8) (s : Vec Ideal S160x13824 .bf16) (col : ℕ) (i : Fin 32) (y : Fin 256) :
    dotOf (cwin g col) (cwin g (col + 128)) (swin s col) (swin s (col + 128)) (normV X G) (ix2 i y)
      = dotR X (fun e => G (ix2 0 ⟨e % 5120, Nat.mod_lt _ (by omega)⟩)) g s i (col + y.val) := by
  rw [dotOf_apply, sum_perm]
  unfold dotR
  refine Finset.sum_congr rfl fun e _ => ?_
  unfold term
  rw [wT_pi, normV_apply]
  congr 2
  show pe (pi e.val % 5120) = e.val
  rw [Nat.mod_eq_of_lt (by have := pi_lt (n := e.val) (m := 160) (by omega); omega), pe_pi]

/-- The gated activation of row `i` and column `c`. -/
def actR (X : Vec Ideal S32x5120 .f32) (N : ℕ → EReal) (g2 : Vec Ideal S2560x13824 .i8) (g3 : Vec Ideal S160x13824 .bf16) (g4 : Vec Ideal S2560x13824 .i8) (g5 : Vec Ideal S160x13824 .bf16) (i : Fin 32) (c : ℕ) : EReal :=
  dotR X N g2 g3 i c * Ideal.logistic (dotR X N g2 g3 i c) * dotR X N g4 g5 i c

theorem gu_norm (X : Vec Ideal S32x5120 .f32) (G : Vec Ideal S1x5120 .bf16) (g2 : Vec Ideal S2560x13824 .i8) (g3 : Vec Ideal S160x13824 .bf16) (g4 : Vec Ideal S2560x13824 .i8) (g5 : Vec Ideal S160x13824 .bf16) (col : ℕ) (i : Fin 32) (y : Fin 256) :
    gu g2 g3 g4 g5 (normV X G) col (ix2 i y) = actR X (fun e => G (ix2 0 ⟨e % 5120, Nat.mod_lt _ (by omega)⟩)) g2 g3 g4 g5 i (col + y.val) := by
  unfold gu actR
  rw [gateV_apply, dot_norm, dot_norm]

theorem halfV_apply (g : FVec Ideal S32x256 .f32) (j : ℕ) (hj : j < 2) (i : Fin 32) (l : Fin 128) :
    halfV g j (ix2 i l) = g (ix2 i ⟨j * 128 + l.val, by omega⟩) := by
  unfold halfV
  split
  · next h =>
    subst h
    pointwise
    all_goals (congr 2; apply Fin.ext; simp)
  · next h =>
    have : j = 1 := by omega
    subst this
    pointwise
    all_goals (congr 2; apply Fin.ext; simp)

/-- THE STORED ACTIVATIONS: lane `n` holds the activation of column `pe n`. -/
theorem actV_norm (X : Vec Ideal S32x5120 .f32) (G : Vec Ideal S1x5120 .bf16) (g2 : Vec Ideal S2560x13824 .i8) (g3 : Vec Ideal S160x13824 .bf16) (g4 : Vec Ideal S2560x13824 .i8) (g5 : Vec Ideal S160x13824 .bf16) (i : Fin 32) (n : Fin 13824) :
    actV g2 g3 g4 g5 (normV X G) (ix2 i n) = actR X (fun e => G (ix2 0 ⟨e % 5120, Nat.mod_lt _ (by omega)⟩)) g2 g3 g4 g5 i (pe n.val) := by
  unfold actV
  show permV (halfV (gu g2 g3 g4 g5 (normV X G) (n.val / 256 * 256)) (n.val % 256 / 128)) (ValueIdx.ix2 i ⟨n.val % 128, _⟩) = _
  rw [← ix2_eq_valueIdx, permV_apply, halfV_apply _ _ (by omega), gu_norm]
  congr 1
  show n.val / 256 * 256 + (n.val % 256 / 128 * 128 + pe (n.val % 128) % 128) = pe n.val
  have := pe_lane n.val
  omega

end Cert.KernelIdeal
-- ==== Proof.KernelIdeal.Ref.lean ====
/-
  What the reference's vectors hold, element by element, over the extended reals.
-/
module

public import proofs.«01_k».proof.Proof.KernelIdeal.Value
public import proofs.«01_k».proof.Proof.Gen.ReferenceIdeal.Value

@[expose] public section

set_option maxRecDepth 16384

noncomputable section

namespace Cert.RefVal

open Idealize.ShloMosaic
open Cert.ReferenceIdeal Cert.ReferenceIdeal.Gen
open Cert.KernelIdeal (nibR)

theorem eight_bf16 : Ideal.ofBits FTy.bf16 0x4100#16 = ((8 : ℝ) : EReal) := by
  simp [Ideal.ofBits, Ideal.ieee, -EReal.coe_mul]; norm_num

theorem lo_nat (c : BitVec 8) : (IntOp.andi (c.setWidth 32) 15#32).toInt = ((c.toNat % 16 : ℕ) : ℤ) := by
  revert c; decide +kernel
theorem hi_nat (c : BitVec 8) : (IntOp.shrsi ArithUnit.vector (c.setWidth 32) 4#32).toInt = ((c.toNat / 16 : ℕ) : ℤ) := by
  revert c; decide +kernel

theorem sub_eight (x : BitVec 32) (k : ℕ) (h : x.toInt = (k : ℤ)) :
    (FloatOps.sitofp FTy.f32 x : Ideal FTy.f32) - Ideal.ofBits FTy.bf16 0x4100#16 = ((((k : ℤ) - 8 : ℤ) : ℝ) : EReal) := by
  rw [eight_bf16]
  show ((x.toInt : ℝ) : EReal) - ((8 : ℝ) : EReal) = _
  rw [h, ← EReal.coe_sub]
  push_cast
  rfl

/-- The weight of column `n` at element `e`. -/
def wRef (a2 : Vec Ideal S13824x160x16 .i8) (a3 : Vec Ideal S13824x160 .bf16) (n : Fin 13824) (e : Fin 5120) : EReal :=
  nibR (e.val % 32 / 16) (a2 (ix3 n ⟨e.val / 32, by omega⟩ ⟨e.val % 16, by omega⟩)) * a3 (ix2 n ⟨e.val / 32, by omega⟩)

theorem wRef_lo (a2 : Vec Ideal S13824x160x16 .i8) (a3 : Vec Ideal S13824x160 .bf16) (n : Fin 13824) (e : Fin 5120) (h : e.val % 32 < 16)
    (h1 : e.val / 32 < 160) :
    (FloatOps.sitofp FTy.f32 (IntOp.andi (BitVec.setWidth 32 (a2 (ix3 n ⟨e.val / 32, h1⟩ ⟨e.val % 32, h⟩))) 15#32) - Ideal.ofBits FTy.bf16 0x4100#16 : Ideal FTy.f32)
      * a3 (ix2 n ⟨e.val / 32, h1⟩) = wRef a2 a3 n e := by
  unfold wRef nibR
  have e1 : e.val % 32 / 16 = 0 := by omega
  have e2 : e.val % 16 = e.val % 32 := by omega
  rw [sub_eight _ _ (lo_nat _)]
  simp only [e1, e2, if_true]
theorem wRef_hi (a2 : Vec Ideal S13824x160x16 .i8) (a3 : Vec Ideal S13824x160 .bf16) (n : Fin 13824) (e : Fin 5120) (h : ¬ e.val % 32 < 16)
    (h1 : e.val / 32 < 160) (h2 : e.val % 32 - 16 < 16) :
    (FloatOps.sitofp FTy.f32 (IntOp.shrsi ArithUnit.vector (BitVec.setWidth 32 (a2 (ix3 n ⟨e.val / 32, h1⟩ ⟨e.val % 32 - 16, h2⟩))) 4#32) - Ideal.ofBits FTy.bf16 0x4100#16 : Ideal FTy.f32)
      * a3 (ix2 n ⟨e.val / 32, h1⟩) = wRef a2 a3 n e := by
  unfold wRef nibR
  have e1 : ¬ e.val % 32 / 16 = 0 := by omega
  have e2 : e.val % 16 = e.val % 32 - 16 := by omega
  rw [sub_eight _ _ (hi_nat _)]
  simp only [e1, e2, if_false]

/-- A contraction of the normalised rows with a weight. -/
def dotRef (h : FVec Ideal S32x5120 .bf16) (a2 : Vec Ideal S13824x160x16 .i8) (a3 : Vec Ideal S13824x160 .bf16) (i : Fin 32) (n : Fin 13824) : EReal :=
  ∑ e : Fin 5120, h (ix2 i e) * wRef a2 a3 n e

theorem pay2_apply (a0 : Vec Ideal S32x5120 .f32) (a1 : Vec Ideal S5120 .bf16) (i : Fin 32) (e : Fin 5120) :
    k0_pay2 a0 a1 (ix2 i e) = a0 (ix2 i e) * Ideal.rsqrt (Ideal.div (∑ k : Fin 5120, a0 (ix2 i k) * a0 (ix2 i k)) (Ideal.ofBits FTy.f32 0x45A00000#32) + Ideal.ofBits FTy.f32 0x358637BD#32) * a1 (ix1 e) := by
  pointwise [k0_pay2]

theorem pay3_apply (a0 : Vec Ideal S32x5120 .f32) (a1 : Vec Ideal S5120 .bf16) (a2 : Vec Ideal S13824x160x16 .i8) (a3 : Vec Ideal S13824x160 .bf16) (i : Fin 32) (n : Fin 13824) :
    k0_pay3 a0 a1 a2 a3 (ix2 i n) = dotRef (k0_pay2 a0 a1) a2 a3 i n := by
  pointwise [k0_pay3]
  unfold dotRef
  refine Finset.sum_congr rfl fun e _ => ?_
  refine congrArg (k0_pay2 a0 a1 (ix2 i e) * ·) ?_
  split
  · exact wRef_lo a2 a3 n e _ _
  · next h => exact wRef_hi a2 a3 n e h _ _

theorem pay1_apply (h : FVec Ideal S32x5120 .bf16) (g : FVec Ideal S32x13824 .f32) (a2 : Vec Ideal S13824x160x16 .i8) (a3 : Vec Ideal S13824x160 .bf16) (i : Fin 32) (n : Fin 13824) :
    k0_pay1 h g a2 a3 (ix2 i n) = g (ix2 i n) * Ideal.logistic (g (ix2 i n)) * dotRef h a2 a3 i n := by
  pointwise [k0_pay1]
  unfold dotRef
  refine congrArg (g (ix2 i n) * Ideal.logistic (g (ix2 i n)) * ·) ?_
  refine Finset.sum_congr rfl fun e _ => ?_
  refine congrArg (h (ix2 i e) * ·) ?_
  split
  · exact wRef_lo a2 a3 n e _ _
  · next hh => exact wRef_hi a2 a3 n e hh _ _

/-! ## The two weights, and the two results -/

open Cert.KernelIdeal (wR dotR actR nrmR actV normV pe pi pe_pi)

section
variable (X : Vec Ideal S32x5120 .f32) (N : Vec Ideal S5120 .bf16) (W : Vec Ideal S13824x160x16 .i8) (S : Vec Ideal S13824x160 .bf16)

/-- The codes and scales as the kernel's arrays hold them. -/
def hostC : Vec Ideal Cert.KernelIdeal.S2560x13824 .i8 :=
  shapeCast Cert.KernelIdeal.S2560x13824 (transpose Cert.KernelIdeal.S160x16x13824 [1, 2, 0] (W : Vec Ideal Cert.KernelIdeal.S13824x160x16 .i8) Cert.KernelIdeal.Gen.transposes_S13824x160x16_S160x16x13824_1_2_0) Cert.KernelIdeal.Gen.shapeCasts_S160x16x13824_S2560x13824
def hostS : Vec Ideal Cert.KernelIdeal.S160x13824 .bf16 :=
  transpose Cert.KernelIdeal.S160x13824 [1, 0] (S : Vec Ideal Cert.KernelIdeal.S13824x160 .bf16) Cert.KernelIdeal.Gen.transposes_S13824x160_S160x13824_1_0
def hostN : Vec Ideal Cert.KernelIdeal.S1x5120 .bf16 :=
  shapeCast Cert.KernelIdeal.S1x5120 (N : Vec Ideal Cert.KernelIdeal.S5120 .bf16) Cert.KernelIdeal.Gen.shapeCasts_S5120_S1x5120

theorem hostC_apply (r : Fin 2560) (n : Fin 13824) : hostC W (ix2 r n) = W (ix3 n ⟨r.val / 16, by omega⟩ ⟨r.val % 16, by omega⟩) := by
  pointwise [hostC]
theorem hostS_apply (g : Fin 160) (n : Fin 13824) : hostS S (ix2 g n) = S (ix2 n g) := by
  pointwise [hostS]
theorem hostN_apply (e : Fin 5120) : hostN N (ix2 0 e) = N (ix1 e) := by
  pointwise [hostN]

theorem wR_host (n : Fin 13824) (e : Fin 5120) : wR (hostC W) (hostS S) n.val e.val = wRef W S n e := by
  unfold wR wRef
  rw [hostC_apply, hostS_apply]
  have h1 : (e.val / 32 * 16 + e.val % 16) % 2560 / 16 = e.val / 32 := by omega
  have h2 : (e.val / 32 * 16 + e.val % 16) % 2560 % 16 = e.val % 16 := by omega
  have h3 : n.val % 13824 = n.val := by omega
  have h4 : e.val / 32 % 160 = e.val / 32 := by omega
  simp only [h1, h2, h3, h4]

theorem nrmR_host (i : Fin 32) (e : Fin 5120) : nrmR X (fun e => hostN N (ix2 0 ⟨e % 5120, Nat.mod_lt _ (by omega)⟩)) i e.val = k0_pay2 X N (ix2 i e) := by
  rw [pay2_apply]
  unfold nrmR
  have h : e.val % 5120 = e.val := by omega
  simp only [h, hostN_apply]

theorem dotR_host (i : Fin 32) (n : Fin 13824) :
    dotR X (fun e => hostN N (ix2 0 ⟨e % 5120, Nat.mod_lt _ (by omega)⟩)) (hostC W) (hostS S) i n.val = dotRef (k0_pay2 X N) W S i n := by
  unfold dotR dotRef
  exact Finset.sum_congr rfl fun e _ => by rw [wR_host, nrmR_host]

variable (W' : Vec Ideal S13824x160x16 .i8) (S' : Vec Ideal S13824x160 .bf16)

/-- The kernel's result: its stored activations, put back in the order of the columns. -/
def result : Vec Ideal Cert.KernelIdeal.S32x13824 .bf16 :=
  shapeCast Cert.KernelIdeal.S32x13824 (transpose Cert.KernelIdeal.S32x432x2x16 [0, 1, 3, 2] (shapeCast Cert.KernelIdeal.S32x432x16x2
    (actV (hostC W) (hostS S) (hostC W') (hostS S') (normV X (hostN N)))
    Cert.KernelIdeal.Gen.shapeCasts_S32x13824_S32x432x16x2) Cert.KernelIdeal.Gen.transposes_S32x432x16x2_S32x432x2x16_0_1_3_2) Cert.KernelIdeal.Gen.shapeCasts_S32x432x2x16_S32x13824

theorem unperm (A : Vec Ideal Cert.KernelIdeal.S32x13824 .bf16) (i : Fin 32) (n : Fin 13824) :
    (shapeCast Cert.KernelIdeal.S32x13824 (transpose Cert.KernelIdeal.S32x432x2x16 [0, 1, 3, 2] (shapeCast Cert.KernelIdeal.S32x432x16x2 A
      Cert.KernelIdeal.Gen.shapeCasts_S32x13824_S32x432x16x2) Cert.KernelIdeal.Gen.transposes_S32x432x16x2_S32x432x2x16_0_1_3_2) Cert.KernelIdeal.Gen.shapeCasts_S32x432x2x16_S32x13824
      : Vec Ideal Cert.KernelIdeal.S32x13824 .bf16) (ix2 i n) = A (ix2 i ⟨pi n.val, by have := Cert.KernelIdeal.pi_lt (n := n.val) (m := 432) (by omega); omega⟩) := by
  pointwise
  congr 2
  apply Fin.ext
  unfold pi
  simp
  omega

/-- THE RESULTS AGREE. -/
theorem result_eq : result X N W S W' S' = Cert.ReferenceIdeal.Value.G6 X N W S W' S' := by
  funext j
  obtain ⟨i, n, rfl⟩ : ∃ (i : Fin 32) (n : Fin 13824), j = ix2 i n := ⟨_, _, eq_ix2 j⟩
  unfold result
  rw [unperm, Cert.KernelIdeal.actV_norm]
  show _ = k0_pay1 (k0_pay2 X N) (k0_pay3 X N W S) W' S' (ix2 i n)
  rw [pay1_apply, pay3_apply]
  unfold actR
  simp only [pe_pi]
  rw [dotR_host, dotR_host]

end

end Cert.RefVal
-- ==== Proof.KernelIdeal.Final.lean ====
/-
  The kernel's result array and the reference's hold the same extended reals.
-/
module

public import proofs.«01_k».proof.Defs
public import proofs.«01_k».proof.Proof.KernelIdeal.Result
public import proofs.«01_k».proof.Proof.KernelIdeal.Ref

@[expose] public section

set_option maxRecDepth 16384

noncomputable section

namespace Cert.KernelIdeal.Top

open Idealize.ShloMosaic Idealize.ShloMosaic.TcCoe
open Idealize.SL Idealize.SL.Sem
open Cert.KernelIdeal.Gen (V0 V iblk t0_0 hostOps1 V_main_arg0 W_main_arg1 W_main_arg2 W_main_arg3 W_main_arg4 W_main_arg5)

variable (m : (ℓ : Loc nD τ sig) → Buf (Elt Ideal) ℓ) (ρ : Dev nD → PrngReg)

/-- The output block, over the arguments. -/
theorem outV_eq (c : Dev nD) : outV m c t0_0
    = actV (Cert.RefVal.hostC (m ((c : Thread nD τ).loc main_arg2))) (Cert.RefVal.hostS (m ((c : Thread nD τ).loc main_arg3)))
        (Cert.RefVal.hostC (m ((c : Thread nD τ).loc main_arg4))) (Cert.RefVal.hostS (m ((c : Thread nD τ).loc main_arg5)))
        (normV (m ((c : Thread nD τ).loc main_arg0)) (Cert.RefVal.hostN (m ((c : Thread nD τ).loc main_arg1)))) := by
  show actV (V m c main_v2) (V m c main_v3) (V m c main_v5) (V m c main_v6) (normV (iblk m c 0 t0_0) (V m c main_v0)) = _
  rw [V_v0, V_v2, V_v3, V_v5, V_v6, in_value]
  rfl

/-- The kernel's result, over the arguments, is the reference's. -/
theorem value (c : Dev nD) : Pipeline.afterTail₀ cfgs (dats m) 0 (V0 m) [hostOps1] c main_v10
    = Cert.ReferenceIdeal.Value.G6 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W_v10, outV_eq]
  exact Cert.RefVal.result_eq _ _ _ _ _ _

/-- The kernel's run: its result, and its arguments unchanged. -/
theorem run_value : θ_run defs (onTc (τ := τ) (main (F := Ideal))) ⟨m, fun _ => 0, ρ⟩ (fun r => ∀ c : Dev nD,
      r.2.mem ((c.tc : Thread nD τ).loc main_v10)
        = Cert.ReferenceIdeal.Value.G6 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v10 (Pipeline.mem_restRefs_of main_v10 (by decide) (by decide))).trans (value m c),
      ((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).2 main_arg4 (Pipeline.mem_restRefs_of main_arg4 (by decide) (by decide))).trans (W_main_arg4 m (dats m) c)),
      (((h.1 c).2 main_arg5 (Pipeline.mem_restRefs_of main_arg5 (by decide) (by decide))).trans (W_main_arg5 m (dats m) c))⟩) (run_main m ρ)

/-- Both programs run, and end with equal results. -/
theorem algebraic : @Cert.algebraic_KernelIdeal_ReferenceIdeal Cert.KernelIdeal.Gen.facts Cert.ReferenceIdeal.Gen.facts := by
  intro m g m' g' _ hagree
  refine ⟨_, run_value m g, ?_⟩
  refine (θ_run _ _ _).mono (fun r h c => ?_) (Cert.ReferenceIdeal.Value.run m' g')
  obtain ⟨h0, h1, h2, h3, h4, h5⟩ := hagree c
  refine ⟨(h c).1.trans ?_, (h c).2⟩
  rw [h0, h1, h2, h3, h4, h5]

end Cert.KernelIdeal.Top
-- ==== Proof.DownIdeal.Body.lean ====
/- The kernel's body written again over small programs (one copy, one pair of contraction tiles) and recursion,
   and the proof that the printed body is this program. -/
module

public import proofs.«01_k».proof.Proof.Gen.DownIdeal.Skeleton
public import Idealize.ShloMosaic.Lib.Exec
public import Idealize.ShloMosaic.Lib.Tactic
public import Idealize.ShloMosaic.Lib.Pipeline.Kit

@[expose] public section

set_option maxRecDepth 16384

noncomputable section

namespace Cert.DownIdeal

open Facts₀ Facts K0.R1.Facts₀ K0.R2.Facts₀ Shapes1.Facts₀ Shapes2.Facts₀ Shapes3.Facts₀
open Idealize.ShloMosaic Idealize.ShloMosaic.TcCoe Idealize.ShloMosaic.Tactic Idealize.SL.Sem

variable {F : FTy → Type} [FloatOps F]

/-- A program of the TensorCore. -/
abbrev PR (F : FTy → Type) [FloatOps F] (α : Type) := Prog (TpuEff nD τ sig (Elt F) Λ₀ .tc) α

/-! ## Rectangles inside their arrays -/

theorem inSC {s b r : ℕ} (hs : s < 2) (hb : b < 4) (hr : r + 32 ≤ 6912) (a : Fin 4) :
    (![s, b, r, 0] : Fin 4 → ℕ) a + S1x1x32x128.size a ≤ S2x4x6912x128.size a := by
  fin_cases a <;> simp [Shape.size] <;> omega
theorem inSCp {s b : ℕ} (hs : s < 2) (hb : b < 4) (a : Fin 4) :
    (![s, b, 0, 0] : Fin 4 → ℕ) a + S1x1x6912x128.size a ≤ S2x4x6912x128.size a := by
  fin_cases a <;> simp [Shape.size] <;> omega
theorem inSSp {s b : ℕ} (hs : s < 2) (hb : b < 4) (a : Fin 4) :
    (![s, b, 0, 0] : Fin 4 → ℕ) a + S1x1x432x128.size a ≤ S2x4x432x128.size a := by
  fin_cases a <;> simp [Shape.size] <;> omega
theorem inSS {s b r : ℕ} (hs : s < 2) (hb : b < 4) (hr : r + 16 ≤ 432) (a : Fin 4) :
    (![s, b, r, 0] : Fin 4 → ℕ) a + S1x1x16x128.size a ≤ S2x4x432x128.size a := by
  fin_cases a <;> simp [Shape.size] <;> omega
theorem inSP {b h r : ℕ} (hb : b < 4) (hh : h < 2) (hr : r + 8 ≤ 216) (a : Fin 4) :
    (![b, h, r, 0] : Fin 4 → ℕ) a + S1x1x8x128.size a ≤ S4x2x216x128.size a := by
  fin_cases a <;> simp [Shape.size] <;> omega
theorem inSPs {b h r : ℕ} (hb : b < 4) (hh : h < 2) (hr : r + 1 ≤ 216) (a : Fin 4) :
    S1x1x8x128.size a = 0 ∨ (![b, h, r, 0] : Fin 4 → Nat) a + (![1, 1, 0, 1] : Fin 4 → Nat) a * (S1x1x8x128.size a - 1) < S4x2x216x128.size a := by
  right; fin_cases a <;> simp [Shape.size] <;> omega
theorem inSH {j : ℕ} (hj : j + 256 ≤ 13824) (a : Fin 2) :
    (![0, j] : Fin 2 → ℕ) a + S32x256.size a ≤ S32x13824.size a := by
  fin_cases a <;> simp [Shape.size] <;> omega
theorem inSA {j : ℕ} (hj : j + 256 ≤ 5120) (a : Fin 2) :
    (![0, j] : Fin 2 → ℕ) a + S32x256.size a ≤ S32x5120.size a := by
  fin_cases a <;> simp [Shape.size] <;> omega
theorem inHC {j : ℕ} (hj : j + 128 ≤ 5120) (a : Fin 2) :
    (![0, j] : Fin 2 → ℕ) a + S6912x128.size a ≤ S6912x5120.size a := by
  fin_cases a <;> simp [Shape.size] <;> omega
theorem inHS {j : ℕ} (hj : j + 128 ≤ 5120) (a : Fin 2) :
    (![0, j] : Fin 2 → ℕ) a + S432x128.size a ≤ S432x5120.size a := by
  fin_cases a <;> simp [Shape.size] <;> omega

variable [Facts]

/-! ## The values a pair of tiles computes -/

/-- Sixteen rows of block scales, widened, as eight pairs. -/
def scPair (v : Vec F S1x1x16x128 .bf16) : FVec F S8x2x128 .f32 :=
  shapeCast S8x2x128 (extf .f32 (shapeCast S16x128 v shapeCasts_S1x1x16x128_S16x128) bitsLt_bf16_f32) shapeCasts_S16x128_S8x2x128
/-- The even ones of the sixteen rows. -/
def scEven (v : Vec F S1x1x16x128 .bf16) : FVec F S1x1x8x128 .f32 :=
  shapeCast S1x1x8x128 (shapeCast S8x128 (extractStridedSlice S8x1x128 ![0, 0, 0] (scPair v) slices_S8x2x128_o0_0_0_S8x1x128) shapeCasts_S8x1x128_S8x128) shapeCasts_S8x128_S1x1x8x128
/-- The odd ones of the sixteen rows. -/
def scOdd (v : Vec F S1x1x16x128 .bf16) : FVec F S1x1x8x128 .f32 :=
  shapeCast S1x1x8x128 (shapeCast S8x128 (extractStridedSlice S8x1x128 ![0, 1, 0] (scPair v) slices_S8x2x128_o0_1_0_S8x1x128) shapeCasts_S8x1x128_S8x128) shapeCasts_S8x128_S1x1x8x128

/-- Thirty-two rows of codes as sixty-four rows of centred nibbles. -/
def nibbles (c : Vec F S1x1x32x128 .i8) : FVec F S64x128 .bf16 :=
  have v1 : IVec S32x128 32 := extui 32 (shapeCast S32x128 c shapeCasts_S1x1x32x128_S32x128 : IVec S32x128 8) natLt_8_32
  have lo : IVec S32x128 32 := subi (andi v1 (broadcast S32x128 15#32)) (broadcast S32x128 8#32)
  have hi : IVec S32x128 32 := subi (shrsi v1 (broadcast S32x128 4#32)) (broadcast S32x128 8#32)
  truncf .bf16 (sitofp .f32 (shapeCast S64x128
    (concatenate S32x2x128 1 [⟨S32x1x128, shapeCast S32x1x128 lo shapeCasts_S32x128_S32x1x128⟩, ⟨S32x1x128, shapeCast S32x1x128 hi shapeCasts_S32x128_S32x1x128⟩] concatenates_S32x1x128_S32x1x128_S32x2x128_d1 : IVec S32x2x128 32)
    shapeCasts_S32x2x128_S64x128 : IVec S64x128 32)) bitsLt_bf16_f32
/-- One scale row, repeated over sixteen rows. -/
def scRows (s : Vec F S1x1x8x128 .f32) : FVec F S16x128 .bf16 :=
  have s8 : FVec F S8x128 .f32 := shapeCast S8x128 s shapeCasts_S1x1x8x128_S8x128
  truncf .bf16 (concatenate S16x128 0 [⟨S8x128, s8⟩, ⟨S8x128, s8⟩] concatenates_S8x128_S8x128_S16x128_d0 : FVec F S16x128 .f32) bitsLt_bf16_f32

/-- What one quarter of a tile's column block loads. -/
structure Quart (F : FTy → Type) [FloatOps F] where
  c : Vec F S1x1x32x128 .i8
  s0 : Vec F S1x1x8x128 .f32
  s1 : Vec F S1x1x8x128 .f32

def qp0 (q : Quart F) : FVec F S16x128 .bf16 := mulf (extractStridedSlice S16x128 ![0, 0] (nibbles q.c) slices_S64x128_o0_0_S16x128) (scRows q.s0)
def qp1 (q : Quart F) : FVec F S16x128 .bf16 := mulf (extractStridedSlice S16x128 ![16, 0] (nibbles q.c) slices_S64x128_o16_0_S16x128) (scRows q.s0)
def qp2 (q : Quart F) : FVec F S16x128 .bf16 := mulf (extractStridedSlice S16x128 ![32, 0] (nibbles q.c) slices_S64x128_o32_0_S16x128) (scRows q.s1)
def qp3 (q : Quart F) : FVec F S16x128 .bf16 := mulf (extractStridedSlice S16x128 ![48, 0] (nibbles q.c) slices_S64x128_o48_0_S16x128) (scRows q.s1)

/-- One column block of weights of a tile: 256 rows of 128. -/
def colW (a b c d : Quart F) : FVec F S256x128 .bf16 :=
  concatenate S256x128 0 [⟨S16x128, qp0 a⟩, ⟨S16x128, qp1 a⟩, ⟨S16x128, qp2 a⟩, ⟨S16x128, qp3 a⟩, ⟨S16x128, qp0 b⟩, ⟨S16x128, qp1 b⟩, ⟨S16x128, qp2 b⟩, ⟨S16x128, qp3 b⟩,
    ⟨S16x128, qp0 c⟩, ⟨S16x128, qp1 c⟩, ⟨S16x128, qp2 c⟩, ⟨S16x128, qp3 c⟩, ⟨S16x128, qp0 d⟩, ⟨S16x128, qp1 d⟩, ⟨S16x128, qp2 d⟩, ⟨S16x128, qp3 d⟩]
    concatenates_S16x128_S16x128_S16x128_S16x128_S16x128_S16x128_S16x128_S16x128_S16x128_S16x128_S16x128_S16x128_S16x128_S16x128_S16x128_S16x128_S256x128_d0
/-- The accumulator after a tile. -/
def tileV (acc : FVec F S32x256 .f32) (w0 w1 : FVec F S256x128 .bf16) (h : Vec F S32x256 .bf16) : FVec F S32x256 .f32 :=
  addf acc (matmul dot_S32x256_S256x256_S32x256_1_0_0_1_n_n none (shapeCast S32x256 h shapeCasts_S32x256_S32x256 : FVec F S32x256 .bf16)
    (concatenate S256x256 1 [⟨S256x128, w0⟩, ⟨S256x128, w1⟩] concatenates_S256x128_S256x128_S256x256_d1 : FVec F S256x256 .bf16) (constant S32x256 .f32 0x00000000#32))

/-- The residual and the product, added and narrowed. -/
def outB (x y : FVec F S32x256 .f32) : FVec F S32x256 .bf16 := truncf .bf16 (addf x y) bitsLt_bf16_f32

/-! ## The programs -/

section Progs

variable (arg0 : Memref sig .tc .vmem S32x5120 .f32) (harg0 : arg0.IsWhole)
  (arg2 : Memref sig .tc .hbm S6912x5120 .i8) (harg2 : arg2.IsWhole) (arg3 : Memref sig .tc .hbm S432x5120 .bf16) (harg3 : arg3.IsWhole)
  (arg6 : Memref sig .tc .vmem S32x5120 .bf16) (harg6 : arg6.IsWhole)
  (arg8 : Memref sig .tc .vmem S2x4x6912x128 .i8) (harg8 : arg8.IsWhole) (arg9 : Memref sig .tc .vmem S2x4x432x128 .bf16) (harg9 : arg9.IsWhole)
  (arg10 : Memref sig .tc .vmem S4x2x216x128 .f32) (harg10 : arg10.IsWhole) (arg11 : Memref sig .tc .vmem S32x13824 .bf16) (harg11 : arg11.IsWhole)
  (arg13 : DmaSems sig S2)

/-- A plane of the code ring, of the scale ring; a column window of a code array, of a scale array. -/
def plC (s b : ℕ) (hs : s < 2) (hb : b < 4) : Memref sig .tc .vmem S6912x128 .i8 :=
  (arg8.slice (Rect.unit (s := S2x4x6912x128) ![s, b, 0, 0] S1x1x6912x128.size (inSCp hs hb)) (fun _ => rfl)).squeeze S6912x128 squeezes_S1x1x6912x128_S6912x128
def plS (s b : ℕ) (hs : s < 2) (hb : b < 4) : Memref sig .tc .vmem S432x128 .bf16 :=
  (arg9.slice (Rect.unit (s := S2x4x432x128) ![s, b, 0, 0] S1x1x432x128.size (inSSp hs hb)) (fun _ => rfl)).squeeze S432x128 squeezes_S1x1x432x128_S432x128
def wiC (w : Memref sig .tc .hbm S6912x5120 .i8) (j : ℕ) (hj : j + 128 ≤ 5120) : Memref sig .tc .hbm S6912x128 .i8 :=
  w.slice (Rect.unit (s := S6912x5120) ![0, j] S6912x128.size (inHC hj)) (fun _ => rfl)
def wiS (w : Memref sig .tc .hbm S432x5120 .bf16) (j : ℕ) (hj : j + 128 ≤ 5120) : Memref sig .tc .hbm S432x128 .bf16 :=
  w.slice (Rect.unit (s := S432x5120) ![0, j] S432x128.size (inHS hj)) (fun _ => rfl)

theorem plC_exact (h8 : arg8.IsWhole) {s b : ℕ} (hs : s < 2) (hb : b < 4) : (plC arg8 s b hs hb).view.WordExact :=
  (h8.wordExact_slice rfl _ (.inr ⟨by decide, rfl, rfl, rfl⟩)).reshape _ _
theorem plS_exact (h9 : arg9.IsWhole) {s b : ℕ} (hs : s < 2) (hb : b < 4) : (plS arg9 s b hs hb).view.WordExact :=
  (h9.wordExact_slice rfl _ (.inr ⟨by decide, rfl, rfl, rfl⟩)).reshape _ _
theorem wiC_exact {w : Memref sig .tc .hbm S6912x5120 .i8} (h : w.IsWhole) {j : ℕ} (hj : j + 128 ≤ 5120) : (wiC w j hj).view.WordExact :=
  h.wordExact_slice rfl _ (.inr ⟨by decide, rfl, rfl, rfl⟩)
theorem wiS_exact {w : Memref sig .tc .hbm S432x5120 .bf16} (h : w.IsWhole) {j : ℕ} (hj : j + 128 ≤ 5120) : (wiS w j hj).view.WordExact :=
  h.wordExact_slice rfl _ (.inr ⟨by decide, rfl, rfl, rfl⟩)

/-- Start one copy of codes, of scales. -/
def stC {w : Memref sig .tc .hbm S6912x5120 .i8} (h : w.IsWhole) (h8 : arg8.IsWhole) (sem : DmaSem sig) (s b j : ℕ) (hs : s < 2) (hb : b < 4) (hj : j + 128 ≤ 5120) : PR F PUnit :=
  Prog.lift (.enqueueDma (wiC w j hj) (.here (plC arg8 s b hs hb)) (.dma sem) (wiC_exact h hj) (plC_exact arg8 h8 hs hb) ⟨Or.inl rfl, trivial⟩)
def stS {w : Memref sig .tc .hbm S432x5120 .bf16} (h : w.IsWhole) (h9 : arg9.IsWhole) (sem : DmaSem sig) (s b j : ℕ) (hs : s < 2) (hb : b < 4) (hj : j + 128 ≤ 5120) : PR F PUnit :=
  Prog.lift (.enqueueDma (wiS w j hj) (.here (plS arg9 s b hs hb)) (.dma sem) (wiS_exact h hj) (plS_exact arg9 h9 hs hb) ⟨Or.inl rfl, trivial⟩)
/-- Wait for one copy of codes, of scales. -/
def wtC {w : Memref sig .tc .hbm S6912x5120 .i8} (h : w.IsWhole) (h8 : arg8.IsWhole) (sem : DmaSem sig) (s b j : ℕ) (hs : s < 2) (hb : b < 4) (hj : j + 128 ≤ 5120) : PR F PUnit :=
  Prog.lift (.waitDma2 sem (wiC w j hj) (plC arg8 s b hs hb) (wiC_exact h hj) (plC_exact arg8 h8 hs hb))
def wtS {w : Memref sig .tc .hbm S432x5120 .bf16} (h : w.IsWhole) (h9 : arg9.IsWhole) (sem : DmaSem sig) (s b j : ℕ) (hs : s < 2) (hb : b < 4) (hj : j + 128 ≤ 5120) : PR F PUnit :=
  Prog.lift (.waitDma2 sem (wiS w j hj) (plS arg9 s b hs hb) (wiS_exact h hj) (plS_exact arg9 h9 hs hb))

/-- Run a step for each of the indices below `N`, in order. -/
def upTo (N : ℕ) (f : (i : ℕ) → i < N → PR F PUnit) : PR F PUnit :=
  Nat.rec (motive := fun n => (i : ℕ) → i + n ≤ N → PR F PUnit) (fun _ _ => .ret ⟨⟩)
    (fun n ih i h => (f i (by omega)).bind fun _ => ih (i + 1) (by omega)) N 0 (by omega)

/-- Start the copies of one trip's weights into slot `s`, from the columns `col`. -/
def startsP (sem : DmaSem sig) (s : ℕ) (hs : s < 2) (col : ℕ → ℕ) (hcol : ∀ i, i < 4 → col i + 128 ≤ 5120) : PR F PUnit :=
  upTo 4 fun i h => (stC arg8 harg2 harg8 sem s i (col i) hs (by omega) (hcol i h)).bind fun _ => stS arg9 harg3 harg9 sem s i (col i) hs (by omega) (hcol i h)
/-- Wait for the copies of one trip's weights into slot `s`. -/
def waitsP (sem : DmaSem sig) (s : ℕ) (hs : s < 2) : PR F PUnit :=
  upTo 4 fun i h => (wtC arg8 harg2 harg8 sem s i (i * 128) hs (by omega) (by omega)).bind fun _ => wtS arg9 harg3 harg9 sem s i (i * 128) hs (by omega) (by omega)

/-- Refill the scale rows of block `b` for pair `p`. -/
def refillP (s b p : ℕ) (hs : s < 2) (hb : b < 4) (hp : p < 27) : PR F PUnit := do
  let v : Vec F S1x1x16x128 .bf16 ← Prog.lift (.load arg9 (Rect.unit (s := S2x4x432x128) ![s, b, p * 16, 0] S1x1x16x128.size (inSS hs hb (by omega))).toLoadRect (View.loadsAt_vmem h_S1x1x16x128))
  let _ : Vec F S1x1x8x128 .f32 ← Prog.lift (.load arg10 (Rect.unit (s := S4x2x216x128) ![b, 0, p * 8, 0] S1x1x8x128.size (inSP hb (by omega) (by omega))).toLoadRect (View.loadsAt_vmem h_S1x1x8x128))
  Prog.lift (.store arg10 (Rect.unit (s := S4x2x216x128) ![b, 0, p * 8, 0] S1x1x8x128.size (inSP hb (by omega) (by omega))) (scEven v) Finset.univ (View.stores_vmem_bits_univ h_S1x1x8x128 rfl) (.inl rfl))
  let _ : Vec F S1x1x8x128 .f32 ← Prog.lift (.load arg10 (Rect.unit (s := S4x2x216x128) ![b, 1, p * 8, 0] S1x1x8x128.size (inSP hb (by omega) (by omega))).toLoadRect (View.loadsAt_vmem h_S1x1x8x128))
  Prog.lift (.store arg10 (Rect.unit (s := S4x2x216x128) ![b, 1, p * 8, 0] S1x1x8x128.size (inSP hb (by omega) (by omega))) (scOdd v) Finset.univ (View.stores_vmem_bits_univ h_S1x1x8x128 rfl) (.inl rfl))

/-- The loads of quarter `i` of tile `kt` of block `b`. -/
def quartP (s b kt i : ℕ) (hs : s < 2) (hb : b < 4) (hk : kt < 54) (hi : i < 4) : PR F (Quart F) := do
  let c : Vec F S1x1x32x128 .i8 ← Prog.lift (.load arg8 (Rect.unit (s := S2x4x6912x128) ![s, b, kt * 128 + i * 32, 0] S1x1x32x128.size (inSC hs hb (by omega))).toLoadRect (View.loadsAt_vmem h_S1x1x32x128))
  let s0 : Vec F S1x1x8x128 .f32 ← Prog.lift (.load arg10 (⟨![b, 0, kt * 4 + i, 0], S1x1x8x128.size, ![1, 1, 0, 1], inSPs hb (by omega) (by omega)⟩ : LoadRect S4x2x216x128) (View.loadsAt_vmem h_S1x1x8x128))
  let s1 : Vec F S1x1x8x128 .f32 ← Prog.lift (.load arg10 (⟨![b, 1, kt * 4 + i, 0], S1x1x8x128.size, ![1, 1, 0, 1], inSPs hb (by omega) (by omega)⟩ : LoadRect S4x2x216x128) (View.loadsAt_vmem h_S1x1x8x128))
  pure ⟨c, s0, s1⟩
/-- One column block of a tile's weights. -/
def colP (s b kt : ℕ) (hs : s < 2) (hb : b < 4) (hk : kt < 54) : PR F (FVec F S256x128 .bf16) := do
  let q0 ← quartP arg8 arg10 s b kt 0 hs hb hk (by omega)
  let q1 ← quartP arg8 arg10 s b kt 1 hs hb hk (by omega)
  let q2 ← quartP arg8 arg10 s b kt 2 hs hb hk (by omega)
  let q3 ← quartP arg8 arg10 s b kt 3 hs hb hk (by omega)
  pure (colW q0 q1 q2 q3)
/-- One tile. -/
def tileP (s b kt : ℕ) (hs : s < 2) (hb : b + 1 < 4) (hk : kt < 54) (acc : FVec F S32x256 .f32) : PR F (FVec F S32x256 .f32) := do
  let w0 ← colP arg8 arg10 s b kt hs (by omega) hk
  let w1 ← colP arg8 arg10 s (b + 1) kt hs hb hk
  let h : Vec F S32x256 .bf16 ← Prog.lift (.load arg11 (Rect.unit (s := S32x13824) ![0, kt * 256] S32x256.size (inSH (by omega))).toLoadRect (View.loadsAt_vmem h_S32x256))
  pure (tileV acc w0 w1 h)
/-- Two tiles, their scale rows refilled before. -/
def pairP (s b p : ℕ) (hs : s < 2) (hb : b + 1 < 4) (hp : p < 27) (acc : FVec F S32x256 .f32) : PR F (FVec F S32x256 .f32) := do
  refillP arg9 arg10 s b p hs (by omega) hp
  refillP arg9 arg10 s (b + 1) p hs hb hp
  let a ← tileP arg8 arg10 arg11 s b (p * 2) hs hb (by omega) acc
  tileP arg8 arg10 arg11 s b (p * 2 + 1) hs hb (by omega) a
/-- `n` pairs from pair `p` on. -/
def dotFromP (s b : ℕ) (hs : s < 2) (hb : b + 1 < 4) (n : ℕ) : (p : ℕ) → p + n ≤ 27 → FVec F S32x256 .f32 → PR F (FVec F S32x256 .f32) :=
  Nat.rec (motive := fun n => (p : ℕ) → p + n ≤ 27 → FVec F S32x256 .f32 → PR F (FVec F S32x256 .f32)) (fun _ _ acc => .ret acc)
    (fun n ih p h acc => (pairP arg8 arg9 arg10 arg11 s b p hs hb (by omega) acc).bind fun a => ih (p + 1) (by omega) a) n
/-- A whole contraction for two blocks of columns. -/
def dotP (s b : ℕ) (hs : s < 2) (hb : b + 1 < 4) : PR F (FVec F S32x256 .f32) :=
  dotFromP arg8 arg9 arg10 arg11 s b hs hb 27 0 (by omega) (broadcast S32x256 (Scalar.ofBits .f32 0x00000000#32))

/-- The lane offset a trip stores its columns at. -/
def actOff (t : Fin k0_t1_loop.trips) (c1 : ℕ) : ℕ :=
  (Scalar.indexCast (Scalar.addi (Scalar.muli (Scf.iv 0#32 1#32 t) 512#32) (BitVec.ofNat 32 c1))).toNat
theorem trips_eq : k0_t1_loop.trips = 10 := by decide
theorem actOff_eq (t : Fin k0_t1_loop.trips) {c1 : ℕ} (h1 : c1 ≤ 512) : actOff t c1 = t.val * 512 + c1 := by
  have ht : t.val < 10 := trips_eq ▸ t.2
  simp only [actOff, Scalar.indexCast, Scalar.addi, Scalar.muli, Scf.iv, IntOp.addi, IntOp.muli]
  simp
  omega
theorem actOff_le (t : Fin k0_t1_loop.trips) {c1 : ℕ} (h1 : c1 + 256 ≤ 512) : actOff t c1 + 256 ≤ 5120 := by
  have ht : t.val < 10 := trips_eq ▸ t.2
  rw [actOff_eq t (by omega)]; omega
/-- The contraction of a column pair, the residual's columns, and the store of their sum. -/
def chunkP (t : Fin k0_t1_loop.trips) (s n : ℕ) (hs : s < 2) (hn : n < 2) : PR F PUnit := do
  let y ← dotP arg8 arg9 arg10 arg11 s (2 * n) hs (by omega)
  let x : Vec F S32x256 .f32 ← Prog.lift (.load arg0 (Rect.unit (s := S32x5120) ![0, actOff t (256 * n)] S32x256.size (inSA (actOff_le t (by omega)))).toLoadRect (View.loadsAt_vmem h_S32x256))
  let _ : Vec F S32x256 .bf16 ← Prog.lift (.load arg6 (Rect.unit (s := S32x5120) ![0, actOff t (256 * n)] S32x256.size (inSA (actOff_le t (by omega)))).toLoadRect (View.loadsAt_vmem h_S32x256))
  Prog.lift (.store arg6 (Rect.unit (s := S32x5120) ![0, actOff t (256 * n)] S32x256.size (inSA (actOff_le t (by omega)))) (outB x y) Finset.univ
    (View.stores_vmem h_S32x256 (harg6.storeExact_slice rfl _ (.inr ⟨by decide, rfl, .inl ⟨⟨0, rfl⟩, ⟨16, rfl⟩⟩⟩)) (fun _ => rfl)) (.inl rfl))

/-- The slot of a trip, as the transfers and as the loads spell it. -/
def slotD (t : Fin k0_t1_loop.trips) : ℕ := (Scalar.remsi (Scf.iv 0#32 1#32 t) 2#32).toNat
def slotL (t : Fin k0_t1_loop.trips) : ℕ := (Scalar.indexCast (Scalar.remsi (Scf.iv 0#32 1#32 t) 2#32)).toNat
theorem slotD_eq : ∀ t : Fin k0_t1_loop.trips, slotD t = t.val % 2 := by decide +kernel
theorem slotL_eq : ∀ t : Fin k0_t1_loop.trips, slotL t = t.val % 2 := by decide +kernel
theorem slotD_lt (t : Fin k0_t1_loop.trips) : slotD t < 2 := by rw [slotD_eq]; omega
theorem slotL_lt (t : Fin k0_t1_loop.trips) : slotL t < 2 := by rw [slotL_eq]; omega
/-- The slot's semaphore cell. -/
def semOf (s : ℕ) (hs : s < 2) : DmaSem sig :=
  ((arg13.slice (Rect.unit (s := S2) ![s] S1.size (by intro a; fin_cases a; simp [Shape.size]; omega))).squeeze S_ squeezes_S1_S_).sem
/-- The columns the trip after next copies from. -/
def colN (t : Fin k0_t1_loop.trips) (i : ℕ) : ℕ :=
  (Scalar.addi (Scalar.muli (Scalar.addi (Scf.iv 0#32 1#32 t) 2#32) 512#32) (BitVec.ofNat 32 (i * 128))).toNat
theorem colN_eq (t : Fin k0_t1_loop.trips) {i : ℕ} (hi : i < 4) : colN t i = (t.val + 2) * 512 + i * 128 := by
  have ht : t.val < 10 := trips_eq ▸ t.2
  simp only [colN, Scalar.addi, Scalar.muli, Scf.iv, IntOp.addi, IntOp.muli]
  simp
  omega
theorem cond_iff : ∀ t : Fin k0_t1_loop.trips, k0_cond1 t = 1#1 ↔ t.val + 2 < 10 := by decide +kernel

/-- One trip. -/
def tripP (t : Fin k0_t1_loop.trips) : PR F PUnit := do
  waitsP arg2 harg2 arg3 harg3 arg8 harg8 arg9 harg9 (semOf arg13 (slotD t) (slotD_lt t)) (slotD t) (slotD_lt t)
  upTo 2 fun n h => chunkP arg0 arg6 harg6 arg8 arg9 arg10 arg11 t (slotL t) n (slotL_lt t) h
  if h : k0_cond1 t = 1#1 then do
    startsP arg2 harg2 arg3 harg3 arg8 harg8 arg9 harg9 (semOf arg13 (slotD t) (slotD_lt t)) (slotD t) (slotD_lt t) (colN t)
      (fun i hi => by have := (cond_iff t).1 h; rw [colN_eq t hi]; omega)
    pure ⟨⟩
  else do
    pure ⟨⟩
  pure ⟨⟩

set_option maxHeartbeats 4000000 in
theorem body_eq (t : Fin k0_t1_loop.trips) (a : Unit) :
    Gen.k0_t1_body (F := F) arg0 harg0 arg11 harg11 arg2 harg2 arg3 harg3 arg6 harg6 arg8 harg8 arg9 harg9 arg10 harg10 arg13 t a
      = tripP arg0 arg2 harg2 arg3 harg3 arg6 harg6 arg8 harg8 arg9 harg9 arg10 arg11 arg13 t := by
  sl_kernel_rfl

/-- The body. -/
def bodyP : PR F PUnit := do
  startsP arg2 harg2 arg3 harg3 arg8 harg8 arg9 harg9 (semOf arg13 0 (by omega)) 0 (by omega) (fun i => i * 128) (fun i h => by omega)
  startsP arg2 harg2 arg3 harg3 arg8 harg8 arg9 harg9 (semOf arg13 1 (by omega)) 1 (by omega) (fun i => 512 + i * 128) (fun i h => by omega)
  Scf.Loop.for k0_t1_loop k0_t1_ok ⟨⟩ fun t _ => tripP arg0 arg2 harg2 arg3 harg3 arg6 harg6 arg8 harg8 arg9 harg9 arg10 arg11 arg13 t
  pure ⟨⟩

set_option maxHeartbeats 4000000 in
theorem kernel_eq :
    cc0_decode_layer (F := F) arg0 harg0 arg11 harg11 arg2 harg2 arg3 harg3 arg6 harg6 arg8 harg8 arg9 harg9 arg10 harg10 arg13
      = bodyP arg0 arg2 harg2 arg3 harg3 arg6 harg6 arg8 harg8 arg9 harg9 arg10 arg11 arg13 := by
  sl_kernel_rfl

end Progs

end Cert.DownIdeal
-- ==== Proof.DownIdeal.Rules.lean ====
/-
  Rules for one load, one store and one copy, over `owns` (a memref held whole at named elements).
-/
module

public import proofs.«01_k».proof.Proof.DownIdeal.Body
public import Idealize.ShloMosaic.Lib.MixedBatch
public import Idealize.ShloMosaic.Lib.Pipeline.FrameSuffix
public import Idealize.ShloMosaic.Lib.ValueLayout
public import Idealize.ShloMosaic.Lib.Ring

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (MixedBatch sumTo)

variable {F : FTy → Type} [FloatOps F]

/-- The logic's algebra, and the weakest precondition of a program on core `c`. -/
abbrev MM (F : FTy → Type) [FloatOps F] : Type := MT nD τ sig Unit (Elt F) ℕ (Pipeline.UD sig nD τ) ℕ
abbrev WP (c : Dev nD) {α : Type} (p : PR F α) (Q : α → sProp (MM F)) : sProp (MM F) :=
  wp frame (wpE (defs₀ (F := F)) Variants.none (c : Thread nD τ) none) Set.univ p Q

theorem WP_bind (c : Dev nD) {α β : Type} (p : PR F α) (k : α → PR F β) (Q : β → sProp (MM F)) :
    WP c (p.bind k) Q = WP c p fun a => WP c (k a) Q := wp_bind ..
theorem WP_bind' (c : Dev nD) {α β : Type} (p : PR F α) (k : α → PR F β) (Q : β → sProp (MM F)) :
    WP c (p >>= k) Q = WP c p fun a => WP c (k a) Q := wp_bind ..
theorem WP_ret (c : Dev nD) {α : Type} (a : α) (Q : α → sProp (MM F)) : Q a ⊢ WP c (.ret a) Q := fupd_intro
theorem WP_pure (c : Dev nD) {α : Type} (a : α) (Q : α → sProp (MM F)) : Q a ⊢ WP c (pure a) Q := fupd_intro

/-- The elements `X` with the rectangle's replaced by `w`. -/
def updR {s : Shape} {A : Type} (r : Rect s) (w : r.shape.Idx → A) (X : s.Idx → A) : s.Idx → A :=
  open Classical in fun i => if h : ∃ x, r.emb x = i then w h.choose else X i
theorem updR_emb {s : Shape} {A : Type} (r : Rect s) (w : r.shape.Idx → A) (X : s.Idx → A) (x : r.shape.Idx) : updR r w X (r.emb x) = w x := by
  have h : ∃ y, r.emb y = r.emb x := ⟨x, rfl⟩
  unfold updR; rw [dif_pos h]; exact congrArg w (r.emb.injective h.choose_spec)
theorem updR_of_ne {s : Shape} {A : Type} (r : Rect s) (w : r.shape.Idx → A) (X : s.Idx → A) (i : s.Idx) (h : ∀ x, r.emb x ≠ i) : updR r w X i = X i := by
  unfold updR; rw [dif_neg fun ⟨x, hx⟩ => h x hx]

theorem own_load (c : Dev nD) {cs : CoreSpace} {s : Shape} {e : EltTy} (M : Memref sig .tc cs s e) (r : LoadRect s) (hl : M.view.LoadsAt r)
    (q : PosShare TreeShare) (X : s.Idx → Elt F e) (Q : (r.shape.Idx → Elt F e) → sProp (MM F)) :
    iprop(owns (c : Thread nD τ) M q X ∗ (owns (c : Thread nD τ) M q X -∗ Q (fun x => X (r.idx x)))) ⊢ WP c (Prog.lift (.load M r hl)) Q := by
  unfold owns
  iintro ⟨⟨%f, %hf, H⟩, Hk⟩
  iapply (wp_load Variants.none (c : Thread nD τ) none Set.univ (View.setOn_subset_set _ _)) $$ H
  iintro H
  have h : M.view.readAt (Elt F) r f = fun x => X (r.idx x) := by subst hf; rfl
  rw [h]
  iapply WP_ret
  iapply Hk
  iexists f
  isplitr
  · ipureintro; exact hf
  iexact H

theorem own_load_sub (c : Dev nD) {cs : CoreSpace} {s s' : Shape} {e : EltTy} (M : Memref sig .tc cs s e) (R : Rect s) (hR : ∀ a, R.stride a = 1)
    (hsq : R.shape.Squeezes s') (r : LoadRect s) (hl : M.view.LoadsAt r) (q : PosShare TreeShare) (X : s'.Idx → Elt F e)
    (y : r.shape.Idx → s'.Idx) (hy : ∀ x, r.idx x = R.emb (Shape.reshapeEquiv hsq.numel_eq (y x)))
    (Q : (r.shape.Idx → Elt F e) → sProp (MM F)) :
    iprop(owns (c : Thread nD τ) ((M.slice R hR).squeeze s' hsq) q X ∗ (owns (c : Thread nD τ) ((M.slice R hR).squeeze s' hsq) q X -∗ Q (fun x => X (y x))))
      ⊢ WP c (Prog.lift (.load M r hl)) Q := by
  unfold owns
  iintro ⟨⟨%f, %hf, H⟩, Hk⟩
  have hS : M.view.setOn r.set ⊆ ((M.slice R hR).squeeze s' hsq).view.set := by
    intro i hi
    obtain ⟨j, hj, rfl⟩ := Finset.mem_map.mp hi
    obtain ⟨x, rfl⟩ : ∃ x, r.idx x = j := by
      have h := r.mem_set.mp hj
      choose g hg he using h
      exact ⟨fun a => ⟨g a, hg a⟩, funext fun a => Fin.ext (he a).symm⟩
    rw [hy x]
    exact Finset.mem_map.mpr ⟨y x, Finset.mem_univ _, rfl⟩
  iapply (wp_load Variants.none (c : Thread nD τ) none Set.univ hS) $$ H
  iintro H
  have h : M.view.readAt (Elt F) r f = fun x => X (y x) := by
    subst hf; funext x
    show M.view.read (Elt F) f (r.idx x) = M.view.read (Elt F) f (R.emb (Shape.reshapeEquiv hsq.numel_eq (y x)))
    rw [hy x]
  rw [h]
  iapply WP_ret
  iapply Hk
  iexists f
  isplitr
  · ipureintro; exact hf
  iexact H

theorem own_store (c : Dev nD) {cs : CoreSpace} {s : Shape} {e : EltTy} (M : Memref sig .tc cs s e) (r : Rect s) (w : r.shape.Idx → Elt F e)
    (hx : (M.access r).Stores Finset.univ) (hm : Finset.univ = Finset.univ ∨ ∀ a, r.stride a = 1)
    (X : s.Idx → Elt F e) (Q : PUnit → sProp (MM F)) :
    iprop(owns (c : Thread nD τ) M fullShare X ∗ (owns (c : Thread nD τ) M fullShare (updR r w X) -∗ Q ⟨⟩))
      ⊢ WP c (Prog.lift (.store M r w Finset.univ hx hm)) Q := by
  unfold owns
  iintro ⟨⟨%f, %hf, H⟩, Hk⟩
  have hS : (M.access r).setOn Finset.univ ⊆ M.view.set := by
    intro i hi
    obtain ⟨j, hj, rfl⟩ := Finset.mem_map.mp hi
    exact Finset.mem_map.mpr ⟨r.emb j, Finset.mem_univ _, rfl⟩
  iapply (wp_store (m := M) (r := r) (w := w) (f := f) Variants.none (c : Thread nD τ) none Set.univ hS) $$ H
  iintro H
  iapply WP_ret
  iapply Hk
  iexists _
  isplitr
  swap; · iexact H
  ipureintro
  subst hf
  funext i
  by_cases h : ∃ x, r.emb x = i
  · obtain ⟨x, rfl⟩ := h
    rw [updR_emb]
    exact View.read_write_of_mem (v := M.access r) f w (Finset.mem_univ x)
  · rw [updR_of_ne _ _ _ _ fun x hx => h ⟨x, hx⟩, View.read_apply, View.read_apply, View.write_of_not_mem]
    · intro hi
      obtain ⟨x, -, hx⟩ := Finset.mem_map.mp hi
      exact h ⟨x, M.view.emb.injective hx⟩

theorem own_written (c : Dev nD) {sp : Space} {s : Shape} {e : EltTy} (dst : Memref sig .tc sp s e) (f : Buf (Elt F) (dst.view.loc (c : Thread nD τ))) (w : s.Idx → Elt F e) :
    (dst.view.loc (c : Thread nD τ) ↦[dst.view.set]{fullShare} (dst.view.write (Elt F) f w Finset.univ) : sProp (MM F)) ⊢ owns (c : Thread nD τ) dst fullShare w := by
  unfold owns
  iintro H
  iexists _
  isplitr
  swap; · iexact H
  ipureintro
  exact View.read_write_univ ..

/-- One copy of a batch. -/
theorem own_dma (c : Dev nD) {sp sp' : Space} {s : Shape} {e : EltTy} (src : Memref sig .tc sp s e) (dst : Memref sig .tc sp' s e) (sem : DmaSem sig)
    (hsrc : src.view.WordExact) (hdst : dst.view.WordExact) (hsem : DmaTarget.Typed (nD := nD) sp (.dma sem) (.here (p := (Proc.tc : Proc τ)) dst))
    (q : PosShare TreeShare) (fs : Buf (Elt F) (src.view.loc (c : Thread nD τ))) {n : ℕ} (A : Fin n → ℕ) (D : Fin n → sProp (MM F)) (j : ℕ) (hj : j < n)
    (hA : dst.view.amount (.dma sem) = A ⟨j, hj⟩)
    (hD : iprop(owns (c : Thread nD τ) dst fullShare (src.view.read (Elt F) fs) ∗ (src.view.loc (c : Thread nD τ) ↦[src.view.set]{q} fs)) ⊢ D ⟨j, hj⟩)
    (Q : PUnit → sProp (MM F)) :
    iprop((src.view.loc (c : Thread nD τ) ↦[src.view.set]{q} fs) ∗ (∃ X, owns (c : Thread nD τ) dst fullShare X)
        ∗ MixedBatch countersEmb (c : Thread nD τ) (.dma sem) () A D j 0
        ∗ (MixedBatch countersEmb (c : Thread nD τ) (.dma sem) () A D (j + 1) 0 -∗ Q ⟨⟩))
      ⊢ WP c (Prog.lift (.enqueueDma src (.here dst) (.dma sem) hsrc hdst hsem)) Q := by
  unfold owns
  iintro ⟨Hs, ⟨%X, %f, %hf, Hd⟩, HB, Hk⟩
  iapply (Transfers.wp_dmaMixedBatch (Lvl := ℕ) countersEmb Variants.none (c : Thread nD τ) none (src := src) (dst := dst) (via := ReadAs.same) (fs := fs) (q := q) (fd := f) () A
    (Finset.Subset.refl _) hj hA (Nat.zero_le _) (D := D)
    (by
      refine (BI.sep_mono_l ?_).trans hD
      exact own_written c dst f _)) $$ [Hs Hd HB]
  · isplitl [Hs]; · iexact Hs
    isplitl [Hd]; · iexact Hd
    iexact HB
  iintro HB
  iapply WP_ret
  iapply Hk
  iexact HB

/-- A wait that is not a batch's last, and the last. -/
theorem own_wait (c : Dev nD) {sp sp' : Space} {s : Shape} {e : EltTy} (src : Memref sig .tc sp s e) (dst : Memref sig .tc sp' s e) (sem : DmaSem sig)
    (hsrc : src.view.WordExact) (hdst : dst.view.WordExact) {n : ℕ} (A : Fin n → ℕ) (D : Fin n → sProp (MM F)) (u J : ℕ)
    (hJ : dst.view.dmaCredit = J) (hu : u + J ≤ sumTo A n) (Q : PUnit → sProp (MM F)) :
    iprop(MixedBatch countersEmb (c : Thread nD τ) (.dma sem) () A D n u ∗ (∃ W, owes (c : Thread nD τ) 0 W)
        ∗ (iprop(MixedBatch countersEmb (c : Thread nD τ) (.dma sem) () A D n (u + J) ∗ (∃ W, owes (c : Thread nD τ) 0 W)) -∗ Q ⟨⟩))
      ⊢ WP c (Prog.lift (.waitDma2 sem src dst hsrc hdst)) Q := by
  iintro ⟨HB, ⟨%W, HW⟩, Hk⟩
  iapply (Transfers.wp_waitMixedBatch (Lvl := ℕ) countersEmb Variants.none (c : Thread nD τ) none () hJ hu) $$ [HB HW]
  · isplitl [HB]; · iexact HB
    iexact HW
  iintro ⟨HB, HW⟩
  iapply WP_ret
  iapply Hk
  isplitl [HB]; · iexact HB
  iexists _; iexact HW
theorem own_waitAll (c : Dev nD) {sp sp' : Space} {s : Shape} {e : EltTy} (src : Memref sig .tc sp s e) (dst : Memref sig .tc sp' s e) (sem : DmaSem sig)
    (hsrc : src.view.WordExact) (hdst : dst.view.WordExact) {n : ℕ} (A : Fin n → ℕ) (D : Fin n → sProp (MM F)) (u J : ℕ)
    (hJ : dst.view.dmaCredit = J) (hA0 : ∀ t, 0 < A t) (hu : u + J = sumTo A n) (Q : PUnit → sProp (MM F)) :
    iprop(MixedBatch countersEmb (c : Thread nD τ) (.dma sem) () A D n u ∗ (∃ W, owes (c : Thread nD τ) 0 W)
        ∗ (iprop(bigSep Finset.univ D ∗ semVal ((c : Thread nD τ), .dma sem) 0 ∗ (∃ W, owes (c : Thread nD τ) 0 W)) -∗ Q ⟨⟩))
      ⊢ WP c (Prog.lift (.waitDma2 sem src dst hsrc hdst)) Q := by
  iintro ⟨HB, ⟨%W, HW⟩, Hk⟩
  iapply (Transfers.wp_waitMixedBatchAll (Lvl := ℕ) countersEmb Variants.none (c : Thread nD τ) none () hJ hA0 hu) $$ [HB HW]
  · isplitl [HB]; · iexact HB
    iexact HW
  iintro ⟨HD, Hs, HW⟩
  iapply WP_ret
  iapply Hk
  isplitl [HD]; · iexact HD
  isplitl [Hs]; · iexact Hs
  iexists _; iexact HW

/-- A counted run of steps, by an invariant. -/
theorem wp_upTo (c : Dev nD) (I : ℕ → sProp (MM F)) (N : ℕ) (f : (i : ℕ) → i < N → PR F PUnit)
    (h : ∀ i hi, I i ⊢ WP c (f i hi) fun _ => I (i + 1)) (Q : PUnit → sProp (MM F)) :
    iprop(I 0 ∗ (I N -∗ Q ⟨⟩)) ⊢ WP c (upTo N f) Q := by
  unfold upTo
  suffices H : ∀ n i (hin : i + n ≤ N) (hN : i + n = N), iprop(I i ∗ (I N -∗ Q ⟨⟩)) ⊢ WP c
      (Nat.rec (motive := fun n => (i : ℕ) → i + n ≤ N → PR F PUnit) (fun _ _ => .ret ⟨⟩)
        (fun n ih i h => (f i (by omega)).bind fun _ => ih (i + 1) (by omega)) n i hin) Q by
    exact H N 0 _ (by omega)
  intro n
  induction n with
  | zero =>
    intro i hin hN
    obtain rfl : i = N := by omega
    iintro ⟨HI, Hk⟩
    iapply WP_ret
    iapply Hk; iexact HI
  | succ n ih =>
    intro i hin hN
    show _ ⊢ WP c ((f i _).bind _) Q
    rw [WP_bind]
    refine (BI.sep_mono_l (h i (by omega))).trans ((wp_frame_r _ _ _).trans (wp_mono _ _ _ fun _ => ?_))
    exact ih (i + 1) (by omega) (by omega)

end Cert.DownIdeal
-- ==== Proof.DownIdeal.Dot.lean ====
/-
  A contraction's run: what it loads off a slot's planes, and what it returns.
-/
module

public import proofs.«01_k».proof.Proof.DownIdeal.Rules

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts₀ Facts K0.R1.Facts₀ K0.R2.Facts₀ Shapes1.Facts₀ Shapes2.Facts₀ Shapes3.Facts₀

variable {F : FTy → Type} [FloatOps F] [Facts]

/-! ## The values -/

/-- The scales widened. -/
def wid (S : Vec F S432x128 .bf16) : FVec F S432x128 .f32 := extf .f32 S bitsLt_bf16_f32

/-- Quarter `i` of tile `kt` of a column block with codes `C` and scales `S`. -/
def quartOf (C : Vec F S6912x128 .i8) (S : Vec F S432x128 .bf16) (kt i : ℕ) (hk : kt < 54) (hi : i < 4) : Quart F where
  c := fun x => C (ix2 ⟨kt * 128 + i * 32 + (x 2).val, by have h : (x 2).val < 32 := (x 2).isLt; omega⟩ (x 3))
  s0 := fun x => wid S (ix2 ⟨2 * (kt * 4 + i), by omega⟩ (x 3))
  s1 := fun x => wid S (ix2 ⟨2 * (kt * 4 + i) + 1, by omega⟩ (x 3))
/-- A column block of a tile. -/
def colOf (C : Vec F S6912x128 .i8) (S : Vec F S432x128 .bf16) (kt : ℕ) (hk : kt < 54) : FVec F S256x128 .bf16 :=
  colW (quartOf C S kt 0 hk (by omega)) (quartOf C S kt 1 hk (by omega)) (quartOf C S kt 2 hk (by omega)) (quartOf C S kt 3 hk (by omega))
/-- The tile's block of rows of the left operand. -/
def actOf (H : Vec F S32x13824 .bf16) (kt : ℕ) (hk : kt < 54) : Vec F S32x256 .bf16 :=
  fun x => H (ix2 (x 0) ⟨kt * 256 + (x 1).val, by have h : (x 1).val < 256 := (x 1).isLt; omega⟩)
/-- A tile. -/
def tileOf (C0 C1 : Vec F S6912x128 .i8) (S0 S1 : Vec F S432x128 .bf16) (H : Vec F S32x13824 .bf16) (kt : ℕ) (hk : kt < 54) (acc : FVec F S32x256 .f32) : FVec F S32x256 .f32 :=
  tileV acc (colOf C0 S0 kt hk) (colOf C1 S1 kt hk) (actOf H kt hk)
/-- `n` pairs of tiles from pair `p` on. -/
def dotFrom (C0 C1 : Vec F S6912x128 .i8) (S0 S1 : Vec F S432x128 .bf16) (H : Vec F S32x13824 .bf16) : (n p : ℕ) → p + n ≤ 27 → FVec F S32x256 .f32 → FVec F S32x256 .f32
  | 0, _, _, acc => acc
  | n + 1, p, h, acc => dotFrom C0 C1 S0 S1 H n (p + 1) (by omega) (tileOf C0 C1 S0 S1 H (p * 2 + 1) (by omega) (tileOf C0 C1 S0 S1 H (p * 2) (by omega) acc))
/-- The contraction. -/
def dotOf (C0 C1 : Vec F S6912x128 .i8) (S0 S1 : Vec F S432x128 .bf16) (H : Vec F S32x13824 .bf16) : FVec F S32x256 .f32 :=
  dotFrom C0 C1 S0 S1 H 27 0 (by omega) (broadcast S32x256 (Scalar.ofBits .f32 0x00000000#32))

/-! ## The scale rows -/

theorem scPair_apply (v : Vec F S1x1x16x128 .bf16) (r : Fin 8) (h : Fin 2) (l : Fin 128) :
    scPair v (ix3 r h l) = (extf .f32 v bitsLt_bf16_f32 : FVec F S1x1x16x128 .f32) (ix4 (0 : Fin 1) (0 : Fin 1) ⟨2 * r.val + h.val, by omega⟩ l) := by
  unfold scPair
  show (extf .f32 v bitsLt_bf16_f32 : FVec F S1x1x16x128 .f32) (Shape.reshapeEquiv _ (Shape.reshapeEquiv _ (ix3 r h l))) = _
  congr 1
  rw [Shape.reshapeEquiv_reshapeEquiv]
  apply Shape.reshapeEquiv_eq_of_rowMajor
  rw [Shape.rowMajor_val_three, Shape.rowMajor_val_four]
  show ((0 * 1 + 0) * 16 + (2 * r.val + h.val)) * 128 + l.val = (r.val * 2 + h.val) * 128 + l.val
  omega
theorem scEven_apply (v : Vec F S1x1x16x128 .bf16) (x : S1x1x8x128.Idx) :
    scEven v x = (extf .f32 v bitsLt_bf16_f32 : FVec F S1x1x16x128 .f32) (ix4 (0 : Fin 1) (0 : Fin 1) ⟨2 * (x 2).val, by have h : (x 2).val < 8 := (x 2).isLt; omega⟩ (x 3)) := by
  have e : scEven v x = scPair v (ix3 (x 2) (0 : Fin 2) (x 3)) := by
    unfold scEven
    show extractStridedSlice S8x1x128 ![0, 0, 0] (scPair v) slices_S8x2x128_o0_0_0_S8x1x128 (Shape.reshapeEquiv _ (Shape.reshapeEquiv _ x)) = _
    rw [Shape.reshapeEquiv_reshapeEquiv]
    have h : Shape.reshapeEquiv (s := S8x1x128) (s' := S1x1x8x128) (by decide) x = ix3 (x 2) (0 : Fin 1) (x 3) := by
      apply Shape.reshapeEquiv_eq_of_rowMajor
      have h0 : (x 0).val = 0 := by have h : (x 0).val < 1 := (x 0).isLt; omega
      have h1 : (x 1).val = 0 := by have h : (x 1).val < 1 := (x 1).isLt; omega
      refine (Shape.rowMajor_val_three _).trans (Eq.trans ?_ (Shape.rowMajor_val_four _).symm)
      show ((x 2).val * 1 + 0) * 128 + (x 3).val = (((x 0).val * 1 + (x 1).val) * 8 + (x 2).val) * 128 + (x 3).val
      omega
    rw [h]
    unfold extractStridedSlice
    congr 1
    funext a; fin_cases a <;> apply Fin.ext <;> simp [ix3]
  exact e.trans (scPair_apply v _ _ _)
theorem scOdd_apply (v : Vec F S1x1x16x128 .bf16) (x : S1x1x8x128.Idx) :
    scOdd v x = (extf .f32 v bitsLt_bf16_f32 : FVec F S1x1x16x128 .f32) (ix4 (0 : Fin 1) (0 : Fin 1) ⟨2 * (x 2).val + 1, by have h : (x 2).val < 8 := (x 2).isLt; omega⟩ (x 3)) := by
  have e : scOdd v x = scPair v (ix3 (x 2) (1 : Fin 2) (x 3)) := by
    unfold scOdd
    show extractStridedSlice S8x1x128 ![0, 1, 0] (scPair v) slices_S8x2x128_o0_1_0_S8x1x128 (Shape.reshapeEquiv _ (Shape.reshapeEquiv _ x)) = _
    rw [Shape.reshapeEquiv_reshapeEquiv]
    have h : Shape.reshapeEquiv (s := S8x1x128) (s' := S1x1x8x128) (by decide) x = ix3 (x 2) (0 : Fin 1) (x 3) := by
      apply Shape.reshapeEquiv_eq_of_rowMajor
      have h0 : (x 0).val = 0 := by have h : (x 0).val < 1 := (x 0).isLt; omega
      have h1 : (x 1).val = 0 := by have h : (x 1).val < 1 := (x 1).isLt; omega
      refine (Shape.rowMajor_val_three _).trans (Eq.trans ?_ (Shape.rowMajor_val_four _).symm)
      show ((x 2).val * 1 + 0) * 128 + (x 3).val = (((x 0).val * 1 + (x 1).val) * 8 + (x 2).val) * 128 + (x 3).val
      omega
    rw [h]
    unfold extractStridedSlice
    congr 1
    funext a; fin_cases a <;> apply Fin.ext <;> simp [ix3]
  exact e.trans (scPair_apply v _ _ _)

/-- Block `b`'s scale rows of pair `p` are those of `S`, sorted by parity. -/
def Known (b p : ℕ) (S : Vec F S432x128 .bf16) (P : S4x2x216x128.Idx → F .f32) : Prop :=
  ∀ i : S4x2x216x128.Idx, (i 0).val = b → 8 * p ≤ (i 2).val → (i 2).val < 8 * p + 8 →
    P i = wid S (ix2 ⟨2 * (i 2).val + (i 1).val, by have h1 : (i 1).val < 2 := (i 1).isLt; have h2 : (i 2).val < 216 := (i 2).isLt; omega⟩ (i 3))

section Specs

variable (arg6 : Memref sig .tc .vmem S32x5120 .bf16) (harg6 : arg6.IsWhole)
  (arg8 : Memref sig .tc .vmem S2x4x6912x128 .i8) (arg9 : Memref sig .tc .vmem S2x4x432x128 .bf16)
  (arg10 : Memref sig .tc .vmem S4x2x216x128 .f32) (arg11 : Memref sig .tc .vmem S32x13824 .bf16) (c : Dev nD)

theorem refill_known {b p : ℕ} (hb : b < 4) (hp : p < 27) (S : Vec F S432x128 .bf16) (P : S4x2x216x128.Idx → F .f32) (v : Vec F S1x1x16x128 .bf16)
    (hv : v = fun x => S (ix2 ⟨p * 16 + (x 2).val, by have h : (x 2).val < 16 := (x 2).isLt; omega⟩ (x 3))) :
    Known b p S (updR (Rect.unit (s := S4x2x216x128) ![b, 1, p * 8, 0] S1x1x8x128.size (inSP hb (by omega) (by omega))) (scOdd v)
      (updR (Rect.unit (s := S4x2x216x128) ![b, 0, p * 8, 0] S1x1x8x128.size (inSP hb (by omega) (by omega))) (scEven v) P)) := by
  intro i h0 h1 h2
  have hh : (i 1).val < 2 := (i 1).isLt
  set r1 := Rect.unit (s := S4x2x216x128) ![b, 1, p * 8, 0] S1x1x8x128.size (inSP hb (by omega) (by omega)) with hr1
  set r0 := Rect.unit (s := S4x2x216x128) ![b, 0, p * 8, 0] S1x1x8x128.size (inSP hb (by omega) (by omega)) with hr0
  by_cases h : (i 1).val = 1
  · obtain ⟨x, hx, hx2, hx3⟩ : ∃ x : S1x1x8x128.Idx, r1.emb x = i ∧ p * 8 + (x 2).val = (i 2).val ∧ x 3 = i 3 := by
      refine ⟨ix4 (0 : Fin 1) (0 : Fin 1) ⟨(i 2).val - p * 8, by omega⟩ (i 3), ?_, ?_, rfl⟩
      · funext a; fin_cases a <;> apply Fin.ext
        · show b + 1 * 0 = (i 0).val; omega
        · show 1 + 1 * 0 = (i 1).val; omega
        · show p * 8 + 1 * ((i 2).val - p * 8) = (i 2).val; omega
        · show 0 + 1 * (i 3).val = (i 3).val; omega
      · show p * 8 + ((i 2).val - p * 8) = _; omega
    rw [← hx, updR_emb, scOdd_apply, hv, hx]
    unfold wid
    show (extf .f32 S bitsLt_bf16_f32 : FVec F S432x128 .f32) _ = _
    congr 1
    funext a; fin_cases a
    · apply Fin.ext; show p * 16 + (2 * (x 2).val + 1) = 2 * (i 2).val + (i 1).val; omega
    · exact hx3
  · have h : (i 1).val = 0 := by omega
    obtain ⟨x, hx, hx2, hx3⟩ : ∃ x : S1x1x8x128.Idx, r0.emb x = i ∧ p * 8 + (x 2).val = (i 2).val ∧ x 3 = i 3 := by
      refine ⟨ix4 (0 : Fin 1) (0 : Fin 1) ⟨(i 2).val - p * 8, by omega⟩ (i 3), ?_, ?_, rfl⟩
      · funext a; fin_cases a <;> apply Fin.ext
        · show b + 1 * 0 = (i 0).val; omega
        · show 0 + 1 * 0 = (i 1).val; omega
        · show p * 8 + 1 * ((i 2).val - p * 8) = (i 2).val; omega
        · show 0 + 1 * (i 3).val = (i 3).val; omega
      · show p * 8 + ((i 2).val - p * 8) = _; omega
    rw [updR_of_ne]
    · rw [← hx, updR_emb, scEven_apply, hv, hx]
      unfold wid
      show (extf .f32 S bitsLt_bf16_f32 : FVec F S432x128 .f32) _ = _
      congr 1
      funext a; fin_cases a
      · apply Fin.ext; show p * 16 + 2 * (x 2).val = 2 * (i 2).val + (i 1).val; omega
      · exact hx3
    · intro y hy
      have h' := congrArg (fun z : S4x2x216x128.Idx => (z 1).val) hy
      have h'' : 1 + 1 * (y 1).val = (i 1).val := h'
      omega
theorem refill_keeps {b b' p : ℕ} (hne : b' ≠ b) (hb : b < 4) (hp : p < 27) (p' : ℕ) (S' : Vec F S432x128 .bf16) (P : S4x2x216x128.Idx → F .f32) (e o : Vec F S1x1x8x128 .f32)
    (hP : Known b' p' S' P) :
    Known b' p' S' (updR (Rect.unit (s := S4x2x216x128) ![b, 1, p * 8, 0] S1x1x8x128.size (inSP hb (by omega) (by omega))) o
      (updR (Rect.unit (s := S4x2x216x128) ![b, 0, p * 8, 0] S1x1x8x128.size (inSP hb (by omega) (by omega))) e P)) := by
  intro i h0 h1 h2
  rw [updR_of_ne, updR_of_ne]
  · exact hP i h0 h1 h2
  all_goals
    intro y hy
    have h' := congrArg (fun z : S4x2x216x128.Idx => (z 0).val) hy
    have h'' : b + 1 * (y 0).val = (i 0).val := h'
    have h3 : (y 0).val < 1 := (y 0).isLt
    omega

/-- A load of codes off a plane. -/
theorem loadC_wp (s b r : ℕ) (hs : s < 2) (hb : b < 4) (hr : r + 32 ≤ 6912) (hl) (C : Vec F S6912x128 .i8) (Q : Vec F S1x1x32x128 .i8 → sProp (MM F)) :
    iprop(owns (c : Thread nD τ) (plC arg8 s b hs hb) fullShare C ∗ (owns (c : Thread nD τ) (plC arg8 s b hs hb) fullShare C
        -∗ Q (fun x => C (ix2 ⟨r + (x 2).val, by have h : (x 2).val < 32 := (x 2).isLt; omega⟩ (x 3)))))
      ⊢ WP c (Prog.lift (.load arg8 (Rect.unit (s := S2x4x6912x128) ![s, b, r, 0] S1x1x32x128.size (inSC hs hb hr)).toLoadRect hl)) Q :=
  own_load_sub c arg8 (Rect.unit (s := S2x4x6912x128) ![s, b, 0, 0] S1x1x6912x128.size (inSCp hs hb)) (fun _ => rfl) squeezes_S1x1x6912x128_S6912x128 (Rect.unit (s := S2x4x6912x128) ![s, b, r, 0] S1x1x32x128.size (inSC hs hb hr)).toLoadRect hl fullShare C
    (fun x => ix2 ⟨r + (x 2).val, by have h : (x 2).val < 32 := (x 2).isLt; omega⟩ (x 3)) (by
      intro x
      refine Eq.trans ?_ (congrArg _ (reshapeEquiv_ix2_11ab _ _ _)).symm
      have h0 : (x 0).val < 1 := (x 0).isLt
      have h1 : (x 1).val < 1 := (x 1).isLt
      funext a; fin_cases a <;> apply Fin.ext
      · show s + 1 * (x 0).val = s + 1 * 0; omega
      · show b + 1 * (x 1).val = b + 1 * 0; omega
      · show r + 1 * (x 2).val = 0 + 1 * (r + (x 2).val); omega
      · rfl) Q
/-- A load of scales off a plane. -/
theorem loadS_wp (s b r : ℕ) (hs : s < 2) (hb : b < 4) (hr : r + 16 ≤ 432) (hl) (S : Vec F S432x128 .bf16) (Q : Vec F S1x1x16x128 .bf16 → sProp (MM F)) :
    iprop(owns (c : Thread nD τ) (plS arg9 s b hs hb) fullShare S ∗ (owns (c : Thread nD τ) (plS arg9 s b hs hb) fullShare S
        -∗ Q (fun x => S (ix2 ⟨r + (x 2).val, by have h : (x 2).val < 16 := (x 2).isLt; omega⟩ (x 3)))))
      ⊢ WP c (Prog.lift (.load arg9 (Rect.unit (s := S2x4x432x128) ![s, b, r, 0] S1x1x16x128.size (inSS hs hb hr)).toLoadRect hl)) Q :=
  own_load_sub c arg9 (Rect.unit (s := S2x4x432x128) ![s, b, 0, 0] S1x1x432x128.size (inSSp hs hb)) (fun _ => rfl) squeezes_S1x1x432x128_S432x128 (Rect.unit (s := S2x4x432x128) ![s, b, r, 0] S1x1x16x128.size (inSS hs hb hr)).toLoadRect hl fullShare S
    (fun x => ix2 ⟨r + (x 2).val, by have h : (x 2).val < 16 := (x 2).isLt; omega⟩ (x 3)) (by
      intro x
      refine Eq.trans ?_ (congrArg _ (reshapeEquiv_ix2_11ab _ _ _)).symm
      have h0 : (x 0).val < 1 := (x 0).isLt
      have h1 : (x 1).val < 1 := (x 1).isLt
      funext a; fin_cases a <;> apply Fin.ext
      · show s + 1 * (x 0).val = s + 1 * 0; omega
      · show b + 1 * (x 1).val = b + 1 * 0; omega
      · show r + 1 * (x 2).val = 0 + 1 * (r + (x 2).val); omega
      · rfl) Q

theorem refill_wp (s b p : ℕ) (hs : s < 2) (hb : b < 4) (hp : p < 27) (S : Vec F S432x128 .bf16) (P : S4x2x216x128.Idx → F .f32) (Q : PUnit → sProp (MM F)) :
    iprop(owns (c : Thread nD τ) (plS arg9 s b hs hb) fullShare S ∗ owns (c : Thread nD τ) arg10 fullShare P
        ∗ (∀ P', ⌜Known b p S P' ∧ ∀ b' p' S', b' ≠ b → Known b' p' S' P → Known b' p' S' P'⌝ -∗ owns (c : Thread nD τ) (plS arg9 s b hs hb) fullShare S -∗ owns (c : Thread nD τ) arg10 fullShare P' -∗ Q ⟨⟩))
      ⊢ WP c (refillP arg9 arg10 s b p hs hb hp) Q := by
  unfold refillP
  rw [WP_bind']
  iintro ⟨HS, HP, Hk⟩
  iapply (loadS_wp arg9 c s b (p * 16) hs hb (by omega) _ S)
  isplitl [HS]; · iexact HS
  iintro HS
  beta_reduce
  rw [WP_bind']
  iapply (own_load c arg10 _ _ fullShare P)
  isplitl [HP]; · iexact HP
  iintro HP
  beta_reduce
  rw [WP_bind']
  iapply (own_store c arg10 _ _ _ _ P)
  isplitl [HP]; · iexact HP
  iintro HP
  beta_reduce
  rw [WP_bind']
  iapply (own_load c arg10 _ _ fullShare)
  isplitl [HP]; · iexact HP
  iintro HP
  beta_reduce
  iapply (own_store c arg10 _ _ _ _)
  isplitl [HP]; · iexact HP
  iintro HP
  ispecialize Hk $$ %_ %(⟨refill_known hb hp S P _ rfl, fun b' p' S' hne hP => refill_keeps hne hb hp p' S' P _ _ hP⟩) HS HP
  iexact Hk

theorem quart_val {b kt i : ℕ} (hb : b < 4) (hk : kt < 54) (hi : i < 4) (C : Vec F S6912x128 .i8) (S : Vec F S432x128 .bf16) (P : S4x2x216x128.Idx → F .f32) (hP : Known b (kt / 2) S P) :
    (⟨fun x => C (ix2 ⟨kt * 128 + i * 32 + (x 2).val, by have h : (x 2).val < 32 := (x 2).isLt; omega⟩ (x 3)),
      fun x => P ((⟨![b, 0, kt * 4 + i, 0], S1x1x8x128.size, ![1, 1, 0, 1], inSPs hb (by omega) (by omega)⟩ : LoadRect S4x2x216x128).idx x),
      fun x => P ((⟨![b, 1, kt * 4 + i, 0], S1x1x8x128.size, ![1, 1, 0, 1], inSPs hb (by omega) (by omega)⟩ : LoadRect S4x2x216x128).idx x)⟩ : Quart F)
      = quartOf C S kt i hk hi := by
  unfold quartOf
  congr 1
  · funext x
    have h0 : (x 0).val < 1 := (x 0).isLt
    have h1 : (x 1).val < 1 := (x 1).isLt
    rw [hP]
    · congr 1; funext a; fin_cases a <;> apply Fin.ext
      · show 2 * (kt * 4 + i + 0 * (x 2).val) + (0 + 1 * (x 1).val) = 2 * (kt * 4 + i); omega
      · show 0 + 1 * (x 3).val = (x 3).val; omega
    · show b + 1 * (x 0).val = b; omega
    · show _ ≤ kt * 4 + i + 0 * (x 2).val; omega
    · show kt * 4 + i + 0 * (x 2).val < _; omega
  · funext x
    have h0 : (x 0).val < 1 := (x 0).isLt
    have h1 : (x 1).val < 1 := (x 1).isLt
    rw [hP]
    · congr 1; funext a; fin_cases a <;> apply Fin.ext
      · show 2 * (kt * 4 + i + 0 * (x 2).val) + (1 + 1 * (x 1).val) = 2 * (kt * 4 + i) + 1; omega
      · show 0 + 1 * (x 3).val = (x 3).val; omega
    · show b + 1 * (x 0).val = b; omega
    · show _ ≤ kt * 4 + i + 0 * (x 2).val; omega
    · show kt * 4 + i + 0 * (x 2).val < _; omega

theorem quart_wp (s b kt i : ℕ) (hs : s < 2) (hb : b < 4) (hk : kt < 54) (hi : i < 4) (C : Vec F S6912x128 .i8) (S : Vec F S432x128 .bf16) (P : S4x2x216x128.Idx → F .f32) (hP : Known b (kt / 2) S P)
    (Q : Quart F → sProp (MM F)) :
    iprop(owns (c : Thread nD τ) (plC arg8 s b hs hb) fullShare C ∗ owns (c : Thread nD τ) arg10 fullShare P
        ∗ (owns (c : Thread nD τ) (plC arg8 s b hs hb) fullShare C -∗ owns (c : Thread nD τ) arg10 fullShare P -∗ Q (quartOf C S kt i hk hi)))
      ⊢ WP c (quartP arg8 arg10 s b kt i hs hb hk hi) Q := by
  unfold quartP
  rw [WP_bind']
  iintro ⟨HC, HP, Hk⟩
  iapply (loadC_wp arg8 c s b (kt * 128 + i * 32) hs hb (by omega) _ C)
  isplitl [HC]; · iexact HC
  iintro HC
  beta_reduce
  rw [WP_bind']
  iapply (own_load c arg10 _ _ fullShare P)
  isplitl [HP]; · iexact HP
  iintro HP
  beta_reduce
  rw [WP_bind']
  iapply (own_load c arg10 _ _ fullShare P)
  isplitl [HP]; · iexact HP
  iintro HP
  beta_reduce
  rw [quart_val hb hk hi C S P hP]
  iapply WP_pure
  ispecialize Hk $$ HC HP
  iexact Hk

theorem col_wp (s b kt : ℕ) (hs : s < 2) (hb : b < 4) (hk : kt < 54) (C : Vec F S6912x128 .i8) (S : Vec F S432x128 .bf16) (P : S4x2x216x128.Idx → F .f32) (hP : Known b (kt / 2) S P)
    (Q : FVec F S256x128 .bf16 → sProp (MM F)) :
    iprop(owns (c : Thread nD τ) (plC arg8 s b hs hb) fullShare C ∗ owns (c : Thread nD τ) arg10 fullShare P
        ∗ (owns (c : Thread nD τ) (plC arg8 s b hs hb) fullShare C -∗ owns (c : Thread nD τ) arg10 fullShare P -∗ Q (colOf C S kt hk)))
      ⊢ WP c (colP arg8 arg10 s b kt hs hb hk) Q := by
  unfold colP
  rw [WP_bind']
  iintro ⟨HC, HP, Hk⟩
  iapply (quart_wp arg8 arg10 c s b kt 0 hs hb hk _ C S P hP)
  isplitl [HC]; · iexact HC
  isplitl [HP]; · iexact HP
  iintro HC HP
  beta_reduce
  rw [WP_bind']
  iapply (quart_wp arg8 arg10 c s b kt 1 hs hb hk _ C S P hP)
  isplitl [HC]; · iexact HC
  isplitl [HP]; · iexact HP
  iintro HC HP
  beta_reduce
  rw [WP_bind']
  iapply (quart_wp arg8 arg10 c s b kt 2 hs hb hk _ C S P hP)
  isplitl [HC]; · iexact HC
  isplitl [HP]; · iexact HP
  iintro HC HP
  beta_reduce
  rw [WP_bind']
  iapply (quart_wp arg8 arg10 c s b kt 3 hs hb hk _ C S P hP)
  isplitl [HC]; · iexact HC
  isplitl [HP]; · iexact HP
  iintro HC HP
  beta_reduce
  rw [show colW (quartOf C S kt 0 hk (by omega)) (quartOf C S kt 1 hk (by omega)) (quartOf C S kt 2 hk (by omega)) (quartOf C S kt 3 hk (by omega)) = colOf C S kt hk from rfl]
  iapply WP_pure
  ispecialize Hk $$ HC HP
  iexact Hk

/-- A load of a tile's block of the left operand. -/
theorem loadH_wp (kt : ℕ) (hk : kt < 54) (hl : arg11.view.LoadsAt (Rect.unit (s := S32x13824) ![0, kt * 256] S32x256.size (inSH (by omega))).toLoadRect) (H : Vec F S32x13824 .bf16) (Q : Vec F S32x256 .bf16 → sProp (MM F)) :
    iprop(owns (c : Thread nD τ) arg11 fullShare H ∗ (owns (c : Thread nD τ) arg11 fullShare H -∗ Q (actOf H kt hk)))
      ⊢ WP c (Prog.lift (.load arg11 (Rect.unit (s := S32x13824) ![0, kt * 256] S32x256.size (inSH (by omega))).toLoadRect hl)) Q := by
  have e : (fun x => H ((Rect.unit (s := S32x13824) ![0, kt * 256] S32x256.size (inSH (by omega))).toLoadRect.idx x)) = actOf H kt hk := by
    funext x; unfold actOf; congr 1; funext a; fin_cases a <;> apply Fin.ext
    · show 0 + 1 * (x 0).val = (x 0).val; omega
    · show kt * 256 + 1 * (x 1).val = kt * 256 + (x 1).val; omega
  rw [← e]
  exact own_load c arg11 _ hl fullShare H Q

theorem tile_wp (s b kt : ℕ) (hs : s < 2) (hb : b + 1 < 4) (hk : kt < 54) (acc : FVec F S32x256 .f32) (C0 C1 : Vec F S6912x128 .i8) (S0 S1 : Vec F S432x128 .bf16) (H : Vec F S32x13824 .bf16)
    (P : S4x2x216x128.Idx → F .f32) (hP : Known b (kt / 2) S0 P) (hP' : Known (b + 1) (kt / 2) S1 P) (Q : FVec F S32x256 .f32 → sProp (MM F)) :
    iprop(owns (c : Thread nD τ) (plC arg8 s b hs (by omega)) fullShare C0 ∗ owns (c : Thread nD τ) (plC arg8 s (b + 1) hs hb) fullShare C1
        ∗ owns (c : Thread nD τ) arg10 fullShare P ∗ owns (c : Thread nD τ) arg11 fullShare H
        ∗ (owns (c : Thread nD τ) (plC arg8 s b hs (by omega)) fullShare C0 -∗ owns (c : Thread nD τ) (plC arg8 s (b + 1) hs hb) fullShare C1
          -∗ owns (c : Thread nD τ) arg10 fullShare P -∗ owns (c : Thread nD τ) arg11 fullShare H -∗ Q (tileOf C0 C1 S0 S1 H kt hk acc)))
      ⊢ WP c (tileP arg8 arg10 arg11 s b kt hs hb hk acc) Q := by
  unfold tileP
  rw [WP_bind']
  iintro ⟨HC0, HC1, HP, HH, Hk⟩
  iapply (col_wp arg8 arg10 c s b kt hs _ hk C0 S0 P hP)
  isplitl [HC0]; · iexact HC0
  isplitl [HP]; · iexact HP
  iintro HC0 HP
  beta_reduce
  rw [WP_bind']
  iapply (col_wp arg8 arg10 c s (b + 1) kt hs hb hk C1 S1 P hP')
  isplitl [HC1]; · iexact HC1
  isplitl [HP]; · iexact HP
  iintro HC1 HP
  beta_reduce
  rw [WP_bind']
  iapply (loadH_wp arg11 c kt hk _ H)
  isplitl [HH]; · iexact HH
  iintro HH
  beta_reduce
  rw [show tileV acc (colOf C0 S0 kt hk) (colOf C1 S1 kt hk) (actOf H kt hk) = tileOf C0 C1 S0 S1 H kt hk acc from rfl]
  iapply WP_pure
  ispecialize Hk $$ HC0 HC1 HP HH
  iexact Hk

/-- What a contraction reads: two planes of codes, two of scales, and the left operand. -/
def DR (s b : ℕ) (hs : s < 2) (hb : b + 1 < 4) (C0 C1 : Vec F S6912x128 .i8) (S0 S1 : Vec F S432x128 .bf16) (H : Vec F S32x13824 .bf16) : sProp (MM F) :=
  iprop(owns (c : Thread nD τ) (plC arg8 s b hs (by omega)) fullShare C0 ∗ owns (c : Thread nD τ) (plC arg8 s (b + 1) hs hb) fullShare C1
    ∗ owns (c : Thread nD τ) (plS arg9 s b hs (by omega)) fullShare S0 ∗ owns (c : Thread nD τ) (plS arg9 s (b + 1) hs hb) fullShare S1
    ∗ (∃ P, owns (c : Thread nD τ) arg10 fullShare P) ∗ owns (c : Thread nD τ) arg11 fullShare H)

theorem pair_wp (s b p : ℕ) (hs : s < 2) (hb : b + 1 < 4) (hp : p < 27) (acc : FVec F S32x256 .f32) (C0 C1 : Vec F S6912x128 .i8) (S0 S1 : Vec F S432x128 .bf16) (H : Vec F S32x13824 .bf16)
    (Q : FVec F S32x256 .f32 → sProp (MM F)) :
    iprop(DR arg8 arg9 arg10 arg11 c s b hs hb C0 C1 S0 S1 H
        ∗ (DR arg8 arg9 arg10 arg11 c s b hs hb C0 C1 S0 S1 H -∗ Q (tileOf C0 C1 S0 S1 H (p * 2 + 1) (by omega) (tileOf C0 C1 S0 S1 H (p * 2) (by omega) acc))))
      ⊢ WP c (pairP arg8 arg9 arg10 arg11 s b p hs hb hp acc) Q := by
  unfold pairP DR
  rw [WP_bind']
  iintro ⟨⟨HC0, HC1, HS0, HS1, ⟨%P, HP⟩, HH⟩, Hk⟩
  iapply (refill_wp arg9 arg10 c s b p hs _ hp S0 P)
  isplitl [HS0]; · iexact HS0
  isplitl [HP]; · iexact HP
  iintro %P1 %h1 HS0 HP
  rw [WP_bind']
  iapply (refill_wp arg9 arg10 c s (b + 1) p hs hb hp S1 P1)
  isplitl [HS1]; · iexact HS1
  isplitl [HP]; · iexact HP
  iintro %P2 %h2 HS1 HP
  rw [WP_bind']
  have k0 : Known b p S0 P2 := h2.2 _ _ _ (by omega) h1.1
  have k1 : Known (b + 1) p S1 P2 := h2.1
  iapply (tile_wp arg8 arg10 arg11 c s b (p * 2) hs hb _ acc C0 C1 S0 S1 H P2 (by rwa [show p * 2 / 2 = p by omega]) (by rwa [show p * 2 / 2 = p by omega]))
  isplitl [HC0]; · iexact HC0
  isplitl [HC1]; · iexact HC1
  isplitl [HP]; · iexact HP
  isplitl [HH]; · iexact HH
  iintro HC0 HC1 HP HH
  beta_reduce
  iapply (tile_wp arg8 arg10 arg11 c s b (p * 2 + 1) hs hb _ _ C0 C1 S0 S1 H P2 (by rwa [show (p * 2 + 1) / 2 = p by omega]) (by rwa [show (p * 2 + 1) / 2 = p by omega]))
  isplitl [HC0]; · iexact HC0
  isplitl [HC1]; · iexact HC1
  isplitl [HP]; · iexact HP
  isplitl [HH]; · iexact HH
  iintro HC0 HC1 HP HH
  iapply Hk
  isplitl [HC0]; · iexact HC0
  isplitl [HC1]; · iexact HC1
  isplitl [HS0]; · iexact HS0
  isplitl [HS1]; · iexact HS1
  isplitl [HP]; · iexists P2; iexact HP
  iexact HH

theorem dotFrom_wp (s b : ℕ) (hs : s < 2) (hb : b + 1 < 4) (C0 C1 : Vec F S6912x128 .i8) (S0 S1 : Vec F S432x128 .bf16) (H : Vec F S32x13824 .bf16)
    (Q : FVec F S32x256 .f32 → sProp (MM F)) (n : ℕ) : ∀ (p : ℕ) (h : p + n ≤ 27) (acc : FVec F S32x256 .f32),
    iprop(DR arg8 arg9 arg10 arg11 c s b hs hb C0 C1 S0 S1 H
        ∗ (DR arg8 arg9 arg10 arg11 c s b hs hb C0 C1 S0 S1 H -∗ Q (dotFrom C0 C1 S0 S1 H n p h acc)))
      ⊢ WP c (dotFromP arg8 arg9 arg10 arg11 s b hs hb n p h acc) Q := by
  induction n with
  | zero =>
    intro p h acc
    show iprop(_ ∗ (_ -∗ Q acc)) ⊢ WP c (.ret acc) Q
    iintro ⟨HD, Hk⟩
    iapply WP_ret
    iapply Hk; iexact HD
  | succ n ih =>
    intro p h acc
    show _ ⊢ WP c ((pairP arg8 arg9 arg10 arg11 s b p hs hb (by omega) acc).bind fun a => dotFromP arg8 arg9 arg10 arg11 s b hs hb n (p + 1) (by omega) a) Q
    rw [WP_bind]
    iintro ⟨HD, Hk⟩
    iapply (pair_wp arg8 arg9 arg10 arg11 c s b p hs hb _ acc C0 C1 S0 S1 H)
    isplitl [HD]; · iexact HD
    iintro HD
    iapply (ih (p + 1) _ _)
    isplitl [HD]; · iexact HD
    iexact Hk
theorem dot_wp (s b : ℕ) (hs : s < 2) (hb : b + 1 < 4) (C0 C1 : Vec F S6912x128 .i8) (S0 S1 : Vec F S432x128 .bf16) (H : Vec F S32x13824 .bf16)
    (Q : FVec F S32x256 .f32 → sProp (MM F)) :
    iprop(DR arg8 arg9 arg10 arg11 c s b hs hb C0 C1 S0 S1 H
        ∗ (DR arg8 arg9 arg10 arg11 c s b hs hb C0 C1 S0 S1 H -∗ Q (dotOf C0 C1 S0 S1 H)))
      ⊢ WP c (dotP arg8 arg9 arg10 arg11 s b hs hb) Q :=
  dotFrom_wp arg8 arg9 arg10 arg11 c s b hs hb C0 C1 S0 S1 H Q 27 0 (by omega) _

end Specs

end Cert.DownIdeal
-- ==== Proof.DownIdeal.Copy.lean ====
/-
  The copies of one trip's weights into a slot: their batch on the slot's semaphore cell, the starts and the waits.
-/
module

public import proofs.«01_k».proof.Proof.DownIdeal.Dot

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts]

/-! ## Steps over the members of a family -/

theorem bs_erase {I : Type} [DecidableEq I] {s : Finset I} (i : I) (hi : i ∈ s) (Φ : I → sProp (MM F)) : bigSep s Φ = iprop(Φ i ∗ bigSep (s.erase i) Φ) := bigSep_erase hi
theorem bs_split {I : Type} [Fintype I] [DecidableEq I] (i : I) (Φ : I → sProp (MM F)) : bigSep Finset.univ Φ = iprop(Φ i ∗ bigSep (Finset.univ.erase i) Φ) := bigSep_univ_split i
theorem bs_insert {I : Type} [DecidableEq I] {s : Finset I} (i : I) (hi : i ∉ s) (Φ : I → sProp (MM F)) : bigSep (insert i s) Φ = iprop(Φ i ∗ bigSep s Φ) := bigSep_insert hi
theorem bs_sep {I : Type} (s : Finset I) (Φ Ψ : I → sProp (MM F)) : bigSep s (fun i => iprop(Φ i ∗ Ψ i)) = iprop(bigSep s Φ ∗ bigSep s Ψ) := bigSep_sep s Φ Ψ

/-- Replace member `k` of a family whose first `k` members are replaced. -/
theorem bigSep_step {N : ℕ} (A B : Fin N → sProp (MM F)) (k : ℕ) (hk : k < N) :
    bigSep Finset.univ (fun j : Fin N => if j.val < k then B j else A j)
      ⊢ iprop(A ⟨k, hk⟩ ∗ (B ⟨k, hk⟩ -∗ bigSep Finset.univ (fun j : Fin N => if j.val < k + 1 then B j else A j))) := by
  rw [bs_split (⟨k, hk⟩ : Fin N) (fun j : Fin N => if j.val < k then B j else A j), bs_split (⟨k, hk⟩ : Fin N) (fun j : Fin N => if j.val < k + 1 then B j else A j)]
  rw [if_neg (show ¬ (⟨k, hk⟩ : Fin N).val < k from Nat.lt_irrefl k), if_pos (show (⟨k, hk⟩ : Fin N).val < k + 1 from Nat.lt_succ_self k)]
  rw [bigSep_congr (s := Finset.univ.erase (⟨k, hk⟩ : Fin N)) (Φ := fun j : Fin N => if j.val < k then B j else A j) (Ψ := fun j : Fin N => if j.val < k + 1 then B j else A j) (by
    intro i hi
    have hne : i.val ≠ k := fun h => (Finset.mem_erase.mp hi).1 (Fin.ext h)
    by_cases h : i.val < k
    · rw [if_pos h, if_pos (by omega)]
    · rw [if_neg h, if_neg (by omega)])]
  iintro ⟨HA, HR⟩
  isplitl [HA]; · iexact HA
  iintro HB
  isplitl [HB]; · iexact HB
  iexact HR
theorem bigSep_step_first {N : ℕ} (A B : Fin N → sProp (MM F)) :
    bigSep Finset.univ A = bigSep Finset.univ (fun j : Fin N => if j.val < 0 then B j else A j) := by
  refine bigSep_congr fun i _ => ?_
  rw [if_neg (by omega)]
theorem bigSep_step_last {N : ℕ} (A B : Fin N → sProp (MM F)) :
    bigSep Finset.univ (fun j : Fin N => if j.val < N then B j else A j) = bigSep Finset.univ B := by
  refine bigSep_congr fun i _ => ?_
  rw [if_pos i.2]
/-- Borrow two members. -/
theorem bigSep_take2 {N : ℕ} (A : Fin N → sProp (MM F)) (i j : Fin N) (h : j ≠ i) :
    bigSep Finset.univ A ⊢ iprop(A i ∗ A j ∗ (A i -∗ A j -∗ bigSep Finset.univ A)) := by
  rw [bs_split i A, bs_erase j (Finset.mem_erase.mpr ⟨h, Finset.mem_univ _⟩) A]
  iintro ⟨HA, HB, HR⟩
  isplitl [HA]; · iexact HA
  isplitl [HB]; · iexact HB
  iintro HA HB
  isplitl [HA]; · iexact HA
  isplitl [HB]; · iexact HB
  iexact HR

/-- Sums of more members are no less. -/
theorem sumTo_le {n : ℕ} (A : Fin n → ℕ) {j k : ℕ} (h : j ≤ k) : sumTo A j ≤ sumTo A k := by
  induction h with
  | refl => exact Nat.le_refl _
  | step _ ih => exact ih.trans (Nat.le_add_right _ _)

/-! ## A trip's windows -/

/-- The 128 columns of a code array from column `j` on, of a scale array. -/
def cwin (g : Vec F S6912x5120 .i8) (j : ℕ) : Vec F S6912x128 .i8 := fun y => g (ix2 (y 0) ⟨(j + (y 1).val) % 5120, Nat.mod_lt _ (by omega)⟩)
def swin (g : Vec F S432x5120 .bf16) (j : ℕ) : Vec F S432x128 .bf16 := fun y => g (ix2 (y 0) ⟨(j + (y 1).val) % 5120, Nat.mod_lt _ (by omega)⟩)

/-- The kernel's memrefs, and what the arrays in slow memory hold. -/
structure Env (F : FTy → Type) [FloatOps F] (c : Dev nD) where
  a0 : Memref sig .tc .vmem S32x5120 .f32
  h0 : a0.IsWhole
  a2 : Memref sig .tc .hbm S6912x5120 .i8
  h2 : a2.IsWhole
  a3 : Memref sig .tc .hbm S432x5120 .bf16
  h3 : a3.IsWhole
  a6 : Memref sig .tc .vmem S32x5120 .bf16
  h6 : a6.IsWhole
  a8 : Memref sig .tc .vmem S2x4x6912x128 .i8
  h8 : a8.IsWhole
  a9 : Memref sig .tc .vmem S2x4x432x128 .bf16
  h9 : a9.IsWhole
  a10 : Memref sig .tc .vmem S4x2x216x128 .f32
  h10 : a10.IsWhole
  a11 : Memref sig .tc .vmem S32x13824 .bf16
  h11 : a11.IsWhole
  a13 : DmaSems sig S2
  f2 : Buf (Elt F) (a2.view.loc (c : Thread nD τ))
  f3 : Buf (Elt F) (a3.view.loc (c : Thread nD τ))

variable {c : Dev nD} (E : Env F c)

theorem read_wiC (w : Memref sig .tc .hbm S6912x5120 .i8) (j : ℕ) (hj : j + 128 ≤ 5120) (f : Buf (Elt F) (w.view.loc (c : Thread nD τ))) :
    (wiC w j hj).view.read (Elt F) f = cwin (w.view.read (Elt F) f) j := by
  funext y
  have h1 : (y 1).val < 128 := (y 1).isLt
  show w.view.read (Elt F) f ((Rect.unit (s := S6912x5120) ![0, j] S6912x128.size (inHC hj)).emb y) = _
  unfold cwin
  congr 1
  funext a; fin_cases a <;> apply Fin.ext
  · show 0 + 1 * (y 0).val = (y 0).val; omega
  · show j + 1 * (y 1).val = (j + (y 1).val) % 5120
    rw [Nat.mod_eq_of_lt (by omega)]; omega
theorem read_wiS (w : Memref sig .tc .hbm S432x5120 .bf16) (j : ℕ) (hj : j + 128 ≤ 5120) (f : Buf (Elt F) (w.view.loc (c : Thread nD τ))) :
    (wiS w j hj).view.read (Elt F) f = swin (w.view.read (Elt F) f) j := by
  funext y
  have h1 : (y 1).val < 128 := (y 1).isLt
  show w.view.read (Elt F) f ((Rect.unit (s := S432x5120) ![0, j] S432x128.size (inHS hj)).emb y) = _
  unfold swin
  congr 1
  funext a; fin_cases a <;> apply Fin.ext
  · show 0 + 1 * (y 0).val = (y 0).val; omega
  · show j + 1 * (y 1).val = (j + (y 1).val) % 5120
    rw [Nat.mod_eq_of_lt (by omega)]; omega

/-- A window of a code array held at what the array holds, of a scale array. -/
def winC (c : Dev nD) (w : Memref sig .tc .hbm S6912x5120 .i8) (f : Buf (Elt F) (w.view.loc (c : Thread nD τ))) (j : ℕ) (hj : j + 128 ≤ 5120) : sProp (MM F) :=
  ((wiC w j hj).view.loc (c : Thread nD τ) ↦[(wiC w j hj).view.set]{fullShare} f)
def winS (c : Dev nD) (w : Memref sig .tc .hbm S432x5120 .bf16) (f : Buf (Elt F) (w.view.loc (c : Thread nD τ))) (j : ℕ) (hj : j + 128 ≤ 5120) : sProp (MM F) :=
  ((wiS w j hj).view.loc (c : Thread nD τ) ↦[(wiS w j hj).view.set]{fullShare} f)
/-- A plane of slot `s` held at a window's elements, and at anything. -/
def atC (c : Dev nD) (a8 : Memref sig .tc .vmem S2x4x6912x128 .i8) (s b : ℕ) (hs : s < 2) (hb : b < 4) (w : Memref sig .tc .hbm S6912x5120 .i8) (f : Buf (Elt F) (w.view.loc (c : Thread nD τ))) (j : ℕ) : sProp (MM F) :=
  owns (c : Thread nD τ) (plC a8 s b hs hb) fullShare (cwin (w.view.read (Elt F) f) j)
def atS (c : Dev nD) (a9 : Memref sig .tc .vmem S2x4x432x128 .bf16) (s b : ℕ) (hs : s < 2) (hb : b < 4) (w : Memref sig .tc .hbm S432x5120 .bf16) (f : Buf (Elt F) (w.view.loc (c : Thread nD τ))) (j : ℕ) : sProp (MM F) :=
  owns (c : Thread nD τ) (plS a9 s b hs hb) fullShare (swin (w.view.read (Elt F) f) j)
def anyC (c : Dev nD) (a8 : Memref sig .tc .vmem S2x4x6912x128 .i8) (s b : ℕ) (hs : s < 2) (hb : b < 4) : sProp (MM F) :=
  iprop(∃ X, owns (c : Thread nD τ) (plC a8 s b hs hb) fullShare X)
def anyS (c : Dev nD) (a9 : Memref sig .tc .vmem S2x4x432x128 .bf16) (s b : ℕ) (hs : s < 2) (hb : b < 4) : sProp (MM F) :=
  iprop(∃ X, owns (c : Thread nD τ) (plS a9 s b hs hb) fullShare X)

theorem pts_storable (ℓ : Loc nD τ sig) (I : Finset (Idx ℓ)) (q : PosShare TreeShare) (f : Buf (Elt F) ℓ) :
    Storable (upEmb : UEmb _ (MM F)) (ℓ ↦[I]{q} f : sProp (MM F)) := inferInstance
instance winC_storable (c : Dev nD) (w : Memref sig .tc .hbm S6912x5120 .i8) (f : Buf (Elt F) (w.view.loc (c : Thread nD τ))) (j : ℕ) (hj : j + 128 ≤ 5120) : Storable (upEmb : UEmb _ (MM F)) (winC c w f j hj) := by
  unfold winC
  exact pts_storable (w.view.loc (c : Thread nD τ)) (wiC w j hj).view.set fullShare f
instance winS_storable (c : Dev nD) (w : Memref sig .tc .hbm S432x5120 .bf16) (f : Buf (Elt F) (w.view.loc (c : Thread nD τ))) (j : ℕ) (hj : j + 128 ≤ 5120) : Storable (upEmb : UEmb _ (MM F)) (winS c w f j hj) := by
  unfold winS
  exact pts_storable (w.view.loc (c : Thread nD τ)) (wiS w j hj).view.set fullShare f
instance atC_storable (c : Dev nD) (a8 : Memref sig .tc .vmem S2x4x6912x128 .i8) (s b : ℕ) (hs : s < 2) (hb : b < 4) (w : Memref sig .tc .hbm S6912x5120 .i8) (f : Buf (Elt F) (w.view.loc (c : Thread nD τ))) (j : ℕ) :
    Storable (upEmb : UEmb _ (MM F)) (atC c a8 s b hs hb w f j) := owns_storable ..
instance atS_storable (c : Dev nD) (a9 : Memref sig .tc .vmem S2x4x432x128 .bf16) (s b : ℕ) (hs : s < 2) (hb : b < 4) (w : Memref sig .tc .hbm S432x5120 .bf16) (f : Buf (Elt F) (w.view.loc (c : Thread nD τ))) (j : ℕ) :
    Storable (upEmb : UEmb _ (MM F)) (atS c a9 s b hs hb w f j) := owns_storable ..

/-- Copy `(i, k)` of trip `t` into slot `s`: what it hands over. -/
def deliv (s : ℕ) (hs : s < 2) (t : ℕ) (ht : t < 10) : Fin 4 × Fin 2 → sProp (MM F)
  | (i, k) =>
      (if k = 0 then iprop(atC c E.a8 s i.val hs (by omega) E.a2 E.f2 (t * 512 + i.val * 128) ∗ winC c E.a2 E.f2 (t * 512 + i.val * 128) (by omega))
       else iprop(atS c E.a9 s i.val hs (by omega) E.a3 E.f3 (t * 512 + i.val * 128) ∗ winS c E.a3 E.f3 (t * 512 + i.val * 128) (by omega)))

instance deliv_storable (s : ℕ) (hs : s < 2) (t : ℕ) (ht : t < 10) (x) : Storable (upEmb : UEmb _ (MM F)) (deliv E s hs t ht x) := by
  obtain ⟨i, k⟩ := x
  unfold deliv
  dsimp only
  split <;> infer_instance

/-- The copies' numbers. -/
def cpE : Fin 4 × Fin 2 ≃ Fin (4 * 2) := finProdFinEquiv
theorem cpE_val (i : Fin 4) (k : Fin 2) : (cpE (i, k)).val = k.val + 2 * i.val := by
  simp [cpE, finProdFinEquiv]
theorem cpE_symm (n : ℕ) (hn : n < 4 * 2) (i : Fin 4) (k : Fin 2) (e : n = k.val + 2 * i.val) :
    cpE.symm ⟨n, hn⟩ = (i, k) := by
  rw [Equiv.symm_apply_eq]; apply Fin.ext; rw [cpE_val]; exact e
/-- The copies' credits. -/
def credC : ℕ := (plC E.a8 0 0 (by omega) (by omega)).view.dmaCredit
def credS : ℕ := (plS E.a9 0 0 (by omega) (by omega)).view.dmaCredit
def creds (k : Fin (4 * 2)) : ℕ := if k.val % 2 = 0 then credC E else credS E
theorem creds_pos (k) : 0 < creds E k := by
  unfold creds
  split
  · exact View.dmaCredit_pos _ (by decide)
  · exact View.dmaCredit_pos _ (by decide)

/-- The batch of a trip's copies on slot `s`'s cell. -/
def batch (s : ℕ) (hs : s < 2) (t : ℕ) (ht : t < 10) (k u : ℕ) : sProp (MM F) :=
  MixedBatch countersEmb (c : Thread nD τ) (.dma (semOf E.a13 s hs)) () (creds E) (fun k => deliv E s hs t ht (cpE.symm k)) k u

/-- The two arrays' windows of trip `t`, column block `i`. -/
def srcL (t : ℕ) (ht : t < 10) (i : Fin 4) : sProp (MM F) :=
  iprop(winC c E.a2 E.f2 (t * 512 + i.val * 128) (by omega) ∗ winS c E.a3 E.f3 (t * 512 + i.val * 128) (by omega))
/-- The planes they are copied to, free, and filled. -/
def freeL (s : ℕ) (hs : s < 2) (i : Fin 4) : sProp (MM F) := iprop(anyC c E.a8 s i.val hs (by omega) ∗ anyS c E.a9 s i.val hs (by omega))
def fullL (s : ℕ) (hs : s < 2) (t : ℕ) (i : Fin 4) : sProp (MM F) :=
  iprop(atC c E.a8 s i.val hs (by omega) E.a2 E.f2 (t * 512 + i.val * 128) ∗ atS c E.a9 s i.val hs (by omega) E.a3 E.f3 (t * 512 + i.val * 128))
/-! ## The starts -/

theorem stC_wp (s b : ℕ) (hs : s < 2) (hb : b < 4) (t : ℕ) (ht : t < 10) {w : Memref sig .tc .hbm S6912x5120 .i8} (hw : w.IsWhole)
    (f : Buf (Elt F) (w.view.loc (c : Thread nD τ))) (j j' : ℕ) (hj : j + 128 ≤ 5120) (hj' : j' + 128 ≤ 5120) (hjj : j = j')
    (k : ℕ) (hk : k < 4 * 2) (hk2 : k % 2 = 0)
    (hD : deliv E s hs t ht (cpE.symm ⟨k, hk⟩) = iprop(atC c E.a8 s b hs hb w f j' ∗ winC c w f j' hj')) (Q : PUnit → sProp (MM F)) :
    iprop(winC c w f j' hj' ∗ anyC c E.a8 s b hs hb ∗ batch E s hs t ht k 0 ∗ (batch E s hs t ht (k + 1) 0 -∗ Q ⟨⟩))
      ⊢ WP c (stC E.a8 hw E.h8 (semOf E.a13 s hs) s b j hs hb hj) Q := by
  subst hjj
  refine own_dma c (wiC w j hj) (plC E.a8 s b hs hb) (semOf E.a13 s hs) (wiC_exact hw hj) (plC_exact E.a8 E.h8 hs hb) _ fullShare f (creds E)
    (fun k => deliv E s hs t ht (cpE.symm k)) k hk ?_ ?_ Q
  · unfold creds; rw [if_pos hk2]; rfl
  · rw [hD, read_wiC]; exact .rfl
theorem stS_wp (s b : ℕ) (hs : s < 2) (hb : b < 4) (t : ℕ) (ht : t < 10) {w : Memref sig .tc .hbm S432x5120 .bf16} (hw : w.IsWhole)
    (f : Buf (Elt F) (w.view.loc (c : Thread nD τ))) (j j' : ℕ) (hj : j + 128 ≤ 5120) (hj' : j' + 128 ≤ 5120) (hjj : j = j')
    (k : ℕ) (hk : k < 4 * 2) (hk2 : k % 2 = 1)
    (hD : deliv E s hs t ht (cpE.symm ⟨k, hk⟩) = iprop(atS c E.a9 s b hs hb w f j' ∗ winS c w f j' hj')) (Q : PUnit → sProp (MM F)) :
    iprop(winS c w f j' hj' ∗ anyS c E.a9 s b hs hb ∗ batch E s hs t ht k 0 ∗ (batch E s hs t ht (k + 1) 0 -∗ Q ⟨⟩))
      ⊢ WP c (stS E.a9 hw E.h9 (semOf E.a13 s hs) s b j hs hb hj) Q := by
  subst hjj
  refine own_dma c (wiS w j hj) (plS E.a9 s b hs hb) (semOf E.a13 s hs) (wiS_exact hw hj) (plS_exact E.a9 E.h9 hs hb) _ fullShare f (creds E)
    (fun k => deliv E s hs t ht (cpE.symm k)) k hk ?_ ?_ Q
  · unfold creds; rw [if_neg (by show ¬ k % 2 = 0; omega)]; rfl
  · rw [hD, read_wiS]; exact .rfl

/-- Start a trip's copies into a free slot. -/
theorem starts_wp (s : ℕ) (hs : s < 2) (t : ℕ) (ht : t < 10) (col : ℕ → ℕ) (hcol : ∀ i, i < 4 → col i + 128 ≤ 5120) (hc : ∀ i, i < 4 → col i = t * 512 + i * 128)
    (Q : PUnit → sProp (MM F)) :
    iprop(batch E s hs t ht 0 0 ∗ bigSep Finset.univ (fun i => iprop(srcL E t ht i ∗ freeL E s hs i))
        ∗ (batch E s hs t ht (4 * 2) 0 -∗ Q ⟨⟩))
      ⊢ WP c (startsP E.a2 E.h2 E.a3 E.h3 E.a8 E.h8 E.a9 E.h9 (semOf E.a13 s hs) s hs col hcol) Q := by
  unfold startsP
  iintro ⟨HB, HL, Hk⟩
  iapply (wp_upTo c (fun k => iprop(batch E s hs t ht (2 * k) 0 ∗ bigSep Finset.univ (fun j : Fin 4 => if j.val < k then iprop(emp) else iprop(srcL E t ht j ∗ freeL E s hs j)))) 4)
  · intro i hi
    rw [WP_bind]
    iintro ⟨HB, HS⟩
    ihave HS' := (bigSep_step _ _ i hi) $$ HS
    icases HS' with ⟨⟨Hs, Hf⟩, Hr⟩
    unfold srcL freeL
    icases Hs with ⟨Hs1, Hs2⟩
    icases Hf with ⟨Hf1, Hf2⟩
    iapply (stC_wp E s i hs _ t ht E.h2 E.f2 (col i) (t * 512 + i * 128) (hcol i hi) (by omega) (hc i hi) (2 * i) (by omega) (by omega)
      (by rw [cpE_symm (2 * i) (by omega) ⟨i, hi⟩ 0 (by simp)]; rfl))
    isplitl [Hs1]; · iexact Hs1
    isplitl [Hf1]; · iexact Hf1
    isplitl [HB]; · iexact HB
    iintro HB
    iapply (stS_wp E s i hs _ t ht E.h3 E.f3 (col i) (t * 512 + i * 128) (hcol i hi) (by omega) (hc i hi) (2 * i + 1) (by omega) (by omega)
      (by rw [cpE_symm (2 * i + 1) (by omega) ⟨i, hi⟩ 1 (by simp; omega)]; rfl))
    isplitl [Hs2]; · iexact Hs2
    isplitl [Hf2]; · iexact Hf2
    isplitl [HB]; · iexact HB
    iintro HB
    isplitl [HB]; · rw [show 2 * (i + 1) = 2 * i + 1 + 1 from by omega]; iexact HB
    iapply Hr
    iempintro
  isplitl [HB HL]
  · isplitl [HB]; · iexact HB
    rw [← bigSep_step_first]
    iexact HL
  iintro ⟨HB, -⟩
  iapply Hk
  rw [show 4 * 2 = 2 * 4 from by omega]
  iexact HB

/-! ## The waits -/

theorem full_split (s : ℕ) (hs : s < 2) (t : ℕ) (ht : t < 10) :
    bigSep Finset.univ (fun k => deliv E s hs t ht (cpE.symm k))
      ⊢ iprop(bigSep Finset.univ (fullL E s hs t) ∗ bigSep Finset.univ (srcL E t ht)) := by
  rw [bigSep_univ_equiv cpE (fun k => deliv E s hs t ht (cpE.symm k))]
  simp only [Equiv.symm_apply_apply]
  rw [bigSep_univ_prod]
  simp only [bigSep_fin_two]
  rw [← bs_sep]
  refine bigSep_mono fun i _ => ?_
  show iprop((atC c E.a8 s i.val hs (by omega) E.a2 E.f2 (t * 512 + i.val * 128) ∗ winC c E.a2 E.f2 (t * 512 + i.val * 128) (by omega))
      ∗ (atS c E.a9 s i.val hs (by omega) E.a3 E.f3 (t * 512 + i.val * 128) ∗ winS c E.a3 E.f3 (t * 512 + i.val * 128) (by omega))) ⊢ iprop(fullL E s hs t i ∗ srcL E t ht i)
  unfold fullL srcL
  iintro ⟨⟨H1, H2⟩, H3, H4⟩
  isplitl [H1 H3]
  · isplitl [H1]; · iexact H1
    iexact H3
  · isplitl [H2]; · iexact H2
    iexact H4

theorem wtC_wp (s b : ℕ) (hs : s < 2) (hb : b < 4) (t : ℕ) (ht : t < 10) {w : Memref sig .tc .hbm S6912x5120 .i8} (hw : w.IsWhole) (j : ℕ) (hj : j + 128 ≤ 5120)
    (k : ℕ) (hk : k < 4 * 2) (hk2 : k % 2 = 0) (Q : PUnit → sProp (MM F)) :
    iprop(batch E s hs t ht (4 * 2) (sumTo (creds E) k) ∗ (∃ W, owes (c : Thread nD τ) 0 W)
        ∗ (iprop(batch E s hs t ht (4 * 2) (sumTo (creds E) (k + 1)) ∗ (∃ W, owes (c : Thread nD τ) 0 W)) -∗ Q ⟨⟩))
      ⊢ WP c (wtC E.a8 hw E.h8 (semOf E.a13 s hs) s b j hs hb hj) Q := by
  have e : sumTo (creds E) (k + 1) = sumTo (creds E) k + credC E := by
    rw [sumTo_succ _ hk]; unfold creds; rw [if_pos hk2]
  rw [e]
  exact own_wait c (wiC w j hj) (plC E.a8 s b hs hb) (semOf E.a13 s hs) (wiC_exact hw hj) (plC_exact E.a8 E.h8 hs hb) (creds E) _ (sumTo (creds E) k) (credC E) rfl
    (by rw [← e]; exact sumTo_le (creds E) (by omega)) Q
theorem wtS_wp (s b : ℕ) (hs : s < 2) (hb : b < 4) (t : ℕ) (ht : t < 10) {w : Memref sig .tc .hbm S432x5120 .bf16} (hw : w.IsWhole) (j : ℕ) (hj : j + 128 ≤ 5120)
    (k : ℕ) (hk : k < 4 * 2) (hk2 : k % 2 = 1) (Q : PUnit → sProp (MM F)) :
    iprop(batch E s hs t ht (4 * 2) (sumTo (creds E) k) ∗ (∃ W, owes (c : Thread nD τ) 0 W)
        ∗ (iprop(batch E s hs t ht (4 * 2) (sumTo (creds E) (k + 1)) ∗ (∃ W, owes (c : Thread nD τ) 0 W)) -∗ Q ⟨⟩))
      ⊢ WP c (wtS E.a9 hw E.h9 (semOf E.a13 s hs) s b j hs hb hj) Q := by
  have e : sumTo (creds E) (k + 1) = sumTo (creds E) k + credS E := by
    rw [sumTo_succ _ hk]; unfold creds; rw [if_neg (by show ¬ k % 2 = 0; omega)]
  rw [e]
  exact own_wait c (wiS w j hj) (plS E.a9 s b hs hb) (semOf E.a13 s hs) (wiS_exact hw hj) (plS_exact E.a9 E.h9 hs hb) (creds E) _ (sumTo (creds E) k) (credS E) rfl
    (by rw [← e]; exact sumTo_le (creds E) (by omega)) Q
theorem wtAll_wp (s b : ℕ) (hs : s < 2) (hb : b < 4) (t : ℕ) (ht : t < 10) {w : Memref sig .tc .hbm S432x5120 .bf16} (hw : w.IsWhole) (j : ℕ) (hj : j + 128 ≤ 5120)
    (Q : PUnit → sProp (MM F)) :
    iprop(batch E s hs t ht (4 * 2) (sumTo (creds E) (4 * 2 - 1)) ∗ (∃ W, owes (c : Thread nD τ) 0 W)
        ∗ (iprop(bigSep Finset.univ (fun k => deliv E s hs t ht (cpE.symm k)) ∗ semVal ((c : Thread nD τ), .dma (semOf E.a13 s hs)) 0 ∗ (∃ W, owes (c : Thread nD τ) 0 W)) -∗ Q ⟨⟩))
      ⊢ WP c (wtS E.a9 hw E.h9 (semOf E.a13 s hs) s b j hs hb hj) Q := by
  have e : sumTo (creds E) (4 * 2) = sumTo (creds E) (4 * 2 - 1) + credS E := by
    have key : ∀ k (hk : k < 4 * 2), k % 2 = 1 → sumTo (creds E) (k + 1) = sumTo (creds E) k + credS E := fun k hk h => by
      rw [sumTo_succ _ hk]; unfold creds; rw [if_neg (by show ¬ k % 2 = 0; omega)]
    exact key (4 * 2 - 1) (by omega) (by omega)
  exact own_waitAll c (wiS w j hj) (plS E.a9 s b hs hb) (semOf E.a13 s hs) (wiS_exact hw hj) (plS_exact E.a9 E.h9 hs hb) (creds E) _ (sumTo (creds E) (4 * 2 - 1)) (credS E) rfl
    (creds_pos E) e.symm Q

/-- Wait for all of a trip's copies. -/
theorem waits_wp (s : ℕ) (hs : s < 2) (t : ℕ) (ht : t < 10) (Q : PUnit → sProp (MM F)) :
    iprop(batch E s hs t ht (4 * 2) 0 ∗ (∃ W, owes (c : Thread nD τ) 0 W)
        ∗ (iprop(bigSep Finset.univ (fun k => deliv E s hs t ht (cpE.symm k)) ∗ semVal ((c : Thread nD τ), .dma (semOf E.a13 s hs)) 0 ∗ (∃ W, owes (c : Thread nD τ) 0 W)) -∗ Q ⟨⟩))
      ⊢ WP c (waitsP E.a2 E.h2 E.a3 E.h3 E.a8 E.h8 E.a9 E.h9 (semOf E.a13 s hs) s hs) Q := by
  unfold waitsP
  iintro ⟨HB, HW, Hk⟩
  iapply (wp_upTo c (fun k => if k < 4 then iprop(batch E s hs t ht (4 * 2) (sumTo (creds E) (2 * k)) ∗ (∃ W, owes (c : Thread nD τ) 0 W))
    else iprop(bigSep Finset.univ (fun k => deliv E s hs t ht (cpE.symm k)) ∗ semVal ((c : Thread nD τ), .dma (semOf E.a13 s hs)) 0 ∗ (∃ W, owes (c : Thread nD τ) 0 W))) 4)
  · intro i hi
    rw [WP_bind, if_pos hi]
    iintro ⟨HB, HW⟩
    iapply (wtC_wp E s i hs _ t ht E.h2 (i * 128) _ (2 * i) (by omega) (by omega))
    isplitl [HB]; · iexact HB
    isplitl [HW]; · iexact HW
    iintro ⟨HB, HW⟩
    by_cases h : i + 1 < 4
    · rw [if_pos h]
      iapply (wtS_wp E s i hs _ t ht E.h3 (i * 128) _ (2 * i + 1) (by omega) (by omega))
      isplitl [HB]; · iexact HB
      isplitl [HW]; · iexact HW
      iintro ⟨HB, HW⟩
      isplitl [HB]; · rw [show 2 * (i + 1) = 2 * i + 1 + 1 from by omega]; iexact HB
      iexact HW
    · rw [if_neg h]
      iapply (wtAll_wp E s i hs _ t ht E.h3 (i * 128) _)
      isplitl [HB]; · rw [show 2 * i + 1 = 4 * 2 - 1 from by omega]; iexact HB
      isplitl [HW]; · iexact HW
      iintro H
      iexact H
  rw [if_pos (show 0 < 4 by omega), if_neg (show ¬ 4 < 4 by omega)]
  isplitl [HB HW]
  · isplitl [HB]; · iexact HB
    iexact HW
  iexact Hk

end Cert.DownIdeal
-- ==== Proof.DownIdeal.Trip.lean ====
/-
  One trip of the loop and the loop itself: the invariant and the activations it stores.
-/
module

public import proofs.«01_k».proof.Proof.DownIdeal.Copy

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts]

/-! ## The output -/

/-- A block of columns of the residual. -/
def xblk (X : Vec F S32x5120 .f32) (j : ℕ) : FVec F S32x256 .f32 := fun x => X (ix2 (x 0) ⟨(j + (x 1).val) % 5120, Nat.mod_lt _ (by omega)⟩)
/-- The product's 256 columns from `col` on. -/
def prodV (g2 : Vec F S6912x5120 .i8) (g3 : Vec F S432x5120 .bf16) (H : Vec F S32x13824 .bf16) (col : ℕ) : FVec F S32x256 .f32 :=
  dotOf (cwin g2 col) (cwin g2 (col + 128)) (swin g3 col) (swin g3 (col + 128)) H
/-- The whole output. -/
def outA (X : Vec F S32x5120 .f32) (g2 : Vec F S6912x5120 .i8) (g3 : Vec F S432x5120 .bf16) (H : Vec F S32x13824 .bf16) : Vec F S32x5120 .bf16 := fun i =>
  outB (xblk X ((i 1).val / 256 * 256)) (prodV g2 g3 H ((i 1).val / 256 * 256)) (ix2 (i 0) ⟨(i 1).val % 256, by omega⟩)

/-- A block of it. -/
theorem outA_block (X : Vec F S32x5120 .f32) (g2 : Vec F S6912x5120 .i8) (g3 : Vec F S432x5120 .bf16) (H : Vec F S32x13824 .bf16) (col : ℕ) (hcol : col % 256 = 0)
    (i : S32x5120.Idx) (h : col ≤ (i 1).val) (h' : (i 1).val < col + 256) (y : S32x256.Idx) (hy0 : y 0 = i 0) (hy1 : col + (y 1).val = (i 1).val) :
    outA X g2 g3 H i = outB (xblk X col) (prodV g2 g3 H col) y := by
  unfold outA
  have e1 : (i 1).val / 256 * 256 = col := by omega
  rw [e1]
  congr 1
  funext a; fin_cases a
  · exact hy0.symm
  · apply Fin.ext; show (i 1).val % 256 = (y 1).val; have : (y 1).val < 256 := (y 1).isLt; omega

variable {c : Dev nD} (E : Env F c)

/-- The output over the environment's arrays. -/
def Env.out (X : Vec F S32x5120 .f32) (H : Vec F S32x13824 .bf16) : Vec F S32x5120 .bf16 :=
  outA X (E.a2.view.read (Elt F) E.f2) (E.a3.view.read (Elt F) E.f3) H

/-- The output's first `n` columns are written. -/
def upToCol (X : Vec F S32x5120 .f32) (H : Vec F S32x13824 .bf16) (n : ℕ) : sProp (MM F) :=
  iprop(∃ a, ⌜∀ i : S32x5120.Idx, (i 1).val < n → a i = E.out X H i⌝ ∗ owns (c : Thread nD τ) E.a6 fullShare a)

theorem stO_wp (X : Vec F S32x5120 .f32) (H : Vec F S32x13824 .bf16) (t : Fin k0_t1_loop.trips) (c1 : ℕ) (h1 : c1 + 256 ≤ 512) (hc1 : c1 % 256 = 0) (x : FVec F S32x256 .bf16) (hl) (hl') (hs)
    (hx : x = outB (xblk X (t.val * 512 + c1)) (prodV (E.a2.view.read (Elt F) E.f2) (E.a3.view.read (Elt F) E.f3) H (t.val * 512 + c1))) (Q : PUnit → sProp (MM F)) :
    iprop(upToCol E X H (t.val * 512 + c1) ∗ (upToCol E X H (t.val * 512 + c1 + 256) -∗ Q ⟨⟩)) ⊢ WP c (Prog.lift (.load E.a6 (Rect.unit (s := S32x5120) ![0, actOff t c1] S32x256.size (inSA (actOff_le t h1))).toLoadRect hl)) fun _ =>
      WP c (Prog.lift (.store E.a6 (Rect.unit (s := S32x5120) ![0, actOff t c1] S32x256.size (inSA (actOff_le t h1))) x Finset.univ hs hl')) Q := by
  unfold upToCol
  iintro ⟨⟨%a, %ha, HA⟩, Hk⟩
  iapply (own_load c E.a6 _ _ fullShare a)
  isplitl [HA]; · iexact HA
  iintro HA
  beta_reduce
  iapply (own_store c E.a6 _ _ _ _ a)
  isplitl [HA]; · iexact HA
  iintro HA
  iapply Hk
  iexists _
  isplitr
  swap; · iexact HA
  ipureintro
  intro i hi
  have ho := actOff_eq t (c1 := c1) (by omega)
  by_cases h : (i 1).val < t.val * 512 + c1
  · rw [updR_of_ne]
    · exact ha i h
    · intro y hy
      have h' := congrArg (fun z : S32x5120.Idx => (z 1).val) hy
      have h'' : actOff t c1 + 1 * (y 1).val = (i 1).val := h'
      omega
  · obtain ⟨y, hy, hy0, hy1⟩ : ∃ y : S32x256.Idx, (Rect.unit (s := S32x5120) ![0, actOff t c1] S32x256.size (inSA (actOff_le t h1))).emb y = i
        ∧ y 0 = i 0 ∧ t.val * 512 + c1 + (y 1).val = (i 1).val := by
      refine ⟨ix2 (i 0) ⟨(i 1).val - (t.val * 512 + c1), by omega⟩, ?_, rfl, ?_⟩
      · funext a; fin_cases a <;> apply Fin.ext
        · show 0 + 1 * (i 0).val = (i 0).val; omega
        · show actOff t c1 + 1 * ((i 1).val - (t.val * 512 + c1)) = (i 1).val; omega
      · show t.val * 512 + c1 + ((i 1).val - (t.val * 512 + c1)) = (i 1).val; omega
    rw [← hy, updR_emb, hy, hx]
    unfold Env.out
    exact (outA_block X _ _ H (t.val * 512 + c1) (by omega) i (by omega) (by omega) y hy0 hy1).symm

theorem loadX_wp (X : Vec F S32x5120 .f32) (t : Fin k0_t1_loop.trips) (c1 : ℕ) (h1 : c1 + 256 ≤ 512) (hl) (Q : Vec F S32x256 .f32 → sProp (MM F)) :
    iprop(owns (c : Thread nD τ) E.a0 fullShare X ∗ (owns (c : Thread nD τ) E.a0 fullShare X -∗ Q (xblk X (t.val * 512 + c1))))
      ⊢ WP c (Prog.lift (.load E.a0 (Rect.unit (s := S32x5120) ![0, actOff t c1] S32x256.size (inSA (actOff_le t h1))).toLoadRect hl)) Q := by
  have e : (fun x => X ((Rect.unit (s := S32x5120) ![0, actOff t c1] S32x256.size (inSA (actOff_le t h1))).toLoadRect.idx x)) = xblk X (t.val * 512 + c1) := by
    funext x; unfold xblk; congr 1
    have h2 : (x 1).val < 256 := (x 1).isLt
    have ht : t.val < 10 := trips_eq ▸ t.2
    funext a; fin_cases a <;> apply Fin.ext
    · show 0 + 1 * (x 0).val = (x 0).val; omega
    · show actOff t c1 + 1 * (x 1).val = (t.val * 512 + c1 + (x 1).val) % 5120; have ho := actOff_eq t (c1 := c1) (by omega); rw [Nat.mod_eq_of_lt (by omega)]; omega
  rw [← e]
  exact own_load c E.a0 _ hl fullShare X Q

/-! ## A column pair -/

theorem borrowL (s : ℕ) (hs : s < 2) (t n : ℕ) (hn : n < 2) :
    bigSep Finset.univ (fullL E s hs t) ⊢ iprop((owns (c : Thread nD τ) (plC E.a8 s (2 * n) hs (by omega)) fullShare (cwin (E.a2.view.read (Elt F) E.f2) (t * 512 + 256 * n))
        ∗ owns (c : Thread nD τ) (plC E.a8 s (2 * n + 1) hs (by omega)) fullShare (cwin (E.a2.view.read (Elt F) E.f2) (t * 512 + 256 * n + 128))
        ∗ owns (c : Thread nD τ) (plS E.a9 s (2 * n) hs (by omega)) fullShare (swin (E.a3.view.read (Elt F) E.f3) (t * 512 + 256 * n))
        ∗ owns (c : Thread nD τ) (plS E.a9 s (2 * n + 1) hs (by omega)) fullShare (swin (E.a3.view.read (Elt F) E.f3) (t * 512 + 256 * n + 128)))
      ∗ ((owns (c : Thread nD τ) (plC E.a8 s (2 * n) hs (by omega)) fullShare (cwin (E.a2.view.read (Elt F) E.f2) (t * 512 + 256 * n))
        ∗ owns (c : Thread nD τ) (plC E.a8 s (2 * n + 1) hs (by omega)) fullShare (cwin (E.a2.view.read (Elt F) E.f2) (t * 512 + 256 * n + 128))
        ∗ owns (c : Thread nD τ) (plS E.a9 s (2 * n) hs (by omega)) fullShare (swin (E.a3.view.read (Elt F) E.f3) (t * 512 + 256 * n))
        ∗ owns (c : Thread nD τ) (plS E.a9 s (2 * n + 1) hs (by omega)) fullShare (swin (E.a3.view.read (Elt F) E.f3) (t * 512 + 256 * n + 128)))
        -∗ bigSep Finset.univ (fullL E s hs t))) := by
  refine (bigSep_take2 (fullL E s hs t) ⟨2 * n, by omega⟩ ⟨2 * n + 1, by omega⟩ (fun h => by have := congrArg Fin.val h; simp at this)).trans ?_
  have e0 : t * 512 + 2 * n * 128 = t * 512 + 256 * n := by omega
  have e1 : t * 512 + (2 * n + 1) * 128 = t * 512 + 256 * n + 128 := by omega
  rw [← e1, ← e0]
  generalize bigSep Finset.univ (fullL E s hs t) = R
  unfold fullL atC atS
  iintro ⟨⟨H1, H2⟩, ⟨H3, H4⟩, HR⟩
  isplitl [H1 H2 H3 H4]
  · isplitl [H1]; · iexact H1
    isplitl [H3]; · iexact H3
    isplitl [H2]; · iexact H2
    iexact H4
  iintro ⟨H1, H3, H2, H4⟩
  iapply HR $$ [H1 H2] [H3 H4]
  · isplitl [H1]; · iexact H1
    iexact H2
  · isplitl [H3]; · iexact H3
    iexact H4
/-- What the column pairs of trip `t` keep. -/
def chunkI (X : Vec F S32x5120 .f32) (H : Vec F S32x13824 .bf16) (s : ℕ) (hs : s < 2) (t n : ℕ) : sProp (MM F) :=
  iprop(bigSep Finset.univ (fullL E s hs t) ∗ (∃ P, owns (c : Thread nD τ) E.a10 fullShare P)
    ∗ owns (c : Thread nD τ) E.a11 fullShare H ∗ owns (c : Thread nD τ) E.a0 fullShare X ∗ upToCol E X H (t * 512 + 256 * n))

theorem chunk_wp (X : Vec F S32x5120 .f32) (H : Vec F S32x13824 .bf16) (s : ℕ) (hs : s < 2) (t : Fin k0_t1_loop.trips) (n : ℕ) (hn : n < 2) :
    chunkI E X H s hs t.val n ⊢ WP c (chunkP E.a0 E.a6 E.h6 E.a8 E.a9 E.a10 E.a11 t s n hs hn) fun _ => chunkI E X H s hs t.val (n + 1) := by
  unfold chunkP chunkI
  rw [WP_bind']
  iintro ⟨HL, HP, H11, HX, HA⟩
  ihave HL' := (borrowL E s hs t.val n hn) $$ HL
  icases HL' with ⟨⟨C0, C1, S0, S1⟩, HL⟩
  iapply (dot_wp E.a8 E.a9 E.a10 E.a11 c s (2 * n) hs _ (cwin (E.a2.view.read (Elt F) E.f2) (t.val * 512 + 256 * n)) (cwin (E.a2.view.read (Elt F) E.f2) (t.val * 512 + 256 * n + 128))
    (swin (E.a3.view.read (Elt F) E.f3) (t.val * 512 + 256 * n)) (swin (E.a3.view.read (Elt F) E.f3) (t.val * 512 + 256 * n + 128)) H)
  isplitl [C0 C1 S0 S1 HP H11]
  · unfold DR
    isplitl [C0]; · iexact C0
    isplitl [C1]; · iexact C1
    isplitl [S0]; · iexact S0
    isplitl [S1]; · iexact S1
    isplitl [HP]; · iexact HP
    iexact H11
  unfold DR
  iintro ⟨C0, C1, S0, S1, HP, H11⟩
  ihave HL' := HL $$ [C0 C1 S0 S1]
  · isplitl [C0]; · iexact C0
    isplitl [C1]; · iexact C1
    isplitl [S0]; · iexact S0
    iexact S1
  rw [WP_bind']
  iapply (loadX_wp E X t (256 * n) (by omega))
  isplitl [HX]; · iexact HX
  iintro HX
  rw [WP_bind']
  iapply (stO_wp E X H t (256 * n) (by omega) (by omega) _ _ _ _ rfl)
  isplitl [HA]; · iexact HA
  iintro HA
  isplitl [HL']; · iexact HL'
  isplitl [HP]; · iexact HP
  isplitl [H11]; · iexact H11
  isplitl [HX]; · iexact HX
  rw [show t.val * 512 + 256 * (n + 1) = t.val * 512 + 256 * n + 256 from by omega]
  iexact HA

end Cert.DownIdeal
-- ==== Proof.DownIdeal.Run.lean ====
/-
  The loop over the trips.
-/
module

public import proofs.«01_k».proof.Proof.DownIdeal.Trip

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts] {c : Dev nD} (E : Env F c)

/-! ## A slot between trips -/

/-- A slot's planes and its cell, nothing in flight. -/
def freeSlot (s : ℕ) (hs : s < 2) : sProp (MM F) :=
  iprop(semVal ((c : Thread nD τ), .dma (semOf E.a13 s hs)) 0 ∗ bigSep Finset.univ (freeL E s hs))
/-- The windows of trip `u`. -/
def srcT (u : Fin 10) : sProp (MM F) := bigSep Finset.univ (srcL E u.val u.2)
/-- The slot of trip `u`: its copies in flight, or free past the last trip. -/
def slotAt (u : ℕ) : sProp (MM F) :=
  if h : u < 10 then batch E (u % 2) (by omega) u h (4 * 2) 0 else freeSlot E (u % 2) (by omega)
theorem slotAt_free (u s : ℕ) (hs : s < 2) (e : u % 2 = s) (h : ¬ u < 10) : slotAt E u = freeSlot E s hs := by
  subst e; unfold slotAt; rw [dif_neg h]
theorem slotAt_batch (u s : ℕ) (hs : s < 2) (e : u % 2 = s) (h : u < 10) : slotAt E u = batch E s hs u h (4 * 2) 0 := by
  subst e; unfold slotAt; rw [dif_pos h]

theorem atC_any (a8 : Memref sig .tc .vmem S2x4x6912x128 .i8) (s b : ℕ) (hs : s < 2) (hb : b < 4) (w : Memref sig .tc .hbm S6912x5120 .i8) (f : Buf (Elt F) (w.view.loc (c : Thread nD τ))) (j : ℕ) :
    atC c a8 s b hs hb w f j ⊢ anyC c a8 s b hs hb := by
  unfold atC anyC; iintro H; iexists _; iexact H
theorem atS_any (a9 : Memref sig .tc .vmem S2x4x432x128 .bf16) (s b : ℕ) (hs : s < 2) (hb : b < 4) (w : Memref sig .tc .hbm S432x5120 .bf16) (f : Buf (Elt F) (w.view.loc (c : Thread nD τ))) (j : ℕ) :
    atS c a9 s b hs hb w f j ⊢ anyS c a9 s b hs hb := by
  unfold atS anyS; iintro H; iexists _; iexact H
theorem fullL_free (s : ℕ) (hs : s < 2) (t : ℕ) : bigSep Finset.univ (fullL E s hs t) ⊢ bigSep Finset.univ (freeL E s hs) :=
  bigSep_mono fun i _ => by unfold fullL freeL; exact BI.sep_mono (atC_any _ _ _ _ _ _ _ _) (atS_any _ _ _ _ _ _ _ _)
/-- Start a trip's copies into a free slot. -/
theorem fill_wp (s : ℕ) (hs : s < 2) (t : ℕ) (ht : t < 10) (col : ℕ → ℕ) (hcol : ∀ i, i < 4 → col i + 128 ≤ 5120) (hc : ∀ i, i < 4 → col i = t * 512 + i * 128)
    (Q : PUnit → sProp (MM F)) :
    iprop(freeSlot E s hs ∗ srcT E ⟨t, ht⟩ ∗ (batch E s hs t ht (4 * 2) 0 -∗ Q ⟨⟩))
      ⊢ WP c (startsP E.a2 E.h2 E.a3 E.h3 E.a8 E.h8 E.a9 E.h9 (semOf E.a13 s hs) s hs col hcol) Q := by
  unfold freeSlot srcT
  iintro ⟨⟨Hv, HfL⟩, HsL, Hk⟩
  imod (Transfers.mixedBatch_alloc' (Lvl := ℕ) (countersEmb (U := Pipeline.UD sig nD τ)) (c : Thread nD τ) () (creds E)
    (fun k => deliv E s hs t ht (cpE.symm k)) (sm := SemLoc.dma (semOf E.a13 s hs)) (E := Set.univ)) $$ Hv with HB
  iapply (starts_wp E s hs t ht col hcol hc)
  isplitl [HB]; · unfold batch; iexact HB
  rw [bs_sep]
  isplitl [HsL HfL]
  · isplitl [HsL]; · iexact HsL
    iexact HfL
  iexact Hk

/-! ## The trips -/

/-- The windows no copy in flight before trip `t` reads. -/
def idle (t : ℕ) : Finset (Fin 10) := Finset.univ.filter fun u => u.val ≠ t ∧ u.val ≠ t + 1
theorem idle_notMem (t : ℕ) (ht : t < 10) : (⟨t, ht⟩ : Fin 10) ∉ idle t := by simp [idle]
theorem idle_notMem' (t : ℕ) (ht : t + 2 < 10) : (⟨t + 2, ht⟩ : Fin 10) ∉ idle (t + 1) := by simp [idle]
theorem idle_insert (t : ℕ) (ht : t < 10) (h : t + 2 < 10) : insert (⟨t, ht⟩ : Fin 10) (idle t) = insert (⟨t + 2, h⟩ : Fin 10) (idle (t + 1)) := by
  ext u; simp only [idle, Finset.mem_insert, Finset.mem_filter, Finset.mem_univ, true_and, Fin.ext_iff]; omega
theorem idle_insert' (t : ℕ) (ht : t < 10) (h : ¬ t + 2 < 10) : insert (⟨t, ht⟩ : Fin 10) (idle t) = idle (t + 1) := by
  ext u; have := u.2; simp only [idle, Finset.mem_insert, Finset.mem_filter, Finset.mem_univ, true_and, Fin.ext_iff]; omega

theorem idle_step (t : ℕ) (ht : t < 10) (h : t + 2 < 10) :
    iprop(srcT E ⟨t, ht⟩ ∗ bigSep (idle t) (srcT E)) ⊢ iprop(srcT E ⟨t + 2, h⟩ ∗ bigSep (idle (t + 1)) (srcT E)) := by
  rw [← bs_insert _ (idle_notMem t ht), ← bs_insert _ (idle_notMem' t h), idle_insert t ht h]
theorem idle_last (t : ℕ) (ht : t < 10) (h : ¬ t + 2 < 10) :
    iprop(srcT E ⟨t, ht⟩ ∗ bigSep (idle t) (srcT E)) ⊢ bigSep (idle (t + 1)) (srcT E) := by
  rw [← bs_insert _ (idle_notMem t ht), idle_insert' t ht h]

/-- What holds before trip `t`. -/
def loopI (X : Vec F S32x5120 .f32) (H : Vec F S32x13824 .bf16) (t : ℕ) : sProp (MM F) :=
  iprop(bigSep (idle t) (srcT E) ∗ slotAt E t ∗ slotAt E (t + 1) ∗ (∃ P, owns (c : Thread nD τ) E.a10 fullShare P)
    ∗ owns (c : Thread nD τ) E.a11 fullShare H ∗ owns (c : Thread nD τ) E.a0 fullShare X ∗ upToCol E X H (t * 512) ∗ (∃ W, owes (c : Thread nD τ) 0 W))

/-- A trip over the slot `s`. -/
def tripS (t : Fin k0_t1_loop.trips) (s : ℕ) (hs : s < 2) : PR F PUnit := do
  waitsP E.a2 E.h2 E.a3 E.h3 E.a8 E.h8 E.a9 E.h9 (semOf E.a13 s hs) s hs
  upTo 2 fun n h => chunkP E.a0 E.a6 E.h6 E.a8 E.a9 E.a10 E.a11 t s n hs h
  if h : k0_cond1 t = 1#1 then do
    startsP E.a2 E.h2 E.a3 E.h3 E.a8 E.h8 E.a9 E.h9 (semOf E.a13 s hs) s hs (colN t)
      (fun i hi => by have := (cond_iff t).1 h; rw [colN_eq t hi]; omega)
    pure ⟨⟩
  else do
    pure ⟨⟩
  pure ⟨⟩
theorem trip_eq (t : Fin k0_t1_loop.trips) :
    tripP (F := F) E.a0 E.a2 E.h2 E.a3 E.h3 E.a6 E.h6 E.a8 E.h8 E.a9 E.h9 E.a10 E.a11 E.a13 t = tripS E t (t.val % 2) (by omega) := by
  unfold tripP tripS
  simp only [slotD_eq, slotL_eq]

theorem trip_wp (X : Vec F S32x5120 .f32) (H : Vec F S32x13824 .bf16) (t : Fin k0_t1_loop.trips) :
    loopI E X H t.val ⊢ WP c (tripP E.a0 E.a2 E.h2 E.a3 E.h3 E.a6 E.h6 E.a8 E.h8 E.a9 E.h9 E.a10 E.a11 E.a13 t) fun _ => loopI E X H (t.val + 1) := by
  have ht : t.val < 10 := trips_eq ▸ t.2
  rw [trip_eq]
  unfold loopI tripS
  rw [slotAt_batch E t.val (t.val % 2) (by omega) rfl ht]
  rw [WP_bind']
  iintro ⟨HI, HB, HB', HP, HH, HX, HA, HW⟩
  iapply (waits_wp E (t.val % 2) _ t.val ht)
  isplitl [HB]; · iexact HB
  isplitl [HW]; · iexact HW
  iintro ⟨HD, Hv, HW⟩
  ihave HD' := (full_split E (t.val % 2) _ t.val ht) $$ HD
  icases HD' with ⟨HfL, HsL⟩
  rw [WP_bind']
  iapply (wp_upTo c (chunkI E X H (t.val % 2) _ t.val) 2 _ (fun n hn => chunk_wp E X H (t.val % 2) _ t n hn))
  unfold chunkI
  isplitl [HfL HP HH HX HA]
  · isplitl [HfL]; · iexact HfL
    isplitl [HP]; · iexact HP
    isplitl [HH]; · iexact HH
    isplitl [HX]; · iexact HX
    iexact HA
  iintro ⟨HfL, HP, HH, HX, HA⟩
  ihave HfL' := (fullL_free E (t.val % 2) _ t.val) $$ HfL
  by_cases h : t.val + 2 < 10
  · rw [dif_pos ((cond_iff t).2 h), WP_bind']
    ihave HS := (idle_step E t.val ht h) $$ [HI HsL]
    · isplitl [HsL]
      · unfold srcT
        iexact HsL
      · iexact HI
    icases HS with ⟨HS, HI⟩
    iapply (fill_wp E (t.val % 2) _ (t.val + 2) h (colN t) _ (fun i hi => colN_eq t hi))
    isplitl [Hv HfL']
    · unfold freeSlot
      isplitl [Hv]; · iexact Hv
      iexact HfL'
    isplitl [HS]; · iexact HS
    iintro HB
    iapply WP_pure
    isplitl [HI]; · iexact HI
    isplitl [HB']; · iexact HB'
    isplitl [HB]; · rw [slotAt_batch E (t.val + 1 + 1) (t.val % 2) (by omega) (by omega) h]; iexact HB
    isplitl [HP]; · iexact HP
    isplitl [HH]; · iexact HH
    isplitl [HX]; · iexact HX
    isplitl [HA]; · rw [show (t.val + 1) * 512 = t.val * 512 + 256 * 2 from by omega]; iexact HA
    iexact HW
  · rw [dif_neg (fun h' => h ((cond_iff t).1 h'))]
    ihave HS := (idle_last E t.val ht h) $$ [HI HsL]
    · isplitl [HsL]
      · unfold srcT
        iexact HsL
      · iexact HI
    iapply WP_pure
    isplitl [HS]; · iexact HS
    isplitl [HB']; · iexact HB'
    isplitl [Hv HfL']
    · rw [slotAt_free E (t.val + 1 + 1) (t.val % 2) (by omega) (by omega) h]
      unfold freeSlot
      isplitl [Hv]; · iexact Hv
      iexact HfL'
    isplitl [HP]; · iexact HP
    isplitl [HH]; · iexact HH
    isplitl [HX]; · iexact HX
    isplitl [HA]; · rw [show (t.val + 1) * 512 = t.val * 512 + 256 * 2 from by omega]; iexact HA
    iexact HW

end Cert.DownIdeal
-- ==== Proof.DownIdeal.Whole.lean ====
/-
  The body whole: from the arrays and the buffers held whole to the same with the output written.
-/
module

public import proofs.«01_k».proof.Proof.DownIdeal.Run

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo sumTo_succ)
open Facts₀ Facts K0.R1.Facts₀ K0.R2.Facts₀ Shapes1.Facts₀ Shapes2.Facts₀ Shapes3.Facts₀

variable {F : FTy → Type} [FloatOps F] [Facts] {c : Dev nD} (E : Env F c)

/-! ## A buffer by its slices -/

section Slices
variable {sp : Space} {s : Shape} {e : EltTy} {B : Type} [Fintype B] [DecidableEq B]

theorem slices_disj (v : View sig .tc sp s e) (K : B → Rect s) (own : s.Idx → B) (h1 : ∀ b y, own ((K b).emb y) = b) (b b' : B) (hne : b ≠ b') :
    Disjoint (v.slice (K b)).set (v.slice (K b')).set := by
  rw [Finset.disjoint_left]
  intro x hx hx'
  unfold View.set at hx hx'
  obtain ⟨y, -, hy⟩ := Finset.mem_map.mp hx
  obtain ⟨y', -, hy'⟩ := Finset.mem_map.mp hx'
  have e : v.emb ((K b).emb y) = v.emb ((K b').emb y') := hy.trans hy'.symm
  exact hne (by rw [← h1 b y, ← h1 b' y', v.emb.injective e])
theorem slices_cover (v : View sig .tc sp s e) (K : B → Rect s) (own : s.Idx → B) (h2 : ∀ x, ∃ y, (K (own x)).emb y = x) :
    (Finset.univ.biUnion (fun b => ((v.slice (K b)).set : Finset (Idx (v.loc (c : Thread nD τ))))) : Finset (Idx (v.loc (c : Thread nD τ)))) = (v.set : Finset (Idx (v.loc (c : Thread nD τ)))) := by
  ext z
  simp only [Finset.mem_biUnion, Finset.mem_univ, true_and]
  constructor
  · rintro ⟨b, hb⟩; exact v.set_slice_subset (K b) hb
  · intro hz
    unfold View.set at hz
    obtain ⟨x, -, rfl⟩ := Finset.mem_map.mp hz
    obtain ⟨y, hy⟩ := h2 x
    refine ⟨own x, ?_⟩
    unfold View.set
    exact Finset.mem_map.mpr ⟨y, Finset.mem_univ _, congrArg v.emb hy⟩
theorem slices_pts (v : View sig .tc sp s e) (K : B → Rect s) (own : s.Idx → B) (h1 : ∀ b y, own ((K b).emb y) = b) (h2 : ∀ x, ∃ y, (K (own x)).emb y = x)
    (f : Buf (Elt F) (v.loc (c : Thread nD τ))) :
    (v.loc (c : Thread nD τ) ↦[v.set]{fullShare} f : sProp (MM F)) = bigSep Finset.univ fun b => (v.loc (c : Thread nD τ) ↦[(v.slice (K b)).set]{fullShare} f) :=
  Ring.pointsTo_sub_blocks (ℓ := v.loc (c : Thread nD τ)) (fun b => (v.slice (K b)).set) (slices_disj v K own h1) v.set (slices_cover v K own h2) f
theorem slices_join (v : View sig .tc sp s e) (K : B → Rect s) (own : s.Idx → B) (h1 : ∀ b y, own ((K b).emb y) = b) (h2 : ∀ x, ∃ y, (K (own x)).emb y = x)
    (f₀ : Buf (Elt F) (v.loc (c : Thread nD τ))) :
    bigSep Finset.univ (fun b => iprop(∃ f, (v.loc (c : Thread nD τ) ↦[(v.slice (K b)).set]{fullShare} f))) ⊢ (iprop(∃ g, v.loc (c : Thread nD τ) ↦[v.set]{fullShare} g) : sProp (MM F)) :=
  Ring.pointsTo_sub_blocks_join_exists (ℓ := v.loc (c : Thread nD τ)) (fun b => (v.slice (K b)).set) (slices_disj v K own h1) v.set (slices_cover v K own h2) f₀
end Slices

theorem pts_any (ℓ : Loc nD τ sig) (I : Finset (Idx ℓ)) (f : Buf (Elt F) ℓ) : (ℓ ↦[I]{fullShare} f : sProp (MM F)) ⊢ iprop(∃ f, ℓ ↦[I]{fullShare} f) := by
  iintro H
  iexists f; iexact H
theorem owns_any {sp : Space} {s : Shape} {e : EltTy} (M : Memref sig .tc sp s e) :
    (iprop(∃ X, owns (c : Thread nD τ) M fullShare X) : sProp (MM F)) ⊣⊢ iprop(∃ f, (M.view.loc (c : Thread nD τ) ↦[M.view.set]{fullShare} f)) := by
  unfold owns
  constructor
  · iintro ⟨%X, %f, -, H⟩
    iexists f; iexact H
  · iintro ⟨%f, H⟩
    iexists _; iexists f
    isplitr
    · ipureintro; rfl
    · iexact H

/-! ## The arrays by their windows -/

/-- Trip and column block of an array's column. -/
def colOwn {n : ℕ} (x : Shape.Idx ⟨2, ![n, 5120]⟩) : Fin 10 × Fin 4 :=
  (⟨(x 1).val / 512, by have : (x 1).val < 5120 := (x 1).isLt; omega⟩, ⟨(x 1).val % 512 / 128, by omega⟩)

theorem winC_all {w : Memref sig .tc .hbm S6912x5120 .i8} (f : Buf (Elt F) (w.view.loc (c : Thread nD τ))) :
    (w.view.loc (c : Thread nD τ) ↦[w.view.set]{fullShare} f : sProp (MM F))
      = bigSep Finset.univ fun t : Fin 10 => bigSep Finset.univ fun i : Fin 4 => winC c w f (t.val * 512 + i.val * 128) (by omega) := by
  refine (slices_pts w.view (fun b : Fin 10 × Fin 4 => Rect.unit (s := S6912x5120) ![0, b.1.val * 512 + b.2.val * 128] S6912x128.size (inHC (by omega))) colOwn ?_ ?_ f).trans ?_
  · rintro ⟨t, i⟩ y
    have h : (((Rect.unit (s := S6912x5120) ![0, t.val * 512 + i.val * 128] S6912x128.size (inHC (by omega))).emb y) 1).val = t.val * 512 + i.val * 128 + 1 * (y 1).val := rfl
    have hy : (y 1).val < 128 := (y 1).isLt
    unfold colOwn
    apply Prod.ext <;> apply Fin.ext
    · show _ / 512 = t.val; rw [h]; omega
    · show _ % 512 / 128 = i.val; rw [h]; omega
  · intro x
    have hx : (x 1).val < 5120 := (x 1).isLt
    refine ⟨ix2 (x 0) ⟨(x 1).val % 512 % 128, by omega⟩, ?_⟩
    funext a; fin_cases a <;> apply Fin.ext
    · show 0 + 1 * (x 0).val = (x 0).val; omega
    · show (x 1).val / 512 * 512 + (x 1).val % 512 / 128 * 128 + 1 * ((x 1).val % 512 % 128) = (x 1).val; omega
  · rw [bigSep_univ_prod]; rfl
theorem winS_all {w : Memref sig .tc .hbm S432x5120 .bf16} (f : Buf (Elt F) (w.view.loc (c : Thread nD τ))) :
    (w.view.loc (c : Thread nD τ) ↦[w.view.set]{fullShare} f : sProp (MM F))
      = bigSep Finset.univ fun t : Fin 10 => bigSep Finset.univ fun i : Fin 4 => winS c w f (t.val * 512 + i.val * 128) (by omega) := by
  refine (slices_pts w.view (fun b : Fin 10 × Fin 4 => Rect.unit (s := S432x5120) ![0, b.1.val * 512 + b.2.val * 128] S432x128.size (inHS (by omega))) colOwn ?_ ?_ f).trans ?_
  · rintro ⟨t, i⟩ y
    have h : (((Rect.unit (s := S432x5120) ![0, t.val * 512 + i.val * 128] S432x128.size (inHS (by omega))).emb y) 1).val = t.val * 512 + i.val * 128 + 1 * (y 1).val := rfl
    have hy : (y 1).val < 128 := (y 1).isLt
    unfold colOwn
    apply Prod.ext <;> apply Fin.ext
    · show _ / 512 = t.val; rw [h]; omega
    · show _ % 512 / 128 = i.val; rw [h]; omega
  · intro x
    have hx : (x 1).val < 5120 := (x 1).isLt
    refine ⟨ix2 (x 0) ⟨(x 1).val % 512 % 128, by omega⟩, ?_⟩
    funext a; fin_cases a <;> apply Fin.ext
    · show 0 + 1 * (x 0).val = (x 0).val; omega
    · show (x 1).val / 512 * 512 + (x 1).val % 512 / 128 * 128 + 1 * ((x 1).val % 512 % 128) = (x 1).val; omega
  · rw [bigSep_univ_prod]; rfl

/-- The two arrays, whole. -/
def arrays : sProp (MM F) :=
  iprop((E.a2.view.loc (c : Thread nD τ) ↦[E.a2.view.set]{fullShare} E.f2) ∗ (E.a3.view.loc (c : Thread nD τ) ↦[E.a3.view.set]{fullShare} E.f3))
theorem srcL_all : (iprop((E.a2.view.loc (c : Thread nD τ) ↦[E.a2.view.set]{fullShare} E.f2) ∗ (E.a3.view.loc (c : Thread nD τ) ↦[E.a3.view.set]{fullShare} E.f3)) : sProp (MM F))
    = bigSep Finset.univ fun u : Fin 10 => bigSep Finset.univ (srcL E u.val u.2) := by
  rw [winC_all, winS_all, ← bs_sep]
  refine bigSep_congr fun t _ => ?_
  rw [← bs_sep]
  exact bigSep_congr fun i _ => rfl
theorem arrays_eq : arrays E = bigSep Finset.univ (srcT E) := by
  unfold arrays
  rw [srcL_all]
  exact bigSep_congr fun i _ => rfl

/-! ## The rings by their planes -/

/-- Slot and plane of a ring's element. -/
def ringOwn {m n : ℕ} (x : Shape.Idx ⟨4, ![2, 4, m, n]⟩) : Fin 2 × Fin 4 := (x 0, x 1)
theorem ringOwn_of {m n : ℕ} (x : Shape.Idx ⟨4, ![2, 4, m, n]⟩) (s : Fin 2) (i : Fin 4) (h0 : (x 0).val = s.val) (h1 : (x 1).val = i.val) : ringOwn x = (s, i) :=
  Prod.ext (Fin.ext h0) (Fin.ext h1)

def ringC : sProp (MM F) := bigSep Finset.univ fun b : Fin 2 × Fin 4 => anyC c E.a8 b.1.val b.2.val b.1.2 b.2.2
def ringS : sProp (MM F) := bigSep Finset.univ fun b : Fin 2 × Fin 4 => anyS c E.a9 b.1.val b.2.val b.1.2 b.2.2

def KC (b : Fin 2 × Fin 4) : Rect S2x4x6912x128 := Rect.unit (s := S2x4x6912x128) ![b.1.val, b.2.val, 0, 0] S1x1x6912x128.size (inSCp b.1.2 b.2.2)
def KS (b : Fin 2 × Fin 4) : Rect S2x4x432x128 := Rect.unit (s := S2x4x432x128) ![b.1.val, b.2.val, 0, 0] S1x1x432x128.size (inSSp b.1.2 b.2.2)
theorem KC_own (b) (y : (KC b).shape.Idx) : ringOwn ((KC b).emb y) = b := by
  obtain ⟨s, i⟩ := b
  have h0 : (y 0).val < 1 := (y 0).isLt
  have h1 : (y 1).val < 1 := (y 1).isLt
  apply ringOwn_of
  · show s.val + 1 * (y 0).val = s.val; omega
  · show i.val + 1 * (y 1).val = i.val; omega
theorem KS_own (b) (y : (KS b).shape.Idx) : ringOwn ((KS b).emb y) = b := by
  obtain ⟨s, i⟩ := b
  have h0 : (y 0).val < 1 := (y 0).isLt
  have h1 : (y 1).val < 1 := (y 1).isLt
  apply ringOwn_of
  · show s.val + 1 * (y 0).val = s.val; omega
  · show i.val + 1 * (y 1).val = i.val; omega
theorem KC_all (x : S2x4x6912x128.Idx) : ∃ y, (KC (ringOwn x)).emb y = x := by
  have h1 : (x 1).val < 4 := (x 1).isLt
  refine ⟨ix4 (⟨0, by omega⟩ : Fin 1) (⟨0, by omega⟩ : Fin 1) (x 2) (x 3), ?_⟩
  funext a; fin_cases a <;> apply Fin.ext
  · show (x 0).val + 1 * 0 = (x 0).val; omega
  · show (x 1).val + 1 * 0 = (x 1).val; omega
  · show 0 + 1 * (x 2).val = (x 2).val; omega
  · show 0 + 1 * (x 3).val = (x 3).val; omega
theorem KS_all (x : S2x4x432x128.Idx) : ∃ y, (KS (ringOwn x)).emb y = x := by
  have h1 : (x 1).val < 4 := (x 1).isLt
  refine ⟨ix4 (⟨0, by omega⟩ : Fin 1) (⟨0, by omega⟩ : Fin 1) (x 2) (x 3), ?_⟩
  funext a; fin_cases a <;> apply Fin.ext
  · show (x 0).val + 1 * 0 = (x 0).val; omega
  · show (x 1).val + 1 * 0 = (x 1).val; omega
  · show 0 + 1 * (x 2).val = (x 2).val; omega
  · show 0 + 1 * (x 3).val = (x 3).val; omega

theorem anyC_eq (s b : ℕ) (hs : s < 2) (hb : b < 4) : (anyC c E.a8 s b hs hb : sProp (MM F)) ⊣⊢ iprop(∃ f, (E.a8.view.loc (c : Thread nD τ) ↦[(E.a8.view.slice (Rect.unit (s := S2x4x6912x128) ![s, b, 0, 0] S1x1x6912x128.size (inSCp hs hb))).set]{fullShare} f)) := by
  have e : (plC E.a8 s b hs hb).view.set = (E.a8.view.slice (Rect.unit (s := S2x4x6912x128) ![s, b, 0, 0] S1x1x6912x128.size (inSCp hs hb))).set := View.set_reshape _ _
  rw [← e]
  exact owns_any (plC E.a8 s b hs hb)
theorem anyS_eq (s b : ℕ) (hs : s < 2) (hb : b < 4) : (anyS c E.a9 s b hs hb : sProp (MM F)) ⊣⊢ iprop(∃ f, (E.a9.view.loc (c : Thread nD τ) ↦[(E.a9.view.slice (Rect.unit (s := S2x4x432x128) ![s, b, 0, 0] S1x1x432x128.size (inSSp hs hb))).set]{fullShare} f)) := by
  have e : (plS E.a9 s b hs hb).view.set = (E.a9.view.slice (Rect.unit (s := S2x4x432x128) ![s, b, 0, 0] S1x1x432x128.size (inSSp hs hb))).set := View.set_reshape _ _
  rw [← e]
  exact owns_any (plS E.a9 s b hs hb)

theorem ringC_split : iprop(∃ X, owns (c : Thread nD τ) E.a8 fullShare X) ⊢ ringC E := by
  refine (owns_any E.a8).1.trans ?_
  iintro ⟨%f, H⟩
  rw [slices_pts E.a8.view KC ringOwn KC_own KC_all f]
  unfold ringC
  refine bigSep_mono fun b _ => BI.Entails.trans ?_ (anyC_eq E b.1.val b.2.val b.1.2 b.2.2).2
  exact pts_any _ _ f
theorem ringS_split : iprop(∃ X, owns (c : Thread nD τ) E.a9 fullShare X) ⊢ ringS E := by
  refine (owns_any E.a9).1.trans ?_
  iintro ⟨%f, H⟩
  rw [slices_pts E.a9.view KS ringOwn KS_own KS_all f]
  unfold ringS
  refine bigSep_mono fun b _ => BI.Entails.trans ?_ (anyS_eq E b.1.val b.2.val b.1.2 b.2.2).2
  exact pts_any _ _ f
theorem ringC_join (f₀ : Buf (Elt F) (E.a8.view.loc (c : Thread nD τ))) : ringC E ⊢ iprop(∃ X, owns (c : Thread nD τ) E.a8 fullShare X) := by
  refine BI.Entails.trans ?_ ((slices_join E.a8.view KC ringOwn KC_own KC_all f₀).trans (owns_any E.a8).2)
  unfold ringC
  exact bigSep_mono fun b _ => (anyC_eq E b.1.val b.2.val b.1.2 b.2.2).1
theorem ringS_join (f₀ : Buf (Elt F) (E.a9.view.loc (c : Thread nD τ))) : ringS E ⊢ iprop(∃ X, owns (c : Thread nD τ) E.a9 fullShare X) := by
  refine BI.Entails.trans ?_ ((slices_join E.a9.view KS ringOwn KS_own KS_all f₀).trans (owns_any E.a9).2)
  unfold ringS
  exact bigSep_mono fun b _ => (anyS_eq E b.1.val b.2.val b.1.2 b.2.2).1

/-- The two rings' planes, slot by slot. -/
theorem rings_eq : (iprop(ringC E ∗ ringS E) : sProp (MM F))
    = iprop(bigSep Finset.univ (freeL E 0 (by omega)) ∗ bigSep Finset.univ (freeL E 1 (by omega))) := by
  unfold ringC ringS
  rw [← bs_sep, bigSep_univ_prod, bigSep_fin_two]
  rfl

/-! ## The trips, from start to end -/

theorem idle_zero : (Finset.univ : Finset (Fin 10)) = insert (⟨0, by omega⟩ : Fin 10) (insert (⟨1, by omega⟩ : Fin 10) (idle 0)) := by
  ext u; simp only [idle, Finset.mem_insert, Finset.mem_filter, Finset.mem_univ, true_and, true_iff, Fin.ext_iff]; omega
theorem idle_end : idle 10 = (Finset.univ : Finset (Fin 10)) := by
  ext u; have := u.2; simp only [idle, Finset.mem_filter, Finset.mem_univ, true_and, iff_true]; omega
theorem srcT_start : bigSep Finset.univ (srcT E) = iprop(srcT E ⟨0, by omega⟩ ∗ srcT E ⟨1, by omega⟩ ∗ bigSep (idle 0) (srcT E)) := by
  rw [idle_zero, bs_insert, bs_insert]
  · simp [idle]
  · simp [idle]

theorem wp_loop (c : Dev nD) (L : Scf.Loop 32) (hok) (body : Fin L.trips → PUnit → PR F PUnit) (I : ℕ → sProp (MM F)) (hbody : ∀ k acc, I k.val ⊢ WP c (body k acc) fun _ => I (k.val + 1)) (Q : PUnit → sProp (MM F)) :
    iprop(I 0 ∗ (∀ acc, I L.trips -∗ Q acc)) ⊢ WP c (Scf.Loop.for L hok ⟨⟩ body) Q := by
  unfold WP at hbody ⊢
  exact Scf.wp_for _ _ _ _ _ _ _ _ _ (fun n _ => I n) hbody
theorem loop_wp (X : Vec F S32x5120 .f32) (H : Vec F S32x13824 .bf16) (Q : PUnit → sProp (MM F)) :
    iprop(loopI E X H 0 ∗ (loopI E X H 10 -∗ Q ⟨⟩))
      ⊢ WP c (Scf.Loop.for k0_t1_loop k0_t1_ok ⟨⟩ fun t _ => tripP E.a0 E.a2 E.h2 E.a3 E.h3 E.a6 E.h6 E.a8 E.h8 E.a9 E.h9 E.a10 E.a11 E.a13 t) Q := by
  iintro ⟨HI, Hk⟩
  iapply (wp_loop c k0_t1_loop k0_t1_ok _ (loopI E X H) (fun k acc => trip_wp E X H k))
  isplitl [HI]; · iexact HI
  iintro %acc HI
  rw [trips_eq]
  iapply Hk
  iexact HI

/-- The body's resources other than the output and the inputs, before and after. -/
def rest : sProp (MM F) :=
  iprop(arrays E ∗ (∃ X, owns (c : Thread nD τ) E.a8 fullShare X) ∗ (∃ X, owns (c : Thread nD τ) E.a9 fullShare X)
    ∗ (∃ X, owns (c : Thread nD τ) E.a10 fullShare X)
    ∗ semVal ((c : Thread nD τ), .dma (semOf E.a13 0 (by omega))) 0
    ∗ semVal ((c : Thread nD τ), .dma (semOf E.a13 1 (by omega))) 0 ∗ (∃ W, owes (c : Thread nD τ) 0 W))

end Cert.DownIdeal
-- ==== Proof.DownIdeal.Sound.lean ====
/-
  The body's specification.
-/
module

public import proofs.«01_k».proof.Proof.DownIdeal.Whole

@[expose] public section

noncomputable section

namespace Cert.DownIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts₀ Facts K0.R1.Facts₀ K0.R2.Facts₀ Shapes1.Facts₀ Shapes2.Facts₀ Shapes3.Facts₀

variable {F : FTy → Type} [FloatOps F] [Facts] {c : Dev nD} (E : Env F c)

theorem of_eq' {P Q : sProp (MM F)} (h : P = Q) : P ⊢ Q := by rw [h]

theorem slots_start : iprop((∃ X, owns (c : Thread nD τ) E.a8 fullShare X) ∗ (∃ X, owns (c : Thread nD τ) E.a9 fullShare X)
      ∗ semVal ((c : Thread nD τ), .dma (semOf E.a13 0 (by omega))) 0 ∗ semVal ((c : Thread nD τ), .dma (semOf E.a13 1 (by omega))) 0)
    ⊢ iprop(freeSlot E 0 (by omega) ∗ freeSlot E 1 (by omega)) := by
  iintro ⟨H8, H9, Hv0, Hv1⟩
  ihave H8' := (ringC_split E) $$ H8
  ihave H9' := (ringS_split E) $$ H9
  ihave HR : iprop(ringC E ∗ ringS E) $$ [H8' H9']
  · isplitl [H8']; · iexact H8'
    iexact H9'
  ihave HR' := (of_eq' (rings_eq E)) $$ HR
  icases HR' with ⟨HL0, HL1⟩
  unfold freeSlot
  isplitl [Hv0 HL0]
  · isplitl [Hv0]; · iexact Hv0
    iexact HL0
  · isplitl [Hv1]; · iexact Hv1
    iexact HL1
theorem slots_end (f8 : Buf (Elt F) (E.a8.view.loc (c : Thread nD τ))) (f9 : Buf (Elt F) (E.a9.view.loc (c : Thread nD τ))) :
    iprop(freeSlot E 0 (by omega) ∗ freeSlot E 1 (by omega)) ⊢ iprop((∃ X, owns (c : Thread nD τ) E.a8 fullShare X) ∗ (∃ X, owns (c : Thread nD τ) E.a9 fullShare X)
      ∗ semVal ((c : Thread nD τ), .dma (semOf E.a13 0 (by omega))) 0 ∗ semVal ((c : Thread nD τ), .dma (semOf E.a13 1 (by omega))) 0) := by
  unfold freeSlot
  iintro ⟨⟨Hv0, HL0⟩, Hv1, HL1⟩
  ihave HR : iprop(bigSep Finset.univ (freeL E 0 (by omega)) ∗ bigSep Finset.univ (freeL E 1 (by omega))) $$ [HL0 HL1]
  · isplitl [HL0]; · iexact HL0
    iexact HL1
  ihave HR' := (of_eq' (rings_eq E).symm) $$ HR
  icases HR' with ⟨HC, HS⟩
  ihave HC' := (ringC_join E f8) $$ HC
  ihave HS' := (ringS_join E f9) $$ HS
  isplitl [HC']; · iexact HC'
  isplitl [HS']; · iexact HS'
  isplitl [Hv0]; · iexact Hv0
  iexact Hv1

theorem trips_wp (X : Vec F S32x5120 .f32) (H : Vec F S32x13824 .bf16) (Q : PUnit → sProp (MM F)) :
    iprop(bigSep (idle 0) (srcT E) ∗ slotAt E 0 ∗ slotAt E 1 ∗ (∃ P, owns (c : Thread nD τ) E.a10 fullShare P) ∗ owns (c : Thread nD τ) E.a11 fullShare H ∗ owns (c : Thread nD τ) E.a0 fullShare X
        ∗ (∃ A, owns (c : Thread nD τ) E.a6 fullShare A) ∗ (∃ W, owes (c : Thread nD τ) 0 W)
        ∗ (iprop(bigSep Finset.univ (srcT E) ∗ freeSlot E 0 (by omega) ∗ freeSlot E 1 (by omega) ∗ (∃ P, owns (c : Thread nD τ) E.a10 fullShare P) ∗ owns (c : Thread nD τ) E.a11 fullShare H ∗ owns (c : Thread nD τ) E.a0 fullShare X
            ∗ owns (c : Thread nD τ) E.a6 fullShare (E.out X H) ∗ (∃ W, owes (c : Thread nD τ) 0 W)) -∗ Q ⟨⟩))
      ⊢ WP c (Scf.Loop.for k0_t1_loop k0_t1_ok ⟨⟩ fun t _ => tripP E.a0 E.a2 E.h2 E.a3 E.h3 E.a6 E.h6 E.a8 E.h8 E.a9 E.h9 E.a10 E.a11 E.a13 t) Q := by
  iintro ⟨HI, HS0, HS1, HP, HH, HX, ⟨%A, HA⟩, HW, Hk⟩
  iapply (loop_wp E X H)
  isplitl [HI HS0 HS1 HP HH HX HA HW]
  · unfold loopI upToCol
    isplitl [HI]; · iexact HI
    isplitl [HS0]; · iexact HS0
    isplitl [HS1]; · iexact HS1
    isplitl [HP]; · iexact HP
    isplitl [HH]; · iexact HH
    isplitl [HX]; · iexact HX
    isplitl [HA]
    · iexists A
      isplitr
      · ipureintro; intro i hi; exact absurd hi (by omega)
      · iexact HA
    iexact HW
  unfold loopI upToCol
  rw [idle_end, slotAt_free E 10 0 (by omega) (by omega) (by omega), slotAt_free E (10 + 1) 1 (by omega) (by omega) (by omega)]
  iintro ⟨HI, HS0, HS1, HP, HH, HX, ⟨%A', %hA, HA⟩, HW⟩
  iapply Hk
  isplitl [HI]; · iexact HI
  isplitl [HS0]; · iexact HS0
  isplitl [HS1]; · iexact HS1
  isplitl [HP]; · iexact HP
  isplitl [HH]; · iexact HH
  isplitl [HX]; · iexact HX
  isplitl [HA]
  · rw [show A' = E.out X H from funext fun i => hA i (by have : (i 1).val < 5120 := (i 1).isLt; omega)]
    iexact HA
  iexact HW

theorem body_wp (f8 : Buf (Elt F) (E.a8.view.loc (c : Thread nD τ))) (f9 : Buf (Elt F) (E.a9.view.loc (c : Thread nD τ))) (X : Vec F S32x5120 .f32) (H : Vec F S32x13824 .bf16) :
    iprop(owns (c : Thread nD τ) E.a0 fullShare X ∗ owns (c : Thread nD τ) E.a11 fullShare H ∗ (∃ A, owns (c : Thread nD τ) E.a6 fullShare A) ∗ rest E)
      ⊢ WP c (bodyP E.a0 E.a2 E.h2 E.a3 E.h3 E.a6 E.h6 E.a8 E.h8 E.a9 E.h9 E.a10 E.a11 E.a13) fun _ =>
          iprop(owns (c : Thread nD τ) E.a0 fullShare X ∗ owns (c : Thread nD τ) E.a11 fullShare H ∗ owns (c : Thread nD τ) E.a6 fullShare (E.out X H) ∗ rest E) := by
  unfold bodyP rest
  rw [WP_bind']
  iintro ⟨H0, H11, H6, HA, H8, H9, H10, Hv0, Hv1, HW⟩
  ihave HF := (slots_start E) $$ [H8 H9 Hv0 Hv1]
  · isplitl [H8]; · iexact H8
    isplitl [H9]; · iexact H9
    isplitl [Hv0]; · iexact Hv0
    iexact Hv1
  icases HF with ⟨HF0, HF1⟩
  ihave HA' := (of_eq' ((arrays_eq E).trans (srcT_start E))) $$ HA
  icases HA' with ⟨HA0, HA1, HAr⟩
  simp only [WP_bind']
  iapply (fill_wp E 0 _ 0 (by omega) _ _ (fun i hi => by omega))
  isplitl [HF0]; · iexact HF0
  isplitl [HA0]; · iexact HA0
  iintro HB0
  iapply (fill_wp E 1 _ 1 (by omega) _ _ (fun i hi => by omega))
  isplitl [HF1]; · iexact HF1
  isplitl [HA1]; · iexact HA1
  iintro HB1
  iapply (trips_wp E X H)
  isplitl [HAr]; · iexact HAr
  rw [slotAt_batch E 0 0 (by omega) (by omega) (by omega), slotAt_batch E 1 1 (by omega) (by omega) (by omega)]
  isplitl [HB0]; · iexact HB0
  isplitl [HB1]; · iexact HB1
  isplitl [H10]; · iexact H10
  isplitl [H11]; · iexact H11
  isplitl [H0]; · iexact H0
  isplitl [H6]; · iexact H6
  isplitl [HW]; · iexact HW
  iintro ⟨HA, HF0, HF1, H10, H11, H0, H6, HW⟩
  ihave HE := (slots_end E f8 f9) $$ [HF0 HF1]
  · isplitl [HF0]; · iexact HF0
    iexact HF1
  icases HE with ⟨H8, H9, Hv0, Hv1⟩
  iapply WP_pure
  isplitl [H0]; · iexact H0
  isplitl [H11]; · iexact H11
  isplitl [H6]; · iexact H6
  isplitl [HA]; · rw [arrays_eq]; iexact HA
  isplitl [H8]; · iexact H8
  isplitl [H9]; · iexact H9
  isplitl [H10]; · iexact H10
  isplitl [Hv0]; · iexact Hv0
  isplitl [Hv1]; · iexact Hv1
  iexact HW

end Cert.DownIdeal
-- ==== Proof.DownIdeal.Top.lean ====
/-
  The launch: the kernel's resources, the body's obligation, the run and the frame.
-/
module

public import proofs.«01_k».proof.Proof.DownIdeal.Sound
public import proofs.«01_k».proof.Proof.Gen.DownIdeal.Frame

@[expose] public section

set_option maxRecDepth 16384

noncomputable section

namespace Cert.DownIdeal.Top

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen (V iblk launch0 t0_0 fin_N0 bigSep_W0 scopedRest0_eq main_chain hostOps0 hostOps0_sub hostOps0_fresh V_main_arg0 V_main_arg1 V_main_arg2 V_main_arg3 bodyAt0)

open Facts₀ Facts K0.R1.Facts₀ K0.R2.Facts₀ Shapes1.Facts₀ Shapes2.Facts₀ Shapes3.Facts₀

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, at this algebra -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (((dats 0 c).arrAt_in 0 rfl _).trans ((hA c 0).trans (V_main_arg0 m c))),
      (((h.1 c).2 main_arg1 (Pipeline.mem_restRefs_of main_arg1 (by decide) (by decide))).trans (V_main_arg1 m c)),
      (((h.1 c).2 main_arg2 (Pipeline.mem_restRefs_of main_arg2 (by decide) (by decide))).trans (V_main_arg2 m c)),
      (((h.1 c).2 main_arg3 (Pipeline.mem_restRefs_of main_arg3 (by decide) (by decide))).trans (V_main_arg3 m c))⟩, h.2⟩) h

/-! ## The body's operands -/

/-- The body's DMA cells: one for each slot. -/
abbrev osem0 : Fin 2 → SemLoc sig := fun j => (![SemLoc.dma 3, SemLoc.dma 4] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0) := by
  rw [Pipeline.ownSems0_eq_of_list c osem0 [0, 1] (by decide) (by decide)]; rfl
/-- The arrays left in slow memory that the body's copies read. -/
def H0 : Finset (Ref sig .tc) := {main_v4, main_v5}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v4) ↦{fullShare} V m c main_v4) ∗ (((c : Thread nD τ).loc main_v5) ↦{fullShare} V m c main_v5)) := by
  rw [BI.bigSep_eq_bigSepL_of_eq [main_v4, main_v5] (by decide) (by decide)]; rfl

/-- The kernel's memrefs at point `t`, and what the arrays hold when the region is entered. -/
def env (c : Dev nD) (t : Fin cfg0.N) : Env F c where
  a0 := win0_0.stage (cfg0.slots t 0)
  h0 := hstage0_0 0
  a2 := Memref.whole main_v4
  h2 := Memref.isWhole_whole _
  a3 := Memref.whole main_v5
  h3 := Memref.isWhole_whole _
  a6 := win0_2.stage (cfg0.slots t 2)
  h6 := hstage0_2 0
  a8 := Memref.whole cc0_scratch0
  h8 := Memref.isWhole_whole _
  a9 := Memref.whole cc0_scratch1
  h9 := Memref.isWhole_whole _
  a10 := Memref.whole cc0_scratch2
  h10 := Memref.isWhole_whole _
  a11 := win0_1.stage (cfg0.slots t 1)
  h11 := hstage0_1 0
  a13 := cc0_scratch3
  f2 := V m c main_v4
  f3 := V m c main_v5

theorem pts_whole (c : Dev nD) (b : Ref sig .tc) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [show (Memref.whole b).view.set = Finset.univ from View.set_whole b]
/-- The launch's resources are the body's, but for the output, the input and what is owed. -/
theorem phi_eq (c : Dev nD) (t : Fin cfg0.N) :
    (iprop(Pipeline.ΦD osem0 spec0 H0 (V m) c ∗ (∃ W, owes (c : Thread nD τ) 0 W)) : sProp 𝕄) ⊣⊢ iprop(rest (env m c t) ∗ (∃ r, prngReg c r)) := by
  rw [Pipeline.ΦD_eq, scopedRest0_eq, ownSems00_eq, hbmPts0_eq]
  unfold rest arrays
  rw [show (env m c t).a8 = Memref.whole cc0_scratch0 from rfl, show (env m c t).a9 = Memref.whole cc0_scratch1 from rfl,
    show (env m c t).a10 = Memref.whole cc0_scratch2 from rfl]
  simp only [owns_whole]
  have e2 := pts_whole c main_v4 (V m c main_v4)
  have e3 := pts_whole c main_v5 (V m c main_v5)
  rw [← e2, ← e3]
  constructor
  · iintro ⟨⟨⟨HS0, HS1, HS2⟩, Hg, ⟨Hq0, Hq1⟩, Hh1, Hh2⟩, HW⟩
    isplitr [Hg]
    · isplitl [Hh1 Hh2]
      · isplitl [Hh1]; · iexact Hh1
        iexact Hh2
      isplitl [HS0]; · iexact HS0
      isplitl [HS1]; · iexact HS1
      isplitl [HS2]; · iexact HS2
      isplitl [Hq0]; · iexact Hq0
      isplitl [Hq1]; · iexact Hq1
      iexact HW
    · iexact Hg
  · iintro ⟨⟨⟨Hh1, Hh2⟩, HS0, HS1, HS2, Hq0, Hq1, HW⟩, Hg⟩
    isplitr [HW]
    · isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh1]; · iexact Hh1
      iexact Hh2
    · iexact HW

/-! ## The body's obligation -/

/-- The block the output window is left at. -/
def outV (c : Dev nD) (t : Fin cfg0.N) : Vec F S32x5120 .bf16 := (env m c t).out (iblk m c 0 t) (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outV m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outV m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

theorem body_run (c : Dev nD) (t : Fin cfg0.N) :
    (iprop(owns (c : Thread nD τ) (win0_0.stage (cfg0.slots t 0)) fullShare (iblk m c 0 t) ∗ owns (c : Thread nD τ) (win0_1.stage (cfg0.slots t 1)) fullShare (iblk m c 1 t) ∗ (∃ A, owns (c : Thread nD τ) (win0_2.stage (cfg0.slots t 2)) fullShare A) ∗ rest (env m c t)) : sProp 𝕄)
      ⊢ WP c (bodyAt0 t) fun _ =>
          iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (outV m c t) ∗ rest (env m c t)) := by
  unfold bodyAt0
  rw [kernel_eq]
  exact body_wp (env m c t) (m ((c : Thread nD τ).loc cc0_scratch0)) (m ((c : Thread nD τ).loc cc0_scratch1)) (iblk m c 0 t) (iblk m c 1 t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after0_0, after0_1, after0_2]
  rw [show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩⟩
  rw [before0_0, before0_1]
  ihave HR := (phi_eq m c t).1 $$ [HΦ HW]
  · isplitl [HΦ]; · iexact HΦ
    iexists W; iexact HW
  icases HR with ⟨HR, Hg⟩
  iapply wp_wand_r
  isplitl [H0 H1 H2 HR]
  · iapply (body_run m c t)
    isplitl [H0]; · iexact H0
    isplitl [H1]; · iexact H1
    isplitl [H2]; · iexists _; iexact H2
    iexact HR
  iintro %u ⟨H0, H1, H2, HR⟩
  ihave HΦ := (phi_eq m c t).2 $$ [HR Hg]
  · isplitl [HR]; · iexact HR
    iexact Hg
  icases HΦ with ⟨HΦ, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end as launched and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  frame_of m ρ (dats m) (A_eq m) (run_main m ρ)

end Cert.DownIdeal.Top
-- ==== Proof.DownIdeal.Result.lean ====
/-
  What the kernel's result array ends holding.
-/
module

public import proofs.«01_k».proof.Proof.DownIdeal.Top
public import Idealize.ShloMosaic.Lib.Pipeline.Value
public import Idealize.ShloMosaic.Lib.StableHlo.Run

@[expose] public section

set_option maxRecDepth 16384

noncomputable section

namespace Cert.DownIdeal.Top

open Idealize.ShloMosaic Idealize.ShloMosaic.TcCoe
open Idealize.SL Idealize.SL.Sem
open Idealize.ShloMosaic.Pipeline (Dat Cfg Window)
open Cert.DownIdeal.Gen (V iblk launch0 t0_0 fin_N0 hostOps0 V_main_arg0)
open Facts₀ Facts K0.R1.Facts₀ K0.R2.Facts₀ Shapes1.Facts₀ Shapes2.Facts₀ Shapes3.Facts₀

variable {F : FTy → Type} [FloatOps F]
variable (m : (ℓ : Loc nD τ sig) → Buf (Elt F) ℓ) (ρ : Dev nD → PrngReg)

/-! ## The arrays the region finds -/

theorem V_v2 (c : Dev nD) : V m c main_v2 = shapeCast S32x13824 (transpose S32x432x16x2 [0, 1, 3, 2] (shapeCast S32x432x2x16 (m ((c : Thread nD τ).loc main_arg1) : Vec F S32x13824 .bf16) shapeCasts_S32x13824_S32x432x2x16) transposes_S32x432x2x16_S32x432x16x2_0_1_3_2) shapeCasts_S32x432x16x2_S32x13824 := by
  show StableHlo.after (List.flatten [hostOps0]) (fun b => m (c, b)) (Proc.devRef .tc main_v2) = _
  simp only [hostOps0, List.flatten_cons, List.flatten_nil, List.append_nil]
  after_results
  rfl
theorem V_v4 (c : Dev nD) : V m c main_v4 = shapeCast S6912x5120 (transpose S432x16x5120 [1, 2, 0] (m ((c : Thread nD τ).loc main_arg2) : Vec F S5120x432x16 .i8) transposes_S5120x432x16_S432x16x5120_1_2_0) shapeCasts_S432x16x5120_S6912x5120 := by
  show StableHlo.after (List.flatten [hostOps0]) (fun b => m (c, b)) (Proc.devRef .tc main_v4) = _
  simp only [hostOps0, List.flatten_cons, List.flatten_nil, List.append_nil]
  after_results
  rfl
theorem V_v5 (c : Dev nD) : V m c main_v5 = transpose S432x5120 [1, 0] (m ((c : Thread nD τ).loc main_arg3) : Vec F S5120x432 .bf16) transposes_S5120x432_S432x5120_1_0 := by
  show StableHlo.after (List.flatten [hostOps0]) (fun b => m (c, b)) (Proc.devRef .tc main_v5) = _
  simp only [hostOps0, List.flatten_cons, List.flatten_nil, List.append_nil]
  after_results

/-! ## The output array after the run -/

theorem final_out (c : Dev nD) :
    ((cfg0.win (2 : Fin 3)).blk t0_0).view.read (Elt F) ((dats (F := F) m 0 c).arrAt (2 : Fin 3) cfg0.N)
      = (dats (F := F) m 0 c).flushed (2 : Fin 3) t0_0 := by
  rw [show cfg0.N = (t0_0 : Fin cfg0.N).val + 1 from rfl, (dats (F := F) m 0 c).arrAt_succ (2 : Fin 3) t0_0]
  rw [show (cfg0.win (2 : Fin 3)).flush t0_0 = true from by decide, if_pos rfl]
  exact View.read_write_univ _ _

theorem final_value (c : Dev nD) : (dats (F := F) m 0 c).arrAt (2 : Fin 3) cfg0.N = outV m c t0_0 := by
  have ho := final_out (F := F) m c
  have hz : (fun a => (win0_2.index t0_0) a * main_v6.ty.shape.size a) = fun _ => 0 :=
    funext fun a => by fin_cases a <;> decide
  have hr := fun f => Memref.read_access_unit_zero (Elt F) main_v6 hz (fun a => by fin_cases a <;> decide) f
  have ho' : (dats (F := F) m 0 c).arrAt (2 : Fin 3) cfg0.N = (dats (F := F) m 0 c).flushed (2 : Fin 3) t0_0 := (hr _).symm.trans ho
  rw [ho']
  show (cfg0.win (2 : Fin 3)).cut _ ((dats (F := F) m 0 c).after 2 t0_0) = _
  rw [after0_2]
  rfl

theorem in_value (c : Dev nD) : (iblk m c 0 t0_0 : Vec F S32x5120 .f32) = m ((c : Thread nD τ).loc main_arg0) := by
  have hz : (fun a => (win0_0.index t0_0) a * main_arg0.ty.shape.size a) = fun _ => 0 :=
    funext fun a => by fin_cases a <;> decide
  have hr := fun f => Memref.read_access_unit_zero (Elt F) main_arg0 hz (fun a => by fin_cases a <;> decide) f
  unfold iblk
  exact (hr _).trans (V_main_arg0 m c)

theorem act_value (c : Dev nD) : (iblk m c 1 t0_0 : Vec F S32x13824 .bf16) = V m c main_v2 := by
  have hz : (fun a => (win0_1.index t0_0) a * main_v2.ty.shape.size a) = fun _ => 0 :=
    funext fun a => by fin_cases a <;> decide
  have hr := fun f => Memref.read_access_unit_zero (Elt F) main_v2 hz (fun a => by fin_cases a <;> decide) f
  unfold iblk
  exact hr _

end Cert.DownIdeal.Top
-- ==== Proof.DownIdeal.Value.lean ====
/-
  What the kernel's vectors hold, element by element, over the extended reals.
-/
module

public import proofs.«01_k».proof.Proof.DownIdeal.Run
public import Idealize.ShloMosaic.Lib.Pointwise
public import Idealize.ShloMosaic.Lib.Pipeline.Value
public import Idealize.ShloMosaic.PureOps.Ideal

@[expose] public section

set_option maxRecDepth 16384

noncomputable section

namespace Cert.DownIdeal

open Idealize.ShloMosaic
open Facts₀ Facts K0.R1.Facts₀ K0.R2.Facts₀ Shapes1.Facts₀ Shapes2.Facts₀ Shapes3.Facts₀

variable [Facts]

/-! ## Vectors -/

/-- A nibble of a code less eight: the low one at `b = 0`, else the high one. -/
def nibR (b : ℕ) (c : BitVec 8) : EReal := (((((if b = 0 then c.toNat % 16 else c.toNat / 16 : ℕ) : ℤ) - 8 : ℤ) : ℝ) : EReal)

theorem lo_toInt (c : BitVec 8) : (((c.setWidth 32) &&& 15#32) - 8#32).toInt = ((c.toNat % 16 : ℕ) : ℤ) - 8 := by
  revert c; decide +kernel
theorem hi_toInt (c : BitVec 8) : (IntOp.subi (IntOp.shrsi ArithUnit.vector (c.setWidth 32) 4#32) 8#32).toInt = ((c.toNat / 16 : ℕ) : ℤ) - 8 := by
  revert c; decide +kernel

theorem nibbles_apply (c : Vec Ideal S1x1x32x128 .i8) (q : Fin 64) (l : Fin 128) :
    nibbles c (ix2 q l) = nibR (q.val % 2) (c (ix4 0 0 ⟨q.val / 2, by omega⟩ l)) := by
  pointwise [nibbles]
  unfold nibR
  split
  · next h =>
    rw [if_pos (by omega : q.val % 2 = 0)]
    exact congrArg (fun z : ℤ => ((z : ℝ) : EReal)) (lo_toInt _)
  · next h =>
    rw [if_neg (by omega : ¬ q.val % 2 = 0)]
    exact congrArg (fun z : ℤ => ((z : ℝ) : EReal)) (hi_toInt _)

theorem scRows_apply (s : Vec Ideal S1x1x8x128 .f32) (r : Fin 16) (l : Fin 128) :
    scRows s (ix2 r l) = s (ix4 0 0 ⟨r.val % 8, by omega⟩ l) := by
  pointwise [scRows]
  split
  · congr 2; apply Fin.ext; show r.val = r.val % 8; omega
  · congr 2; apply Fin.ext; show r.val - 8 = r.val % 8; omega

theorem qp0_apply (q : Quart Ideal) (r : Fin 16) (l : Fin 128) :
    qp0 q (ix2 r l) = nibR (r.val % 2) (q.c (ix4 0 0 ⟨0 + r.val / 2, by omega⟩ l)) * q.s0 (ix4 0 0 ⟨r.val % 8, by omega⟩ l) := by
  pointwise [qp0, nibbles_apply, scRows_apply]
  all_goals congr 2
  all_goals first | omega | (congr 2; apply Fin.ext; simp; omega)

theorem qp1_apply (q : Quart Ideal) (r : Fin 16) (l : Fin 128) :
    qp1 q (ix2 r l) = nibR (r.val % 2) (q.c (ix4 0 0 ⟨8 + r.val / 2, by omega⟩ l)) * q.s0 (ix4 0 0 ⟨r.val % 8, by omega⟩ l) := by
  pointwise [qp1, nibbles_apply, scRows_apply]
  all_goals congr 2
  all_goals first | omega | (congr 2; apply Fin.ext; simp; omega)

theorem qp2_apply (q : Quart Ideal) (r : Fin 16) (l : Fin 128) :
    qp2 q (ix2 r l) = nibR (r.val % 2) (q.c (ix4 0 0 ⟨16 + r.val / 2, by omega⟩ l)) * q.s1 (ix4 0 0 ⟨r.val % 8, by omega⟩ l) := by
  pointwise [qp2, nibbles_apply, scRows_apply]
  all_goals congr 2
  all_goals first | omega | (congr 2; apply Fin.ext; simp; omega)

theorem qp3_apply (q : Quart Ideal) (r : Fin 16) (l : Fin 128) :
    qp3 q (ix2 r l) = nibR (r.val % 2) (q.c (ix4 0 0 ⟨24 + r.val / 2, by omega⟩ l)) * q.s1 (ix4 0 0 ⟨r.val % 8, by omega⟩ l) := by
  pointwise [qp3, nibbles_apply, scRows_apply]
  all_goals congr 2
  all_goals first | omega | (congr 2; apply Fin.ext; simp; omega)

set_option maxHeartbeats 8000000 in
theorem cat16_apply (f0 f1 f2 f3 f4 f5 f6 f7 f8 f9 f10 f11 f12 f13 f14 f15 : FVec Ideal S16x128 .bf16) (T : ℕ → EReal) (l : Fin 128)
    (h0 : ∀ b : Fin 16, f0 (ix2 b l) = T (0 + b.val)) (h1 : ∀ b : Fin 16, f1 (ix2 b l) = T (16 + b.val)) (h2 : ∀ b : Fin 16, f2 (ix2 b l) = T (32 + b.val)) (h3 : ∀ b : Fin 16, f3 (ix2 b l) = T (48 + b.val)) (h4 : ∀ b : Fin 16, f4 (ix2 b l) = T (64 + b.val)) (h5 : ∀ b : Fin 16, f5 (ix2 b l) = T (80 + b.val)) (h6 : ∀ b : Fin 16, f6 (ix2 b l) = T (96 + b.val)) (h7 : ∀ b : Fin 16, f7 (ix2 b l) = T (112 + b.val)) (h8 : ∀ b : Fin 16, f8 (ix2 b l) = T (128 + b.val)) (h9 : ∀ b : Fin 16, f9 (ix2 b l) = T (144 + b.val)) (h10 : ∀ b : Fin 16, f10 (ix2 b l) = T (160 + b.val)) (h11 : ∀ b : Fin 16, f11 (ix2 b l) = T (176 + b.val)) (h12 : ∀ b : Fin 16, f12 (ix2 b l) = T (192 + b.val)) (h13 : ∀ b : Fin 16, f13 (ix2 b l) = T (208 + b.val)) (h14 : ∀ b : Fin 16, f14 (ix2 b l) = T (224 + b.val)) (h15 : ∀ b : Fin 16, f15 (ix2 b l) = T (240 + b.val)) (p : Fin 256) :
    (concatenate S256x128 0 [⟨S16x128, f0⟩, ⟨S16x128, f1⟩, ⟨S16x128, f2⟩, ⟨S16x128, f3⟩, ⟨S16x128, f4⟩, ⟨S16x128, f5⟩, ⟨S16x128, f6⟩, ⟨S16x128, f7⟩, ⟨S16x128, f8⟩, ⟨S16x128, f9⟩, ⟨S16x128, f10⟩, ⟨S16x128, f11⟩, ⟨S16x128, f12⟩, ⟨S16x128, f13⟩, ⟨S16x128, f14⟩, ⟨S16x128, f15⟩]
    concatenates_S16x128_S16x128_S16x128_S16x128_S16x128_S16x128_S16x128_S16x128_S16x128_S16x128_S16x128_S16x128_S16x128_S16x128_S16x128_S16x128_S256x128_d0 : FVec Ideal S256x128 .bf16) (ix2 p l) = T p.val := by
  by_cases c0 : p.val < 16
  · exact (concatenate_apply_piece (t := S256x128) 0 _ _ (ix2 p l) 0 (by simp) S16x128 f0 rfl rfl 0 rfl (ix2 ⟨p.val - 0, by omega⟩ l)
      (fun b hb => by fin_cases b; exact absurd rfl hb; rfl) (by show 0 + (p.val - 0) = p.val; omega)).trans ((h0 _).trans (congrArg T (by show 0 + (p.val - 0) = p.val; omega)))
  by_cases c1 : p.val < 32
  · exact (concatenate_apply_piece (t := S256x128) 0 _ _ (ix2 p l) 1 (by simp) S16x128 f1 rfl rfl 16 rfl (ix2 ⟨p.val - 16, by omega⟩ l)
      (fun b hb => by fin_cases b; exact absurd rfl hb; rfl) (by show 16 + (p.val - 16) = p.val; omega)).trans ((h1 _).trans (congrArg T (by show 16 + (p.val - 16) = p.val; omega)))
  by_cases c2 : p.val < 48
  · exact (concatenate_apply_piece (t := S256x128) 0 _ _ (ix2 p l) 2 (by simp) S16x128 f2 rfl rfl 32 rfl (ix2 ⟨p.val - 32, by omega⟩ l)
      (fun b hb => by fin_cases b; exact absurd rfl hb; rfl) (by show 32 + (p.val - 32) = p.val; omega)).trans ((h2 _).trans (congrArg T (by show 32 + (p.val - 32) = p.val; omega)))
  by_cases c3 : p.val < 64
  · exact (concatenate_apply_piece (t := S256x128) 0 _ _ (ix2 p l) 3 (by simp) S16x128 f3 rfl rfl 48 rfl (ix2 ⟨p.val - 48, by omega⟩ l)
      (fun b hb => by fin_cases b; exact absurd rfl hb; rfl) (by show 48 + (p.val - 48) = p.val; omega)).trans ((h3 _).trans (congrArg T (by show 48 + (p.val - 48) = p.val; omega)))
  by_cases c4 : p.val < 80
  · exact (concatenate_apply_piece (t := S256x128) 0 _ _ (ix2 p l) 4 (by simp) S16x128 f4 rfl rfl 64 rfl (ix2 ⟨p.val - 64, by omega⟩ l)
      (fun b hb => by fin_cases b; exact absurd rfl hb; rfl) (by show 64 + (p.val - 64) = p.val; omega)).trans ((h4 _).trans (congrArg T (by show 64 + (p.val - 64) = p.val; omega)))
  by_cases c5 : p.val < 96
  · exact (concatenate_apply_piece (t := S256x128) 0 _ _ (ix2 p l) 5 (by simp) S16x128 f5 rfl rfl 80 rfl (ix2 ⟨p.val - 80, by omega⟩ l)
      (fun b hb => by fin_cases b; exact absurd rfl hb; rfl) (by show 80 + (p.val - 80) = p.val; omega)).trans ((h5 _).trans (congrArg T (by show 80 + (p.val - 80) = p.val; omega)))
  by_cases c6 : p.val < 112
  · exact (concatenate_apply_piece (t := S256x128) 0 _ _ (ix2 p l) 6 (by simp) S16x128 f6 rfl rfl 96 rfl (ix2 ⟨p.val - 96, by omega⟩ l)
      (fun b hb => by fin_cases b; exact absurd rfl hb; rfl) (by show 96 + (p.val - 96) = p.val; omega)).trans ((h6 _).trans (congrArg T (by show 96 + (p.val - 96) = p.val; omega)))
  by_cases c7 : p.val < 128
  · exact (concatenate_apply_piece (t := S256x128) 0 _ _ (ix2 p l) 7 (by simp) S16x128 f7 rfl rfl 112 rfl (ix2 ⟨p.val - 112, by omega⟩ l)
      (fun b hb => by fin_cases b; exact absurd rfl hb; rfl) (by show 112 + (p.val - 112) = p.val; omega)).trans ((h7 _).trans (congrArg T (by show 112 + (p.val - 112) = p.val; omega)))
  by_cases c8 : p.val < 144
  · exact (concatenate_apply_piece (t := S256x128) 0 _ _ (ix2 p l) 8 (by simp) S16x128 f8 rfl rfl 128 rfl (ix2 ⟨p.val - 128, by omega⟩ l)
      (fun b hb => by fin_cases b; exact absurd rfl hb; rfl) (by show 128 + (p.val - 128) = p.val; omega)).trans ((h8 _).trans (congrArg T (by show 128 + (p.val - 128) = p.val; omega)))
  by_cases c9 : p.val < 160
  · exact (concatenate_apply_piece (t := S256x128) 0 _ _ (ix2 p l) 9 (by simp) S16x128 f9 rfl rfl 144 rfl (ix2 ⟨p.val - 144, by omega⟩ l)
      (fun b hb => by fin_cases b; exact absurd rfl hb; rfl) (by show 144 + (p.val - 144) = p.val; omega)).trans ((h9 _).trans (congrArg T (by show 144 + (p.val - 144) = p.val; omega)))
  by_cases c10 : p.val < 176
  · exact (concatenate_apply_piece (t := S256x128) 0 _ _ (ix2 p l) 10 (by simp) S16x128 f10 rfl rfl 160 rfl (ix2 ⟨p.val - 160, by omega⟩ l)
      (fun b hb => by fin_cases b; exact absurd rfl hb; rfl) (by show 160 + (p.val - 160) = p.val; omega)).trans ((h10 _).trans (congrArg T (by show 160 + (p.val - 160) = p.val; omega)))
  by_cases c11 : p.val < 192
  · exact (concatenate_apply_piece (t := S256x128) 0 _ _ (ix2 p l) 11 (by simp) S16x128 f11 rfl rfl 176 rfl (ix2 ⟨p.val - 176, by omega⟩ l)
      (fun b hb => by fin_cases b; exact absurd rfl hb; rfl) (by show 176 + (p.val - 176) = p.val; omega)).trans ((h11 _).trans (congrArg T (by show 176 + (p.val - 176) = p.val; omega)))
  by_cases c12 : p.val < 208
  · exact (concatenate_apply_piece (t := S256x128) 0 _ _ (ix2 p l) 12 (by simp) S16x128 f12 rfl rfl 192 rfl (ix2 ⟨p.val - 192, by omega⟩ l)
      (fun b hb => by fin_cases b; exact absurd rfl hb; rfl) (by show 192 + (p.val - 192) = p.val; omega)).trans ((h12 _).trans (congrArg T (by show 192 + (p.val - 192) = p.val; omega)))
  by_cases c13 : p.val < 224
  · exact (concatenate_apply_piece (t := S256x128) 0 _ _ (ix2 p l) 13 (by simp) S16x128 f13 rfl rfl 208 rfl (ix2 ⟨p.val - 208, by omega⟩ l)
      (fun b hb => by fin_cases b; exact absurd rfl hb; rfl) (by show 208 + (p.val - 208) = p.val; omega)).trans ((h13 _).trans (congrArg T (by show 208 + (p.val - 208) = p.val; omega)))
  by_cases c14 : p.val < 240
  · exact (concatenate_apply_piece (t := S256x128) 0 _ _ (ix2 p l) 14 (by simp) S16x128 f14 rfl rfl 224 rfl (ix2 ⟨p.val - 224, by omega⟩ l)
      (fun b hb => by fin_cases b; exact absurd rfl hb; rfl) (by show 224 + (p.val - 224) = p.val; omega)).trans ((h14 _).trans (congrArg T (by show 224 + (p.val - 224) = p.val; omega)))
  exact (concatenate_apply_piece (t := S256x128) 0 _ _ (ix2 p l) 15 (by simp) S16x128 f15 rfl rfl 240 rfl (ix2 ⟨p.val - 240, by omega⟩ l)
      (fun b hb => by fin_cases b; exact absurd rfl hb; rfl) (by show 240 + (p.val - 240) = p.val; omega)).trans ((h15 _).trans (congrArg T (by show 240 + (p.val - 240) = p.val; omega)))

/-- The weight in row `n` of tile `kt` of a column block. -/
def colT (C : Vec Ideal S6912x128 .i8) (S : Vec Ideal S432x128 .bf16) (kt : ℕ) (l : Fin 128) (n : ℕ) : EReal :=
  nibR (n % 2) (C (ix2 ⟨(kt * 128 + n / 2) % 6912, Nat.mod_lt _ (by omega)⟩ l)) * S (ix2 ⟨(kt * 8 + n / 32) % 432, Nat.mod_lt _ (by omega)⟩ l)

theorem qp0_quart (C : Vec Ideal S6912x128 .i8) (S : Vec Ideal S432x128 .bf16) (kt i : ℕ) (hk : kt < 54) (hi : i < 4) (b : Fin 16) (l : Fin 128) :
    qp0 (quartOf C S kt i hk hi) (ix2 b l) = colT C S kt l (64 * i + 0 + b.val) := by
  rw [qp0_apply]
  unfold colT
  show nibR (b.val % 2) (C (ValueIdx.ix2 ⟨kt * 128 + i * 32 + (0 + b.val / 2), _⟩ l)) * S (ValueIdx.ix2 ⟨2 * (kt * 4 + i), _⟩ l) = _
  simp only [← ix2_eq_valueIdx]
  congr 1
  · congr 1
    · omega
    · congr 2; apply Fin.ext; show kt * 128 + i * 32 + (0 + b.val / 2) = (kt * 128 + (64 * i + 0 + b.val) / 2) % 6912; omega
  · congr 2; apply Fin.ext; show 2 * (kt * 4 + i) = (kt * 8 + (64 * i + 0 + b.val) / 32) % 432; omega

theorem qp1_quart (C : Vec Ideal S6912x128 .i8) (S : Vec Ideal S432x128 .bf16) (kt i : ℕ) (hk : kt < 54) (hi : i < 4) (b : Fin 16) (l : Fin 128) :
    qp1 (quartOf C S kt i hk hi) (ix2 b l) = colT C S kt l (64 * i + 16 + b.val) := by
  rw [qp1_apply]
  unfold colT
  show nibR (b.val % 2) (C (ValueIdx.ix2 ⟨kt * 128 + i * 32 + (8 + b.val / 2), _⟩ l)) * S (ValueIdx.ix2 ⟨2 * (kt * 4 + i), _⟩ l) = _
  simp only [← ix2_eq_valueIdx]
  congr 1
  · congr 1
    · omega
    · congr 2; apply Fin.ext; show kt * 128 + i * 32 + (8 + b.val / 2) = (kt * 128 + (64 * i + 16 + b.val) / 2) % 6912; omega
  · congr 2; apply Fin.ext; show 2 * (kt * 4 + i) = (kt * 8 + (64 * i + 16 + b.val) / 32) % 432; omega

theorem qp2_quart (C : Vec Ideal S6912x128 .i8) (S : Vec Ideal S432x128 .bf16) (kt i : ℕ) (hk : kt < 54) (hi : i < 4) (b : Fin 16) (l : Fin 128) :
    qp2 (quartOf C S kt i hk hi) (ix2 b l) = colT C S kt l (64 * i + 32 + b.val) := by
  rw [qp2_apply]
  unfold colT
  show nibR (b.val % 2) (C (ValueIdx.ix2 ⟨kt * 128 + i * 32 + (16 + b.val / 2), _⟩ l)) * S (ValueIdx.ix2 ⟨2 * (kt * 4 + i) + 1, _⟩ l) = _
  simp only [← ix2_eq_valueIdx]
  congr 1
  · congr 1
    · omega
    · congr 2; apply Fin.ext; show kt * 128 + i * 32 + (16 + b.val / 2) = (kt * 128 + (64 * i + 32 + b.val) / 2) % 6912; omega
  · congr 2; apply Fin.ext; show 2 * (kt * 4 + i) + 1 = (kt * 8 + (64 * i + 32 + b.val) / 32) % 432; omega

theorem qp3_quart (C : Vec Ideal S6912x128 .i8) (S : Vec Ideal S432x128 .bf16) (kt i : ℕ) (hk : kt < 54) (hi : i < 4) (b : Fin 16) (l : Fin 128) :
    qp3 (quartOf C S kt i hk hi) (ix2 b l) = colT C S kt l (64 * i + 48 + b.val) := by
  rw [qp3_apply]
  unfold colT
  show nibR (b.val % 2) (C (ValueIdx.ix2 ⟨kt * 128 + i * 32 + (24 + b.val / 2), _⟩ l)) * S (ValueIdx.ix2 ⟨2 * (kt * 4 + i) + 1, _⟩ l) = _
  simp only [← ix2_eq_valueIdx]
  congr 1
  · congr 1
    · omega
    · congr 2; apply Fin.ext; show kt * 128 + i * 32 + (24 + b.val / 2) = (kt * 128 + (64 * i + 48 + b.val) / 2) % 6912; omega
  · congr 2; apply Fin.ext; show 2 * (kt * 4 + i) + 1 = (kt * 8 + (64 * i + 48 + b.val) / 32) % 432; omega

theorem colOf_apply (C : Vec Ideal S6912x128 .i8) (S : Vec Ideal S432x128 .bf16) (kt : ℕ) (hk : kt < 54) (p : Fin 256) (l : Fin 128) :
    colOf C S kt hk (ix2 p l) = colT C S kt l p.val := by
  unfold colOf colW
  apply cat16_apply (T := colT C S kt l)
  · exact fun b => (qp0_quart C S kt 0 hk (by omega) b l).trans (congrArg _ (by omega))
  · exact fun b => (qp1_quart C S kt 0 hk (by omega) b l).trans (congrArg _ (by omega))
  · exact fun b => (qp2_quart C S kt 0 hk (by omega) b l).trans (congrArg _ (by omega))
  · exact fun b => (qp3_quart C S kt 0 hk (by omega) b l).trans (congrArg _ (by omega))
  · exact fun b => (qp0_quart C S kt 1 hk (by omega) b l).trans (congrArg _ (by omega))
  · exact fun b => (qp1_quart C S kt 1 hk (by omega) b l).trans (congrArg _ (by omega))
  · exact fun b => (qp2_quart C S kt 1 hk (by omega) b l).trans (congrArg _ (by omega))
  · exact fun b => (qp3_quart C S kt 1 hk (by omega) b l).trans (congrArg _ (by omega))
  · exact fun b => (qp0_quart C S kt 2 hk (by omega) b l).trans (congrArg _ (by omega))
  · exact fun b => (qp1_quart C S kt 2 hk (by omega) b l).trans (congrArg _ (by omega))
  · exact fun b => (qp2_quart C S kt 2 hk (by omega) b l).trans (congrArg _ (by omega))
  · exact fun b => (qp3_quart C S kt 2 hk (by omega) b l).trans (congrArg _ (by omega))
  · exact fun b => (qp0_quart C S kt 3 hk (by omega) b l).trans (congrArg _ (by omega))
  · exact fun b => (qp1_quart C S kt 3 hk (by omega) b l).trans (congrArg _ (by omega))
  · exact fun b => (qp2_quart C S kt 3 hk (by omega) b l).trans (congrArg _ (by omega))
  · exact fun b => (qp3_quart C S kt 3 hk (by omega) b l).trans (congrArg _ (by omega))

theorem tileV_apply (acc : FVec Ideal S32x256 .f32) (w0 w1 : FVec Ideal S256x128 .bf16) (h : Vec Ideal S32x256 .bf16) (i : Fin 32) (y : Fin 256) :
    tileV acc w0 w1 h (ix2 i y) = acc (ix2 i y) + ∑ x : Fin 256, h (ix2 i x) * (if h : y.val < 128 then w0 (ix2 x ⟨y.val, h⟩) else w1 (ix2 x ⟨y.val - 128, by omega⟩)) := by
  pointwise [tileV]

/-- The lane the stored lane `l` comes from. -/
def pe (n : ℕ) : ℕ := n / 32 * 32 + n % 2 * 16 + n % 32 / 2

theorem outB_apply (x y : FVec Ideal S32x256 .f32) (i : Fin 32) (l : Fin 256) : outB x y (ix2 i l) = x (ix2 i l) + y (ix2 i l) := by
  pointwise [outB]

/-! ## The contraction -/

/-- The weight of column `c` in row `n`, as the kernel reads it. -/
def wT (g : Vec Ideal S6912x5120 .i8) (s : Vec Ideal S432x5120 .bf16) (c n : ℕ) : EReal :=
  nibR (n % 2) (g (ix2 ⟨n / 2 % 6912, Nat.mod_lt _ (by omega)⟩ ⟨c % 5120, Nat.mod_lt _ (by omega)⟩)) * s (ix2 ⟨n / 32 % 432, Nat.mod_lt _ (by omega)⟩ ⟨c % 5120, Nat.mod_lt _ (by omega)⟩)

theorem colT_win (g : Vec Ideal S6912x5120 .i8) (s : Vec Ideal S432x5120 .bf16) (j kt : ℕ) (l : Fin 128) (n : ℕ) :
    colT (cwin g j) (swin s j) kt l n = wT g s (j + l.val) (kt * 256 + n) := by
  unfold colT wT
  show nibR _ (g (ValueIdx.ix2 ⟨(kt * 128 + n / 2) % 6912, _⟩ ⟨(j + l.val) % 5120, _⟩)) * s (ValueIdx.ix2 ⟨(kt * 8 + n / 32) % 432, _⟩ ⟨(j + l.val) % 5120, _⟩) = _
  simp only [← ix2_eq_valueIdx]
  have e1 : n % 2 = (kt * 256 + n) % 2 := by omega
  have e2 : kt * 128 + n / 2 = (kt * 256 + n) / 2 := by omega
  have e3 : kt * 8 + n / 32 = (kt * 256 + n) / 32 := by omega
  simp only [e1, e2, e3]

/-- One product of the contraction. -/
def term (g : Vec Ideal S6912x5120 .i8) (s : Vec Ideal S432x5120 .bf16) (H : Vec Ideal S32x13824 .bf16) (i : Fin 32) (c n : ℕ) : EReal :=
  H (ix2 i ⟨n % 13824, Nat.mod_lt _ (by omega)⟩) * wT g s c n

theorem tileOf_apply (g : Vec Ideal S6912x5120 .i8) (s : Vec Ideal S432x5120 .bf16) (H : Vec Ideal S32x13824 .bf16) (col kt : ℕ) (hk : kt < 54) (acc : FVec Ideal S32x256 .f32) (i : Fin 32) (y : Fin 256) :
    tileOf (cwin g col) (cwin g (col + 128)) (swin s col) (swin s (col + 128)) H kt hk acc (ix2 i y)
      = acc (ix2 i y) + ∑ x ∈ Finset.range 256, term g s H i (col + y.val) (kt * 256 + x) := by
  unfold tileOf
  rw [tileV_apply, ← Fin.sum_univ_eq_sum_range (fun x => term g s H i (col + y.val) (kt * 256 + x)) 256]
  refine congrArg (acc (ix2 i y) + ·) (Finset.sum_congr rfl fun x _ => ?_)
  unfold term
  congr 1
  · show H (ValueIdx.ix2 i ⟨kt * 256 + x.val, _⟩) = _
    rw [← ix2_eq_valueIdx]
    congr 2; apply Fin.ext; show kt * 256 + x.val = (kt * 256 + x.val) % 13824; omega
  · split
    · rw [colOf_apply, colT_win]
    · rw [colOf_apply, colT_win]
      congr 1; simp; omega

theorem dotFrom_apply (g : Vec Ideal S6912x5120 .i8) (s : Vec Ideal S432x5120 .bf16) (H : Vec Ideal S32x13824 .bf16) (col : ℕ) (i : Fin 32) (y : Fin 256) :
    ∀ (n p : ℕ) (h : p + n ≤ 27) (acc : FVec Ideal S32x256 .f32),
    dotFrom (cwin g col) (cwin g (col + 128)) (swin s col) (swin s (col + 128)) H n p h acc (ix2 i y)
      = acc (ix2 i y) + ∑ x ∈ Finset.range (n * 512), term g s H i (col + y.val) (p * 512 + x)
  | 0, p, h, acc => by simp [dotFrom]
  | n + 1, p, h, acc => by
    unfold dotFrom
    rw [dotFrom_apply g s H col i y n (p + 1) (by omega), tileOf_apply, tileOf_apply]
    rw [show (n + 1) * 512 = 256 + (256 + n * 512) by omega, Finset.sum_range_add, Finset.sum_range_add]
    rw [add_assoc, add_assoc]
    refine congrArg (acc (ix2 i y) + ·) ?_
    refine congr (congrArg HAdd.hAdd ?_) (congr (congrArg HAdd.hAdd ?_) ?_)
    · exact Finset.sum_congr rfl fun x _ => congrArg _ (by omega)
    · exact Finset.sum_congr rfl fun x _ => congrArg _ (by omega)
    · exact Finset.sum_congr rfl fun x _ => congrArg _ (by omega)

theorem dotOf_apply (g : Vec Ideal S6912x5120 .i8) (s : Vec Ideal S432x5120 .bf16) (H : Vec Ideal S32x13824 .bf16) (col : ℕ) (i : Fin 32) (y : Fin 256) :
    dotOf (cwin g col) (cwin g (col + 128)) (swin s col) (swin s (col + 128)) H (ix2 i y)
      = ∑ x ∈ Finset.range 13824, term g s H i (col + y.val) x := by
  unfold dotOf
  rw [dotFrom_apply]
  have e0 : (broadcast S32x256 (Scalar.ofBits .f32 0x00000000#32) : FVec Ideal S32x256 .f32) (ix2 i y) = 0 := by pointwise
  rw [e0, zero_add]
  exact Finset.sum_congr rfl fun x _ => congrArg _ (by omega)

/-- The stored lane that element `e` goes to. -/
def pi (e : ℕ) : ℕ := e / 32 * 32 + e % 16 * 2 + e % 32 / 16

theorem pe_add (b r : ℕ) : pe (32 * b + r) = 32 * b + pe r := by unfold pe; omega
theorem pi_add (b r : ℕ) : pi (32 * b + r) = 32 * b + pi r := by unfold pi; omega
theorem pe_pi (n : ℕ) : pe (pi n) = n := by
  have h : ∀ r : Fin 32, pe (pi r.val) = r.val := by decide
  obtain ⟨b, r, hr, e⟩ : ∃ b r, r < 32 ∧ n = 32 * b + r := ⟨n / 32, n % 32, by omega, by omega⟩
  rw [e, pi_add, pe_add, h ⟨r, hr⟩]
theorem pi_pe (n : ℕ) : pi (pe n) = n := by
  have h : ∀ r : Fin 32, pi (pe r.val) = r.val := by decide
  obtain ⟨b, r, hr, e⟩ : ∃ b r, r < 32 ∧ n = 32 * b + r := ⟨n / 32, n % 32, by omega, by omega⟩
  rw [e, pe_add, pi_add, h ⟨r, hr⟩]
theorem pi_lt {n : ℕ} {m : ℕ} (h : n < 32 * m) : pi n < 32 * m := by unfold pi; omega

/-- The contraction in the order of the elements. -/
theorem sum_perm (f : ℕ → EReal) : ∑ n ∈ Finset.range 13824, f n = ∑ e : Fin 13824, f (pi e.val) := by
  rw [Fin.sum_univ_eq_sum_range (fun e => f (pi e)) 13824]
  refine Finset.sum_nbij' pe pi ?_ ?_ ?_ ?_ ?_
  · intro n hn; rw [Finset.mem_range] at *; unfold pe; omega
  · intro n hn; rw [Finset.mem_range] at *; unfold pi; omega
  · intro n _; exact pi_pe n
  · intro n _; exact pe_pi n
  · intro n _; rw [pi_pe]

/-! ## The output -/

/-- The weight of column `c` at element `e`. -/
def wR (g : Vec Ideal S6912x5120 .i8) (s : Vec Ideal S432x5120 .bf16) (c e : ℕ) : EReal :=
  nibR (e % 32 / 16) (g (ix2 ⟨(e / 32 * 16 + e % 16) % 6912, Nat.mod_lt _ (by omega)⟩ ⟨c % 5120, Nat.mod_lt _ (by omega)⟩)) * s (ix2 ⟨e / 32 % 432, Nat.mod_lt _ (by omega)⟩ ⟨c % 5120, Nat.mod_lt _ (by omega)⟩)

theorem wT_pi (g : Vec Ideal S6912x5120 .i8) (s : Vec Ideal S432x5120 .bf16) (c e : ℕ) : wT g s c (pi e) = wR g s c e := by
  unfold wT wR
  have e1 : pi e % 2 = e % 32 / 16 := by unfold pi; omega
  have e2 : pi e / 2 = e / 32 * 16 + e % 16 := by unfold pi; omega
  have e3 : pi e / 32 = e / 32 := by unfold pi; omega
  simp only [e1, e2, e3]

/-- A contraction of the activations with a weight. -/
def dotD (A : Vec Ideal S32x13824 .bf16) (g : Vec Ideal S6912x5120 .i8) (s : Vec Ideal S432x5120 .bf16) (i : Fin 32) (c : ℕ) : EReal :=
  ∑ e : Fin 13824, A (ix2 i e) * wR g s c e.val

theorem prodV_apply (A H : Vec Ideal S32x13824 .bf16) (hH : ∀ (i : Fin 32) (n : Fin 13824), H (ix2 i n) = A (ix2 i ⟨pe n.val, by unfold pe; omega⟩))
    (g : Vec Ideal S6912x5120 .i8) (s : Vec Ideal S432x5120 .bf16) (col : ℕ) (i : Fin 32) (y : Fin 256) :
    prodV g s H col (ix2 i y) = dotD A g s i (col + y.val) := by
  unfold prodV
  rw [dotOf_apply, sum_perm]
  unfold dotD
  refine Finset.sum_congr rfl fun e _ => ?_
  unfold term
  rw [wT_pi, hH]
  have h : pe (pi e.val % 13824) = e.val := by
    rw [Nat.mod_eq_of_lt (by have := pi_lt (n := e.val) (m := 432) (by omega); omega), pe_pi]
  simp only [h]

/-- THE OUTPUT: the residual and the contraction, where the kernel's left operand holds the activations lane by lane. -/
theorem outA_apply (X : Vec Ideal S32x5120 .f32) (A H : Vec Ideal S32x13824 .bf16) (hH : ∀ (i : Fin 32) (n : Fin 13824), H (ix2 i n) = A (ix2 i ⟨pe n.val, by unfold pe; omega⟩))
    (g : Vec Ideal S6912x5120 .i8) (s : Vec Ideal S432x5120 .bf16) (i : Fin 32) (n : Fin 5120) :
    outA X g s H (ix2 i n) = X (ix2 i n) + dotD A g s i n.val := by
  unfold outA
  have e : n.val / 256 * 256 + n.val % 256 = n.val := by omega
  show outB (xblk X (n.val / 256 * 256)) (prodV g s H (n.val / 256 * 256)) (ValueIdx.ix2 i ⟨n.val % 256, _⟩) = _
  rw [← ix2_eq_valueIdx, outB_apply, prodV_apply A H hH]
  congr 1
  · show X (ValueIdx.ix2 i ⟨(n.val / 256 * 256 + n.val % 256) % 5120, _⟩) = _
    rw [← ix2_eq_valueIdx]
    congr 2; apply Fin.ext
    show (n.val / 256 * 256 + n.val % 256) % 5120 = n.val
    omega
  · simp only [e]

end Cert.DownIdeal
-- ==== Proof.DownIdeal.Ref.lean ====
/-
  What the reference's vectors hold, element by element, over the extended reals.
-/
module

public import proofs.«01_k».proof.Proof.DownIdeal.Value
public import proofs.«01_k».proof.Proof.Gen.DownReferenceIdeal.Value

@[expose] public section

set_option maxRecDepth 16384

noncomputable section

namespace Cert.DownRefVal

open Idealize.ShloMosaic
open Cert.DownReferenceIdeal Cert.DownReferenceIdeal.Gen
open Cert.DownIdeal (nibR)

theorem eight_bf16 : Ideal.ofBits FTy.bf16 0x4100#16 = ((8 : ℝ) : EReal) := by
  simp [Ideal.ofBits, Ideal.ieee, -EReal.coe_mul]; norm_num

theorem lo_nat (c : BitVec 8) : (IntOp.andi (c.setWidth 32) 15#32).toInt = ((c.toNat % 16 : ℕ) : ℤ) := by
  revert c; decide +kernel
theorem hi_nat (c : BitVec 8) : (IntOp.shrsi ArithUnit.vector (c.setWidth 32) 4#32).toInt = ((c.toNat / 16 : ℕ) : ℤ) := by
  revert c; decide +kernel

theorem sub_eight (x : BitVec 32) (k : ℕ) (h : x.toInt = (k : ℤ)) :
    (FloatOps.sitofp FTy.f32 x : Ideal FTy.f32) - Ideal.ofBits FTy.bf16 0x4100#16 = ((((k : ℤ) - 8 : ℤ) : ℝ) : EReal) := by
  rw [eight_bf16]
  show ((x.toInt : ℝ) : EReal) - ((8 : ℝ) : EReal) = _
  rw [h, ← EReal.coe_sub]
  push_cast
  rfl

/-- The weight of column `n` at element `e`. -/
def wRef (a2 : Vec Ideal S5120x432x16 .i8) (a3 : Vec Ideal S5120x432 .bf16) (n : Fin 5120) (e : Fin 13824) : EReal :=
  nibR (e.val % 32 / 16) (a2 (ix3 n ⟨e.val / 32, by omega⟩ ⟨e.val % 16, by omega⟩)) * a3 (ix2 n ⟨e.val / 32, by omega⟩)

theorem wRef_lo (a2 : Vec Ideal S5120x432x16 .i8) (a3 : Vec Ideal S5120x432 .bf16) (n : Fin 5120) (e : Fin 13824) (h : e.val % 32 < 16)
    (h1 : e.val / 32 < 432) :
    (FloatOps.sitofp FTy.f32 (IntOp.andi (BitVec.setWidth 32 (a2 (ix3 n ⟨e.val / 32, h1⟩ ⟨e.val % 32, h⟩))) 15#32) - Ideal.ofBits FTy.bf16 0x4100#16 : Ideal FTy.f32)
      * a3 (ix2 n ⟨e.val / 32, h1⟩) = wRef a2 a3 n e := by
  unfold wRef nibR
  have e1 : e.val % 32 / 16 = 0 := by omega
  have e2 : e.val % 16 = e.val % 32 := by omega
  rw [sub_eight _ _ (lo_nat _)]
  simp only [e1, e2, if_true]
theorem wRef_hi (a2 : Vec Ideal S5120x432x16 .i8) (a3 : Vec Ideal S5120x432 .bf16) (n : Fin 5120) (e : Fin 13824) (h : ¬ e.val % 32 < 16)
    (h1 : e.val / 32 < 432) (h2 : e.val % 32 - 16 < 16) :
    (FloatOps.sitofp FTy.f32 (IntOp.shrsi ArithUnit.vector (BitVec.setWidth 32 (a2 (ix3 n ⟨e.val / 32, h1⟩ ⟨e.val % 32 - 16, h2⟩))) 4#32) - Ideal.ofBits FTy.bf16 0x4100#16 : Ideal FTy.f32)
      * a3 (ix2 n ⟨e.val / 32, h1⟩) = wRef a2 a3 n e := by
  unfold wRef nibR
  have e1 : ¬ e.val % 32 / 16 = 0 := by omega
  have e2 : e.val % 16 = e.val % 32 - 16 := by omega
  rw [sub_eight _ _ (hi_nat _)]
  simp only [e1, e2, if_false]

/-- A contraction of the activations with a weight. -/
def dotRef (h : FVec Ideal S32x13824 .bf16) (a2 : Vec Ideal S5120x432x16 .i8) (a3 : Vec Ideal S5120x432 .bf16) (i : Fin 32) (n : Fin 5120) : EReal :=
  ∑ e : Fin 13824, h (ix2 i e) * wRef a2 a3 n e

theorem pay1_apply (x : Vec Ideal S32x5120 .f32) (a : Vec Ideal S32x13824 .bf16) (a2 : Vec Ideal S5120x432x16 .i8) (a3 : Vec Ideal S5120x432 .bf16) (i : Fin 32) (n : Fin 5120) :
    k0_pay1 x a a2 a3 (ix2 i n) = x (ix2 i n) + dotRef a a2 a3 i n := by
  pointwise [k0_pay1]
  unfold dotRef
  refine congrArg (x (ix2 i n) + ·) ?_
  refine Finset.sum_congr rfl fun e _ => ?_
  refine congrArg (a (ix2 i e) * ·) ?_
  split
  · exact wRef_lo a2 a3 n e _ _
  · next h => exact wRef_hi a2 a3 n e h _ _

/-! ## The two weights, and the two results -/

open Cert.DownIdeal (wR dotD outA pe outA_apply)

section
variable (X : Vec Ideal S32x5120 .f32) (A : Vec Ideal S32x13824 .bf16) (W : Vec Ideal S5120x432x16 .i8) (S : Vec Ideal S5120x432 .bf16)

/-- The codes and scales as the kernel's arrays hold them. -/
def hostC : Vec Ideal Cert.DownIdeal.S6912x5120 .i8 :=
  shapeCast Cert.DownIdeal.S6912x5120 (transpose Cert.DownIdeal.S432x16x5120 [1, 2, 0] (W : Vec Ideal Cert.DownIdeal.S5120x432x16 .i8) Cert.DownIdeal.Gen.transposes_S5120x432x16_S432x16x5120_1_2_0) Cert.DownIdeal.Gen.shapeCasts_S432x16x5120_S6912x5120
def hostS : Vec Ideal Cert.DownIdeal.S432x5120 .bf16 :=
  transpose Cert.DownIdeal.S432x5120 [1, 0] (S : Vec Ideal Cert.DownIdeal.S5120x432 .bf16) Cert.DownIdeal.Gen.transposes_S5120x432_S432x5120_1_0
/-- The activations in the order of the kernel's lanes. -/
def hostA : Vec Ideal Cert.DownIdeal.S32x13824 .bf16 :=
  shapeCast Cert.DownIdeal.S32x13824 (transpose Cert.DownIdeal.S32x432x16x2 [0, 1, 3, 2] (shapeCast Cert.DownIdeal.S32x432x2x16 (A : Vec Ideal Cert.DownIdeal.S32x13824 .bf16)
    Cert.DownIdeal.Gen.shapeCasts_S32x13824_S32x432x2x16) Cert.DownIdeal.Gen.transposes_S32x432x2x16_S32x432x16x2_0_1_3_2) Cert.DownIdeal.Gen.shapeCasts_S32x432x16x2_S32x13824

theorem hostC_apply (r : Fin 6912) (n : Fin 5120) : hostC W (ix2 r n) = W (ix3 n ⟨r.val / 16, by omega⟩ ⟨r.val % 16, by omega⟩) := by
  pointwise [hostC]
theorem hostS_apply (g : Fin 432) (n : Fin 5120) : hostS S (ix2 g n) = S (ix2 n g) := by
  pointwise [hostS]
theorem hostA_apply (i : Fin 32) (n : Fin 13824) : hostA A (ix2 i n) = A (ix2 i ⟨pe n.val, by unfold pe; omega⟩) := by
  pointwise [hostA]
  congr 2
  apply Fin.ext
  unfold pe
  simp
  omega

theorem wR_host (n : Fin 5120) (e : Fin 13824) : wR (hostC W) (hostS S) n.val e.val = wRef W S n e := by
  unfold wR wRef
  rw [hostC_apply, hostS_apply]
  have h1 : (e.val / 32 * 16 + e.val % 16) % 6912 / 16 = e.val / 32 := by omega
  have h2 : (e.val / 32 * 16 + e.val % 16) % 6912 % 16 = e.val % 16 := by omega
  have h3 : n.val % 5120 = n.val := by omega
  have h4 : e.val / 32 % 432 = e.val / 32 := by omega
  simp only [h1, h2, h3, h4]

theorem dotD_host (i : Fin 32) (n : Fin 5120) : dotD A (hostC W) (hostS S) i n.val = dotRef A W S i n := by
  unfold dotD dotRef
  exact Finset.sum_congr rfl fun e _ => by rw [wR_host]

/-- THE RESULTS AGREE. -/
theorem result_eq : outA X (hostC W) (hostS S) (hostA A) = Cert.DownReferenceIdeal.Value.G4 X A W S := by
  funext j
  obtain ⟨i, n, rfl⟩ : ∃ (i : Fin 32) (n : Fin 5120), j = ix2 i n := ⟨_, _, eq_ix2 j⟩
  rw [outA_apply X A (hostA A) (hostA_apply A)]
  show _ = k0_pay1 X A W S (ix2 i n)
  rw [pay1_apply, dotD_host]

end

end Cert.DownRefVal
-- ==== Proof.DownIdeal.Final.lean ====
/-
  The kernel's result array and the reference's hold the same extended reals.
-/
module

public import proofs.«01_k».proof.Defs
public import proofs.«01_k».proof.Proof.DownIdeal.Result
public import proofs.«01_k».proof.Proof.DownIdeal.Ref

@[expose] public section

set_option maxRecDepth 16384

noncomputable section

namespace Cert.DownIdeal.Top

open Idealize.ShloMosaic Idealize.ShloMosaic.TcCoe
open Idealize.SL Idealize.SL.Sem
open Cert.DownIdeal.Gen (V iblk t0_0 V_main_arg0 V_main_arg1 V_main_arg2 V_main_arg3)

variable (m : (ℓ : Loc nD τ sig) → Buf (Elt Ideal) ℓ) (ρ : Dev nD → PrngReg)

/-- The output block, over the arguments. -/
theorem outV_eq (c : Dev nD) : outV m c t0_0
    = outA (m ((c : Thread nD τ).loc main_arg0)) (Cert.DownRefVal.hostC (m ((c : Thread nD τ).loc main_arg2))) (Cert.DownRefVal.hostS (m ((c : Thread nD τ).loc main_arg3)))
        (Cert.DownRefVal.hostA (m ((c : Thread nD τ).loc main_arg1))) := by
  show outA (iblk m c 0 t0_0) (V m c main_v4) (V m c main_v5) (iblk m c 1 t0_0) = _
  rw [act_value, V_v2, V_v4, V_v5, in_value]
  rfl

/-- The kernel's result, over the arguments, is the reference's. -/
theorem value (c : Dev nD) : (dats m 0 c).arrAt (2 : Fin 3) cfg0.N
    = Cert.DownReferenceIdeal.Value.G4 (m ((c : Thread nD τ).loc main_arg0)) (m ((c : Thread nD τ).loc main_arg1)) (m ((c : Thread nD τ).loc main_arg2)) (m ((c : Thread nD τ).loc main_arg3)) := by
  rw [final_value, outV_eq]
  exact Cert.DownRefVal.result_eq _ _ _ _

/-- The kernel's run: its result, and its arguments unchanged. -/
theorem run_value : θ_run defs (onTc (τ := τ) (main (F := Ideal))) ⟨m, fun _ => 0, ρ⟩ (fun r => ∀ c : Dev nD,
      r.2.mem ((c.tc : Thread nD τ).loc main_v6)
        = Cert.DownReferenceIdeal.Value.G4 (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 2).trans (value m c),
      ((h.1 c).1 0).trans (((dats m 0 c).arrAt_in 0 rfl _).trans ((A_eq m c 0).trans (V_main_arg0 m c))),
      (((h.1 c).2 main_arg1 (Pipeline.mem_restRefs_of main_arg1 (by decide) (by decide))).trans (V_main_arg1 m c)),
      (((h.1 c).2 main_arg2 (Pipeline.mem_restRefs_of main_arg2 (by decide) (by decide))).trans (V_main_arg2 m c)),
      (((h.1 c).2 main_arg3 (Pipeline.mem_restRefs_of main_arg3 (by decide) (by decide))).trans (V_main_arg3 m c))⟩) (run_main m ρ)

/-- Both programs run, and end with equal results. -/
theorem algebraic : @Cert.algebraic_DownIdeal_DownReferenceIdeal Cert.DownIdeal.Gen.facts Cert.DownReferenceIdeal.Gen.facts := by
  intro m g m' g' _ hagree
  refine ⟨_, run_value m g, ?_⟩
  refine (θ_run _ _ _).mono (fun r h c => ?_) (Cert.DownReferenceIdeal.Value.run m' g')
  obtain ⟨h0, h1, h2, h3⟩ := hagree c
  refine ⟨(h c).1.trans ?_, (h c).2⟩
  rw [h0, h1, h2, h3]

end Cert.DownIdeal.Top
-- ==== Proof.lean ====
/-
  The proof of `Cert.Claim`: the frames of the first slice's kernel at both readings and of the second
  slice's at the ideal one, the references' frames, and for each slice the equality of the kernel's and the
  reference's result over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.DownIdeal
public import proofs.«01_k».proof.Proof.Gen.DownReferenceIdeal
public import proofs.«01_k».proof.Proof.Gen.DownReferenceIdeal.Frame
public import proofs.«01_k».proof.Proof.Gen.DownReferenceIdeal.Value
public import proofs.«01_k».proof.Proof.Kernel.Same
public import proofs.«01_k».proof.Proof.KernelIdeal.Top
public import proofs.«01_k».proof.Proof.KernelIdeal.Final
public import proofs.«01_k».proof.Proof.DownIdeal.Top
public import proofs.«01_k».proof.Proof.DownIdeal.Final

@[expose] public section

noncomputable section

namespace Cert.Proof

theorem claim : Cert.Claim :=
  ⟨Cert.Kernel.Gen.facts, Cert.KernelIdeal.Gen.facts, Cert.ReferenceIdeal.Gen.facts,
    Cert.DownIdeal.Gen.facts, Cert.DownReferenceIdeal.Gen.facts,
    Cert.Kernel.Top.frame, fun m ρ _ => Cert.KernelIdeal.Top.frame m ρ,
    fun m ρ _ => Cert.ReferenceIdeal.Gen.frame m ρ,
    fun m ρ _ => Cert.DownIdeal.Top.frame m ρ,
    fun m ρ _ => Cert.DownReferenceIdeal.Gen.frame m ρ,
    trivial, Cert.KernelIdeal.Top.algebraic, Cert.DownIdeal.Top.algebraic⟩

end Cert.Proof

end
